-- ==== Defs.lean ====
def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_OutPe (m : (ℓ : Loc Cert.OutPe.nD Cert.OutPe.τ Cert.OutPe.sig) → Buf (Elt Bits) ℓ) : Prop :=
  True

def Pre_OutPeIdeal (m : (ℓ : Loc Cert.OutPeIdeal.nD Cert.OutPeIdeal.τ Cert.OutPeIdeal.sig) → Buf (Elt Ideal) ℓ) : Prop :=
  True

def Pre_OutPeRefIdeal (m : (ℓ : Loc Cert.OutPeRefIdeal.nD Cert.OutPeRefIdeal.τ Cert.OutPeRefIdeal.sig) → Buf (Elt Ideal) ℓ) : Prop :=
  True

def Pre_NormProjB (m : (ℓ : Loc Cert.NormProjB.nD Cert.NormProjB.τ Cert.NormProjB.sig) → Buf (Elt Bits) ℓ) : Prop :=
  True

def Pre_NormProjBIdeal (m : (ℓ : Loc Cert.NormProjBIdeal.nD Cert.NormProjBIdeal.τ Cert.NormProjBIdeal.sig) → Buf (Elt Ideal) ℓ) : Prop :=
  True

def Pre_NormProjBRefIdeal (m : (ℓ : Loc Cert.NormProjBRefIdeal.nD Cert.NormProjBRefIdeal.τ Cert.NormProjBRefIdeal.sig) → Buf (Elt Ideal) ℓ) : Prop :=
  True

def Pre_OutPeB (m : (ℓ : Loc Cert.OutPeB.nD Cert.OutPeB.τ Cert.OutPeB.sig) → Buf (Elt Bits) ℓ) : Prop :=
  True

def Pre_OutPeBIdeal (m : (ℓ : Loc Cert.OutPeBIdeal.nD Cert.OutPeBIdeal.τ Cert.OutPeBIdeal.sig) → Buf (Elt Ideal) ℓ) : Prop :=
  True

def Pre_OutPeBRefIdeal (m : (ℓ : Loc Cert.OutPeBRefIdeal.nD Cert.OutPeBRefIdeal.τ Cert.OutPeBRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_AbMixer (m : (ℓ : Loc Cert.AbMixer.nD Cert.AbMixer.τ Cert.AbMixer.sig) → Buf (Elt Bits) ℓ) : Prop :=
  True

def Pre_AbMixerIdeal (m : (ℓ : Loc Cert.AbMixerIdeal.nD Cert.AbMixerIdeal.τ Cert.AbMixerIdeal.sig) → Buf (Elt Ideal) ℓ) : Prop :=
  True

def Pre_AbMixerIdeal_input_gates_below_inf [hPre_input_gates_below_inf : Cert.Pre_input_gates_below_inf.Facts] (m : (ℓ : Loc Cert.AbMixerIdeal.nD Cert.AbMixerIdeal.τ Cert.AbMixerIdeal.sig) → Buf (Elt Ideal) ℓ) : Prop :=
  ∀ c : Dev Cert.AbMixerIdeal.nD,
    (Cert.Pre_input_gates_below_inf.fn (F := Ideal) (m ((c.tc : Thread Cert.AbMixerIdeal.nD Cert.AbMixerIdeal.τ).loc Cert.AbMixerIdeal.main_arg0)) (m ((c.tc : Thread Cert.AbMixerIdeal.nD Cert.AbMixerIdeal.τ).loc Cert.AbMixerIdeal.main_arg1)) (m ((c.tc : Thread Cert.AbMixerIdeal.nD Cert.AbMixerIdeal.τ).loc Cert.AbMixerIdeal.main_arg2)) (m ((c.tc : Thread Cert.AbMixerIdeal.nD Cert.AbMixerIdeal.τ).loc Cert.AbMixerIdeal.main_arg3)) (m ((c.tc : Thread Cert.AbMixerIdeal.nD Cert.AbMixerIdeal.τ).loc Cert.AbMixerIdeal.main_arg4)) (m ((c.tc : Thread Cert.AbMixerIdeal.nD Cert.AbMixerIdeal.τ).loc Cert.AbMixerIdeal.main_arg5)) (m ((c.tc : Thread Cert.AbMixerIdeal.nD Cert.AbMixerIdeal.τ).loc Cert.AbMixerIdeal.main_arg6))) = (fun _ => 1#1)

def Pre_AbMixerRefIdeal (m : (ℓ : Loc Cert.AbMixerRefIdeal.nD Cert.AbMixerRefIdeal.τ Cert.AbMixerRefIdeal.sig) → Buf (Elt Ideal) ℓ) : Prop :=
  True

def Pre_AbMixerRefIdeal_input_gates_below_inf [hPre_input_gates_below_inf : Cert.Pre_input_gates_below_inf.Facts] (m : (ℓ : Loc Cert.AbMixerRefIdeal.nD Cert.AbMixerRefIdeal.τ Cert.AbMixerRefIdeal.sig) → Buf (Elt Ideal) ℓ) : Prop :=
  ∀ c : Dev Cert.AbMixerRefIdeal.nD,
    (Cert.Pre_input_gates_below_inf.fn (F := Ideal) (m ((c.tc : Thread Cert.AbMixerRefIdeal.nD Cert.AbMixerRefIdeal.τ).loc Cert.AbMixerRefIdeal.main_arg0)) (m ((c.tc : Thread Cert.AbMixerRefIdeal.nD Cert.AbMixerRefIdeal.τ).loc Cert.AbMixerRefIdeal.main_arg1)) (m ((c.tc : Thread Cert.AbMixerRefIdeal.nD Cert.AbMixerRefIdeal.τ).loc Cert.AbMixerRefIdeal.main_arg2)) (m ((c.tc : Thread Cert.AbMixerRefIdeal.nD Cert.AbMixerRefIdeal.τ).loc Cert.AbMixerRefIdeal.main_arg3)) (m ((c.tc : Thread Cert.AbMixerRefIdeal.nD Cert.AbMixerRefIdeal.τ).loc Cert.AbMixerRefIdeal.main_arg4)) (m ((c.tc : Thread Cert.AbMixerRefIdeal.nD Cert.AbMixerRefIdeal.τ).loc Cert.AbMixerRefIdeal.main_arg5)) (m ((c.tc : Thread Cert.AbMixerRefIdeal.nD Cert.AbMixerRefIdeal.τ).loc Cert.AbMixerRefIdeal.main_arg6))) = (fun _ => 1#1)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3))
      ∧ r.2.sem = fun _ => 0)

def quiescent_OutPe [hOutPe : Cert.OutPe.Facts] : Prop :=
  ∀ (m : (ℓ : Loc Cert.OutPe.nD Cert.OutPe.τ Cert.OutPe.sig) → Buf (Elt Bits) ℓ) (g : Dev Cert.OutPe.nD → PrngReg), Pre_OutPe m →
    θ_run (Cert.OutPe.defs (F := Bits)) (onTc (τ := Cert.OutPe.τ) (Cert.OutPe.main (F := Bits))) ⟨m, fun _ => 0, g⟩ (fun r => (∀ c : Dev Cert.OutPe.nD,
      r.2.mem ((c.tc : Thread Cert.OutPe.nD Cert.OutPe.τ).loc Cert.OutPe.main_arg0) = m ((c.tc : Thread Cert.OutPe.nD Cert.OutPe.τ).loc Cert.OutPe.main_arg0)
      ∧ r.2.mem ((c.tc : Thread Cert.OutPe.nD Cert.OutPe.τ).loc Cert.OutPe.main_arg1) = m ((c.tc : Thread Cert.OutPe.nD Cert.OutPe.τ).loc Cert.OutPe.main_arg1)
      ∧ r.2.mem ((c.tc : Thread Cert.OutPe.nD Cert.OutPe.τ).loc Cert.OutPe.main_arg2) = m ((c.tc : Thread Cert.OutPe.nD Cert.OutPe.τ).loc Cert.OutPe.main_arg2)
      ∧ r.2.mem ((c.tc : Thread Cert.OutPe.nD Cert.OutPe.τ).loc Cert.OutPe.main_arg3) = m ((c.tc : Thread Cert.OutPe.nD Cert.OutPe.τ).loc Cert.OutPe.main_arg3)
      ∧ r.2.mem ((c.tc : Thread Cert.OutPe.nD Cert.OutPe.τ).loc Cert.OutPe.main_arg4) = m ((c.tc : Thread Cert.OutPe.nD Cert.OutPe.τ).loc Cert.OutPe.main_arg4)
      ∧ r.2.mem ((c.tc : Thread Cert.OutPe.nD Cert.OutPe.τ).loc Cert.OutPe.main_arg5) = m ((c.tc : Thread Cert.OutPe.nD Cert.OutPe.τ).loc Cert.OutPe.main_arg5)
      ∧ r.2.mem ((c.tc : Thread Cert.OutPe.nD Cert.OutPe.τ).loc Cert.OutPe.main_arg6) = m ((c.tc : Thread Cert.OutPe.nD Cert.OutPe.τ).loc Cert.OutPe.main_arg6)
      ∧ r.2.mem ((c.tc : Thread Cert.OutPe.nD Cert.OutPe.τ).loc Cert.OutPe.main_arg7) = m ((c.tc : Thread Cert.OutPe.nD Cert.OutPe.τ).loc Cert.OutPe.main_arg7))
      ∧ r.2.sem = fun _ => 0)

def quiescent_OutPeIdeal [hOutPeIdeal : Cert.OutPeIdeal.Facts] : Prop :=
  ∀ (m : (ℓ : Loc Cert.OutPeIdeal.nD Cert.OutPeIdeal.τ Cert.OutPeIdeal.sig) → Buf (Elt Ideal) ℓ) (g : Dev Cert.OutPeIdeal.nD → PrngReg), Pre_OutPeIdeal m →
    θ_run (Cert.OutPeIdeal.defs (F := Ideal)) (onTc (τ := Cert.OutPeIdeal.τ) (Cert.OutPeIdeal.main (F := Ideal))) ⟨m, fun _ => 0, g⟩ (fun r => (∀ c : Dev Cert.OutPeIdeal.nD,
      r.2.mem ((c.tc : Thread Cert.OutPeIdeal.nD Cert.OutPeIdeal.τ).loc Cert.OutPeIdeal.main_arg0) = m ((c.tc : Thread Cert.OutPeIdeal.nD Cert.OutPeIdeal.τ).loc Cert.OutPeIdeal.main_arg0)
      ∧ r.2.mem ((c.tc : Thread Cert.OutPeIdeal.nD Cert.OutPeIdeal.τ).loc Cert.OutPeIdeal.main_arg1) = m ((c.tc : Thread Cert.OutPeIdeal.nD Cert.OutPeIdeal.τ).loc Cert.OutPeIdeal.main_arg1)
      ∧ r.2.mem ((c.tc : Thread Cert.OutPeIdeal.nD Cert.OutPeIdeal.τ).loc Cert.OutPeIdeal.main_arg2) = m ((c.tc : Thread Cert.OutPeIdeal.nD Cert.OutPeIdeal.τ).loc Cert.OutPeIdeal.main_arg2)
      ∧ r.2.mem ((c.tc : Thread Cert.OutPeIdeal.nD Cert.OutPeIdeal.τ).loc Cert.OutPeIdeal.main_arg3) = m ((c.tc : Thread Cert.OutPeIdeal.nD Cert.OutPeIdeal.τ).loc Cert.OutPeIdeal.main_arg3)
      ∧ r.2.mem ((c.tc : Thread Cert.OutPeIdeal.nD Cert.OutPeIdeal.τ).loc Cert.OutPeIdeal.main_arg4) = m ((c.tc : Thread Cert.OutPeIdeal.nD Cert.OutPeIdeal.τ).loc Cert.OutPeIdeal.main_arg4)
      ∧ r.2.mem ((c.tc : Thread Cert.OutPeIdeal.nD Cert.OutPeIdeal.τ).loc Cert.OutPeIdeal.main_arg5) = m ((c.tc : Thread Cert.OutPeIdeal.nD Cert.OutPeIdeal.τ).loc Cert.OutPeIdeal.main_arg5)
      ∧ r.2.mem ((c.tc : Thread Cert.OutPeIdeal.nD Cert.OutPeIdeal.τ).loc Cert.OutPeIdeal.main_arg6) = m ((c.tc : Thread Cert.OutPeIdeal.nD Cert.OutPeIdeal.τ).loc Cert.OutPeIdeal.main_arg6)
      ∧ r.2.mem ((c.tc : Thread Cert.OutPeIdeal.nD Cert.OutPeIdeal.τ).loc Cert.OutPeIdeal.main_arg7) = m ((c.tc : Thread Cert.OutPeIdeal.nD Cert.OutPeIdeal.τ).loc Cert.OutPeIdeal.main_arg7))
      ∧ r.2.sem = fun _ => 0)

def quiescent_OutPeRefIdeal [hOutPeRefIdeal : Cert.OutPeRefIdeal.Facts] : Prop :=
  ∀ (m : (ℓ : Loc Cert.OutPeRefIdeal.nD Cert.OutPeRefIdeal.τ Cert.OutPeRefIdeal.sig) → Buf (Elt Ideal) ℓ) (g : Dev Cert.OutPeRefIdeal.nD → PrngReg), Pre_OutPeRefIdeal m →
    θ_run (Cert.OutPeRefIdeal.defs (F := Ideal)) (onTc (τ := Cert.OutPeRefIdeal.τ) (Cert.OutPeRefIdeal.main (F := Ideal))) ⟨m, fun _ => 0, g⟩ (fun r => (∀ c : Dev Cert.OutPeRefIdeal.nD,
      r.2.mem ((c.tc : Thread Cert.OutPeRefIdeal.nD Cert.OutPeRefIdeal.τ).loc Cert.OutPeRefIdeal.main_arg0) = m ((c.tc : Thread Cert.OutPeRefIdeal.nD Cert.OutPeRefIdeal.τ).loc Cert.OutPeRefIdeal.main_arg0)
      ∧ r.2.mem ((c.tc : Thread Cert.OutPeRefIdeal.nD Cert.OutPeRefIdeal.τ).loc Cert.OutPeRefIdeal.main_arg1) = m ((c.tc : Thread Cert.OutPeRefIdeal.nD Cert.OutPeRefIdeal.τ).loc Cert.OutPeRefIdeal.main_arg1)
      ∧ r.2.mem ((c.tc : Thread Cert.OutPeRefIdeal.nD Cert.OutPeRefIdeal.τ).loc Cert.OutPeRefIdeal.main_arg2) = m ((c.tc : Thread Cert.OutPeRefIdeal.nD Cert.OutPeRefIdeal.τ).loc Cert.OutPeRefIdeal.main_arg2)
      ∧ r.2.mem ((c.tc : Thread Cert.OutPeRefIdeal.nD Cert.OutPeRefIdeal.τ).loc Cert.OutPeRefIdeal.main_arg3) = m ((c.tc : Thread Cert.OutPeRefIdeal.nD Cert.OutPeRefIdeal.τ).loc Cert.OutPeRefIdeal.main_arg3)
      ∧ r.2.mem ((c.tc : Thread Cert.OutPeRefIdeal.nD Cert.OutPeRefIdeal.τ).loc Cert.OutPeRefIdeal.main_arg4) = m ((c.tc : Thread Cert.OutPeRefIdeal.nD Cert.OutPeRefIdeal.τ).loc Cert.OutPeRefIdeal.main_arg4)
      ∧ r.2.mem ((c.tc : Thread Cert.OutPeRefIdeal.nD Cert.OutPeRefIdeal.τ).loc Cert.OutPeRefIdeal.main_arg5) = m ((c.tc : Thread Cert.OutPeRefIdeal.nD Cert.OutPeRefIdeal.τ).loc Cert.OutPeRefIdeal.main_arg5)
      ∧ r.2.mem ((c.tc : Thread Cert.OutPeRefIdeal.nD Cert.OutPeRefIdeal.τ).loc Cert.OutPeRefIdeal.main_arg6) = m ((c.tc : Thread Cert.OutPeRefIdeal.nD Cert.OutPeRefIdeal.τ).loc Cert.OutPeRefIdeal.main_arg6)
      ∧ r.2.mem ((c.tc : Thread Cert.OutPeRefIdeal.nD Cert.OutPeRefIdeal.τ).loc Cert.OutPeRefIdeal.main_arg7) = m ((c.tc : Thread Cert.OutPeRefIdeal.nD Cert.OutPeRefIdeal.τ).loc Cert.OutPeRefIdeal.main_arg7))
      ∧ r.2.sem = fun _ => 0)

def quiescent_NormProjB [hNormProjB : Cert.NormProjB.Facts] : Prop :=
  ∀ (m : (ℓ : Loc Cert.NormProjB.nD Cert.NormProjB.τ Cert.NormProjB.sig) → Buf (Elt Bits) ℓ) (g : Dev Cert.NormProjB.nD → PrngReg), Pre_NormProjB m →
    θ_run (Cert.NormProjB.defs (F := Bits)) (onTc (τ := Cert.NormProjB.τ) (Cert.NormProjB.main (F := Bits))) ⟨m, fun _ => 0, g⟩ (fun r => (∀ c : Dev Cert.NormProjB.nD,
      r.2.mem ((c.tc : Thread Cert.NormProjB.nD Cert.NormProjB.τ).loc Cert.NormProjB.main_arg0) = m ((c.tc : Thread Cert.NormProjB.nD Cert.NormProjB.τ).loc Cert.NormProjB.main_arg0)
      ∧ r.2.mem ((c.tc : Thread Cert.NormProjB.nD Cert.NormProjB.τ).loc Cert.NormProjB.main_arg1) = m ((c.tc : Thread Cert.NormProjB.nD Cert.NormProjB.τ).loc Cert.NormProjB.main_arg1)
      ∧ r.2.mem ((c.tc : Thread Cert.NormProjB.nD Cert.NormProjB.τ).loc Cert.NormProjB.main_arg2) = m ((c.tc : Thread Cert.NormProjB.nD Cert.NormProjB.τ).loc Cert.NormProjB.main_arg2)
      ∧ r.2.mem ((c.tc : Thread Cert.NormProjB.nD Cert.NormProjB.τ).loc Cert.NormProjB.main_arg3) = m ((c.tc : Thread Cert.NormProjB.nD Cert.NormProjB.τ).loc Cert.NormProjB.main_arg3))
      ∧ r.2.sem = fun _ => 0)

def quiescent_NormProjBIdeal [hNormProjBIdeal : Cert.NormProjBIdeal.Facts] : Prop :=
  ∀ (m : (ℓ : Loc Cert.NormProjBIdeal.nD Cert.NormProjBIdeal.τ Cert.NormProjBIdeal.sig) → Buf (Elt Ideal) ℓ) (g : Dev Cert.NormProjBIdeal.nD → PrngReg), Pre_NormProjBIdeal m →
    θ_run (Cert.NormProjBIdeal.defs (F := Ideal)) (onTc (τ := Cert.NormProjBIdeal.τ) (Cert.NormProjBIdeal.main (F := Ideal))) ⟨m, fun _ => 0, g⟩ (fun r => (∀ c : Dev Cert.NormProjBIdeal.nD,
      r.2.mem ((c.tc : Thread Cert.NormProjBIdeal.nD Cert.NormProjBIdeal.τ).loc Cert.NormProjBIdeal.main_arg0) = m ((c.tc : Thread Cert.NormProjBIdeal.nD Cert.NormProjBIdeal.τ).loc Cert.NormProjBIdeal.main_arg0)
      ∧ r.2.mem ((c.tc : Thread Cert.NormProjBIdeal.nD Cert.NormProjBIdeal.τ).loc Cert.NormProjBIdeal.main_arg1) = m ((c.tc : Thread Cert.NormProjBIdeal.nD Cert.NormProjBIdeal.τ).loc Cert.NormProjBIdeal.main_arg1)
      ∧ r.2.mem ((c.tc : Thread Cert.NormProjBIdeal.nD Cert.NormProjBIdeal.τ).loc Cert.NormProjBIdeal.main_arg2) = m ((c.tc : Thread Cert.NormProjBIdeal.nD Cert.NormProjBIdeal.τ).loc Cert.NormProjBIdeal.main_arg2)
      ∧ r.2.mem ((c.tc : Thread Cert.NormProjBIdeal.nD Cert.NormProjBIdeal.τ).loc Cert.NormProjBIdeal.main_arg3) = m ((c.tc : Thread Cert.NormProjBIdeal.nD Cert.NormProjBIdeal.τ).loc Cert.NormProjBIdeal.main_arg3))
      ∧ r.2.sem = fun _ => 0)

def quiescent_NormProjBRefIdeal [hNormProjBRefIdeal : Cert.NormProjBRefIdeal.Facts] : Prop :=
  ∀ (m : (ℓ : Loc Cert.NormProjBRefIdeal.nD Cert.NormProjBRefIdeal.τ Cert.NormProjBRefIdeal.sig) → Buf (Elt Ideal) ℓ) (g : Dev Cert.NormProjBRefIdeal.nD → PrngReg), Pre_NormProjBRefIdeal m →
    θ_run (Cert.NormProjBRefIdeal.defs (F := Ideal)) (onTc (τ := Cert.NormProjBRefIdeal.τ) (Cert.NormProjBRefIdeal.main (F := Ideal))) ⟨m, fun _ => 0, g⟩ (fun r => (∀ c : Dev Cert.NormProjBRefIdeal.nD,
      r.2.mem ((c.tc : Thread Cert.NormProjBRefIdeal.nD Cert.NormProjBRefIdeal.τ).loc Cert.NormProjBRefIdeal.main_arg0) = m ((c.tc : Thread Cert.NormProjBRefIdeal.nD Cert.NormProjBRefIdeal.τ).loc Cert.NormProjBRefIdeal.main_arg0)
      ∧ r.2.mem ((c.tc : Thread Cert.NormProjBRefIdeal.nD Cert.NormProjBRefIdeal.τ).loc Cert.NormProjBRefIdeal.main_arg1) = m ((c.tc : Thread Cert.NormProjBRefIdeal.nD Cert.NormProjBRefIdeal.τ).loc Cert.NormProjBRefIdeal.main_arg1)
      ∧ r.2.mem ((c.tc : Thread Cert.NormProjBRefIdeal.nD Cert.NormProjBRefIdeal.τ).loc Cert.NormProjBRefIdeal.main_arg2) = m ((c.tc : Thread Cert.NormProjBRefIdeal.nD Cert.NormProjBRefIdeal.τ).loc Cert.NormProjBRefIdeal.main_arg2)
      ∧ r.2.mem ((c.tc : Thread Cert.NormProjBRefIdeal.nD Cert.NormProjBRefIdeal.τ).loc Cert.NormProjBRefIdeal.main_arg3) = m ((c.tc : Thread Cert.NormProjBRefIdeal.nD Cert.NormProjBRefIdeal.τ).loc Cert.NormProjBRefIdeal.main_arg3))
      ∧ r.2.sem = fun _ => 0)

def quiescent_OutPeB [hOutPeB : Cert.OutPeB.Facts] : Prop :=
  ∀ (m : (ℓ : Loc Cert.OutPeB.nD Cert.OutPeB.τ Cert.OutPeB.sig) → Buf (Elt Bits) ℓ) (g : Dev Cert.OutPeB.nD → PrngReg), Pre_OutPeB m →
    θ_run (Cert.OutPeB.defs (F := Bits)) (onTc (τ := Cert.OutPeB.τ) (Cert.OutPeB.main (F := Bits))) ⟨m, fun _ => 0, g⟩ (fun r => (∀ c : Dev Cert.OutPeB.nD,
      r.2.mem ((c.tc : Thread Cert.OutPeB.nD Cert.OutPeB.τ).loc Cert.OutPeB.main_arg0) = m ((c.tc : Thread Cert.OutPeB.nD Cert.OutPeB.τ).loc Cert.OutPeB.main_arg0)
      ∧ r.2.mem ((c.tc : Thread Cert.OutPeB.nD Cert.OutPeB.τ).loc Cert.OutPeB.main_arg1) = m ((c.tc : Thread Cert.OutPeB.nD Cert.OutPeB.τ).loc Cert.OutPeB.main_arg1)
      ∧ r.2.mem ((c.tc : Thread Cert.OutPeB.nD Cert.OutPeB.τ).loc Cert.OutPeB.main_arg2) = m ((c.tc : Thread Cert.OutPeB.nD Cert.OutPeB.τ).loc Cert.OutPeB.main_arg2)
      ∧ r.2.mem ((c.tc : Thread Cert.OutPeB.nD Cert.OutPeB.τ).loc Cert.OutPeB.main_arg3) = m ((c.tc : Thread Cert.OutPeB.nD Cert.OutPeB.τ).loc Cert.OutPeB.main_arg3)
      ∧ r.2.mem ((c.tc : Thread Cert.OutPeB.nD Cert.OutPeB.τ).loc Cert.OutPeB.main_arg4) = m ((c.tc : Thread Cert.OutPeB.nD Cert.OutPeB.τ).loc Cert.OutPeB.main_arg4)
      ∧ r.2.mem ((c.tc : Thread Cert.OutPeB.nD Cert.OutPeB.τ).loc Cert.OutPeB.main_arg5) = m ((c.tc : Thread Cert.OutPeB.nD Cert.OutPeB.τ).loc Cert.OutPeB.main_arg5)
      ∧ r.2.mem ((c.tc : Thread Cert.OutPeB.nD Cert.OutPeB.τ).loc Cert.OutPeB.main_arg6) = m ((c.tc : Thread Cert.OutPeB.nD Cert.OutPeB.τ).loc Cert.OutPeB.main_arg6)
      ∧ r.2.mem ((c.tc : Thread Cert.OutPeB.nD Cert.OutPeB.τ).loc Cert.OutPeB.main_arg7) = m ((c.tc : Thread Cert.OutPeB.nD Cert.OutPeB.τ).loc Cert.OutPeB.main_arg7)
      ∧ r.2.mem ((c.tc : Thread Cert.OutPeB.nD Cert.OutPeB.τ).loc Cert.OutPeB.main_arg8) = m ((c.tc : Thread Cert.OutPeB.nD Cert.OutPeB.τ).loc Cert.OutPeB.main_arg8)
      ∧ r.2.mem ((c.tc : Thread Cert.OutPeB.nD Cert.OutPeB.τ).loc Cert.OutPeB.main_arg9) = m ((c.tc : Thread Cert.OutPeB.nD Cert.OutPeB.τ).loc Cert.OutPeB.main_arg9))
      ∧ r.2.sem = fun _ => 0)

def quiescent_OutPeBIdeal [hOutPeBIdeal : Cert.OutPeBIdeal.Facts] : Prop :=
  ∀ (m : (ℓ : Loc Cert.OutPeBIdeal.nD Cert.OutPeBIdeal.τ Cert.OutPeBIdeal.sig) → Buf (Elt Ideal) ℓ) (g : Dev Cert.OutPeBIdeal.nD → PrngReg), Pre_OutPeBIdeal m →
    θ_run (Cert.OutPeBIdeal.defs (F := Ideal)) (onTc (τ := Cert.OutPeBIdeal.τ) (Cert.OutPeBIdeal.main (F := Ideal))) ⟨m, fun _ => 0, g⟩ (fun r => (∀ c : Dev Cert.OutPeBIdeal.nD,
      r.2.mem ((c.tc : Thread Cert.OutPeBIdeal.nD Cert.OutPeBIdeal.τ).loc Cert.OutPeBIdeal.main_arg0) = m ((c.tc : Thread Cert.OutPeBIdeal.nD Cert.OutPeBIdeal.τ).loc Cert.OutPeBIdeal.main_arg0)
      ∧ r.2.mem ((c.tc : Thread Cert.OutPeBIdeal.nD Cert.OutPeBIdeal.τ).loc Cert.OutPeBIdeal.main_arg1) = m ((c.tc : Thread Cert.OutPeBIdeal.nD Cert.OutPeBIdeal.τ).loc Cert.OutPeBIdeal.main_arg1)
      ∧ r.2.mem ((c.tc : Thread Cert.OutPeBIdeal.nD Cert.OutPeBIdeal.τ).loc Cert.OutPeBIdeal.main_arg2) = m ((c.tc : Thread Cert.OutPeBIdeal.nD Cert.OutPeBIdeal.τ).loc Cert.OutPeBIdeal.main_arg2)
      ∧ r.2.mem ((c.tc : Thread Cert.OutPeBIdeal.nD Cert.OutPeBIdeal.τ).loc Cert.OutPeBIdeal.main_arg3) = m ((c.tc : Thread Cert.OutPeBIdeal.nD Cert.OutPeBIdeal.τ).loc Cert.OutPeBIdeal.main_arg3)
      ∧ r.2.mem ((c.tc : Thread Cert.OutPeBIdeal.nD Cert.OutPeBIdeal.τ).loc Cert.OutPeBIdeal.main_arg4) = m ((c.tc : Thread Cert.OutPeBIdeal.nD Cert.OutPeBIdeal.τ).loc Cert.OutPeBIdeal.main_arg4)
      ∧ r.2.mem ((c.tc : Thread Cert.OutPeBIdeal.nD Cert.OutPeBIdeal.τ).loc Cert.OutPeBIdeal.main_arg5) = m ((c.tc : Thread Cert.OutPeBIdeal.nD Cert.OutPeBIdeal.τ).loc Cert.OutPeBIdeal.main_arg5)
      ∧ r.2.mem ((c.tc : Thread Cert.OutPeBIdeal.nD Cert.OutPeBIdeal.τ).loc Cert.OutPeBIdeal.main_arg6) = m ((c.tc : Thread Cert.OutPeBIdeal.nD Cert.OutPeBIdeal.τ).loc Cert.OutPeBIdeal.main_arg6)
      ∧ r.2.mem ((c.tc : Thread Cert.OutPeBIdeal.nD Cert.OutPeBIdeal.τ).loc Cert.OutPeBIdeal.main_arg7) = m ((c.tc : Thread Cert.OutPeBIdeal.nD Cert.OutPeBIdeal.τ).loc Cert.OutPeBIdeal.main_arg7)
      ∧ r.2.mem ((c.tc : Thread Cert.OutPeBIdeal.nD Cert.OutPeBIdeal.τ).loc Cert.OutPeBIdeal.main_arg8) = m ((c.tc : Thread Cert.OutPeBIdeal.nD Cert.OutPeBIdeal.τ).loc Cert.OutPeBIdeal.main_arg8)
      ∧ r.2.mem ((c.tc : Thread Cert.OutPeBIdeal.nD Cert.OutPeBIdeal.τ).loc Cert.OutPeBIdeal.main_arg9) = m ((c.tc : Thread Cert.OutPeBIdeal.nD Cert.OutPeBIdeal.τ).loc Cert.OutPeBIdeal.main_arg9))
      ∧ r.2.sem = fun _ => 0)

def quiescent_OutPeBRefIdeal [hOutPeBRefIdeal : Cert.OutPeBRefIdeal.Facts] : Prop :=
  ∀ (m : (ℓ : Loc Cert.OutPeBRefIdeal.nD Cert.OutPeBRefIdeal.τ Cert.OutPeBRefIdeal.sig) → Buf (Elt Ideal) ℓ) (g : Dev Cert.OutPeBRefIdeal.nD → PrngReg), Pre_OutPeBRefIdeal m →
    θ_run (Cert.OutPeBRefIdeal.defs (F := Ideal)) (onTc (τ := Cert.OutPeBRefIdeal.τ) (Cert.OutPeBRefIdeal.main (F := Ideal))) ⟨m, fun _ => 0, g⟩ (fun r => (∀ c : Dev Cert.OutPeBRefIdeal.nD,
      r.2.mem ((c.tc : Thread Cert.OutPeBRefIdeal.nD Cert.OutPeBRefIdeal.τ).loc Cert.OutPeBRefIdeal.main_arg0) = m ((c.tc : Thread Cert.OutPeBRefIdeal.nD Cert.OutPeBRefIdeal.τ).loc Cert.OutPeBRefIdeal.main_arg0)
      ∧ r.2.mem ((c.tc : Thread Cert.OutPeBRefIdeal.nD Cert.OutPeBRefIdeal.τ).loc Cert.OutPeBRefIdeal.main_arg1) = m ((c.tc : Thread Cert.OutPeBRefIdeal.nD Cert.OutPeBRefIdeal.τ).loc Cert.OutPeBRefIdeal.main_arg1)
      ∧ r.2.mem ((c.tc : Thread Cert.OutPeBRefIdeal.nD Cert.OutPeBRefIdeal.τ).loc Cert.OutPeBRefIdeal.main_arg2) = m ((c.tc : Thread Cert.OutPeBRefIdeal.nD Cert.OutPeBRefIdeal.τ).loc Cert.OutPeBRefIdeal.main_arg2)
      ∧ r.2.mem ((c.tc : Thread Cert.OutPeBRefIdeal.nD Cert.OutPeBRefIdeal.τ).loc Cert.OutPeBRefIdeal.main_arg3) = m ((c.tc : Thread Cert.OutPeBRefIdeal.nD Cert.OutPeBRefIdeal.τ).loc Cert.OutPeBRefIdeal.main_arg3)
      ∧ r.2.mem ((c.tc : Thread Cert.OutPeBRefIdeal.nD Cert.OutPeBRefIdeal.τ).loc Cert.OutPeBRefIdeal.main_arg4) = m ((c.tc : Thread Cert.OutPeBRefIdeal.nD Cert.OutPeBRefIdeal.τ).loc Cert.OutPeBRefIdeal.main_arg4)
      ∧ r.2.mem ((c.tc : Thread Cert.OutPeBRefIdeal.nD Cert.OutPeBRefIdeal.τ).loc Cert.OutPeBRefIdeal.main_arg5) = m ((c.tc : Thread Cert.OutPeBRefIdeal.nD Cert.OutPeBRefIdeal.τ).loc Cert.OutPeBRefIdeal.main_arg5)
      ∧ r.2.mem ((c.tc : Thread Cert.OutPeBRefIdeal.nD Cert.OutPeBRefIdeal.τ).loc Cert.OutPeBRefIdeal.main_arg6) = m ((c.tc : Thread Cert.OutPeBRefIdeal.nD Cert.OutPeBRefIdeal.τ).loc Cert.OutPeBRefIdeal.main_arg6)
      ∧ r.2.mem ((c.tc : Thread Cert.OutPeBRefIdeal.nD Cert.OutPeBRefIdeal.τ).loc Cert.OutPeBRefIdeal.main_arg7) = m ((c.tc : Thread Cert.OutPeBRefIdeal.nD Cert.OutPeBRefIdeal.τ).loc Cert.OutPeBRefIdeal.main_arg7)
      ∧ r.2.mem ((c.tc : Thread Cert.OutPeBRefIdeal.nD Cert.OutPeBRefIdeal.τ).loc Cert.OutPeBRefIdeal.main_arg8) = m ((c.tc : Thread Cert.OutPeBRefIdeal.nD Cert.OutPeBRefIdeal.τ).loc Cert.OutPeBRefIdeal.main_arg8)
      ∧ r.2.mem ((c.tc : Thread Cert.OutPeBRefIdeal.nD Cert.OutPeBRefIdeal.τ).loc Cert.OutPeBRefIdeal.main_arg9) = m ((c.tc : Thread Cert.OutPeBRefIdeal.nD Cert.OutPeBRefIdeal.τ).loc Cert.OutPeBRefIdeal.main_arg9))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7))
      ∧ r.2.sem = fun _ => 0)

def quiescent_AbMixer [hAbMixer : Cert.AbMixer.Facts] : Prop :=
  ∀ (m : (ℓ : Loc Cert.AbMixer.nD Cert.AbMixer.τ Cert.AbMixer.sig) → Buf (Elt Bits) ℓ) (g : Dev Cert.AbMixer.nD → PrngReg), Pre_AbMixer m →
    θ_run (Cert.AbMixer.defs (F := Bits)) (onTc (τ := Cert.AbMixer.τ) (Cert.AbMixer.main (F := Bits))) ⟨m, fun _ => 0, g⟩ (fun r => (∀ c : Dev Cert.AbMixer.nD,
      r.2.mem ((c.tc : Thread Cert.AbMixer.nD Cert.AbMixer.τ).loc Cert.AbMixer.main_arg0) = m ((c.tc : Thread Cert.AbMixer.nD Cert.AbMixer.τ).loc Cert.AbMixer.main_arg0)
      ∧ r.2.mem ((c.tc : Thread Cert.AbMixer.nD Cert.AbMixer.τ).loc Cert.AbMixer.main_arg1) = m ((c.tc : Thread Cert.AbMixer.nD Cert.AbMixer.τ).loc Cert.AbMixer.main_arg1)
      ∧ r.2.mem ((c.tc : Thread Cert.AbMixer.nD Cert.AbMixer.τ).loc Cert.AbMixer.main_arg2) = m ((c.tc : Thread Cert.AbMixer.nD Cert.AbMixer.τ).loc Cert.AbMixer.main_arg2)
      ∧ r.2.mem ((c.tc : Thread Cert.AbMixer.nD Cert.AbMixer.τ).loc Cert.AbMixer.main_arg3) = m ((c.tc : Thread Cert.AbMixer.nD Cert.AbMixer.τ).loc Cert.AbMixer.main_arg3)
      ∧ r.2.mem ((c.tc : Thread Cert.AbMixer.nD Cert.AbMixer.τ).loc Cert.AbMixer.main_arg4) = m ((c.tc : Thread Cert.AbMixer.nD Cert.AbMixer.τ).loc Cert.AbMixer.main_arg4)
      ∧ r.2.mem ((c.tc : Thread Cert.AbMixer.nD Cert.AbMixer.τ).loc Cert.AbMixer.main_arg5) = m ((c.tc : Thread Cert.AbMixer.nD Cert.AbMixer.τ).loc Cert.AbMixer.main_arg5)
      ∧ r.2.mem ((c.tc : Thread Cert.AbMixer.nD Cert.AbMixer.τ).loc Cert.AbMixer.main_arg6) = m ((c.tc : Thread Cert.AbMixer.nD Cert.AbMixer.τ).loc Cert.AbMixer.main_arg6))
      ∧ r.2.sem = fun _ => 0)

def quiescent_AbMixerIdeal [hAbMixerIdeal : Cert.AbMixerIdeal.Facts] : Prop :=
  ∀ (m : (ℓ : Loc Cert.AbMixerIdeal.nD Cert.AbMixerIdeal.τ Cert.AbMixerIdeal.sig) → Buf (Elt Ideal) ℓ) (g : Dev Cert.AbMixerIdeal.nD → PrngReg), Pre_AbMixerIdeal m →
    θ_run (Cert.AbMixerIdeal.defs (F := Ideal)) (onTc (τ := Cert.AbMixerIdeal.τ) (Cert.AbMixerIdeal.main (F := Ideal))) ⟨m, fun _ => 0, g⟩ (fun r => (∀ c : Dev Cert.AbMixerIdeal.nD,
      r.2.mem ((c.tc : Thread Cert.AbMixerIdeal.nD Cert.AbMixerIdeal.τ).loc Cert.AbMixerIdeal.main_arg0) = m ((c.tc : Thread Cert.AbMixerIdeal.nD Cert.AbMixerIdeal.τ).loc Cert.AbMixerIdeal.main_arg0)
      ∧ r.2.mem ((c.tc : Thread Cert.AbMixerIdeal.nD Cert.AbMixerIdeal.τ).loc Cert.AbMixerIdeal.main_arg1) = m ((c.tc : Thread Cert.AbMixerIdeal.nD Cert.AbMixerIdeal.τ).loc Cert.AbMixerIdeal.main_arg1)
      ∧ r.2.mem ((c.tc : Thread Cert.AbMixerIdeal.nD Cert.AbMixerIdeal.τ).loc Cert.AbMixerIdeal.main_arg2) = m ((c.tc : Thread Cert.AbMixerIdeal.nD Cert.AbMixerIdeal.τ).loc Cert.AbMixerIdeal.main_arg2)
      ∧ r.2.mem ((c.tc : Thread Cert.AbMixerIdeal.nD Cert.AbMixerIdeal.τ).loc Cert.AbMixerIdeal.main_arg3) = m ((c.tc : Thread Cert.AbMixerIdeal.nD Cert.AbMixerIdeal.τ).loc Cert.AbMixerIdeal.main_arg3)
      ∧ r.2.mem ((c.tc : Thread Cert.AbMixerIdeal.nD Cert.AbMixerIdeal.τ).loc Cert.AbMixerIdeal.main_arg4) = m ((c.tc : Thread Cert.AbMixerIdeal.nD Cert.AbMixerIdeal.τ).loc Cert.AbMixerIdeal.main_arg4)
      ∧ r.2.mem ((c.tc : Thread Cert.AbMixerIdeal.nD Cert.AbMixerIdeal.τ).loc Cert.AbMixerIdeal.main_arg5) = m ((c.tc : Thread Cert.AbMixerIdeal.nD Cert.AbMixerIdeal.τ).loc Cert.AbMixerIdeal.main_arg5)
      ∧ r.2.mem ((c.tc : Thread Cert.AbMixerIdeal.nD Cert.AbMixerIdeal.τ).loc Cert.AbMixerIdeal.main_arg6) = m ((c.tc : Thread Cert.AbMixerIdeal.nD Cert.AbMixerIdeal.τ).loc Cert.AbMixerIdeal.main_arg6))
      ∧ r.2.sem = fun _ => 0)

def quiescent_AbMixerIdeal_pre_input_gates_below_inf [hAbMixerIdeal : Cert.AbMixerIdeal.Facts] [hPre_input_gates_below_inf : Cert.Pre_input_gates_below_inf.Facts] : Prop :=
  ∀ (m : (ℓ : Loc Cert.AbMixerIdeal.nD Cert.AbMixerIdeal.τ Cert.AbMixerIdeal.sig) → Buf (Elt Ideal) ℓ) (g : Dev Cert.AbMixerIdeal.nD → PrngReg), Pre_AbMixerIdeal_input_gates_below_inf m →
    θ_run (Cert.AbMixerIdeal.defs (F := Ideal)) (onTc (τ := Cert.AbMixerIdeal.τ) (Cert.AbMixerIdeal.main (F := Ideal))) ⟨m, fun _ => 0, g⟩ (fun r => (∀ c : Dev Cert.AbMixerIdeal.nD,
      r.2.mem ((c.tc : Thread Cert.AbMixerIdeal.nD Cert.AbMixerIdeal.τ).loc Cert.AbMixerIdeal.main_arg0) = m ((c.tc : Thread Cert.AbMixerIdeal.nD Cert.AbMixerIdeal.τ).loc Cert.AbMixerIdeal.main_arg0)
      ∧ r.2.mem ((c.tc : Thread Cert.AbMixerIdeal.nD Cert.AbMixerIdeal.τ).loc Cert.AbMixerIdeal.main_arg1) = m ((c.tc : Thread Cert.AbMixerIdeal.nD Cert.AbMixerIdeal.τ).loc Cert.AbMixerIdeal.main_arg1)
      ∧ r.2.mem ((c.tc : Thread Cert.AbMixerIdeal.nD Cert.AbMixerIdeal.τ).loc Cert.AbMixerIdeal.main_arg2) = m ((c.tc : Thread Cert.AbMixerIdeal.nD Cert.AbMixerIdeal.τ).loc Cert.AbMixerIdeal.main_arg2)
      ∧ r.2.mem ((c.tc : Thread Cert.AbMixerIdeal.nD Cert.AbMixerIdeal.τ).loc Cert.AbMixerIdeal.main_arg3) = m ((c.tc : Thread Cert.AbMixerIdeal.nD Cert.AbMixerIdeal.τ).loc Cert.AbMixerIdeal.main_arg3)
      ∧ r.2.mem ((c.tc : Thread Cert.AbMixerIdeal.nD Cert.AbMixerIdeal.τ).loc Cert.AbMixerIdeal.main_arg4) = m ((c.tc : Thread Cert.AbMixerIdeal.nD Cert.AbMixerIdeal.τ).loc Cert.AbMixerIdeal.main_arg4)
      ∧ r.2.mem ((c.tc : Thread Cert.AbMixerIdeal.nD Cert.AbMixerIdeal.τ).loc Cert.AbMixerIdeal.main_arg5) = m ((c.tc : Thread Cert.AbMixerIdeal.nD Cert.AbMixerIdeal.τ).loc Cert.AbMixerIdeal.main_arg5)
      ∧ r.2.mem ((c.tc : Thread Cert.AbMixerIdeal.nD Cert.AbMixerIdeal.τ).loc Cert.AbMixerIdeal.main_arg6) = m ((c.tc : Thread Cert.AbMixerIdeal.nD Cert.AbMixerIdeal.τ).loc Cert.AbMixerIdeal.main_arg6))
      ∧ r.2.sem = fun _ => 0)

def quiescent_AbMixerRefIdeal [hAbMixerRefIdeal : Cert.AbMixerRefIdeal.Facts] : Prop :=
  ∀ (m : (ℓ : Loc Cert.AbMixerRefIdeal.nD Cert.AbMixerRefIdeal.τ Cert.AbMixerRefIdeal.sig) → Buf (Elt Ideal) ℓ) (g : Dev Cert.AbMixerRefIdeal.nD → PrngReg), Pre_AbMixerRefIdeal m →
    θ_run (Cert.AbMixerRefIdeal.defs (F := Ideal)) (onTc (τ := Cert.AbMixerRefIdeal.τ) (Cert.AbMixerRefIdeal.main (F := Ideal))) ⟨m, fun _ => 0, g⟩ (fun r => (∀ c : Dev Cert.AbMixerRefIdeal.nD,
      r.2.mem ((c.tc : Thread Cert.AbMixerRefIdeal.nD Cert.AbMixerRefIdeal.τ).loc Cert.AbMixerRefIdeal.main_arg0) = m ((c.tc : Thread Cert.AbMixerRefIdeal.nD Cert.AbMixerRefIdeal.τ).loc Cert.AbMixerRefIdeal.main_arg0)
      ∧ r.2.mem ((c.tc : Thread Cert.AbMixerRefIdeal.nD Cert.AbMixerRefIdeal.τ).loc Cert.AbMixerRefIdeal.main_arg1) = m ((c.tc : Thread Cert.AbMixerRefIdeal.nD Cert.AbMixerRefIdeal.τ).loc Cert.AbMixerRefIdeal.main_arg1)
      ∧ r.2.mem ((c.tc : Thread Cert.AbMixerRefIdeal.nD Cert.AbMixerRefIdeal.τ).loc Cert.AbMixerRefIdeal.main_arg2) = m ((c.tc : Thread Cert.AbMixerRefIdeal.nD Cert.AbMixerRefIdeal.τ).loc Cert.AbMixerRefIdeal.main_arg2)
      ∧ r.2.mem ((c.tc : Thread Cert.AbMixerRefIdeal.nD Cert.AbMixerRefIdeal.τ).loc Cert.AbMixerRefIdeal.main_arg3) = m ((c.tc : Thread Cert.AbMixerRefIdeal.nD Cert.AbMixerRefIdeal.τ).loc Cert.AbMixerRefIdeal.main_arg3)
      ∧ r.2.mem ((c.tc : Thread Cert.AbMixerRefIdeal.nD Cert.AbMixerRefIdeal.τ).loc Cert.AbMixerRefIdeal.main_arg4) = m ((c.tc : Thread Cert.AbMixerRefIdeal.nD Cert.AbMixerRefIdeal.τ).loc Cert.AbMixerRefIdeal.main_arg4)
      ∧ r.2.mem ((c.tc : Thread Cert.AbMixerRefIdeal.nD Cert.AbMixerRefIdeal.τ).loc Cert.AbMixerRefIdeal.main_arg5) = m ((c.tc : Thread Cert.AbMixerRefIdeal.nD Cert.AbMixerRefIdeal.τ).loc Cert.AbMixerRefIdeal.main_arg5)
      ∧ r.2.mem ((c.tc : Thread Cert.AbMixerRefIdeal.nD Cert.AbMixerRefIdeal.τ).loc Cert.AbMixerRefIdeal.main_arg6) = m ((c.tc : Thread Cert.AbMixerRefIdeal.nD Cert.AbMixerRefIdeal.τ).loc Cert.AbMixerRefIdeal.main_arg6))
      ∧ r.2.sem = fun _ => 0)

def quiescent_AbMixerRefIdeal_pre_input_gates_below_inf [hAbMixerRefIdeal : Cert.AbMixerRefIdeal.Facts] [hPre_input_gates_below_inf : Cert.Pre_input_gates_below_inf.Facts] : Prop :=
  ∀ (m : (ℓ : Loc Cert.AbMixerRefIdeal.nD Cert.AbMixerRefIdeal.τ Cert.AbMixerRefIdeal.sig) → Buf (Elt Ideal) ℓ) (g : Dev Cert.AbMixerRefIdeal.nD → PrngReg), Pre_AbMixerRefIdeal_input_gates_below_inf m →
    θ_run (Cert.AbMixerRefIdeal.defs (F := Ideal)) (onTc (τ := Cert.AbMixerRefIdeal.τ) (Cert.AbMixerRefIdeal.main (F := Ideal))) ⟨m, fun _ => 0, g⟩ (fun r => (∀ c : Dev Cert.AbMixerRefIdeal.nD,
      r.2.mem ((c.tc : Thread Cert.AbMixerRefIdeal.nD Cert.AbMixerRefIdeal.τ).loc Cert.AbMixerRefIdeal.main_arg0) = m ((c.tc : Thread Cert.AbMixerRefIdeal.nD Cert.AbMixerRefIdeal.τ).loc Cert.AbMixerRefIdeal.main_arg0)
      ∧ r.2.mem ((c.tc : Thread Cert.AbMixerRefIdeal.nD Cert.AbMixerRefIdeal.τ).loc Cert.AbMixerRefIdeal.main_arg1) = m ((c.tc : Thread Cert.AbMixerRefIdeal.nD Cert.AbMixerRefIdeal.τ).loc Cert.AbMixerRefIdeal.main_arg1)
      ∧ r.2.mem ((c.tc : Thread Cert.AbMixerRefIdeal.nD Cert.AbMixerRefIdeal.τ).loc Cert.AbMixerRefIdeal.main_arg2) = m ((c.tc : Thread Cert.AbMixerRefIdeal.nD Cert.AbMixerRefIdeal.τ).loc Cert.AbMixerRefIdeal.main_arg2)
      ∧ r.2.mem ((c.tc : Thread Cert.AbMixerRefIdeal.nD Cert.AbMixerRefIdeal.τ).loc Cert.AbMixerRefIdeal.main_arg3) = m ((c.tc : Thread Cert.AbMixerRefIdeal.nD Cert.AbMixerRefIdeal.τ).loc Cert.AbMixerRefIdeal.main_arg3)
      ∧ r.2.mem ((c.tc : Thread Cert.AbMixerRefIdeal.nD Cert.AbMixerRefIdeal.τ).loc Cert.AbMixerRefIdeal.main_arg4) = m ((c.tc : Thread Cert.AbMixerRefIdeal.nD Cert.AbMixerRefIdeal.τ).loc Cert.AbMixerRefIdeal.main_arg4)
      ∧ r.2.mem ((c.tc : Thread Cert.AbMixerRefIdeal.nD Cert.AbMixerRefIdeal.τ).loc Cert.AbMixerRefIdeal.main_arg5) = m ((c.tc : Thread Cert.AbMixerRefIdeal.nD Cert.AbMixerRefIdeal.τ).loc Cert.AbMixerRefIdeal.main_arg5)
      ∧ r.2.mem ((c.tc : Thread Cert.AbMixerRefIdeal.nD Cert.AbMixerRefIdeal.τ).loc Cert.AbMixerRefIdeal.main_arg6) = m ((c.tc : Thread Cert.AbMixerRefIdeal.nD Cert.AbMixerRefIdeal.τ).loc Cert.AbMixerRefIdeal.main_arg6))
      ∧ r.2.sem = fun _ => 0)

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)) →
    ∃ (v0 : (c : Dev Cert.NormProjIdeal.nD) → Buf (Elt Ideal) ((c.tc : Thread Cert.NormProjIdeal.nD Cert.NormProjIdeal.τ).loc Cert.NormProjIdeal.main_v0_0)) (v1 : (c : Dev Cert.NormProjIdeal.nD) → Buf (Elt Ideal) ((c.tc : Thread Cert.NormProjIdeal.nD Cert.NormProjIdeal.τ).loc Cert.NormProjIdeal.main_v0_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v0_0) = v0 c
          ∧ r.2.mem ((c.tc : Thread Cert.NormProjIdeal.nD Cert.NormProjIdeal.τ).loc Cert.NormProjIdeal.main_v0_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v15) = v0 c
          ∧ r.2.mem ((c.tc : Thread Cert.NormProjRefIdeal.nD Cert.NormProjRefIdeal.τ).loc Cert.NormProjRefIdeal.main_v18) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3))

def preserves_OutPe_OutPeIdeal : Prop :=
  True

def algebraic_OutPeIdeal_OutPeRefIdeal [hOutPeIdeal : Cert.OutPeIdeal.Facts] [hOutPeRefIdeal : Cert.OutPeRefIdeal.Facts] : Prop :=
  ∀ (m : (ℓ : Loc Cert.OutPeIdeal.nD Cert.OutPeIdeal.τ Cert.OutPeIdeal.sig) → Buf (Elt Ideal) ℓ) (g : Dev Cert.OutPeIdeal.nD → PrngReg)
    (m' : (ℓ : Loc Cert.OutPeRefIdeal.nD Cert.OutPeRefIdeal.τ Cert.OutPeRefIdeal.sig) → Buf (Elt Ideal) ℓ) (g' : Dev Cert.OutPeRefIdeal.nD → PrngReg), Pre_OutPeIdeal m →
    (∀ c : Dev Cert.OutPeIdeal.nD,
      m' ((c.tc : Thread Cert.OutPeRefIdeal.nD Cert.OutPeRefIdeal.τ).loc Cert.OutPeRefIdeal.main_arg0) = m ((c.tc : Thread Cert.OutPeIdeal.nD Cert.OutPeIdeal.τ).loc Cert.OutPeIdeal.main_arg0)
      ∧ m' ((c.tc : Thread Cert.OutPeRefIdeal.nD Cert.OutPeRefIdeal.τ).loc Cert.OutPeRefIdeal.main_arg1) = m ((c.tc : Thread Cert.OutPeIdeal.nD Cert.OutPeIdeal.τ).loc Cert.OutPeIdeal.main_arg1)
      ∧ m' ((c.tc : Thread Cert.OutPeRefIdeal.nD Cert.OutPeRefIdeal.τ).loc Cert.OutPeRefIdeal.main_arg2) = m ((c.tc : Thread Cert.OutPeIdeal.nD Cert.OutPeIdeal.τ).loc Cert.OutPeIdeal.main_arg2)
      ∧ m' ((c.tc : Thread Cert.OutPeRefIdeal.nD Cert.OutPeRefIdeal.τ).loc Cert.OutPeRefIdeal.main_arg3) = m ((c.tc : Thread Cert.OutPeIdeal.nD Cert.OutPeIdeal.τ).loc Cert.OutPeIdeal.main_arg3)
      ∧ m' ((c.tc : Thread Cert.OutPeRefIdeal.nD Cert.OutPeRefIdeal.τ).loc Cert.OutPeRefIdeal.main_arg4) = m ((c.tc : Thread Cert.OutPeIdeal.nD Cert.OutPeIdeal.τ).loc Cert.OutPeIdeal.main_arg4)
      ∧ m' ((c.tc : Thread Cert.OutPeRefIdeal.nD Cert.OutPeRefIdeal.τ).loc Cert.OutPeRefIdeal.main_arg5) = m ((c.tc : Thread Cert.OutPeIdeal.nD Cert.OutPeIdeal.τ).loc Cert.OutPeIdeal.main_arg5)
      ∧ m' ((c.tc : Thread Cert.OutPeRefIdeal.nD Cert.OutPeRefIdeal.τ).loc Cert.OutPeRefIdeal.main_arg6) = m ((c.tc : Thread Cert.OutPeIdeal.nD Cert.OutPeIdeal.τ).loc Cert.OutPeIdeal.main_arg6)
      ∧ m' ((c.tc : Thread Cert.OutPeRefIdeal.nD Cert.OutPeRefIdeal.τ).loc Cert.OutPeRefIdeal.main_arg7) = m ((c.tc : Thread Cert.OutPeIdeal.nD Cert.OutPeIdeal.τ).loc Cert.OutPeIdeal.main_arg7)) →
    ∃ (v0 : (c : Dev Cert.OutPeIdeal.nD) → Buf (Elt Ideal) ((c.tc : Thread Cert.OutPeIdeal.nD Cert.OutPeIdeal.τ).loc Cert.OutPeIdeal.main_v0)),
      θ_run (Cert.OutPeIdeal.defs (F := Ideal)) (onTc (τ := Cert.OutPeIdeal.τ) (Cert.OutPeIdeal.main (F := Ideal))) ⟨m, fun _ => 0, g⟩ (fun r => ∀ c : Dev Cert.OutPeIdeal.nD,
          r.2.mem ((c.tc : Thread Cert.OutPeIdeal.nD Cert.OutPeIdeal.τ).loc Cert.OutPeIdeal.main_v0) = v0 c
          ∧ r.2.mem ((c.tc : Thread Cert.OutPeIdeal.nD Cert.OutPeIdeal.τ).loc Cert.OutPeIdeal.main_arg0) = m ((c.tc : Thread Cert.OutPeIdeal.nD Cert.OutPeIdeal.τ).loc Cert.OutPeIdeal.main_arg0)
          ∧ r.2.mem ((c.tc : Thread Cert.OutPeIdeal.nD Cert.OutPeIdeal.τ).loc Cert.OutPeIdeal.main_arg1) = m ((c.tc : Thread Cert.OutPeIdeal.nD Cert.OutPeIdeal.τ).loc Cert.OutPeIdeal.main_arg1)
          ∧ r.2.mem ((c.tc : Thread Cert.OutPeIdeal.nD Cert.OutPeIdeal.τ).loc Cert.OutPeIdeal.main_arg2) = m ((c.tc : Thread Cert.OutPeIdeal.nD Cert.OutPeIdeal.τ).loc Cert.OutPeIdeal.main_arg2)
          ∧ r.2.mem ((c.tc : Thread Cert.OutPeIdeal.nD Cert.OutPeIdeal.τ).loc Cert.OutPeIdeal.main_arg3) = m ((c.tc : Thread Cert.OutPeIdeal.nD Cert.OutPeIdeal.τ).loc Cert.OutPeIdeal.main_arg3)
          ∧ r.2.mem ((c.tc : Thread Cert.OutPeIdeal.nD Cert.OutPeIdeal.τ).loc Cert.OutPeIdeal.main_arg4) = m ((c.tc : Thread Cert.OutPeIdeal.nD Cert.OutPeIdeal.τ).loc Cert.OutPeIdeal.main_arg4)
          ∧ r.2.mem ((c.tc : Thread Cert.OutPeIdeal.nD Cert.OutPeIdeal.τ).loc Cert.OutPeIdeal.main_arg5) = m ((c.tc : Thread Cert.OutPeIdeal.nD Cert.OutPeIdeal.τ).loc Cert.OutPeIdeal.main_arg5)
          ∧ r.2.mem ((c.tc : Thread Cert.OutPeIdeal.nD Cert.OutPeIdeal.τ).loc Cert.OutPeIdeal.main_arg6) = m ((c.tc : Thread Cert.OutPeIdeal.nD Cert.OutPeIdeal.τ).loc Cert.OutPeIdeal.main_arg6)
          ∧ r.2.mem ((c.tc : Thread Cert.OutPeIdeal.nD Cert.OutPeIdeal.τ).loc Cert.OutPeIdeal.main_arg7) = m ((c.tc : Thread Cert.OutPeIdeal.nD Cert.OutPeIdeal.τ).loc Cert.OutPeIdeal.main_arg7))
      ∧ θ_run (Cert.OutPeRefIdeal.defs (F := Ideal)) (onTc (τ := Cert.OutPeRefIdeal.τ) (Cert.OutPeRefIdeal.main (F := Ideal))) ⟨m', fun _ => 0, g'⟩ (fun r => ∀ c : Dev Cert.OutPeRefIdeal.nD,
          r.2.mem ((c.tc : Thread Cert.OutPeRefIdeal.nD Cert.OutPeRefIdeal.τ).loc Cert.OutPeRefIdeal.main_v31) = v0 c
          ∧ r.2.mem ((c.tc : Thread Cert.OutPeRefIdeal.nD Cert.OutPeRefIdeal.τ).loc Cert.OutPeRefIdeal.main_arg0) = m' ((c.tc : Thread Cert.OutPeRefIdeal.nD Cert.OutPeRefIdeal.τ).loc Cert.OutPeRefIdeal.main_arg0)
          ∧ r.2.mem ((c.tc : Thread Cert.OutPeRefIdeal.nD Cert.OutPeRefIdeal.τ).loc Cert.OutPeRefIdeal.main_arg1) = m' ((c.tc : Thread Cert.OutPeRefIdeal.nD Cert.OutPeRefIdeal.τ).loc Cert.OutPeRefIdeal.main_arg1)
          ∧ r.2.mem ((c.tc : Thread Cert.OutPeRefIdeal.nD Cert.OutPeRefIdeal.τ).loc Cert.OutPeRefIdeal.main_arg2) = m' ((c.tc : Thread Cert.OutPeRefIdeal.nD Cert.OutPeRefIdeal.τ).loc Cert.OutPeRefIdeal.main_arg2)
          ∧ r.2.mem ((c.tc : Thread Cert.OutPeRefIdeal.nD Cert.OutPeRefIdeal.τ).loc Cert.OutPeRefIdeal.main_arg3) = m' ((c.tc : Thread Cert.OutPeRefIdeal.nD Cert.OutPeRefIdeal.τ).loc Cert.OutPeRefIdeal.main_arg3)
          ∧ r.2.mem ((c.tc : Thread Cert.OutPeRefIdeal.nD Cert.OutPeRefIdeal.τ).loc Cert.OutPeRefIdeal.main_arg4) = m' ((c.tc : Thread Cert.OutPeRefIdeal.nD Cert.OutPeRefIdeal.τ).loc Cert.OutPeRefIdeal.main_arg4)
          ∧ r.2.mem ((c.tc : Thread Cert.OutPeRefIdeal.nD Cert.OutPeRefIdeal.τ).loc Cert.OutPeRefIdeal.main_arg5) = m' ((c.tc : Thread Cert.OutPeRefIdeal.nD Cert.OutPeRefIdeal.τ).loc Cert.OutPeRefIdeal.main_arg5)
          ∧ r.2.mem ((c.tc : Thread Cert.OutPeRefIdeal.nD Cert.OutPeRefIdeal.τ).loc Cert.OutPeRefIdeal.main_arg6) = m' ((c.tc : Thread Cert.OutPeRefIdeal.nD Cert.OutPeRefIdeal.τ).loc Cert.OutPeRefIdeal.main_arg6)
          ∧ r.2.mem ((c.tc : Thread Cert.OutPeRefIdeal.nD Cert.OutPeRefIdeal.τ).loc Cert.OutPeRefIdeal.main_arg7) = m' ((c.tc : Thread Cert.OutPeRefIdeal.nD Cert.OutPeRefIdeal.τ).loc Cert.OutPeRefIdeal.main_arg7))

def preserves_NormProjB_NormProjBIdeal : Prop :=
  True

def algebraic_NormProjBIdeal_NormProjBRefIdeal [hNormProjBIdeal : Cert.NormProjBIdeal.Facts] [hNormProjBRefIdeal : Cert.NormProjBRefIdeal.Facts] : Prop :=
  ∀ (m : (ℓ : Loc Cert.NormProjBIdeal.nD Cert.NormProjBIdeal.τ Cert.NormProjBIdeal.sig) → Buf (Elt Ideal) ℓ) (g : Dev Cert.NormProjBIdeal.nD → PrngReg)
    (m' : (ℓ : Loc Cert.NormProjBRefIdeal.nD Cert.NormProjBRefIdeal.τ Cert.NormProjBRefIdeal.sig) → Buf (Elt Ideal) ℓ) (g' : Dev Cert.NormProjBRefIdeal.nD → PrngReg), Pre_NormProjBIdeal m →
    (∀ c : Dev Cert.NormProjBIdeal.nD,
      m' ((c.tc : Thread Cert.NormProjBRefIdeal.nD Cert.NormProjBRefIdeal.τ).loc Cert.NormProjBRefIdeal.main_arg0) = m ((c.tc : Thread Cert.NormProjBIdeal.nD Cert.NormProjBIdeal.τ).loc Cert.NormProjBIdeal.main_arg0)
      ∧ m' ((c.tc : Thread Cert.NormProjBRefIdeal.nD Cert.NormProjBRefIdeal.τ).loc Cert.NormProjBRefIdeal.main_arg1) = m ((c.tc : Thread Cert.NormProjBIdeal.nD Cert.NormProjBIdeal.τ).loc Cert.NormProjBIdeal.main_arg1)
      ∧ m' ((c.tc : Thread Cert.NormProjBRefIdeal.nD Cert.NormProjBRefIdeal.τ).loc Cert.NormProjBRefIdeal.main_arg2) = m ((c.tc : Thread Cert.NormProjBIdeal.nD Cert.NormProjBIdeal.τ).loc Cert.NormProjBIdeal.main_arg2)
      ∧ m' ((c.tc : Thread Cert.NormProjBRefIdeal.nD Cert.NormProjBRefIdeal.τ).loc Cert.NormProjBRefIdeal.main_arg3) = m ((c.tc : Thread Cert.NormProjBIdeal.nD Cert.NormProjBIdeal.τ).loc Cert.NormProjBIdeal.main_arg3)) →
    ∃ (v0 : (c : Dev Cert.NormProjBIdeal.nD) → Buf (Elt Ideal) ((c.tc : Thread Cert.NormProjBIdeal.nD Cert.NormProjBIdeal.τ).loc Cert.NormProjBIdeal.main_v0_0)) (v1 : (c : Dev Cert.NormProjBIdeal.nD) → Buf (Elt Ideal) ((c.tc : Thread Cert.NormProjBIdeal.nD Cert.NormProjBIdeal.τ).loc Cert.NormProjBIdeal.main_v0_1)),
      θ_run (Cert.NormProjBIdeal.defs (F := Ideal)) (onTc (τ := Cert.NormProjBIdeal.τ) (Cert.NormProjBIdeal.main (F := Ideal))) ⟨m, fun _ => 0, g⟩ (fun r => ∀ c : Dev Cert.NormProjBIdeal.nD,
          r.2.mem ((c.tc : Thread Cert.NormProjBIdeal.nD Cert.NormProjBIdeal.τ).loc Cert.NormProjBIdeal.main_v0_0) = v0 c
          ∧ r.2.mem ((c.tc : Thread Cert.NormProjBIdeal.nD Cert.NormProjBIdeal.τ).loc Cert.NormProjBIdeal.main_v0_1) = v1 c
          ∧ r.2.mem ((c.tc : Thread Cert.NormProjBIdeal.nD Cert.NormProjBIdeal.τ).loc Cert.NormProjBIdeal.main_arg0) = m ((c.tc : Thread Cert.NormProjBIdeal.nD Cert.NormProjBIdeal.τ).loc Cert.NormProjBIdeal.main_arg0)
          ∧ r.2.mem ((c.tc : Thread Cert.NormProjBIdeal.nD Cert.NormProjBIdeal.τ).loc Cert.NormProjBIdeal.main_arg1) = m ((c.tc : Thread Cert.NormProjBIdeal.nD Cert.NormProjBIdeal.τ).loc Cert.NormProjBIdeal.main_arg1)
          ∧ r.2.mem ((c.tc : Thread Cert.NormProjBIdeal.nD Cert.NormProjBIdeal.τ).loc Cert.NormProjBIdeal.main_arg2) = m ((c.tc : Thread Cert.NormProjBIdeal.nD Cert.NormProjBIdeal.τ).loc Cert.NormProjBIdeal.main_arg2)
          ∧ r.2.mem ((c.tc : Thread Cert.NormProjBIdeal.nD Cert.NormProjBIdeal.τ).loc Cert.NormProjBIdeal.main_arg3) = m ((c.tc : Thread Cert.NormProjBIdeal.nD Cert.NormProjBIdeal.τ).loc Cert.NormProjBIdeal.main_arg3))
      ∧ θ_run (Cert.NormProjBRefIdeal.defs (F := Ideal)) (onTc (τ := Cert.NormProjBRefIdeal.τ) (Cert.NormProjBRefIdeal.main (F := Ideal))) ⟨m', fun _ => 0, g'⟩ (fun r => ∀ c : Dev Cert.NormProjBRefIdeal.nD,
          r.2.mem ((c.tc : Thread Cert.NormProjBRefIdeal.nD Cert.NormProjBRefIdeal.τ).loc Cert.NormProjBRefIdeal.main_v15) = v0 c
          ∧ r.2.mem ((c.tc : Thread Cert.NormProjBRefIdeal.nD Cert.NormProjBRefIdeal.τ).loc Cert.NormProjBRefIdeal.main_v18) = v1 c
          ∧ r.2.mem ((c.tc : Thread Cert.NormProjBRefIdeal.nD Cert.NormProjBRefIdeal.τ).loc Cert.NormProjBRefIdeal.main_arg0) = m' ((c.tc : Thread Cert.NormProjBRefIdeal.nD Cert.NormProjBRefIdeal.τ).loc Cert.NormProjBRefIdeal.main_arg0)
          ∧ r.2.mem ((c.tc : Thread Cert.NormProjBRefIdeal.nD Cert.NormProjBRefIdeal.τ).loc Cert.NormProjBRefIdeal.main_arg1) = m' ((c.tc : Thread Cert.NormProjBRefIdeal.nD Cert.NormProjBRefIdeal.τ).loc Cert.NormProjBRefIdeal.main_arg1)
          ∧ r.2.mem ((c.tc : Thread Cert.NormProjBRefIdeal.nD Cert.NormProjBRefIdeal.τ).loc Cert.NormProjBRefIdeal.main_arg2) = m' ((c.tc : Thread Cert.NormProjBRefIdeal.nD Cert.NormProjBRefIdeal.τ).loc Cert.NormProjBRefIdeal.main_arg2)
          ∧ r.2.mem ((c.tc : Thread Cert.NormProjBRefIdeal.nD Cert.NormProjBRefIdeal.τ).loc Cert.NormProjBRefIdeal.main_arg3) = m' ((c.tc : Thread Cert.NormProjBRefIdeal.nD Cert.NormProjBRefIdeal.τ).loc Cert.NormProjBRefIdeal.main_arg3))

def preserves_OutPeB_OutPeBIdeal : Prop :=
  True

def algebraic_OutPeBIdeal_OutPeBRefIdeal [hOutPeBIdeal : Cert.OutPeBIdeal.Facts] [hOutPeBRefIdeal : Cert.OutPeBRefIdeal.Facts] : Prop :=
  ∀ (m : (ℓ : Loc Cert.OutPeBIdeal.nD Cert.OutPeBIdeal.τ Cert.OutPeBIdeal.sig) → Buf (Elt Ideal) ℓ) (g : Dev Cert.OutPeBIdeal.nD → PrngReg)
    (m' : (ℓ : Loc Cert.OutPeBRefIdeal.nD Cert.OutPeBRefIdeal.τ Cert.OutPeBRefIdeal.sig) → Buf (Elt Ideal) ℓ) (g' : Dev Cert.OutPeBRefIdeal.nD → PrngReg), Pre_OutPeBIdeal m →
    (∀ c : Dev Cert.OutPeBIdeal.nD,
      m' ((c.tc : Thread Cert.OutPeBRefIdeal.nD Cert.OutPeBRefIdeal.τ).loc Cert.OutPeBRefIdeal.main_arg0) = m ((c.tc : Thread Cert.OutPeBIdeal.nD Cert.OutPeBIdeal.τ).loc Cert.OutPeBIdeal.main_arg0)
      ∧ m' ((c.tc : Thread Cert.OutPeBRefIdeal.nD Cert.OutPeBRefIdeal.τ).loc Cert.OutPeBRefIdeal.main_arg1) = m ((c.tc : Thread Cert.OutPeBIdeal.nD Cert.OutPeBIdeal.τ).loc Cert.OutPeBIdeal.main_arg1)
      ∧ m' ((c.tc : Thread Cert.OutPeBRefIdeal.nD Cert.OutPeBRefIdeal.τ).loc Cert.OutPeBRefIdeal.main_arg2) = m ((c.tc : Thread Cert.OutPeBIdeal.nD Cert.OutPeBIdeal.τ).loc Cert.OutPeBIdeal.main_arg2)
      ∧ m' ((c.tc : Thread Cert.OutPeBRefIdeal.nD Cert.OutPeBRefIdeal.τ).loc Cert.OutPeBRefIdeal.main_arg3) = m ((c.tc : Thread Cert.OutPeBIdeal.nD Cert.OutPeBIdeal.τ).loc Cert.OutPeBIdeal.main_arg3)
      ∧ m' ((c.tc : Thread Cert.OutPeBRefIdeal.nD Cert.OutPeBRefIdeal.τ).loc Cert.OutPeBRefIdeal.main_arg4) = m ((c.tc : Thread Cert.OutPeBIdeal.nD Cert.OutPeBIdeal.τ).loc Cert.OutPeBIdeal.main_arg4)
      ∧ m' ((c.tc : Thread Cert.OutPeBRefIdeal.nD Cert.OutPeBRefIdeal.τ).loc Cert.OutPeBRefIdeal.main_arg5) = m ((c.tc : Thread Cert.OutPeBIdeal.nD Cert.OutPeBIdeal.τ).loc Cert.OutPeBIdeal.main_arg5)
      ∧ m' ((c.tc : Thread Cert.OutPeBRefIdeal.nD Cert.OutPeBRefIdeal.τ).loc Cert.OutPeBRefIdeal.main_arg6) = m ((c.tc : Thread Cert.OutPeBIdeal.nD Cert.OutPeBIdeal.τ).loc Cert.OutPeBIdeal.main_arg6)
      ∧ m' ((c.tc : Thread Cert.OutPeBRefIdeal.nD Cert.OutPeBRefIdeal.τ).loc Cert.OutPeBRefIdeal.main_arg7) = m ((c.tc : Thread Cert.OutPeBIdeal.nD Cert.OutPeBIdeal.τ).loc Cert.OutPeBIdeal.main_arg7)
      ∧ m' ((c.tc : Thread Cert.OutPeBRefIdeal.nD Cert.OutPeBRefIdeal.τ).loc Cert.OutPeBRefIdeal.main_arg8) = m ((c.tc : Thread Cert.OutPeBIdeal.nD Cert.OutPeBIdeal.τ).loc Cert.OutPeBIdeal.main_arg8)
      ∧ m' ((c.tc : Thread Cert.OutPeBRefIdeal.nD Cert.OutPeBRefIdeal.τ).loc Cert.OutPeBRefIdeal.main_arg9) = m ((c.tc : Thread Cert.OutPeBIdeal.nD Cert.OutPeBIdeal.τ).loc Cert.OutPeBIdeal.main_arg9)) →
    ∃ (v0 : (c : Dev Cert.OutPeBIdeal.nD) → Buf (Elt Ideal) ((c.tc : Thread Cert.OutPeBIdeal.nD Cert.OutPeBIdeal.τ).loc Cert.OutPeBIdeal.main_v0)),
      θ_run (Cert.OutPeBIdeal.defs (F := Ideal)) (onTc (τ := Cert.OutPeBIdeal.τ) (Cert.OutPeBIdeal.main (F := Ideal))) ⟨m, fun _ => 0, g⟩ (fun r => ∀ c : Dev Cert.OutPeBIdeal.nD,
          r.2.mem ((c.tc : Thread Cert.OutPeBIdeal.nD Cert.OutPeBIdeal.τ).loc Cert.OutPeBIdeal.main_v0) = v0 c
          ∧ r.2.mem ((c.tc : Thread Cert.OutPeBIdeal.nD Cert.OutPeBIdeal.τ).loc Cert.OutPeBIdeal.main_arg0) = m ((c.tc : Thread Cert.OutPeBIdeal.nD Cert.OutPeBIdeal.τ).loc Cert.OutPeBIdeal.main_arg0)
          ∧ r.2.mem ((c.tc : Thread Cert.OutPeBIdeal.nD Cert.OutPeBIdeal.τ).loc Cert.OutPeBIdeal.main_arg1) = m ((c.tc : Thread Cert.OutPeBIdeal.nD Cert.OutPeBIdeal.τ).loc Cert.OutPeBIdeal.main_arg1)
          ∧ r.2.mem ((c.tc : Thread Cert.OutPeBIdeal.nD Cert.OutPeBIdeal.τ).loc Cert.OutPeBIdeal.main_arg2) = m ((c.tc : Thread Cert.OutPeBIdeal.nD Cert.OutPeBIdeal.τ).loc Cert.OutPeBIdeal.main_arg2)
          ∧ r.2.mem ((c.tc : Thread Cert.OutPeBIdeal.nD Cert.OutPeBIdeal.τ).loc Cert.OutPeBIdeal.main_arg3) = m ((c.tc : Thread Cert.OutPeBIdeal.nD Cert.OutPeBIdeal.τ).loc Cert.OutPeBIdeal.main_arg3)
          ∧ r.2.mem ((c.tc : Thread Cert.OutPeBIdeal.nD Cert.OutPeBIdeal.τ).loc Cert.OutPeBIdeal.main_arg4) = m ((c.tc : Thread Cert.OutPeBIdeal.nD Cert.OutPeBIdeal.τ).loc Cert.OutPeBIdeal.main_arg4)
          ∧ r.2.mem ((c.tc : Thread Cert.OutPeBIdeal.nD Cert.OutPeBIdeal.τ).loc Cert.OutPeBIdeal.main_arg5) = m ((c.tc : Thread Cert.OutPeBIdeal.nD Cert.OutPeBIdeal.τ).loc Cert.OutPeBIdeal.main_arg5)
          ∧ r.2.mem ((c.tc : Thread Cert.OutPeBIdeal.nD Cert.OutPeBIdeal.τ).loc Cert.OutPeBIdeal.main_arg6) = m ((c.tc : Thread Cert.OutPeBIdeal.nD Cert.OutPeBIdeal.τ).loc Cert.OutPeBIdeal.main_arg6)
          ∧ r.2.mem ((c.tc : Thread Cert.OutPeBIdeal.nD Cert.OutPeBIdeal.τ).loc Cert.OutPeBIdeal.main_arg7) = m ((c.tc : Thread Cert.OutPeBIdeal.nD Cert.OutPeBIdeal.τ).loc Cert.OutPeBIdeal.main_arg7)
          ∧ r.2.mem ((c.tc : Thread Cert.OutPeBIdeal.nD Cert.OutPeBIdeal.τ).loc Cert.OutPeBIdeal.main_arg8) = m ((c.tc : Thread Cert.OutPeBIdeal.nD Cert.OutPeBIdeal.τ).loc Cert.OutPeBIdeal.main_arg8)
          ∧ r.2.mem ((c.tc : Thread Cert.OutPeBIdeal.nD Cert.OutPeBIdeal.τ).loc Cert.OutPeBIdeal.main_arg9) = m ((c.tc : Thread Cert.OutPeBIdeal.nD Cert.OutPeBIdeal.τ).loc Cert.OutPeBIdeal.main_arg9))
      ∧ θ_run (Cert.OutPeBRefIdeal.defs (F := Ideal)) (onTc (τ := Cert.OutPeBRefIdeal.τ) (Cert.OutPeBRefIdeal.main (F := Ideal))) ⟨m', fun _ => 0, g'⟩ (fun r => ∀ c : Dev Cert.OutPeBRefIdeal.nD,
          r.2.mem ((c.tc : Thread Cert.OutPeBRefIdeal.nD Cert.OutPeBRefIdeal.τ).loc Cert.OutPeBRefIdeal.main_v37) = v0 c
          ∧ r.2.mem ((c.tc : Thread Cert.OutPeBRefIdeal.nD Cert.OutPeBRefIdeal.τ).loc Cert.OutPeBRefIdeal.main_arg0) = m' ((c.tc : Thread Cert.OutPeBRefIdeal.nD Cert.OutPeBRefIdeal.τ).loc Cert.OutPeBRefIdeal.main_arg0)
          ∧ r.2.mem ((c.tc : Thread Cert.OutPeBRefIdeal.nD Cert.OutPeBRefIdeal.τ).loc Cert.OutPeBRefIdeal.main_arg1) = m' ((c.tc : Thread Cert.OutPeBRefIdeal.nD Cert.OutPeBRefIdeal.τ).loc Cert.OutPeBRefIdeal.main_arg1)
          ∧ r.2.mem ((c.tc : Thread Cert.OutPeBRefIdeal.nD Cert.OutPeBRefIdeal.τ).loc Cert.OutPeBRefIdeal.main_arg2) = m' ((c.tc : Thread Cert.OutPeBRefIdeal.nD Cert.OutPeBRefIdeal.τ).loc Cert.OutPeBRefIdeal.main_arg2)
          ∧ r.2.mem ((c.tc : Thread Cert.OutPeBRefIdeal.nD Cert.OutPeBRefIdeal.τ).loc Cert.OutPeBRefIdeal.main_arg3) = m' ((c.tc : Thread Cert.OutPeBRefIdeal.nD Cert.OutPeBRefIdeal.τ).loc Cert.OutPeBRefIdeal.main_arg3)
          ∧ r.2.mem ((c.tc : Thread Cert.OutPeBRefIdeal.nD Cert.OutPeBRefIdeal.τ).loc Cert.OutPeBRefIdeal.main_arg4) = m' ((c.tc : Thread Cert.OutPeBRefIdeal.nD Cert.OutPeBRefIdeal.τ).loc Cert.OutPeBRefIdeal.main_arg4)
          ∧ r.2.mem ((c.tc : Thread Cert.OutPeBRefIdeal.nD Cert.OutPeBRefIdeal.τ).loc Cert.OutPeBRefIdeal.main_arg5) = m' ((c.tc : Thread Cert.OutPeBRefIdeal.nD Cert.OutPeBRefIdeal.τ).loc Cert.OutPeBRefIdeal.main_arg5)
          ∧ r.2.mem ((c.tc : Thread Cert.OutPeBRefIdeal.nD Cert.OutPeBRefIdeal.τ).loc Cert.OutPeBRefIdeal.main_arg6) = m' ((c.tc : Thread Cert.OutPeBRefIdeal.nD Cert.OutPeBRefIdeal.τ).loc Cert.OutPeBRefIdeal.main_arg6)
          ∧ r.2.mem ((c.tc : Thread Cert.OutPeBRefIdeal.nD Cert.OutPeBRefIdeal.τ).loc Cert.OutPeBRefIdeal.main_arg7) = m' ((c.tc : Thread Cert.OutPeBRefIdeal.nD Cert.OutPeBRefIdeal.τ).loc Cert.OutPeBRefIdeal.main_arg7)
          ∧ r.2.mem ((c.tc : Thread Cert.OutPeBRefIdeal.nD Cert.OutPeBRefIdeal.τ).loc Cert.OutPeBRefIdeal.main_arg8) = m' ((c.tc : Thread Cert.OutPeBRefIdeal.nD Cert.OutPeBRefIdeal.τ).loc Cert.OutPeBRefIdeal.main_arg8)
          ∧ r.2.mem ((c.tc : Thread Cert.OutPeBRefIdeal.nD Cert.OutPeBRefIdeal.τ).loc Cert.OutPeBRefIdeal.main_arg9) = m' ((c.tc : Thread Cert.OutPeBRefIdeal.nD Cert.OutPeBRefIdeal.τ).loc Cert.OutPeBRefIdeal.main_arg9))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v13_0)) (v1 : (c : Dev Cert.CompressIdeal.nD) → Buf (Elt Ideal) ((c.tc : Thread Cert.CompressIdeal.nD Cert.CompressIdeal.τ).loc Cert.CompressIdeal.main_v13_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v13_0) = v0 c
          ∧ r.2.mem ((c.tc : Thread Cert.CompressIdeal.nD Cert.CompressIdeal.τ).loc Cert.CompressIdeal.main_v13_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v63) = v0 c
          ∧ r.2.mem ((c.tc : Thread Cert.CompressRefIdeal.nD Cert.CompressRefIdeal.τ).loc Cert.CompressRefIdeal.main_v65) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7))

def preserves_AbMixer_AbMixerIdeal : Prop :=
  IdealRules.named_const.Statement Cert.AbMixerIdeal.κ "mask" .f32 0xF149F2CA#32 ⊥
  ∧ IdealRules.named_const.Statement Cert.AbMixerIdeal.κ "log_decay_0" .f32 0xBD020AEC#32 ((Real.log (31 / 32) : ℝ) : EReal)
  ∧ IdealRules.named_const.Statement Cert.AbMixerIdeal.κ "chunk_decay_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.AbMixerIdeal.κ "log_decay_1" .f32 0xBC8102B3#32 ((Real.log (63 / 64) : ℝ) : EReal)
  ∧ IdealRules.named_const.Statement Cert.AbMixerIdeal.κ "chunk_decay_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.AbMixerIdeal.κ "log_decay_2" .f32 0xBC0080AC#32 ((Real.log (127 / 128) : ℝ) : EReal)
  ∧ IdealRules.named_const.Statement Cert.AbMixerIdeal.κ "chunk_decay_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.AbMixerIdeal.κ "log_decay_3" .f32 0xBB80402B#32 ((Real.log (255 / 256) : ℝ) : EReal)
  ∧ IdealRules.named_const.Statement Cert.AbMixerIdeal.κ "chunk_decay_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_AbMixerIdeal_AbMixerRefIdeal_pre_input_gates_below_inf [hAbMixerIdeal : Cert.AbMixerIdeal.Facts] [hAbMixerRefIdeal : Cert.AbMixerRefIdeal.Facts] [hPre_input_gates_below_inf : Cert.Pre_input_gates_below_inf.Facts] : Prop :=
  ∀ (m : (ℓ : Loc Cert.AbMixerIdeal.nD Cert.AbMixerIdeal.τ Cert.AbMixerIdeal.sig) → Buf (Elt Ideal) ℓ) (g : Dev Cert.AbMixerIdeal.nD → PrngReg)
    (m' : (ℓ : Loc Cert.AbMixerRefIdeal.nD Cert.AbMixerRefIdeal.τ Cert.AbMixerRefIdeal.sig) → Buf (Elt Ideal) ℓ) (g' : Dev Cert.AbMixerRefIdeal.nD → PrngReg), Pre_AbMixerIdeal_input_gates_below_inf m →
    (∀ c : Dev Cert.AbMixerIdeal.nD,
      m' ((c.tc : Thread Cert.AbMixerRefIdeal.nD Cert.AbMixerRefIdeal.τ).loc Cert.AbMixerRefIdeal.main_arg0) = m ((c.tc : Thread Cert.AbMixerIdeal.nD Cert.AbMixerIdeal.τ).loc Cert.AbMixerIdeal.main_arg0)
      ∧ m' ((c.tc : Thread Cert.AbMixerRefIdeal.nD Cert.AbMixerRefIdeal.τ).loc Cert.AbMixerRefIdeal.main_arg1) = m ((c.tc : Thread Cert.AbMixerIdeal.nD Cert.AbMixerIdeal.τ).loc Cert.AbMixerIdeal.main_arg1)
      ∧ m' ((c.tc : Thread Cert.AbMixerRefIdeal.nD Cert.AbMixerRefIdeal.τ).loc Cert.AbMixerRefIdeal.main_arg2) = m ((c.tc : Thread Cert.AbMixerIdeal.nD Cert.AbMixerIdeal.τ).loc Cert.AbMixerIdeal.main_arg2)
      ∧ m' ((c.tc : Thread Cert.AbMixerRefIdeal.nD Cert.AbMixerRefIdeal.τ).loc Cert.AbMixerRefIdeal.main_arg3) = m ((c.tc : Thread Cert.AbMixerIdeal.nD Cert.AbMixerIdeal.τ).loc Cert.AbMixerIdeal.main_arg3)
      ∧ m' ((c.tc : Thread Cert.AbMixerRefIdeal.nD Cert.AbMixerRefIdeal.τ).loc Cert.AbMixerRefIdeal.main_arg4) = m ((c.tc : Thread Cert.AbMixerIdeal.nD Cert.AbMixerIdeal.τ).loc Cert.AbMixerIdeal.main_arg4)
      ∧ m' ((c.tc : Thread Cert.AbMixerRefIdeal.nD Cert.AbMixerRefIdeal.τ).loc Cert.AbMixerRefIdeal.main_arg5) = m ((c.tc : Thread Cert.AbMixerIdeal.nD Cert.AbMixerIdeal.τ).loc Cert.AbMixerIdeal.main_arg5)
      ∧ m' ((c.tc : Thread Cert.AbMixerRefIdeal.nD Cert.AbMixerRefIdeal.τ).loc Cert.AbMixerRefIdeal.main_arg6) = m ((c.tc : Thread Cert.AbMixerIdeal.nD Cert.AbMixerIdeal.τ).loc Cert.AbMixerIdeal.main_arg6)) →
    ∃ (v0 : (c : Dev Cert.AbMixerIdeal.nD) → Buf (Elt Ideal) ((c.tc : Thread Cert.AbMixerIdeal.nD Cert.AbMixerIdeal.τ).loc Cert.AbMixerIdeal.main_v0)),
      θ_run (Cert.AbMixerIdeal.defs (F := Ideal)) (onTc (τ := Cert.AbMixerIdeal.τ) (Cert.AbMixerIdeal.main (F := Ideal))) ⟨m, fun _ => 0, g⟩ (fun r => ∀ c : Dev Cert.AbMixerIdeal.nD,
          r.2.mem ((c.tc : Thread Cert.AbMixerIdeal.nD Cert.AbMixerIdeal.τ).loc Cert.AbMixerIdeal.main_v0) = v0 c
          ∧ r.2.mem ((c.tc : Thread Cert.AbMixerIdeal.nD Cert.AbMixerIdeal.τ).loc Cert.AbMixerIdeal.main_arg0) = m ((c.tc : Thread Cert.AbMixerIdeal.nD Cert.AbMixerIdeal.τ).loc Cert.AbMixerIdeal.main_arg0)
          ∧ r.2.mem ((c.tc : Thread Cert.AbMixerIdeal.nD Cert.AbMixerIdeal.τ).loc Cert.AbMixerIdeal.main_arg1) = m ((c.tc : Thread Cert.AbMixerIdeal.nD Cert.AbMixerIdeal.τ).loc Cert.AbMixerIdeal.main_arg1)
          ∧ r.2.mem ((c.tc : Thread Cert.AbMixerIdeal.nD Cert.AbMixerIdeal.τ).loc Cert.AbMixerIdeal.main_arg2) = m ((c.tc : Thread Cert.AbMixerIdeal.nD Cert.AbMixerIdeal.τ).loc Cert.AbMixerIdeal.main_arg2)
          ∧ r.2.mem ((c.tc : Thread Cert.AbMixerIdeal.nD Cert.AbMixerIdeal.τ).loc Cert.AbMixerIdeal.main_arg3) = m ((c.tc : Thread Cert.AbMixerIdeal.nD Cert.AbMixerIdeal.τ).loc Cert.AbMixerIdeal.main_arg3)
          ∧ r.2.mem ((c.tc : Thread Cert.AbMixerIdeal.nD Cert.AbMixerIdeal.τ).loc Cert.AbMixerIdeal.main_arg4) = m ((c.tc : Thread Cert.AbMixerIdeal.nD Cert.AbMixerIdeal.τ).loc Cert.AbMixerIdeal.main_arg4)
          ∧ r.2.mem ((c.tc : Thread Cert.AbMixerIdeal.nD Cert.AbMixerIdeal.τ).loc Cert.AbMixerIdeal.main_arg5) = m ((c.tc : Thread Cert.AbMixerIdeal.nD Cert.AbMixerIdeal.τ).loc Cert.AbMixerIdeal.main_arg5)
          ∧ r.2.mem ((c.tc : Thread Cert.AbMixerIdeal.nD Cert.AbMixerIdeal.τ).loc Cert.AbMixerIdeal.main_arg6) = m ((c.tc : Thread Cert.AbMixerIdeal.nD Cert.AbMixerIdeal.τ).loc Cert.AbMixerIdeal.main_arg6))
      ∧ θ_run (Cert.AbMixerRefIdeal.defs (F := Ideal)) (onTc (τ := Cert.AbMixerRefIdeal.τ) (Cert.AbMixerRefIdeal.main (F := Ideal))) ⟨m', fun _ => 0, g'⟩ (fun r => ∀ c : Dev Cert.AbMixerRefIdeal.nD,
          r.2.mem ((c.tc : Thread Cert.AbMixerRefIdeal.nD Cert.AbMixerRefIdeal.τ).loc Cert.AbMixerRefIdeal.main_v266) = v0 c
          ∧ r.2.mem ((c.tc : Thread Cert.AbMixerRefIdeal.nD Cert.AbMixerRefIdeal.τ).loc Cert.AbMixerRefIdeal.main_arg0) = m' ((c.tc : Thread Cert.AbMixerRefIdeal.nD Cert.AbMixerRefIdeal.τ).loc Cert.AbMixerRefIdeal.main_arg0)
          ∧ r.2.mem ((c.tc : Thread Cert.AbMixerRefIdeal.nD Cert.AbMixerRefIdeal.τ).loc Cert.AbMixerRefIdeal.main_arg1) = m' ((c.tc : Thread Cert.AbMixerRefIdeal.nD Cert.AbMixerRefIdeal.τ).loc Cert.AbMixerRefIdeal.main_arg1)
          ∧ r.2.mem ((c.tc : Thread Cert.AbMixerRefIdeal.nD Cert.AbMixerRefIdeal.τ).loc Cert.AbMixerRefIdeal.main_arg2) = m' ((c.tc : Thread Cert.AbMixerRefIdeal.nD Cert.AbMixerRefIdeal.τ).loc Cert.AbMixerRefIdeal.main_arg2)
          ∧ r.2.mem ((c.tc : Thread Cert.AbMixerRefIdeal.nD Cert.AbMixerRefIdeal.τ).loc Cert.AbMixerRefIdeal.main_arg3) = m' ((c.tc : Thread Cert.AbMixerRefIdeal.nD Cert.AbMixerRefIdeal.τ).loc Cert.AbMixerRefIdeal.main_arg3)
          ∧ r.2.mem ((c.tc : Thread Cert.AbMixerRefIdeal.nD Cert.AbMixerRefIdeal.τ).loc Cert.AbMixerRefIdeal.main_arg4) = m' ((c.tc : Thread Cert.AbMixerRefIdeal.nD Cert.AbMixerRefIdeal.τ).loc Cert.AbMixerRefIdeal.main_arg4)
          ∧ r.2.mem ((c.tc : Thread Cert.AbMixerRefIdeal.nD Cert.AbMixerRefIdeal.τ).loc Cert.AbMixerRefIdeal.main_arg5) = m' ((c.tc : Thread Cert.AbMixerRefIdeal.nD Cert.AbMixerRefIdeal.τ).loc Cert.AbMixerRefIdeal.main_arg5)
          ∧ r.2.mem ((c.tc : Thread Cert.AbMixerRefIdeal.nD Cert.AbMixerRefIdeal.τ).loc Cert.AbMixerRefIdeal.main_arg6) = m' ((c.tc : Thread Cert.AbMixerRefIdeal.nD Cert.AbMixerRefIdeal.τ).loc Cert.AbMixerRefIdeal.main_arg6))

def Claim : Prop :=
  ∃ (hNormProj : Cert.NormProj.Facts) (hNormProjIdeal : Cert.NormProjIdeal.Facts) (hNormProjRefIdeal : Cert.NormProjRefIdeal.Facts) (hOutPe : Cert.OutPe.Facts) (hOutPeIdeal : Cert.OutPeIdeal.Facts) (hOutPeRefIdeal : Cert.OutPeRefIdeal.Facts) (hNormProjB : Cert.NormProjB.Facts) (hNormProjBIdeal : Cert.NormProjBIdeal.Facts) (hNormProjBRefIdeal : Cert.NormProjBRefIdeal.Facts) (hOutPeB : Cert.OutPeB.Facts) (hOutPeBIdeal : Cert.OutPeBIdeal.Facts) (hOutPeBRefIdeal : Cert.OutPeBRefIdeal.Facts) (hCompress : Cert.Compress.Facts) (hCompressIdeal : Cert.CompressIdeal.Facts) (hCompressRefIdeal : Cert.CompressRefIdeal.Facts) (hAbMixer : Cert.AbMixer.Facts) (hAbMixerIdeal : Cert.AbMixerIdeal.Facts) (hAbMixerRefIdeal : Cert.AbMixerRefIdeal.Facts) (hPre_input_gates_below_inf : Cert.Pre_input_gates_below_inf.Facts),
    quiescent_NormProj (hNormProj := hNormProj)
    ∧ quiescent_NormProjIdeal (hNormProjIdeal := hNormProjIdeal)
    ∧ quiescent_NormProjRefIdeal (hNormProjRefIdeal := hNormProjRefIdeal)
    ∧ quiescent_OutPe (hOutPe := hOutPe)
    ∧ quiescent_OutPeIdeal (hOutPeIdeal := hOutPeIdeal)
    ∧ quiescent_OutPeRefIdeal (hOutPeRefIdeal := hOutPeRefIdeal)
    ∧ quiescent_NormProjB (hNormProjB := hNormProjB)
    ∧ quiescent_NormProjBIdeal (hNormProjBIdeal := hNormProjBIdeal)
    ∧ quiescent_NormProjBRefIdeal (hNormProjBRefIdeal := hNormProjBRefIdeal)
    ∧ quiescent_OutPeB (hOutPeB := hOutPeB)
    ∧ quiescent_OutPeBIdeal (hOutPeBIdeal := hOutPeBIdeal)
    ∧ quiescent_OutPeBRefIdeal (hOutPeBRefIdeal := hOutPeBRefIdeal)
    ∧ quiescent_Compress (hCompress := hCompress)
    ∧ quiescent_CompressIdeal (hCompressIdeal := hCompressIdeal)
    ∧ quiescent_CompressRefIdeal (hCompressRefIdeal := hCompressRefIdeal)
    ∧ quiescent_AbMixer (hAbMixer := hAbMixer)
    ∧ quiescent_AbMixerIdeal (hAbMixerIdeal := hAbMixerIdeal)
    ∧ quiescent_AbMixerIdeal_pre_input_gates_below_inf (hAbMixerIdeal := hAbMixerIdeal) (hPre_input_gates_below_inf := hPre_input_gates_below_inf)
    ∧ quiescent_AbMixerRefIdeal (hAbMixerRefIdeal := hAbMixerRefIdeal)
    ∧ quiescent_AbMixerRefIdeal_pre_input_gates_below_inf (hAbMixerRefIdeal := hAbMixerRefIdeal) (hPre_input_gates_below_inf := hPre_input_gates_below_inf)
    ∧ preserves_NormProj_NormProjIdeal
    ∧ algebraic_NormProjIdeal_NormProjRefIdeal (hNormProjIdeal := hNormProjIdeal) (hNormProjRefIdeal := hNormProjRefIdeal)
    ∧ preserves_OutPe_OutPeIdeal
    ∧ algebraic_OutPeIdeal_OutPeRefIdeal (hOutPeIdeal := hOutPeIdeal) (hOutPeRefIdeal := hOutPeRefIdeal)
    ∧ preserves_NormProjB_NormProjBIdeal
    ∧ algebraic_NormProjBIdeal_NormProjBRefIdeal (hNormProjBIdeal := hNormProjBIdeal) (hNormProjBRefIdeal := hNormProjBRefIdeal)
    ∧ preserves_OutPeB_OutPeBIdeal
    ∧ algebraic_OutPeBIdeal_OutPeBRefIdeal (hOutPeBIdeal := hOutPeBIdeal) (hOutPeBRefIdeal := hOutPeBRefIdeal)
    ∧ preserves_Compress_CompressIdeal
    ∧ algebraic_CompressIdeal_CompressRefIdeal (hCompressIdeal := hCompressIdeal) (hCompressRefIdeal := hCompressRefIdeal)
    ∧ preserves_AbMixer_AbMixerIdeal
    ∧ algebraic_AbMixerIdeal_AbMixerRefIdeal_pre_input_gates_below_inf (hAbMixerIdeal := hAbMixerIdeal) (hAbMixerRefIdeal := hAbMixerRefIdeal) (hPre_input_gates_below_inf := hPre_input_gates_below_inf)
-- ==== Pre_input_gates_below_inf.lean ====
abbrev S16384x7168 : Shape := ⟨2, ![16384, 7168]⟩
abbrev S16384x128 : Shape := ⟨2, ![16384, 128]⟩
abbrev S4x1024 : Shape := ⟨2, ![4, 1024]⟩
abbrev S1x1024 : Shape := ⟨2, ![1, 1024]⟩
abbrev S1x128 : Shape := ⟨2, ![1, 128]⟩
abbrev S16384x4 : Shape := ⟨2, ![16384, 4]⟩
abbrev S1x4 : Shape := ⟨2, ![1, 4]⟩
abbrev S_ : Shape := ⟨0, ![]⟩

class Facts : Prop where
  slices_S16384x128_S16384x4_0_0 : S16384x128.Slices ![0, 0] S16384x4
  slices_S1x128_S1x4_0_0 : S1x128.Slices ![0, 0] S1x4
  bcast_S1x4_S16384x4_0_1 : S1x4.BroadcastsInDim S16384x4 (![0, 1] : Fin 2 → Fin S16384x4.rank)
  bcast_S_S16384x4 : S_.BroadcastsInDim S16384x4 (![] : Fin 0 → Fin S16384x4.rank)

variable [Facts]

def fn {F : FTy → Type} [FloatOps F] (main_arg0 : FVec F S16384x7168 .bf16) (main_arg1 : FVec F S16384x128 .f32) (main_arg2 : FVec F S4x1024 .f32) (main_arg3 : FVec F S1x1024 .f32) (main_arg4 : FVec F S1x128 .f32) (main_arg5 : FVec F S1x1024 .f32) (main_arg6 : FVec F S1x1024 .f32) : IVec S16384x4 1 :=
  let main_v0 : FVec F S16384x4 .f32 := (extractStridedSlice S16384x4 ![0, 0] · slices_S16384x128_S16384x4_0_0) main_arg1
  let main_v1 : FVec F S1x4 .f32 := (extractStridedSlice S1x4 ![0, 0] · slices_S1x128_S1x4_0_0) main_arg4
  let main_v2 : FVec F S16384x4 .f32 := broadcastInDim S16384x4 ![0, 1] bcast_S1x4_S16384x4_0_1 main_v1
  let main_v3 : FVec F S16384x4 .f32 := addf main_v0 main_v2
  let main_cst : FVec F S_ .f32 := constant S_ .f32 0x7F800000#32
  let main_v4 : FVec F S16384x4 .f32 := broadcastInDim S16384x4 ![] bcast_S_S16384x4 main_cst
  let main_v5 : IVec S16384x4 1 := cmpf .olt main_v3 main_v4
  main_v5
-- ==== NormProj.lean ====
abbrev S16384x1024 : Shape := ⟨2, ![16384, 1024]⟩
abbrev S1x1024 : Shape := ⟨2, ![1, 1024]⟩
abbrev S128x1024 : Shape := ⟨2, ![128, 1024]⟩
abbrev S7168x1024 : Shape := ⟨2, ![7168, 1024]⟩
abbrev S16384x7168 : Shape := ⟨2, ![16384, 7168]⟩
abbrev S16384x128 : Shape := ⟨2, ![16384, 128]⟩
abbrev S512x1024 : Shape := ⟨2, ![512, 1024]⟩
abbrev S512x7168 : Shape := ⟨2, ![512, 7168]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S128x1024, .bf16⟩
  | .hbm, ⟨3, _⟩ => ⟨S7168x1024, .bf16⟩
  | .hbm, ⟨4, _⟩ => ⟨S16384x7168, .bf16⟩
  | .hbm, ⟨5, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S128x1024, .bf16⟩
  | .local _ .vmem, ⟨4, _⟩ => ⟨S7168x1024, .bf16⟩
  | .local _ .vmem, ⟨5, _⟩ => ⟨S512x7168, .bf16⟩
  | .local _ .vmem, ⟨6, _⟩ => ⟨S512x7168, .bf16⟩
  | .local _ .vmem, ⟨7, _⟩ => ⟨S512x128, .f32⟩
  | .local _ .vmem, ⟨8, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7168x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormProjRefIdeal.lean ====
abbrev S16384x1024 : Shape := ⟨2, ![16384, 1024]⟩
abbrev S1x1024 : Shape := ⟨2, ![1, 1024]⟩
abbrev S128x1024 : Shape := ⟨2, ![128, 1024]⟩
abbrev S7168x1024 : Shape := ⟨2, ![7168, 1024]⟩
abbrev S_ : Shape := ⟨0, ![]⟩
abbrev S16384 : Shape := ⟨1, ![16384]⟩
abbrev S16384x1 : Shape := ⟨2, ![16384, 1]⟩
abbrev S1024x7168 : Shape := ⟨2, ![1024, 7168]⟩
abbrev S16384x7168 : Shape := ⟨2, ![16384, 7168]⟩
abbrev S1024x128 : Shape := ⟨2, ![1024, 128]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S128x1024, .bf16⟩
  | .hbm, ⟨3, _⟩ => ⟨S7168x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S7168x1024, .f32⟩
  | .hbm, ⟨20, _⟩ => ⟨S1024x7168, .f32⟩
  | .hbm, ⟨21, _⟩ => ⟨S16384x7168, .f32⟩
  | .hbm, ⟨22, _⟩ => ⟨S16384x7168, .bf16⟩
  | .hbm, ⟨23, _⟩ => ⟨S128x1024, .f32⟩
  | .hbm, ⟨24, _⟩ => ⟨S1024x128, .f32⟩
  | .hbm, ⟨25, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutPe.lean ====
abbrev S16384x2048 : Shape := ⟨2, ![16384, 2048]⟩
abbrev S16384x1024 : Shape := ⟨2, ![16384, 1024]⟩
abbrev S2x8x2048x256 : Shape := ⟨4, ![2, 8, 2048, 256]⟩
abbrev S1024x1024 : Shape := ⟨2, ![1024, 1024]⟩
abbrev S1x1024 : Shape := ⟨2, ![1, 1024]⟩
abbrev S256x1024 : Shape := ⟨2, ![256, 1024]⟩
abbrev S512x1024 : Shape := ⟨2, ![512, 1024]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2x8x2048x256, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1x512x256, .f32⟩
  | .local _ .vmem, ⟨7, _⟩ => ⟨S1x1x512x256, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutPeRefIdeal.lean ====
abbrev S16384x2048 : Shape := ⟨2, ![16384, 2048]⟩
abbrev S16384x1024 : Shape := ⟨2, ![16384, 1024]⟩
abbrev S2x8x2048x256 : Shape := ⟨4, ![2, 8, 2048, 256]⟩
abbrev S1024x1024 : Shape := ⟨2, ![1024, 1024]⟩
abbrev S1x1024 : Shape := ⟨2, ![1, 1024]⟩
abbrev S256x1024 : Shape := ⟨2, ![256, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1x8x2048x256 : Shape := ⟨4, ![1, 8, 2048, 256]⟩
abbrev S8x2048x256 : Shape := ⟨3, ![8, 2048, 256]⟩
abbrev S16384x256 : Shape := ⟨2, ![16384, 256]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2x8x2048x256, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16384x2048, .f32⟩
  | .hbm, ⟨9, _⟩ => ⟨S2048x1024, .bf16⟩
  | .hbm, ⟨10, _⟩ => ⟨S2048x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1x8x2048x256, .f32⟩
  | .hbm, ⟨39, _⟩ => ⟨S8x2048x256, .f32⟩
  | .hbm, ⟨40, _⟩ => ⟨S16384x256, .f32⟩
  | .hbm, ⟨41, _⟩ => ⟨S256x1024, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== NormProjB.lean ====
abbrev S16384x1024 : Shape := ⟨2, ![16384, 1024]⟩
abbrev S1x1024 : Shape := ⟨2, ![1, 1024]⟩
abbrev S512x1024 : Shape := ⟨2, ![512, 1024]⟩
abbrev S4608x1024 : Shape := ⟨2, ![4608, 1024]⟩
abbrev S16384x4608 : Shape := ⟨2, ![16384, 4608]⟩
abbrev S16384x512 : Shape := ⟨2, ![16384, 512]⟩
abbrev S512x4608 : Shape := ⟨2, ![512, 4608]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S512x1024, .bf16⟩
  | .hbm, ⟨3, _⟩ => ⟨S4608x1024, .bf16⟩
  | .hbm, ⟨4, _⟩ => ⟨S16384x4608, .bf16⟩
  | .hbm, ⟨5, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S4608x1024, .bf16⟩
  | .local _ .vmem, ⟨5, _⟩ => ⟨S512x4608, .bf16⟩
  | .local _ .vmem, ⟨6, _⟩ => ⟨S512x4608, .bf16⟩
  | .local _ .vmem, ⟨7, _⟩ => ⟨S512x512, .f32⟩
  | .local _ .vmem, ⟨8, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormProjBRefIdeal.lean ====
abbrev S16384x1024 : Shape := ⟨2, ![16384, 1024]⟩
abbrev S1x1024 : Shape := ⟨2, ![1, 1024]⟩
abbrev S512x1024 : Shape := ⟨2, ![512, 1024]⟩
abbrev S4608x1024 : Shape := ⟨2, ![4608, 1024]⟩
abbrev S_ : Shape := ⟨0, ![]⟩
abbrev S16384 : Shape := ⟨1, ![16384]⟩
abbrev S16384x1 : Shape := ⟨2, ![16384, 1]⟩
abbrev S1024x4608 : Shape := ⟨2, ![1024, 4608]⟩
abbrev S16384x4608 : Shape := ⟨2, ![16384, 4608]⟩
abbrev S1024x512 : Shape := ⟨2, ![1024, 512]⟩
abbrev S16384x512 : Shape := ⟨2, ![16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S512x1024, .bf16⟩
  | .hbm, ⟨3, _⟩ => ⟨S4608x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S4608x1024, .f32⟩
  | .hbm, ⟨20, _⟩ => ⟨S1024x4608, .f32⟩
  | .hbm, ⟨21, _⟩ => ⟨S16384x4608, .f32⟩
  | .hbm, ⟨22, _⟩ => ⟨S16384x4608, .bf16⟩
  | .hbm, ⟨23, _⟩ => ⟨S512x1024, .f32⟩
  | .hbm, ⟨24, _⟩ => ⟨S1024x512, .f32⟩
  | .hbm, ⟨25, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutPeB.lean ====
abbrev S16384x1024 : Shape := ⟨2, ![16384, 1024]⟩
abbrev S16384x512 : Shape := ⟨2, ![16384, 512]⟩
abbrev S16384x4608 : Shape := ⟨2, ![16384, 4608]⟩
abbrev S2x8x2048x256 : Shape := ⟨4, ![2, 8, 2048, 256]⟩
abbrev S1024x1024 : Shape := ⟨2, ![1024, 1024]⟩
abbrev S512x1024 : Shape := ⟨2, ![512, 1024]⟩
abbrev S1x1024 : Shape := ⟨2, ![1, 1024]⟩
abbrev S256x1024 : Shape := ⟨2, ![256, 1024]⟩
abbrev S512x512 : Shape := ⟨2, ![512, 512]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x4608, .bf16⟩
  | .hbm, ⟨3, _⟩ => ⟨S16384x1024, .f32⟩
  | .hbm, ⟨4, _⟩ => ⟨S2x8x2048x256, .f32⟩
  | .hbm, ⟨5, _⟩ => ⟨S1024x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x1x512x256, .f32⟩
  | .local _ .vmem, ⟨9, _⟩ => ⟨S1x1x512x256, .f32⟩
  | .local _ .vmem, ⟨10, _⟩ => ⟨S1024x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutPeBRefIdeal.lean ====
abbrev S16384x1024 : Shape := ⟨2, ![16384, 1024]⟩
abbrev S16384x512 : Shape := ⟨2, ![16384, 512]⟩
abbrev S16384x4608 : Shape := ⟨2, ![16384, 4608]⟩
abbrev S2x8x2048x256 : Shape := ⟨4, ![2, 8, 2048, 256]⟩
abbrev S1024x1024 : Shape := ⟨2, ![1024, 1024]⟩
abbrev S512x1024 : Shape := ⟨2, ![512, 1024]⟩
abbrev S1x1024 : Shape := ⟨2, ![1, 1024]⟩
abbrev S256x1024 : Shape := ⟨2, ![256, 1024]⟩
abbrev S_ : Shape := ⟨0, ![]⟩
abbrev S16384x1536 : Shape := ⟨2, ![16384, 1536]⟩
abbrev S1536x1024 : Shape := ⟨2, ![1536, 1024]⟩
abbrev S16384 : Shape := ⟨1, ![16384]⟩
abbrev S16384x1 : Shape := ⟨2, ![16384, 1]⟩
abbrev S1x8x2048x256 : Shape := ⟨4, ![1, 8, 2048, 256]⟩
abbrev S8x2048x256 : Shape := ⟨3, ![8, 2048, 256]⟩
abbrev S16384x256 : Shape := ⟨2, ![16384, 256]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x4608, .bf16⟩
  | .hbm, ⟨3, _⟩ => ⟨S16384x1024, .f32⟩
  | .hbm, ⟨4, _⟩ => ⟨S2x8x2048x256, .f32⟩
  | .hbm, ⟨5, _⟩ => ⟨S1024x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S16384x4608, .f32⟩
  | .hbm, ⟨11, _⟩ => ⟨S16384x512, .f32⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x1536, .f32⟩
  | .hbm, ⟨25, _⟩ => ⟨S1536x1024, .bf16⟩
  | .hbm, ⟨26, _⟩ => ⟨S1536x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1024x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S1x8x2048x256, .f32⟩
  | .hbm, ⟨55, _⟩ => ⟨S8x2048x256, .f32⟩
  | .hbm, ⟨56, _⟩ => ⟨S16384x256, .f32⟩
  | .hbm, ⟨57, _⟩ => ⟨S256x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Compress.lean ====
abbrev S8x2048x4608 : Shape := ⟨3, ![8, 2048, 4608]⟩
abbrev S32x64 : Shape := ⟨2, ![32, 64]⟩
abbrev S2048x128 : Shape := ⟨2, ![2048, 128]⟩
abbrev S128x64 : Shape := ⟨2, ![128, 64]⟩
abbrev S128x128 : Shape := ⟨2, ![128, 128]⟩
abbrev S_ : Shape := ⟨0, ![]⟩
abbrev S32x128 : Shape := ⟨2, ![32, 128]⟩
abbrev S32x64x128 : Shape := ⟨3, ![32, 64, 128]⟩
abbrev S32x128x128 : Shape := ⟨3, ![32, 128, 128]⟩
abbrev S8x4x128x128 : Shape := ⟨4, ![8, 4, 128, 128]⟩
abbrev S1x2048x512 : Shape := ⟨3, ![1, 2048, 512]⟩
abbrev S1x4x128x128 : Shape := ⟨4, ![1, 4, 128, 128]⟩
abbrev S1x2048x128 : Shape := ⟨3, ![1, 2048, 128]⟩
abbrev S1x128 : Shape := ⟨2, ![1, 128]⟩
abbrev S1x128x128 : Shape := ⟨3, ![1, 128, 128]⟩
abbrev S1x1x128x128 : Shape := ⟨4, ![1, 1, 128, 128]⟩

abbrev nBuf : Space → Nat
  | .hbm => 35
  | .vmem => 14
  | .smem => 0
  | _ => 0

abbrev bufTy : (tb : Table) → Fin (tcTables nBuf tb) → BufTy
  | .hbm, ⟨0, _⟩ => ⟨S8x2048x4608, .bf16⟩
  | .hbm, ⟨1, _⟩ => ⟨S32x64, .f32⟩
  | .hbm, ⟨2, _⟩ => ⟨S32x64, .f32⟩
  | .hbm, ⟨3, _⟩ => ⟨S2048x128, .f32⟩
  | .hbm, ⟨4, _⟩ => ⟨S2048x128, .f32⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S_, .i32⟩
  | .hbm, ⟨9, _⟩ => ⟨S_, .f32⟩
  | .hbm, ⟨10, _⟩ => ⟨S32x128, .f32⟩
  | .hbm, ⟨11, _⟩ => ⟨S_, .i32⟩
  | .hbm, ⟨12, _⟩ => ⟨S_, .f32⟩
  | .hbm, ⟨13, _⟩ => ⟨S32x128, .f32⟩
  | .hbm, ⟨14, _⟩ => ⟨S32x64x128, .f32⟩
  | .hbm, ⟨15, _⟩ => ⟨S_, .i32⟩
  | .hbm, ⟨16, _⟩ => ⟨S_, .f32⟩
  | .hbm, ⟨17, _⟩ => ⟨S32x128x128, .f32⟩
  | .hbm, ⟨18, _⟩ => ⟨S32x128x128, .bf16⟩
  | .hbm, ⟨19, _⟩ => ⟨S32x64x128, .f32⟩
  | .hbm, ⟨20, _⟩ => ⟨S_, .i32⟩
  | .hbm, ⟨21, _⟩ => ⟨S_, .f32⟩
  | .hbm, ⟨22, _⟩ => ⟨S32x128x128, .f32⟩
  | .hbm, ⟨23, _⟩ => ⟨S32x128x128, .bf16⟩
  | .hbm, ⟨24, _⟩ => ⟨S_, .i32⟩
  | .hbm, ⟨25, _⟩ => ⟨S_, .f32⟩
  | .hbm, ⟨26, _⟩ => ⟨S128x128, .f32⟩
  | .hbm, ⟨27, _⟩ => ⟨S128x128, .bf16⟩
  | .hbm, ⟨28, _⟩ => ⟨S_, .i32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .bf16⟩
  | .hbm, ⟨33, _⟩ => ⟨S8x4x128x128, .bf16⟩
  | .hbm, ⟨34, _⟩ => ⟨S8x4x128x128, .bf16⟩
  | .local _ .vmem, ⟨0, _⟩ => ⟨S1x2048x512, .bf16⟩
  | .local _ .vmem, ⟨1, _⟩ => ⟨S1x2048x512, .bf16⟩
  | .local _ .vmem, ⟨2, _⟩ => ⟨S32x128, .f32⟩
  | .local _ .vmem, ⟨3, _⟩ => ⟨S32x128, .f32⟩
  | .local _ .vmem, ⟨4, _⟩ => ⟨S32x128x128, .bf16⟩
  | .local _ .vmem, ⟨5, _⟩ => ⟨S32x128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .f32⟩
  | .local _ .vmem, ⟨9, _⟩ => ⟨S1x4x128x128, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x4x128x128, .bf16⟩
  | .local _ .vmem, ⟨13, _⟩ => ⟨S2048x128, .f32⟩
  | _, _ => ⟨S8x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_call2_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_call4_v0 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_call5_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CompressRefIdeal.lean ====
abbrev S8x2048x4608 : Shape := ⟨3, ![8, 2048, 4608]⟩
abbrev S32x64 : Shape := ⟨2, ![32, 64]⟩
abbrev S2048x128 : Shape := ⟨2, ![2048, 128]⟩
abbrev S128x64 : Shape := ⟨2, ![128, 64]⟩
abbrev S128x128 : Shape := ⟨2, ![128, 128]⟩
abbrev S8x2048x512 : Shape := ⟨3, ![8, 2048, 512]⟩
abbrev S8x2048x4x2x64 : Shape := ⟨5, ![8, 2048, 4, 2, 64]⟩
abbrev S8x2048x4x1x64 : Shape := ⟨5, ![8, 2048, 4, 1, 64]⟩
abbrev S8x2048x4x64 : Shape := ⟨4, ![8, 2048, 4, 64]⟩
abbrev S8x128x16x4x64 : Shape := ⟨5, ![8, 128, 16, 4, 64]⟩
abbrev S8x127x16x4x64 : Shape := ⟨5, ![8, 127, 16, 4, 64]⟩
abbrev S8x1x16x4x64 : Shape := ⟨5, ![8, 1, 16, 4, 64]⟩
abbrev S8x128x32x4x64 : Shape := ⟨5, ![8, 128, 32, 4, 64]⟩
abbrev S1x1x32x1x64 : Shape := ⟨5, ![1, 1, 32, 1, 64]⟩
abbrev S8x128x4x32x64 : Shape := ⟨5, ![8, 128, 4, 32, 64]⟩
abbrev S8x128x4x2048 : Shape := ⟨4, ![8, 128, 4, 2048]⟩
abbrev S8x128x4x128 : Shape := ⟨4, ![8, 128, 4, 128]⟩
abbrev S_ : Shape := ⟨0, ![]⟩
abbrev S8x128x4x64 : Shape := ⟨4, ![8, 128, 4, 64]⟩
abbrev S8x4x128x128 : Shape := ⟨4, ![8, 4, 128, 128]⟩
abbrev S1x1x128x128 : Shape := ⟨4, ![1, 1, 128, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x4608, .bf16⟩
  | .hbm, ⟨1, _⟩ => ⟨S32x64, .f32⟩
  | .hbm, ⟨2, _⟩ => ⟨S32x64, .f32⟩
  | .hbm, ⟨3, _⟩ => ⟨S2048x128, .f32⟩
  | .hbm, ⟨4, _⟩ => ⟨S2048x128, .f32⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S8x2048x4608, .f32⟩
  | .hbm, ⟨9, _⟩ => ⟨S8x2048x512, .f32⟩
  | .hbm, ⟨10, _⟩ => ⟨S8x2048x4x2x64, .f32⟩
  | .hbm, ⟨11, _⟩ => ⟨S8x2048x4x1x64, .f32⟩
  | .hbm, ⟨12, _⟩ => ⟨S8x2048x4x64, .f32⟩
  | .hbm, ⟨13, _⟩ => ⟨S8x128x16x4x64, .f32⟩
  | .hbm, ⟨14, _⟩ => ⟨S8x127x16x4x64, .f32⟩
  | .hbm, ⟨15, _⟩ => ⟨S8x1x16x4x64, .f32⟩
  | .hbm, ⟨16, _⟩ => ⟨S8x128x16x4x64, .f32⟩
  | .hbm, ⟨17, _⟩ => ⟨S8x128x32x4x64, .f32⟩
  | .hbm, ⟨18, _⟩ => ⟨S1x1x32x1x64, .f32⟩
  | .hbm, ⟨19, _⟩ => ⟨S8x128x32x4x64, .f32⟩
  | .hbm, ⟨20, _⟩ => ⟨S8x128x32x4x64, .f32⟩
  | .hbm, ⟨21, _⟩ => ⟨S8x128x4x32x64, .f32⟩
  | .hbm, ⟨22, _⟩ => ⟨S8x128x4x2048, .f32⟩
  | .hbm, ⟨23, _⟩ => ⟨S8x128x4x128, .f32⟩
  | .hbm, ⟨24, _⟩ => ⟨S8x128x4x128, .f32⟩
  | .hbm, ⟨25, _⟩ => ⟨S8x128x4x128, .f32⟩
  | .hbm, ⟨26, _⟩ => ⟨S_, .f32⟩
  | .hbm, ⟨27, _⟩ => ⟨S8x128x4x128, .f32⟩
  | .hbm, ⟨28, _⟩ => ⟨S8x128x4x128, .f32⟩
  | .hbm, ⟨29, _⟩ => ⟨S8x128x4x128, .f32⟩
  | .hbm, ⟨30, _⟩ => ⟨S_, .f32⟩
  | .hbm, ⟨31, _⟩ => ⟨S8x128x4x128, .f32⟩
  | .hbm, ⟨32, _⟩ => ⟨S8x128x4x128, .f32⟩
  | .hbm, ⟨33, _⟩ => ⟨S8x128x4x128, .f32⟩
  | .hbm, ⟨34, _⟩ => ⟨S_, .f32⟩
  | .hbm, ⟨35, _⟩ => ⟨S8x128x4x128, .f32⟩
  | .hbm, ⟨36, _⟩ => ⟨S8x128x4x128, .f32⟩
  | .hbm, ⟨37, _⟩ => ⟨S_, .f32⟩
  | .hbm, ⟨38, _⟩ => ⟨S8x128x4x128, .f32⟩
  | .hbm, ⟨39, _⟩ => ⟨S8x128x4x128, .f32⟩
  | .hbm, ⟨40, _⟩ => ⟨S8x128x4x128, .f32⟩
  | .hbm, ⟨41, _⟩ => ⟨S8x128x4x64, .f32⟩
  | .hbm, ⟨42, _⟩ => ⟨S_, .i32⟩
  | .hbm, ⟨43, _⟩ => ⟨S_, .f32⟩
  | .hbm, ⟨44, _⟩ => ⟨S8x128x4x128, .f32⟩
  | .hbm, ⟨45, _⟩ => ⟨S8x2048x4x1x64, .f32⟩
  | .hbm, ⟨46, _⟩ => ⟨S8x2048x4x64, .f32⟩
  | .hbm, ⟨47, _⟩ => ⟨S8x128x16x4x64, .f32⟩
  | .hbm, ⟨48, _⟩ => ⟨S8x127x16x4x64, .f32⟩
  | .hbm, ⟨49, _⟩ => ⟨S8x1x16x4x64, .f32⟩
  | .hbm, ⟨50, _⟩ => ⟨S8x128x16x4x64, .f32⟩
  | .hbm, ⟨51, _⟩ => ⟨S8x128x32x4x64, .f32⟩
  | .hbm, ⟨52, _⟩ => ⟨S1x1x32x1x64, .f32⟩
  | .hbm, ⟨53, _⟩ => ⟨S8x128x32x4x64, .f32⟩
  | .hbm, ⟨54, _⟩ => ⟨S8x128x32x4x64, .f32⟩
  | .hbm, ⟨55, _⟩ => ⟨S8x128x4x32x64, .f32⟩
  | .hbm, ⟨56, _⟩ => ⟨S8x128x4x2048, .f32⟩
  | .hbm, ⟨57, _⟩ => ⟨S8x128x4x128, .f32⟩
  | .hbm, ⟨58, _⟩ => ⟨S8x128x4x128, .f32⟩
  | .hbm, ⟨59, _⟩ => ⟨S8x128x4x128, .f32⟩
  | .hbm, ⟨60, _⟩ => ⟨S_, .f32⟩
  | .hbm, ⟨61, _⟩ => ⟨S8x128x4x128, .f32⟩
  | .hbm, ⟨62, _⟩ => ⟨S8x128x4x128, .f32⟩
  | .hbm, ⟨63, _⟩ => ⟨S8x128x4x128, .f32⟩
  | .hbm, ⟨64, _⟩ => ⟨S_, .f32⟩
  | .hbm, ⟨65, _⟩ => ⟨S8x128x4x128, .f32⟩
  | .hbm, ⟨66, _⟩ => ⟨S8x128x4x128, .f32⟩
  | .hbm, ⟨67, _⟩ => ⟨S8x128x4x128, .f32⟩
  | .hbm, ⟨68, _⟩ => ⟨S_, .f32⟩
  | .hbm, ⟨69, _⟩ => ⟨S8x128x4x128, .f32⟩
  | .hbm, ⟨70, _⟩ => ⟨S8x128x4x128, .f32⟩
  | .hbm, ⟨71, _⟩ => ⟨S_, .f32⟩
  | .hbm, ⟨72, _⟩ => ⟨S8x128x4x128, .f32⟩
  | .hbm, ⟨73, _⟩ => ⟨S8x128x4x128, .f32⟩
  | .hbm, ⟨74, _⟩ => ⟨S8x128x4x128, .f32⟩
  | .hbm, ⟨75, _⟩ => ⟨S8x128x4x64, .f32⟩
  | .hbm, ⟨76, _⟩ => ⟨S_, .i32⟩
  | .hbm, ⟨77, _⟩ => ⟨S_, .f32⟩
  | .hbm, ⟨78, _⟩ => ⟨S8x128x4x128, .f32⟩
  | .hbm, ⟨79, _⟩ => ⟨S8x4x128x128, .f32⟩
  | .hbm, ⟨80, _⟩ => ⟨S1x1x128x128, .f32⟩
  | .hbm, ⟨81, _⟩ => ⟨S8x4x128x128, .f32⟩
  | .hbm, ⟨82, _⟩ => ⟨S8x4x128x128, .f32⟩
  | .hbm, ⟨83, _⟩ => ⟨S8x4x128x128, .bf16⟩
  | .hbm, ⟨84, _⟩ => ⟨S8x4x128x128, .f32⟩
  | .hbm, ⟨85, _⟩ => ⟨S8x4x128x128, .bf16⟩
  | _, _ => ⟨S8x2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_7 : Ref sig .tc := ⟨.hbm, 76, rfl⟩
abbrev main_call1_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== AbMixer.lean ====
abbrev S16384x7168 : Shape := ⟨2, ![16384, 7168]⟩
abbrev S16384x128 : Shape := ⟨2, ![16384, 128]⟩
abbrev S4x1024 : Shape := ⟨2, ![4, 1024]⟩
abbrev S1x1024 : Shape := ⟨2, ![1, 1024]⟩
abbrev S1x128 : Shape := ⟨2, ![1, 128]⟩
abbrev S16384x2048 : Shape := ⟨2, ![16384, 2048]⟩
abbrev S128x7168 : Shape := ⟨2, ![128, 7168]⟩
abbrev S128x128 : Shape := ⟨2, ![128, 128]⟩
abbrev S128x2048 : Shape := ⟨2, ![128, 2048]⟩
abbrev S136x1024 : Shape := ⟨2, ![136, 1024]⟩
abbrev S4x128x256 : Shape := ⟨3, ![4, 128, 256]⟩
abbrev S8x128 : Shape := ⟨2, ![8, 128]⟩
abbrev S8x1024 : Shape := ⟨2, ![8, 1024]⟩
abbrev S128x1 : Shape := ⟨2, ![128, 1]⟩
abbrev S128x256 : Shape := ⟨2, ![128, 256]⟩
abbrev S1x128x256 : Shape := ⟨3, ![1, 128, 256]⟩
abbrev S1x256 : Shape := ⟨2, ![1, 256]⟩
abbrev S128 : Shape := ⟨1, ![128]⟩
abbrev S128x1024 : Shape := ⟨2, ![128, 1024]⟩
abbrev S8x1 : Shape := ⟨2, ![8, 1]⟩
abbrev S8 : Shape := ⟨1, ![8]⟩
abbrev S120x128 : Shape := ⟨2, ![120, 128]⟩
abbrev S1x1 : Shape := ⟨2, ![1, 1]⟩

abbrev nBuf : Space → Nat
  | .hbm => 8
  | .vmem => 16
  | .smem => 0
  | _ => 0

abbrev bufTy : (tb : Table) → Fin (tcTables nBuf tb) → BufTy
  | .hbm, ⟨0, _⟩ => ⟨S16384x7168, .bf16⟩
  | .hbm, ⟨1, _⟩ => ⟨S16384x128, .f32⟩
  | .hbm, ⟨2, _⟩ => ⟨S4x1024, .f32⟩
  | .hbm, ⟨3, _⟩ => ⟨S1x1024, .f32⟩
  | .hbm, ⟨4, _⟩ => ⟨S1x128, .f32⟩
  | .hbm, ⟨5, _⟩ => ⟨S1x1024, .f32⟩
  | .hbm, ⟨6, _⟩ => ⟨S1x1024, .f32⟩
  | .hbm, ⟨7, _⟩ => ⟨S16384x2048, .bf16⟩
  | .local _ .vmem, ⟨0, _⟩ => ⟨S128x7168, .bf16⟩
  | .local _ .vmem, ⟨1, _⟩ => ⟨S128x7168, .bf16⟩
  | .local _ .vmem, ⟨2, _⟩ => ⟨S128x128, .f32⟩
  | .local _ .vmem, ⟨3, _⟩ => ⟨S128x128, .f32⟩
  | .local _ .vmem, ⟨4, _⟩ => ⟨S4x1024, .f32⟩
  | .local _ .vmem, ⟨5, _⟩ => ⟨S1x1024, .f32⟩
  | .local _ .vmem, ⟨6, _⟩ => ⟨S1x128, .f32⟩
  | .local _ .vmem, ⟨7, _⟩ => ⟨S1x1024, .f32⟩
  | .local _ .vmem, ⟨8, _⟩ => ⟨S1x1024, .f32⟩
  | .local _ .vmem, ⟨9, _⟩ => ⟨S128x2048, .bf16⟩
  | .local _ .vmem, ⟨10, _⟩ => ⟨S128x2048, .bf16⟩
  | .local _ .vmem, ⟨11, _⟩ => ⟨S136x1024, .f32⟩
  | .local _ .vmem, ⟨12, _⟩ => ⟨S4x128x256, .f32⟩
  | .local _ .vmem, ⟨13, _⟩ => ⟨S4x128x256, .f32⟩
  | .local _ .vmem, ⟨14, _⟩ => ⟨S8x128, .f32⟩
  | .local _ .vmem, ⟨15, _⟩ => ⟨S8x128, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AbMixerIdeal.lean ====
variable {F : FTy → Type} [FloatOps F] [Named F]
def κ : String → Option EReal := fun
  | "chunk_decay_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_decay_0" => some ((Real.log (31 / 32) : ℝ) : EReal)
  | "log_decay_1" => some ((Real.log (63 / 64) : ℝ) : EReal)
  | "log_decay_2" => some ((Real.log (127 / 128) : ℝ) : EReal)
  | "log_decay_3" => some ((Real.log (255 / 256) : ℝ) : EReal)
  | "mask" => some ⊥
  | _ => none
-- ==== AbMixerRefIdeal.lean ====
abbrev S16384x7168 : Shape := ⟨2, ![16384, 7168]⟩
abbrev S16384x128 : Shape := ⟨2, ![16384, 128]⟩
abbrev S4x1024 : Shape := ⟨2, ![4, 1024]⟩
abbrev S1x1024 : Shape := ⟨2, ![1, 1024]⟩
abbrev S1x128 : Shape := ⟨2, ![1, 128]⟩
abbrev S4 : Shape := ⟨1, ![4]⟩
abbrev S8x2048x7168 : Shape := ⟨3, ![8, 2048, 7168]⟩
abbrev S8x2048x128 : Shape := ⟨3, ![8, 2048, 128]⟩
abbrev S8x2048x512 : Shape := ⟨3, ![8, 2048, 512]⟩
abbrev S8x2048x1024 : Shape := ⟨3, ![8, 2048, 1024]⟩
abbrev S128 : Shape := ⟨1, ![128]⟩
abbrev S128x1 : Shape := ⟨2, ![128, 1]⟩
abbrev S128x128 : Shape := ⟨2, ![128, 128]⟩
abbrev S8x16x128x4x128 : Shape := ⟨5, ![8, 16, 128, 4, 128]⟩
abbrev S_ : Shape := ⟨0, ![]⟩
abbrev S8x16x128x4x256 : Shape := ⟨5, ![8, 16, 128, 4, 256]⟩
abbrev S1x128x128 : Shape := ⟨3, ![1, 128, 128]⟩
abbrev S4x1x1 : Shape := ⟨3, ![4, 1, 1]⟩
abbrev S4x128x128 : Shape := ⟨3, ![4, 128, 128]⟩
abbrev S8x16x4x128x128 : Shape := ⟨5, ![8, 16, 4, 128, 128]⟩
abbrev S1x1x4x128x128 : Shape := ⟨5, ![1, 1, 4, 128, 128]⟩
abbrev S8x16x4x256x128 : Shape := ⟨5, ![8, 16, 4, 256, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x16x4x128x256 : Shape := ⟨5, ![8, 16, 4, 128, 256]⟩
abbrev S1024 : Shape := ⟨1, ![1024]⟩
abbrev S8x2051x1024 : Shape := ⟨3, ![8, 2051, 1024]⟩
abbrev S1x1x1024 : Shape := ⟨3, ![1, 1, 1024]⟩
abbrev S8x2048x4 : Shape := ⟨3, ![8, 2048, 4]⟩
abbrev S8x16x128x4 : Shape := ⟨4, ![8, 16, 128, 4]⟩
abbrev S8x16x4x128 : Shape := ⟨4, ![8, 16, 4, 128]⟩
abbrev S8x16x4x1 : Shape := ⟨4, ![8, 16, 4, 1]⟩
abbrev S8x16x4 : Shape := ⟨3, ![8, 16, 4]⟩
abbrev S8x16x128x4x1 : Shape := ⟨5, ![8, 16, 128, 4, 1]⟩
abbrev S8x4x128x256 : Shape := ⟨4, ![8, 4, 128, 256]⟩
abbrev S8x4x128 : Shape := ⟨3, ![8, 4, 128]⟩
abbrev S8x4 : Shape := ⟨2, ![8, 4]⟩
abbrev S16x8x4x128x256 : Shape := ⟨5, ![16, 8, 4, 128, 256]⟩
abbrev S16x8x4x128 : Shape := ⟨4, ![16, 8, 4, 128]⟩
abbrev S16x8x4 : Shape := ⟨3, ![16, 8, 4]⟩
abbrev S1x8x4x128x256 : Shape := ⟨5, ![1, 8, 4, 128, 256]⟩
abbrev S1x8x4x128 : Shape := ⟨4, ![1, 8, 4, 128]⟩
abbrev S1x8x4 : Shape := ⟨3, ![1, 8, 4]⟩
abbrev S1x4x1x1 : Shape := ⟨4, ![1, 4, 1, 1]⟩
abbrev S8x4x1x1 : Shape := ⟨4, ![8, 4, 1, 1]⟩
abbrev S8x4x1 : Shape := ⟨3, ![8, 4, 1]⟩
abbrev S8x2048x4x256 : Shape := ⟨4, ![8, 2048, 4, 256]⟩
abbrev S8x2048x4x1 : Shape := ⟨4, ![8, 2048, 4, 1]⟩
abbrev S8x16x4x128x1 : Shape := ⟨5, ![8, 16, 4, 128, 1]⟩
abbrev S8x16x4x1x128 : Shape := ⟨5, ![8, 16, 4, 1, 128]⟩
abbrev S8x2048x2048 : Shape := ⟨3, ![8, 2048, 2048]⟩
abbrev S16384x2048 : Shape := ⟨2, ![16384, 2048]⟩

abbrev nBuf : Space → Nat
  | .hbm => 449
  | .vmem => 0
  | .smem => 0
  | _ => 0

abbrev hbmTy0_0 (i : Nat) : BufTy := match i % 128 with
  | 0 => ⟨S16384x7168, .bf16⟩
  | 1 => ⟨S16384x128, .f32⟩
  | 2 => ⟨S4x1024, .f32⟩
  | 3 => ⟨S1x1024, .f32⟩
  | 4 => ⟨S1x128, .f32⟩
  | 5 => ⟨S1x1024, .f32⟩
  | 6 => ⟨S1x1024, .f32⟩
  | 7 => ⟨S4, .f32⟩
  | 8 => ⟨S16384x7168, .f32⟩
  | 9 => ⟨S8x2048x7168, .f32⟩
  | 10 => ⟨S16384x128, .f32⟩
  | 11 => ⟨S16384x128, .f32⟩
  | 12 => ⟨S8x2048x128, .f32⟩
  | 13 => ⟨S8x2048x512, .f32⟩
  | 14 => ⟨S8x2048x512, .f32⟩
  | 15 => ⟨S8x2048x1024, .f32⟩
  | 16 => ⟨S8x2048x1024, .f32⟩
  | 17 => ⟨S8x2048x512, .f32⟩
  | 18 => ⟨S8x2048x512, .f32⟩
  | 19 => ⟨S8x2048x1024, .f32⟩
  | 20 => ⟨S8x2048x1024, .f32⟩
  | 21 => ⟨S8x2048x1024, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S4, .f32⟩
  | 29 => ⟨S8x16x128x4x128, .f32⟩
  | 30 => ⟨S_, .f32⟩
  | 31 => ⟨S8x16x128x4x128, .f32⟩
  | 32 => ⟨S8x16x128x4x128, .f32⟩
  | 33 => ⟨S8x16x128x4x128, .f32⟩
  | 34 => ⟨S8x16x128x4x256, .f32⟩
  | 35 => ⟨S_, .f32⟩
  | 36 => ⟨S128x128, .f32⟩
  | 37 => ⟨S128x128, .i1⟩
  | 38 => ⟨S_, .f32⟩
  | 39 => ⟨S128x128, .f32⟩
  | 40 => ⟨S128x128, .f32⟩
  | 41 => ⟨S1x128x128, .f32⟩
  | 42 => ⟨S4x1x1, .f32⟩
  | 43 => ⟨S4x128x128, .f32⟩
  | 44 => ⟨S4x128x128, .f32⟩
  | 45 => ⟨S4x128x128, .f32⟩
  | 46 => ⟨S4x128x128, .f32⟩
  | 47 => ⟨S_, .f32⟩
  | 48 => ⟨S_, .f32⟩
  | 49 => ⟨S4x128x128, .i1⟩
  | 50 => ⟨S4x128x128, .f32⟩
  | 51 => ⟨S4x128x128, .f32⟩
  | 52 => ⟨S8x16x4x128x128, .f32⟩
  | 53 => ⟨S1x1x4x128x128, .f32⟩
  | 54 => ⟨S8x16x4x128x128, .f32⟩
  | 55 => ⟨S8x16x4x128x128, .f32⟩
  | 56 => ⟨S8x16x4x256x128, .f32⟩
  | 57 => ⟨S8x16x128x4x256, .f32⟩
  | 58 => ⟨S_, .f32⟩
  | 59 => ⟨S128, .f32⟩
  | 60 => ⟨S128, .f32⟩
  | 61 => ⟨S128x1, .f32⟩
  | 62 => ⟨S1x4, .f32⟩
  | 63 => ⟨S128x4, .f32⟩
  | 64 => ⟨S128x4, .f32⟩
  | 65 => ⟨S128x4, .f32⟩
  | 66 => ⟨S128x4, .f32⟩
  | 67 => ⟨S128x4x1, .f32⟩
  | 68 => ⟨S1x1x128x4x1, .f32⟩
  | 69 => ⟨S8x16x128x4x128, .f32⟩
  | 70 => ⟨S8x16x128x4x128, .f32⟩
  | 71 => ⟨S8x16x4x128x256, .f32⟩
  | 72 => ⟨S_, .f32⟩
  | 73 => ⟨S4, .f32⟩
  | 74 => ⟨S4, .f32⟩
  | 75 => ⟨S4, .f32⟩
  | 76 => ⟨S4x1x1, .f32⟩
  | 77 => ⟨S8x2048x1024, .f32⟩
  | 78 => ⟨S1024, .f32⟩
  | 79 => ⟨S_, .i32⟩
  | 80 => ⟨S_, .f32⟩
  | 81 => ⟨S8x2051x1024, .f32⟩
  | 82 => ⟨S1x1024, .f32⟩
  | 83 => ⟨S1024, .f32⟩
  | 84 => ⟨S8x2048x1024, .f32⟩
  | 85 => ⟨S1x1x1024, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S1x1024, .f32⟩
  | 92 => ⟨S1024, .f32⟩
  | 93 => ⟨S8x2048x1024, .f32⟩
  | 94 => ⟨S1x1x1024, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S8x2048x1024, .f32⟩
  | 101 => ⟨S1x1x1024, .f32⟩
  | 102 => ⟨S8x2048x1024, .f32⟩
  | 103 => ⟨S8x2048x1024, .f32⟩
  | 104 => ⟨S8x2048x1024, .f32⟩
  | 105 => ⟨S1x1024, .f32⟩
  | 106 => ⟨S1024, .f32⟩
  | 107 => ⟨S8x2048x1024, .f32⟩
  | 108 => ⟨S1x1x1024, .f32⟩
  | 109 => ⟨S8x2048x1024, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S8x2048x1024, .f32⟩
  | 116 => ⟨S8x2048x1024, .f32⟩
  | 117 => ⟨S_, .f32⟩
  | 118 => ⟨S8x2048x1024, .f32⟩
  | 119 => ⟨S8x2048x1024, .f32⟩
  | 120 => ⟨S_, .f32⟩
  | 121 => ⟨S8x2048x1024, .f32⟩
  | 122 => ⟨S8x2048x1024, .f32⟩
  | 123 => ⟨S8x2048x1024, .f32⟩
  | 124 => ⟨S8x2048x512, .f32⟩
  | 125 => ⟨S8x2048x512, .f32⟩
  | 126 => ⟨S8x16x128x4x128, .f32⟩
  | 127 => ⟨S8x16x128x4x128, .f32⟩
  | _ => ⟨S16384x7168, .bf16⟩

abbrev hbmTy0_1 (i : Nat) : BufTy := match i % 128 with
  | 0 => ⟨S_, .f32⟩
  | 1 => ⟨S8x16x128x4x128, .f32⟩
  | 2 => ⟨S8x16x128x4x128, .f32⟩
  | 3 => ⟨S8x16x128x4x256, .f32⟩
  | 4 => ⟨S8x2048x4, .f32⟩
  | 5 => ⟨S8x16x128x4, .f32⟩
  | 6 => ⟨S8x16x4x128, .f32⟩
  | 7 => ⟨S8x2048x4, .f32⟩
  | 8 => ⟨S8x16x128x4, .f32⟩
  | 9 => ⟨S8x16x4x128, .f32⟩
  | 10 => ⟨S8x16x4x128, .f32⟩
  | 11 => ⟨S_, .f32⟩
  | 12 => ⟨S8x16x4x128, .f32⟩
  | 13 => ⟨S8x16x4x128, .f32⟩
  | 14 => ⟨S8x16x4x128, .f32⟩
  | 15 => ⟨S8x16x4x128, .f32⟩
  | 16 => ⟨S8x16x4x128, .i1⟩
  | 17 => ⟨S8x16x4x128, .f32⟩
  | 18 => ⟨S8x16x4x128, .f32⟩
  | 19 => ⟨S8x16x4x128, .f32⟩
  | 20 => ⟨S8x16x4x128, .f32⟩
  | 21 => ⟨S8x16x4x128, .f32⟩
  | 22 => ⟨S8x16x4x128, .f32⟩
  | 23 => ⟨S8x16x4x128, .f32⟩
  | 24 => ⟨S8x16x4x128, .f32⟩
  | 25 => ⟨S8x16x4x128, .f32⟩
  | 26 => ⟨S_, .f32⟩
  | 27 => ⟨S_, .f32⟩
  | 28 => ⟨S8x16x4x128, .f32⟩
  | 29 => ⟨S8x16x4x1, .f32⟩
  | 30 => ⟨S8x16x4, .f32⟩
  | 31 => ⟨S8x16x4x1, .f32⟩
  | 32 => ⟨S8x16x4x128, .f32⟩
  | 33 => ⟨S8x16x4x128, .f32⟩
  | 34 => ⟨S8x16x4x128, .f32⟩
  | 35 => ⟨S_, .f32⟩
  | 36 => ⟨S8x16x4, .f32⟩
  | 37 => ⟨S8x16x4x1, .f32⟩
  | 38 => ⟨S8x16x4x128, .f32⟩
  | 39 => ⟨S8x16x4x128, .f32⟩
  | 40 => ⟨S8x16x4x128, .f32⟩
  | 41 => ⟨S8x16x128x4, .f32⟩
  | 42 => ⟨S8x16x128x4x1, .f32⟩
  | 43 => ⟨S8x16x128x4x128, .f32⟩
  | 44 => ⟨S8x16x128x4x128, .f32⟩
  | 45 => ⟨S8x16x4x128x256, .f32⟩
  | 46 => ⟨S_, .f32⟩
  | 47 => ⟨S8x16x4x128, .f32⟩
  | 48 => ⟨S_, .f32⟩
  | 49 => ⟨S8x4x128x256, .f32⟩
  | 50 => ⟨S_, .f32⟩
  | 51 => ⟨S8x4x128x256, .f32⟩
  | 52 => ⟨S_, .f32⟩
  | 53 => ⟨S8x4x128, .f32⟩
  | 54 => ⟨S_, .f32⟩
  | 55 => ⟨S8x4, .f32⟩
  | 56 => ⟨S16x8x4x128x256, .f32⟩
  | 57 => ⟨S16x8x4x128x256, .f32⟩
  | 58 => ⟨S16x8x4x128, .f32⟩
  | 59 => ⟨S16x8x4, .f32⟩
  | 60 => ⟨S16x8x4, .f32⟩
  | 61 => ⟨S_, .f32⟩
  | 62 => ⟨S16x8x4x128x256, .f32⟩
  | 63 => ⟨S_, .f32⟩
  | 64 => ⟨S16x8x4x128x256, .f32⟩
  | 65 => ⟨S_, .f32⟩
  | 66 => ⟨S16x8x4x128, .f32⟩
  | 67 => ⟨S_, .f32⟩
  | 68 => ⟨S16x8x4, .f32⟩
  | 69 => ⟨S_, .i32⟩
  | 70 => ⟨S16x8x4x128x256, .f32⟩
  | 71 => ⟨S16x8x4x128x256, .f32⟩
  | 72 => ⟨S16x8x4x128, .f32⟩
  | 73 => ⟨S16x8x4, .f32⟩
  | 74 => ⟨S16x8x4, .f32⟩
  | 75 => ⟨S4x1x1, .f32⟩
  | 76 => ⟨S_, .i32⟩
  | 77 => ⟨S8x4x128x256, .f32⟩
  | 78 => ⟨S8x4x128x256, .f32⟩
  | 79 => ⟨S8x4x128, .f32⟩
  | 80 => ⟨S8x4, .f32⟩
  | 81 => ⟨S16x8x4x128x256, .f32⟩
  | 82 => ⟨S16x8x4x128x256, .f32⟩
  | 83 => ⟨S16x8x4x128, .f32⟩
  | 84 => ⟨S16x8x4, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x8x4x128x256, .f32⟩
  | 92 => ⟨S8x4x128x256, .f32⟩
  | 93 => ⟨S_, .i32⟩
  | 94 => ⟨S_, .i32⟩
  | 95 => ⟨S_, .i32⟩
  | 96 => ⟨S_, .i32⟩
  | 97 => ⟨S1x8x4x128x256, .f32⟩
  | 98 => ⟨S8x4x128x256, .f32⟩
  | 99 => ⟨S_, .i32⟩
  | 100 => ⟨S_, .i32⟩
  | 101 => ⟨S_, .i32⟩
  | 102 => ⟨S1x8x4x128, .f32⟩
  | 103 => ⟨S8x4x128, .f32⟩
  | 104 => ⟨S_, .i32⟩
  | 105 => ⟨S_, .i32⟩
  | 106 => ⟨S1x8x4, .f32⟩
  | 107 => ⟨S8x4, .f32⟩
  | 108 => ⟨S_, .i32⟩
  | 109 => ⟨S_, .i32⟩
  | 110 => ⟨S1x8x4, .f32⟩
  | 111 => ⟨S8x4, .f32⟩
  | 112 => ⟨S8x4, .f32⟩
  | 113 => ⟨S8x4, .f32⟩
  | 114 => ⟨S8x4, .f32⟩
  | 115 => ⟨S8x4, .f32⟩
  | 116 => ⟨S8x4, .f32⟩
  | 117 => ⟨S8x4, .f32⟩
  | 118 => ⟨S8x4, .f32⟩
  | 119 => ⟨S1x4x1x1, .f32⟩
  | 120 => ⟨S8x4x128x256, .f32⟩
  | 121 => ⟨S8x4x128x256, .f32⟩
  | 122 => ⟨S8x4x128x256, .f32⟩
  | 123 => ⟨S8x4x1x1, .f32⟩
  | 124 => ⟨S8x4x128x256, .f32⟩
  | 125 => ⟨S8x4x128x256, .f32⟩
  | 126 => ⟨S8x4x1x1, .f32⟩
  | 127 => ⟨S8x4x128x256, .f32⟩
  | _ => ⟨S16384x7168, .bf16⟩

abbrev hbmTy0_2 (i : Nat) : BufTy := match i % 128 with
  | 0 => ⟨S8x4x128x256, .f32⟩
  | 1 => ⟨S8x4x128x256, .f32⟩
  | 2 => ⟨S8x4x1, .f32⟩
  | 3 => ⟨S8x4x128, .f32⟩
  | 4 => ⟨S8x4x128, .f32⟩
  | 5 => ⟨S8x4x1, .f32⟩
  | 6 => ⟨S8x4x128, .f32⟩
  | 7 => ⟨S8x4x128, .f32⟩
  | 8 => ⟨S8x4x128, .f32⟩
  | 9 => ⟨S1x8x4x128x256, .f32⟩
  | 10 => ⟨S_, .i32⟩
  | 11 => ⟨S_, .i32⟩
  | 12 => ⟨S_, .i32⟩
  | 13 => ⟨S_, .i32⟩
  | 14 => ⟨S16x8x4x128x256, .f32⟩
  | 15 => ⟨S1x8x4x128x256, .f32⟩
  | 16 => ⟨S_, .i32⟩
  | 17 => ⟨S_, .i32⟩
  | 18 => ⟨S_, .i32⟩
  | 19 => ⟨S_, .i32⟩
  | 20 => ⟨S16x8x4x128x256, .f32⟩
  | 21 => ⟨S1x8x4x128, .f32⟩
  | 22 => ⟨S_, .i32⟩
  | 23 => ⟨S_, .i32⟩
  | 24 => ⟨S_, .i32⟩
  | 25 => ⟨S16x8x4x128, .f32⟩
  | 26 => ⟨S1x8x4, .f32⟩
  | 27 => ⟨S_, .i32⟩
  | 28 => ⟨S_, .i32⟩
  | 29 => ⟨S16x8x4, .f32⟩
  | 30 => ⟨S_, .i32⟩
  | 31 => ⟨S_, .i32⟩
  | 32 => ⟨S8x16x4x128x256, .f32⟩
  | 33 => ⟨S8x16x4x128x256, .f32⟩
  | 34 => ⟨S8x16x4x128, .f32⟩
  | 35 => ⟨S8x16x4, .f32⟩
  | 36 => ⟨S_, .f32⟩
  | 37 => ⟨S128, .f32⟩
  | 38 => ⟨S128, .f32⟩
  | 39 => ⟨S128x1, .f32⟩
  | 40 => ⟨S1x4, .f32⟩
  | 41 => ⟨S128x4, .f32⟩
  | 42 => ⟨S128x4, .f32⟩
  | 43 => ⟨S128x4, .f32⟩
  | 44 => ⟨S128x4, .f32⟩
  | 45 => ⟨S128x4x1, .f32⟩
  | 46 => ⟨S1x1x128x4x1, .f32⟩
  | 47 => ⟨S8x16x128x4x128, .f32⟩
  | 48 => ⟨S8x16x128x4x128, .f32⟩
  | 49 => ⟨S8x16x4x256x128, .f32⟩
  | 50 => ⟨S8x16x128x4x256, .f32⟩
  | 51 => ⟨S8x16x128x4x256, .f32⟩
  | 52 => ⟨S8x2048x4x256, .f32⟩
  | 53 => ⟨S1024, .f32⟩
  | 54 => ⟨S_, .f32⟩
  | 55 => ⟨S8x2048x4, .f32⟩
  | 56 => ⟨S8x2048x4x1, .f32⟩
  | 57 => ⟨S_, .f32⟩
  | 58 => ⟨S8x2048x4x1, .f32⟩
  | 59 => ⟨S8x2048x4x1, .f32⟩
  | 60 => ⟨S8x2048x4x256, .f32⟩
  | 61 => ⟨S8x2048x4x256, .f32⟩
  | 62 => ⟨S8x2048x4x256, .f32⟩
  | 63 => ⟨S_, .f32⟩
  | 64 => ⟨S8x2048x4, .f32⟩
  | 65 => ⟨S8x2048x4x1, .f32⟩
  | 66 => ⟨S_, .f32⟩
  | 67 => ⟨S8x2048x4x1, .f32⟩
  | 68 => ⟨S8x2048x4x1, .f32⟩
  | 69 => ⟨S_, .f32⟩
  | 70 => ⟨S8x2048x4x1, .f32⟩
  | 71 => ⟨S8x2048x4x1, .f32⟩
  | 72 => ⟨S8x2048x4x1, .f32⟩
  | 73 => ⟨S8x2048x4x256, .f32⟩
  | 74 => ⟨S8x2048x4x256, .f32⟩
  | 75 => ⟨S8x2048x1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S_, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x16x4x128x1, .f32⟩
  | 90 => ⟨S8x16x4x1x128, .f32⟩
  | 91 => ⟨S8x16x4x128x128, .f32⟩
  | 92 => ⟨S8x16x4x128x128, .f32⟩
  | 93 => ⟨S8x16x4x128x128, .f32⟩
  | 94 => ⟨S8x16x4x1x128, .f32⟩
  | 95 => ⟨S8x16x4x128x128, .f32⟩
  | 96 => ⟨S8x16x4x128x128, .f32⟩
  | 97 => ⟨S_, .f32⟩
  | 98 => ⟨S128x128, .f32⟩
  | 99 => ⟨S128x128, .i1⟩
  | 100 => ⟨S_, .f32⟩
  | 101 => ⟨S_, .f32⟩
  | 102 => ⟨S8x16x4x128x128, .i1⟩
  | 103 => ⟨S8x16x4x128x128, .f32⟩
  | 104 => ⟨S8x16x4x128x128, .f32⟩
  | 105 => ⟨S8x16x4x1, .f32⟩
  | 106 => ⟨S8x16x4x128, .f32⟩
  | 107 => ⟨S8x16x4x128, .f32⟩
  | 108 => ⟨S_, .f32⟩
  | 109 => ⟨S8x16x4x128, .f32⟩
  | 110 => ⟨S8x16x4x128, .f32⟩
  | 111 => ⟨S8x16x4x128x1, .f32⟩
  | 112 => ⟨S8x16x4x128x128, .f32⟩
  | 113 => ⟨S8x16x4x128x128, .f32⟩
  | 114 => ⟨S8x16x4x128x128, .f32⟩
  | 115 => ⟨S8x16x4x128, .f32⟩
  | 116 => ⟨S8x16x4x128, .f32⟩
  | 117 => ⟨S8x16x128x4, .f32⟩
  | 118 => ⟨S8x16x4x128x128, .f32⟩
  | 119 => ⟨S8x16x4x128x128, .f32⟩
  | 120 => ⟨S8x16x4x256x128, .f32⟩
  | 121 => ⟨S8x16x128x4x256, .f32⟩
  | 122 => ⟨S8x16x128x4x1, .f32⟩
  | 123 => ⟨S8x16x4x256x128, .f32⟩
  | 124 => ⟨S8x16x128x4x256, .f32⟩
  | 125 => ⟨S8x16x128x4x256, .f32⟩
  | 126 => ⟨S8x16x128x4x256, .f32⟩
  | 127 => ⟨S8x16x128x4x256, .f32⟩
  | _ => ⟨S16384x7168, .bf16⟩

abbrev hbmTy0_3 (i : Nat) : BufTy := match i % 128 with
  | 0 => ⟨S_, .f32⟩
  | 1 => ⟨S8x16x4x128, .f32⟩
  | 2 => ⟨S8x16x128x4, .f32⟩
  | 3 => ⟨S8x16x4x128, .f32⟩
  | 4 => ⟨S8x16x128x4, .f32⟩
  | 5 => ⟨S8x16x128x4, .f32⟩
  | 6 => ⟨S8x16x128x4, .f32⟩
  | 7 => ⟨S8x16x128x4, .f32⟩
  | 8 => ⟨S8x16x128x4, .f32⟩
  | 9 => ⟨S8x16x128x4, .f32⟩
  | 10 => ⟨S8x16x128x4, .f32⟩
  | 11 => ⟨S8x16x128x4, .f32⟩
  | 12 => ⟨S8x16x128x4x1, .f32⟩
  | 13 => ⟨S8x16x128x4x256, .f32⟩
  | 14 => ⟨S8x16x128x4x256, .f32⟩
  | 15 => ⟨S8x2048x4x256, .f32⟩
  | 16 => ⟨S8x2048x4x256, .f32⟩
  | 17 => ⟨S8x2048x4x256, .f32⟩
  | 18 => ⟨S8x2048x4x256, .f32⟩
  | 19 => ⟨S_, .f32⟩
  | 20 => ⟨S8x2048x4x256, .f32⟩
  | 21 => ⟨S8x2048x4x256, .f32⟩
  | 22 => ⟨S_, .f32⟩
  | 23 => ⟨S8x2048x4x256, .f32⟩
  | 24 => ⟨S8x2048x4x256, .f32⟩
  | 25 => ⟨S8x2048x4x256, .f32⟩
  | 26 => ⟨S1024, .f32⟩
  | 27 => ⟨S_, .f32⟩
  | 28 => ⟨S8x2048x4, .f32⟩
  | 29 => ⟨S8x2048x4x1, .f32⟩
  | 30 => ⟨S_, .f32⟩
  | 31 => ⟨S8x2048x4x1, .f32⟩
  | 32 => ⟨S8x2048x4x1, .f32⟩
  | 33 => ⟨S8x2048x4x256, .f32⟩
  | 34 => ⟨S8x2048x4x256, .f32⟩
  | 35 => ⟨S8x2048x4x256, .f32⟩
  | 36 => ⟨S_, .f32⟩
  | 37 => ⟨S8x2048x4, .f32⟩
  | 38 => ⟨S8x2048x4x1, .f32⟩
  | 39 => ⟨S_, .f32⟩
  | 40 => ⟨S8x2048x4x1, .f32⟩
  | 41 => ⟨S8x2048x4x1, .f32⟩
  | 42 => ⟨S_, .f32⟩
  | 43 => ⟨S8x2048x4x1, .f32⟩
  | 44 => ⟨S8x2048x4x1, .f32⟩
  | 45 => ⟨S8x2048x4x1, .f32⟩
  | 46 => ⟨S8x2048x4x256, .f32⟩
  | 47 => ⟨S8x2048x4x256, .f32⟩
  | 48 => ⟨S8x2048x1024, .f32⟩
  | 49 => ⟨S1x1x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x2048, .f32⟩
  | 63 => ⟨S8x2048x2048, .bf16⟩
  | 64 => ⟨S16384x2048, .bf16⟩
  | _ => ⟨S16384x7168, .bf16⟩

abbrev hbmTy (i : Nat) : BufTy := match i / 128 with
  | 0 => hbmTy0_0 i
  | 1 => hbmTy0_1 i
  | 2 => hbmTy0_2 i
  | 3 => hbmTy0_3 i
  | _ => ⟨S16384x7168, .bf16⟩

abbrev bufTy : (tb : Table) → Fin (tcTables nBuf tb) → BufTy
  | .hbm, ⟨i, _⟩ => hbmTy i
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c : Ref sig .tc := ⟨.hbm, 79, rfl⟩
abbrev main_call1_v0 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_7 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_call3_v0 : Ref sig .tc := ⟨.hbm, 138, rfl⟩
abbrev main_call3_call0_cst : Ref sig .tc := ⟨.hbm, 139, rfl⟩
abbrev main_call3_call0_v0 : Ref sig .tc := ⟨.hbm, 140, rfl⟩
abbrev main_call3_call0_v1 : Ref sig .tc := ⟨.hbm, 141, rfl⟩
abbrev main_call3_call0_v2 : Ref sig .tc := ⟨.hbm, 142, rfl⟩
abbrev main_call3_call0_v3 : Ref sig .tc := ⟨.hbm, 143, rfl⟩
abbrev main_call3_call0_v4 : Ref sig .tc := ⟨.hbm, 144, rfl⟩
abbrev main_call3_call0_v5 : Ref sig .tc := ⟨.hbm, 145, rfl⟩
abbrev main_call3_call0_v6 : Ref sig .tc := ⟨.hbm, 146, rfl⟩
abbrev main_call3_call0_v7 : Ref sig .tc := ⟨.hbm, 147, rfl⟩
abbrev main_call3_call0_v8 : Ref sig .tc := ⟨.hbm, 148, rfl⟩
abbrev main_call3_call0_v9 : Ref sig .tc := ⟨.hbm, 149, rfl⟩
abbrev main_call3_call0_v10 : Ref sig .tc := ⟨.hbm, 150, rfl⟩
abbrev main_call3_call0_v11 : Ref sig .tc := ⟨.hbm, 151, rfl⟩
abbrev main_call3_v1 : Ref sig .tc := ⟨.hbm, 152, rfl⟩
abbrev main_v109 : Ref sig .tc := ⟨.hbm, 153, rfl⟩
abbrev main_call4_call0_cst : Ref sig .tc := ⟨.hbm, 154, rfl⟩
abbrev main_call4_call0_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_8 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_9 : Ref sig .tc := ⟨.hbm, 174, rfl⟩
abbrev main_v127 : Ref sig .tc := ⟨.hbm, 175, rfl⟩
abbrev main_cst_10 : Ref sig .tc := ⟨.hbm, 176, rfl⟩
abbrev main_v128 : Ref sig .tc := ⟨.hbm, 177, rfl⟩
abbrev main_cst_11 : Ref sig .tc := ⟨.hbm, 178, rfl⟩
abbrev main_v129 : Ref sig .tc := ⟨.hbm, 179, rfl⟩
abbrev main_cst_12 : Ref sig .tc := ⟨.hbm, 180, rfl⟩
abbrev main_v130 : Ref sig .tc := ⟨.hbm, 181, rfl⟩
abbrev main_cst_13 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_14 : Ref sig .tc := ⟨.hbm, 189, rfl⟩
abbrev main_v137 : Ref sig .tc := ⟨.hbm, 190, rfl⟩
abbrev main_cst_15 : Ref sig .tc := ⟨.hbm, 191, rfl⟩
abbrev main_v138 : Ref sig .tc := ⟨.hbm, 192, rfl⟩
abbrev main_cst_16 : Ref sig .tc := ⟨.hbm, 193, rfl⟩
abbrev main_v139 : Ref sig .tc := ⟨.hbm, 194, rfl⟩
abbrev main_cst_17 : Ref sig .tc := ⟨.hbm, 195, rfl⟩
abbrev main_v140 : Ref sig .tc := ⟨.hbm, 196, rfl⟩
abbrev main_c_18 : Ref sig .tc := ⟨.hbm, 197, rfl⟩
abbrev main_v141_0 : Ref sig .tc := ⟨.hbm, 198, rfl⟩
abbrev main_v141_1 : Ref sig .tc := ⟨.hbm, 199, rfl⟩
abbrev main_v141_2 : Ref sig .tc := ⟨.hbm, 200, rfl⟩
abbrev main_v141_3 : Ref sig .tc := ⟨.hbm, 201, rfl⟩
abbrev main_v141_4 : Ref sig .tc := ⟨.hbm, 202, rfl⟩
abbrev main_v141_5 : Ref sig .tc := ⟨.hbm, 203, rfl⟩
abbrev main_v141_6 : Ref sig .tc := ⟨.hbm, 204, rfl⟩
abbrev main_v141_7 : Ref sig .tc := ⟨.hbm, 205, rfl⟩
abbrev main_v141_8 : Ref sig .tc := ⟨.hbm, 206, rfl⟩
abbrev main_v141_9 : Ref sig .tc := ⟨.hbm, 207, rfl⟩
abbrev main_v141_10 : Ref sig .tc := ⟨.hbm, 208, rfl⟩
abbrev main_v141_11 : Ref sig .tc := ⟨.hbm, 209, rfl⟩
abbrev main_v141_12 : Ref sig .tc := ⟨.hbm, 210, rfl⟩
abbrev main_v141_13 : Ref sig .tc := ⟨.hbm, 211, rfl⟩
abbrev main_v141_14 : Ref sig .tc := ⟨.hbm, 212, rfl⟩
abbrev main_while0c_c_50 : Ref sig .tc := ⟨.hbm, 213, rfl⟩
abbrev main_while0c_v267 : Ref sig .tc := ⟨.hbm, 214, rfl⟩
abbrev main_while0b_call5_c : Ref sig .tc := ⟨.hbm, 215, rfl⟩
abbrev main_while0b_call5_c_0 : Ref sig .tc := ⟨.hbm, 216, rfl⟩
abbrev main_while0b_call5_c_1 : Ref sig .tc := ⟨.hbm, 217, rfl⟩
abbrev main_while0b_call5_c_2 : Ref sig .tc := ⟨.hbm, 218, rfl⟩
abbrev main_while0b_call5_v0 : Ref sig .tc := ⟨.hbm, 219, rfl⟩
abbrev main_while0b_v267 : Ref sig .tc := ⟨.hbm, 220, rfl⟩
abbrev main_while0b_call6_c : Ref sig .tc := ⟨.hbm, 221, rfl⟩
abbrev main_while0b_call6_c_0 : Ref sig .tc := ⟨.hbm, 222, rfl⟩
abbrev main_while0b_call6_c_1 : Ref sig .tc := ⟨.hbm, 223, rfl⟩
abbrev main_while0b_call6_c_2 : Ref sig .tc := ⟨.hbm, 224, rfl⟩
abbrev main_while0b_call6_v0 : Ref sig .tc := ⟨.hbm, 225, rfl⟩
abbrev main_while0b_v268 : Ref sig .tc := ⟨.hbm, 226, rfl⟩
abbrev main_while0b_call7_c : Ref sig .tc := ⟨.hbm, 227, rfl⟩
abbrev main_while0b_call7_c_0 : Ref sig .tc := ⟨.hbm, 228, rfl⟩
abbrev main_while0b_call7_c_1 : Ref sig .tc := ⟨.hbm, 229, rfl⟩
abbrev main_while0b_call7_v0 : Ref sig .tc := ⟨.hbm, 230, rfl⟩
abbrev main_while0b_v269 : Ref sig .tc := ⟨.hbm, 231, rfl⟩
abbrev main_while0b_call8_c : Ref sig .tc := ⟨.hbm, 232, rfl⟩
abbrev main_while0b_call8_c_0 : Ref sig .tc := ⟨.hbm, 233, rfl⟩
abbrev main_while0b_call8_v0 : Ref sig .tc := ⟨.hbm, 234, rfl⟩
abbrev main_while0b_v270 : Ref sig .tc := ⟨.hbm, 235, rfl⟩
abbrev main_while0b_call9_c : Ref sig .tc := ⟨.hbm, 236, rfl⟩
abbrev main_while0b_call9_c_0 : Ref sig .tc := ⟨.hbm, 237, rfl⟩
abbrev main_while0b_call9_v0 : Ref sig .tc := ⟨.hbm, 238, rfl⟩
abbrev main_while0b_v271 : Ref sig .tc := ⟨.hbm, 239, rfl⟩
abbrev main_while0b_v272 : Ref sig .tc := ⟨.hbm, 240, rfl⟩
abbrev main_while0b_v273 : Ref sig .tc := ⟨.hbm, 241, rfl⟩
abbrev main_while0b_v274 : Ref sig .tc := ⟨.hbm, 242, rfl⟩
abbrev main_while0b_v275 : Ref sig .tc := ⟨.hbm, 243, rfl⟩
abbrev main_while0b_v276 : Ref sig .tc := ⟨.hbm, 244, rfl⟩
abbrev main_while0b_v277 : Ref sig .tc := ⟨.hbm, 245, rfl⟩
abbrev main_while0b_v278 : Ref sig .tc := ⟨.hbm, 246, rfl⟩
abbrev main_while0b_v279 : Ref sig .tc := ⟨.hbm, 247, rfl⟩
abbrev main_while0b_v280 : Ref sig .tc := ⟨.hbm, 248, rfl⟩
abbrev main_while0b_v281 : Ref sig .tc := ⟨.hbm, 249, rfl⟩
abbrev main_while0b_v282 : Ref sig .tc := ⟨.hbm, 250, rfl⟩
abbrev main_while0b_v283 : Ref sig .tc := ⟨.hbm, 251, rfl⟩
abbrev main_while0b_v284 : Ref sig .tc := ⟨.hbm, 252, rfl⟩
abbrev main_while0b_v285 : Ref sig .tc := ⟨.hbm, 253, rfl⟩
abbrev main_while0b_v286 : Ref sig .tc := ⟨.hbm, 254, rfl⟩
abbrev main_while0b_v287 : Ref sig .tc := ⟨.hbm, 255, rfl⟩
abbrev main_while0b_v288 : Ref sig .tc := ⟨.hbm, 256, rfl⟩
abbrev main_while0b_v289 : Ref sig .tc := ⟨.hbm, 257, rfl⟩
abbrev main_while0b_v290 : Ref sig .tc := ⟨.hbm, 258, rfl⟩
abbrev main_while0b_v291 : Ref sig .tc := ⟨.hbm, 259, rfl⟩
abbrev main_while0b_v292 : Ref sig .tc := ⟨.hbm, 260, rfl⟩
abbrev main_while0b_v293 : Ref sig .tc := ⟨.hbm, 261, rfl⟩
abbrev main_while0b_v294 : Ref sig .tc := ⟨.hbm, 262, rfl⟩
abbrev main_while0b_v295 : Ref sig .tc := ⟨.hbm, 263, rfl⟩
abbrev main_while0b_v296 : Ref sig .tc := ⟨.hbm, 264, rfl⟩
abbrev main_while0b_call10_v0 : Ref sig .tc := ⟨.hbm, 265, rfl⟩
abbrev main_while0b_call10_c : Ref sig .tc := ⟨.hbm, 266, rfl⟩
abbrev main_while0b_call10_c_0 : Ref sig .tc := ⟨.hbm, 267, rfl⟩
abbrev main_while0b_call10_c_1 : Ref sig .tc := ⟨.hbm, 268, rfl⟩
abbrev main_while0b_call10_c_2 : Ref sig .tc := ⟨.hbm, 269, rfl⟩
abbrev main_while0b_v297 : Ref sig .tc := ⟨.hbm, 270, rfl⟩
abbrev main_while0b_call11_v0 : Ref sig .tc := ⟨.hbm, 271, rfl⟩
abbrev main_while0b_call11_c : Ref sig .tc := ⟨.hbm, 272, rfl⟩
abbrev main_while0b_call11_c_0 : Ref sig .tc := ⟨.hbm, 273, rfl⟩
abbrev main_while0b_call11_c_1 : Ref sig .tc := ⟨.hbm, 274, rfl⟩
abbrev main_while0b_call11_c_2 : Ref sig .tc := ⟨.hbm, 275, rfl⟩
abbrev main_while0b_v298 : Ref sig .tc := ⟨.hbm, 276, rfl⟩
abbrev main_while0b_call12_v0 : Ref sig .tc := ⟨.hbm, 277, rfl⟩
abbrev main_while0b_call12_c : Ref sig .tc := ⟨.hbm, 278, rfl⟩
abbrev main_while0b_call12_c_0 : Ref sig .tc := ⟨.hbm, 279, rfl⟩
abbrev main_while0b_call12_c_1 : Ref sig .tc := ⟨.hbm, 280, rfl⟩
abbrev main_while0b_v299 : Ref sig .tc := ⟨.hbm, 281, rfl⟩
abbrev main_while0b_call13_v0 : Ref sig .tc := ⟨.hbm, 282, rfl⟩
abbrev main_while0b_call13_c : Ref sig .tc := ⟨.hbm, 283, rfl⟩
abbrev main_while0b_call13_c_0 : Ref sig .tc := ⟨.hbm, 284, rfl⟩
abbrev main_while0b_v300 : Ref sig .tc := ⟨.hbm, 285, rfl⟩
abbrev main_while0b_c_50 : Ref sig .tc := ⟨.hbm, 286, rfl⟩
abbrev main_while0b_v301 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_cst_19 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_v159 : Ref sig .tc := ⟨.hbm, 306, rfl⟩
abbrev main_v160 : Ref sig .tc := ⟨.hbm, 307, rfl⟩
abbrev main_v161 : Ref sig .tc := ⟨.hbm, 308, rfl⟩
abbrev main_v162 : Ref sig .tc := ⟨.hbm, 309, rfl⟩
abbrev main_cst_20 : Ref sig .tc := ⟨.hbm, 310, rfl⟩
abbrev main_v163 : Ref sig .tc := ⟨.hbm, 311, rfl⟩
abbrev main_v164 : Ref sig .tc := ⟨.hbm, 312, rfl⟩
abbrev main_cst_21 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_cst_22 : Ref sig .tc := ⟨.hbm, 319, rfl⟩
abbrev main_v170 : Ref sig .tc := ⟨.hbm, 320, rfl⟩
abbrev main_v171 : Ref sig .tc := ⟨.hbm, 321, rfl⟩
abbrev main_cst_23 : Ref sig .tc := ⟨.hbm, 322, rfl⟩
abbrev main_v172 : Ref sig .tc := ⟨.hbm, 323, rfl⟩
abbrev main_v173 : Ref sig .tc := ⟨.hbm, 324, rfl⟩
abbrev main_cst_24 : Ref sig .tc := ⟨.hbm, 325, rfl⟩
abbrev main_v174 : Ref sig .tc := ⟨.hbm, 326, rfl⟩
abbrev main_v175 : Ref sig .tc := ⟨.hbm, 327, rfl⟩
abbrev main_v176 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_v180 : Ref sig .tc := ⟨.hbm, 332, rfl⟩
abbrev main_v181 : Ref sig .tc := ⟨.hbm, 333, rfl⟩
abbrev main_v182 : Ref sig .tc := ⟨.hbm, 334, rfl⟩
abbrev main_call14_v0 : Ref sig .tc := ⟨.hbm, 335, rfl⟩
abbrev main_call14_v1 : Ref sig .tc := ⟨.hbm, 336, rfl⟩
abbrev main_call14_cst : Ref sig .tc := ⟨.hbm, 337, rfl⟩
abbrev main_call14_v2 : Ref sig .tc := ⟨.hbm, 338, rfl⟩
abbrev main_call14_v3 : Ref sig .tc := ⟨.hbm, 339, rfl⟩
abbrev main_call14_cst_0 : Ref sig .tc := ⟨.hbm, 340, rfl⟩
abbrev main_call14_v4 : Ref sig .tc := ⟨.hbm, 341, rfl⟩
abbrev main_call14_v5 : Ref sig .tc := ⟨.hbm, 342, rfl⟩
abbrev main_v183 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_v190 : Ref sig .tc := ⟨.hbm, 350, rfl⟩
abbrev main_v191 : Ref sig .tc := ⟨.hbm, 351, rfl⟩
abbrev main_v192 : Ref sig .tc := ⟨.hbm, 352, rfl⟩
abbrev main_cst_25 : Ref sig .tc := ⟨.hbm, 353, rfl⟩
abbrev main_v193 : Ref sig .tc := ⟨.hbm, 354, rfl⟩
abbrev main_v194 : Ref sig .tc := ⟨.hbm, 355, rfl⟩
abbrev main_cst_26 : Ref sig .tc := ⟨.hbm, 356, rfl⟩
abbrev main_call15_v0 : Ref sig .tc := ⟨.hbm, 357, rfl⟩
abbrev main_call15_v1 : Ref sig .tc := ⟨.hbm, 358, rfl⟩
abbrev main_call15_v2 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_v198 : Ref sig .tc := ⟨.hbm, 363, rfl⟩
abbrev main_cst_27 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_v212 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_v217 : Ref sig .tc := ⟨.hbm, 383, rfl⟩
abbrev main_cst_28 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_v224 : Ref sig .tc := ⟨.hbm, 391, rfl⟩
abbrev main_v225 : Ref sig .tc := ⟨.hbm, 392, rfl⟩
abbrev main_v226 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_cst_29 : Ref sig .tc := ⟨.hbm, 403, rfl⟩
abbrev main_v236 : Ref sig .tc := ⟨.hbm, 404, rfl⟩
abbrev main_v237 : Ref sig .tc := ⟨.hbm, 405, rfl⟩
abbrev main_cst_30 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_v241 : Ref sig .tc := ⟨.hbm, 410, rfl⟩
abbrev main_cst_31 : Ref sig .tc := ⟨.hbm, 411, rfl⟩
abbrev main_v242 : Ref sig .tc := ⟨.hbm, 412, rfl⟩
abbrev main_v243 : Ref sig .tc := ⟨.hbm, 413, rfl⟩
abbrev main_cst_32 : Ref sig .tc := ⟨.hbm, 414, rfl⟩
abbrev main_v244 : Ref sig .tc := ⟨.hbm, 415, rfl⟩
abbrev main_v245 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_cst_33 : Ref sig .tc := ⟨.hbm, 420, rfl⟩
abbrev main_v249 : Ref sig .tc := ⟨.hbm, 421, rfl⟩
abbrev main_v250 : Ref sig .tc := ⟨.hbm, 422, rfl⟩
abbrev main_cst_34 : Ref sig .tc := ⟨.hbm, 423, rfl⟩
abbrev main_v251 : Ref sig .tc := ⟨.hbm, 424, rfl⟩
abbrev main_v252 : Ref sig .tc := ⟨.hbm, 425, rfl⟩
abbrev main_cst_35 : Ref sig .tc := ⟨.hbm, 426, rfl⟩
abbrev main_v253 : Ref sig .tc := ⟨.hbm, 427, rfl⟩
abbrev main_v254 : Ref sig .tc := ⟨.hbm, 428, rfl⟩
abbrev main_v255 : Ref sig .tc := ⟨.hbm, 429, rfl⟩
abbrev main_v256 : Ref sig .tc := ⟨.hbm, 430, rfl⟩
abbrev main_v257 : Ref sig .tc := ⟨.hbm, 431, rfl⟩
abbrev main_v258 : Ref sig .tc := ⟨.hbm, 432, rfl⟩
abbrev main_v259 : Ref sig .tc := ⟨.hbm, 433, rfl⟩
abbrev main_v260 : Ref sig .tc := ⟨.hbm, 434, rfl⟩
abbrev main_v261 : Ref sig .tc := ⟨.hbm, 435, rfl⟩
abbrev main_call16_v0 : Ref sig .tc := ⟨.hbm, 436, rfl⟩
abbrev main_call16_v1 : Ref sig .tc := ⟨.hbm, 437, rfl⟩
abbrev main_call16_cst : Ref sig .tc := ⟨.hbm, 438, rfl⟩
abbrev main_call16_v2 : Ref sig .tc := ⟨.hbm, 439, rfl⟩
abbrev main_call16_v3 : Ref sig .tc := ⟨.hbm, 440, rfl⟩
abbrev main_call16_cst_0 : Ref sig .tc := ⟨.hbm, 441, rfl⟩
abbrev main_call16_v4 : Ref sig .tc := ⟨.hbm, 442, rfl⟩
abbrev main_call16_v5 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_v265 : Ref sig .tc := ⟨.hbm, 447, rfl⟩
abbrev main_v266 : Ref sig .tc := ⟨.hbm, 448, rfl⟩

abbrev nD : Nat := 1
abbrev τ : Topo := Topo.v7x

variable {F : FTy → Type} [FloatOps F]

abbrev main_while0_count : Scf.Loop 32 := ⟨0#32, 16#32, 1#32⟩
-- ==== Proof.Spec.lean ====
/-
  The mathematics of the two dense stages of a layer over extended reals, shared by both layers: a row normalised by its
  root mean square and scaled (`nrm`), and a projection of such a row (`proj`).
-/
module

public import Idealize.ShloMosaic.Lib.Pipeline.ValueKit
public import Idealize.ShloMosaic.Lib.Pointwise

@[expose] public section

noncomputable section

namespace Cert.Spec

open Idealize.ShloMosaic

/-- A row `x` of 1024 numbers divided by its root mean square, times the scales `g`, at position `k`. -/
def nrm (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The product of the normalised row `x` with the row `w` of a weight. -/
def proj (x g w : Fin 1024 → EReal) : EReal := ∑ k, nrm x g k * w k

theorem proj_congr {x x' g g' w w' : Fin 1024 → EReal} (hx : ∀ k, x k = x' k) (hg : ∀ k, g k = g' k)
    (hw : ∀ k, w k = w' k) : proj x g w = proj x' g' w' := by
  rw [funext hx, funext hg, funext hw]

/-- `1 / (1 + e^(-z))`. -/
def sgm (z : EReal) : EReal := Ideal.div 1 (1 + Ideal.exp (-z))

/-- One entry of the stage that closes a layer: the row `h` plus the normalised row `y`, and to that the gate
    (`sgm` of its product with `wg`) times the product of the row `p` with `wp`. -/
def close (y h g : Fin 1024 → EReal) (wg : Fin 1024 → Fin 1024 → EReal) (p : Fin 256 → EReal) (wp : Fin 256 → Fin 1024 → EReal)
    (n : Fin 1024) : EReal :=
  (h n + nrm y g n) + sgm (∑ k, (h k + nrm y g k) * wg k n) * ∑ j, p j * wp j n

theorem close_congr {y y' h h' g g' : Fin 1024 → EReal} {wg wg' : Fin 1024 → Fin 1024 → EReal} {p p' : Fin 256 → EReal}
    {wp wp' : Fin 256 → Fin 1024 → EReal} {n : Fin 1024} (hy : ∀ k, y k = y' k) (hh : ∀ k, h k = h' k) (hg : ∀ k, g k = g' k)
    (hwg : ∀ k n, wg k n = wg' k n) (hp : ∀ k, p k = p' k) (hwp : ∀ k n, wp k n = wp' k n) :
    close y h g wg p wp n = close y' h' g' wg' p' wp' n := by
  rw [funext hy, funext hh, funext hg, funext hp, (funext fun k => funext (hwg k) : wg = wg'),
    (funext fun k => funext (hwp k) : wp = wp')]

end Cert.Spec

end
-- ==== Proof.NormProj.lean ====
/-
  The first layer's projection: every block the pipelined kernel writes is, entry by entry, the projection of the
  normalised rows (`Spec.proj`), and so is the reference's term.
-/
module

public import proofs.«01_k».proof.Proof.Gen.NormProjIdeal.Value
public import proofs.«01_k».proof.Proof.Gen.NormProjRefIdeal.Run
public import proofs.«01_k».proof.Proof.Spec
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NP

open Cert.NormProjIdeal Cert.NormProjIdeal.Gen

variable (m : (ℓ : Loc nD τ sig) → Buf (Elt Ideal) ℓ)

/-- The wide result from the four arguments. -/
def mainOf (X : Vec Ideal S16384x1024 .f32) (G : Vec Ideal S1x1024 .f32) (W : Vec Ideal S7168x1024 .bf16) :
    Vec Ideal S16384x7168 .bf16 :=
  fun i => Spec.proj (fun k => X (ix2 (i 0) k)) (fun k => G (ix2 0 k)) (fun k => W (ix2 (i 1) k))

/-- The gate result from the four arguments. -/
def gateOf (X : Vec Ideal S16384x1024 .f32) (G : Vec Ideal S1x1024 .f32) (W : Vec Ideal S128x1024 .bf16) :
    Vec Ideal S16384x128 .f32 :=
  fun i => Spec.proj (fun k => X (ix2 (i 0) k)) (fun k => G (ix2 0 k)) (fun k => W (ix2 (i 1) k))

/-- The windows' block indices at every point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The normalised block at an index. -/
theorem pay5_at (x : Vec Ideal S512x1024 .f32) (g : Vec Ideal S1x1024 .f32) (a : Fin 512) (k : Fin 1024) :
    k0_pay5 (F := Ideal) x g (ix2 a k) = Spec.nrm (fun k => x (ix2 a k)) (fun k => g (ix2 0 k)) k := by
  pointwise [k0_pay5, Spec.nrm]

/-- What a block of the wide result is, from the blocks loaded. -/
def blkMain (x : Vec Ideal S512x1024 .f32) (g : Vec Ideal S1x1024 .f32) (w : Vec Ideal S7168x1024 .bf16) :
    Vec Ideal S512x7168 .bf16 :=
  fun y => Spec.proj (fun k => x (ix2 (y 0) k)) (fun k => g (ix2 0 k)) (fun k => w (ix2 (y 1) k))

/-- The seven column tiles together are the block. -/
theorem out4_eq (x0 : Vec Ideal S512x1024 .f32) (x1 : Vec Ideal S1x1024 .f32) (x2 : Vec Ideal S128x1024 .bf16)
    (x3 : Vec Ideal S7168x1024 .bf16) (y : S512x7168.Idx) : out0_4 (F := Ideal) x0 x1 x2 x3 y = blkMain x0 x1 x3 y := by
  unfold out0_4
  refine View.canon_apply_of_pieces (blkMain x0 x1 x3) _ ?_ y (cover0_4 _ _ _ _ _ _ _ y)
  intro p hp z
  simp only [List.mem_cons, List.not_mem_nil, or_false] at hp
  rcases hp with rfl | rfl | rfl | rfl | rfl | rfl | rfl
  all_goals
    idx_vars z
    pointwise [k0_pay1, k0_pay2, k0_pay3, k0_pay6, k0_pay7, k0_pay8, k0_pay9, k0_pay10, blkMain, Spec.proj, pay5_at]
  all_goals
    refine Finset.sum_congr rfl fun k _ => congrArg₂ (· * ·) (congrArg (fun f => Spec.nrm f _ k) (funext fun j => ?_)) ?_
  all_goals blk_ext

/-- The one store of the gate block is the block. -/
theorem out5_eq (x0 : Vec Ideal S512x1024 .f32) (x1 : Vec Ideal S1x1024 .f32) (x2 : Vec Ideal S128x1024 .bf16)
    (x3 : Vec Ideal S7168x1024 .bf16) (a : Fin 512) (b : Fin 128) :
    out0_5 (F := Ideal) x0 x1 x2 x3 (ix2 a b)
      = Spec.proj (fun k => x0 (ix2 a k)) (fun k => x1 (ix2 0 k)) (fun k => x2 (ix2 b k)) := by
  frame_out
  pointwise [k0_pay4, k0_pay10, Spec.proj, pay5_at]

/-- The rows of the first argument a point loads. -/
theorem blk0 (c : Dev nD) (t : Fin cfg0.N) (a : Fin 512) (k : Fin 1024) (r : Fin 16384) (hr : r.val = t.val * 512 + a.val) :
    iblk m c 0 t (ix2 a k) = m ((c : Thread nD τ).loc main_arg0) (ix2 r k) := by
  blk_ext [iblk, V, idx t]

/-- The scales, loaded whole. -/
theorem blk1 (c : Dev nD) (t : Fin cfg0.N) (k : Fin 1024) :
    iblk m c 1 t (ix2 0 k) = m ((c : Thread nD τ).loc main_arg1) (ix2 0 k) := by
  blk_ext [iblk, V, idx t]

/-- The gate weight, loaded whole. -/
theorem blk2 (c : Dev nD) (t : Fin cfg0.N) (b : Fin 128) (k : Fin 1024) :
    iblk m c 2 t (ix2 b k) = m ((c : Thread nD τ).loc main_arg2) (ix2 b k) := by
  blk_ext [iblk, V, idx t]

/-- The wide weight, loaded whole. -/
theorem blk3 (c : Dev nD) (t : Fin cfg0.N) (b : Fin 7168) (k : Fin 1024) :
    iblk m c 3 t (ix2 b k) = m ((c : Thread nD τ).loc main_arg3) (ix2 b k) := by
  blk_ext [iblk, V, idx t]

/-- The wide result after the run. -/
theorem final4 (c : Dev nD) : (dats m 0 c).arrAt 4 cfg0.N
    = mainOf (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4]
  idx_vars y
  have ht : t.val < 32 := t.isLt
  have e : (win0_4.blk t).view.emb (ix2 y0 y1) = ix2 ⟨t.val * 512 + y0.val, by omega⟩ y1 := by blk_ext [idx t]
  rw [e, out4_eq]
  unfold blkMain mainOf
  exact Spec.proj_congr (fun k => blk0 m c t y0 k _ rfl) (fun k => blk1 m c t k) (fun k => blk3 m c t y1 k)

/-- The gate result after the run. -/
theorem final5 (c : Dev nD) : (dats m 0 c).arrAt 5 cfg0.N
    = gateOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  have ht : t.val < 32 := t.isLt
  have e : (win0_5.blk t).view.emb (ix2 y0 y1) = ix2 ⟨t.val * 512 + y0.val, by omega⟩ y1 := by blk_ext [idx t]
  rw [e, out5_eq]
  unfold gateOf
  exact Spec.proj_congr (fun k => blk0 m c t y0 k _ rfl) (fun k => blk1 m c t k) (fun k => blk2 m c t y1 k)

end Cert.NP

namespace Cert.Proof

open Cert.NP

/-- The kernel's two results are the reference's. -/
theorem normProj : Cert.algebraic_NormProjIdeal_NormProjRefIdeal
    (hNormProjIdeal := Cert.NormProjIdeal.Gen.facts) (hNormProjRefIdeal := Cert.NormProjRefIdeal.Gen.facts) := by
  pair_intro
  · run_from Cert.NormProjIdeal.Value.run_blocks m g
  · run_from Cert.NormProjRefIdeal.Value.run m' g'
    · rw [final4 m c]
      funext i
      idx_vars i
      pointwise [mainOf, Spec.proj, Spec.nrm]
    · rw [final5 m c]
      funext i
      idx_vars i
      pointwise [gateOf, Spec.proj, Spec.nrm]

end Cert.Proof

end
-- ==== Proof.OutPe.lean ====
/-
  The stage that closes the first layer: every block the pipelined kernel writes is, entry by entry, `Spec.close`, and so
  is the reference's term. The concatenated weight of the reference is the sum over its two halves.
-/
module

public import proofs.«01_k».proof.Proof.Gen.OutPeIdeal.Value
public import proofs.«01_k».proof.Proof.Gen.OutPeRefIdeal.Run
public import proofs.«01_k».proof.Proof.Spec
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OP

open Cert.OutPeIdeal Cert.OutPeIdeal.Gen

variable (m : (ℓ : Loc nD τ sig) → Buf (Elt Ideal) ℓ)

/-- The windows' block indices at every point. -/
theorem idx : ∀ t : Fin cfg0.N, win0_0.index t = ![t.val, 0] ∧ win0_1.index t = ![t.val, 1] ∧ win0_2.index t = ![t.val, 0]
    ∧ win0_3.index t = ![0, t.val / 4, t.val % 4, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

/-- The row of the two mixed halves through their weights. -/
def mixRow (a b : Fin 1024 → EReal) (wa wb : Fin 1024 → Fin 1024 → EReal) (n : Fin 1024) : EReal :=
  ∑ k, a k * wa k n + ∑ k, b k * wb k n

theorem mixRow_congr {a a' b b' : Fin 1024 → EReal} {wa wa' wb wb' : Fin 1024 → Fin 1024 → EReal} (ha : ∀ k, a k = a' k)
    (hb : ∀ k, b k = b' k) (hwa : ∀ k n, wa k n = wa' k n) (hwb : ∀ k n, wb k n = wb' k n) (n : Fin 1024) :
    mixRow a b wa wb n = mixRow a' b' wa' wb' n := by
  rw [funext ha, funext hb, (funext fun k => funext (hwa k) : wa = wa'), (funext fun k => funext (hwb k) : wb = wb')]

/-- The result from the eight arguments. -/
def outOf (A : Vec Ideal S16384x2048 .bf16) (H : Vec Ideal S16384x1024 .f32) (P : Vec Ideal S2x8x2048x256 .f32)
    (Wa Wb : Vec Ideal S1024x1024 .bf16) (G : Vec Ideal S1x1024 .f32) (Wg : Vec Ideal S1024x1024 .bf16)
    (Wp : Vec Ideal S256x1024 .bf16) : Vec Ideal S16384x1024 .f32 := fun i =>
  Spec.close (mixRow (fun k => A (ix2 (i 0) ⟨k.val, by omega⟩)) (fun k => A (ix2 (i 0) ⟨1024 + k.val, by omega⟩))
      (fun k n => Wa (ix2 k n)) (fun k n => Wb (ix2 k n)))
    (fun k => H (ix2 (i 0) k)) (fun k => G (ix2 0 k)) (fun k n => Wg (ix2 k n))
    (fun j => P (ix4 0 ⟨(i 0).val / 2048, by have : (i 0).val < 16384 := (i 0).isLt; omega⟩ ⟨(i 0).val % 2048, by omega⟩ j)) (fun k n => Wp (ix2 k n)) (i 1)

/-- The normalised sum at an index of a block. -/
theorem pay2_at (v0 v1 : Vec Ideal S512x1024 .bf16) (v2 v4 : Vec Ideal S1024x1024 .bf16) (v7 : Vec Ideal S512x1024 .f32)
    (v8 : Vec Ideal S1x1024 .f32) (a : Fin 512) (k : Fin 1024) :
    k0_pay2 (F := Ideal) v0 v1 v2 v4 v7 v8 (ix2 a k)
      = v7 (ix2 a k) + Spec.nrm (mixRow (fun k => v1 (ix2 a k)) (fun k => v0 (ix2 a k)) (fun k n => v2 (ix2 k n))
          (fun k n => v4 (ix2 k n))) (fun k => v8 (ix2 0 k)) k := by
  pointwise [k0_pay2, Spec.nrm, mixRow]

/-- What a block of the result is, from the blocks loaded. -/
theorem out9_eq (x0 x1 : Vec Ideal S512x1024 .bf16) (x2 : Vec Ideal S512x1024 .f32) (x3 : Vec Ideal S1x1x512x256 .f32)
    (x4 x5 : Vec Ideal S1024x1024 .bf16) (x6 : Vec Ideal S1x1024 .f32) (x7 : Vec Ideal S1024x1024 .bf16)
    (x8 : Vec Ideal S256x1024 .bf16) (a : Fin 512) (n : Fin 1024) :
    out0_9 (F := Ideal) x0 x1 x2 x3 x4 x5 x6 x7 x8 (ix2 a n)
      = Spec.close (mixRow (fun k => x0 (ix2 a k)) (fun k => x1 (ix2 a k)) (fun k n => x4 (ix2 k n)) (fun k n => x5 (ix2 k n)))
        (fun k => x2 (ix2 a k)) (fun k => x6 (ix2 0 k)) (fun k n => x7 (ix2 k n)) (fun j => x3 (ix4 0 0 a j))
        (fun k n => x8 (ix2 k n)) n := by
  frame_out
  pointwise [k0_pay1, k0_pay3, pay2_at, Spec.close, Spec.sgm]
  rw [zero_sub]

theorem blk0 (c : Dev nD) (t : Fin cfg0.N) (a : Fin 512) (k : Fin 1024) (r : Fin 16384) (hr : r.val = t.val * 512 + a.val) :
    iblk m c 0 t (ix2 a k) = m ((c : Thread nD τ).loc main_arg0) (ix2 r ⟨k.val, by omega⟩) := by
  blk_ext [iblk, V, idx t]
theorem blk1 (c : Dev nD) (t : Fin cfg0.N) (a : Fin 512) (k : Fin 1024) (r : Fin 16384) (hr : r.val = t.val * 512 + a.val) :
    iblk m c 1 t (ix2 a k) = m ((c : Thread nD τ).loc main_arg0) (ix2 r ⟨1024 + k.val, by omega⟩) := by
  blk_ext [iblk, V, idx t]
theorem blk2 (c : Dev nD) (t : Fin cfg0.N) (a : Fin 512) (k : Fin 1024) (r : Fin 16384) (hr : r.val = t.val * 512 + a.val) :
    iblk m c 2 t (ix2 a k) = m ((c : Thread nD τ).loc main_arg1) (ix2 r k) := by
  blk_ext [iblk, V, idx t]
theorem blk3 (c : Dev nD) (t : Fin cfg0.N) (a : Fin 512) (k : Fin 256) (d : Fin 8) (s : Fin 2048)
    (hd : d.val = (t.val * 512 + a.val) / 2048) (hs : s.val = (t.val * 512 + a.val) % 2048) :
    iblk m c 3 t (ix4 0 0 a k) = m ((c : Thread nD τ).loc main_arg2) (ix4 0 d s k) := by
  blk_ext [iblk, V, idx t]
theorem blk4 (c : Dev nD) (t : Fin cfg0.N) (a k : Fin 1024) :
    iblk m c 4 t (ix2 a k) = m ((c : Thread nD τ).loc main_arg3) (ix2 a k) := by
  blk_ext [iblk, V, idx t]
theorem blk5 (c : Dev nD) (t : Fin cfg0.N) (a k : Fin 1024) :
    iblk m c 5 t (ix2 a k) = m ((c : Thread nD τ).loc main_arg4) (ix2 a k) := by
  blk_ext [iblk, V, idx t]
theorem blk6 (c : Dev nD) (t : Fin cfg0.N) (k : Fin 1024) :
    iblk m c 6 t (ix2 0 k) = m ((c : Thread nD τ).loc main_arg5) (ix2 0 k) := by
  blk_ext [iblk, V, idx t]
theorem blk7 (c : Dev nD) (t : Fin cfg0.N) (a k : Fin 1024) :
    iblk m c 7 t (ix2 a k) = m ((c : Thread nD τ).loc main_arg6) (ix2 a k) := by
  blk_ext [iblk, V, idx t]
theorem blk8 (c : Dev nD) (t : Fin cfg0.N) (a : Fin 256) (k : Fin 1024) :
    iblk m c 8 t (ix2 a k) = m ((c : Thread nD τ).loc main_arg7) (ix2 a k) := by
  blk_ext [iblk, V, idx t]

/-- The result after the run. -/
theorem final9 (c : Dev nD) : (dats m 0 c).arrAt 9 cfg0.N
    = outOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 9 _ (by decide +kernel) fun t _ y => ?_
  blk_simp
  rw [after0_9]
  idx_vars y
  have ht : t.val < 32 := t.isLt
  have e : (win0_9.blk t).view.emb (ix2 y0 y1) = ix2 ⟨t.val * 512 + y0.val, by omega⟩ y1 := by blk_ext [idx t]
  rw [e, out9_eq]
  unfold outOf
  exact Spec.close_congr (mixRow_congr (fun k => blk0 m c t y0 k _ rfl) (fun k => blk1 m c t y0 k _ rfl)
      (fun k n => blk4 m c t k n) (fun k n => blk5 m c t k n))
    (fun k => blk2 m c t y0 k _ rfl) (fun k => blk6 m c t k) (fun k n => blk7 m c t k n)
    (fun j => blk3 m c t y0 j _ _ rfl rfl) (fun k n => blk8 m c t k n)

end Cert.OP

namespace Cert.Proof

open Cert.OP

/-- The kernel's result is the reference's. -/
theorem outPe : Cert.algebraic_OutPeIdeal_OutPeRefIdeal
    (hOutPeIdeal := Cert.OutPeIdeal.Gen.facts) (hOutPeRefIdeal := Cert.OutPeRefIdeal.Gen.facts) := by
  pair_intro
  · run_from Cert.OutPeIdeal.Value.run_blocks m g
  · run_from Cert.OutPeRefIdeal.Value.run m' g'
    rw [final9 m c]
    obtain ⟨e0, e1, e2, e3, e4, e5, e6, e7⟩ := hagree c
    unfold Cert.OutPeRefIdeal.Value.res_main_v31
    rw [e0, e1, e2, e3, e4, e5, e6, e7]
    funext i
    idx_vars i
    pointwise [outOf, Spec.close, Spec.nrm, Spec.sgm, mixRow]

end Cert.Proof

end
-- ==== Proof.NormProjB.lean ====
/-
  The second layer's projection: every block the pipelined kernel writes is, entry by entry, the projection of the
  normalised rows (`Spec.proj`), and so is the reference's term.
-/
module

public import proofs.«01_k».proof.Proof.Gen.NormProjBIdeal.Value
public import proofs.«01_k».proof.Proof.Gen.NormProjBRefIdeal.Run
public import proofs.«01_k».proof.Proof.Spec
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NPB

open Cert.NormProjBIdeal Cert.NormProjBIdeal.Gen

variable (m : (ℓ : Loc nD τ sig) → Buf (Elt Ideal) ℓ)

/-- The wide result from the four arguments. -/
def mainOf (X : Vec Ideal S16384x1024 .f32) (G : Vec Ideal S1x1024 .f32) (W : Vec Ideal S4608x1024 .bf16) :
    Vec Ideal S16384x4608 .bf16 :=
  fun i => Spec.proj (fun k => X (ix2 (i 0) k)) (fun k => G (ix2 0 k)) (fun k => W (ix2 (i 1) k))

/-- The gate result from the four arguments. -/
def gateOf (X : Vec Ideal S16384x1024 .f32) (G : Vec Ideal S1x1024 .f32) (W : Vec Ideal S512x1024 .bf16) :
    Vec Ideal S16384x512 .f32 :=
  fun i => Spec.proj (fun k => X (ix2 (i 0) k)) (fun k => G (ix2 0 k)) (fun k => W (ix2 (i 1) k))

/-- The windows' block indices at every point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The normalised block at an index. -/
theorem pay3_at (x : Vec Ideal S512x1024 .f32) (g : Vec Ideal S1x1024 .f32) (a : Fin 512) (k : Fin 1024) :
    k0_pay3 (F := Ideal) x g (ix2 a k) = Spec.nrm (fun k => x (ix2 a k)) (fun k => g (ix2 0 k)) k := by
  pointwise [k0_pay3, Spec.nrm]

/-- What a block of the wide result is, from the blocks loaded. -/
def blkMain (x : Vec Ideal S512x1024 .f32) (g : Vec Ideal S1x1024 .f32) (w : Vec Ideal S4608x1024 .bf16) :
    Vec Ideal S512x4608 .bf16 :=
  fun y => Spec.proj (fun k => x (ix2 (y 0) k)) (fun k => g (ix2 0 k)) (fun k => w (ix2 (y 1) k))

/-- The five column tiles together are the block. -/
theorem out4_eq (c : Dev nD) (t : Fin cfg0.N) (x0 : Vec Ideal S512x1024 .f32) (x1 : Vec Ideal S1x1024 .f32) (x2 : Vec Ideal S512x1024 .bf16)
    (x3 : Vec Ideal S4608x1024 .bf16) (y : S512x4608.Idx) : out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 y = blkMain x0 x1 x3 y := by
  frame_out
  refine View.canon_apply_of_pieces (blkMain x0 x1 x3) _ ?_ y (View.cover_of_tiledBy _ ![512, 512] (by sl_kernel_rfl) y)
  intro p hp z
  simp only [List.mem_cons, List.not_mem_nil, or_false] at hp
  rcases hp with rfl | rfl | rfl | rfl | rfl
  all_goals
    idx_vars z
    pointwise [k0_pay1, k0_pay4, k0_pay5, k0_pay6, k0_pay7, blkMain, Spec.proj, pay3_at]
  all_goals
    refine Finset.sum_congr rfl fun k _ => congrArg₂ (· * ·) (congrArg (fun f => Spec.nrm f _ k) (funext fun j => ?_)) ?_
  all_goals blk_ext

theorem out5_eq (c : Dev nD) (t : Fin cfg0.N) (x0 : Vec Ideal S512x1024 .f32) (x1 : Vec Ideal S1x1024 .f32) (x2 : Vec Ideal S512x1024 .bf16)
    (x3 : Vec Ideal S4608x1024 .bf16) (a : Fin 512) (b : Fin 512) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 (ix2 a b)
      = Spec.proj (fun k => x0 (ix2 a k)) (fun k => x1 (ix2 0 k)) (fun k => x2 (ix2 b k)) := by
  frame_out
  pointwise [k0_pay2, Spec.proj, pay3_at]

/-- The rows of the first argument a point loads. -/
theorem blk0 (c : Dev nD) (t : Fin cfg0.N) (a : Fin 512) (k : Fin 1024) (r : Fin 16384) (hr : r.val = t.val * 512 + a.val) :
    iblk m c 0 t (ix2 a k) = m ((c : Thread nD τ).loc main_arg0) (ix2 r k) := by
  blk_ext [iblk, V, idx t]

/-- The scales, loaded whole. -/
theorem blk1 (c : Dev nD) (t : Fin cfg0.N) (k : Fin 1024) :
    iblk m c 1 t (ix2 0 k) = m ((c : Thread nD τ).loc main_arg1) (ix2 0 k) := by
  blk_ext [iblk, V, idx t]

/-- The gate weight, loaded whole. -/
theorem blk2 (c : Dev nD) (t : Fin cfg0.N) (b : Fin 512) (k : Fin 1024) :
    iblk m c 2 t (ix2 b k) = m ((c : Thread nD τ).loc main_arg2) (ix2 b k) := by
  blk_ext [iblk, V, idx t]

/-- The wide weight, loaded whole. -/
theorem blk3 (c : Dev nD) (t : Fin cfg0.N) (b : Fin 4608) (k : Fin 1024) :
    iblk m c 3 t (ix2 b k) = m ((c : Thread nD τ).loc main_arg3) (ix2 b k) := by
  blk_ext [iblk, V, idx t]

/-- The wide result after the run. -/
theorem final4 (c : Dev nD) : (dats m 0 c).arrAt 4 cfg0.N
    = mainOf (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4, outsAt0]
  idx_vars y
  have ht : t.val < 32 := t.isLt
  have e : (win0_4.blk t).view.emb (ix2 y0 y1) = ix2 ⟨t.val * 512 + y0.val, by omega⟩ y1 := by blk_ext [idx t]
  rw [e, out4_eq]
  unfold blkMain mainOf
  exact Spec.proj_congr (fun k => blk0 m c t y0 k _ rfl) (fun k => blk1 m c t k) (fun k => blk3 m c t y1 k)

/-- The gate result after the run. -/
theorem final5 (c : Dev nD) : (dats m 0 c).arrAt 5 cfg0.N
    = gateOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, outsAt0]
  idx_vars y
  have ht : t.val < 32 := t.isLt
  have e : (win0_5.blk t).view.emb (ix2 y0 y1) = ix2 ⟨t.val * 512 + y0.val, by omega⟩ y1 := by blk_ext [idx t]
  rw [e, out5_eq]
  unfold gateOf
  exact Spec.proj_congr (fun k => blk0 m c t y0 k _ rfl) (fun k => blk1 m c t k) (fun k => blk2 m c t y1 k)

end Cert.NPB

namespace Cert.Proof

open Cert.NPB

/-- The kernel's two results are the reference's. -/
theorem normProjB : Cert.algebraic_NormProjBIdeal_NormProjBRefIdeal
    (hNormProjBIdeal := Cert.NormProjBIdeal.Gen.facts) (hNormProjBRefIdeal := Cert.NormProjBRefIdeal.Gen.facts) := by
  pair_intro
  · run_from Cert.NormProjBIdeal.Value.run_blocks m g
  · run_from Cert.NormProjBRefIdeal.Value.run m' g'
    · rw [final4 m c]
      funext i
      idx_vars i
      pointwise [mainOf, Spec.proj, Spec.nrm]
    · rw [final5 m c]
      funext i
      idx_vars i
      pointwise [gateOf, Spec.proj, Spec.nrm]

end Cert.Proof

end
-- ==== Proof.OutPeB.lean ====
/-
  The stage that closes the second layer: every block the pipelined kernel writes is, entry by entry, `Spec.close`, and so
  is the reference's term. The concatenated weight of the reference is the sum over its two halves.
-/
module

public import proofs.«01_k».proof.Proof.Gen.OutPeBIdeal.Value
public import proofs.«01_k».proof.Proof.Gen.OutPeBRefIdeal.Run
public import proofs.«01_k».proof.Proof.Spec
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OPB

open Cert.OutPeBIdeal Cert.OutPeBIdeal.Gen

variable (m : (ℓ : Loc nD τ sig) → Buf (Elt Ideal) ℓ)

/-- The windows' block indices at every point. -/
theorem idx : ∀ t : Fin cfg0.N, win0_0.index t = ![t.val, 0] ∧ win0_1.index t = ![t.val, 0] ∧ win0_2.index t = ![t.val, 8]
    ∧ win0_3.index t = ![t.val, 0]
    ∧ win0_4.index t = ![1, t.val / 4, t.val % 4, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The row of the first part and of the gated second part through their weights. -/
def mixRow (a : Fin 1024 → EReal) (b z : Fin 512 → EReal) (wa : Fin 1024 → Fin 1024 → EReal)
    (wb : Fin 512 → Fin 1024 → EReal) (n : Fin 1024) : EReal :=
  ∑ k, a k * wa k n + ∑ k, (b k * (z k * Spec.sgm (z k))) * wb k n

theorem mixRow_congr {a a' : Fin 1024 → EReal} {b b' z z' : Fin 512 → EReal} {wa wa' : Fin 1024 → Fin 1024 → EReal}
    {wb wb' : Fin 512 → Fin 1024 → EReal} (ha : ∀ k, a k = a' k)
    (hb : ∀ k, b k = b' k) (hz : ∀ k, z k = z' k) (hwa : ∀ k n, wa k n = wa' k n) (hwb : ∀ k n, wb k n = wb' k n) (n : Fin 1024) :
    mixRow a b z wa wb n = mixRow a' b' z' wa' wb' n := by
  rw [funext ha, funext hb, funext hz, (funext fun k => funext (hwa k) : wa = wa'), (funext fun k => funext (hwb k) : wb = wb')]

/-- The result from the ten arguments. -/
def outOf (A : Vec Ideal S16384x1024 .bf16) (Bm : Vec Ideal S16384x512 .bf16) (Z : Vec Ideal S16384x4608 .bf16)
    (H : Vec Ideal S16384x1024 .f32) (P : Vec Ideal S2x8x2048x256 .f32)
    (Wa : Vec Ideal S1024x1024 .bf16) (Wb : Vec Ideal S512x1024 .bf16) (G : Vec Ideal S1x1024 .f32) (Wg : Vec Ideal S1024x1024 .bf16)
    (Wp : Vec Ideal S256x1024 .bf16) : Vec Ideal S16384x1024 .f32 := fun i =>
  Spec.close (mixRow (fun k => A (ix2 (i 0) k)) (fun k => Bm (ix2 (i 0) k)) (fun k => Z (ix2 (i 0) ⟨4096 + k.val, by omega⟩))
      (fun k n => Wa (ix2 k n)) (fun k n => Wb (ix2 k n)))
    (fun k => H (ix2 (i 0) k)) (fun k => G (ix2 0 k)) (fun k n => Wg (ix2 k n))
    (fun j => P (ix4 1 ⟨(i 0).val / 2048, by have : (i 0).val < 16384 := (i 0).isLt; omega⟩ ⟨(i 0).val % 2048, by omega⟩ j)) (fun k n => Wp (ix2 k n)) (i 1)

/-- The normalised sum at an index of a block. -/
theorem pay2_at (v0 v2 : Vec Ideal S512x512 .bf16) (v14 : Vec Ideal S512x1024 .bf16) (v15 : Vec Ideal S1024x1024 .bf16)
    (v17 : Vec Ideal S512x1024 .bf16) (v20 : Vec Ideal S512x1024 .f32)
    (v21 : Vec Ideal S1x1024 .f32) (a : Fin 512) (k : Fin 1024) :
    k0_pay2 (F := Ideal) v0 v2 v14 v15 v17 v20 v21 (ix2 a k)
      = v20 (ix2 a k) + Spec.nrm (mixRow (fun k => v14 (ix2 a k)) (fun k => v2 (ix2 a k)) (fun k => v0 (ix2 a k))
          (fun k n => v15 (ix2 k n)) (fun k n => v17 (ix2 k n))) (fun k => v21 (ix2 0 k)) k := by
  pointwise [k0_pay2, Spec.nrm, mixRow, Spec.sgm]
  simp only [zero_sub]

/-- What a block of the result is, from the blocks loaded. -/
theorem out10_eq (x0 : Vec Ideal S512x1024 .bf16) (x1 x2 : Vec Ideal S512x512 .bf16) (x3 : Vec Ideal S512x1024 .f32)
    (x4 : Vec Ideal S1x1x512x256 .f32)
    (x5 : Vec Ideal S1024x1024 .bf16) (x6 : Vec Ideal S512x1024 .bf16) (x7 : Vec Ideal S1x1024 .f32) (x8 : Vec Ideal S1024x1024 .bf16)
    (x9 : Vec Ideal S256x1024 .bf16) (a : Fin 512) (n : Fin 1024) :
    out0_10 (F := Ideal) x0 x1 x2 x3 x4 x5 x6 x7 x8 x9 (ix2 a n)
      = Spec.close (mixRow (fun k => x0 (ix2 a k)) (fun k => x1 (ix2 a k)) (fun k => x2 (ix2 a k)) (fun k n => x5 (ix2 k n)) (fun k n => x6 (ix2 k n)))
        (fun k => x3 (ix2 a k)) (fun k => x7 (ix2 0 k)) (fun k n => x8 (ix2 k n)) (fun j => x4 (ix4 0 0 a j))
        (fun k n => x9 (ix2 k n)) n := by
  frame_out
  pointwise [k0_pay1, k0_pay3, pay2_at, Spec.close, Spec.sgm]
  rw [zero_sub]

theorem blk0 (c : Dev nD) (t : Fin cfg0.N) (a : Fin 512) (k : Fin 1024) (r : Fin 16384) (hr : r.val = t.val * 512 + a.val) :
    iblk m c 0 t (ix2 a k) = m ((c : Thread nD τ).loc main_arg0) (ix2 r k) := by
  blk_ext [iblk, V, idx t]
theorem blk1 (c : Dev nD) (t : Fin cfg0.N) (a : Fin 512) (k : Fin 512) (r : Fin 16384) (hr : r.val = t.val * 512 + a.val) :
    iblk m c 1 t (ix2 a k) = m ((c : Thread nD τ).loc main_arg1) (ix2 r k) := by
  blk_ext [iblk, V, idx t]
theorem blk2 (c : Dev nD) (t : Fin cfg0.N) (a : Fin 512) (k : Fin 512) (r : Fin 16384) (hr : r.val = t.val * 512 + a.val) :
    iblk m c 2 t (ix2 a k) = m ((c : Thread nD τ).loc main_arg2) (ix2 r ⟨4096 + k.val, by omega⟩) := by
  blk_ext [iblk, V, idx t]
theorem blk3 (c : Dev nD) (t : Fin cfg0.N) (a : Fin 512) (k : Fin 1024) (r : Fin 16384) (hr : r.val = t.val * 512 + a.val) :
    iblk m c 3 t (ix2 a k) = m ((c : Thread nD τ).loc main_arg3) (ix2 r k) := by
  blk_ext [iblk, V, idx t]
theorem blk4 (c : Dev nD) (t : Fin cfg0.N) (a : Fin 512) (k : Fin 256) (d : Fin 8) (s : Fin 2048)
    (hd : d.val = (t.val * 512 + a.val) / 2048) (hs : s.val = (t.val * 512 + a.val) % 2048) :
    iblk m c 4 t (ix4 0 0 a k) = m ((c : Thread nD τ).loc main_arg4) (ix4 1 d s k) := by
  blk_ext [iblk, V, idx t]
theorem blk5 (c : Dev nD) (t : Fin cfg0.N) (a k : Fin 1024) :
    iblk m c 5 t (ix2 a k) = m ((c : Thread nD τ).loc main_arg5) (ix2 a k) := by
  blk_ext [iblk, V, idx t]
theorem blk6 (c : Dev nD) (t : Fin cfg0.N) (a : Fin 512) (k : Fin 1024) :
    iblk m c 6 t (ix2 a k) = m ((c : Thread nD τ).loc main_arg6) (ix2 a k) := by
  blk_ext [iblk, V, idx t]
theorem blk7 (c : Dev nD) (t : Fin cfg0.N) (k : Fin 1024) :
    iblk m c 7 t (ix2 0 k) = m ((c : Thread nD τ).loc main_arg7) (ix2 0 k) := by
  blk_ext [iblk, V, idx t]
theorem blk8 (c : Dev nD) (t : Fin cfg0.N) (a k : Fin 1024) :
    iblk m c 8 t (ix2 a k) = m ((c : Thread nD τ).loc main_arg8) (ix2 a k) := by
  blk_ext [iblk, V, idx t]
theorem blk9 (c : Dev nD) (t : Fin cfg0.N) (a : Fin 256) (k : Fin 1024) :
    iblk m c 9 t (ix2 a k) = m ((c : Thread nD τ).loc main_arg9) (ix2 a k) := by
  blk_ext [iblk, V, idx t]

/-- The result after the run. -/
theorem final10 (c : Dev nD) : (dats m 0 c).arrAt 10 cfg0.N
    = outOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t _ y => ?_
  blk_simp
  rw [after0_10]
  idx_vars y
  have ht : t.val < 32 := t.isLt
  have e : (win0_10.blk t).view.emb (ix2 y0 y1) = ix2 ⟨t.val * 512 + y0.val, by omega⟩ y1 := by blk_ext [idx t]
  rw [e, out10_eq]
  unfold outOf
  exact Spec.close_congr (mixRow_congr (fun k => blk0 m c t y0 k _ rfl) (fun k => blk1 m c t y0 k _ rfl)
      (fun k => blk2 m c t y0 k _ rfl) (fun k n => blk5 m c t k n) (fun k n => blk6 m c t k n))
    (fun k => blk3 m c t y0 k _ rfl) (fun k => blk7 m c t k) (fun k n => blk8 m c t k n)
    (fun j => blk4 m c t y0 j _ _ rfl rfl) (fun k n => blk9 m c t k n)

end Cert.OPB

namespace Cert.Proof

open Cert.OPB

/-- The kernel's result is the reference's. -/
theorem outPeB : Cert.algebraic_OutPeBIdeal_OutPeBRefIdeal
    (hOutPeBIdeal := Cert.OutPeBIdeal.Gen.facts) (hOutPeBRefIdeal := Cert.OutPeBRefIdeal.Gen.facts) := by
  pair_intro
  · run_from Cert.OutPeBIdeal.Value.run_blocks m g
  · run_from Cert.OutPeBRefIdeal.Value.run m' g'
    rw [final10 m c]
    obtain ⟨e0, e1, e2, e3, e4, e5, e6, e7, e8, e9⟩ := hagree c
    unfold Cert.OutPeBRefIdeal.Value.res_main_v37
    rw [e0, e1, e2, e3, e4, e5, e6, e7, e8, e9]
    funext i
    idx_vars i
    pointwise [outOf, Spec.close, Spec.nrm, Spec.sgm, mixRow]

end Cert.Proof

end
-- ==== Proof.MixSpec.lean ====
/-
  The mathematics of the recurrent mixer over extended reals: retention heads and mLSTM heads, chunk by chunk. A chunk is
  128 rows; 16 chunks make a sequence, and the state that a head carries starts afresh at a sequence's first chunk.
-/
module

public import Idealize.ShloMosaic.Lib.Pipeline.ValueKit
public import Idealize.ShloMosaic.Lib.Pointwise

@[expose] public section

noncomputable section

namespace Cert.Mix

open Idealize.ShloMosaic

/-- A matrix of one chunk and one head: 128 rows. -/
abbrev M128 := Fin 128 → Fin 128 → EReal
abbrev M256 := Fin 128 → Fin 256 → EReal

/-! ### Constants -/

/-- `1 / √128` as a float. -/
def scl : EReal := Ideal.ofBits FTy.f32 0x3DB504F3#32
def eps : EReal := Ideal.ofBits FTy.f32 0x358637BD#32
def c256 : EReal := Ideal.ofBits FTy.f32 0x43800000#32
def c127 : EReal := Ideal.ofBits FTy.f32 0x42FE0000#32
def c128 : EReal := Ideal.ofBits FTy.f32 0x43000000#32

/-- The position of a row inside its chunk. -/
def pos (i : Fin 128) : EReal := ((i.val : ℝ) : EReal)

/-- The logarithm of a retention head's decay. -/
def lg : Fin 4 → EReal := ![((Real.log (31 / 32) : ℝ) : EReal), ((Real.log (63 / 64) : ℝ) : EReal),
  ((Real.log (127 / 128) : ℝ) : EReal), ((Real.log (255 / 256) : ℝ) : EReal)]

/-! ### Pieces that both kinds of head use -/

def sgm (z : EReal) : EReal := Ideal.div 1 (1 + Ideal.exp (-z))
def silu (z : EReal) : EReal := z * sgm z

/-- The mean of a row of 256 numbers. -/
def mean (y : Fin 256 → EReal) : EReal := Ideal.div (∑ e, y e) c256

/-- A row centred, divided by its standard deviation, times the scales `g`. -/
def hnorm (y g : Fin 256 → EReal) (e : Fin 256) : EReal :=
  (y e - mean y) * Ideal.rsqrt (mean (fun f => (y f - mean y) * (y f - mean y)) + eps) * g e

/-! ### A retention head -/

/-- The decay between rows `i` and `j`: none where `j` comes after `i`. -/
def dec (l : EReal) (i j : Fin 128) : EReal :=
  if j ≤ i then Ideal.exp (max (pos i - pos j) 0 * l) else 0

def retScore (l : EReal) (q k : M128) (i j : Fin 128) : EReal := (∑ d, q i d * scl * k j d) * dec l i j

/-- A row before its normalisation: from its own chunk, and from the state `R` of the chunks before. -/
def retY (l : EReal) (q k : M128) (v : M256) (R : M256) (i : Fin 128) (e : Fin 256) : EReal :=
  (∑ j, v j e * retScore l q k i j) + ∑ d, R d e * (q i d * scl * Ideal.exp ((pos i + 1) * l))

/-- The state after a chunk. -/
def retStep (l : EReal) (k : M128) (v : M256) (R : M256) (d : Fin 128) (e : Fin 256) : EReal :=
  R d e * Ideal.exp (c128 * l) + ∑ j, k j d * Ideal.exp ((c127 - pos j) * l) * v j e

/-! ### An mLSTM head -/

/-- The logarithm of the logistic function. -/
def logSig (x : EReal) : EReal := -(max (-x) 0 + Ideal.log1p (Ideal.exp (-FloatOps.absf (F := Ideal) (φ := FTy.f32) (-x))))

/-- The running sum. -/
def cum (f : Fin 128 → EReal) (i : Fin 128) : EReal := ∑ j, if j ≤ i then f j else 0

/-- The largest of 128 numbers. -/
def top (f : Fin 128 → EReal) : EReal := Finset.univ.fold max ⊥ f

/-- The log weight of a row in its chunk's contribution to the state. -/
def lw (b ig : Fin 128 → EReal) (j : Fin 128) : EReal := b 127 - b j + ig j

def kw (k : M128) (b ig : Fin 128 → EReal) (j d : Fin 128) : EReal :=
  k j d * scl * Ideal.exp (lw b ig j - top (lw b ig))

def stM (b ig : Fin 128 → EReal) (m : EReal) : EReal := max (b 127 + m) (top (lw b ig))

def stC (k : M128) (v : M256) (b ig : Fin 128 → EReal) (m : EReal) (C : M256) (d : Fin 128) (e : Fin 256) : EReal :=
  Ideal.exp (b 127 + m - stM b ig m) * C d e + Ideal.exp (top (lw b ig) - stM b ig m) * ∑ j, kw k b ig j d * v j e

def stN (k : M128) (b ig : Fin 128 → EReal) (m : EReal) (n : Fin 128 → EReal) (d : Fin 128) : EReal :=
  Ideal.exp (b 127 + m - stM b ig m) * n d + Ideal.exp (top (lw b ig) - stM b ig m) * ∑ j, kw k b ig j d

def logD (b ig : Fin 128 → EReal) (i j : Fin 128) : EReal := if j ≤ i then b i - b j + ig j else ⊥

def mT (b ig : Fin 128 → EReal) (m : EReal) (i : Fin 128) : EReal := max (b i + m) (top (logD b ig i))

def mlS (q k : M128) (b ig : Fin 128 → EReal) (m : EReal) (i j : Fin 128) : EReal :=
  (∑ d, q i d * (k j d * scl)) * Ideal.exp (logD b ig i j - mT b ig m i)

def mlNum (q k : M128) (v : M256) (b ig : Fin 128 → EReal) (m : EReal) (C : M256) (i : Fin 128) (e : Fin 256) : EReal :=
  (∑ j, v j e * mlS q k b ig m i j) + Ideal.exp (b i + m - mT b ig m i) * ∑ d, C d e * q i d

def mlDen (q k : M128) (b ig : Fin 128 → EReal) (m : EReal) (n : Fin 128 → EReal) (i : Fin 128) : EReal :=
  max (FloatOps.absf (F := Ideal) (φ := FTy.f32)
      ((∑ j, mlS q k b ig m i j) + Ideal.exp (b i + m - mT b ig m i) * ∑ d, n d * q i d))
    (Ideal.exp (-mT b ig m i))

/-! ### The arrays -/

variable (P : Fin 16384 → Fin 7168 → EReal) (G : Fin 16384 → Fin 128 → EReal) (W : Fin 4 → Fin 1024 → EReal)
  (B : Fin 1024 → EReal) (gb : Fin 128 → EReal)

/-- Row `i` of chunk `t`. -/
def row (t : ℕ) (i : Fin 128) : Fin 16384 := ⟨(t * 128 + i.val) % 16384, Nat.mod_lt _ (by decide)⟩

/-- Column `d` of head `h` in the part of the projection that starts at column `o`. -/
def hcol (o : ℕ) (h : Fin 4) (d : Fin 128) : Fin 7168 := ⟨(o + (h.val * 128 + d.val)) % 7168, Nat.mod_lt _ (by decide)⟩
def wcol (o : ℕ) (h : Fin 4) (e : Fin 256) : Fin 7168 := ⟨(o + (h.val * 256 + e.val)) % 7168, Nat.mod_lt _ (by decide)⟩

def rq (t : ℕ) (h : Fin 4) : M128 := fun i d => P (row t i) (hcol 0 h d)
def rk (t : ℕ) (h : Fin 4) : M128 := fun i d => P (row t i) (hcol 512 h d)
def rv (t : ℕ) (h : Fin 4) : M256 := fun i e => P (row t i) (wcol 1024 h e)
def rg (t : ℕ) (h : Fin 4) : M256 := fun i e => P (row t i) (wcol 2048 h e)
def mv (t : ℕ) (h : Fin 4) : M256 := fun i e => P (row t i) (wcol 4096 h e)
def mo (t : ℕ) (h : Fin 4) : M256 := fun i e => P (row t i) (wcol 5120 h e)
def mz (t : ℕ) (h : Fin 4) : M256 := fun i e => P (row t i) (wcol 6144 h e)

/-- The row `3 - j` rows before row `i` of chunk `t`, zero before the sequence begins. -/
def back (t : ℕ) (i : Fin 128) (j : ℕ) (n : Fin 1024) : EReal :=
  if 3 ≤ (t % 16) * 128 + i.val + j then
    P ⟨(t * 128 + i.val + j - 3) % 16384, Nat.mod_lt _ (by decide)⟩ ⟨3072 + n.val, by omega⟩ else 0

/-- The causal convolution over four rows. -/
def conv (t : ℕ) (i : Fin 128) (n : Fin 1024) : EReal :=
  0 + W 0 n * back P t i 0 n + W 1 n * back P t i 1 n + W 2 n * back P t i 2 n + W 3 n * back P t i 3 n + B n

def mq (t : ℕ) (h : Fin 4) : M128 := fun i d => silu (conv P W B t i ⟨h.val * 128 + d.val, by omega⟩)
def mk (t : ℕ) (h : Fin 4) : M128 := fun i d => silu (conv P W B t i ⟨512 + (h.val * 128 + d.val), by omega⟩)

def ig (t : ℕ) (h : Fin 4) (i : Fin 128) : EReal := G (row t i) ⟨h.val, by omega⟩ + gb ⟨h.val, by omega⟩
def bc (t : ℕ) (h : Fin 4) : Fin 128 → EReal :=
  cum fun i => logSig (G (row t i) ⟨4 + h.val, by omega⟩ + gb ⟨4 + h.val, by omega⟩)

/-! ### The states before chunk `t` -/

def stR (h : Fin 4) : ℕ → M256
  | 0 => fun _ _ => 0
  | t + 1 => if (t + 1) % 16 = 0 then fun _ _ => 0 else retStep (lg h) (rk P t h) (rv P t h) (stR h t)

def sM (h : Fin 4) : ℕ → EReal
  | 0 => ⊥
  | t + 1 => if (t + 1) % 16 = 0 then ⊥ else stM (bc G gb t h) (ig G gb t h) (sM h t)

def sC (h : Fin 4) : ℕ → M256
  | 0 => fun _ _ => 0
  | t + 1 => if (t + 1) % 16 = 0 then fun _ _ => 0 else
      stC (mk P W B t h) (mv P t h) (bc G gb t h) (ig G gb t h) (sM G gb h t) (sC h t)

def sN (h : Fin 4) : ℕ → Fin 128 → EReal
  | 0 => fun _ => 0
  | t + 1 => if (t + 1) % 16 = 0 then fun _ => 0 else
      stN (mk P W B t h) (bc G gb t h) (ig G gb t h) (sM G gb h t) (sN h t)

/-! ### The result -/

variable (rn mn : Fin 1024 → EReal)

def outRet (t : ℕ) (h : Fin 4) (i : Fin 128) (e : Fin 256) : EReal :=
  hnorm (retY (lg h) (rq P t h) (rk P t h) (rv P t h) (stR P h t) i) (fun e => rn ⟨h.val * 256 + e.val, by omega⟩) e
    * silu (rg P t h i e)

/-- An mLSTM head's row before its normalisation. -/
def mlY (t : ℕ) (h : Fin 4) (i : Fin 128) (e : Fin 256) : EReal :=
  sgm (mo P t h i e)
    * (mlNum (mq P W B t h) (mk P W B t h) (mv P t h) (bc G gb t h) (ig G gb t h) (sM G gb h t) (sC P G W B gb h t) i e
      * Ideal.div 1 (mlDen (mq P W B t h) (mk P W B t h) (bc G gb t h) (ig G gb t h) (sM G gb h t) (sN P G W B gb h t) i))

def outMl (t : ℕ) (h : Fin 4) (i : Fin 128) (e : Fin 256) : EReal :=
  hnorm (mlY P G W B gb t h i) (fun e => mn ⟨h.val * 256 + e.val, by omega⟩) e * silu (mz P t h i e)

end Cert.Mix

end
-- ==== Proof.MixNum.lean ====
/-
  Numbers that both programs of the mixer name: constants, positions, a chunk's rows and a head's columns.
-/
module

public import proofs.«01_k».proof.Proof.MixSpec
public import Idealize.ShloMosaic.Lib.IdealHost

@[expose] public section

noncomputable section

namespace Cert.Mix

open Idealize.ShloMosaic

theorem pos_word (i : Fin 128) : FloatOps.sitofp (F := Ideal) .f32 (BitVec.ofNat 32 i.val) = pos i := by
  show ((((BitVec.ofNat 32 i.val).toInt : ℤ) : ℝ) : EReal) = _
  have h : (BitVec.ofNat 32 i.val).toInt = (i.val : ℤ) := by
    have := i.isLt
    rw [BitVec.toInt_eq_toNat_of_lt] <;> simp only [BitVec.toNat_ofNat] <;> omega
  rw [h]; rfl

theorem zero_word : FloatOps.sitofp (F := Ideal) .f32 (0#32) = (0 : EReal) := by
  show (((0#32 : BitVec 32).toInt : ℝ) : EReal) = 0
  simp

theorem pos_sub (i j : Fin 128) : pos i - pos j = (((i.val : ℝ) - (j.val : ℝ) : ℝ) : EReal) := by
  rw [pos, pos, ← EReal.coe_sub]

theorem pos_sub_nonneg (i j : Fin 128) : (0 : EReal) ≤ pos i - pos j ↔ j ≤ i := by
  rw [pos_sub, EReal.coe_nonneg, sub_nonneg, Nat.cast_le, Fin.le_def]

theorem bits_bot : Ideal.ofBits FTy.f32 0xFF800000#32 = ⊥ := by simp [Ideal.ofBits, Ideal.ieee]

theorem log1p_coe (r : ℝ) (h : 0 < 1 + r) : Ideal.log1p (r : EReal) = ((Real.log (1 + r) : ℝ) : EReal) := by
  unfold Ideal.log1p
  rw [show (1 : EReal) + (r : EReal) = ((1 + r : ℝ) : EReal) by norm_cast]
  show (if 1 + r ≤ 0 then ⊥ else ((Real.log (1 + r) : ℝ) : EReal)) = _
  rw [if_neg (not_le.mpr h)]

theorem lg_word0 : Ideal.log1p (Ideal.ofBits FTy.f32 0xBD000000#32) = lg 0 := by
  rw [show Ideal.ofBits FTy.f32 0xBD000000#32 = ((-(1 / 32) : ℝ) : EReal) by
    simp [Ideal.ofBits, Ideal.ieee, -EReal.coe_mul, -EReal.coe_neg]; norm_num, log1p_coe _ (by norm_num)]
  simp only [lg]; norm_num
theorem lg_word1 : Ideal.log1p (Ideal.ofBits FTy.f32 0xBC800000#32) = lg 1 := by
  rw [show Ideal.ofBits FTy.f32 0xBC800000#32 = ((-(1 / 64) : ℝ) : EReal) by
    simp [Ideal.ofBits, Ideal.ieee, -EReal.coe_mul, -EReal.coe_neg]; norm_num, log1p_coe _ (by norm_num)]
  simp only [lg]; norm_num
theorem lg_word2 : Ideal.log1p (Ideal.ofBits FTy.f32 0xBC000000#32) = lg 2 := by
  rw [show Ideal.ofBits FTy.f32 0xBC000000#32 = ((-(1 / 128) : ℝ) : EReal) by
    simp [Ideal.ofBits, Ideal.ieee, -EReal.coe_mul, -EReal.coe_neg]; norm_num, log1p_coe _ (by norm_num)]
  norm_num; rfl
theorem lg_word3 : Ideal.log1p (Ideal.ofBits FTy.f32 0xBB800000#32) = lg 3 := by
  rw [show Ideal.ofBits FTy.f32 0xBB800000#32 = ((-(1 / 256) : ℝ) : EReal) by
    simp [Ideal.ofBits, Ideal.ieee, -EReal.coe_mul, -EReal.coe_neg]; norm_num, log1p_coe _ (by norm_num)]
  norm_num; rfl

/-! ### Rows and columns -/

theorem row_eq (b : Fin 8) (c : Fin 16) (i : Fin 128) :
    row (b.val * 16 + c.val) i = ⟨b.val * 2048 + (c.val * 128 + i.val), by omega⟩ := by
  refine Fin.ext ?_
  simp only [row]; omega

theorem hcol_eq (o : ℕ) (h : Fin 4) (d : Fin 128) (ho : o + 512 ≤ 7168) :
    hcol o h d = ⟨o + (h.val * 128 + d.val), by omega⟩ := by
  refine Fin.ext ?_
  simp only [hcol]; omega

theorem wcol_eq (o : ℕ) (h : Fin 4) (e : Fin 256) (ho : o + 1024 ≤ 7168) :
    wcol o h e = ⟨o + (h.val * 256 + e.val), by omega⟩ := by
  refine Fin.ext ?_
  simp only [wcol]; omega

end Cert.Mix

end
-- ==== Proof.MixKerRet.lean ====
/-
  The mixer's kernel, its four retention heads: what a head writes into the block of the result and into its state, entry
  by entry, is the mathematics of a retention head.
-/
module

public import proofs.«01_k».proof.Proof.Gen.AbMixerIdeal.Value
public import proofs.«01_k».proof.Proof.MixNum
public import Idealize.ShloMosaic.Lib.Pointwise

@[expose] public section

set_option maxRecDepth 16384

noncomputable section

namespace Cert.Mix

open Idealize.ShloMosaic Idealize.ShloMosaic.TcCoe Idealize.SL.Sem
open Cert.AbMixerIdeal Cert.AbMixerIdeal.Gen

/-! ### Scaling sums -/

theorem scl_pos : (0 : EReal) ≤ scl ∧ scl ≠ ⊤ := by
  have h : scl = (((11863283 : ℝ) / 134217728 : ℝ) : EReal) := by
    simp [scl, Ideal.ofBits, Ideal.ieee, -EReal.coe_mul, -EReal.coe_neg]; norm_num
  rw [h]
  exact ⟨EReal.coe_nonneg.mpr (by norm_num), EReal.coe_ne_top _⟩

theorem sum_scale {n : ℕ} (f : Fin n → EReal) (c : EReal) (hc : 0 ≤ c ∧ c ≠ ⊤) : (∑ d, f d) * c = ∑ d, f d * c := by
  have h (s : Finset (Fin n)) : (∑ d ∈ s, f d) * c = ∑ d ∈ s, f d * c := by
    classical
    induction s using Finset.induction_on with
    | empty => simp
    | insert a s ha ih =>
      rw [Finset.sum_insert ha, Finset.sum_insert ha, EReal.right_distrib_of_nonneg_of_ne_top hc.1 hc.2, ih]
  exact h Finset.univ

theorem mul_swap (a b c : EReal) : a * b * c = a * c * b := by rw [mul_assoc, mul_comm b c, ← mul_assoc]

/-! ### Words -/

theorem diff_word (i j : Fin 128) :
    FloatOps.sitofp (F := Ideal) .f32 (IntOp.subi (BitVec.ofNat 32 i.val) (BitVec.ofNat 32 j.val)) = pos i - pos j := by
  rw [pos_sub]
  show ((((BitVec.ofNat 32 i.val - BitVec.ofNat 32 j.val).toInt : ℤ) : ℝ) : EReal) = _
  have h : (BitVec.ofNat 32 i.val - BitVec.ofNat 32 j.val).toInt = (i.val : ℤ) - (j.val : ℤ) := by
    revert i j; decide +kernel
  rw [h]; push_cast; rfl

theorem sge_word (i j : Fin 128) (a b : EReal) :
    Scalar.select (α := EReal) (IntOp.cmpi CmpIPredicate.sge (BitVec.ofNat 32 i.val) (BitVec.ofNat 32 j.val)) a b
      = if j ≤ i then a else b := by
  have h : IntOp.cmpi CmpIPredicate.sge (BitVec.ofNat 32 i.val) (BitVec.ofNat 32 j.val) = if j ≤ i then 1#1 else 0#1 := by
    revert i j; decide +kernel
  rw [h]; split <;> rfl

theorem sle_word (i j : Fin 128) (a b : EReal) :
    Scalar.select (α := EReal) (IntOp.cmpi CmpIPredicate.sle (BitVec.ofNat 32 i.val) (BitVec.ofNat 32 j.val)) a b
      = if i ≤ j then a else b := by
  have h : IntOp.cmpi CmpIPredicate.sle (BitVec.ofNat 32 i.val) (BitVec.ofNat 32 j.val) = if i ≤ j then 1#1 else 0#1 := by
    revert i j; decide +kernel
  rw [h]; split <;> rfl

theorem c128_val : c128 = ((128 : ℝ) : EReal) := by
  simp [c128, Ideal.ofBits, Ideal.ieee, -EReal.coe_mul, -EReal.coe_neg]; norm_num

/-- A decay over a whole chunk, from the decay over one row. -/
theorem decay_pow (r q : ℝ) (hr : 0 < r) (h : q = r ^ 128) : ((q : ℝ) : EReal) = Ideal.exp (c128 * ((Real.log r : ℝ) : EReal)) := by
  rw [c128_val, ← EReal.coe_mul]
  show ((q : ℝ) : EReal) = ((Real.exp (128 * Real.log r) : ℝ) : EReal)
  rw [h, show (128 : ℝ) * Real.log r = ((128 : ℕ) : ℝ) * Real.log r by norm_num, ← Real.log_pow, Real.exp_log (pow_pos hr 128)]

theorem nm_mask : Named.named (F := Ideal) κ "mask" (φ := .f32) 0xF149F2CA#32 = ⊥ := rfl
theorem nm_ld0 : Named.named (F := Ideal) κ "log_decay_0" (φ := .f32) 0xBD020AEC#32 = lg 0 := rfl
theorem nm_cd0 : Named.named (F := Ideal) κ "chunk_decay_0" (φ := .f32) 0x3C8CC36A#32 = Ideal.exp (c128 * lg 0) :=
  decay_pow (31 / 32) _ (by norm_num) (by norm_num)
theorem nm_ld1 : Named.named (F := Ideal) κ "log_decay_1" (φ := .f32) 0xBC8102B3#32 = lg 1 := rfl
theorem nm_cd1 : Named.named (F := Ideal) κ "chunk_decay_1" (φ := .f32) 0x3E08698E#32 = Ideal.exp (c128 * lg 1) :=
  decay_pow (63 / 64) _ (by norm_num) (by norm_num)
theorem nm_ld2 : Named.named (F := Ideal) κ "log_decay_2" (φ := .f32) 0xBC0080AC#32 = lg 2 := rfl
theorem nm_cd2 : Named.named (F := Ideal) κ "chunk_decay_2" (φ := .f32) 0x3EBB9DB9#32 = Ideal.exp (c128 * lg 2) :=
  decay_pow (127 / 128) _ (by norm_num) (by norm_num)
theorem nm_ld3 : Named.named (F := Ideal) κ "log_decay_3" (φ := .f32) 0xBB80402B#32 = lg 3 := rfl
theorem nm_cd3 : Named.named (F := Ideal) κ "chunk_decay_3" (φ := .f32) 0x3F1B1EB1#32 = Ideal.exp (c128 * lg 3) :=
  decay_pow (255 / 256) _ (by norm_num) (by norm_num)

/-! ### A head from plain numbers -/

theorem kscore (l : EReal) (q k : M128) (i j : Fin 128) :
    (if j ≤ i then (∑ x, q i x * k j x) * (Ideal.exp (max (pos i - pos j) 0 * l) * scl) else 0) = retScore l q k i j := by
  rw [retScore, dec]
  split
  · rw [mul_comm (Ideal.exp _) scl, ← mul_assoc, sum_scale _ _ scl_pos]
    simp only [mul_swap]
  · rw [mul_zero]

theorem kqx (l q p : EReal) : q * (Ideal.exp ((p + 1) * l) * scl) = q * scl * Ideal.exp ((p + 1) * l) := by
  rw [mul_comm (Ideal.exp _) scl, mul_assoc]

theorem kY (l : EReal) (q k : M128) (v R : M256) (A B : M128) (i : Fin 128) (hA : ∀ j, A i j = retScore l q k i j)
    (hB : ∀ d, B i d = q i d * scl * Ideal.exp ((pos i + 1) * l)) :
    (fun e => (∑ x, A i x * v x e) + ∑ x, B i x * R x e) = retY l q k v R i := by
  funext e
  simp only [retY, hA, hB, mul_comm]

theorem kRet (l : EReal) (q k : M128) (v R : M256) (A B : M128) (i : Fin 128) (g : Fin 256 → EReal) (z : EReal)
    (hA : ∀ j, A i j = retScore l q k i j)
    (hB : ∀ d, B i d = q i d * scl * Ideal.exp ((pos i + 1) * l)) (e : Fin 256) :
    hnorm (fun e => (∑ x, A i x * v x e) + ∑ x, B i x * R x e) g e * silu z = hnorm (retY l q k v R i) g e * silu z := by
  rw [kY l q k v R A B i hA hB]

/-! ### The four heads -/

theorem sc0 (Q : FVec Ideal S128x128 .bf16) (K : FVec Ideal S128x128 .bf16) (i j : Fin 128) :
    k0_pay12 (F := Ideal) Q K (ix2 i j) = retScore (lg 0) (fun i d => Q (ix2 i d)) (fun i d => K (ix2 i d)) i j := by
  pointwise [k0_pay12, k0_pay7, k0_pay8]
  rw [sge_word, diff_word, nm_ld0]
  exact kscore (lg 0) (fun i d => Q (ix2 i d)) (fun i d => K (ix2 i d)) i j

theorem sc1 (Q : FVec Ideal S128x128 .bf16) (K : FVec Ideal S128x128 .bf16) (i j : Fin 128) :
    k0_pay18 (F := Ideal) k0_pay7 k0_pay8 Q K (ix2 i j) = retScore (lg 1) (fun i d => Q (ix2 i d)) (fun i d => K (ix2 i d)) i j := by
  pointwise [k0_pay18, k0_pay7, k0_pay8]
  rw [sge_word, diff_word, nm_ld1]
  exact kscore (lg 1) (fun i d => Q (ix2 i d)) (fun i d => K (ix2 i d)) i j

theorem sc2 (Q : FVec Ideal S128x128 .bf16) (K : FVec Ideal S128x128 .bf16) (i j : Fin 128) :
    k0_pay26 (F := Ideal) k0_pay7 k0_pay8 Q K (ix2 i j) = retScore (lg 2) (fun i d => Q (ix2 i d)) (fun i d => K (ix2 i d)) i j := by
  pointwise [k0_pay26, k0_pay7, k0_pay8]
  rw [sge_word, diff_word, nm_ld2]
  exact kscore (lg 2) (fun i d => Q (ix2 i d)) (fun i d => K (ix2 i d)) i j

theorem sc3 (Q : FVec Ideal S128x128 .bf16) (K : FVec Ideal S128x128 .bf16) (i j : Fin 128) :
    k0_pay34 (F := Ideal) k0_pay7 k0_pay8 Q K (ix2 i j) = retScore (lg 3) (fun i d => Q (ix2 i d)) (fun i d => K (ix2 i d)) i j := by
  pointwise [k0_pay34, k0_pay7, k0_pay8]
  rw [sge_word, diff_word, nm_ld3]
  exact kscore (lg 3) (fun i d => Q (ix2 i d)) (fun i d => K (ix2 i d)) i j

theorem st0 (K : FVec Ideal S128x128 .bf16) (V : FVec Ideal S128x256 .bf16) (S : FVec Ideal S1x128x256 .f32) (d : Fin 128) (e : Fin 256) :
    k0_pay13 (F := Ideal) k0_pay9 K V (k0_pay11 S) (ix3 0 d e) = retStep (lg 0) (fun i d => K (ix2 i d)) (fun i e => V (ix2 i e))
      (fun d e => S (ix3 0 d e)) d e := by
  pointwise [k0_pay13, k0_pay9, k0_pay11]
  simp only [pos_word, nm_ld0, nm_cd0]
  rfl

theorem st1 (K : FVec Ideal S128x128 .bf16) (V : FVec Ideal S128x256 .bf16) (S : FVec Ideal S1x128x256 .f32) (d : Fin 128) (e : Fin 256) :
    k0_pay21 (F := Ideal) k0_pay9 K V S (ix3 0 d e) = retStep (lg 1) (fun i d => K (ix2 i d)) (fun i e => V (ix2 i e))
      (fun d e => S (ix3 0 d e)) d e := by
  pointwise [k0_pay21, k0_pay9, k0_pay20]
  simp only [pos_word, nm_ld1, nm_cd1]
  rfl

theorem st2 (K : FVec Ideal S128x128 .bf16) (V : FVec Ideal S128x256 .bf16) (S : FVec Ideal S1x128x256 .f32) (d : Fin 128) (e : Fin 256) :
    k0_pay29 (F := Ideal) k0_pay9 K V S (ix3 0 d e) = retStep (lg 2) (fun i d => K (ix2 i d)) (fun i e => V (ix2 i e))
      (fun d e => S (ix3 0 d e)) d e := by
  pointwise [k0_pay29, k0_pay9, k0_pay28]
  simp only [pos_word, nm_ld2, nm_cd2]
  rfl

theorem st3 (K : FVec Ideal S128x128 .bf16) (V : FVec Ideal S128x256 .bf16) (S : FVec Ideal S1x128x256 .f32) (d : Fin 128) (e : Fin 256) :
    k0_pay38 (F := Ideal) k0_pay9 K V S (ix3 0 d e) = retStep (lg 3) (fun i d => K (ix2 i d)) (fun i e => V (ix2 i e))
      (fun d e => S (ix3 0 d e)) d e := by
  pointwise [k0_pay38, k0_pay9, k0_pay37]
  simp only [pos_word, nm_ld3, nm_cd3]
  rfl

theorem qx0 (Q : FVec Ideal S128x128 .bf16) (i d : Fin 128) :
    k0_pay10 (F := Ideal) Q (ix2 i d) = Q (ix2 i d) * scl * Ideal.exp ((pos i + 1) * lg 0) := by
  pointwise [k0_pay10, k0_pay9]
  rw [pos_word, nm_ld0]
  exact kqx _ _ _

theorem qx1 (Q : FVec Ideal S128x128 .bf16) (i d : Fin 128) :
    k0_pay19 (F := Ideal) k0_pay9 Q (ix2 i d) = Q (ix2 i d) * scl * Ideal.exp ((pos i + 1) * lg 1) := by
  pointwise [k0_pay19, k0_pay9]
  rw [pos_word, nm_ld1]
  exact kqx _ _ _

theorem qx2 (Q : FVec Ideal S128x128 .bf16) (i d : Fin 128) :
    k0_pay27 (F := Ideal) k0_pay9 Q (ix2 i d) = Q (ix2 i d) * scl * Ideal.exp ((pos i + 1) * lg 2) := by
  pointwise [k0_pay27, k0_pay9]
  rw [pos_word, nm_ld2]
  exact kqx _ _ _

theorem xi3 (i : Fin 128) : k0_pay35 (F := Ideal) k0_pay9 (ix2 i 0) = Ideal.exp ((pos i + 1) * lg 3) * scl := by
  pointwise [k0_pay35, k0_pay9]
  rw [pos_word, nm_ld3]
  rfl

theorem ret0 (Q : FVec Ideal S128x128 .bf16) (K : FVec Ideal S128x128 .bf16) (V : FVec Ideal S128x256 .bf16) (S : FVec Ideal S1x128x256 .f32) (G : FVec Ideal S128x256 .bf16) (g : FVec Ideal S1x256 .f32) (i : Fin 128) (e : Fin 256) :
    k0_pay17 (F := Ideal) (k0_pay14 G) (k0_pay15 V (k0_pay10 Q) (k0_pay11 S) (k0_pay12 Q K)) (k0_pay16 g) (ix2 i e)
      = hnorm (retY (lg 0) (fun i d => Q (ix2 i d)) (fun i d => K (ix2 i d)) (fun i e => V (ix2 i e)) (fun d e => S (ix3 0 d e)) i)
          (fun e => g (ix2 0 e)) e * silu (G (ix2 i e)) := by
  pointwise [k0_pay17, k0_pay14, k0_pay15, k0_pay16, k0_pay11]
  rw [zero_sub]
  exact kRet (lg 0) (fun i d => Q (ix2 i d)) (fun i d => K (ix2 i d)) (fun i e => V (ix2 i e)) (fun d e => S (ix3 0 d e))
    (fun i d => k0_pay12 (F := Ideal) Q K (ix2 i d)) (fun i d => k0_pay10 (F := Ideal) Q (ix2 i d)) i (fun e => g (ix2 0 e)) (G (ix2 i e)) (fun j => sc0 Q K i j)
    (fun d => qx0 Q i d) e

theorem ret1 (Q : FVec Ideal S128x128 .bf16) (K : FVec Ideal S128x128 .bf16) (V : FVec Ideal S128x256 .bf16) (S : FVec Ideal S1x128x256 .f32) (G : FVec Ideal S128x256 .bf16) (g : FVec Ideal S1x256 .f32) (i : Fin 128) (e : Fin 256) :
    k0_pay25 (F := Ideal) (k0_pay22 G) g (k0_pay23 V (k0_pay18 k0_pay7 k0_pay8 Q K) (k0_pay19 k0_pay9 Q) S) (k0_pay24 V (k0_pay18 k0_pay7 k0_pay8 Q K) (k0_pay19 k0_pay9 Q) S) (ix2 i e)
      = hnorm (retY (lg 1) (fun i d => Q (ix2 i d)) (fun i d => K (ix2 i d)) (fun i e => V (ix2 i e)) (fun d e => S (ix3 0 d e)) i)
          (fun e => g (ix2 0 e)) e * silu (G (ix2 i e)) := by
  pointwise [k0_pay25, k0_pay22, k0_pay23, k0_pay24, k0_pay20]
  rw [zero_sub]
  exact kRet (lg 1) (fun i d => Q (ix2 i d)) (fun i d => K (ix2 i d)) (fun i e => V (ix2 i e)) (fun d e => S (ix3 0 d e))
    (fun i d => k0_pay18 (F := Ideal) k0_pay7 k0_pay8 Q K (ix2 i d)) (fun i d => k0_pay19 (F := Ideal) k0_pay9 Q (ix2 i d)) i (fun e => g (ix2 0 e)) (G (ix2 i e)) (fun j => sc1 Q K i j)
    (fun d => qx1 Q i d) e

theorem ret2 (Q : FVec Ideal S128x128 .bf16) (K : FVec Ideal S128x128 .bf16) (V : FVec Ideal S128x256 .bf16) (S : FVec Ideal S1x128x256 .f32) (G : FVec Ideal S128x256 .bf16) (g : FVec Ideal S1x256 .f32) (i : Fin 128) (e : Fin 256) :
    k0_pay33 (F := Ideal) (k0_pay30 G) g (k0_pay31 V (k0_pay26 k0_pay7 k0_pay8 Q K) (k0_pay27 k0_pay9 Q) S) (k0_pay32 V (k0_pay26 k0_pay7 k0_pay8 Q K) (k0_pay27 k0_pay9 Q) S) (FloatOps.ofBits FTy.f32 897988541#32) (ix2 i e)
      = hnorm (retY (lg 2) (fun i d => Q (ix2 i d)) (fun i d => K (ix2 i d)) (fun i e => V (ix2 i e)) (fun d e => S (ix3 0 d e)) i)
          (fun e => g (ix2 0 e)) e * silu (G (ix2 i e)) := by
  pointwise [k0_pay33, k0_pay30, k0_pay31, k0_pay32, k0_pay28]
  rw [zero_sub]
  exact kRet (lg 2) (fun i d => Q (ix2 i d)) (fun i d => K (ix2 i d)) (fun i e => V (ix2 i e)) (fun d e => S (ix3 0 d e))
    (fun i d => k0_pay26 (F := Ideal) k0_pay7 k0_pay8 Q K (ix2 i d)) (fun i d => k0_pay27 (F := Ideal) k0_pay9 Q (ix2 i d)) i (fun e => g (ix2 0 e)) (G (ix2 i e)) (fun j => sc2 Q K i j)
    (fun d => qx2 Q i d) e

theorem ret3 (Q : FVec Ideal S128x128 .bf16) (K : FVec Ideal S128x128 .bf16) (V : FVec Ideal S128x256 .bf16) (S : FVec Ideal S1x128x256 .f32) (G : FVec Ideal S128x256 .bf16) (g : FVec Ideal S1x256 .f32) (i : Fin 128) (e : Fin 256) :
    k0_pay42 (F := Ideal) (k0_pay39 G) g (k0_pay40 V (k0_pay34 k0_pay7 k0_pay8 Q K) (k0_pay35 k0_pay9) (k0_pay36 Q) S) (k0_pay41 V (k0_pay34 k0_pay7 k0_pay8 Q K) (k0_pay35 k0_pay9) (k0_pay36 Q) S) (FloatOps.ofBits FTy.f32 1132462080#32) (ix2 i e)
      = hnorm (retY (lg 3) (fun i d => Q (ix2 i d)) (fun i d => K (ix2 i d)) (fun i e => V (ix2 i e)) (fun d e => S (ix3 0 d e)) i)
          (fun e => g (ix2 0 e)) e * silu (G (ix2 i e)) := by
  pointwise [k0_pay42, k0_pay39, k0_pay40, k0_pay41, k0_pay36, k0_pay37]
  rw [zero_sub]
  exact kRet (lg 3) (fun i d => Q (ix2 i d)) (fun i d => K (ix2 i d)) (fun i e => V (ix2 i e)) (fun d e => S (ix3 0 d e))
    (fun i d => k0_pay34 (F := Ideal) k0_pay7 k0_pay8 Q K (ix2 i d)) (fun i d => Q (ix2 i d) * k0_pay35 (F := Ideal) k0_pay9 (ix2 i 0)) i (fun e => g (ix2 0 e)) (G (ix2 i e)) (fun j => sc3 Q K i j)
    (fun d => (congrArg (Q (ix2 i d) * ·) (xi3 i)).trans (kqx _ _ _)) e

end Cert.Mix

end
-- ==== Proof.MixKerGate.lean ====
/-
  The mixer's kernel, its gates: the input gates, the running sums of the forget gates' logarithms, and the weights made of
  them, for the four mLSTM heads at once.
-/
module

public import proofs.«01_k».proof.Proof.Gen.AbMixerIdeal.Value
public import proofs.«01_k».proof.Proof.MixKerRet
public import Idealize.ShloMosaic.Lib.Pointwise

@[expose] public section

set_option maxRecDepth 16384

noncomputable section

namespace Cert.Mix

open Idealize.ShloMosaic Idealize.ShloMosaic.TcCoe Idealize.SL.Sem
open Cert.AbMixerIdeal Cert.AbMixerIdeal.Gen

/-! ### The logarithm of the logistic function -/

theorem log1p_exp_nonneg (x : EReal) : (0 : EReal) ≤ Ideal.log (1 + Ideal.exp x) := by
  have h1 : (1 : EReal) ≤ 1 + Ideal.exp x := by
    have : (0 : EReal) ≤ Ideal.exp x := by
      induction x with
      | bot => exact le_refl _
      | top => exact le_top
      | coe r => exact EReal.coe_nonneg.mpr (Real.exp_pos r).le
    calc (1 : EReal) = 1 + 0 := (add_zero _).symm
      _ ≤ _ := add_le_add le_rfl this
  generalize 1 + Ideal.exp x = y at h1 ⊢
  induction y with
  | bot => exact absurd (le_bot_iff.mp h1) (EReal.coe_ne_bot 1)
  | top => exact le_top
  | coe r =>
    have hr : (1 : ℝ) ≤ r := by exact_mod_cast h1
    show (0 : EReal) ≤ if r ≤ 0 then ⊥ else ((Real.log r : ℝ) : EReal)
    rw [if_neg (by linarith)]
    exact EReal.coe_nonneg.mpr (Real.log_nonneg hr)

theorem neg_nonpos' {x : EReal} (h : 0 ≤ x) : -x ≤ 0 := by
  rw [← EReal.neg_nonneg, neg_neg]; exact h

theorem absf_neg (x : EReal) : FloatOps.absf (F := Ideal) (φ := FTy.f32) (-x) = FloatOps.absf (F := Ideal) (φ := FTy.f32) x := by
  show max (-x) (- -x) = max x (-x)
  rw [neg_neg, max_comm]

theorem klogSig (x : EReal) :
    min x 0 - Ideal.log (1 + Ideal.exp (0 - FloatOps.absf (F := Ideal) (φ := FTy.f32) x)) = logSig x := by
  rw [logSig, absf_neg, zero_sub]
  have h0 := log1p_exp_nonneg (-FloatOps.absf (F := Ideal) (φ := FTy.f32) x)
  show _ = -(max (-x) 0 + Ideal.log (1 + Ideal.exp (-FloatOps.absf (F := Ideal) (φ := FTy.f32) x)))
  generalize Ideal.log (1 + Ideal.exp (-FloatOps.absf (F := Ideal) (φ := FTy.f32) x)) = y at h0 ⊢
  have h1 : (0 : EReal) ≤ max (-x) 0 := le_max_right _ _
  rw [EReal.neg_add (Or.inl (fun h => by rw [h] at h1; simp at h1)) (Or.inr (fun h => by rw [h] at h0; simp at h0))]
  congr 1
  rw [show min x 0 = -max (-x) 0 by
    rcases le_total x 0 with h | h
    · rw [min_eq_left h, max_eq_left (EReal.neg_nonneg.mpr h), neg_neg]
    · rw [min_eq_right h, max_eq_right (neg_nonpos' h), neg_zero]]

theorem logSig_nonpos (x : EReal) : logSig x ≤ 0 := by
  rw [logSig]
  refine neg_nonpos' ?_
  exact add_nonneg (le_max_right _ _) (log1p_exp_nonneg _)

/-! ### A running sum in three parts -/

theorem sum_bot {n : ℕ} (f : Fin n → EReal) (j : Fin n) (h : f j = ⊥) : ∑ k, f k = ⊥ := by
  classical
  rw [← Finset.add_sum_erase Finset.univ f (Finset.mem_univ j), h, EReal.bot_add]

theorem sub_self_of {x : EReal} (h0 : x ≤ 0) (hb : x ≠ ⊥) : x - x = 0 :=
  EReal.sub_self (fun h => by rw [h] at h0; simp at h0) hb

/-- The parts that the first part leaves are nothing where the numbers are finite, and where one of them is not the sum is
    already lost. -/
theorem cum_parts (f : Fin 128 → EReal) (hf : ∀ j, f j ≤ 0) (i : Fin 128) :
    ((∑ j, if j ≤ i then f j else 0) + ∑ j, if j ≤ i then f j - f j else 0)
      + (∑ j, if j ≤ i then f j - f j - (f j - f j) else 0) = cum f i := by
  rw [cum]
  by_cases hb : ∃ j, j ≤ i ∧ f j = ⊥
  · obtain ⟨j, hj, hfj⟩ := hb
    rw [sum_bot (fun j => if j ≤ i then f j else 0) j (by simp only [if_pos hj, hfj]), EReal.bot_add, EReal.bot_add]
  · have h1 : ∀ j, (if j ≤ i then f j - f j else 0) = 0 := fun j => by
      split
      · rename_i hj; exact sub_self_of (hf j) (fun h => hb ⟨j, hj, h⟩)
      · rfl
    have h2 : ∀ j, (if j ≤ i then f j - f j - (f j - f j) else 0) = 0 := fun j => by
      split
      · rename_i hj; rw [sub_self_of (hf j) (fun h => hb ⟨j, hj, h⟩)]; simp
      · rfl
    simp only [h1, h2, Finset.sum_const_zero, add_zero]

/-! ### The gates -/

theorem gate_at (x1 : FVec Ideal S128x128 .f32) (x4 : FVec Ideal S1x128 .f32) (r : Fin 8) (i : Fin 128) :
    k0_pay48 (F := Ideal) x1 x4 (ix2 r i)
      = x1 (ix2 i ⟨r.val, by omega⟩) + x4 (ix2 0 ⟨r.val, by omega⟩) := by
  pointwise [k0_pay48]

theorem forget_at (x1 : FVec Ideal S128x128 .f32) (x4 : FVec Ideal S1x128 .f32) (r : Fin 8) (i : Fin 128) :
    k0_pay49 (F := Ideal) x1 x4 (ix2 r i)
      = logSig (k0_pay48 (F := Ideal) x1 x4 (ix2 r i)) := by
  pointwise [k0_pay49]
  exact klogSig _

/-- The running sums of the four heads: row `h` holds the sums of row `h + 4` of the gates. -/
theorem bcum_at (x1 : FVec Ideal S128x128 .f32) (x4 : FVec Ideal S1x128 .f32) (h : Fin 4) (i : Fin 128) :
    k0_pay53 (F := Ideal) (k0_pay49 x1 x4) (k0_pay50 (iota Kind.tc S128x128 32 [0] iota_S128x128_d0_w32) (iota Kind.tc S128x128 32 [1] iota_S128x128_d1_w32))
        k0_pay51 k0_pay52 (ix2 ⟨h.val, by omega⟩ i)
      = cum (fun j => logSig (k0_pay48 (F := Ideal) x1 x4 (ix2 ⟨4 + h.val, by omega⟩ j))) i := by
  pointwise [k0_pay53, k0_pay50, k0_pay51, k0_pay52]
  rw [show (⟨(h.val + 8 - 4) % 8, by omega⟩ : Fin 8) = ⟨4 + h.val, by omega⟩ from Fin.ext (by show (h.val + 8 - 4) % 8 = 4 + h.val; omega)]
  simp only [sle_word, forget_at]
  exact cum_parts (fun j => logSig (k0_pay48 (F := Ideal) x1 x4 (ix2 ⟨4 + h.val, by omega⟩ j))) (fun j => logSig_nonpos _) i

/-! ### The weights -/

section
variable (G L : FVec Ideal S8x128 .f32) (T : IVec S128x128 1) (O Z : FVec Ideal S128x128 .f32) (M : FVec Ideal S8x128 .f32)

/-- A head's running sum and its input gate. -/
def kb (r : Fin 8) (i : Fin 128) : EReal := k0_pay53 (F := Ideal) L T O Z (ix2 r i)
def ki (r : Fin 8) (i : Fin 128) : EReal := G (ix2 r i)

theorem p54_at (r : Fin 8) :
    k0_pay54 (F := Ideal) L T O Z (ix2 r 0)
      = kb L T O Z r 127 := by
  pointwise [k0_pay54]
  rfl

theorem p55_at (r : Fin 8) (i : Fin 128) :
    k0_pay55 (F := Ideal) G L T O Z (ix2 r i)
      = lw (kb L T O Z r) (ki G r) i := by
  pointwise [k0_pay55, k0_pay54]
  rfl

theorem p56_at (r : Fin 8) :
    k0_pay56 (F := Ideal) G L T O Z (ix2 r 0)
      = top (lw (kb L T O Z r) (ki G r)) := by
  pointwise [k0_pay56]
  simp only [p55_at, bits_bot]
  rfl

theorem p57_at (r : Fin 8) (i : Fin 128) :
    k0_pay57 (F := Ideal) G L T O Z (ix2 r i)
      = ki G r i - kb L T O Z r i := by
  pointwise [k0_pay57]
  rfl

theorem p59_at (r : Fin 8) (i : Fin 128) :
    k0_pay59 (F := Ideal) L T O Z (ix2 i ⟨r.val, by omega⟩)
      = kb L T O Z r i := by
  pointwise [k0_pay59]
  rfl

theorem p60_at (r : Fin 8) (i : Fin 128) :
    k0_pay60 (F := Ideal) G L T O Z (ix2 i ⟨r.val, by omega⟩)
      = Ideal.exp (lw (kb L T O Z r) (ki G r) i - top (lw (kb L T O Z r) (ki G r))) := by
  pointwise [k0_pay60]
  rw [p55_at, p56_at]

theorem p61_at (r : Fin 8) :
    k0_pay61 (F := Ideal) M (ix2 r 0)
      = M (ix2 r 0) := by
  pointwise [k0_pay61]

theorem p62_at (r : Fin 8) :
    k0_pay62 (F := Ideal) G L T O Z M (ix2 r 0)
      = stM (kb L T O Z r) (ki G r) (M (ix2 r 0)) := by
  pointwise [k0_pay62, k0_pay61]
  rw [p54_at, p56_at]; rfl

theorem p63_at (r : Fin 8) :
    k0_pay63 (F := Ideal) G L T O Z M (ix2 r 0)
      = Ideal.exp (kb L T O Z r 127 + M (ix2 r 0) - stM (kb L T O Z r) (ki G r) (M (ix2 r 0))) := by
  pointwise [k0_pay63, k0_pay61]
  rw [p54_at, p62_at]

theorem p64_at (r : Fin 8) :
    k0_pay64 (F := Ideal) G L T O Z M (ix2 r 0)
      = Ideal.exp (top (lw (kb L T O Z r) (ki G r)) - stM (kb L T O Z r) (ki G r) (M (ix2 r 0))) := by
  pointwise [k0_pay64, k0_pay61]
  rw [p56_at, p62_at]

theorem p65_at (r : Fin 8) (i : Fin 128) :
    k0_pay65 (F := Ideal) G L T O Z M (ix2 r i)
      = stM (kb L T O Z r) (ki G r) (M (ix2 r 0)) := by
  pointwise [k0_pay65]
  rw [p62_at]

end

end Cert.Mix

end
-- ==== Proof.MixKerMl.lean ====
/-
  The mixer's kernel, its four mLSTM heads: what a head writes into the block of the result and into its states, entry by
  entry, is the mathematics of an mLSTM head.
-/
module

public import proofs.«01_k».proof.Proof.Gen.AbMixerIdeal.Value
public import proofs.«01_k».proof.Proof.MixKerGate
public import Idealize.ShloMosaic.Lib.Pointwise

@[expose] public section

set_option maxRecDepth 16384

noncomputable section

namespace Cert.Mix

open Idealize.ShloMosaic Idealize.ShloMosaic.TcCoe Idealize.SL.Sem
open Cert.AbMixerIdeal Cert.AbMixerIdeal.Gen

/-- An mLSTM head's row before its normalisation, from what it is made of. -/
def mlYp (q k : M128) (v : M256) (b ig : Fin 128 → EReal) (m : EReal) (C : M256) (n : Fin 128 → EReal) (o : Fin 256 → EReal)
    (i : Fin 128) (e : Fin 256) : EReal :=
  sgm (o e) * (mlNum q k v b ig m C i e * Ideal.div 1 (mlDen q k b ig m n i))

/-! ### A head from plain numbers -/

theorem klogD (b g : Fin 128 → EReal) (i j : Fin 128) : (if j ≤ i then b i + (g j - b j) else ⊥) = logD b g i j := by
  rw [logD, sub_eq_add_neg, add_comm (g j), ← add_assoc, ← sub_eq_add_neg]

theorem kY' (q k : M128) (v : M256) (b ig : Fin 128 → EReal) (m : EReal) (C : M256) (n : Fin 128 → EReal)
    (o : Fin 256 → EReal) (i : Fin 128) (S : Fin 128 → EReal) (w mm : EReal) (hS : ∀ j, S j = mlS q k b ig m i j)
    (hw : w = Ideal.exp (b i + m - mT b ig m i)) (hm : mm = mT b ig m i) (e : Fin 256) :
    Ideal.div 1 (1 + Ideal.exp (-o e)) * (((∑ x, S x * v x e) + w * ∑ x, q i x * C x e)
        * Ideal.div 1 (max (FloatOps.absf (F := Ideal) (φ := FTy.f32) ((∑ x, S x) + w * ∑ x, q i x * n x)) (Ideal.exp (-mm))))
      = mlYp q k v b ig m C n o i e := by
  simp only [mlYp, mlNum, mlDen, sgm, hS, hw, hm, mul_comm]

/-! ### The four heads -/

section
variable (G L : FVec Ideal S8x128 .f32) (T : IVec S128x128 1) (O Z : FVec Ideal S128x128 .f32) (M : FVec Ideal S8x128 .f32)
  (QK : FVec Ideal S128x1024 .f32) (V OG ZG : FVec Ideal S128x256 .bf16) (C : FVec Ideal S1x128x256 .f32)
  (N : FVec Ideal S1x128 .f32) (g : FVec Ideal S1x256 .f32)

theorem D0 (i j : Fin 128) : k0_pay68 (F := Ideal) k0_pay7 (k0_pay67 G L T O Z) (ix2 i j) = logD (kb L T O Z 0) (ki G 0) i j := by
  pointwise [k0_pay68, k0_pay7, k0_pay67, k0_pay66]
  rw [sge_word, p57_at, (show k0_pay59 (F := Ideal) L T O Z (ix2 i 0) = kb L T O Z 0 i from p59_at L T O Z 0 i), nm_mask]
  exact klogD (kb L T O Z 0) (ki G 0) i j

theorem I0 (i : Fin 128) : k0_pay69 (F := Ideal) (k0_pay61 M) (k0_pay66 L T O Z) (ix2 i 0) = kb L T O Z 0 i + M (ix2 0 0) := by
  pointwise [k0_pay69, k0_pay66, k0_pay61]
  rw [(show k0_pay59 (F := Ideal) L T O Z (ix2 i 0) = kb L T O Z 0 i from p59_at L T O Z 0 i)]

theorem T0 (i : Fin 128) : k0_pay70 (F := Ideal) k0_pay7 (k0_pay61 M) (k0_pay66 L T O Z) (k0_pay67 G L T O Z) (ix2 i 0) = mT (kb L T O Z 0) (ki G 0) (M (ix2 0 0)) i := by
  pointwise [k0_pay70]
  simp only [D0, I0, bits_bot]
  rfl

theorem W0 (i : Fin 128) : k0_pay71 (F := Ideal) k0_pay7 (k0_pay61 M) (k0_pay66 L T O Z) (k0_pay67 G L T O Z) (ix2 i 0) = Ideal.exp (kb L T O Z 0 i + M (ix2 0 0) - mT (kb L T O Z 0) (ki G 0) (M (ix2 0 0)) i) := by
  pointwise [k0_pay71]
  rw [I0, T0]

theorem S0 (i j : Fin 128) : k0_pay75 (F := Ideal) k0_pay7 QK (k0_pay61 M) (k0_pay66 L T O Z) (k0_pay67 G L T O Z) (ix2 i j) = mlS (fun i d => QK (ix2 i ⟨d.val, by omega⟩)) (fun i d => QK (ix2 i ⟨512 + d.val, by omega⟩)) (kb L T O Z 0) (ki G 0) (M (ix2 0 0)) i j := by
  pointwise [k0_pay75, k0_pay74, k0_pay73, k0_pay72]
  rw [D0, T0]
  rfl

theorem num0 (i : Fin 128) (e : Fin 256) : k0_pay77 (F := Ideal) k0_pay7 QK (k0_pay61 M) (k0_pay66 L T O Z) (k0_pay67 G L T O Z) V C (ix2 i e)
      = (∑ x, mlS (fun i d => QK (ix2 i ⟨d.val, by omega⟩)) (fun i d => QK (ix2 i ⟨512 + d.val, by omega⟩)) (kb L T O Z 0) (ki G 0) (M (ix2 0 0)) i x * V (ix2 x e)) + Ideal.exp (kb L T O Z 0 i + M (ix2 0 0) - mT (kb L T O Z 0) (ki G 0) (M (ix2 0 0)) i) * ∑ d : Fin 128, QK (ix2 i ⟨d.val, by omega⟩) * C (ix3 0 d e) := by
  pointwise [k0_pay77, k0_pay74, k0_pay72, k0_pay76]
  simp only [S0, W0]

theorem den0 (i : Fin 128) : k0_pay78 (F := Ideal) k0_pay7 QK (k0_pay61 M) (k0_pay66 L T O Z) (k0_pay67 G L T O Z) N (ix2 i 0)
      = FloatOps.absf (F := Ideal) (φ := FTy.f32) ((∑ x, mlS (fun i d => QK (ix2 i ⟨d.val, by omega⟩)) (fun i d => QK (ix2 i ⟨512 + d.val, by omega⟩)) (kb L T O Z 0) (ki G 0) (M (ix2 0 0)) i x) + Ideal.exp (kb L T O Z 0 i + M (ix2 0 0) - mT (kb L T O Z 0) (ki G 0) (M (ix2 0 0)) i) * ∑ d : Fin 128, QK (ix2 i ⟨d.val, by omega⟩) * N (ix2 0 d)) := by
  pointwise [k0_pay78, k0_pay72]
  simp only [S0, W0]

theorem neg0 (i : Fin 128) : k0_pay79 (F := Ideal) k0_pay7 (k0_pay61 M) (k0_pay66 L T O Z) (k0_pay67 G L T O Z) (ix2 i 0) = Ideal.exp (-mT (kb L T O Z 0) (ki G 0) (M (ix2 0 0)) i) := by
  pointwise [k0_pay79]
  rw [T0, zero_sub]

/-- The head's row from the numerator and the two parts of the denominator. -/
theorem nrm0 (A : FVec Ideal S128x256 .f32) (x y : FVec Ideal S128x1 .f32) (i : Fin 128) (e : Fin 256) :
    k0_pay84 (F := Ideal) (k0_pay80 ZG) (k0_pay81 A x y OG g) (k0_pay82 ZG) k0_pay83 (ix2 i e)
      = hnorm (fun e => Ideal.div 1 (1 + Ideal.exp (-OG (ix2 i e))) * (A (ix2 i e) * Ideal.div 1 (max (x (ix2 i 0)) (y (ix2 i 0)))))
          (fun e => g (ix2 0 e)) e * silu (ZG (ix2 i e)) := by
  pointwise [k0_pay84, k0_pay80, k0_pay81, k0_pay82, k0_pay83]
  simp only [zero_sub]
  rfl

theorem ml0 (i : Fin 128) (e : Fin 256) :
    k0_pay84 (F := Ideal) (k0_pay80 ZG) (k0_pay81 (k0_pay77 k0_pay7 QK (k0_pay61 M) (k0_pay66 L T O Z) (k0_pay67 G L T O Z) V C)
        (k0_pay78 k0_pay7 QK (k0_pay61 M) (k0_pay66 L T O Z) (k0_pay67 G L T O Z) N) (k0_pay79 k0_pay7 (k0_pay61 M) (k0_pay66 L T O Z) (k0_pay67 G L T O Z)) OG g) (k0_pay82 ZG) k0_pay83 (ix2 i e)
      = hnorm (mlYp (fun i d => QK (ix2 i ⟨d.val, by omega⟩)) (fun i d => QK (ix2 i ⟨512 + d.val, by omega⟩)) (fun i e => V (ix2 i e)) (kb L T O Z 0) (ki G 0) (M (ix2 0 0)) (fun d e => C (ix3 0 d e)) (fun d => N (ix2 0 d)) (fun e => OG (ix2 i e)) i) (fun e => g (ix2 0 e)) e * silu (ZG (ix2 i e)) := by
  rw [nrm0]
  simp only [num0, den0, neg0]
  exact congrArg (fun y => hnorm y (fun e => g (ix2 0 e)) e * silu (ZG (ix2 i e))) (funext fun e =>
    kY' (fun i d => QK (ix2 i ⟨d.val, by omega⟩)) (fun i d => QK (ix2 i ⟨512 + d.val, by omega⟩)) (fun i e => V (ix2 i e)) (kb L T O Z 0) (ki G 0) (M (ix2 0 0)) (fun d e => C (ix3 0 d e)) (fun d => N (ix2 0 d)) (fun e => OG (ix2 i e)) i _ _ _ (fun _ => rfl) rfl rfl e)

theorem D1 (i j : Fin 128) : k0_pay91 (F := Ideal) k0_pay7 (k0_pay57 G L T O Z) (k0_pay59 L T O Z) (ix2 i j) = logD (kb L T O Z 1) (ki G 1) i j := by
  pointwise [k0_pay91, k0_pay7, k0_pay90]
  rw [sge_word, p57_at, (show k0_pay59 (F := Ideal) L T O Z (ix2 i 1) = kb L T O Z 1 i from p59_at L T O Z 1 i), nm_mask]
  exact klogD (kb L T O Z 1) (ki G 1) i j

theorem I1 (i : Fin 128) : k0_pay92 (F := Ideal) (k0_pay59 L T O Z) (k0_pay61 M) (ix2 i 0) = kb L T O Z 1 i + M (ix2 1 0) := by
  pointwise [k0_pay92, k0_pay90, k0_pay61]
  rw [(show k0_pay59 (F := Ideal) L T O Z (ix2 i 1) = kb L T O Z 1 i from p59_at L T O Z 1 i)]

theorem T1 (i : Fin 128) : k0_pay93 (F := Ideal) k0_pay7 (k0_pay57 G L T O Z) (k0_pay59 L T O Z) (k0_pay61 M) (ix2 i 0) = mT (kb L T O Z 1) (ki G 1) (M (ix2 1 0)) i := by
  pointwise [k0_pay93]
  simp only [D1, I1, bits_bot]
  rfl

theorem E1 (i j : Fin 128) : k0_pay94 (F := Ideal) k0_pay7 (k0_pay57 G L T O Z) (k0_pay59 L T O Z) (k0_pay61 M) (ix2 i j) = logD (kb L T O Z 1) (ki G 1) i j - mT (kb L T O Z 1) (ki G 1) (M (ix2 1 0)) i := by
  pointwise [k0_pay94]
  rw [D1, T1]

theorem cell1 (i : Fin 128) (e : Fin 256) :
    k0_pay97 (F := Ideal) QK (k0_pay92 (k0_pay59 L T O Z) (k0_pay61 M)) (k0_pay93 k0_pay7 (k0_pay57 G L T O Z) (k0_pay59 L T O Z) (k0_pay61 M)) (k0_pay94 k0_pay7 (k0_pay57 G L T O Z) (k0_pay59 L T O Z) (k0_pay61 M)) V C N (ix2 i e)
      = ((∑ x, mlS (fun i d => QK (ix2 i ⟨128 + d.val, by omega⟩)) (fun i d => QK (ix2 i ⟨640 + d.val, by omega⟩)) (kb L T O Z 1) (ki G 1) (M (ix2 1 0)) i x * V (ix2 x e)) + Ideal.exp (kb L T O Z 1 i + M (ix2 1 0) - mT (kb L T O Z 1) (ki G 1) (M (ix2 1 0)) i) * ∑ d : Fin 128, QK (ix2 i ⟨128 + d.val, by omega⟩) * C (ix3 0 d e))
        * Ideal.div 1 (max (FloatOps.absf (F := Ideal) (φ := FTy.f32) ((∑ x, mlS (fun i d => QK (ix2 i ⟨128 + d.val, by omega⟩)) (fun i d => QK (ix2 i ⟨640 + d.val, by omega⟩)) (kb L T O Z 1) (ki G 1) (M (ix2 1 0)) i x)
          + Ideal.exp (kb L T O Z 1 i + M (ix2 1 0) - mT (kb L T O Z 1) (ki G 1) (M (ix2 1 0)) i) * ∑ d : Fin 128, QK (ix2 i ⟨128 + d.val, by omega⟩) * N (ix2 0 d))) (Ideal.exp (-mT (kb L T O Z 1) (ki G 1) (M (ix2 1 0)) i))) := by
  pointwise [k0_pay97, k0_pay95, k0_pay96]
  simp only [I1, T1, E1, zero_sub]
  rfl

/-- The head's row from its cell. -/
theorem nrm1 (A : FVec Ideal S128x256 .f32) (i : Fin 128) (e : Fin 256) :
    k0_pay100 (F := Ideal) A (k0_pay98 OG) k0_pay99 ZG g (ix2 i e)
      = hnorm (fun e => Ideal.div 1 (1 + Ideal.exp (-OG (ix2 i e))) * A (ix2 i e))
          (fun e => g (ix2 0 e)) e * silu (ZG (ix2 i e)) := by
  pointwise [k0_pay100, k0_pay98, k0_pay99]
  simp only [zero_sub]
  rfl

theorem ml1 (i : Fin 128) (e : Fin 256) :
    k0_pay100 (F := Ideal) (k0_pay97 QK (k0_pay92 (k0_pay59 L T O Z) (k0_pay61 M)) (k0_pay93 k0_pay7 (k0_pay57 G L T O Z) (k0_pay59 L T O Z) (k0_pay61 M)) (k0_pay94 k0_pay7 (k0_pay57 G L T O Z) (k0_pay59 L T O Z) (k0_pay61 M)) V C N)
        (k0_pay98 OG) k0_pay99 ZG g (ix2 i e)
      = hnorm (mlYp (fun i d => QK (ix2 i ⟨128 + d.val, by omega⟩)) (fun i d => QK (ix2 i ⟨640 + d.val, by omega⟩)) (fun i e => V (ix2 i e)) (kb L T O Z 1) (ki G 1) (M (ix2 1 0)) (fun d e => C (ix3 0 d e)) (fun d => N (ix2 0 d)) (fun e => OG (ix2 i e)) i) (fun e => g (ix2 0 e)) e * silu (ZG (ix2 i e)) := by
  rw [nrm1]
  simp only [cell1]
  exact congrArg (fun y => hnorm y (fun e => g (ix2 0 e)) e * silu (ZG (ix2 i e))) (funext fun e =>
    kY' (fun i d => QK (ix2 i ⟨128 + d.val, by omega⟩)) (fun i d => QK (ix2 i ⟨640 + d.val, by omega⟩)) (fun i e => V (ix2 i e)) (kb L T O Z 1) (ki G 1) (M (ix2 1 0)) (fun d e => C (ix3 0 d e)) (fun d => N (ix2 0 d)) (fun e => OG (ix2 i e)) i _ _ _ (fun _ => rfl) rfl rfl e)

theorem D2 (i j : Fin 128) : k0_pay108 (F := Ideal) k0_pay7 (k0_pay57 G L T O Z) (k0_pay59 L T O Z) (ix2 i j) = logD (kb L T O Z 2) (ki G 2) i j := by
  pointwise [k0_pay108, k0_pay7, k0_pay107]
  rw [sge_word, p57_at, (show k0_pay59 (F := Ideal) L T O Z (ix2 i 2) = kb L T O Z 2 i from p59_at L T O Z 2 i), nm_mask]
  exact klogD (kb L T O Z 2) (ki G 2) i j

theorem I2 (i : Fin 128) : k0_pay109 (F := Ideal) (k0_pay59 L T O Z) (k0_pay61 M) (ix2 i 0) = kb L T O Z 2 i + M (ix2 2 0) := by
  pointwise [k0_pay109, k0_pay107, k0_pay61]
  rw [(show k0_pay59 (F := Ideal) L T O Z (ix2 i 2) = kb L T O Z 2 i from p59_at L T O Z 2 i)]

theorem T2 (i : Fin 128) : k0_pay110 (F := Ideal) k0_pay7 (k0_pay57 G L T O Z) (k0_pay59 L T O Z) (k0_pay61 M) (ix2 i 0) = mT (kb L T O Z 2) (ki G 2) (M (ix2 2 0)) i := by
  pointwise [k0_pay110]
  simp only [D2, I2, bits_bot]
  rfl

theorem E2 (i j : Fin 128) : k0_pay111 (F := Ideal) k0_pay7 (k0_pay57 G L T O Z) (k0_pay59 L T O Z) (k0_pay61 M) (ix2 i j) = Ideal.exp (logD (kb L T O Z 2) (ki G 2) i j - mT (kb L T O Z 2) (ki G 2) (M (ix2 2 0)) i) := by
  pointwise [k0_pay111]
  rw [D2, T2]

theorem W2 (i : Fin 128) : k0_pay112 (F := Ideal) k0_pay7 (k0_pay57 G L T O Z) (k0_pay59 L T O Z) (k0_pay61 M) (ix2 i 0) = Ideal.exp (kb L T O Z 2 i + M (ix2 2 0) - mT (kb L T O Z 2) (ki G 2) (M (ix2 2 0)) i) := by
  pointwise [k0_pay112]
  rw [I2, T2]

theorem Y2 (i : Fin 128) (e : Fin 256) :
    k0_pay117 (F := Ideal) (k0_pay110 k0_pay7 (k0_pay57 G L T O Z) (k0_pay59 L T O Z) (k0_pay61 M)) (k0_pay111 k0_pay7 (k0_pay57 G L T O Z) (k0_pay59 L T O Z) (k0_pay61 M)) (k0_pay112 k0_pay7 (k0_pay57 G L T O Z) (k0_pay59 L T O Z) (k0_pay61 M))
        (k0_pay113 QK) (k0_pay114 QK) (k0_pay115 QK) V C N OG (ix2 i e) = mlYp (fun i d => QK (ix2 i ⟨256 + d.val, by omega⟩)) (fun i d => QK (ix2 i ⟨768 + d.val, by omega⟩)) (fun i e => V (ix2 i e)) (kb L T O Z 2) (ki G 2) (M (ix2 2 0)) (fun d e => C (ix3 0 d e)) (fun d => N (ix2 0 d)) (fun e => OG (ix2 i e)) i e := by
  pointwise [k0_pay117, k0_pay113, k0_pay114, k0_pay115, k0_pay116]
  simp only [E2, W2, T2, zero_sub]
  exact kY' (fun i d => QK (ix2 i ⟨256 + d.val, by omega⟩)) (fun i d => QK (ix2 i ⟨768 + d.val, by omega⟩)) (fun i e => V (ix2 i e)) (kb L T O Z 2) (ki G 2) (M (ix2 2 0)) (fun d e => C (ix3 0 d e)) (fun d => N (ix2 0 d)) (fun e => OG (ix2 i e)) i _ _ _ (fun _ => rfl) rfl rfl e

/-- The head's row normalised. -/
theorem nrm2 (A : FVec Ideal S128x256 .f32) (i : Fin 128) (e : Fin 256) :
    k0_pay118 (F := Ideal) A ZG g (ix2 i e) = hnorm (fun e => A (ix2 i e)) (fun e => g (ix2 0 e)) e * silu (ZG (ix2 i e)) := by
  pointwise [k0_pay118]
  simp only [zero_sub]
  rfl

theorem ml2 (i : Fin 128) (e : Fin 256) :
    k0_pay118 (F := Ideal) (k0_pay117 (k0_pay110 k0_pay7 (k0_pay57 G L T O Z) (k0_pay59 L T O Z) (k0_pay61 M)) (k0_pay111 k0_pay7 (k0_pay57 G L T O Z) (k0_pay59 L T O Z) (k0_pay61 M)) (k0_pay112 k0_pay7 (k0_pay57 G L T O Z) (k0_pay59 L T O Z) (k0_pay61 M))
        (k0_pay113 QK) (k0_pay114 QK) (k0_pay115 QK) V C N OG) ZG g (ix2 i e)
      = hnorm (mlYp (fun i d => QK (ix2 i ⟨256 + d.val, by omega⟩)) (fun i d => QK (ix2 i ⟨768 + d.val, by omega⟩)) (fun i e => V (ix2 i e)) (kb L T O Z 2) (ki G 2) (M (ix2 2 0)) (fun d e => C (ix3 0 d e)) (fun d => N (ix2 0 d)) (fun e => OG (ix2 i e)) i) (fun e => g (ix2 0 e)) e * silu (ZG (ix2 i e)) := by
  rw [nrm2]
  simp only [Y2]

theorem D3 (i j : Fin 128) : k0_pay128 (F := Ideal) k0_pay7 (k0_pay57 G L T O Z) (k0_pay59 L T O Z) (ix2 i j) = logD (kb L T O Z 3) (ki G 3) i j := by
  pointwise [k0_pay128, k0_pay7, k0_pay127]
  rw [sge_word, p57_at, (show k0_pay59 (F := Ideal) L T O Z (ix2 i 3) = kb L T O Z 3 i from p59_at L T O Z 3 i), nm_mask]
  exact klogD (kb L T O Z 3) (ki G 3) i j

theorem I3 (i : Fin 128) : k0_pay129 (F := Ideal) (k0_pay59 L T O Z) (k0_pay61 M) (ix2 i 0) = kb L T O Z 3 i + M (ix2 3 0) := by
  pointwise [k0_pay129, k0_pay127, k0_pay61]
  rw [(show k0_pay59 (F := Ideal) L T O Z (ix2 i 3) = kb L T O Z 3 i from p59_at L T O Z 3 i)]

theorem T3 (i : Fin 128) : k0_pay130 (F := Ideal) k0_pay7 (k0_pay57 G L T O Z) (k0_pay59 L T O Z) (k0_pay61 M) (ix2 i 0) = mT (kb L T O Z 3) (ki G 3) (M (ix2 3 0)) i := by
  pointwise [k0_pay130]
  simp only [D3, I3, bits_bot]
  rfl

theorem W3 (i : Fin 128) : k0_pay131 (F := Ideal) k0_pay7 (k0_pay57 G L T O Z) (k0_pay59 L T O Z) (k0_pay61 M) (ix2 i 0) = Ideal.exp (kb L T O Z 3 i + M (ix2 3 0) - mT (kb L T O Z 3) (ki G 3) (M (ix2 3 0)) i) := by
  pointwise [k0_pay131]
  rw [I3, T3]

theorem S3 (i j : Fin 128) : k0_pay135 (F := Ideal) k0_pay7 QK (k0_pay57 G L T O Z) (k0_pay59 L T O Z) (k0_pay61 M) (ix2 i j) = mlS (fun i d => QK (ix2 i ⟨384 + d.val, by omega⟩)) (fun i d => QK (ix2 i ⟨896 + d.val, by omega⟩)) (kb L T O Z 3) (ki G 3) (M (ix2 3 0)) i j := by
  pointwise [k0_pay135, k0_pay134, k0_pay133, k0_pay132]
  rw [D3, T3]
  rfl

/-- The head's row, centred, from its scores and its weights. -/
theorem cen3 (a w : FVec Ideal S128x1 .f32) (s : FVec Ideal S128x128 .f32) (i : Fin 128) (e : Fin 256) :
    k0_pay138 (F := Ideal) a w (k0_pay132 QK) (k0_pay134 QK) V s (k0_pay136 C) N OG (ix2 i e)
      = (fun y : Fin 256 → EReal => y e - mean y) (fun e => Ideal.div 1 (1 + Ideal.exp (-OG (ix2 i e))) *
        (((∑ x, s (ix2 i x) * V (ix2 x e)) + w (ix2 i 0) * ∑ d : Fin 128, QK (ix2 i ⟨384 + d.val, by omega⟩) * C (ix3 0 d e))
        * Ideal.div 1 (max (FloatOps.absf (F := Ideal) (φ := FTy.f32) ((∑ x, s (ix2 i x))
          + w (ix2 i 0) * ∑ d : Fin 128, QK (ix2 i ⟨384 + d.val, by omega⟩) * N (ix2 0 d))) (Ideal.exp (-a (ix2 i 0)))))) := by
  pointwise [k0_pay138, k0_pay132, k0_pay134, k0_pay136]
  simp only [zero_sub]
  rfl

theorem nrm3 (A : FVec Ideal S128x256 .f32) (y : Fin 256 → EReal) (i : Fin 128) (e : Fin 256)
    (hA : ∀ e, A (ix2 i e) = y e - mean y) :
    k0_pay139 (F := Ideal) (k0_pay137 ZG) g A (ix2 i e) = hnorm y (fun e => g (ix2 0 e)) e * silu (ZG (ix2 i e)) := by
  pointwise [k0_pay139, k0_pay137]
  simp only [zero_sub, hA]
  rfl

theorem ml3 (i : Fin 128) (e : Fin 256) :
    k0_pay139 (F := Ideal) (k0_pay137 ZG) g (k0_pay138 (k0_pay130 k0_pay7 (k0_pay57 G L T O Z) (k0_pay59 L T O Z) (k0_pay61 M)) (k0_pay131 k0_pay7 (k0_pay57 G L T O Z) (k0_pay59 L T O Z) (k0_pay61 M))
        (k0_pay132 QK) (k0_pay134 QK) V (k0_pay135 k0_pay7 QK (k0_pay57 G L T O Z) (k0_pay59 L T O Z) (k0_pay61 M)) (k0_pay136 C) N OG) (ix2 i e)
      = hnorm (mlYp (fun i d => QK (ix2 i ⟨384 + d.val, by omega⟩)) (fun i d => QK (ix2 i ⟨896 + d.val, by omega⟩)) (fun i e => V (ix2 i e)) (kb L T O Z 3) (ki G 3) (M (ix2 3 0)) (fun d e => C (ix3 0 d e)) (fun d => N (ix2 0 d)) (fun e => OG (ix2 i e)) i) (fun e => g (ix2 0 e)) e * silu (ZG (ix2 i e)) := by
  refine nrm3 ZG g _ _ i e fun e => ?_
  rw [cen3]
  simp only [S3, W3, T3]
  exact congrArg (fun y : Fin 256 → EReal => y e - mean y) (funext fun e =>
    kY' (fun i d => QK (ix2 i ⟨384 + d.val, by omega⟩)) (fun i d => QK (ix2 i ⟨896 + d.val, by omega⟩)) (fun i e => V (ix2 i e)) (kb L T O Z 3) (ki G 3) (M (ix2 3 0)) (fun d e => C (ix3 0 d e)) (fun d => N (ix2 0 d)) (fun e => OG (ix2 i e)) i _ _ _ (fun _ => rfl) rfl rfl e)

theorem stC0 (d : Fin 128) (e : Fin 256) : k0_pay88 (F := Ideal) (k0_pay60 G L T O Z) (k0_pay63 G L T O Z M) (k0_pay64 G L T O Z M) (k0_pay73 QK) V (k0_pay76 C) (ix3 0 d e)
      = stC (fun i d => QK (ix2 i ⟨512 + d.val, by omega⟩)) (fun i e => V (ix2 i e)) (kb L T O Z 0) (ki G 0) (M (ix2 0 0)) (fun d e => C (ix3 0 d e)) d e := by
  pointwise [k0_pay88, k0_pay85, k0_pay86, k0_pay87, k0_pay73, k0_pay76]
  simp only [p63_at, p64_at, (show ∀ i, k0_pay60 (F := Ideal) G L T O Z (ix2 i 0) = Ideal.exp (lw (kb L T O Z 0) (ki G 0) i - top (lw (kb L T O Z 0) (ki G 0))) from p60_at G L T O Z 0)]
  rfl

theorem stN0 (d : Fin 128) : k0_pay89 (F := Ideal) (k0_pay60 G L T O Z) (k0_pay63 G L T O Z M) (k0_pay64 G L T O Z M) (k0_pay73 QK) N (ix2 0 d)
      = stN (fun i d => QK (ix2 i ⟨512 + d.val, by omega⟩)) (kb L T O Z 0) (ki G 0) (M (ix2 0 0)) (fun d => N (ix2 0 d)) d := by
  pointwise [k0_pay89, k0_pay85, k0_pay86, k0_pay87, k0_pay73]
  simp only [p63_at, p64_at, (show ∀ i, k0_pay60 (F := Ideal) G L T O Z (ix2 i 0) = Ideal.exp (lw (kb L T O Z 0) (ki G 0) i - top (lw (kb L T O Z 0) (ki G 0))) from p60_at G L T O Z 0)]
  rfl

theorem stC1 (d : Fin 128) (e : Fin 256) : k0_pay105 (F := Ideal) (k0_pay63 G L T O Z M) (k0_pay64 G L T O Z M) V (k0_pay96 C) (k0_pay102 (k0_pay60 G L T O Z) (k0_pay95 QK)) (ix3 0 d e)
      = stC (fun i d => QK (ix2 i ⟨640 + d.val, by omega⟩)) (fun i e => V (ix2 i e)) (kb L T O Z 1) (ki G 1) (M (ix2 1 0)) (fun d e => C (ix3 0 d e)) d e := by
  pointwise [k0_pay105, k0_pay103, k0_pay104, k0_pay96, k0_pay102, k0_pay101, k0_pay95]
  simp only [p63_at, p64_at, (show ∀ i, k0_pay60 (F := Ideal) G L T O Z (ix2 i 1) = Ideal.exp (lw (kb L T O Z 1) (ki G 1) i - top (lw (kb L T O Z 1) (ki G 1))) from p60_at G L T O Z 1)]
  rfl

theorem stN1 (d : Fin 128) : k0_pay106 (F := Ideal) (k0_pay63 G L T O Z M) (k0_pay64 G L T O Z M) N (k0_pay101 (k0_pay60 G L T O Z) (k0_pay95 QK)) (ix2 0 d)
      = stN (fun i d => QK (ix2 i ⟨640 + d.val, by omega⟩)) (kb L T O Z 1) (ki G 1) (M (ix2 1 0)) (fun d => N (ix2 0 d)) d := by
  pointwise [k0_pay106, k0_pay103, k0_pay104, k0_pay101, k0_pay95]
  simp only [p63_at, p64_at, (show ∀ i, k0_pay60 (F := Ideal) G L T O Z (ix2 i 1) = Ideal.exp (lw (kb L T O Z 1) (ki G 1) i - top (lw (kb L T O Z 1) (ki G 1))) from p60_at G L T O Z 1)]
  rfl

theorem stC2 (d : Fin 128) (e : Fin 256) : k0_pay125 (F := Ideal) (k0_pay123 (k0_pay63 G L T O Z M) (k0_pay116 C)) (k0_pay124 (k0_pay60 G L T O Z) (k0_pay64 G L T O Z M) (k0_pay114 QK) V) (ix3 0 d e)
      = stC (fun i d => QK (ix2 i ⟨768 + d.val, by omega⟩)) (fun i e => V (ix2 i e)) (kb L T O Z 2) (ki G 2) (M (ix2 2 0)) (fun d e => C (ix3 0 d e)) d e := by
  pointwise [k0_pay125, k0_pay123, k0_pay124, k0_pay116, k0_pay114, k0_pay121, k0_pay122, k0_pay119]
  simp only [p63_at, p64_at, (show ∀ i, k0_pay60 (F := Ideal) G L T O Z (ix2 i 2) = Ideal.exp (lw (kb L T O Z 2) (ki G 2) i - top (lw (kb L T O Z 2) (ki G 2))) from p60_at G L T O Z 2)]
  rfl

theorem stN2 (d : Fin 128) : k0_pay126 (F := Ideal) N (k0_pay120 (k0_pay60 G L T O Z) (k0_pay114 QK)) (k0_pay121 (k0_pay63 G L T O Z M)) (k0_pay122 (k0_pay64 G L T O Z M)) (ix2 0 d)
      = stN (fun i d => QK (ix2 i ⟨768 + d.val, by omega⟩)) (kb L T O Z 2) (ki G 2) (M (ix2 2 0)) (fun d => N (ix2 0 d)) d := by
  pointwise [k0_pay126, k0_pay120, k0_pay119, k0_pay121, k0_pay122, k0_pay114]
  simp only [p63_at, p64_at, (show ∀ i, k0_pay60 (F := Ideal) G L T O Z (ix2 i 2) = Ideal.exp (lw (kb L T O Z 2) (ki G 2) i - top (lw (kb L T O Z 2) (ki G 2))) from p60_at G L T O Z 2)]
  rfl

theorem stC3 (d : Fin 128) (e : Fin 256) : k0_pay143 (F := Ideal) (k0_pay60 G L T O Z) (k0_pay63 G L T O Z M) (k0_pay64 G L T O Z M) (k0_pay133 QK) V (k0_pay136 C) (ix3 0 d e)
      = stC (fun i d => QK (ix2 i ⟨896 + d.val, by omega⟩)) (fun i e => V (ix2 i e)) (kb L T O Z 3) (ki G 3) (M (ix2 3 0)) (fun d e => C (ix3 0 d e)) d e := by
  pointwise [k0_pay143, k0_pay140, k0_pay141, k0_pay142, k0_pay133, k0_pay136]
  simp only [p63_at, p64_at, (show ∀ i, k0_pay60 (F := Ideal) G L T O Z (ix2 i 3) = Ideal.exp (lw (kb L T O Z 3) (ki G 3) i - top (lw (kb L T O Z 3) (ki G 3))) from p60_at G L T O Z 3)]
  rfl

theorem stN3 (d : Fin 128) : k0_pay1 (F := Ideal) (k0_pay144 (k0_pay63 G L T O Z M) N) (k0_pay145 (k0_pay60 G L T O Z) (k0_pay64 G L T O Z M) (k0_pay133 QK)) (ix2 0 d)
      = stN (fun i d => QK (ix2 i ⟨896 + d.val, by omega⟩)) (kb L T O Z 3) (ki G 3) (M (ix2 3 0)) (fun d => N (ix2 0 d)) d := by
  pointwise [k0_pay1, k0_pay144, k0_pay145, k0_pay140, k0_pay141, k0_pay142, k0_pay133]
  simp only [p63_at, p64_at, (show ∀ i, k0_pay60 (F := Ideal) G L T O Z (ix2 i 3) = Ideal.exp (lw (kb L T O Z 3) (ki G 3) i - top (lw (kb L T O Z 3) (ki G 3))) from p60_at G L T O Z 3)]
  rfl

end

end Cert.Mix

end
-- ==== Proof.MixKerChunk.lean ====
/-
  The mixer's kernel at one grid point: what the point writes into its block of the result and into its states, as the
  mathematics of one chunk, from the blocks it reads and the states it finds.
-/
module

public import proofs.«01_k».proof.Proof.Gen.AbMixerIdeal.Value
public import proofs.«01_k».proof.Proof.MixKerRet
public import proofs.«01_k».proof.Proof.MixKerMl
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem
open Cert.AbMixerIdeal Cert.AbMixerIdeal.Gen

/-! ### One chunk -/

section
variable (P : Fin 128 → Fin 7168 → EReal) (Q : Fin 128 → Fin 1024 → EReal) (b ig : Fin 4 → Fin 128 → EReal)
  (rn mn : Fin 1024 → EReal) (R C : Fin 4 → M256) (N : Fin 4 → Fin 128 → EReal) (m : Fin 4 → EReal)

def cRet (h : Fin 4) (i : Fin 128) (e : Fin 256) : EReal :=
  hnorm (retY (lg h) (fun i d => P i (hcol 0 h d)) (fun i d => P i (hcol 512 h d)) (fun i e => P i (wcol 1024 h e)) (R h) i)
    (fun e => rn ⟨h.val * 256 + e.val, by omega⟩) e * silu (P i (wcol 2048 h e))

def cR (h : Fin 4) : M256 := retStep (lg h) (fun i d => P i (hcol 512 h d)) (fun i e => P i (wcol 1024 h e)) (R h)

def cq (h : Fin 4) : M128 := fun i d => Q i ⟨h.val * 128 + d.val, by omega⟩
def ck (h : Fin 4) : M128 := fun i d => Q i ⟨512 + (h.val * 128 + d.val), by omega⟩

def cMl (h : Fin 4) (i : Fin 128) (e : Fin 256) : EReal :=
  hnorm (mlYp (cq Q h) (ck Q h) (fun i e => P i (wcol 4096 h e)) (b h) (ig h) (m h) (C h) (N h) (fun e => P i (wcol 5120 h e)) i)
    (fun e => mn ⟨h.val * 256 + e.val, by omega⟩) e * silu (P i (wcol 6144 h e))

def cC (h : Fin 4) : M256 := stC (ck Q h) (fun i e => P i (wcol 4096 h e)) (b h) (ig h) (m h) (C h)
def cN (h : Fin 4) : Fin 128 → EReal := stN (ck Q h) (b h) (ig h) (m h) (N h)

def cOut (y : S128x2048.Idx) : EReal :=
  if (y 1).val < 1024 then cRet P rn R ⟨(y 1).val / 256 % 4, by omega⟩ (y 0) ⟨(y 1).val % 256, by omega⟩
  else cMl P Q b ig mn C N m ⟨(y 1).val / 256 % 4, by omega⟩ (y 0) ⟨(y 1).val % 256, by omega⟩

theorem cOut_ret (h : Fin 4) (i : Fin 128) (e : Fin 256) (n : Fin 2048) (hn : n.val = h.val * 256 + e.val) :
    cOut P Q b ig rn mn R C N m (ix2 i n) = cRet P rn R h i e := by
  have := h.isLt
  have := e.isLt
  show (if n.val < 1024 then cRet P rn R ⟨n.val / 256 % 4, _⟩ i ⟨n.val % 256, _⟩ else _) = _
  rw [if_pos (by omega)]
  congr 1
  · exact Fin.ext (by show n.val / 256 % 4 = h.val; omega)
  · exact Fin.ext (by show n.val % 256 = e.val; omega)

theorem cOut_ml (h : Fin 4) (i : Fin 128) (e : Fin 256) (n : Fin 2048) (hn : n.val = 1024 + (h.val * 256 + e.val)) :
    cOut P Q b ig rn mn R C N m (ix2 i n) = cMl P Q b ig mn C N m h i e := by
  have := h.isLt
  have := e.isLt
  show (if n.val < 1024 then _ else cMl P Q b ig mn C N m ⟨n.val / 256 % 4, _⟩ i ⟨n.val % 256, _⟩) = _
  rw [if_neg (by omega)]
  congr 1
  · exact Fin.ext (by show n.val / 256 % 4 = h.val; omega)
  · exact Fin.ext (by show n.val % 256 = e.val; omega)

end

theorem ret_congr {l : EReal} {q q' k k' : M128} {v v' R R' : M256} {g g' : Fin 256 → EReal} {z z' : EReal} (i : Fin 128) (e : Fin 256)
    (hq : ∀ i d, q i d = q' i d) (hk : ∀ i d, k i d = k' i d) (hv : ∀ i e, v i e = v' i e) (hR : ∀ d e, R d e = R' d e)
    (hg : ∀ e, g e = g' e) (hz : z = z') :
    hnorm (retY l q k v R i) g e * silu z = hnorm (retY l q' k' v' R' i) g' e * silu z' := by
  obtain rfl : q = q' := funext₂ hq
  obtain rfl : k = k' := funext₂ hk
  obtain rfl : v = v' := funext₂ hv
  obtain rfl : R = R' := funext₂ hR
  obtain rfl : g = g' := funext hg
  rw [hz]

theorem retStep_congr {l : EReal} {k k' : M128} {v v' R R' : M256} (d : Fin 128) (e : Fin 256)
    (hk : ∀ i d, k i d = k' i d) (hv : ∀ i e, v i e = v' i e) (hR : ∀ d e, R d e = R' d e) :
    retStep l k v R d e = retStep l k' v' R' d e := by
  obtain rfl : k = k' := funext₂ hk
  obtain rfl : v = v' := funext₂ hv
  obtain rfl : R = R' := funext₂ hR
  rfl

theorem ml_congr {q q' k k' : M128} {v v' C C' : M256} {b b' ig ig' : Fin 128 → EReal} {m m' : EReal} {n n' : Fin 128 → EReal}
    {o o' g g' : Fin 256 → EReal} {z z' : EReal} (i : Fin 128) (e : Fin 256) (hb : b = b') (hi : ig = ig') (hm : m = m')
    (hq : ∀ i d, q i d = q' i d) (hk : ∀ i d, k i d = k' i d) (hv : ∀ i e, v i e = v' i e) (hC : ∀ d e, C d e = C' d e)
    (hn : ∀ d, n d = n' d) (ho : ∀ e, o e = o' e) (hg : ∀ e, g e = g' e) (hz : z = z') :
    hnorm (mlYp q k v b ig m C n o i) g e * silu z = hnorm (mlYp q' k' v' b' ig' m' C' n' o' i) g' e * silu z' := by
  obtain rfl : q = q' := funext₂ hq
  obtain rfl : k = k' := funext₂ hk
  obtain rfl : v = v' := funext₂ hv
  obtain rfl : C = C' := funext₂ hC
  obtain rfl : n = n' := funext hn
  obtain rfl : o = o' := funext ho
  obtain rfl : g = g' := funext hg
  rw [hz, hb, hi, hm]

theorem stC_congr {k k' : M128} {v v' C C' : M256} {b b' ig ig' : Fin 128 → EReal} {m m' : EReal} (d : Fin 128) (e : Fin 256)
    (hb : b = b') (hi : ig = ig') (hm : m = m')
    (hk : ∀ i d, k i d = k' i d) (hv : ∀ i e, v i e = v' i e) (hC : ∀ d e, C d e = C' d e) :
    stC k v b ig m C d e = stC k' v' b' ig' m' C' d e := by
  obtain rfl : k = k' := funext₂ hk
  obtain rfl : v = v' := funext₂ hv
  obtain rfl : C = C' := funext₂ hC
  rw [hb, hi, hm]

theorem stN_congr {k k' : M128} {n n' : Fin 128 → EReal} {b b' ig ig' : Fin 128 → EReal} {m m' : EReal} (d : Fin 128)
    (hb : b = b') (hi : ig = ig') (hm : m = m') (hk : ∀ i d, k i d = k' i d) (hn : ∀ d, n d = n' d) :
    stN k b ig m n d = stN k' b' ig' m' n' d := by
  obtain rfl : k = k' := funext₂ hk
  obtain rfl : n = n' := funext hn
  rw [hb, hi, hm]

/-! ### Loads and stores of rectangles, at an entry -/

theorem ld2 {φ : EltTy} {A B a b o0 o1 : ℕ} (X : (⟨2, ![A, B]⟩ : Shape).Idx → Elt Ideal φ) (inb : ∀ x, (![o0, o1] : Fin 2 → ℕ) x + (![a, b] : Fin 2 → ℕ) x ≤ (![A, B] : Fin 2 → ℕ) x)
    (i : Fin a) (j : Fin b) (r : Fin A) (s : Fin B) (h0 : r.val = o0 + i.val) (h1 : s.val = o1 + j.val) :
    View.ld (Val := Elt Ideal) (S := ⟨2, ![A, B]⟩) (e' := φ) X (Rect.unit ![o0, o1] ![a, b] inb) (ix2 i j) = X (ix2 r s) :=
  View.ld_unit_apply_of (Val := Elt Ideal) (S := ⟨2, ![A, B]⟩) (e := φ) X _ _ inb (ix2 i j) (ix2 r s) fun x => by
    match x with
    | ⟨0, _⟩ => exact h0
    | ⟨1, _⟩ => exact h1

theorem ld3 {φ : EltTy} {A B C a b c o0 o1 o2 : ℕ} (X : (⟨3, ![A, B, C]⟩ : Shape).Idx → Elt Ideal φ)
    (inb : ∀ x, (![o0, o1, o2] : Fin 3 → ℕ) x + (![a, b, c] : Fin 3 → ℕ) x ≤ (![A, B, C] : Fin 3 → ℕ) x)
    (i : Fin a) (j : Fin b) (k : Fin c) (r : Fin A) (s : Fin B) (t : Fin C) (h0 : r.val = o0 + i.val) (h1 : s.val = o1 + j.val) (h2 : t.val = o2 + k.val) :
    View.ld (Val := Elt Ideal) (S := ⟨3, ![A, B, C]⟩) (e' := φ) X (Rect.unit ![o0, o1, o2] ![a, b, c] inb) (ix3 i j k) = X (ix3 r s t) :=
  View.ld_unit_apply_of (Val := Elt Ideal) (S := ⟨3, ![A, B, C]⟩) (e := φ) X _ _ inb (ix3 i j k) (ix3 r s t) fun x => by
    match x with
    | ⟨0, _⟩ => exact h0
    | ⟨1, _⟩ => exact h1
    | ⟨2, _⟩ => exact h2

/-- A stored rectangle of a matrix is a block of `G` when its entries are. -/
theorem pc2 {A B a b o0 o1 : ℕ} (G : (⟨2, ![A, B]⟩ : Shape).Idx → EReal) (w : (⟨2, ![a, b]⟩ : Shape).Idx → EReal)
    (inb : ∀ x, (![o0, o1] : Fin 2 → ℕ) x + (![a, b] : Fin 2 → ℕ) x ≤ (![A, B] : Fin 2 → ℕ) x)
    (h : ∀ (i : Fin a) (j : Fin b) (r : Fin A) (s : Fin B), r.val = o0 + i.val → s.val = o1 + j.val → w (ix2 i j) = G (ix2 r s)) :
    ∀ x : (Rect.unit (s := ⟨2, ![A, B]⟩) ![o0, o1] ![a, b] inb).shape.Idx, w x = G ((Rect.unit (s := ⟨2, ![A, B]⟩) ![o0, o1] ![a, b] inb).emb x) := by
  intro x
  have e1 : x = ix2 (x 0) (x 1) := funext fun z => by
    match z with
    | ⟨0, _⟩ => rfl
    | ⟨1, _⟩ => rfl
  have l0 : o0 + (x 0).val < A := lt_of_lt_of_le (Nat.add_lt_add_left (x 0).isLt _) (inb 0)
  have l1 : o1 + (x 1).val < B := lt_of_lt_of_le (Nat.add_lt_add_left (x 1).isLt _) (inb 1)
  have e2 : (Rect.unit (s := ⟨2, ![A, B]⟩) ![o0, o1] ![a, b] inb).emb x = ix2 ⟨o0 + (x 0).val, l0⟩ ⟨o1 + (x 1).val, l1⟩ := funext fun z => Fin.ext <| by
    match z with
    | ⟨0, _⟩ => exact Rect.idx_unit_val _ _ inb x 0
    | ⟨1, _⟩ => exact Rect.idx_unit_val _ _ inb x 1
  rw [e2]
  exact (congrArg w e1).trans (h (x 0) (x 1) _ _ rfl rfl)

theorem pc3 {A B C a b c o0 o1 o2 : ℕ} (G : (⟨3, ![A, B, C]⟩ : Shape).Idx → EReal) (w : (⟨3, ![a, b, c]⟩ : Shape).Idx → EReal)
    (inb : ∀ x, (![o0, o1, o2] : Fin 3 → ℕ) x + (![a, b, c] : Fin 3 → ℕ) x ≤ (![A, B, C] : Fin 3 → ℕ) x)
    (h : ∀ (i : Fin a) (j : Fin b) (k : Fin c) (r : Fin A) (s : Fin B) (t : Fin C), r.val = o0 + i.val → s.val = o1 + j.val → t.val = o2 + k.val → w (ix3 i j k) = G (ix3 r s t)) :
    ∀ x : (Rect.unit (s := ⟨3, ![A, B, C]⟩) ![o0, o1, o2] ![a, b, c] inb).shape.Idx, w x = G ((Rect.unit (s := ⟨3, ![A, B, C]⟩) ![o0, o1, o2] ![a, b, c] inb).emb x) := by
  intro x
  have e1 : x = ix3 (x 0) (x 1) (x 2) := funext fun z => by
    match z with
    | ⟨0, _⟩ => rfl
    | ⟨1, _⟩ => rfl
    | ⟨2, _⟩ => rfl
  have l0 : o0 + (x 0).val < A := lt_of_lt_of_le (Nat.add_lt_add_left (x 0).isLt _) (inb 0)
  have l1 : o1 + (x 1).val < B := lt_of_lt_of_le (Nat.add_lt_add_left (x 1).isLt _) (inb 1)
  have l2 : o2 + (x 2).val < C := lt_of_lt_of_le (Nat.add_lt_add_left (x 2).isLt _) (inb 2)
  have e2 : (Rect.unit (s := ⟨3, ![A, B, C]⟩) ![o0, o1, o2] ![a, b, c] inb).emb x = ix3 ⟨o0 + (x 0).val, l0⟩ ⟨o1 + (x 1).val, l1⟩ ⟨o2 + (x 2).val, l2⟩ := funext fun z => Fin.ext <| by
    match z with
    | ⟨0, _⟩ => exact Rect.idx_unit_val _ _ inb x 0
    | ⟨1, _⟩ => exact Rect.idx_unit_val _ _ inb x 1
    | ⟨2, _⟩ => exact Rect.idx_unit_val _ _ inb x 2
  rw [e2]
  exact (congrArg w e1).trans (h (x 0) (x 1) (x 2) _ _ _ rfl rfl rfl)

/-! ### What a point stores -/

section
variable (x0 : FVec Ideal S128x7168 .bf16) (x5 x6 : FVec Ideal S1x1024 .f32) (QK : FVec Ideal S128x1024 .f32)
  (G L : FVec Ideal S8x128 .f32) (T : IVec S128x128 1) (O Z : FVec Ideal S128x128 .f32)
  (s1 s2 : FVec Ideal S4x128x256 .f32) (s3 s4 : FVec Ideal S8x128 .f32)

def xP : Fin 128 → Fin 7168 → EReal := fun i n => x0 (ix2 i n)
def xQ : Fin 128 → Fin 1024 → EReal := fun i n => QK (ix2 i n)
def xr : Fin 1024 → EReal := fun n => x5 (ix2 0 n)
def xb (h : Fin 4) : Fin 128 → EReal := kb L T O Z ⟨h.val, by omega⟩
def xg (h : Fin 4) : Fin 128 → EReal := ki G ⟨h.val, by omega⟩
def xS (h : Fin 4) : M256 := fun d e => s1 (ix3 h d e)
def xN (h : Fin 4) : Fin 128 → EReal := fun d => s3 (ix2 ⟨h.val, by omega⟩ d)
def xM (h : Fin 4) : EReal := s4 (ix2 ⟨h.val, by omega⟩ 0)

theorem oRet0 (i : Fin 128) (e : Fin 256) :
    (k0_pay17 (F := Ideal) (k0_pay14 (View.ld (Val := Elt Ideal) (S := S128x7168) (e' := .bf16) x0 (Rect.unit ![0, 2048] ![128, 256] inb_S128x7168_S128x256_0_2048))) (k0_pay15 (View.ld (Val := Elt Ideal) (S := S128x7168) (e' := .bf16) x0 (Rect.unit ![0, 1024] ![128, 256] inb_S128x7168_S128x256_0_1024)) (k0_pay10 (View.ld (Val := Elt Ideal) (S := S128x7168) (e' := .bf16) x0 (Rect.unit ![0, 0] ![128, 128] inb_S128x7168_S128x128_0_0))) (k0_pay11 (View.ld (Val := Elt Ideal) (S := S4x128x256) (e' := .f32) s1 (Rect.unit ![0, 0, 0] ![1, 128, 256] inb_S4x128x256_S1x128x256_0_0_0))) (k0_pay12 (View.ld (Val := Elt Ideal) (S := S128x7168) (e' := .bf16) x0 (Rect.unit ![0, 0] ![128, 128] inb_S128x7168_S128x128_0_0)) (View.ld (Val := Elt Ideal) (S := S128x7168) (e' := .bf16) x0 (Rect.unit ![0, 512] ![128, 128] inb_S128x7168_S128x128_0_512)))) (k0_pay16 (View.ld (Val := Elt Ideal) (S := S1x1024) (e' := .f32) x5 (Rect.unit ![0, 0] ![1, 256] inb_S1x1024_S1x256_0_0)))) (ix2 i e) = cRet (xP x0) (xr x5) (xS s1) 0 i e :=
  (ret0 _ _ _ _ _ _ i e).trans (ret_congr i e (fun i d => ld2 (φ := .bf16) (o0 := 0) x0 _ i d i (hcol 0 0 d) (Nat.zero_add _).symm (by show (0 + (0 * 128 + d.val)) % 7168 = 0 + d.val; omega)) (fun i d => ld2 (φ := .bf16) (o0 := 0) x0 _ i d i (hcol 512 0 d) (Nat.zero_add _).symm (by show (512 + (0 * 128 + d.val)) % 7168 = 512 + d.val; omega)) (fun i e => ld2 (φ := .bf16) (o0 := 0) x0 _ i e i (wcol 1024 0 e) (Nat.zero_add _).symm (by show (1024 + (0 * 256 + e.val)) % 7168 = 1024 + e.val; omega)) (fun d e => ld3 (φ := .f32) (A := 4) (a := 1) (o0 := 0) s1 _ 0 d e 0 d e (by rfl) (Nat.zero_add _).symm (Nat.zero_add _).symm) (fun e => ld2 (φ := .f32) (A := 1) (a := 1) (o0 := 0) (o1 := 0) x5 _ 0 e 0 ⟨0 * 256 + e.val, by omega⟩ (by rfl) (by show 0 * 256 + e.val = 0 + e.val; omega)) (ld2 (φ := .bf16) (o0 := 0) x0 _ i e i (wcol 2048 0 e) (Nat.zero_add _).symm (by show (2048 + (0 * 256 + e.val)) % 7168 = 2048 + e.val; omega)))

theorem oR0 (d : Fin 128) (e : Fin 256) : (k0_pay13 (F := Ideal) k0_pay9 (View.ld (Val := Elt Ideal) (S := S128x7168) (e' := .bf16) x0 (Rect.unit ![0, 512] ![128, 128] inb_S128x7168_S128x128_0_512)) (View.ld (Val := Elt Ideal) (S := S128x7168) (e' := .bf16) x0 (Rect.unit ![0, 1024] ![128, 256] inb_S128x7168_S128x256_0_1024)) (k0_pay11 (View.ld (Val := Elt Ideal) (S := S4x128x256) (e' := .f32) s1 (Rect.unit ![0, 0, 0] ![1, 128, 256] inb_S4x128x256_S1x128x256_0_0_0)))) (ix3 0 d e) = cR (xP x0) (xS s1) 0 d e :=
  (st0 _ _ _ d e).trans (retStep_congr d e (fun i d => ld2 (φ := .bf16) (o0 := 0) x0 _ i d i (hcol 512 0 d) (Nat.zero_add _).symm (by show (512 + (0 * 128 + d.val)) % 7168 = 512 + d.val; omega)) (fun i e => ld2 (φ := .bf16) (o0 := 0) x0 _ i e i (wcol 1024 0 e) (Nat.zero_add _).symm (by show (1024 + (0 * 256 + e.val)) % 7168 = 1024 + e.val; omega)) (fun d e => ld3 (φ := .f32) (A := 4) (a := 1) (o0 := 0) s1 _ 0 d e 0 d e (by rfl) (Nat.zero_add _).symm (Nat.zero_add _).symm))

theorem oMl0 (i : Fin 128) (e : Fin 256) :
    (k0_pay84 (F := Ideal) (k0_pay80 (View.ld (Val := Elt Ideal) (S := S128x7168) (e' := .bf16) x0 (Rect.unit ![0, 6144] ![128, 256] inb_S128x7168_S128x256_0_6144))) (k0_pay81 (k0_pay77 k0_pay7 QK (k0_pay61 s4) (k0_pay66 L T O Z) (k0_pay67 G L T O Z) (View.ld (Val := Elt Ideal) (S := S128x7168) (e' := .bf16) x0 (Rect.unit ![0, 4096] ![128, 256] inb_S128x7168_S128x256_0_4096)) (View.ld (Val := Elt Ideal) (S := S4x128x256) (e' := .f32) s2 (Rect.unit ![0, 0, 0] ![1, 128, 256] inb_S4x128x256_S1x128x256_0_0_0))) (k0_pay78 k0_pay7 QK (k0_pay61 s4) (k0_pay66 L T O Z) (k0_pay67 G L T O Z) (View.ld (Val := Elt Ideal) (S := S8x128) (e' := .f32) s3 (Rect.unit ![0, 0] ![1, 128] inb_S8x128_S1x128_0_0))) (k0_pay79 k0_pay7 (k0_pay61 s4) (k0_pay66 L T O Z) (k0_pay67 G L T O Z)) (View.ld (Val := Elt Ideal) (S := S128x7168) (e' := .bf16) x0 (Rect.unit ![0, 5120] ![128, 256] inb_S128x7168_S128x256_0_5120)) (View.ld (Val := Elt Ideal) (S := S1x1024) (e' := .f32) x6 (Rect.unit ![0, 0] ![1, 256] inb_S1x1024_S1x256_0_0))) (k0_pay82 (View.ld (Val := Elt Ideal) (S := S128x7168) (e' := .bf16) x0 (Rect.unit ![0, 6144] ![128, 256] inb_S128x7168_S128x256_0_6144))) k0_pay83) (ix2 i e) = cMl (xP x0) (xQ QK) (xb L T O Z) (xg G) (xr x6) (xS s2) (xN s3) (xM s4) 0 i e :=
  (ml0 _ _ _ _ _ _ _ _ _ _ _ _ _ i e).trans (ml_congr i e rfl rfl rfl (fun i d => congrArg (fun n => QK (ix2 i n)) (Fin.ext (by show d.val = 0 * 128 + d.val; omega))) (fun i d => congrArg (fun n => QK (ix2 i n)) (Fin.ext (by show 512 + d.val = 512 + (0 * 128 + d.val); omega))) (fun i e => ld2 (φ := .bf16) (o0 := 0) x0 _ i e i (wcol 4096 0 e) (Nat.zero_add _).symm (by show (4096 + (0 * 256 + e.val)) % 7168 = 4096 + e.val; omega)) (fun d e => ld3 (φ := .f32) (A := 4) (a := 1) (o0 := 0) s2 _ 0 d e 0 d e (by rfl) (Nat.zero_add _).symm (Nat.zero_add _).symm) (fun d => ld2 (φ := .f32) (A := 8) (a := 1) (o0 := 0) s3 _ 0 d 0 d (by rfl) (Nat.zero_add _).symm) (fun e => ld2 (φ := .bf16) (o0 := 0) x0 _ i e i (wcol 5120 0 e) (Nat.zero_add _).symm (by show (5120 + (0 * 256 + e.val)) % 7168 = 5120 + e.val; omega)) (fun e => ld2 (φ := .f32) (A := 1) (a := 1) (o0 := 0) (o1 := 0) x6 _ 0 e 0 ⟨0 * 256 + e.val, by omega⟩ (by rfl) (by show 0 * 256 + e.val = 0 + e.val; omega)) (ld2 (φ := .bf16) (o0 := 0) x0 _ i e i (wcol 6144 0 e) (Nat.zero_add _).symm (by show (6144 + (0 * 256 + e.val)) % 7168 = 6144 + e.val; omega)))

theorem oC0 (d : Fin 128) (e : Fin 256) : (k0_pay88 (F := Ideal) (k0_pay60 G L T O Z) (k0_pay63 G L T O Z s4) (k0_pay64 G L T O Z s4) (k0_pay73 QK) (View.ld (Val := Elt Ideal) (S := S128x7168) (e' := .bf16) x0 (Rect.unit ![0, 4096] ![128, 256] inb_S128x7168_S128x256_0_4096)) (k0_pay76 (View.ld (Val := Elt Ideal) (S := S4x128x256) (e' := .f32) s2 (Rect.unit ![0, 0, 0] ![1, 128, 256] inb_S4x128x256_S1x128x256_0_0_0)))) (ix3 0 d e) = cC (xP x0) (xQ QK) (xb L T O Z) (xg G) (xS s2) (xM s4) 0 d e :=
  (stC0 _ _ _ _ _ _ _ _ _ d e).trans (stC_congr d e rfl rfl rfl (fun i d => congrArg (fun n => QK (ix2 i n)) (Fin.ext (by show 512 + d.val = 512 + (0 * 128 + d.val); omega))) (fun i e => ld2 (φ := .bf16) (o0 := 0) x0 _ i e i (wcol 4096 0 e) (Nat.zero_add _).symm (by show (4096 + (0 * 256 + e.val)) % 7168 = 4096 + e.val; omega)) (fun d e => ld3 (φ := .f32) (A := 4) (a := 1) (o0 := 0) s2 _ 0 d e 0 d e (by rfl) (Nat.zero_add _).symm (Nat.zero_add _).symm))

theorem oN0 (d : Fin 128) : (k0_pay89 (F := Ideal) (k0_pay60 G L T O Z) (k0_pay63 G L T O Z s4) (k0_pay64 G L T O Z s4) (k0_pay73 QK) (View.ld (Val := Elt Ideal) (S := S8x128) (e' := .f32) s3 (Rect.unit ![0, 0] ![1, 128] inb_S8x128_S1x128_0_0))) (ix2 0 d) = cN (xQ QK) (xb L T O Z) (xg G) (xN s3) (xM s4) 0 d :=
  (stN0 _ _ _ _ _ _ _ _ d).trans (stN_congr d rfl rfl rfl (fun i d => congrArg (fun n => QK (ix2 i n)) (Fin.ext (by show 512 + d.val = 512 + (0 * 128 + d.val); omega))) (fun d => ld2 (φ := .f32) (A := 8) (a := 1) (o0 := 0) s3 _ 0 d 0 d (by rfl) (Nat.zero_add _).symm))

theorem oRet1 (i : Fin 128) (e : Fin 256) :
    (k0_pay25 (F := Ideal) (k0_pay22 (View.ld (Val := Elt Ideal) (S := S128x7168) (e' := .bf16) x0 (Rect.unit ![0, 2304] ![128, 256] inb_S128x7168_S128x256_0_2304))) (View.ld (Val := Elt Ideal) (S := S1x1024) (e' := .f32) x5 (Rect.unit ![0, 256] ![1, 256] inb_S1x1024_S1x256_0_256)) (k0_pay23 (View.ld (Val := Elt Ideal) (S := S128x7168) (e' := .bf16) x0 (Rect.unit ![0, 1280] ![128, 256] inb_S128x7168_S128x256_0_1280)) (k0_pay18 k0_pay7 k0_pay8 (View.ld (Val := Elt Ideal) (S := S128x7168) (e' := .bf16) x0 (Rect.unit ![0, 128] ![128, 128] inb_S128x7168_S128x128_0_128)) (View.ld (Val := Elt Ideal) (S := S128x7168) (e' := .bf16) x0 (Rect.unit ![0, 640] ![128, 128] inb_S128x7168_S128x128_0_640))) (k0_pay19 k0_pay9 (View.ld (Val := Elt Ideal) (S := S128x7168) (e' := .bf16) x0 (Rect.unit ![0, 128] ![128, 128] inb_S128x7168_S128x128_0_128))) (View.ld (Val := Elt Ideal) (S := S4x128x256) (e' := .f32) s1 (Rect.unit ![1, 0, 0] ![1, 128, 256] inb_S4x128x256_S1x128x256_1_0_0))) (k0_pay24 (View.ld (Val := Elt Ideal) (S := S128x7168) (e' := .bf16) x0 (Rect.unit ![0, 1280] ![128, 256] inb_S128x7168_S128x256_0_1280)) (k0_pay18 k0_pay7 k0_pay8 (View.ld (Val := Elt Ideal) (S := S128x7168) (e' := .bf16) x0 (Rect.unit ![0, 128] ![128, 128] inb_S128x7168_S128x128_0_128)) (View.ld (Val := Elt Ideal) (S := S128x7168) (e' := .bf16) x0 (Rect.unit ![0, 640] ![128, 128] inb_S128x7168_S128x128_0_640))) (k0_pay19 k0_pay9 (View.ld (Val := Elt Ideal) (S := S128x7168) (e' := .bf16) x0 (Rect.unit ![0, 128] ![128, 128] inb_S128x7168_S128x128_0_128))) (View.ld (Val := Elt Ideal) (S := S4x128x256) (e' := .f32) s1 (Rect.unit ![1, 0, 0] ![1, 128, 256] inb_S4x128x256_S1x128x256_1_0_0)))) (ix2 i e) = cRet (xP x0) (xr x5) (xS s1) 1 i e :=
  (ret1 _ _ _ _ _ _ i e).trans (ret_congr i e (fun i d => ld2 (φ := .bf16) (o0 := 0) x0 _ i d i (hcol 0 1 d) (Nat.zero_add _).symm (by show (0 + (1 * 128 + d.val)) % 7168 = 128 + d.val; omega)) (fun i d => ld2 (φ := .bf16) (o0 := 0) x0 _ i d i (hcol 512 1 d) (Nat.zero_add _).symm (by show (512 + (1 * 128 + d.val)) % 7168 = 640 + d.val; omega)) (fun i e => ld2 (φ := .bf16) (o0 := 0) x0 _ i e i (wcol 1024 1 e) (Nat.zero_add _).symm (by show (1024 + (1 * 256 + e.val)) % 7168 = 1280 + e.val; omega)) (fun d e => ld3 (φ := .f32) (A := 4) (a := 1) (o0 := 1) s1 _ 0 d e 1 d e (by rfl) (Nat.zero_add _).symm (Nat.zero_add _).symm) (fun e => ld2 (φ := .f32) (A := 1) (a := 1) (o0 := 0) (o1 := 256) x5 _ 0 e 0 ⟨1 * 256 + e.val, by omega⟩ (by rfl) (by show 1 * 256 + e.val = 256 + e.val; omega)) (ld2 (φ := .bf16) (o0 := 0) x0 _ i e i (wcol 2048 1 e) (Nat.zero_add _).symm (by show (2048 + (1 * 256 + e.val)) % 7168 = 2304 + e.val; omega)))

theorem oR1 (d : Fin 128) (e : Fin 256) : (k0_pay21 (F := Ideal) k0_pay9 (View.ld (Val := Elt Ideal) (S := S128x7168) (e' := .bf16) x0 (Rect.unit ![0, 640] ![128, 128] inb_S128x7168_S128x128_0_640)) (View.ld (Val := Elt Ideal) (S := S128x7168) (e' := .bf16) x0 (Rect.unit ![0, 1280] ![128, 256] inb_S128x7168_S128x256_0_1280)) (View.ld (Val := Elt Ideal) (S := S4x128x256) (e' := .f32) s1 (Rect.unit ![1, 0, 0] ![1, 128, 256] inb_S4x128x256_S1x128x256_1_0_0))) (ix3 0 d e) = cR (xP x0) (xS s1) 1 d e :=
  (st1 _ _ _ d e).trans (retStep_congr d e (fun i d => ld2 (φ := .bf16) (o0 := 0) x0 _ i d i (hcol 512 1 d) (Nat.zero_add _).symm (by show (512 + (1 * 128 + d.val)) % 7168 = 640 + d.val; omega)) (fun i e => ld2 (φ := .bf16) (o0 := 0) x0 _ i e i (wcol 1024 1 e) (Nat.zero_add _).symm (by show (1024 + (1 * 256 + e.val)) % 7168 = 1280 + e.val; omega)) (fun d e => ld3 (φ := .f32) (A := 4) (a := 1) (o0 := 1) s1 _ 0 d e 1 d e (by rfl) (Nat.zero_add _).symm (Nat.zero_add _).symm))

theorem oMl1 (i : Fin 128) (e : Fin 256) :
    (k0_pay100 (F := Ideal) (k0_pay97 QK (k0_pay92 (k0_pay59 L T O Z) (k0_pay61 s4)) (k0_pay93 k0_pay7 (k0_pay57 G L T O Z) (k0_pay59 L T O Z) (k0_pay61 s4)) (k0_pay94 k0_pay7 (k0_pay57 G L T O Z) (k0_pay59 L T O Z) (k0_pay61 s4)) (View.ld (Val := Elt Ideal) (S := S128x7168) (e' := .bf16) x0 (Rect.unit ![0, 4352] ![128, 256] inb_S128x7168_S128x256_0_4352)) (View.ld (Val := Elt Ideal) (S := S4x128x256) (e' := .f32) s2 (Rect.unit ![1, 0, 0] ![1, 128, 256] inb_S4x128x256_S1x128x256_1_0_0)) (View.ld (Val := Elt Ideal) (S := S8x128) (e' := .f32) s3 (Rect.unit ![1, 0] ![1, 128] inb_S8x128_S1x128_1_0))) (k0_pay98 (View.ld (Val := Elt Ideal) (S := S128x7168) (e' := .bf16) x0 (Rect.unit ![0, 5376] ![128, 256] inb_S128x7168_S128x256_0_5376))) k0_pay99 (View.ld (Val := Elt Ideal) (S := S128x7168) (e' := .bf16) x0 (Rect.unit ![0, 6400] ![128, 256] inb_S128x7168_S128x256_0_6400)) (View.ld (Val := Elt Ideal) (S := S1x1024) (e' := .f32) x6 (Rect.unit ![0, 256] ![1, 256] inb_S1x1024_S1x256_0_256))) (ix2 i e) = cMl (xP x0) (xQ QK) (xb L T O Z) (xg G) (xr x6) (xS s2) (xN s3) (xM s4) 1 i e :=
  (ml1 _ _ _ _ _ _ _ _ _ _ _ _ _ i e).trans (ml_congr i e rfl rfl rfl (fun i d => congrArg (fun n => QK (ix2 i n)) (Fin.ext (by show 128 + d.val = 1 * 128 + d.val; omega))) (fun i d => congrArg (fun n => QK (ix2 i n)) (Fin.ext (by show 640 + d.val = 512 + (1 * 128 + d.val); omega))) (fun i e => ld2 (φ := .bf16) (o0 := 0) x0 _ i e i (wcol 4096 1 e) (Nat.zero_add _).symm (by show (4096 + (1 * 256 + e.val)) % 7168 = 4352 + e.val; omega)) (fun d e => ld3 (φ := .f32) (A := 4) (a := 1) (o0 := 1) s2 _ 0 d e 1 d e (by rfl) (Nat.zero_add _).symm (Nat.zero_add _).symm) (fun d => ld2 (φ := .f32) (A := 8) (a := 1) (o0 := 1) s3 _ 0 d 1 d (by rfl) (Nat.zero_add _).symm) (fun e => ld2 (φ := .bf16) (o0 := 0) x0 _ i e i (wcol 5120 1 e) (Nat.zero_add _).symm (by show (5120 + (1 * 256 + e.val)) % 7168 = 5376 + e.val; omega)) (fun e => ld2 (φ := .f32) (A := 1) (a := 1) (o0 := 0) (o1 := 256) x6 _ 0 e 0 ⟨1 * 256 + e.val, by omega⟩ (by rfl) (by show 1 * 256 + e.val = 256 + e.val; omega)) (ld2 (φ := .bf16) (o0 := 0) x0 _ i e i (wcol 6144 1 e) (Nat.zero_add _).symm (by show (6144 + (1 * 256 + e.val)) % 7168 = 6400 + e.val; omega)))

theorem oC1 (d : Fin 128) (e : Fin 256) : (k0_pay105 (F := Ideal) (k0_pay63 G L T O Z s4) (k0_pay64 G L T O Z s4) (View.ld (Val := Elt Ideal) (S := S128x7168) (e' := .bf16) x0 (Rect.unit ![0, 4352] ![128, 256] inb_S128x7168_S128x256_0_4352)) (k0_pay96 (View.ld (Val := Elt Ideal) (S := S4x128x256) (e' := .f32) s2 (Rect.unit ![1, 0, 0] ![1, 128, 256] inb_S4x128x256_S1x128x256_1_0_0))) (k0_pay102 (k0_pay60 G L T O Z) (k0_pay95 QK))) (ix3 0 d e) = cC (xP x0) (xQ QK) (xb L T O Z) (xg G) (xS s2) (xM s4) 1 d e :=
  (stC1 _ _ _ _ _ _ _ _ _ d e).trans (stC_congr d e rfl rfl rfl (fun i d => congrArg (fun n => QK (ix2 i n)) (Fin.ext (by show 640 + d.val = 512 + (1 * 128 + d.val); omega))) (fun i e => ld2 (φ := .bf16) (o0 := 0) x0 _ i e i (wcol 4096 1 e) (Nat.zero_add _).symm (by show (4096 + (1 * 256 + e.val)) % 7168 = 4352 + e.val; omega)) (fun d e => ld3 (φ := .f32) (A := 4) (a := 1) (o0 := 1) s2 _ 0 d e 1 d e (by rfl) (Nat.zero_add _).symm (Nat.zero_add _).symm))

theorem oN1 (d : Fin 128) : (k0_pay106 (F := Ideal) (k0_pay63 G L T O Z s4) (k0_pay64 G L T O Z s4) (View.ld (Val := Elt Ideal) (S := S8x128) (e' := .f32) s3 (Rect.unit ![1, 0] ![1, 128] inb_S8x128_S1x128_1_0)) (k0_pay101 (k0_pay60 G L T O Z) (k0_pay95 QK))) (ix2 0 d) = cN (xQ QK) (xb L T O Z) (xg G) (xN s3) (xM s4) 1 d :=
  (stN1 _ _ _ _ _ _ _ _ d).trans (stN_congr d rfl rfl rfl (fun i d => congrArg (fun n => QK (ix2 i n)) (Fin.ext (by show 640 + d.val = 512 + (1 * 128 + d.val); omega))) (fun d => ld2 (φ := .f32) (A := 8) (a := 1) (o0 := 1) s3 _ 0 d 1 d (by rfl) (Nat.zero_add _).symm))

theorem oRet2 (i : Fin 128) (e : Fin 256) :
    (k0_pay33 (F := Ideal) (k0_pay30 (View.ld (Val := Elt Ideal) (S := S128x7168) (e' := .bf16) x0 (Rect.unit ![0, 2560] ![128, 256] inb_S128x7168_S128x256_0_2560))) (View.ld (Val := Elt Ideal) (S := S1x1024) (e' := .f32) x5 (Rect.unit ![0, 512] ![1, 256] inb_S1x1024_S1x256_0_512)) (k0_pay31 (View.ld (Val := Elt Ideal) (S := S128x7168) (e' := .bf16) x0 (Rect.unit ![0, 1536] ![128, 256] inb_S128x7168_S128x256_0_1536)) (k0_pay26 k0_pay7 k0_pay8 (View.ld (Val := Elt Ideal) (S := S128x7168) (e' := .bf16) x0 (Rect.unit ![0, 256] ![128, 128] inb_S128x7168_S128x128_0_256)) (View.ld (Val := Elt Ideal) (S := S128x7168) (e' := .bf16) x0 (Rect.unit ![0, 768] ![128, 128] inb_S128x7168_S128x128_0_768))) (k0_pay27 k0_pay9 (View.ld (Val := Elt Ideal) (S := S128x7168) (e' := .bf16) x0 (Rect.unit ![0, 256] ![128, 128] inb_S128x7168_S128x128_0_256))) (View.ld (Val := Elt Ideal) (S := S4x128x256) (e' := .f32) s1 (Rect.unit ![2, 0, 0] ![1, 128, 256] inb_S4x128x256_S1x128x256_2_0_0))) (k0_pay32 (View.ld (Val := Elt Ideal) (S := S128x7168) (e' := .bf16) x0 (Rect.unit ![0, 1536] ![128, 256] inb_S128x7168_S128x256_0_1536)) (k0_pay26 k0_pay7 k0_pay8 (View.ld (Val := Elt Ideal) (S := S128x7168) (e' := .bf16) x0 (Rect.unit ![0, 256] ![128, 128] inb_S128x7168_S128x128_0_256)) (View.ld (Val := Elt Ideal) (S := S128x7168) (e' := .bf16) x0 (Rect.unit ![0, 768] ![128, 128] inb_S128x7168_S128x128_0_768))) (k0_pay27 k0_pay9 (View.ld (Val := Elt Ideal) (S := S128x7168) (e' := .bf16) x0 (Rect.unit ![0, 256] ![128, 128] inb_S128x7168_S128x128_0_256))) (View.ld (Val := Elt Ideal) (S := S4x128x256) (e' := .f32) s1 (Rect.unit ![2, 0, 0] ![1, 128, 256] inb_S4x128x256_S1x128x256_2_0_0))) (FloatOps.ofBits FTy.f32 897988541#32)) (ix2 i e) = cRet (xP x0) (xr x5) (xS s1) 2 i e :=
  (ret2 _ _ _ _ _ _ i e).trans (ret_congr i e (fun i d => ld2 (φ := .bf16) (o0 := 0) x0 _ i d i (hcol 0 2 d) (Nat.zero_add _).symm (by show (0 + (2 * 128 + d.val)) % 7168 = 256 + d.val; omega)) (fun i d => ld2 (φ := .bf16) (o0 := 0) x0 _ i d i (hcol 512 2 d) (Nat.zero_add _).symm (by show (512 + (2 * 128 + d.val)) % 7168 = 768 + d.val; omega)) (fun i e => ld2 (φ := .bf16) (o0 := 0) x0 _ i e i (wcol 1024 2 e) (Nat.zero_add _).symm (by show (1024 + (2 * 256 + e.val)) % 7168 = 1536 + e.val; omega)) (fun d e => ld3 (φ := .f32) (A := 4) (a := 1) (o0 := 2) s1 _ 0 d e 2 d e (by rfl) (Nat.zero_add _).symm (Nat.zero_add _).symm) (fun e => ld2 (φ := .f32) (A := 1) (a := 1) (o0 := 0) (o1 := 512) x5 _ 0 e 0 ⟨2 * 256 + e.val, by omega⟩ (by rfl) (by show 2 * 256 + e.val = 512 + e.val; omega)) (ld2 (φ := .bf16) (o0 := 0) x0 _ i e i (wcol 2048 2 e) (Nat.zero_add _).symm (by show (2048 + (2 * 256 + e.val)) % 7168 = 2560 + e.val; omega)))

theorem oR2 (d : Fin 128) (e : Fin 256) : (k0_pay29 (F := Ideal) k0_pay9 (View.ld (Val := Elt Ideal) (S := S128x7168) (e' := .bf16) x0 (Rect.unit ![0, 768] ![128, 128] inb_S128x7168_S128x128_0_768)) (View.ld (Val := Elt Ideal) (S := S128x7168) (e' := .bf16) x0 (Rect.unit ![0, 1536] ![128, 256] inb_S128x7168_S128x256_0_1536)) (View.ld (Val := Elt Ideal) (S := S4x128x256) (e' := .f32) s1 (Rect.unit ![2, 0, 0] ![1, 128, 256] inb_S4x128x256_S1x128x256_2_0_0))) (ix3 0 d e) = cR (xP x0) (xS s1) 2 d e :=
  (st2 _ _ _ d e).trans (retStep_congr d e (fun i d => ld2 (φ := .bf16) (o0 := 0) x0 _ i d i (hcol 512 2 d) (Nat.zero_add _).symm (by show (512 + (2 * 128 + d.val)) % 7168 = 768 + d.val; omega)) (fun i e => ld2 (φ := .bf16) (o0 := 0) x0 _ i e i (wcol 1024 2 e) (Nat.zero_add _).symm (by show (1024 + (2 * 256 + e.val)) % 7168 = 1536 + e.val; omega)) (fun d e => ld3 (φ := .f32) (A := 4) (a := 1) (o0 := 2) s1 _ 0 d e 2 d e (by rfl) (Nat.zero_add _).symm (Nat.zero_add _).symm))

theorem oMl2 (i : Fin 128) (e : Fin 256) :
    (k0_pay118 (F := Ideal) (k0_pay117 (k0_pay110 k0_pay7 (k0_pay57 G L T O Z) (k0_pay59 L T O Z) (k0_pay61 s4)) (k0_pay111 k0_pay7 (k0_pay57 G L T O Z) (k0_pay59 L T O Z) (k0_pay61 s4)) (k0_pay112 k0_pay7 (k0_pay57 G L T O Z) (k0_pay59 L T O Z) (k0_pay61 s4)) (k0_pay113 QK) (k0_pay114 QK) (k0_pay115 QK) (View.ld (Val := Elt Ideal) (S := S128x7168) (e' := .bf16) x0 (Rect.unit ![0, 4608] ![128, 256] inb_S128x7168_S128x256_0_4608)) (View.ld (Val := Elt Ideal) (S := S4x128x256) (e' := .f32) s2 (Rect.unit ![2, 0, 0] ![1, 128, 256] inb_S4x128x256_S1x128x256_2_0_0)) (View.ld (Val := Elt Ideal) (S := S8x128) (e' := .f32) s3 (Rect.unit ![2, 0] ![1, 128] inb_S8x128_S1x128_2_0)) (View.ld (Val := Elt Ideal) (S := S128x7168) (e' := .bf16) x0 (Rect.unit ![0, 5632] ![128, 256] inb_S128x7168_S128x256_0_5632))) (View.ld (Val := Elt Ideal) (S := S128x7168) (e' := .bf16) x0 (Rect.unit ![0, 6656] ![128, 256] inb_S128x7168_S128x256_0_6656)) (View.ld (Val := Elt Ideal) (S := S1x1024) (e' := .f32) x6 (Rect.unit ![0, 512] ![1, 256] inb_S1x1024_S1x256_0_512))) (ix2 i e) = cMl (xP x0) (xQ QK) (xb L T O Z) (xg G) (xr x6) (xS s2) (xN s3) (xM s4) 2 i e :=
  (ml2 _ _ _ _ _ _ _ _ _ _ _ _ _ i e).trans (ml_congr i e rfl rfl rfl (fun i d => congrArg (fun n => QK (ix2 i n)) (Fin.ext (by show 256 + d.val = 2 * 128 + d.val; omega))) (fun i d => congrArg (fun n => QK (ix2 i n)) (Fin.ext (by show 768 + d.val = 512 + (2 * 128 + d.val); omega))) (fun i e => ld2 (φ := .bf16) (o0 := 0) x0 _ i e i (wcol 4096 2 e) (Nat.zero_add _).symm (by show (4096 + (2 * 256 + e.val)) % 7168 = 4608 + e.val; omega)) (fun d e => ld3 (φ := .f32) (A := 4) (a := 1) (o0 := 2) s2 _ 0 d e 2 d e (by rfl) (Nat.zero_add _).symm (Nat.zero_add _).symm) (fun d => ld2 (φ := .f32) (A := 8) (a := 1) (o0 := 2) s3 _ 0 d 2 d (by rfl) (Nat.zero_add _).symm) (fun e => ld2 (φ := .bf16) (o0 := 0) x0 _ i e i (wcol 5120 2 e) (Nat.zero_add _).symm (by show (5120 + (2 * 256 + e.val)) % 7168 = 5632 + e.val; omega)) (fun e => ld2 (φ := .f32) (A := 1) (a := 1) (o0 := 0) (o1 := 512) x6 _ 0 e 0 ⟨2 * 256 + e.val, by omega⟩ (by rfl) (by show 2 * 256 + e.val = 512 + e.val; omega)) (ld2 (φ := .bf16) (o0 := 0) x0 _ i e i (wcol 6144 2 e) (Nat.zero_add _).symm (by show (6144 + (2 * 256 + e.val)) % 7168 = 6656 + e.val; omega)))

theorem oC2 (d : Fin 128) (e : Fin 256) : (k0_pay125 (F := Ideal) (k0_pay123 (k0_pay63 G L T O Z s4) (k0_pay116 (View.ld (Val := Elt Ideal) (S := S4x128x256) (e' := .f32) s2 (Rect.unit ![2, 0, 0] ![1, 128, 256] inb_S4x128x256_S1x128x256_2_0_0)))) (k0_pay124 (k0_pay60 G L T O Z) (k0_pay64 G L T O Z s4) (k0_pay114 QK) (View.ld (Val := Elt Ideal) (S := S128x7168) (e' := .bf16) x0 (Rect.unit ![0, 4608] ![128, 256] inb_S128x7168_S128x256_0_4608)))) (ix3 0 d e) = cC (xP x0) (xQ QK) (xb L T O Z) (xg G) (xS s2) (xM s4) 2 d e :=
  (stC2 _ _ _ _ _ _ _ _ _ d e).trans (stC_congr d e rfl rfl rfl (fun i d => congrArg (fun n => QK (ix2 i n)) (Fin.ext (by show 768 + d.val = 512 + (2 * 128 + d.val); omega))) (fun i e => ld2 (φ := .bf16) (o0 := 0) x0 _ i e i (wcol 4096 2 e) (Nat.zero_add _).symm (by show (4096 + (2 * 256 + e.val)) % 7168 = 4608 + e.val; omega)) (fun d e => ld3 (φ := .f32) (A := 4) (a := 1) (o0 := 2) s2 _ 0 d e 2 d e (by rfl) (Nat.zero_add _).symm (Nat.zero_add _).symm))

theorem oN2 (d : Fin 128) : (k0_pay126 (F := Ideal) (View.ld (Val := Elt Ideal) (S := S8x128) (e' := .f32) s3 (Rect.unit ![2, 0] ![1, 128] inb_S8x128_S1x128_2_0)) (k0_pay120 (k0_pay60 G L T O Z) (k0_pay114 QK)) (k0_pay121 (k0_pay63 G L T O Z s4)) (k0_pay122 (k0_pay64 G L T O Z s4))) (ix2 0 d) = cN (xQ QK) (xb L T O Z) (xg G) (xN s3) (xM s4) 2 d :=
  (stN2 _ _ _ _ _ _ _ _ d).trans (stN_congr d rfl rfl rfl (fun i d => congrArg (fun n => QK (ix2 i n)) (Fin.ext (by show 768 + d.val = 512 + (2 * 128 + d.val); omega))) (fun d => ld2 (φ := .f32) (A := 8) (a := 1) (o0 := 2) s3 _ 0 d 2 d (by rfl) (Nat.zero_add _).symm))

theorem oRet3 (i : Fin 128) (e : Fin 256) :
    (k0_pay42 (F := Ideal) (k0_pay39 (View.ld (Val := Elt Ideal) (S := S128x7168) (e' := .bf16) x0 (Rect.unit ![0, 2816] ![128, 256] inb_S128x7168_S128x256_0_2816))) (View.ld (Val := Elt Ideal) (S := S1x1024) (e' := .f32) x5 (Rect.unit ![0, 768] ![1, 256] inb_S1x1024_S1x256_0_768)) (k0_pay40 (View.ld (Val := Elt Ideal) (S := S128x7168) (e' := .bf16) x0 (Rect.unit ![0, 1792] ![128, 256] inb_S128x7168_S128x256_0_1792)) (k0_pay34 k0_pay7 k0_pay8 (View.ld (Val := Elt Ideal) (S := S128x7168) (e' := .bf16) x0 (Rect.unit ![0, 384] ![128, 128] inb_S128x7168_S128x128_0_384)) (View.ld (Val := Elt Ideal) (S := S128x7168) (e' := .bf16) x0 (Rect.unit ![0, 896] ![128, 128] inb_S128x7168_S128x128_0_896))) (k0_pay35 k0_pay9) (k0_pay36 (View.ld (Val := Elt Ideal) (S := S128x7168) (e' := .bf16) x0 (Rect.unit ![0, 384] ![128, 128] inb_S128x7168_S128x128_0_384))) (View.ld (Val := Elt Ideal) (S := S4x128x256) (e' := .f32) s1 (Rect.unit ![3, 0, 0] ![1, 128, 256] inb_S4x128x256_S1x128x256_3_0_0))) (k0_pay41 (View.ld (Val := Elt Ideal) (S := S128x7168) (e' := .bf16) x0 (Rect.unit ![0, 1792] ![128, 256] inb_S128x7168_S128x256_0_1792)) (k0_pay34 k0_pay7 k0_pay8 (View.ld (Val := Elt Ideal) (S := S128x7168) (e' := .bf16) x0 (Rect.unit ![0, 384] ![128, 128] inb_S128x7168_S128x128_0_384)) (View.ld (Val := Elt Ideal) (S := S128x7168) (e' := .bf16) x0 (Rect.unit ![0, 896] ![128, 128] inb_S128x7168_S128x128_0_896))) (k0_pay35 k0_pay9) (k0_pay36 (View.ld (Val := Elt Ideal) (S := S128x7168) (e' := .bf16) x0 (Rect.unit ![0, 384] ![128, 128] inb_S128x7168_S128x128_0_384))) (View.ld (Val := Elt Ideal) (S := S4x128x256) (e' := .f32) s1 (Rect.unit ![3, 0, 0] ![1, 128, 256] inb_S4x128x256_S1x128x256_3_0_0))) (FloatOps.ofBits FTy.f32 1132462080#32)) (ix2 i e) = cRet (xP x0) (xr x5) (xS s1) 3 i e :=
  (ret3 _ _ _ _ _ _ i e).trans (ret_congr i e (fun i d => ld2 (φ := .bf16) (o0 := 0) x0 _ i d i (hcol 0 3 d) (Nat.zero_add _).symm (by show (0 + (3 * 128 + d.val)) % 7168 = 384 + d.val; omega)) (fun i d => ld2 (φ := .bf16) (o0 := 0) x0 _ i d i (hcol 512 3 d) (Nat.zero_add _).symm (by show (512 + (3 * 128 + d.val)) % 7168 = 896 + d.val; omega)) (fun i e => ld2 (φ := .bf16) (o0 := 0) x0 _ i e i (wcol 1024 3 e) (Nat.zero_add _).symm (by show (1024 + (3 * 256 + e.val)) % 7168 = 1792 + e.val; omega)) (fun d e => ld3 (φ := .f32) (A := 4) (a := 1) (o0 := 3) s1 _ 0 d e 3 d e (by rfl) (Nat.zero_add _).symm (Nat.zero_add _).symm) (fun e => ld2 (φ := .f32) (A := 1) (a := 1) (o0 := 0) (o1 := 768) x5 _ 0 e 0 ⟨3 * 256 + e.val, by omega⟩ (by rfl) (by show 3 * 256 + e.val = 768 + e.val; omega)) (ld2 (φ := .bf16) (o0 := 0) x0 _ i e i (wcol 2048 3 e) (Nat.zero_add _).symm (by show (2048 + (3 * 256 + e.val)) % 7168 = 2816 + e.val; omega)))

theorem oR3 (d : Fin 128) (e : Fin 256) : (k0_pay38 (F := Ideal) k0_pay9 (View.ld (Val := Elt Ideal) (S := S128x7168) (e' := .bf16) x0 (Rect.unit ![0, 896] ![128, 128] inb_S128x7168_S128x128_0_896)) (View.ld (Val := Elt Ideal) (S := S128x7168) (e' := .bf16) x0 (Rect.unit ![0, 1792] ![128, 256] inb_S128x7168_S128x256_0_1792)) (View.ld (Val := Elt Ideal) (S := S4x128x256) (e' := .f32) s1 (Rect.unit ![3, 0, 0] ![1, 128, 256] inb_S4x128x256_S1x128x256_3_0_0))) (ix3 0 d e) = cR (xP x0) (xS s1) 3 d e :=
  (st3 _ _ _ d e).trans (retStep_congr d e (fun i d => ld2 (φ := .bf16) (o0 := 0) x0 _ i d i (hcol 512 3 d) (Nat.zero_add _).symm (by show (512 + (3 * 128 + d.val)) % 7168 = 896 + d.val; omega)) (fun i e => ld2 (φ := .bf16) (o0 := 0) x0 _ i e i (wcol 1024 3 e) (Nat.zero_add _).symm (by show (1024 + (3 * 256 + e.val)) % 7168 = 1792 + e.val; omega)) (fun d e => ld3 (φ := .f32) (A := 4) (a := 1) (o0 := 3) s1 _ 0 d e 3 d e (by rfl) (Nat.zero_add _).symm (Nat.zero_add _).symm))

theorem oMl3 (i : Fin 128) (e : Fin 256) :
    (k0_pay139 (F := Ideal) (k0_pay137 (View.ld (Val := Elt Ideal) (S := S128x7168) (e' := .bf16) x0 (Rect.unit ![0, 6912] ![128, 256] inb_S128x7168_S128x256_0_6912))) (View.ld (Val := Elt Ideal) (S := S1x1024) (e' := .f32) x6 (Rect.unit ![0, 768] ![1, 256] inb_S1x1024_S1x256_0_768)) (k0_pay138 (k0_pay130 k0_pay7 (k0_pay57 G L T O Z) (k0_pay59 L T O Z) (k0_pay61 s4)) (k0_pay131 k0_pay7 (k0_pay57 G L T O Z) (k0_pay59 L T O Z) (k0_pay61 s4)) (k0_pay132 QK) (k0_pay134 QK) (View.ld (Val := Elt Ideal) (S := S128x7168) (e' := .bf16) x0 (Rect.unit ![0, 4864] ![128, 256] inb_S128x7168_S128x256_0_4864)) (k0_pay135 k0_pay7 QK (k0_pay57 G L T O Z) (k0_pay59 L T O Z) (k0_pay61 s4)) (k0_pay136 (View.ld (Val := Elt Ideal) (S := S4x128x256) (e' := .f32) s2 (Rect.unit ![3, 0, 0] ![1, 128, 256] inb_S4x128x256_S1x128x256_3_0_0))) (View.ld (Val := Elt Ideal) (S := S8x128) (e' := .f32) s3 (Rect.unit ![3, 0] ![1, 128] inb_S8x128_S1x128_3_0)) (View.ld (Val := Elt Ideal) (S := S128x7168) (e' := .bf16) x0 (Rect.unit ![0, 5888] ![128, 256] inb_S128x7168_S128x256_0_5888)))) (ix2 i e) = cMl (xP x0) (xQ QK) (xb L T O Z) (xg G) (xr x6) (xS s2) (xN s3) (xM s4) 3 i e :=
  (ml3 _ _ _ _ _ _ _ _ _ _ _ _ _ i e).trans (ml_congr i e rfl rfl rfl (fun i d => congrArg (fun n => QK (ix2 i n)) (Fin.ext (by show 384 + d.val = 3 * 128 + d.val; omega))) (fun i d => congrArg (fun n => QK (ix2 i n)) (Fin.ext (by show 896 + d.val = 512 + (3 * 128 + d.val); omega))) (fun i e => ld2 (φ := .bf16) (o0 := 0) x0 _ i e i (wcol 4096 3 e) (Nat.zero_add _).symm (by show (4096 + (3 * 256 + e.val)) % 7168 = 4864 + e.val; omega)) (fun d e => ld3 (φ := .f32) (A := 4) (a := 1) (o0 := 3) s2 _ 0 d e 3 d e (by rfl) (Nat.zero_add _).symm (Nat.zero_add _).symm) (fun d => ld2 (φ := .f32) (A := 8) (a := 1) (o0 := 3) s3 _ 0 d 3 d (by rfl) (Nat.zero_add _).symm) (fun e => ld2 (φ := .bf16) (o0 := 0) x0 _ i e i (wcol 5120 3 e) (Nat.zero_add _).symm (by show (5120 + (3 * 256 + e.val)) % 7168 = 5888 + e.val; omega)) (fun e => ld2 (φ := .f32) (A := 1) (a := 1) (o0 := 0) (o1 := 768) x6 _ 0 e 0 ⟨3 * 256 + e.val, by omega⟩ (by rfl) (by show 3 * 256 + e.val = 768 + e.val; omega)) (ld2 (φ := .bf16) (o0 := 0) x0 _ i e i (wcol 6144 3 e) (Nat.zero_add _).symm (by show (6144 + (3 * 256 + e.val)) % 7168 = 6912 + e.val; omega)))

theorem oC3 (d : Fin 128) (e : Fin 256) : (k0_pay143 (F := Ideal) (k0_pay60 G L T O Z) (k0_pay63 G L T O Z s4) (k0_pay64 G L T O Z s4) (k0_pay133 QK) (View.ld (Val := Elt Ideal) (S := S128x7168) (e' := .bf16) x0 (Rect.unit ![0, 4864] ![128, 256] inb_S128x7168_S128x256_0_4864)) (k0_pay136 (View.ld (Val := Elt Ideal) (S := S4x128x256) (e' := .f32) s2 (Rect.unit ![3, 0, 0] ![1, 128, 256] inb_S4x128x256_S1x128x256_3_0_0)))) (ix3 0 d e) = cC (xP x0) (xQ QK) (xb L T O Z) (xg G) (xS s2) (xM s4) 3 d e :=
  (stC3 _ _ _ _ _ _ _ _ _ d e).trans (stC_congr d e rfl rfl rfl (fun i d => congrArg (fun n => QK (ix2 i n)) (Fin.ext (by show 896 + d.val = 512 + (3 * 128 + d.val); omega))) (fun i e => ld2 (φ := .bf16) (o0 := 0) x0 _ i e i (wcol 4096 3 e) (Nat.zero_add _).symm (by show (4096 + (3 * 256 + e.val)) % 7168 = 4864 + e.val; omega)) (fun d e => ld3 (φ := .f32) (A := 4) (a := 1) (o0 := 3) s2 _ 0 d e 3 d e (by rfl) (Nat.zero_add _).symm (Nat.zero_add _).symm))

theorem oN3 (d : Fin 128) : (k0_pay1 (F := Ideal) (k0_pay144 (k0_pay63 G L T O Z s4) (View.ld (Val := Elt Ideal) (S := S8x128) (e' := .f32) s3 (Rect.unit ![3, 0] ![1, 128] inb_S8x128_S1x128_3_0))) (k0_pay145 (k0_pay60 G L T O Z) (k0_pay64 G L T O Z s4) (k0_pay133 QK))) (ix2 0 d) = cN (xQ QK) (xb L T O Z) (xg G) (xN s3) (xM s4) 3 d :=
  (stN3 _ _ _ _ _ _ _ _ d).trans (stN_congr d rfl rfl rfl (fun i d => congrArg (fun n => QK (ix2 i n)) (Fin.ext (by show 896 + d.val = 512 + (3 * 128 + d.val); omega))) (fun d => ld2 (φ := .f32) (A := 8) (a := 1) (o0 := 3) s3 _ 0 d 3 d (by rfl) (Nat.zero_add _).symm))

theorem out_all (y : S128x2048.Idx) : View.canon (Val := Elt Ideal) (s := S128x2048) (e := .bf16)
    [⟨Rect.unit ![0, 1792] ![128, 256] inb_S128x2048_S128x256_0_1792, k0_pay139 (F := Ideal) (k0_pay137 (View.ld (Val := Elt Ideal) (S := S128x7168) (e' := .bf16) x0 (Rect.unit ![0, 6912] ![128, 256] inb_S128x7168_S128x256_0_6912))) (View.ld (Val := Elt Ideal) (S := S1x1024) (e' := .f32) x6 (Rect.unit ![0, 768] ![1, 256] inb_S1x1024_S1x256_0_768)) (k0_pay138 (k0_pay130 k0_pay7 (k0_pay57 G L T O Z) (k0_pay59 L T O Z) (k0_pay61 s4)) (k0_pay131 k0_pay7 (k0_pay57 G L T O Z) (k0_pay59 L T O Z) (k0_pay61 s4)) (k0_pay132 QK) (k0_pay134 QK) (View.ld (Val := Elt Ideal) (S := S128x7168) (e' := .bf16) x0 (Rect.unit ![0, 4864] ![128, 256] inb_S128x7168_S128x256_0_4864)) (k0_pay135 k0_pay7 QK (k0_pay57 G L T O Z) (k0_pay59 L T O Z) (k0_pay61 s4)) (k0_pay136 (View.ld (Val := Elt Ideal) (S := S4x128x256) (e' := .f32) s2 (Rect.unit ![3, 0, 0] ![1, 128, 256] inb_S4x128x256_S1x128x256_3_0_0))) (View.ld (Val := Elt Ideal) (S := S8x128) (e' := .f32) s3 (Rect.unit ![3, 0] ![1, 128] inb_S8x128_S1x128_3_0)) (View.ld (Val := Elt Ideal) (S := S128x7168) (e' := .bf16) x0 (Rect.unit ![0, 5888] ![128, 256] inb_S128x7168_S128x256_0_5888)))⟩,
      ⟨Rect.unit ![0, 1536] ![128, 256] inb_S128x2048_S128x256_0_1536, k0_pay118 (F := Ideal) (k0_pay117 (k0_pay110 k0_pay7 (k0_pay57 G L T O Z) (k0_pay59 L T O Z) (k0_pay61 s4)) (k0_pay111 k0_pay7 (k0_pay57 G L T O Z) (k0_pay59 L T O Z) (k0_pay61 s4)) (k0_pay112 k0_pay7 (k0_pay57 G L T O Z) (k0_pay59 L T O Z) (k0_pay61 s4)) (k0_pay113 QK) (k0_pay114 QK) (k0_pay115 QK) (View.ld (Val := Elt Ideal) (S := S128x7168) (e' := .bf16) x0 (Rect.unit ![0, 4608] ![128, 256] inb_S128x7168_S128x256_0_4608)) (View.ld (Val := Elt Ideal) (S := S4x128x256) (e' := .f32) s2 (Rect.unit ![2, 0, 0] ![1, 128, 256] inb_S4x128x256_S1x128x256_2_0_0)) (View.ld (Val := Elt Ideal) (S := S8x128) (e' := .f32) s3 (Rect.unit ![2, 0] ![1, 128] inb_S8x128_S1x128_2_0)) (View.ld (Val := Elt Ideal) (S := S128x7168) (e' := .bf16) x0 (Rect.unit ![0, 5632] ![128, 256] inb_S128x7168_S128x256_0_5632))) (View.ld (Val := Elt Ideal) (S := S128x7168) (e' := .bf16) x0 (Rect.unit ![0, 6656] ![128, 256] inb_S128x7168_S128x256_0_6656)) (View.ld (Val := Elt Ideal) (S := S1x1024) (e' := .f32) x6 (Rect.unit ![0, 512] ![1, 256] inb_S1x1024_S1x256_0_512))⟩,
      ⟨Rect.unit ![0, 1280] ![128, 256] inb_S128x2048_S128x256_0_1280, k0_pay100 (F := Ideal) (k0_pay97 QK (k0_pay92 (k0_pay59 L T O Z) (k0_pay61 s4)) (k0_pay93 k0_pay7 (k0_pay57 G L T O Z) (k0_pay59 L T O Z) (k0_pay61 s4)) (k0_pay94 k0_pay7 (k0_pay57 G L T O Z) (k0_pay59 L T O Z) (k0_pay61 s4)) (View.ld (Val := Elt Ideal) (S := S128x7168) (e' := .bf16) x0 (Rect.unit ![0, 4352] ![128, 256] inb_S128x7168_S128x256_0_4352)) (View.ld (Val := Elt Ideal) (S := S4x128x256) (e' := .f32) s2 (Rect.unit ![1, 0, 0] ![1, 128, 256] inb_S4x128x256_S1x128x256_1_0_0)) (View.ld (Val := Elt Ideal) (S := S8x128) (e' := .f32) s3 (Rect.unit ![1, 0] ![1, 128] inb_S8x128_S1x128_1_0))) (k0_pay98 (View.ld (Val := Elt Ideal) (S := S128x7168) (e' := .bf16) x0 (Rect.unit ![0, 5376] ![128, 256] inb_S128x7168_S128x256_0_5376))) k0_pay99 (View.ld (Val := Elt Ideal) (S := S128x7168) (e' := .bf16) x0 (Rect.unit ![0, 6400] ![128, 256] inb_S128x7168_S128x256_0_6400)) (View.ld (Val := Elt Ideal) (S := S1x1024) (e' := .f32) x6 (Rect.unit ![0, 256] ![1, 256] inb_S1x1024_S1x256_0_256))⟩,
      ⟨Rect.unit ![0, 1024] ![128, 256] inb_S128x2048_S128x256_0_1024, k0_pay84 (F := Ideal) (k0_pay80 (View.ld (Val := Elt Ideal) (S := S128x7168) (e' := .bf16) x0 (Rect.unit ![0, 6144] ![128, 256] inb_S128x7168_S128x256_0_6144))) (k0_pay81 (k0_pay77 k0_pay7 QK (k0_pay61 s4) (k0_pay66 L T O Z) (k0_pay67 G L T O Z) (View.ld (Val := Elt Ideal) (S := S128x7168) (e' := .bf16) x0 (Rect.unit ![0, 4096] ![128, 256] inb_S128x7168_S128x256_0_4096)) (View.ld (Val := Elt Ideal) (S := S4x128x256) (e' := .f32) s2 (Rect.unit ![0, 0, 0] ![1, 128, 256] inb_S4x128x256_S1x128x256_0_0_0))) (k0_pay78 k0_pay7 QK (k0_pay61 s4) (k0_pay66 L T O Z) (k0_pay67 G L T O Z) (View.ld (Val := Elt Ideal) (S := S8x128) (e' := .f32) s3 (Rect.unit ![0, 0] ![1, 128] inb_S8x128_S1x128_0_0))) (k0_pay79 k0_pay7 (k0_pay61 s4) (k0_pay66 L T O Z) (k0_pay67 G L T O Z)) (View.ld (Val := Elt Ideal) (S := S128x7168) (e' := .bf16) x0 (Rect.unit ![0, 5120] ![128, 256] inb_S128x7168_S128x256_0_5120)) (View.ld (Val := Elt Ideal) (S := S1x1024) (e' := .f32) x6 (Rect.unit ![0, 0] ![1, 256] inb_S1x1024_S1x256_0_0))) (k0_pay82 (View.ld (Val := Elt Ideal) (S := S128x7168) (e' := .bf16) x0 (Rect.unit ![0, 6144] ![128, 256] inb_S128x7168_S128x256_0_6144))) k0_pay83⟩,
      ⟨Rect.unit ![0, 768] ![128, 256] inb_S128x2048_S128x256_0_768, k0_pay42 (F := Ideal) (k0_pay39 (View.ld (Val := Elt Ideal) (S := S128x7168) (e' := .bf16) x0 (Rect.unit ![0, 2816] ![128, 256] inb_S128x7168_S128x256_0_2816))) (View.ld (Val := Elt Ideal) (S := S1x1024) (e' := .f32) x5 (Rect.unit ![0, 768] ![1, 256] inb_S1x1024_S1x256_0_768)) (k0_pay40 (View.ld (Val := Elt Ideal) (S := S128x7168) (e' := .bf16) x0 (Rect.unit ![0, 1792] ![128, 256] inb_S128x7168_S128x256_0_1792)) (k0_pay34 k0_pay7 k0_pay8 (View.ld (Val := Elt Ideal) (S := S128x7168) (e' := .bf16) x0 (Rect.unit ![0, 384] ![128, 128] inb_S128x7168_S128x128_0_384)) (View.ld (Val := Elt Ideal) (S := S128x7168) (e' := .bf16) x0 (Rect.unit ![0, 896] ![128, 128] inb_S128x7168_S128x128_0_896))) (k0_pay35 k0_pay9) (k0_pay36 (View.ld (Val := Elt Ideal) (S := S128x7168) (e' := .bf16) x0 (Rect.unit ![0, 384] ![128, 128] inb_S128x7168_S128x128_0_384))) (View.ld (Val := Elt Ideal) (S := S4x128x256) (e' := .f32) s1 (Rect.unit ![3, 0, 0] ![1, 128, 256] inb_S4x128x256_S1x128x256_3_0_0))) (k0_pay41 (View.ld (Val := Elt Ideal) (S := S128x7168) (e' := .bf16) x0 (Rect.unit ![0, 1792] ![128, 256] inb_S128x7168_S128x256_0_1792)) (k0_pay34 k0_pay7 k0_pay8 (View.ld (Val := Elt Ideal) (S := S128x7168) (e' := .bf16) x0 (Rect.unit ![0, 384] ![128, 128] inb_S128x7168_S128x128_0_384)) (View.ld (Val := Elt Ideal) (S := S128x7168) (e' := .bf16) x0 (Rect.unit ![0, 896] ![128, 128] inb_S128x7168_S128x128_0_896))) (k0_pay35 k0_pay9) (k0_pay36 (View.ld (Val := Elt Ideal) (S := S128x7168) (e' := .bf16) x0 (Rect.unit ![0, 384] ![128, 128] inb_S128x7168_S128x128_0_384))) (View.ld (Val := Elt Ideal) (S := S4x128x256) (e' := .f32) s1 (Rect.unit ![3, 0, 0] ![1, 128, 256] inb_S4x128x256_S1x128x256_3_0_0))) (FloatOps.ofBits FTy.f32 1132462080#32)⟩,
      ⟨Rect.unit ![0, 512] ![128, 256] inb_S128x2048_S128x256_0_512, k0_pay33 (F := Ideal) (k0_pay30 (View.ld (Val := Elt Ideal) (S := S128x7168) (e' := .bf16) x0 (Rect.unit ![0, 2560] ![128, 256] inb_S128x7168_S128x256_0_2560))) (View.ld (Val := Elt Ideal) (S := S1x1024) (e' := .f32) x5 (Rect.unit ![0, 512] ![1, 256] inb_S1x1024_S1x256_0_512)) (k0_pay31 (View.ld (Val := Elt Ideal) (S := S128x7168) (e' := .bf16) x0 (Rect.unit ![0, 1536] ![128, 256] inb_S128x7168_S128x256_0_1536)) (k0_pay26 k0_pay7 k0_pay8 (View.ld (Val := Elt Ideal) (S := S128x7168) (e' := .bf16) x0 (Rect.unit ![0, 256] ![128, 128] inb_S128x7168_S128x128_0_256)) (View.ld (Val := Elt Ideal) (S := S128x7168) (e' := .bf16) x0 (Rect.unit ![0, 768] ![128, 128] inb_S128x7168_S128x128_0_768))) (k0_pay27 k0_pay9 (View.ld (Val := Elt Ideal) (S := S128x7168) (e' := .bf16) x0 (Rect.unit ![0, 256] ![128, 128] inb_S128x7168_S128x128_0_256))) (View.ld (Val := Elt Ideal) (S := S4x128x256) (e' := .f32) s1 (Rect.unit ![2, 0, 0] ![1, 128, 256] inb_S4x128x256_S1x128x256_2_0_0))) (k0_pay32 (View.ld (Val := Elt Ideal) (S := S128x7168) (e' := .bf16) x0 (Rect.unit ![0, 1536] ![128, 256] inb_S128x7168_S128x256_0_1536)) (k0_pay26 k0_pay7 k0_pay8 (View.ld (Val := Elt Ideal) (S := S128x7168) (e' := .bf16) x0 (Rect.unit ![0, 256] ![128, 128] inb_S128x7168_S128x128_0_256)) (View.ld (Val := Elt Ideal) (S := S128x7168) (e' := .bf16) x0 (Rect.unit ![0, 768] ![128, 128] inb_S128x7168_S128x128_0_768))) (k0_pay27 k0_pay9 (View.ld (Val := Elt Ideal) (S := S128x7168) (e' := .bf16) x0 (Rect.unit ![0, 256] ![128, 128] inb_S128x7168_S128x128_0_256))) (View.ld (Val := Elt Ideal) (S := S4x128x256) (e' := .f32) s1 (Rect.unit ![2, 0, 0] ![1, 128, 256] inb_S4x128x256_S1x128x256_2_0_0))) (FloatOps.ofBits FTy.f32 897988541#32)⟩,
      ⟨Rect.unit ![0, 256] ![128, 256] inb_S128x2048_S128x256_0_256, k0_pay25 (F := Ideal) (k0_pay22 (View.ld (Val := Elt Ideal) (S := S128x7168) (e' := .bf16) x0 (Rect.unit ![0, 2304] ![128, 256] inb_S128x7168_S128x256_0_2304))) (View.ld (Val := Elt Ideal) (S := S1x1024) (e' := .f32) x5 (Rect.unit ![0, 256] ![1, 256] inb_S1x1024_S1x256_0_256)) (k0_pay23 (View.ld (Val := Elt Ideal) (S := S128x7168) (e' := .bf16) x0 (Rect.unit ![0, 1280] ![128, 256] inb_S128x7168_S128x256_0_1280)) (k0_pay18 k0_pay7 k0_pay8 (View.ld (Val := Elt Ideal) (S := S128x7168) (e' := .bf16) x0 (Rect.unit ![0, 128] ![128, 128] inb_S128x7168_S128x128_0_128)) (View.ld (Val := Elt Ideal) (S := S128x7168) (e' := .bf16) x0 (Rect.unit ![0, 640] ![128, 128] inb_S128x7168_S128x128_0_640))) (k0_pay19 k0_pay9 (View.ld (Val := Elt Ideal) (S := S128x7168) (e' := .bf16) x0 (Rect.unit ![0, 128] ![128, 128] inb_S128x7168_S128x128_0_128))) (View.ld (Val := Elt Ideal) (S := S4x128x256) (e' := .f32) s1 (Rect.unit ![1, 0, 0] ![1, 128, 256] inb_S4x128x256_S1x128x256_1_0_0))) (k0_pay24 (View.ld (Val := Elt Ideal) (S := S128x7168) (e' := .bf16) x0 (Rect.unit ![0, 1280] ![128, 256] inb_S128x7168_S128x256_0_1280)) (k0_pay18 k0_pay7 k0_pay8 (View.ld (Val := Elt Ideal) (S := S128x7168) (e' := .bf16) x0 (Rect.unit ![0, 128] ![128, 128] inb_S128x7168_S128x128_0_128)) (View.ld (Val := Elt Ideal) (S := S128x7168) (e' := .bf16) x0 (Rect.unit ![0, 640] ![128, 128] inb_S128x7168_S128x128_0_640))) (k0_pay19 k0_pay9 (View.ld (Val := Elt Ideal) (S := S128x7168) (e' := .bf16) x0 (Rect.unit ![0, 128] ![128, 128] inb_S128x7168_S128x128_0_128))) (View.ld (Val := Elt Ideal) (S := S4x128x256) (e' := .f32) s1 (Rect.unit ![1, 0, 0] ![1, 128, 256] inb_S4x128x256_S1x128x256_1_0_0)))⟩,
      ⟨Rect.unit ![0, 0] ![128, 256] inb_S128x2048_S128x256_0_0, k0_pay17 (F := Ideal) (k0_pay14 (View.ld (Val := Elt Ideal) (S := S128x7168) (e' := .bf16) x0 (Rect.unit ![0, 2048] ![128, 256] inb_S128x7168_S128x256_0_2048))) (k0_pay15 (View.ld (Val := Elt Ideal) (S := S128x7168) (e' := .bf16) x0 (Rect.unit ![0, 1024] ![128, 256] inb_S128x7168_S128x256_0_1024)) (k0_pay10 (View.ld (Val := Elt Ideal) (S := S128x7168) (e' := .bf16) x0 (Rect.unit ![0, 0] ![128, 128] inb_S128x7168_S128x128_0_0))) (k0_pay11 (View.ld (Val := Elt Ideal) (S := S4x128x256) (e' := .f32) s1 (Rect.unit ![0, 0, 0] ![1, 128, 256] inb_S4x128x256_S1x128x256_0_0_0))) (k0_pay12 (View.ld (Val := Elt Ideal) (S := S128x7168) (e' := .bf16) x0 (Rect.unit ![0, 0] ![128, 128] inb_S128x7168_S128x128_0_0)) (View.ld (Val := Elt Ideal) (S := S128x7168) (e' := .bf16) x0 (Rect.unit ![0, 512] ![128, 128] inb_S128x7168_S128x128_0_512)))) (k0_pay16 (View.ld (Val := Elt Ideal) (S := S1x1024) (e' := .f32) x5 (Rect.unit ![0, 0] ![1, 256] inb_S1x1024_S1x256_0_0)))⟩] y = (cOut (xP x0) (xQ QK) (xb L T O Z) (xg G) (xr x5) (xr x6) (xS s1) (xS s2) (xN s3) (xM s4)) y := by
  refine View.canon_apply_of_pieces (Val := Elt Ideal) (S := S128x2048) (e := .bf16) (cOut (xP x0) (xQ QK) (xb L T O Z) (xg G) (xr x5) (xr x6) (xS s1) (xS s2) (xN s3) (xM s4)) _ ?_ y (View.cover_of_tiledBy _ ![128, 256] (by sl_kernel_rfl) y)
  refine View.PiecesOf.mem (Val := Elt Ideal) (s := S128x2048) (e := .bf16) (G := (cOut (xP x0) (xQ QK) (xb L T O Z) (xg G) (xr x5) (xr x6) (xS s1) (xS s2) (xN s3) (xM s4))) ?_
  exact ⟨(fun x => pc2 (cOut (xP x0) (xQ QK) (xb L T O Z) (xg G) (xr x5) (xr x6) (xS s1) (xS s2) (xN s3) (xM s4)) _ inb_S128x2048_S128x256_0_1792 (fun i e r s hr hs => by obtain rfl : r = i := Fin.ext (hr.trans (Nat.zero_add _)); exact (oMl3 x0 x6 QK G L T O Z s2 s3 s4 r e).trans (cOut_ml _ _ _ _ _ _ _ _ _ _ 3 r e s (by rw [hs]; show 1792 + e.val = 1024 + (3 * 256 + e.val); omega)).symm) x), (fun x => pc2 (cOut (xP x0) (xQ QK) (xb L T O Z) (xg G) (xr x5) (xr x6) (xS s1) (xS s2) (xN s3) (xM s4)) _ inb_S128x2048_S128x256_0_1536 (fun i e r s hr hs => by obtain rfl : r = i := Fin.ext (hr.trans (Nat.zero_add _)); exact (oMl2 x0 x6 QK G L T O Z s2 s3 s4 r e).trans (cOut_ml _ _ _ _ _ _ _ _ _ _ 2 r e s (by rw [hs]; show 1536 + e.val = 1024 + (2 * 256 + e.val); omega)).symm) x), (fun x => pc2 (cOut (xP x0) (xQ QK) (xb L T O Z) (xg G) (xr x5) (xr x6) (xS s1) (xS s2) (xN s3) (xM s4)) _ inb_S128x2048_S128x256_0_1280 (fun i e r s hr hs => by obtain rfl : r = i := Fin.ext (hr.trans (Nat.zero_add _)); exact (oMl1 x0 x6 QK G L T O Z s2 s3 s4 r e).trans (cOut_ml _ _ _ _ _ _ _ _ _ _ 1 r e s (by rw [hs]; show 1280 + e.val = 1024 + (1 * 256 + e.val); omega)).symm) x), (fun x => pc2 (cOut (xP x0) (xQ QK) (xb L T O Z) (xg G) (xr x5) (xr x6) (xS s1) (xS s2) (xN s3) (xM s4)) _ inb_S128x2048_S128x256_0_1024 (fun i e r s hr hs => by obtain rfl : r = i := Fin.ext (hr.trans (Nat.zero_add _)); exact (oMl0 x0 x6 QK G L T O Z s2 s3 s4 r e).trans (cOut_ml _ _ _ _ _ _ _ _ _ _ 0 r e s (by rw [hs]; show 1024 + e.val = 1024 + (0 * 256 + e.val); omega)).symm) x), (fun x => pc2 (cOut (xP x0) (xQ QK) (xb L T O Z) (xg G) (xr x5) (xr x6) (xS s1) (xS s2) (xN s3) (xM s4)) _ inb_S128x2048_S128x256_0_768 (fun i e r s hr hs => by obtain rfl : r = i := Fin.ext (hr.trans (Nat.zero_add _)); exact (oRet3 x0 x5 s1 r e).trans (cOut_ret _ _ _ _ _ _ _ _ _ _ 3 r e s (by rw [hs]; show 768 + e.val = 3 * 256 + e.val; omega)).symm) x), (fun x => pc2 (cOut (xP x0) (xQ QK) (xb L T O Z) (xg G) (xr x5) (xr x6) (xS s1) (xS s2) (xN s3) (xM s4)) _ inb_S128x2048_S128x256_0_512 (fun i e r s hr hs => by obtain rfl : r = i := Fin.ext (hr.trans (Nat.zero_add _)); exact (oRet2 x0 x5 s1 r e).trans (cOut_ret _ _ _ _ _ _ _ _ _ _ 2 r e s (by rw [hs]; show 512 + e.val = 2 * 256 + e.val; omega)).symm) x), (fun x => pc2 (cOut (xP x0) (xQ QK) (xb L T O Z) (xg G) (xr x5) (xr x6) (xS s1) (xS s2) (xN s3) (xM s4)) _ inb_S128x2048_S128x256_0_256 (fun i e r s hr hs => by obtain rfl : r = i := Fin.ext (hr.trans (Nat.zero_add _)); exact (oRet1 x0 x5 s1 r e).trans (cOut_ret _ _ _ _ _ _ _ _ _ _ 1 r e s (by rw [hs]; show 256 + e.val = 1 * 256 + e.val; omega)).symm) x), (fun x => pc2 (cOut (xP x0) (xQ QK) (xb L T O Z) (xg G) (xr x5) (xr x6) (xS s1) (xS s2) (xN s3) (xM s4)) _ inb_S128x2048_S128x256_0_0 (fun i e r s hr hs => by obtain rfl : r = i := Fin.ext (hr.trans (Nat.zero_add _)); exact (oRet0 x0 x5 s1 r e).trans (cOut_ret _ _ _ _ _ _ _ _ _ _ 0 r e s (by rw [hs]; show 0 + e.val = 0 * 256 + e.val; omega)).symm) x), trivial⟩

def gR (y : S4x128x256.Idx) : EReal := cR (xP x0) (xS s1) (y 0) (y 1) (y 2)
def gC (y : S4x128x256.Idx) : EReal := cC (xP x0) (xQ QK) (xb L T O Z) (xg G) (xS s2) (xM s4) (y 0) (y 1) (y 2)

theorem stR_all (L' : List (View.Piece (Elt Ideal) S4x128x256 .f32)) (y : S4x128x256.Idx) :
    View.canon (Val := Elt Ideal) (s := S4x128x256) (e := .f32) (
    [⟨Rect.unit ![3, 0, 0] ![1, 128, 256] inb_S4x128x256_S1x128x256_3_0_0, k0_pay38 (F := Ideal) k0_pay9 (View.ld (Val := Elt Ideal) (S := S128x7168) (e' := .bf16) x0 (Rect.unit ![0, 896] ![128, 128] inb_S128x7168_S128x128_0_896)) (View.ld (Val := Elt Ideal) (S := S128x7168) (e' := .bf16) x0 (Rect.unit ![0, 1792] ![128, 256] inb_S128x7168_S128x256_0_1792)) (View.ld (Val := Elt Ideal) (S := S4x128x256) (e' := .f32) s1 (Rect.unit ![3, 0, 0] ![1, 128, 256] inb_S4x128x256_S1x128x256_3_0_0))⟩,
      ⟨Rect.unit ![2, 0, 0] ![1, 128, 256] inb_S4x128x256_S1x128x256_2_0_0, k0_pay29 (F := Ideal) k0_pay9 (View.ld (Val := Elt Ideal) (S := S128x7168) (e' := .bf16) x0 (Rect.unit ![0, 768] ![128, 128] inb_S128x7168_S128x128_0_768)) (View.ld (Val := Elt Ideal) (S := S128x7168) (e' := .bf16) x0 (Rect.unit ![0, 1536] ![128, 256] inb_S128x7168_S128x256_0_1536)) (View.ld (Val := Elt Ideal) (S := S4x128x256) (e' := .f32) s1 (Rect.unit ![2, 0, 0] ![1, 128, 256] inb_S4x128x256_S1x128x256_2_0_0))⟩,
      ⟨Rect.unit ![1, 0, 0] ![1, 128, 256] inb_S4x128x256_S1x128x256_1_0_0, k0_pay21 (F := Ideal) k0_pay9 (View.ld (Val := Elt Ideal) (S := S128x7168) (e' := .bf16) x0 (Rect.unit ![0, 640] ![128, 128] inb_S128x7168_S128x128_0_640)) (View.ld (Val := Elt Ideal) (S := S128x7168) (e' := .bf16) x0 (Rect.unit ![0, 1280] ![128, 256] inb_S128x7168_S128x256_0_1280)) (View.ld (Val := Elt Ideal) (S := S4x128x256) (e' := .f32) s1 (Rect.unit ![1, 0, 0] ![1, 128, 256] inb_S4x128x256_S1x128x256_1_0_0))⟩,
      ⟨Rect.unit ![0, 0, 0] ![1, 128, 256] inb_S4x128x256_S1x128x256_0_0_0, k0_pay13 (F := Ideal) k0_pay9 (View.ld (Val := Elt Ideal) (S := S128x7168) (e' := .bf16) x0 (Rect.unit ![0, 512] ![128, 128] inb_S128x7168_S128x128_0_512)) (View.ld (Val := Elt Ideal) (S := S128x7168) (e' := .bf16) x0 (Rect.unit ![0, 1024] ![128, 256] inb_S128x7168_S128x256_0_1024)) (k0_pay11 (View.ld (Val := Elt Ideal) (S := S4x128x256) (e' := .f32) s1 (Rect.unit ![0, 0, 0] ![1, 128, 256] inb_S4x128x256_S1x128x256_0_0_0)))⟩] ++ L') y = gR x0 s1 y :=
  View.canon_append_of_piecesOf (gR x0 s1) L' _ (by exact ⟨(fun x => pc3 (gR x0 s1) _ inb_S4x128x256_S1x128x256_3_0_0 (fun i d e r s t hr hs ht => by obtain rfl : r = 3 := Fin.ext (hr.trans (by show 3 + i.val = 3; omega)); obtain rfl : s = d := Fin.ext (hs.trans (Nat.zero_add _)); obtain rfl : t = e := Fin.ext (ht.trans (Nat.zero_add _)); obtain rfl : i = 0 := Fin.ext (by show i.val = 0; omega); exact oR3 x0 s1 s t) x), (fun x => pc3 (gR x0 s1) _ inb_S4x128x256_S1x128x256_2_0_0 (fun i d e r s t hr hs ht => by obtain rfl : r = 2 := Fin.ext (hr.trans (by show 2 + i.val = 2; omega)); obtain rfl : s = d := Fin.ext (hs.trans (Nat.zero_add _)); obtain rfl : t = e := Fin.ext (ht.trans (Nat.zero_add _)); obtain rfl : i = 0 := Fin.ext (by show i.val = 0; omega); exact oR2 x0 s1 s t) x), (fun x => pc3 (gR x0 s1) _ inb_S4x128x256_S1x128x256_1_0_0 (fun i d e r s t hr hs ht => by obtain rfl : r = 1 := Fin.ext (hr.trans (by show 1 + i.val = 1; omega)); obtain rfl : s = d := Fin.ext (hs.trans (Nat.zero_add _)); obtain rfl : t = e := Fin.ext (ht.trans (Nat.zero_add _)); obtain rfl : i = 0 := Fin.ext (by show i.val = 0; omega); exact oR1 x0 s1 s t) x), (fun x => pc3 (gR x0 s1) _ inb_S4x128x256_S1x128x256_0_0_0 (fun i d e r s t hr hs ht => by obtain rfl : r = 0 := Fin.ext (hr.trans (by show 0 + i.val = 0; omega)); obtain rfl : s = d := Fin.ext (hs.trans (Nat.zero_add _)); obtain rfl : t = e := Fin.ext (ht.trans (Nat.zero_add _)); obtain rfl : i = 0 := Fin.ext (by show i.val = 0; omega); exact oR0 x0 s1 s t) x), trivial⟩) y
    (View.cover_of_tiledBy _ ![1, 128, 256] (by sl_kernel_rfl) y)

theorem stC_all (L' : List (View.Piece (Elt Ideal) S4x128x256 .f32)) (y : S4x128x256.Idx) :
    View.canon (Val := Elt Ideal) (s := S4x128x256) (e := .f32) (
    [⟨Rect.unit ![3, 0, 0] ![1, 128, 256] inb_S4x128x256_S1x128x256_3_0_0, k0_pay143 (F := Ideal) (k0_pay60 G L T O Z) (k0_pay63 G L T O Z s4) (k0_pay64 G L T O Z s4) (k0_pay133 QK) (View.ld (Val := Elt Ideal) (S := S128x7168) (e' := .bf16) x0 (Rect.unit ![0, 4864] ![128, 256] inb_S128x7168_S128x256_0_4864)) (k0_pay136 (View.ld (Val := Elt Ideal) (S := S4x128x256) (e' := .f32) s2 (Rect.unit ![3, 0, 0] ![1, 128, 256] inb_S4x128x256_S1x128x256_3_0_0)))⟩,
      ⟨Rect.unit ![2, 0, 0] ![1, 128, 256] inb_S4x128x256_S1x128x256_2_0_0, k0_pay125 (F := Ideal) (k0_pay123 (k0_pay63 G L T O Z s4) (k0_pay116 (View.ld (Val := Elt Ideal) (S := S4x128x256) (e' := .f32) s2 (Rect.unit ![2, 0, 0] ![1, 128, 256] inb_S4x128x256_S1x128x256_2_0_0)))) (k0_pay124 (k0_pay60 G L T O Z) (k0_pay64 G L T O Z s4) (k0_pay114 QK) (View.ld (Val := Elt Ideal) (S := S128x7168) (e' := .bf16) x0 (Rect.unit ![0, 4608] ![128, 256] inb_S128x7168_S128x256_0_4608)))⟩,
      ⟨Rect.unit ![1, 0, 0] ![1, 128, 256] inb_S4x128x256_S1x128x256_1_0_0, k0_pay105 (F := Ideal) (k0_pay63 G L T O Z s4) (k0_pay64 G L T O Z s4) (View.ld (Val := Elt Ideal) (S := S128x7168) (e' := .bf16) x0 (Rect.unit ![0, 4352] ![128, 256] inb_S128x7168_S128x256_0_4352)) (k0_pay96 (View.ld (Val := Elt Ideal) (S := S4x128x256) (e' := .f32) s2 (Rect.unit ![1, 0, 0] ![1, 128, 256] inb_S4x128x256_S1x128x256_1_0_0))) (k0_pay102 (k0_pay60 G L T O Z) (k0_pay95 QK))⟩,
      ⟨Rect.unit ![0, 0, 0] ![1, 128, 256] inb_S4x128x256_S1x128x256_0_0_0, k0_pay88 (F := Ideal) (k0_pay60 G L T O Z) (k0_pay63 G L T O Z s4) (k0_pay64 G L T O Z s4) (k0_pay73 QK) (View.ld (Val := Elt Ideal) (S := S128x7168) (e' := .bf16) x0 (Rect.unit ![0, 4096] ![128, 256] inb_S128x7168_S128x256_0_4096)) (k0_pay76 (View.ld (Val := Elt Ideal) (S := S4x128x256) (e' := .f32) s2 (Rect.unit ![0, 0, 0] ![1, 128, 256] inb_S4x128x256_S1x128x256_0_0_0)))⟩] ++ L') y = gC x0 QK G L T O Z s2 s4 y :=
  View.canon_append_of_piecesOf (gC x0 QK G L T O Z s2 s4) L' _ (by exact ⟨(fun x => pc3 (gC x0 QK G L T O Z s2 s4) _ inb_S4x128x256_S1x128x256_3_0_0 (fun i d e r s t hr hs ht => by obtain rfl : r = 3 := Fin.ext (hr.trans (by show 3 + i.val = 3; omega)); obtain rfl : s = d := Fin.ext (hs.trans (Nat.zero_add _)); obtain rfl : t = e := Fin.ext (ht.trans (Nat.zero_add _)); obtain rfl : i = 0 := Fin.ext (by show i.val = 0; omega); exact oC3 x0 QK G L T O Z s2 s4 s t) x), (fun x => pc3 (gC x0 QK G L T O Z s2 s4) _ inb_S4x128x256_S1x128x256_2_0_0 (fun i d e r s t hr hs ht => by obtain rfl : r = 2 := Fin.ext (hr.trans (by show 2 + i.val = 2; omega)); obtain rfl : s = d := Fin.ext (hs.trans (Nat.zero_add _)); obtain rfl : t = e := Fin.ext (ht.trans (Nat.zero_add _)); obtain rfl : i = 0 := Fin.ext (by show i.val = 0; omega); exact oC2 x0 QK G L T O Z s2 s4 s t) x), (fun x => pc3 (gC x0 QK G L T O Z s2 s4) _ inb_S4x128x256_S1x128x256_1_0_0 (fun i d e r s t hr hs ht => by obtain rfl : r = 1 := Fin.ext (hr.trans (by show 1 + i.val = 1; omega)); obtain rfl : s = d := Fin.ext (hs.trans (Nat.zero_add _)); obtain rfl : t = e := Fin.ext (ht.trans (Nat.zero_add _)); obtain rfl : i = 0 := Fin.ext (by show i.val = 0; omega); exact oC1 x0 QK G L T O Z s2 s4 s t) x), (fun x => pc3 (gC x0 QK G L T O Z s2 s4) _ inb_S4x128x256_S1x128x256_0_0_0 (fun i d e r s t hr hs ht => by obtain rfl : r = 0 := Fin.ext (hr.trans (by show 0 + i.val = 0; omega)); obtain rfl : s = d := Fin.ext (hs.trans (Nat.zero_add _)); obtain rfl : t = e := Fin.ext (ht.trans (Nat.zero_add _)); obtain rfl : i = 0 := Fin.ext (by show i.val = 0; omega); exact oC0 x0 QK G L T O Z s2 s4 s t) x), trivial⟩) y
    (View.cover_of_tiledBy _ ![1, 128, 256] (by sl_kernel_rfl) y)

end

end Cert.Mix

end
-- ==== Proof.MixKerPt.lean ====
/-
  The mixer's kernel at one grid point, in its two cases: the first chunk of a sequence, which clears the states, and a later
  chunk, which finds them as the chunk before left them.
-/
module

public import proofs.«01_k».proof.Proof.MixKerChunk
public import Idealize.ShloMosaic.Lib.WritesUnit

@[expose] public section

set_option maxRecDepth 16384

noncomputable section

namespace Cert.Mix

open Idealize.ShloMosaic Idealize.ShloMosaic.TcCoe Idealize.SL.Sem
open Cert.AbMixerIdeal Cert.AbMixerIdeal.Gen

/-! ### The convolution -/

section
variable (x0 : FVec Ideal S128x7168 .bf16) (x2 : FVec Ideal S4x1024 .f32) (x3 : FVec Ideal S1x1024 .f32)
  (E : Fin 8 → Fin 1024 → EReal)

/-- The chunk's own rows of the convolution's input with the eight rows before them on top. -/
def ext (r : ℕ) (n : Fin 1024) : EReal :=
  if h : r < 8 then E ⟨r, h⟩ n else x0 (ix2 ⟨(r - 8) % 128, Nat.mod_lt _ (by decide)⟩ ⟨3072 + n.val, by omega⟩)

def qv : FVec Ideal S128x1024 .f32 := fun y =>
  silu (x3 (ix2 0 (y 1)) + x2 (ix2 3 (y 1)) * x0 (ix2 (y 0) ⟨3072 + (y 1).val, by have := (y 1).isLt; change (y 1).val < 1024 at this; omega⟩)
    + x2 (ix2 0 (y 1)) * ext x0 E (5 + (y 0).val) (y 1) + x2 (ix2 1 (y 1)) * ext x0 E (6 + (y 0).val) (y 1)
    + x2 (ix2 2 (y 1)) * ext x0 E (7 + (y 0).val) (y 1))

theorem qk_at (X : FVec Ideal S128x1024 .bf16) (b w3 w0 w1 w2 : FVec Ideal S1x1024 .f32) (E5 E6 E7 : FVec Ideal S128x1024 .f32)
    (i : Fin 128) (n : Fin 1024) :
    k0_pay47 (F := Ideal) (k0_pay45 X b w3 w0 E5) w1 E6 w2 E7 (ix2 i n)
      = silu (b (ix2 0 n) + w3 (ix2 0 n) * X (ix2 i n) + w0 (ix2 0 n) * E5 (ix2 i n) + w1 (ix2 0 n) * E6 (ix2 i n) + w2 (ix2 0 n) * E7 (ix2 i n)) := by
  pointwise [k0_pay47, k0_pay45, k0_pay43]
  simp only [silu, sgm, zero_sub]

theorem p44_at (X : FVec Ideal S128x1024 .bf16) (i : Fin 128) (n : Fin 1024) : k0_pay44 (F := Ideal) X (ix2 i n) = X (ix2 i n) := by
  pointwise [k0_pay44, k0_pay43]

theorem p46_at (X : FVec Ideal S128x1024 .bf16) (i : Fin 8) (n : Fin 1024) : k0_pay46 (F := Ideal) (k0_pay43 X) (ix2 i n) = X (ix2 ⟨120 + i.val, by omega⟩ n) := by
  pointwise [k0_pay46, k0_pay43]

theorem p2_at (i : Fin 8) (n : Fin 1024) : k0_pay2 (F := Ideal) (ix2 i n) = 0 := by
  pointwise [k0_pay2]

theorem ldX (i : Fin 128) (n : Fin 1024) : View.ld (Val := Elt Ideal) (S := S128x7168) (e' := .bf16) x0 (Rect.unit ![0, 3072] ![128, 1024] inb_S128x7168_S128x1024_0_3072) (ix2 i n)
    = x0 (ix2 i ⟨3072 + n.val, by omega⟩) :=
  ld2 (φ := .bf16) x0 _ i n i ⟨3072 + n.val, by omega⟩ (Nat.zero_add _).symm rfl

/-- The chunk's rows written under eight rows `E`, read from row `o` on. -/
theorem extB (s0 : FVec Ideal S136x1024 .f32) (f : (Memref.whole cc0_scratch0).view.ty.Contents (Elt Ideal)) (hf : View.read (Elt Ideal) (View.whole cc0_scratch0) f = s0)
    (y : S136x1024.Idx) :
    View.read (Elt Ideal) (View.whole cc0_scratch0) ((View.whole cc0_scratch0).writes (Elt Ideal) f
      [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩]) y
      = ext x0 (fun r n => s0 (ix2 ⟨r.val, by omega⟩ n)) (y 0).val (y 1) := by
  have hy : (y 0).val < 136 := (y 0).isLt
  unfold ext
  by_cases h : (y 0).val < 8
  · rw [dif_pos h]
    refine (View.read_writes_cons_unit_of_not_mem (View.whole cc0_scratch0) f inb_S136x1024_S128x1024_8_0 _ _ y rfl (0 : Fin 2) (Or.inl h)).trans ?_
    refine (congrFun hf y).trans (congrArg s0 (funext fun a => ?_))
    match a with
    | ⟨0, _⟩ => rfl
    | ⟨1, _⟩ => rfl
  · rw [dif_neg h]
    refine (View.read_writes_cons_unit_of_mem (View.whole cc0_scratch0) f inb_S136x1024_S128x1024_8_0 _ _ y (ix2 ⟨((y 0).val - 8) % 128, Nat.mod_lt _ (by decide)⟩ (y 1)) rfl (fun a => ?_)).trans ?_
    · match a with
      | ⟨0, _⟩ => show (y 0).val = 8 + ((y 0).val - 8) % 128; omega
      | ⟨1, _⟩ => exact (Nat.zero_add _).symm
    · exact (p44_at _ _ _).trans (ldX x0 _ _)

theorem canon_mem {S : Shape} {e : EltTy} {off size : Fin S.rank → ℕ} (inb : ∀ a, off a + size a ≤ S.size a) (w : (Rect.unit off size inb).shape.Idx → Elt Ideal e)
    (L : List (View.Piece (Elt Ideal) S e)) (y : S.Idx) (x : (Rect.unit off size inb).shape.Idx) (hx : ∀ a, (y a).val = off a + (x a).val) :
    View.canon (Val := Elt Ideal) (s := S) (e := e) (⟨Rect.unit off size inb, w⟩ :: L) y = w x := by
  have hy : (Rect.unit off size inb).emb x = y := funext fun a => Fin.ext ((Rect.idx_unit_val off size inb x a).trans (hx a).symm)
  rw [← hy]
  exact View.canon_cons_emb _ w L x

theorem canon_not_mem {S : Shape} {e : EltTy} {off size : Fin S.rank → ℕ} (inb : ∀ a, off a + size a ≤ S.size a) (w : (Rect.unit off size inb).shape.Idx → Elt Ideal e)
    (L : List (View.Piece (Elt Ideal) S e)) (y : S.Idx) (a : Fin S.rank) (ha : (y a).val < off a ∨ off a + size a ≤ (y a).val) :
    View.canon (Val := Elt Ideal) (s := S) (e := e) (⟨Rect.unit off size inb, w⟩ :: L) y = View.canon L y := by
  refine View.canon_cons_of_not_mem _ L ?_
  show y ∉ (Rect.unit off size inb).set
  rw [Rect.mem_set_unit]
  intro hall
  have := hall a
  omega

theorem extA (y : S136x1024.Idx) :
    View.canon (Val := Elt Ideal) (s := S136x1024) (e := .f32)
      [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩,
       ⟨Rect.unit ![0, 0] ![8, 1024] inb_S136x1024_S8x1024_0_0, k0_pay2 (F := Ideal)⟩] y
      = ext x0 (fun _ _ => 0) (y 0).val (y 1) := by
  have hy : (y 0).val < 136 := (y 0).isLt
  unfold ext
  by_cases h : (y 0).val < 8
  · rw [dif_pos h]
    refine (canon_not_mem _ _ _ y (0 : Fin 2) (Or.inl h)).trans ?_
    refine (canon_mem inb_S136x1024_S8x1024_0_0 _ _ y (ix2 ⟨(y 0).val, h⟩ (y 1)) (fun a => ?_)).trans ?_
    · match a with
      | ⟨0, _⟩ => exact (Nat.zero_add _).symm
      | ⟨1, _⟩ => exact (Nat.zero_add _).symm
    · exact p2_at _ _
  · rw [dif_neg h]
    refine (canon_mem inb_S136x1024_S128x1024_8_0 _ _ y (ix2 ⟨((y 0).val - 8) % 128, Nat.mod_lt _ (by decide)⟩ (y 1)) (fun a => ?_)).trans ?_
    · match a with
      | ⟨0, _⟩ => show (y 0).val = 8 + ((y 0).val - 8) % 128; omega
      | ⟨1, _⟩ => exact (Nat.zero_add _).symm
    · exact (p44_at _ _ _).trans (ldX x0 _ _)

/-- What the point leaves for the next chunk's convolution: its last eight rows. -/
theorem tail_all (L' : List (View.Piece (Elt Ideal) S136x1024 .f32)) (r : Fin 8) (n : Fin 1024) :
    View.canon (Val := Elt Ideal) (s := S136x1024) (e := .f32)
      (⟨Rect.unit ![0, 0] ![8, 1024] inb_S136x1024_S8x1024_0_0, k0_pay46 (k0_pay43 (View.ld (Val := Elt Ideal) (S := S128x7168) (e' := .bf16) x0 (Rect.unit ![0, 3072] ![128, 1024] inb_S128x7168_S128x1024_0_3072)))⟩ :: L')
      (ix2 ⟨r.val, by omega⟩ n) = x0 (ix2 ⟨120 + r.val, by omega⟩ ⟨3072 + n.val, by omega⟩) := by
  refine (canon_mem inb_S136x1024_S8x1024_0_0 _ _ _ (ix2 r n) (fun a => ?_)).trans ?_
  · match a with
    | ⟨0, _⟩ => exact (Nat.zero_add _).symm
    | ⟨1, _⟩ => exact (Nat.zero_add _).symm
  · exact (p46_at _ _ _).trans (ldX x0 _ _)

theorem qkB (s0 : FVec Ideal S136x1024 .f32) (h : (Memref.whole cc0_scratch0).IsWhole) : k0_pay47 (F := Ideal) (k0_pay45 (View.ld (Val := Elt Ideal) (S := S128x7168) (e' := .bf16) x0 (Rect.unit ![0, 3072] ![128, 1024] inb_S128x7168_S128x1024_0_3072)) x3 (View.ld (Val := Elt Ideal) (S := S4x1024) (e' := .f32) x2 (Rect.unit ![3, 0] ![1, 1024] inb_S4x1024_S1x1024_3_0)) (View.ld (Val := Elt Ideal) (S := S4x1024) (e' := .f32) x2 (Rect.unit ![0, 0] ![1, 1024] inb_S4x1024_S1x1024_0_0)) (View.ld (Val := Elt Ideal) (S := S136x1024) (e' := .f32) (View.read (Elt Ideal) (View.whole cc0_scratch0) ((View.whole cc0_scratch0).writes (Elt Ideal) (h.unread s0) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩])) (Rect.unit ![5, 0] ![128, 1024] inb_S136x1024_S128x1024_5_0))) (View.ld (Val := Elt Ideal) (S := S4x1024) (e' := .f32) x2 (Rect.unit ![1, 0] ![1, 1024] inb_S4x1024_S1x1024_1_0)) (View.ld (Val := Elt Ideal) (S := S136x1024) (e' := .f32) (View.read (Elt Ideal) (View.whole cc0_scratch0) ((View.whole cc0_scratch0).writes (Elt Ideal) (h.unread s0) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩])) (Rect.unit ![6, 0] ![128, 1024] inb_S136x1024_S128x1024_6_0)) (View.ld (Val := Elt Ideal) (S := S4x1024) (e' := .f32) x2 (Rect.unit ![2, 0] ![1, 1024] inb_S4x1024_S1x1024_2_0)) (View.ld (Val := Elt Ideal) (S := S136x1024) (e' := .f32) (View.read (Elt Ideal) (View.whole cc0_scratch0) ((View.whole cc0_scratch0).writes (Elt Ideal) (h.unread s0) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩])) (Rect.unit ![7, 0] ![128, 1024] inb_S136x1024_S128x1024_7_0))
    = qv x0 x2 x3 (fun r n => s0 (ix2 ⟨r.val, by omega⟩ n)) := by
  funext y
  idx_vars y
  have e : ∀ o : ℕ, ∀ inb, o + 128 ≤ 136 → View.ld (Val := Elt Ideal) (S := S136x1024) (e' := .f32)
      (View.read (Elt Ideal) (View.whole cc0_scratch0) ((View.whole cc0_scratch0).writes (Elt Ideal) (h.unread s0) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩]))
      (Rect.unit ![o, 0] ![128, 1024] inb) (ix2 y0 y1) = ext x0 (fun r n => s0 (ix2 ⟨r.val, by omega⟩ n)) (o + y0.val) y1 := by
    intro o inb ho
    refine (ld2 (φ := .f32) _ inb y0 y1 ⟨o + y0.val, by omega⟩ y1 rfl (Nat.zero_add _).symm).trans ?_
    exact extB x0 s0 _ (read_unread_whole (Val := Elt Ideal) _ h s0) _
  rw [qk_at, e 5 _ (by decide), e 6 _ (by decide), e 7 _ (by decide), ldX]
  rw [(show ∀ n : Fin 1024, (View.ld (Val := Elt Ideal) (S := S4x1024) (e' := .f32) x2 (Rect.unit ![0, 0] ![1, 1024] inb_S4x1024_S1x1024_0_0)) (ix2 0 n) = x2 (ix2 0 n) from fun n => ld2 (φ := .f32) (A := 4) (a := 1) (o0 := 0) x2 _ 0 n 0 n (by rfl) (Nat.zero_add _).symm), (show ∀ n : Fin 1024, (View.ld (Val := Elt Ideal) (S := S4x1024) (e' := .f32) x2 (Rect.unit ![1, 0] ![1, 1024] inb_S4x1024_S1x1024_1_0)) (ix2 0 n) = x2 (ix2 1 n) from fun n => ld2 (φ := .f32) (A := 4) (a := 1) (o0 := 1) x2 _ 0 n 1 n (by rfl) (Nat.zero_add _).symm), (show ∀ n : Fin 1024, (View.ld (Val := Elt Ideal) (S := S4x1024) (e' := .f32) x2 (Rect.unit ![2, 0] ![1, 1024] inb_S4x1024_S1x1024_2_0)) (ix2 0 n) = x2 (ix2 2 n) from fun n => ld2 (φ := .f32) (A := 4) (a := 1) (o0 := 2) x2 _ 0 n 2 n (by rfl) (Nat.zero_add _).symm), (show ∀ n : Fin 1024, (View.ld (Val := Elt Ideal) (S := S4x1024) (e' := .f32) x2 (Rect.unit ![3, 0] ![1, 1024] inb_S4x1024_S1x1024_3_0)) (ix2 0 n) = x2 (ix2 3 n) from fun n => ld2 (φ := .f32) (A := 4) (a := 1) (o0 := 3) x2 _ 0 n 3 n (by rfl) (Nat.zero_add _).symm)]
  rfl

theorem qkA : k0_pay47 (F := Ideal) (k0_pay45 (View.ld (Val := Elt Ideal) (S := S128x7168) (e' := .bf16) x0 (Rect.unit ![0, 3072] ![128, 1024] inb_S128x7168_S128x1024_0_3072)) x3 (View.ld (Val := Elt Ideal) (S := S4x1024) (e' := .f32) x2 (Rect.unit ![3, 0] ![1, 1024] inb_S4x1024_S1x1024_3_0)) (View.ld (Val := Elt Ideal) (S := S4x1024) (e' := .f32) x2 (Rect.unit ![0, 0] ![1, 1024] inb_S4x1024_S1x1024_0_0)) ((View.whole cc0_scratch0).readCov (Val := Elt Ideal) (s := S136x1024) (e := .f32) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩, ⟨Rect.unit ![0, 0] ![8, 1024] inb_S136x1024_S8x1024_0_0, k0_pay2 (F := Ideal)⟩] (Rect.unit (s := S136x1024) ![5, 0] ![128, 1024] inb_S136x1024_S128x1024_5_0).toLoadRect)) (View.ld (Val := Elt Ideal) (S := S4x1024) (e' := .f32) x2 (Rect.unit ![1, 0] ![1, 1024] inb_S4x1024_S1x1024_1_0)) ((View.whole cc0_scratch0).readCov (Val := Elt Ideal) (s := S136x1024) (e := .f32) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩, ⟨Rect.unit ![0, 0] ![8, 1024] inb_S136x1024_S8x1024_0_0, k0_pay2 (F := Ideal)⟩] (Rect.unit (s := S136x1024) ![6, 0] ![128, 1024] inb_S136x1024_S128x1024_6_0).toLoadRect) (View.ld (Val := Elt Ideal) (S := S4x1024) (e' := .f32) x2 (Rect.unit ![2, 0] ![1, 1024] inb_S4x1024_S1x1024_2_0)) ((View.whole cc0_scratch0).readCov (Val := Elt Ideal) (s := S136x1024) (e := .f32) [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩, ⟨Rect.unit ![0, 0] ![8, 1024] inb_S136x1024_S8x1024_0_0, k0_pay2 (F := Ideal)⟩] (Rect.unit (s := S136x1024) ![7, 0] ![128, 1024] inb_S136x1024_S128x1024_7_0).toLoadRect)
    = qv x0 x2 x3 (fun _ _ => 0) := by
  funext y
  idx_vars y
  have e : ∀ o : ℕ, ∀ inb, o + 128 ≤ 136 → (View.whole cc0_scratch0).readCov (Val := Elt Ideal) (s := S136x1024) (e := .f32)
      [⟨Rect.unit ![8, 0] ![128, 1024] inb_S136x1024_S128x1024_8_0, k0_pay44 (View.ld (Val := Elt Ideal) (S := S128x7168) (e' := .bf16) x0 (Rect.unit ![0, 3072] ![128, 1024] inb_S128x7168_S128x1024_0_3072))⟩, ⟨Rect.unit ![0, 0] ![8, 1024] inb_S136x1024_S8x1024_0_0, k0_pay2 (F := Ideal)⟩]
      (Rect.unit (s := S136x1024) ![o, 0] ![128, 1024] inb).toLoadRect (ix2 y0 y1) = ext x0 (fun _ _ => 0) (o + y0.val) y1 := by
    intro o inb ho
    rw [View.readCov_eq_canon']
    refine (ld2 (φ := .f32) _ inb y0 y1 ⟨o + y0.val, by omega⟩ y1 rfl (Nat.zero_add _).symm).trans ?_
    exact extA x0 _
  rw [qk_at, e 5 _ (by decide), e 6 _ (by decide), e 7 _ (by decide), ldX]
  rw [(show ∀ n : Fin 1024, (View.ld (Val := Elt Ideal) (S := S4x1024) (e' := .f32) x2 (Rect.unit ![0, 0] ![1, 1024] inb_S4x1024_S1x1024_0_0)) (ix2 0 n) = x2 (ix2 0 n) from fun n => ld2 (φ := .f32) (A := 4) (a := 1) (o0 := 0) x2 _ 0 n 0 n (by rfl) (Nat.zero_add _).symm), (show ∀ n : Fin 1024, (View.ld (Val := Elt Ideal) (S := S4x1024) (e' := .f32) x2 (Rect.unit ![1, 0] ![1, 1024] inb_S4x1024_S1x1024_1_0)) (ix2 0 n) = x2 (ix2 1 n) from fun n => ld2 (φ := .f32) (A := 4) (a := 1) (o0 := 1) x2 _ 0 n 1 n (by rfl) (Nat.zero_add _).symm), (show ∀ n : Fin 1024, (View.ld (Val := Elt Ideal) (S := S4x1024) (e' := .f32) x2 (Rect.unit ![2, 0] ![1, 1024] inb_S4x1024_S1x1024_2_0)) (ix2 0 n) = x2 (ix2 2 n) from fun n => ld2 (φ := .f32) (A := 4) (a := 1) (o0 := 2) x2 _ 0 n 2 n (by rfl) (Nat.zero_add _).symm), (show ∀ n : Fin 1024, (View.ld (Val := Elt Ideal) (S := S4x1024) (e' := .f32) x2 (Rect.unit ![3, 0] ![1, 1024] inb_S4x1024_S1x1024_3_0)) (ix2 0 n) = x2 (ix2 3 n) from fun n => ld2 (φ := .f32) (A := 4) (a := 1) (o0 := 3) x2 _ 0 n 3 n (by rfl) (Nat.zero_add _).symm)]
  rfl

end

end Cert.Mix

end
-- ==== Proof.MixKerCase.lean ====
/-
  The mixer's kernel at one grid point, in its two cases: the first chunk of a sequence, which clears the states, and a later
  chunk, which finds them as the chunk before left them. What the point leaves is one chunk's mathematics.
-/
module

public import proofs.«01_k».proof.Proof.MixKerPt

@[expose] public section

set_option maxRecDepth 16384

noncomputable section

namespace Cert.Mix

open Idealize.ShloMosaic Idealize.ShloMosaic.TcCoe Idealize.SL.Sem
open Cert.AbMixerIdeal Cert.AbMixerIdeal.Gen

section
variable (QK : FVec Ideal S128x1024 .f32)
  (G L : FVec Ideal S8x128 .f32) (T : IVec S128x128 1) (O Z : FVec Ideal S128x128 .f32) (s3 s4 : FVec Ideal S8x128 .f32)

theorem stN_all (L' : List (View.Piece (Elt Ideal) S8x128 .f32)) (h : Fin 4) (d : Fin 128) :
    View.canon (Val := Elt Ideal) (s := S8x128) (e := .f32) (
    [⟨Rect.unit ![3, 0] ![1, 128] inb_S8x128_S1x128_3_0, k0_pay1 (F := Ideal) (k0_pay144 (k0_pay63 G L T O Z s4) (View.ld (Val := Elt Ideal) (S := S8x128) (e' := .f32) s3 (Rect.unit ![3, 0] ![1, 128] inb_S8x128_S1x128_3_0))) (k0_pay145 (k0_pay60 G L T O Z) (k0_pay64 G L T O Z s4) (k0_pay133 QK))⟩,
      ⟨Rect.unit ![2, 0] ![1, 128] inb_S8x128_S1x128_2_0, k0_pay126 (F := Ideal) (View.ld (Val := Elt Ideal) (S := S8x128) (e' := .f32) s3 (Rect.unit ![2, 0] ![1, 128] inb_S8x128_S1x128_2_0)) (k0_pay120 (k0_pay60 G L T O Z) (k0_pay114 QK)) (k0_pay121 (k0_pay63 G L T O Z s4)) (k0_pay122 (k0_pay64 G L T O Z s4))⟩,
      ⟨Rect.unit ![1, 0] ![1, 128] inb_S8x128_S1x128_1_0, k0_pay106 (F := Ideal) (k0_pay63 G L T O Z s4) (k0_pay64 G L T O Z s4) (View.ld (Val := Elt Ideal) (S := S8x128) (e' := .f32) s3 (Rect.unit ![1, 0] ![1, 128] inb_S8x128_S1x128_1_0)) (k0_pay101 (k0_pay60 G L T O Z) (k0_pay95 QK))⟩,
      ⟨Rect.unit ![0, 0] ![1, 128] inb_S8x128_S1x128_0_0, k0_pay89 (F := Ideal) (k0_pay60 G L T O Z) (k0_pay63 G L T O Z s4) (k0_pay64 G L T O Z s4) (k0_pay73 QK) (View.ld (Val := Elt Ideal) (S := S8x128) (e' := .f32) s3 (Rect.unit ![0, 0] ![1, 128] inb_S8x128_S1x128_0_0))⟩] ++ L') (ix2 ⟨h.val, by omega⟩ d) = cN (xQ QK) (xb L T O Z) (xg G) (xN s3) (xM s4) h d := by
  match h with
  | ⟨0, _⟩ =>
    refine (canon_not_mem inb_S8x128_S1x128_3_0 _ _ _ (0 : Fin 2) (Or.inl (show (0 : ℕ) < 3 by omega))).trans ?_
    refine (canon_not_mem inb_S8x128_S1x128_2_0 _ _ _ (0 : Fin 2) (Or.inl (show (0 : ℕ) < 2 by omega))).trans ?_
    refine (canon_not_mem inb_S8x128_S1x128_1_0 _ _ _ (0 : Fin 2) (Or.inl (show (0 : ℕ) < 1 by omega))).trans ?_
    refine (canon_mem inb_S8x128_S1x128_0_0 _ _ _ (ix2 (0 : Fin 1) d) (fun a => ?_)).trans ?_
    · match a with
      | ⟨0, _⟩ => rfl
      | ⟨1, _⟩ => exact (Nat.zero_add _).symm
    · exact oN0 QK G L T O Z s3 s4 d
  | ⟨1, _⟩ =>
    refine (canon_not_mem inb_S8x128_S1x128_3_0 _ _ _ (0 : Fin 2) (Or.inl (show (1 : ℕ) < 3 by omega))).trans ?_
    refine (canon_not_mem inb_S8x128_S1x128_2_0 _ _ _ (0 : Fin 2) (Or.inl (show (1 : ℕ) < 2 by omega))).trans ?_
    refine (canon_mem inb_S8x128_S1x128_1_0 _ _ _ (ix2 (0 : Fin 1) d) (fun a => ?_)).trans ?_
    · match a with
      | ⟨0, _⟩ => rfl
      | ⟨1, _⟩ => exact (Nat.zero_add _).symm
    · exact oN1 QK G L T O Z s3 s4 d
  | ⟨2, _⟩ =>
    refine (canon_not_mem inb_S8x128_S1x128_3_0 _ _ _ (0 : Fin 2) (Or.inl (show (2 : ℕ) < 3 by omega))).trans ?_
    refine (canon_mem inb_S8x128_S1x128_2_0 _ _ _ (ix2 (0 : Fin 1) d) (fun a => ?_)).trans ?_
    · match a with
      | ⟨0, _⟩ => rfl
      | ⟨1, _⟩ => exact (Nat.zero_add _).symm
    · exact oN2 QK G L T O Z s3 s4 d
  | ⟨3, _⟩ =>
    refine (canon_mem inb_S8x128_S1x128_3_0 _ _ _ (ix2 (0 : Fin 1) d) (fun a => ?_)).trans ?_
    · match a with
      | ⟨0, _⟩ => rfl
      | ⟨1, _⟩ => exact (Nat.zero_add _).symm
    · exact oN3 QK G L T O Z s3 s4 d

theorem stN_wr (f : (Memref.whole cc0_scratch3).view.ty.Contents (Elt Ideal)) (h : Fin 4) (d : Fin 128) :
    View.read (Elt Ideal) (View.whole cc0_scratch3) ((View.whole cc0_scratch3).writes (Elt Ideal) f
    [⟨Rect.unit ![3, 0] ![1, 128] inb_S8x128_S1x128_3_0, k0_pay1 (F := Ideal) (k0_pay144 (k0_pay63 G L T O Z s4) (View.ld (Val := Elt Ideal) (S := S8x128) (e' := .f32) s3 (Rect.unit ![3, 0] ![1, 128] inb_S8x128_S1x128_3_0))) (k0_pay145 (k0_pay60 G L T O Z) (k0_pay64 G L T O Z s4) (k0_pay133 QK))⟩,
      ⟨Rect.unit ![2, 0] ![1, 128] inb_S8x128_S1x128_2_0, k0_pay126 (F := Ideal) (View.ld (Val := Elt Ideal) (S := S8x128) (e' := .f32) s3 (Rect.unit ![2, 0] ![1, 128] inb_S8x128_S1x128_2_0)) (k0_pay120 (k0_pay60 G L T O Z) (k0_pay114 QK)) (k0_pay121 (k0_pay63 G L T O Z s4)) (k0_pay122 (k0_pay64 G L T O Z s4))⟩,
      ⟨Rect.unit ![1, 0] ![1, 128] inb_S8x128_S1x128_1_0, k0_pay106 (F := Ideal) (k0_pay63 G L T O Z s4) (k0_pay64 G L T O Z s4) (View.ld (Val := Elt Ideal) (S := S8x128) (e' := .f32) s3 (Rect.unit ![1, 0] ![1, 128] inb_S8x128_S1x128_1_0)) (k0_pay101 (k0_pay60 G L T O Z) (k0_pay95 QK))⟩,
      ⟨Rect.unit ![0, 0] ![1, 128] inb_S8x128_S1x128_0_0, k0_pay89 (F := Ideal) (k0_pay60 G L T O Z) (k0_pay63 G L T O Z s4) (k0_pay64 G L T O Z s4) (k0_pay73 QK) (View.ld (Val := Elt Ideal) (S := S8x128) (e' := .f32) s3 (Rect.unit ![0, 0] ![1, 128] inb_S8x128_S1x128_0_0))⟩]) (ix2 ⟨h.val, by omega⟩ d) = cN (xQ QK) (xb L T O Z) (xg G) (xN s3) (xM s4) h d := by
  refine (View.read_writes_apply_eq_canon (View.whole cc0_scratch3) f _ _ ?_).trans ((congrFun (congrArg (View.canon (Val := Elt Ideal) (s := S8x128) (e := .f32)) (List.append_nil _).symm) _).trans (stN_all QK G L T O Z s3 s4 [] h d))
  have hm : ∀ (o : ℕ) (inb : ∀ x, (![o, 0] : Fin 2 → ℕ) x + (![1, 128] : Fin 2 → ℕ) x ≤ (![8, 128] : Fin 2 → ℕ) x), o = h.val → (ix2 ⟨h.val, by omega⟩ d : S8x128.Idx) ∈ (Rect.unit (s := S8x128) ![o, 0] ![1, 128] inb).set := by
    intro o inb ho
    rw [Rect.mem_set_unit]
    intro a
    match a with
    | ⟨0, _⟩ => exact ⟨by show o ≤ h.val; omega, by show h.val < o + 1; omega⟩
    | ⟨1, _⟩ => exact ⟨Nat.zero_le _, by show d.val < 0 + 128; omega⟩
  match h, hm with
  | ⟨0, _⟩, hm => exact ⟨_, .tail _ (.tail _ (.tail _ (.head _))), hm 0 inb_S8x128_S1x128_0_0 rfl⟩
  | ⟨1, _⟩, hm => exact ⟨_, .tail _ (.tail _ (.head _)), hm 1 inb_S8x128_S1x128_1_0 rfl⟩
  | ⟨2, _⟩, hm => exact ⟨_, .tail _ (.head _), hm 2 inb_S8x128_S1x128_2_0 rfl⟩
  | ⟨3, _⟩, hm => exact ⟨_, .head _, hm 3 inb_S8x128_S1x128_3_0 rfl⟩

end

section
variable (c : Dev nD) (t : Fin cfg0.N) (x0 : FVec Ideal S128x7168 .bf16) (x1 : FVec Ideal S128x128 .f32) (x2 : FVec Ideal S4x1024 .f32)
  (x3 : FVec Ideal S1x1024 .f32) (x4 : FVec Ideal S1x128 .f32) (x5 x6 : FVec Ideal S1x1024 .f32)
  (s0 : FVec Ideal S136x1024 .f32) (s1 s2 : FVec Ideal S4x128x256 .f32) (s3 s4 : FVec Ideal S8x128 .f32)

/-- The rows and columns of a square, compared. -/
abbrev TRI : IVec S128x128 1 := k0_pay50 (iota Kind.tc S128x128 32 [0] iota_S128x128_d0_w32) (iota Kind.tc S128x128 32 [1] iota_S128x128_d1_w32)

theorem outB (h : ¬cond0_0 (grid0.coords t)) (y : S128x2048.Idx) : out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 y
    = cOut (xP x0) (xQ (qv x0 x2 x3 (fun r n => s0 (ix2 ⟨r.val, by omega⟩ n)))) (xb (k0_pay49 x1 x4) TRI k0_pay51 k0_pay52) (xg (k0_pay48 x1 x4)) (xr x5) (xr x6) (xS s1) (xS s2) (xN s3) (xM s4) y := by
  frame_out
  simp only [read_unread_whole, qkB]
  exact out_all x0 x5 x6 (qv x0 x2 x3 (fun r n => s0 (ix2 ⟨r.val, by omega⟩ n))) (k0_pay48 x1 x4) (k0_pay49 x1 x4) TRI k0_pay51 k0_pay52 s1 s2 s3 s4 y

theorem tailB (h : ¬cond0_0 (grid0.coords t)) (r : Fin 8) (n : Fin 1024) : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 (ix2 ⟨r.val, by omega⟩ n) = x0 (ix2 ⟨120 + r.val, by omega⟩ ⟨3072 + n.val, by omega⟩) := by
  frame_out
  exact tail_all x0 _ r n

theorem stRB (h : ¬cond0_0 (grid0.coords t)) (k : Fin 4) (d : Fin 128) (e : Fin 256) : sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 (ix3 k d e) = cR (xP x0) (xS s1) k d e := by
  frame_out
  simp only [read_unread_whole]
  exact stR_all x0 s1 _ (ix3 k d e)

theorem stCB (h : ¬cond0_0 (grid0.coords t)) (k : Fin 4) (d : Fin 128) (e : Fin 256) : sout0_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 (ix3 k d e) = cC (xP x0) (xQ (qv x0 x2 x3 (fun r n => s0 (ix2 ⟨r.val, by omega⟩ n)))) (xb (k0_pay49 x1 x4) TRI k0_pay51 k0_pay52) (xg (k0_pay48 x1 x4)) (xS s2) (xM s4) k d e := by
  frame_out
  simp only [read_unread_whole, qkB]
  exact stC_all x0 (qv x0 x2 x3 (fun r n => s0 (ix2 ⟨r.val, by omega⟩ n))) (k0_pay48 x1 x4) (k0_pay49 x1 x4) TRI k0_pay51 k0_pay52 s2 s4 _ (ix3 k d e)

theorem stNB (h : ¬cond0_0 (grid0.coords t)) (k : Fin 4) (d : Fin 128) : sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 (ix2 ⟨k.val, by omega⟩ d) = cN (xQ (qv x0 x2 x3 (fun r n => s0 (ix2 ⟨r.val, by omega⟩ n)))) (xb (k0_pay49 x1 x4) TRI k0_pay51 k0_pay52) (xg (k0_pay48 x1 x4)) (xN s3) (xM s4) k d := by
  frame_out
  simp only [read_unread_whole, qkB]
  exact stN_wr (qv x0 x2 x3 (fun r n => s0 (ix2 ⟨r.val, by omega⟩ n))) (k0_pay48 x1 x4) (k0_pay49 x1 x4) TRI k0_pay51 k0_pay52 s3 s4 _ k d

theorem stMB (h : ¬cond0_0 (grid0.coords t)) (k : Fin 4) (i : Fin 128) : sout0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 s0 s1 s2 s3 s4 (ix2 ⟨k.val, by omega⟩ i)
    = stM (xb (k0_pay49 x1 x4) TRI k0_pay51 k0_pay52 k) (xg (k0_pay48 x1 x4) k) (xM s4 k) := by
  frame_out
  simp only [read_unread_whole]
  exact p65_at (k0_pay48 x1 x4) (k0_pay49 x1 x4) TRI k0_pay51 k0_pay52 s4 ⟨k.val, by omega⟩ i

theorem outA (h : cond0_0 (grid0.coords t)) (y : S128x2048.Idx) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 y
    = cOut (xP x0) (xQ (qv x0 x2 x3 (fun _ _ => 0))) (xb (k0_pay49 x1 x4) TRI k0_pay51 k0_pay52) (xg (k0_pay48 x1 x4)) (xr x5) (xr x6) (xS k0_pay3) (xS k0_pay4) (xN k0_pay5) (xM k0_pay6) y := by
  frame_out
  simp (config := {decide := true}) only [↓View.readCov_skip, ↓View.readCov_fill, qkA]
  exact out_all x0 x5 x6 (qv x0 x2 x3 (fun _ _ => 0)) (k0_pay48 x1 x4) (k0_pay49 x1 x4) TRI k0_pay51 k0_pay52 k0_pay3 k0_pay4 k0_pay5 k0_pay6 y

theorem tailA (h : cond0_0 (grid0.coords t)) (r : Fin 8) (n : Fin 1024) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 (ix2 ⟨r.val, by omega⟩ n) = x0 (ix2 ⟨120 + r.val, by omega⟩ ⟨3072 + n.val, by omega⟩) := by
  frame_out
  exact tail_all x0 _ r n

theorem stRA (h : cond0_0 (grid0.coords t)) (k : Fin 4) (d : Fin 128) (e : Fin 256) : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 (ix3 k d e) = cR (xP x0) (xS k0_pay3) k d e := by
  frame_out
  simp (config := {decide := true}) only [↓View.readCov_skip, ↓View.readCov_fill]
  exact stR_all x0 k0_pay3 _ (ix3 k d e)

theorem stCA (h : cond0_0 (grid0.coords t)) (k : Fin 4) (d : Fin 128) (e : Fin 256) : sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 (ix3 k d e) = cC (xP x0) (xQ (qv x0 x2 x3 (fun _ _ => 0))) (xb (k0_pay49 x1 x4) TRI k0_pay51 k0_pay52) (xg (k0_pay48 x1 x4)) (xS k0_pay4) (xM k0_pay6) k d e := by
  frame_out
  simp (config := {decide := true}) only [↓View.readCov_skip, ↓View.readCov_fill, qkA]
  exact stC_all x0 (qv x0 x2 x3 (fun _ _ => 0)) (k0_pay48 x1 x4) (k0_pay49 x1 x4) TRI k0_pay51 k0_pay52 k0_pay4 k0_pay6 _ (ix3 k d e)

theorem stNA (h : cond0_0 (grid0.coords t)) (k : Fin 4) (d : Fin 128) : sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 (ix2 ⟨k.val, by omega⟩ d) = cN (xQ (qv x0 x2 x3 (fun _ _ => 0))) (xb (k0_pay49 x1 x4) TRI k0_pay51 k0_pay52) (xg (k0_pay48 x1 x4)) (xN k0_pay5) (xM k0_pay6) k d := by
  frame_out
  simp (config := {decide := true}) only [↓View.readCov_skip, ↓View.readCov_fill, qkA]
  exact stN_all (qv x0 x2 x3 (fun _ _ => 0)) (k0_pay48 x1 x4) (k0_pay49 x1 x4) TRI k0_pay51 k0_pay52 k0_pay5 k0_pay6 _ k d

theorem stMA (h : cond0_0 (grid0.coords t)) (k : Fin 4) (i : Fin 128) : sout0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 (ix2 ⟨k.val, by omega⟩ i)
    = stM (xb (k0_pay49 x1 x4) TRI k0_pay51 k0_pay52 k) (xg (k0_pay48 x1 x4) k) (xM k0_pay6 k) := by
  frame_out
  skip
  exact p65_at (k0_pay48 x1 x4) (k0_pay49 x1 x4) TRI k0_pay51 k0_pay52 k0_pay6 ⟨k.val, by omega⟩ i

end

end Cert.Mix

end
-- ==== Proof.MixKerInv.lean ====
/-
  The mixer's kernel over its grid: what every point finds in the states and what it leaves, as the mixer's mathematics of the
  argument arrays.
-/
module

public import proofs.«01_k».proof.Proof.MixKerCase
public import proofs.«01_k».proof.Proof.Gen.AbMixerIdeal.Value

@[expose] public section

set_option maxRecDepth 16384

noncomputable section

namespace Cert.Mix

open Idealize.ShloMosaic Idealize.ShloMosaic.TcCoe Idealize.SL.Sem
open Cert.AbMixerIdeal Cert.AbMixerIdeal.Gen

section
variable (P : Fin 16384 → Fin 7168 → EReal) (G : Fin 16384 → Fin 128 → EReal) (W : Fin 4 → Fin 1024 → EReal)
  (B : Fin 1024 → EReal) (gb : Fin 128 → EReal)

theorem st_first (t : ℕ) (ht : t % 16 = 0) (h : Fin 4) : stR P h t = (fun _ _ => 0) ∧ sM G gb h t = ⊥
    ∧ sC P G W B gb h t = (fun _ _ => 0) ∧ sN P G W B gb h t = (fun _ => 0) := by
  cases t with
  | zero => exact ⟨rfl, rfl, rfl, rfl⟩
  | succ t => exact ⟨by rw [stR, if_pos ht], by rw [sM, if_pos ht], by rw [sC, if_pos ht], by rw [sN, if_pos ht]⟩

theorem st_next (t : ℕ) (ht : (t + 1) % 16 ≠ 0) (h : Fin 4) :
    stR P h (t + 1) = retStep (lg h) (rk P t h) (rv P t h) (stR P h t)
    ∧ sM G gb h (t + 1) = stM (bc G gb t h) (ig G gb t h) (sM G gb h t)
    ∧ sC P G W B gb h (t + 1) = stC (mk P W B t h) (mv P t h) (bc G gb t h) (ig G gb t h) (sM G gb h t) (sC P G W B gb h t)
    ∧ sN P G W B gb h (t + 1) = stN (mk P W B t h) (bc G gb t h) (ig G gb t h) (sM G gb h t) (sN P G W B gb h t) :=
  ⟨by rw [stR, if_neg ht], by rw [sM, if_neg ht], by rw [sC, if_neg ht], by rw [sN, if_neg ht]⟩

/-! ### The parts of a chunk, from the blocks that the point loads -/

variable (t : ℕ) (ht : t < 128) (x0 : FVec Ideal S128x7168 .bf16) (x1 : FVec Ideal S128x128 .f32) (x2 : FVec Ideal S4x1024 .f32) (x3 : FVec Ideal S1x1024 .f32) (x4 : FVec Ideal S1x128 .f32)
  (E : Fin 8 → Fin 1024 → EReal)
  (h0 : ∀ i n, x0 (ix2 i n) = P (row t i) n) (h1 : ∀ i n, x1 (ix2 i n) = G (row t i) n)
  (h2 : ∀ j n, x2 (ix2 j n) = W j n) (h3 : ∀ n, x3 (ix2 0 n) = B n) (h4 : ∀ n, x4 (ix2 0 n) = gb n)
  (hE : ∀ r n, E r n = if t % 16 = 0 then 0 else P ⟨(t * 128 + r.val - 8) % 16384, Nat.mod_lt _ (by decide)⟩ ⟨3072 + n.val, by omega⟩)

include ht h0 hE in
theorem ext_back (i : Fin 128) (j : ℕ) (hj : j < 3) (n : Fin 1024) : ext x0 E (5 + j + i.val) n = back P t i j n := by
  unfold ext back
  by_cases hr : 5 + j + i.val < 8
  · rw [dif_pos hr, hE]
    by_cases h : t % 16 = 0
    · rw [if_pos h, if_neg (by omega)]
    · rw [if_neg h, if_pos (by omega)]
      exact congrArg (fun r => P r ⟨3072 + n.val, by omega⟩) (Fin.ext (by dsimp only; omega))
  · rw [dif_neg hr, if_pos (by omega), h0]
    congr 1
    exact Fin.ext (by dsimp only [row]; omega)

include ht h0 h2 h3 hE in
theorem xQ_eq : xQ (qv x0 x2 x3 E) = fun i n => silu (conv P W B t i n) := by
  funext i n
  have e3 : x0 (ix2 i ⟨3072 + n.val, by omega⟩) = back P t i 3 n := by
    unfold back
    rw [if_pos (by omega), h0]
    exact congrArg (fun r => P r ⟨3072 + n.val, by omega⟩) (Fin.ext (by dsimp only [row]; omega))
  have e : ∀ j, (hj : j < 3) → ext x0 E (5 + j + i.val) n = back P t i j n := fun j hj => ext_back P t ht x0 E h0 hE i j hj n
  show silu (x3 (ix2 0 n) + x2 (ix2 3 n) * x0 (ix2 i ⟨3072 + n.val, _⟩) + x2 (ix2 0 n) * ext x0 E (5 + i.val) n
    + x2 (ix2 1 n) * ext x0 E (6 + i.val) n + x2 (ix2 2 n) * ext x0 E (7 + i.val) n) = _
  rw [e3, e 0 (by omega), e 1 (by omega), e 2 (by omega), h3, h2, h2, h2, h2]
  unfold conv
  rw [zero_add]
  congr 1
  ac_rfl

include h1 h4 in
theorem xg_eq : xg (k0_pay48 (F := Ideal) x1 x4) = fun h => ig G gb t h := by
  funext h i
  exact (gate_at x1 x4 ⟨h.val, by omega⟩ i).trans (congrArg₂ (· + ·) (h1 _ _) (h4 _))

include h1 h4 in
theorem xb_eq : xb (k0_pay49 (F := Ideal) x1 x4) TRI k0_pay51 k0_pay52 = fun h => bc G gb t h := by
  funext h i
  refine (bcum_at x1 x4 h i).trans ?_
  unfold bc
  congr 1
  funext j
  rw [gate_at]
  exact congrArg logSig (congrArg₂ (· + ·) (h1 _ _) (h4 _))

include h0 in
theorem xP_eq : xP x0 = fun i n => P (row t i) n := by
  funext i n
  exact h0 i n

theorem s1_first : xS (k0_pay3 (F := Ideal)) = fun _ _ _ => 0 := by
  funext h d e
  show k0_pay3 (F := Ideal) (ix3 h d e) = 0
  pointwise [k0_pay3]

theorem s2_first : xS (k0_pay4 (F := Ideal)) = fun _ _ _ => 0 := by
  funext h d e
  show k0_pay4 (F := Ideal) (ix3 h d e) = 0
  pointwise [k0_pay4]

theorem s3_first : xN (k0_pay5 (F := Ideal)) = fun _ _ => 0 := by
  funext h d
  show k0_pay5 (F := Ideal) (ix2 ⟨h.val, _⟩ d) = 0
  pointwise [k0_pay5]

theorem s4_first : xM (k0_pay6 (F := Ideal)) = fun _ => ⊥ := by
  funext h
  show k0_pay6 (F := Ideal) (ix2 ⟨h.val, _⟩ 0) = ⊥
  pointwise [k0_pay6]
  exact nm_mask

end

section
variable (m : (ℓ : Loc nD τ sig) → Buf (Elt Ideal) ℓ) (c : Dev nD)

/-! ### The argument arrays -/

def aP (r : Fin 16384) (n : Fin 7168) : EReal := m ((c : Thread nD τ).loc main_arg0) (ix2 r n)
def aG (r : Fin 16384) (n : Fin 128) : EReal := m ((c : Thread nD τ).loc main_arg1) (ix2 r n)
def aW (j : Fin 4) (n : Fin 1024) : EReal := m ((c : Thread nD τ).loc main_arg2) (ix2 j n)
def aB (n : Fin 1024) : EReal := m ((c : Thread nD τ).loc main_arg3) (ix2 (0 : Fin 1) n)
def agb (n : Fin 128) : EReal := m ((c : Thread nD τ).loc main_arg4) (ix2 (0 : Fin 1) n)
def arn (n : Fin 1024) : EReal := m ((c : Thread nD τ).loc main_arg5) (ix2 (0 : Fin 1) n)
def amn (n : Fin 1024) : EReal := m ((c : Thread nD τ).loc main_arg6) (ix2 (0 : Fin 1) n)

/-- The windows' block indices at every point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![0, 0] ∧ win0_7.index t = ![t.val, 0] :=
  (by decide +kernel : ∀ t : Fin grid0.N, _)

theorem lt_N (t : Fin cfg0.N) : t.val < 128 := t.isLt

theorem blk0' (t : Fin cfg0.N) (a : Fin 128) (k : Fin 7168) (r : Fin 16384) (hr : r.val = t.val * 128 + a.val) :
    iblk m c 0 t (ix2 a k) = m ((c : Thread nD τ).loc main_arg0) (ix2 r k) := by
  blk_ext [iblk, V, idx t]
theorem blk1' (t : Fin cfg0.N) (a : Fin 128) (k : Fin 128) (r : Fin 16384) (hr : r.val = t.val * 128 + a.val) :
    iblk m c 1 t (ix2 a k) = m ((c : Thread nD τ).loc main_arg1) (ix2 r k) := by
  blk_ext [iblk, V, idx t]
theorem blk2 (t : Fin cfg0.N) (a : Fin 4) (k : Fin 1024) :
    iblk m c 2 t (ix2 a k) = m ((c : Thread nD τ).loc main_arg2) (ix2 a k) := by
  blk_ext [iblk, V, idx t]
theorem blk3 (t : Fin cfg0.N) (k : Fin 1024) :
    iblk m c 3 t (ix2 (0 : Fin 1) k) = m ((c : Thread nD τ).loc main_arg3) (ix2 (0 : Fin 1) k) := by
  blk_ext [iblk, V, idx t]
theorem blk4 (t : Fin cfg0.N) (k : Fin 128) :
    iblk m c 4 t (ix2 (0 : Fin 1) k) = m ((c : Thread nD τ).loc main_arg4) (ix2 (0 : Fin 1) k) := by
  blk_ext [iblk, V, idx t]
theorem blk5 (t : Fin cfg0.N) (k : Fin 1024) :
    iblk m c 5 t (ix2 (0 : Fin 1) k) = m ((c : Thread nD τ).loc main_arg5) (ix2 (0 : Fin 1) k) := by
  blk_ext [iblk, V, idx t]
theorem blk6 (t : Fin cfg0.N) (k : Fin 1024) :
    iblk m c 6 t (ix2 (0 : Fin 1) k) = m ((c : Thread nD τ).loc main_arg6) (ix2 (0 : Fin 1) k) := by
  blk_ext [iblk, V, idx t]

theorem row_val (t : Fin cfg0.N) (a : Fin 128) : (row t.val a).val = t.val * 128 + a.val := by
  have := lt_N t
  dsimp only [row]
  omega

theorem blk0 (t : Fin cfg0.N) (a : Fin 128) (k : Fin 7168) : iblk m c 0 t (ix2 a k) = aP m c (row t.val a) k :=
  blk0' m c t a k _ (row_val t a)
theorem blk1 (t : Fin cfg0.N) (a : Fin 128) (k : Fin 128) : iblk m c 1 t (ix2 a k) = aG m c (row t.val a) k :=
  blk1' m c t a k _ (row_val t a)

end

section
variable (P : Fin 16384 → Fin 7168 → EReal) (G : Fin 16384 → Fin 128 → EReal) (W : Fin 4 → Fin 1024 → EReal)
  (B : Fin 1024 → EReal) (gb : Fin 128 → EReal)

/-- What the states hold after chunk `t`. -/
structure After (t : ℕ) (s0 : FVec Ideal S136x1024 .f32) (s1 s2 : FVec Ideal S4x128x256 .f32) (s3 s4 : FVec Ideal S8x128 .f32) : Prop where
  tail : ∀ (r : Fin 8) (n : Fin 1024), s0 (ix2 ⟨r.val, by omega⟩ n) = P (row t ⟨120 + r.val, by omega⟩) ⟨3072 + n.val, by omega⟩
  r : ∀ (k : Fin 4) (d : Fin 128) (e : Fin 256), s1 (ix3 k d e) = retStep (lg k) (rk P t k) (rv P t k) (stR P k t) d e
  c : ∀ (k : Fin 4) (d : Fin 128) (e : Fin 256), s2 (ix3 k d e)
    = stC (mk P W B t k) (mv P t k) (bc G gb t k) (ig G gb t k) (sM G gb k t) (sC P G W B gb k t) d e
  n : ∀ (k : Fin 4) (d : Fin 128), s3 (ix2 ⟨k.val, by omega⟩ d)
    = stN (mk P W B t k) (bc G gb t k) (ig G gb t k) (sM G gb k t) (sN P G W B gb k t) d
  m : ∀ (k : Fin 4) (i : Fin 128), s4 (ix2 ⟨k.val, by omega⟩ i) = stM (bc G gb t k) (ig G gb t k) (sM G gb k t)

/-- What chunk `t` writes. -/
def mixOut (rn mn : Fin 1024 → EReal) (t : ℕ) (y : S128x2048.Idx) : EReal :=
  cOut (fun i n => P (row t i) n) (fun i n => silu (conv P W B t i n)) (fun h => bc G gb t h) (fun h => ig G gb t h) rn mn
    (fun h => stR P h t) (fun h => sC P G W B gb h t) (fun h => sN P G W B gb h t) (fun h => sM G gb h t) y

variable {P G W B gb}

theorem After.xS1 {t : ℕ} {s0 s1 s2 s3 s4} (a : After P G W B gb t s0 s1 s2 s3 s4) (ht : (t + 1) % 16 ≠ 0) :
    xS s1 = fun h => stR P h (t + 1) := by
  funext h d e
  rw [(st_next P G W B gb t ht h).1]
  exact a.r h d e
theorem After.xS2 {t : ℕ} {s0 s1 s2 s3 s4} (a : After P G W B gb t s0 s1 s2 s3 s4) (ht : (t + 1) % 16 ≠ 0) :
    xS s2 = fun h => sC P G W B gb h (t + 1) := by
  funext h d e
  rw [(st_next P G W B gb t ht h).2.2.1]
  exact a.c h d e
theorem After.xN3 {t : ℕ} {s0 s1 s2 s3 s4} (a : After P G W B gb t s0 s1 s2 s3 s4) (ht : (t + 1) % 16 ≠ 0) :
    xN s3 = fun h => sN P G W B gb h (t + 1) := by
  funext h d
  rw [(st_next P G W B gb t ht h).2.2.2]
  exact a.n h d
theorem After.xM4 {t : ℕ} {s0 s1 s2 s3 s4} (a : After P G W B gb t s0 s1 s2 s3 s4) (ht : (t + 1) % 16 ≠ 0) :
    xM s4 = fun h => sM G gb h (t + 1) := by
  funext h
  rw [(st_next P G W B gb t ht h).2.1]
  exact a.m h 0
theorem After.tail' {t : ℕ} {s0 s1 s2 s3 s4} (a : After P G W B gb t s0 s1 s2 s3 s4) (ht : (t + 1) % 16 ≠ 0) (ht' : t < 128) (r : Fin 8) (n : Fin 1024) :
    s0 (ix2 ⟨r.val, by omega⟩ n) = if (t + 1) % 16 = 0 then 0 else P ⟨((t + 1) * 128 + r.val - 8) % 16384, Nat.mod_lt _ (by decide)⟩ ⟨3072 + n.val, by omega⟩ := by
  rw [if_neg ht, a.tail]
  exact congrArg (fun r => P r ⟨3072 + n.val, by omega⟩) (Fin.ext (by dsimp only [row]; omega))

end

section
variable (m : (ℓ : Loc nD τ sig) → Buf (Elt Ideal) ℓ) (c : Dev nD)

/-- What the states hold and what is written after point `n`. -/
def Good (n : ℕ) (hn : n < cfg0.N) : Prop :=
  After (aP m c) (aG m c) (aW m c) (aB m c) (agb m c) n (outsAt0 m c n hn).2.1 (outsAt0 m c n hn).2.2.1 (outsAt0 m c n hn).2.2.2.1
    (outsAt0 m c n hn).2.2.2.2.1 (outsAt0 m c n hn).2.2.2.2.2
  ∧ ∀ y, (outsAt0 m c n hn).1 y = mixOut (aP m c) (aG m c) (aW m c) (aB m c) (agb m c) (arn m c) (amn m c) n y

theorem good_A (t : Fin cfg0.N) (h0 : t.val % 16 = 0) : Good m c t.val t.isLt := by
  have hQ := xQ_eq (aP m c) (aW m c) (aB m c) t.val (lt_N t) (iblk m c 0 t) (iblk m c 2 t) (iblk m c 3 t) (fun _ _ => 0)
    (fun i n => blk0 m c t i n) (fun j n => blk2 m c t j n) (fun n => blk3 m c t n) (fun r n => (if_pos h0).symm)
  have hP := xP_eq (aP m c) t.val (iblk m c 0 t) (fun i n => blk0 m c t i n)
  have hg := xg_eq (aG m c) (agb m c) t.val (iblk m c 1 t) (iblk m c 4 t) (fun i n => blk1 m c t i n) (fun n => blk4 m c t n)
  have hb := xb_eq (aG m c) (agb m c) t.val (iblk m c 1 t) (iblk m c 4 t) (fun i n => blk1 m c t i n) (fun n => blk4 m c t n)
  have hr : xr (iblk m c 5 t) = arn m c := funext fun n => blk5 m c t n
  have hm : xr (iblk m c 6 t) = amn m c := funext fun n => blk6 m c t n
  have f := fun h => st_first (aP m c) (aG m c) (aW m c) (aB m c) (agb m c) t.val h0 h
  have e1 : xS (k0_pay3 (F := Ideal)) = fun h => stR (aP m c) h t.val := s1_first.trans (funext fun h => ((f h).1).symm)
  have e2 : xS (k0_pay4 (F := Ideal)) = fun h => sC (aP m c) (aG m c) (aW m c) (aB m c) (agb m c) h t.val := s2_first.trans (funext fun h => ((f h).2.2.1).symm)
  have e3 : xN (k0_pay5 (F := Ideal)) = fun h => sN (aP m c) (aG m c) (aW m c) (aB m c) (agb m c) h t.val := s3_first.trans (funext fun h => ((f h).2.2.2).symm)
  have e4 : xM (k0_pay6 (F := Ideal)) = fun h => sM (aG m c) (agb m c) h t.val := s4_first.trans (funext fun h => ((f h).2.1).symm)
  have hc := (hcond0_0 t).mpr h0
  unfold Good
  rw [outsAt0_A m c t h0]
  dsimp only
  refine ⟨⟨fun r n => ?_, fun k d e => ?_, fun k d e => ?_, fun k d => ?_, fun k i => ?_⟩, fun y => ?_⟩
  · refine (tailA c t (iblk m c 0 t) (iblk m c 1 t) (iblk m c 2 t) (iblk m c 3 t) (iblk m c 4 t) (iblk m c 5 t) (iblk m c 6 t) hc r n).trans ?_
    exact blk0 m c t _ _
  · refine (stRA c t (iblk m c 0 t) (iblk m c 1 t) (iblk m c 2 t) (iblk m c 3 t) (iblk m c 4 t) (iblk m c 5 t) (iblk m c 6 t) hc k d e).trans ?_
    rw [hP, e1]
    rfl
  · refine (stCA c t (iblk m c 0 t) (iblk m c 1 t) (iblk m c 2 t) (iblk m c 3 t) (iblk m c 4 t) (iblk m c 5 t) (iblk m c 6 t) hc k d e).trans ?_
    rw [hP, hQ, hb, hg, e2, e4]
    rfl
  · refine (stNA c t (iblk m c 0 t) (iblk m c 1 t) (iblk m c 2 t) (iblk m c 3 t) (iblk m c 4 t) (iblk m c 5 t) (iblk m c 6 t) hc k d).trans ?_
    rw [hQ, hb, hg, e3, e4]
    rfl
  · refine (stMA c t (iblk m c 0 t) (iblk m c 1 t) (iblk m c 2 t) (iblk m c 3 t) (iblk m c 4 t) (iblk m c 5 t) (iblk m c 6 t) hc k i).trans ?_
    rw [hb, hg, e4]
  · refine (outA c t (iblk m c 0 t) (iblk m c 1 t) (iblk m c 2 t) (iblk m c 3 t) (iblk m c 4 t) (iblk m c 5 t) (iblk m c 6 t) hc y).trans ?_
    rw [hP, hQ, hb, hg, hr, hm, e1, e2, e3, e4]
    rfl

theorem good_B (t : Fin cfg0.N) (h0 : ¬t.val % 16 = 0) (n : ℕ) (hn : n < cfg0.N) (hnt : n + 1 = t.val) (ih : Good m c n hn) : Good m c t.val t.isLt := by
  have hn' : n < 128 := hn
  have h1 : (n + 1) % 16 ≠ 0 := by omega
  obtain ⟨a, -⟩ := ih
  have ea : outsAt0 m c (t.val - 1) (Nat.lt_of_le_of_lt (Nat.sub_le _ _) t.isLt) = outsAt0 m c n hn := by
    congr 1
    omega
  have eT := a.tail' h1 hn'
  have e1 := a.xS1 h1
  have e2 := a.xS2 h1
  have e3 := a.xN3 h1
  have e4 := a.xM4 h1
  rw [hnt] at e1 e2 e3 e4
  have hQ := xQ_eq (aP m c) (aW m c) (aB m c) t.val (lt_N t) (iblk m c 0 t) (iblk m c 2 t) (iblk m c 3 t)
    (fun r n' => (outsAt0 m c n hn).2.1 (ix2 (⟨r.val, by omega⟩ : Fin 136) n'))
    (fun i n => blk0 m c t i n) (fun j n => blk2 m c t j n) (fun n => blk3 m c t n) (fun r n => (by
      have := eT r n
      simp only [hnt] at this
      exact this))
  have hP := xP_eq (aP m c) t.val (iblk m c 0 t) (fun i n => blk0 m c t i n)
  have hg := xg_eq (aG m c) (agb m c) t.val (iblk m c 1 t) (iblk m c 4 t) (fun i n => blk1 m c t i n) (fun n => blk4 m c t n)
  have hb := xb_eq (aG m c) (agb m c) t.val (iblk m c 1 t) (iblk m c 4 t) (fun i n => blk1 m c t i n) (fun n => blk4 m c t n)
  have hr : xr (iblk m c 5 t) = arn m c := funext fun n => blk5 m c t n
  have hm : xr (iblk m c 6 t) = amn m c := funext fun n => blk6 m c t n
  have hc : ¬cond0_0 (grid0.coords t) := fun h => h0 ((hcond0_0 t).mp h)
  unfold Good
  rw [outsAt0_B m c t h0, ea]
  dsimp only
  refine ⟨⟨fun r n => ?_, fun k d e => ?_, fun k d e => ?_, fun k d => ?_, fun k i => ?_⟩, fun y => ?_⟩
  · refine (tailB c t (iblk m c 0 t) (iblk m c 1 t) (iblk m c 2 t) (iblk m c 3 t) (iblk m c 4 t) (iblk m c 5 t) (iblk m c 6 t) _ _ _ _ _ hc r n).trans ?_
    exact blk0 m c t _ _
  · refine (stRB c t (iblk m c 0 t) (iblk m c 1 t) (iblk m c 2 t) (iblk m c 3 t) (iblk m c 4 t) (iblk m c 5 t) (iblk m c 6 t) _ _ _ _ _ hc k d e).trans ?_
    rw [hP, e1]
    rfl
  · refine (stCB c t (iblk m c 0 t) (iblk m c 1 t) (iblk m c 2 t) (iblk m c 3 t) (iblk m c 4 t) (iblk m c 5 t) (iblk m c 6 t) _ _ _ _ _ hc k d e).trans ?_
    rw [hP, hQ, hb, hg, e2, e4]
    rfl
  · refine (stNB c t (iblk m c 0 t) (iblk m c 1 t) (iblk m c 2 t) (iblk m c 3 t) (iblk m c 4 t) (iblk m c 5 t) (iblk m c 6 t) _ _ _ _ _ hc k d).trans ?_
    rw [hQ, hb, hg, e3, e4]
    rfl
  · refine (stMB c t (iblk m c 0 t) (iblk m c 1 t) (iblk m c 2 t) (iblk m c 3 t) (iblk m c 4 t) (iblk m c 5 t) (iblk m c 6 t) _ _ _ _ _ hc k i).trans ?_
    rw [hb, hg, e4]
  · refine (outB c t (iblk m c 0 t) (iblk m c 1 t) (iblk m c 2 t) (iblk m c 3 t) (iblk m c 4 t) (iblk m c 5 t) (iblk m c 6 t) _ _ _ _ _ hc y).trans ?_
    rw [hP, hQ, hb, hg, hr, hm, e1, e2, e3, e4]
    rfl

theorem good : ∀ (n : ℕ) (hn : n < cfg0.N), Good m c n hn
  | 0, hn => good_A m c ⟨0, hn⟩ rfl
  | n + 1, hn =>
    if h0 : (n + 1) % 16 = 0 then good_A m c ⟨n + 1, hn⟩ h0
    else good_B m c ⟨n + 1, hn⟩ h0 n (Nat.lt_of_succ_lt hn) rfl (good n (Nat.lt_of_succ_lt hn))

/-- The result array: row `r` is row `r % 128` of chunk `r / 128`. -/
def mixArr : Buf (Elt Ideal) ((c : Thread nD τ).loc main_v0) :=
  fun i : S16384x2048.Idx => mixOut (aP m c) (aG m c) (aW m c) (aB m c) (agb m c) (arn m c) (amn m c) ((i 0).val / 128)
    (ix2 ⟨(i 0).val % 128, Nat.mod_lt _ (by decide)⟩ (i 1))

theorem final7 : (dats m 0 c).arrAt 7 cfg0.N = mixArr m c := by
  refine (dats m 0 c).arrAt_eq_of_covers 7 _ (by decide +kernel) fun t _ y => ?_
  blk_simp
  rw [after0_7]
  idx_vars y
  have ht : t.val < 128 := t.isLt
  have e : (win0_7.blk t).view.emb (ix2 y0 y1) = ix2 ⟨t.val * 128 + y0.val, by omega⟩ y1 := by blk_ext [idx t]
  rw [e]
  refine ((good m c t.val t.isLt).2 _).trans ?_
  have e1 : (t.val * 128 + y0.val) / 128 = t.val := by omega
  have e2 : (⟨(t.val * 128 + y0.val) % 128, Nat.mod_lt _ (by decide)⟩ : Fin 128) = y0 := Fin.ext (by dsimp only; omega)
  show _ = mixOut (aP m c) (aG m c) (aW m c) (aB m c) (agb m c) (arn m c) (amn m c) ((t.val * 128 + y0.val) / 128)
    (ix2 ⟨(t.val * 128 + y0.val) % 128, _⟩ y1)
  rw [e1, e2]

end

end Cert.Mix

end
-- ==== Proof.MixLine.lean ====
/-
  A straight line of operations none of which overwrites what an earlier one read or wrote: the contents it leaves satisfy
  every operation's equation. One lemma per kind of operation, at a position of the line.
-/
module

public import proofs.«01_k».proof.Proof.Gen.AbMixerRefIdeal.Run

@[expose] public section

noncomputable section

namespace Cert.AbMixerRefIdeal.Value

open Idealize.ShloMosaic Idealize.ShloMosaic.StableHlo

variable {τ : Topo} {sig : RefSig} {Val : EltTy → Type} {ops : List (HloOp τ sig Val)} {W : List (Ref sig .tc)}

theorem at_write (hW : ops.map HloOp.writes = W.map fun w => {Proc.devRef (τ := τ) .tc w}) {i : ℕ} {op : HloOp τ sig Val}
    (hop : ops[i]? = some op) {r : Ref sig .tc} (hr : r ∉ W.drop (i + 1)) (V : Valuation τ sig Val) :
    after ops V (Proc.devRef .tc r) = op.result (upto ops V i) (Proc.devRef .tc r) := by
  obtain ⟨hi, hop⟩ := List.getElem?_eq_some_iff.mp hop
  refine after_last_write (rest := ops.drop (i + 1)) (W.drop (i + 1)) ?_ ?_ hr V
  · rw [List.drop_eq_getElem_cons hi, hop]
  · rw [List.map_drop, hW, ← List.map_drop]

theorem at_read (hW : ops.map HloOp.writes = W.map fun w => {Proc.devRef (τ := τ) .tc w}) {i : ℕ} {r : Ref sig .tc}
    (hr : r ∉ W.drop i) (V : Valuation τ sig Val) :
    upto ops V i (Proc.devRef .tc r) = after ops V (Proc.devRef .tc r) := by
  have h : after ops V = after (ops.drop i) (upto ops V i) := by
    unfold upto
    rw [← StableHlo.after_append, List.take_append_drop]
  rw [h, after_unwritten (W.drop i) (by rw [List.map_drop, hW, ← List.map_drop]) hr]

theorem at0 (hW : ops.map HloOp.writes = W.map fun w => {Proc.devRef (τ := τ) .tc w}) {i : ℕ} {y : Ref sig .tc} {v hy}
    (hop : ops[i]? = some (nullary y v hy)) (h : y ∉ W.drop (i + 1)) (V : Valuation τ sig Val) :
    after ops V (Proc.devRef .tc y) = v := by
  rw [at_write hW hop h, nullary_result']

theorem at1 (hW : ops.map HloOp.writes = W.map fun w => {Proc.devRef (τ := τ) .tc w}) {i : ℕ} {x y : Ref sig .tc} {f hx hy}
    (hop : ops[i]? = some (unary x y f hx hy)) (h : y ∉ W.drop (i + 1)) (h1 : x ∉ W.drop i) (V : Valuation τ sig Val) :
    after ops V (Proc.devRef .tc y) = f (after ops V (Proc.devRef .tc x)) := by
  rw [at_write hW hop h, unary_result', at_read hW h1]

theorem atR (hW : ops.map HloOp.writes = W.map fun w => {Proc.devRef (τ := τ) .tc w}) {i : ℕ} {x y : Ref sig .tc} {he hn hx hy}
    (hop : ops[i]? = some (reshape x y he hn hx hy)) (h : y ∉ W.drop (i + 1)) (h1 : x ∉ W.drop i) (V : Valuation τ sig Val) :
    after ops V (Proc.devRef .tc y) = fun i => he ▸ shapeCast y.ty.shape (after ops V (Proc.devRef .tc x)) hn i := by
  rw [at_write hW hop h, reshape_result', at_read hW h1]

theorem at2 (hW : ops.map HloOp.writes = W.map fun w => {Proc.devRef (τ := τ) .tc w}) {i : ℕ} {a b y : Ref sig .tc}
    {f ha hb hy} (hop : ops[i]? = some (binary a b y f ha hb hy)) (h : y ∉ W.drop (i + 1)) (h1 : a ∉ W.drop i)
    (h2 : b ∉ W.drop i) (V : Valuation τ sig Val) :
    after ops V (Proc.devRef .tc y) = f (after ops V (Proc.devRef .tc a)) (after ops V (Proc.devRef .tc b)) := by
  rw [at_write hW hop h, binary_result', at_read hW h1, at_read hW h2]

theorem at3 (hW : ops.map HloOp.writes = W.map fun w => {Proc.devRef (τ := τ) .tc w}) {i : ℕ} {c a b y : Ref sig .tc}
    {f hc ha hb hy} (hop : ops[i]? = some (ternary c a b y f hc ha hb hy)) (h : y ∉ W.drop (i + 1)) (h1 : c ∉ W.drop i)
    (h2 : a ∉ W.drop i) (h3 : b ∉ W.drop i) (V : Valuation τ sig Val) :
    after ops V (Proc.devRef .tc y)
      = f (after ops V (Proc.devRef .tc c)) (after ops V (Proc.devRef .tc a)) (after ops V (Proc.devRef .tc b)) := by
  rw [at_write hW hop h, ternary_result', at_read hW h1, at_read hW h2, at_read hW h3]

end Cert.AbMixerRefIdeal.Value

end
-- ==== Proof.MixPre.lean ====
/-
  What each host operation before the loop of the reference leaves, from what the operations before it leave.
-/
module

public import proofs.«01_k».proof.Proof.MixLine

@[expose] public section

set_option maxRecDepth 8192

noncomputable section

namespace Cert.AbMixerRefIdeal.Value

open Idealize.ShloMosaic Idealize.ShloMosaic.StableHlo Idealize.ShloMosaic.TcCoe
open Cert.AbMixerRefIdeal Cert.AbMixerRefIdeal.Gen

variable {F : FTy → Type} [FloatOps F]

/-- The operations of the stretch, one after another. -/
abbrev preL : List (HloOp τ sig (Elt F)) := (preI : List (List (HloOp τ sig (Elt F)))).flatten

/-- What each of them writes. -/
def preW : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_cst_0, main_v22, main_v23, main_v24, main_v25, main_cst_1, main_v26, main_v27, main_cst_2, main_v28, main_v29, main_v30, main_v31, main_v32, main_v33, main_v34, main_v35, main_cst_3, main_call0_v0, main_call0_v1, main_call0_v2, main_v36, main_v37, main_v38, main_v39, main_v40, main_v41, main_v42, main_cst_4, main_v43, main_v44, main_v45, main_v46, main_v47, main_v48, main_v49, main_v50, main_v51, main_v52, main_v53, main_v54, main_v55, main_cst_5, main_v56, main_v57, main_v58, main_v59, main_v60, main_v61, main_c, main_call1_v0, main_v62, main_v63, main_v64, main_v65, main_v66, main_v67, main_v68, main_cst_6, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_call2_v0, main_call2_v1, main_call2_cst, main_call2_v2, main_call2_v3, main_call2_cst_0, main_call2_v4, main_call2_v5, main_v95, main_v96, main_v97, main_v98, main_v99, main_cst_7, main_v100, main_v101, main_v102, main_v103, main_v104, main_v105, main_v106, main_v107, main_v108, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v109, main_call4_call0_cst, main_call4_call0_v0, main_v110, main_v111, main_v112, main_v113, main_v114, main_v115, main_v116, main_cst_8, main_v117, main_v118, main_v119, main_v120, main_v121, main_v122, main_v123, main_v124, main_v125, main_v126, main_cst_9, main_v127, main_cst_10, main_v128, main_cst_11, main_v129, main_cst_12, main_v130, main_cst_13, main_v131, main_v132, main_v133, main_v134, main_v135, main_v136, main_cst_14, main_v137, main_cst_15, main_v138, main_cst_16, main_v139, main_cst_17, main_v140, main_c_18, main_v141_0, main_v141_1, main_v141_2, main_v141_3, main_v141_4, main_v141_5, main_v141_6, main_v141_7, main_v141_8, main_v141_9, main_v141_10, main_v141_11, main_v141_12, main_v141_13, main_v141_14]

theorem preL_writes : (preL : List (HloOp τ sig (Elt F))).map HloOp.writes = preW.map fun w => {Proc.devRef (τ := τ) .tc w} := rfl

variable (V : Valuation τ sig (Elt F))

/-- What the stretch leaves at `r`. -/
def pre (r : Ref sig .tc) : (Proc.devRef .tc r : DevRef τ sig).ty.Contents (Elt F) := after preL V (Proc.devRef .tc r)

theorem pre_cst : pre V (no_index main_cst) = (fun i => FloatOps.ofBits .f32 (lit0 (S4.rowMajor i))) :=
  at0 preL_writes (i := 0) rfl (by decide +kernel) V
theorem pre_v0 : pre V (no_index main_v0) = ((extf .f32 · bitsLt_bf16_f32) : (⟨S16384x7168, .bf16⟩ : BufTy).Contents (Elt F) → (⟨S16384x7168, .f32⟩ : BufTy).Contents (Elt F)) (pre V main_arg0) :=
  at1 preL_writes (i := 1) rfl (by decide +kernel) (by decide +kernel) V
theorem pre_v1 : pre V (no_index main_v1) = shapeCast S8x2048x7168 (pre V main_v0) shapeCasts_S16384x7168_S8x2048x7168 :=
  atR preL_writes (i := 2) rfl (by decide +kernel) (by decide +kernel) V
theorem pre_v2 : pre V (no_index main_v2) = (broadcastInDim S16384x128 ![0, 1] bcast_S1x128_S16384x128_0_1 : (⟨S1x128, .f32⟩ : BufTy).Contents (Elt F) → (⟨S16384x128, .f32⟩ : BufTy).Contents (Elt F)) (pre V main_arg4) :=
  at1 preL_writes (i := 3) rfl (by decide +kernel) (by decide +kernel) V
theorem pre_v3 : pre V (no_index main_v3) = (addf : (⟨S16384x128, .f32⟩ : BufTy).Contents (Elt F) → (⟨S16384x128, .f32⟩ : BufTy).Contents (Elt F) → (⟨S16384x128, .f32⟩ : BufTy).Contents (Elt F)) (pre V main_arg1) (pre V main_v2) :=
  at2 preL_writes (i := 4) rfl (by decide +kernel) (by decide +kernel) (by decide +kernel) V
theorem pre_v4 : pre V (no_index main_v4) = shapeCast S8x2048x128 (pre V main_v3) shapeCasts_S16384x128_S8x2048x128 :=
  atR preL_writes (i := 5) rfl (by decide +kernel) (by decide +kernel) V
theorem pre_v5 : pre V (no_index main_v5) = ((extractStridedSlice S8x2048x512 ![0, 0, 0] · slices_S8x2048x7168_S8x2048x512_0_0_0) : (⟨S8x2048x7168, .f32⟩ : BufTy).Contents (Elt F) → (⟨S8x2048x512, .f32⟩ : BufTy).Contents (Elt F)) (pre V main_v1) :=
  at1 preL_writes (i := 6) rfl (by decide +kernel) (by decide +kernel) V
theorem pre_v6 : pre V (no_index main_v6) = ((extractStridedSlice S8x2048x512 ![0, 0, 512] · slices_S8x2048x7168_S8x2048x512_0_0_512) : (⟨S8x2048x7168, .f32⟩ : BufTy).Contents (Elt F) → (⟨S8x2048x512, .f32⟩ : BufTy).Contents (Elt F)) (pre V main_v1) :=
  at1 preL_writes (i := 7) rfl (by decide +kernel) (by decide +kernel) V
theorem pre_v7 : pre V (no_index main_v7) = ((extractStridedSlice S8x2048x1024 ![0, 0, 1024] · slices_S8x2048x7168_S8x2048x1024_0_0_1024) : (⟨S8x2048x7168, .f32⟩ : BufTy).Contents (Elt F) → (⟨S8x2048x1024, .f32⟩ : BufTy).Contents (Elt F)) (pre V main_v1) :=
  at1 preL_writes (i := 8) rfl (by decide +kernel) (by decide +kernel) V
theorem pre_v8 : pre V (no_index main_v8) = ((extractStridedSlice S8x2048x1024 ![0, 0, 2048] · slices_S8x2048x7168_S8x2048x1024_0_0_2048) : (⟨S8x2048x7168, .f32⟩ : BufTy).Contents (Elt F) → (⟨S8x2048x1024, .f32⟩ : BufTy).Contents (Elt F)) (pre V main_v1) :=
  at1 preL_writes (i := 9) rfl (by decide +kernel) (by decide +kernel) V
theorem pre_v9 : pre V (no_index main_v9) = ((extractStridedSlice S8x2048x512 ![0, 0, 3072] · slices_S8x2048x7168_S8x2048x512_0_0_3072) : (⟨S8x2048x7168, .f32⟩ : BufTy).Contents (Elt F) → (⟨S8x2048x512, .f32⟩ : BufTy).Contents (Elt F)) (pre V main_v1) :=
  at1 preL_writes (i := 10) rfl (by decide +kernel) (by decide +kernel) V
theorem pre_v10 : pre V (no_index main_v10) = ((extractStridedSlice S8x2048x512 ![0, 0, 3584] · slices_S8x2048x7168_S8x2048x512_0_0_3584) : (⟨S8x2048x7168, .f32⟩ : BufTy).Contents (Elt F) → (⟨S8x2048x512, .f32⟩ : BufTy).Contents (Elt F)) (pre V main_v1) :=
  at1 preL_writes (i := 11) rfl (by decide +kernel) (by decide +kernel) V
theorem pre_v11 : pre V (no_index main_v11) = ((extractStridedSlice S8x2048x1024 ![0, 0, 4096] · slices_S8x2048x7168_S8x2048x1024_0_0_4096) : (⟨S8x2048x7168, .f32⟩ : BufTy).Contents (Elt F) → (⟨S8x2048x1024, .f32⟩ : BufTy).Contents (Elt F)) (pre V main_v1) :=
  at1 preL_writes (i := 12) rfl (by decide +kernel) (by decide +kernel) V
theorem pre_v12 : pre V (no_index main_v12) = ((extractStridedSlice S8x2048x1024 ![0, 0, 5120] · slices_S8x2048x7168_S8x2048x1024_0_0_5120) : (⟨S8x2048x7168, .f32⟩ : BufTy).Contents (Elt F) → (⟨S8x2048x1024, .f32⟩ : BufTy).Contents (Elt F)) (pre V main_v1) :=
  at1 preL_writes (i := 13) rfl (by decide +kernel) (by decide +kernel) V
theorem pre_v13 : pre V (no_index main_v13) = ((extractStridedSlice S8x2048x1024 ![0, 0, 6144] · slices_S8x2048x7168_S8x2048x1024_0_0_6144) : (⟨S8x2048x7168, .f32⟩ : BufTy).Contents (Elt F) → (⟨S8x2048x1024, .f32⟩ : BufTy).Contents (Elt F)) (pre V main_v1) :=
  at1 preL_writes (i := 14) rfl (by decide +kernel) (by decide +kernel) V
theorem pre_v14 : pre V (no_index main_v14) = (sitofp .f32 (iotaInDim S128 32 0)) :=
  at0 preL_writes (i := 15) rfl (by decide +kernel) V
theorem pre_v15 : pre V (no_index main_v15) = (broadcastInDim S128x1 ![0] bcast_S128_S128x1_0 : (⟨S128, .f32⟩ : BufTy).Contents (Elt F) → (⟨S128x1, .f32⟩ : BufTy).Contents (Elt F)) (pre V main_v14) :=
  at1 preL_writes (i := 16) rfl (by decide +kernel) (by decide +kernel) V
theorem pre_v16 : pre V (no_index main_v16) = (broadcastInDim S1x128 ![1] bcast_S128_S1x128_1 : (⟨S128, .f32⟩ : BufTy).Contents (Elt F) → (⟨S1x128, .f32⟩ : BufTy).Contents (Elt F)) (pre V main_v14) :=
  at1 preL_writes (i := 17) rfl (by decide +kernel) (by decide +kernel) V
theorem pre_v17 : pre V (no_index main_v17) = (broadcastInDim S128x128 ![0, 1] bcast_S128x1_S128x128_0_1 : (⟨S128x1, .f32⟩ : BufTy).Contents (Elt F) → (⟨S128x128, .f32⟩ : BufTy).Contents (Elt F)) (pre V main_v15) :=
  at1 preL_writes (i := 18) rfl (by decide +kernel) (by decide +kernel) V
theorem pre_v18 : pre V (no_index main_v18) = (broadcastInDim S128x128 ![0, 1] bcast_S1x128_S128x128_0_1 : (⟨S1x128, .f32⟩ : BufTy).Contents (Elt F) → (⟨S128x128, .f32⟩ : BufTy).Contents (Elt F)) (pre V main_v16) :=
  at1 preL_writes (i := 19) rfl (by decide +kernel) (by decide +kernel) V
theorem pre_v19 : pre V (no_index main_v19) = (subf : (⟨S128x128, .f32⟩ : BufTy).Contents (Elt F) → (⟨S128x128, .f32⟩ : BufTy).Contents (Elt F) → (⟨S128x128, .f32⟩ : BufTy).Contents (Elt F)) (pre V main_v17) (pre V main_v18) :=
  at2 preL_writes (i := 20) rfl (by decide +kernel) (by decide +kernel) (by decide +kernel) V
theorem pre_v20 : pre V (no_index main_v20) = (Host.log1p : (⟨S4, .f32⟩ : BufTy).Contents (Elt F) → (⟨S4, .f32⟩ : BufTy).Contents (Elt F)) (pre V main_cst) :=
  at1 preL_writes (i := 21) rfl (by decide +kernel) (by decide +kernel) V
theorem pre_v21 : pre V (no_index main_v21) = shapeCast S8x16x128x4x128 (pre V main_v5) shapeCasts_S8x2048x512_S8x16x128x4x128 :=
  atR preL_writes (i := 22) rfl (by decide +kernel) (by decide +kernel) V
theorem pre_cst_0 : pre V (no_index main_cst_0) = (constant S_ .f32 0x3DB504F3#32) :=
  at0 preL_writes (i := 23) rfl (by decide +kernel) V
theorem pre_v22 : pre V (no_index main_v22) = (broadcastInDim S8x16x128x4x128 ![] bcast_S_S8x16x128x4x128 : (⟨S_, .f32⟩ : BufTy).Contents (Elt F) → (⟨S8x16x128x4x128, .f32⟩ : BufTy).Contents (Elt F)) (pre V main_cst_0) :=
  at1 preL_writes (i := 24) rfl (by decide +kernel) (by decide +kernel) V
theorem pre_v23 : pre V (no_index main_v23) = (mulf : (⟨S8x16x128x4x128, .f32⟩ : BufTy).Contents (Elt F) → (⟨S8x16x128x4x128, .f32⟩ : BufTy).Contents (Elt F) → (⟨S8x16x128x4x128, .f32⟩ : BufTy).Contents (Elt F)) (pre V main_v21) (pre V main_v22) :=
  at2 preL_writes (i := 25) rfl (by decide +kernel) (by decide +kernel) (by decide +kernel) V
theorem pre_v24 : pre V (no_index main_v24) = shapeCast S8x16x128x4x128 (pre V main_v6) shapeCasts_S8x2048x512_S8x16x128x4x128 :=
  atR preL_writes (i := 26) rfl (by decide +kernel) (by decide +kernel) V
theorem pre_v25 : pre V (no_index main_v25) = shapeCast S8x16x128x4x256 (pre V main_v7) shapeCasts_S8x2048x1024_S8x16x128x4x256 :=
  atR preL_writes (i := 27) rfl (by decide +kernel) (by decide +kernel) V
theorem pre_cst_1 : pre V (no_index main_cst_1) = (constant S_ .f32 0x00000000#32) :=
  at0 preL_writes (i := 28) rfl (by decide +kernel) V
theorem pre_v26 : pre V (no_index main_v26) = (broadcastInDim S128x128 ![] bcast_S_S128x128 : (⟨S_, .f32⟩ : BufTy).Contents (Elt F) → (⟨S128x128, .f32⟩ : BufTy).Contents (Elt F)) (pre V main_cst_1) :=
  at1 preL_writes (i := 29) rfl (by decide +kernel) (by decide +kernel) V
theorem pre_v27 : pre V (no_index main_v27) = (cmpf .oge : (⟨S128x128, .f32⟩ : BufTy).Contents (Elt F) → (⟨S128x128, .f32⟩ : BufTy).Contents (Elt F) → (⟨S128x128, .i1⟩ : BufTy).Contents (Elt F)) (pre V main_v19) (pre V main_v26) :=
  at2 preL_writes (i := 30) rfl (by decide +kernel) (by decide +kernel) (by decide +kernel) V
theorem pre_cst_2 : pre V (no_index main_cst_2) = (constant S_ .f32 0x00000000#32) :=
  at0 preL_writes (i := 31) rfl (by decide +kernel) V
theorem pre_v28 : pre V (no_index main_v28) = (broadcastInDim S128x128 ![] bcast_S_S128x128 : (⟨S_, .f32⟩ : BufTy).Contents (Elt F) → (⟨S128x128, .f32⟩ : BufTy).Contents (Elt F)) (pre V main_cst_2) :=
  at1 preL_writes (i := 32) rfl (by decide +kernel) (by decide +kernel) V
theorem pre_v29 : pre V (no_index main_v29) = (maximumf : (⟨S128x128, .f32⟩ : BufTy).Contents (Elt F) → (⟨S128x128, .f32⟩ : BufTy).Contents (Elt F) → (⟨S128x128, .f32⟩ : BufTy).Contents (Elt F)) (pre V main_v19) (pre V main_v28) :=
  at2 preL_writes (i := 33) rfl (by decide +kernel) (by decide +kernel) (by decide +kernel) V
theorem pre_v30 : pre V (no_index main_v30) = (broadcastInDim S1x128x128 ![1, 2] bcast_S128x128_S1x128x128_1_2 : (⟨S128x128, .f32⟩ : BufTy).Contents (Elt F) → (⟨S1x128x128, .f32⟩ : BufTy).Contents (Elt F)) (pre V main_v29) :=
  at1 preL_writes (i := 34) rfl (by decide +kernel) (by decide +kernel) V
theorem pre_v31 : pre V (no_index main_v31) = (broadcastInDim S4x1x1 ![0] bcast_S4_S4x1x1_0 : (⟨S4, .f32⟩ : BufTy).Contents (Elt F) → (⟨S4x1x1, .f32⟩ : BufTy).Contents (Elt F)) (pre V main_v20) :=
  at1 preL_writes (i := 35) rfl (by decide +kernel) (by decide +kernel) V
theorem pre_v32 : pre V (no_index main_v32) = (broadcastInDim S4x128x128 ![0, 1, 2] bcast_S1x128x128_S4x128x128_0_1_2 : (⟨S1x128x128, .f32⟩ : BufTy).Contents (Elt F) → (⟨S4x128x128, .f32⟩ : BufTy).Contents (Elt F)) (pre V main_v30) :=
  at1 preL_writes (i := 36) rfl (by decide +kernel) (by decide +kernel) V
theorem pre_v33 : pre V (no_index main_v33) = (broadcastInDim S4x128x128 ![0, 1, 2] bcast_S4x1x1_S4x128x128_0_1_2 : (⟨S4x1x1, .f32⟩ : BufTy).Contents (Elt F) → (⟨S4x128x128, .f32⟩ : BufTy).Contents (Elt F)) (pre V main_v31) :=
  at1 preL_writes (i := 37) rfl (by decide +kernel) (by decide +kernel) V
theorem pre_v34 : pre V (no_index main_v34) = (mulf : (⟨S4x128x128, .f32⟩ : BufTy).Contents (Elt F) → (⟨S4x128x128, .f32⟩ : BufTy).Contents (Elt F) → (⟨S4x128x128, .f32⟩ : BufTy).Contents (Elt F)) (pre V main_v32) (pre V main_v33) :=
  at2 preL_writes (i := 38) rfl (by decide +kernel) (by decide +kernel) (by decide +kernel) V
theorem pre_v35 : pre V (no_index main_v35) = (Host.exp : (⟨S4x128x128, .f32⟩ : BufTy).Contents (Elt F) → (⟨S4x128x128, .f32⟩ : BufTy).Contents (Elt F)) (pre V main_v34) :=
  at1 preL_writes (i := 39) rfl (by decide +kernel) (by decide +kernel) V
theorem pre_cst_3 : pre V (no_index main_cst_3) = (constant S_ .f32 0x00000000#32) :=
  at0 preL_writes (i := 40) rfl (by decide +kernel) V
theorem pre_call0_v0 : pre V (no_index main_call0_v0) = (id : (⟨S_, .f32⟩ : BufTy).Contents (Elt F) → (⟨S_, .f32⟩ : BufTy).Contents (Elt F)) (pre V main_cst_3) :=
  at1 preL_writes (i := 41) rfl (by decide +kernel) (by decide +kernel) V
theorem pre_call0_v1 : pre V (no_index main_call0_v1) = ((broadcastInDim S4x128x128 ![1, 2] bcast_S128x128_S4x128x128_1_2) : (⟨S128x128, .i1⟩ : BufTy).Contents (Elt F) → (⟨S4x128x128, .i1⟩ : BufTy).Contents (Elt F)) (pre V main_v27) :=
  at1 preL_writes (i := 42) rfl (by decide +kernel) (by decide +kernel) V
theorem pre_call0_v2 : pre V (no_index main_call0_v2) = ((broadcastInDim S4x128x128 ![] bcast_S_S4x128x128) : (⟨S_, .f32⟩ : BufTy).Contents (Elt F) → (⟨S4x128x128, .f32⟩ : BufTy).Contents (Elt F)) (pre V main_call0_v0) :=
  at1 preL_writes (i := 43) rfl (by decide +kernel) (by decide +kernel) V
theorem pre_v36 : pre V (no_index main_v36) = (select : (⟨S4x128x128, .i1⟩ : BufTy).Contents (Elt F) → (⟨S4x128x128, .f32⟩ : BufTy).Contents (Elt F) → (⟨S4x128x128, .f32⟩ : BufTy).Contents (Elt F) → (⟨S4x128x128, .f32⟩ : BufTy).Contents (Elt F)) (pre V main_call0_v1) (pre V main_v35) (pre V main_call0_v2) :=
  at3 preL_writes (i := 44) rfl (by decide +kernel) (by decide +kernel) (by decide +kernel) (by decide +kernel) V
theorem pre_v37 : pre V (no_index main_v37) = ((fun l r => Host.dotGeneral dot_S8x16x128x4x128_S8x16x128x4x128_S8x16x4x128x128_4_4_2_2_013_013 none l r) : (⟨S8x16x128x4x128, .f32⟩ : BufTy).Contents (Elt F) → (⟨S8x16x128x4x128, .f32⟩ : BufTy).Contents (Elt F) → (⟨S8x16x4x128x128, .f32⟩ : BufTy).Contents (Elt F)) (pre V main_v23) (pre V main_v24) :=
  at2 preL_writes (i := 45) rfl (by decide +kernel) (by decide +kernel) (by decide +kernel) V
theorem pre_v38 : pre V (no_index main_v38) = (broadcastInDim S1x1x4x128x128 ![2, 3, 4] bcast_S4x128x128_S1x1x4x128x128_2_3_4 : (⟨S4x128x128, .f32⟩ : BufTy).Contents (Elt F) → (⟨S1x1x4x128x128, .f32⟩ : BufTy).Contents (Elt F)) (pre V main_v36) :=
  at1 preL_writes (i := 46) rfl (by decide +kernel) (by decide +kernel) V
theorem pre_v39 : pre V (no_index main_v39) = (broadcastInDim S8x16x4x128x128 ![0, 1, 2, 3, 4] bcast_S1x1x4x128x128_S8x16x4x128x128_0_1_2_3_4 : (⟨S1x1x4x128x128, .f32⟩ : BufTy).Contents (Elt F) → (⟨S8x16x4x128x128, .f32⟩ : BufTy).Contents (Elt F)) (pre V main_v38) :=
  at1 preL_writes (i := 47) rfl (by decide +kernel) (by decide +kernel) V
theorem pre_v40 : pre V (no_index main_v40) = (mulf : (⟨S8x16x4x128x128, .f32⟩ : BufTy).Contents (Elt F) → (⟨S8x16x4x128x128, .f32⟩ : BufTy).Contents (Elt F) → (⟨S8x16x4x128x128, .f32⟩ : BufTy).Contents (Elt F)) (pre V main_v37) (pre V main_v39) :=
  at2 preL_writes (i := 48) rfl (by decide +kernel) (by decide +kernel) (by decide +kernel) V
theorem pre_v41 : pre V (no_index main_v41) = ((fun l r => Host.dotGeneral dot_S8x16x128x4x256_S8x16x4x128x128_S8x16x4x256x128_2_4_4_3_013_012 none l r) : (⟨S8x16x128x4x256, .f32⟩ : BufTy).Contents (Elt F) → (⟨S8x16x4x128x128, .f32⟩ : BufTy).Contents (Elt F) → (⟨S8x16x4x256x128, .f32⟩ : BufTy).Contents (Elt F)) (pre V main_v25) (pre V main_v40) :=
  at2 preL_writes (i := 49) rfl (by decide +kernel) (by decide +kernel) (by decide +kernel) V
theorem pre_v42 : pre V (no_index main_v42) = ((transpose S8x16x128x4x256 [0, 1, 4, 2, 3] · transposes_S8x16x4x256x128_S8x16x128x4x256_0_1_4_2_3) : (⟨S8x16x4x256x128, .f32⟩ : BufTy).Contents (Elt F) → (⟨S8x16x128x4x256, .f32⟩ : BufTy).Contents (Elt F)) (pre V main_v41) :=
  at1 preL_writes (i := 50) rfl (by decide +kernel) (by decide +kernel) V
theorem pre_cst_4 : pre V (no_index main_cst_4) = (constant S_ .f32 0x42FE0000#32) :=
  at0 preL_writes (i := 51) rfl (by decide +kernel) V
theorem pre_v43 : pre V (no_index main_v43) = (broadcastInDim S128 ![] bcast_S_S128 : (⟨S_, .f32⟩ : BufTy).Contents (Elt F) → (⟨S128, .f32⟩ : BufTy).Contents (Elt F)) (pre V main_cst_4) :=
  at1 preL_writes (i := 52) rfl (by decide +kernel) (by decide +kernel) V
theorem pre_v44 : pre V (no_index main_v44) = (subf : (⟨S128, .f32⟩ : BufTy).Contents (Elt F) → (⟨S128, .f32⟩ : BufTy).Contents (Elt F) → (⟨S128, .f32⟩ : BufTy).Contents (Elt F)) (pre V main_v43) (pre V main_v14) :=
  at2 preL_writes (i := 53) rfl (by decide +kernel) (by decide +kernel) (by decide +kernel) V
theorem pre_v45 : pre V (no_index main_v45) = (broadcastInDim S128x1 ![0] bcast_S128_S128x1_0 : (⟨S128, .f32⟩ : BufTy).Contents (Elt F) → (⟨S128x1, .f32⟩ : BufTy).Contents (Elt F)) (pre V main_v44) :=
  at1 preL_writes (i := 54) rfl (by decide +kernel) (by decide +kernel) V
theorem pre_v46 : pre V (no_index main_v46) = (broadcastInDim S1x4 ![1] bcast_S4_S1x4_1 : (⟨S4, .f32⟩ : BufTy).Contents (Elt F) → (⟨S1x4, .f32⟩ : BufTy).Contents (Elt F)) (pre V main_v20) :=
  at1 preL_writes (i := 55) rfl (by decide +kernel) (by decide +kernel) V
theorem pre_v47 : pre V (no_index main_v47) = (broadcastInDim S128x4 ![0, 1] bcast_S128x1_S128x4_0_1 : (⟨S128x1, .f32⟩ : BufTy).Contents (Elt F) → (⟨S128x4, .f32⟩ : BufTy).Contents (Elt F)) (pre V main_v45) :=
  at1 preL_writes (i := 56) rfl (by decide +kernel) (by decide +kernel) V
theorem pre_v48 : pre V (no_index main_v48) = (broadcastInDim S128x4 ![0, 1] bcast_S1x4_S128x4_0_1 : (⟨S1x4, .f32⟩ : BufTy).Contents (Elt F) → (⟨S128x4, .f32⟩ : BufTy).Contents (Elt F)) (pre V main_v46) :=
  at1 preL_writes (i := 57) rfl (by decide +kernel) (by decide +kernel) V
theorem pre_v49 : pre V (no_index main_v49) = (mulf : (⟨S128x4, .f32⟩ : BufTy).Contents (Elt F) → (⟨S128x4, .f32⟩ : BufTy).Contents (Elt F) → (⟨S128x4, .f32⟩ : BufTy).Contents (Elt F)) (pre V main_v47) (pre V main_v48) :=
  at2 preL_writes (i := 58) rfl (by decide +kernel) (by decide +kernel) (by decide +kernel) V
theorem pre_v50 : pre V (no_index main_v50) = (Host.exp : (⟨S128x4, .f32⟩ : BufTy).Contents (Elt F) → (⟨S128x4, .f32⟩ : BufTy).Contents (Elt F)) (pre V main_v49) :=
  at1 preL_writes (i := 59) rfl (by decide +kernel) (by decide +kernel) V
theorem pre_v51 : pre V (no_index main_v51) = (broadcastInDim S128x4x1 ![0, 1] bcast_S128x4_S128x4x1_0_1 : (⟨S128x4, .f32⟩ : BufTy).Contents (Elt F) → (⟨S128x4x1, .f32⟩ : BufTy).Contents (Elt F)) (pre V main_v50) :=
  at1 preL_writes (i := 60) rfl (by decide +kernel) (by decide +kernel) V
theorem pre_v52 : pre V (no_index main_v52) = (broadcastInDim S1x1x128x4x1 ![2, 3, 4] bcast_S128x4x1_S1x1x128x4x1_2_3_4 : (⟨S128x4x1, .f32⟩ : BufTy).Contents (Elt F) → (⟨S1x1x128x4x1, .f32⟩ : BufTy).Contents (Elt F)) (pre V main_v51) :=
  at1 preL_writes (i := 61) rfl (by decide +kernel) (by decide +kernel) V
theorem pre_v53 : pre V (no_index main_v53) = (broadcastInDim S8x16x128x4x128 ![0, 1, 2, 3, 4] bcast_S1x1x128x4x1_S8x16x128x4x128_0_1_2_3_4 : (⟨S1x1x128x4x1, .f32⟩ : BufTy).Contents (Elt F) → (⟨S8x16x128x4x128, .f32⟩ : BufTy).Contents (Elt F)) (pre V main_v52) :=
  at1 preL_writes (i := 62) rfl (by decide +kernel) (by decide +kernel) V
theorem pre_v54 : pre V (no_index main_v54) = (mulf : (⟨S8x16x128x4x128, .f32⟩ : BufTy).Contents (Elt F) → (⟨S8x16x128x4x128, .f32⟩ : BufTy).Contents (Elt F) → (⟨S8x16x128x4x128, .f32⟩ : BufTy).Contents (Elt F)) (pre V main_v24) (pre V main_v53) :=
  at2 preL_writes (i := 63) rfl (by decide +kernel) (by decide +kernel) (by decide +kernel) V
theorem pre_v55 : pre V (no_index main_v55) = ((fun l r => Host.dotGeneral dot_S8x16x128x4x128_S8x16x128x4x256_S8x16x4x128x256_2_2_4_4_013_013 none l r) : (⟨S8x16x128x4x128, .f32⟩ : BufTy).Contents (Elt F) → (⟨S8x16x128x4x256, .f32⟩ : BufTy).Contents (Elt F) → (⟨S8x16x4x128x256, .f32⟩ : BufTy).Contents (Elt F)) (pre V main_v54) (pre V main_v25) :=
  at2 preL_writes (i := 64) rfl (by decide +kernel) (by decide +kernel) (by decide +kernel) V
theorem pre_cst_5 : pre V (no_index main_cst_5) = (constant S_ .f32 0x43000000#32) :=
  at0 preL_writes (i := 65) rfl (by decide +kernel) V
theorem pre_v56 : pre V (no_index main_v56) = (broadcastInDim S4 ![] bcast_S_S4 : (⟨S_, .f32⟩ : BufTy).Contents (Elt F) → (⟨S4, .f32⟩ : BufTy).Contents (Elt F)) (pre V main_cst_5) :=
  at1 preL_writes (i := 66) rfl (by decide +kernel) (by decide +kernel) V
theorem pre_v57 : pre V (no_index main_v57) = (mulf : (⟨S4, .f32⟩ : BufTy).Contents (Elt F) → (⟨S4, .f32⟩ : BufTy).Contents (Elt F) → (⟨S4, .f32⟩ : BufTy).Contents (Elt F)) (pre V main_v56) (pre V main_v20) :=
  at2 preL_writes (i := 67) rfl (by decide +kernel) (by decide +kernel) (by decide +kernel) V
theorem pre_v58 : pre V (no_index main_v58) = (Host.exp : (⟨S4, .f32⟩ : BufTy).Contents (Elt F) → (⟨S4, .f32⟩ : BufTy).Contents (Elt F)) (pre V main_v57) :=
  at1 preL_writes (i := 68) rfl (by decide +kernel) (by decide +kernel) V
theorem pre_v59 : pre V (no_index main_v59) = (broadcastInDim S4x1x1 ![0] bcast_S4_S4x1x1_0 : (⟨S4, .f32⟩ : BufTy).Contents (Elt F) → (⟨S4x1x1, .f32⟩ : BufTy).Contents (Elt F)) (pre V main_v58) :=
  at1 preL_writes (i := 69) rfl (by decide +kernel) (by decide +kernel) V
theorem pre_v60 : pre V (no_index main_v60) = ((fun a b => concatenate S8x2048x1024 2 [⟨S8x2048x512, a⟩, ⟨S8x2048x512, b⟩] concatenates_S8x2048x512_S8x2048x512_S8x2048x1024_d2) : (⟨S8x2048x512, .f32⟩ : BufTy).Contents (Elt F) → (⟨S8x2048x512, .f32⟩ : BufTy).Contents (Elt F) → (⟨S8x2048x1024, .f32⟩ : BufTy).Contents (Elt F)) (pre V main_v9) (pre V main_v10) :=
  at2 preL_writes (i := 70) rfl (by decide +kernel) (by decide +kernel) (by decide +kernel) V
theorem pre_v61 : pre V (no_index main_v61) = shapeCast S1024 (pre V main_arg3) shapeCasts_S1x1024_S1024 :=
  atR preL_writes (i := 71) rfl (by decide +kernel) (by decide +kernel) V
theorem pre_c : pre V (no_index main_c) = (constantI S_ 32 0#32) :=
  at0 preL_writes (i := 72) rfl (by decide +kernel) V
theorem pre_call1_v0 : pre V (no_index main_call1_v0) = ((sitofp .f32) : (⟨S_, .i32⟩ : BufTy).Contents (Elt F) → (⟨S_, .f32⟩ : BufTy).Contents (Elt F)) (pre V main_c) :=
  at1 preL_writes (i := 73) rfl (by decide +kernel) (by decide +kernel) V
theorem pre_v62 : pre V (no_index main_v62) = ((fun x v => pad S8x2051x1024 ![0, 3, 0] ![0, 0, 0] ![0, 0, 0] x v pads_S8x2048x1024_S8x2051x1024_000_300_000 h_S_) : (⟨S8x2048x1024, .f32⟩ : BufTy).Contents (Elt F) → (⟨S_, .f32⟩ : BufTy).Contents (Elt F) → (⟨S8x2051x1024, .f32⟩ : BufTy).Contents (Elt F)) (pre V main_v60) (pre V main_call1_v0) :=
  at2 preL_writes (i := 74) rfl (by decide +kernel) (by decide +kernel) (by decide +kernel) V
theorem pre_v63 : pre V (no_index main_v63) = ((extractStridedSlice S1x1024 ![0, 0] · slices_S4x1024_S1x1024_0_0) : (⟨S4x1024, .f32⟩ : BufTy).Contents (Elt F) → (⟨S1x1024, .f32⟩ : BufTy).Contents (Elt F)) (pre V main_arg2) :=
  at1 preL_writes (i := 75) rfl (by decide +kernel) (by decide +kernel) V
theorem pre_v64 : pre V (no_index main_v64) = shapeCast S1024 (pre V main_v63) shapeCasts_S1x1024_S1024 :=
  atR preL_writes (i := 76) rfl (by decide +kernel) (by decide +kernel) V
theorem pre_v65 : pre V (no_index main_v65) = ((extractStridedSlice S8x2048x1024 ![0, 0, 0] · slices_S8x2051x1024_S8x2048x1024_0_0_0) : (⟨S8x2051x1024, .f32⟩ : BufTy).Contents (Elt F) → (⟨S8x2048x1024, .f32⟩ : BufTy).Contents (Elt F)) (pre V main_v62) :=
  at1 preL_writes (i := 77) rfl (by decide +kernel) (by decide +kernel) V
theorem pre_v66 : pre V (no_index main_v66) = (broadcastInDim S1x1x1024 ![2] bcast_S1024_S1x1x1024_2 : (⟨S1024, .f32⟩ : BufTy).Contents (Elt F) → (⟨S1x1x1024, .f32⟩ : BufTy).Contents (Elt F)) (pre V main_v64) :=
  at1 preL_writes (i := 78) rfl (by decide +kernel) (by decide +kernel) V
theorem pre_v67 : pre V (no_index main_v67) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (pre V main_v66) :=
  at1 preL_writes (i := 79) rfl (by decide +kernel) (by decide +kernel) V
theorem pre_v68 : pre V (no_index main_v68) = (mulf : (⟨S8x2048x1024, .f32⟩ : BufTy).Contents (Elt F) → (⟨S8x2048x1024, .f32⟩ : BufTy).Contents (Elt F) → (⟨S8x2048x1024, .f32⟩ : BufTy).Contents (Elt F)) (pre V main_v67) (pre V main_v65) :=
  at2 preL_writes (i := 80) rfl (by decide +kernel) (by decide +kernel) (by decide +kernel) V
theorem pre_cst_6 : pre V (no_index main_cst_6) = (constant S_ .f32 0x00000000#32) :=
  at0 preL_writes (i := 81) rfl (by decide +kernel) V
theorem pre_v69 : pre V (no_index main_v69) = (broadcastInDim S8x2048x1024 ![] bcast_S_S8x2048x1024 : (⟨S_, .f32⟩ : BufTy).Contents (Elt F) → (⟨S8x2048x1024, .f32⟩ : BufTy).Contents (Elt F)) (pre V main_cst_6) :=
  at1 preL_writes (i := 82) rfl (by decide +kernel) (by decide +kernel) V
theorem pre_v70 : pre V (no_index main_v70) = (addf : (⟨S8x2048x1024, .f32⟩ : BufTy).Contents (Elt F) → (⟨S8x2048x1024, .f32⟩ : BufTy).Contents (Elt F) → (⟨S8x2048x1024, .f32⟩ : BufTy).Contents (Elt F)) (pre V main_v69) (pre V main_v68) :=
  at2 preL_writes (i := 83) rfl (by decide +kernel) (by decide +kernel) (by decide +kernel) V
theorem pre_v71 : pre V (no_index main_v71) = ((extractStridedSlice S1x1024 ![1, 0] · slices_S4x1024_S1x1024_1_0) : (⟨S4x1024, .f32⟩ : BufTy).Contents (Elt F) → (⟨S1x1024, .f32⟩ : BufTy).Contents (Elt F)) (pre V main_arg2) :=
  at1 preL_writes (i := 84) rfl (by decide +kernel) (by decide +kernel) V
theorem pre_v72 : pre V (no_index main_v72) = shapeCast S1024 (pre V main_v71) shapeCasts_S1x1024_S1024 :=
  atR preL_writes (i := 85) rfl (by decide +kernel) (by decide +kernel) V
theorem pre_v73 : pre V (no_index main_v73) = ((extractStridedSlice S8x2048x1024 ![0, 1, 0] · slices_S8x2051x1024_S8x2048x1024_0_1_0) : (⟨S8x2051x1024, .f32⟩ : BufTy).Contents (Elt F) → (⟨S8x2048x1024, .f32⟩ : BufTy).Contents (Elt F)) (pre V main_v62) :=
  at1 preL_writes (i := 86) rfl (by decide +kernel) (by decide +kernel) V
theorem pre_v74 : pre V (no_index main_v74) = (broadcastInDim S1x1x1024 ![2] bcast_S1024_S1x1x1024_2 : (⟨S1024, .f32⟩ : BufTy).Contents (Elt F) → (⟨S1x1x1024, .f32⟩ : BufTy).Contents (Elt F)) (pre V main_v72) :=
  at1 preL_writes (i := 87) rfl (by decide +kernel) (by decide +kernel) V
theorem pre_v75 : pre V (no_index main_v75) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (pre V main_v74) :=
  at1 preL_writes (i := 88) rfl (by decide +kernel) (by decide +kernel) V
theorem pre_v76 : pre V (no_index main_v76) = (mulf : (⟨S8x2048x1024, .f32⟩ : BufTy).Contents (Elt F) → (⟨S8x2048x1024, .f32⟩ : BufTy).Contents (Elt F) → (⟨S8x2048x1024, .f32⟩ : BufTy).Contents (Elt F)) (pre V main_v75) (pre V main_v73) :=
  at2 preL_writes (i := 89) rfl (by decide +kernel) (by decide +kernel) (by decide +kernel) V
theorem pre_v77 : pre V (no_index main_v77) = (addf : (⟨S8x2048x1024, .f32⟩ : BufTy).Contents (Elt F) → (⟨S8x2048x1024, .f32⟩ : BufTy).Contents (Elt F) → (⟨S8x2048x1024, .f32⟩ : BufTy).Contents (Elt F)) (pre V main_v70) (pre V main_v76) :=
  at2 preL_writes (i := 90) rfl (by decide +kernel) (by decide +kernel) (by decide +kernel) V
theorem pre_v78 : pre V (no_index main_v78) = ((extractStridedSlice S1x1024 ![2, 0] · slices_S4x1024_S1x1024_2_0) : (⟨S4x1024, .f32⟩ : BufTy).Contents (Elt F) → (⟨S1x1024, .f32⟩ : BufTy).Contents (Elt F)) (pre V main_arg2) :=
  at1 preL_writes (i := 91) rfl (by decide +kernel) (by decide +kernel) V
theorem pre_v79 : pre V (no_index main_v79) = shapeCast S1024 (pre V main_v78) shapeCasts_S1x1024_S1024 :=
  atR preL_writes (i := 92) rfl (by decide +kernel) (by decide +kernel) V
theorem pre_v80 : pre V (no_index main_v80) = ((extractStridedSlice S8x2048x1024 ![0, 2, 0] · slices_S8x2051x1024_S8x2048x1024_0_2_0) : (⟨S8x2051x1024, .f32⟩ : BufTy).Contents (Elt F) → (⟨S8x2048x1024, .f32⟩ : BufTy).Contents (Elt F)) (pre V main_v62) :=
  at1 preL_writes (i := 93) rfl (by decide +kernel) (by decide +kernel) V
theorem pre_v81 : pre V (no_index main_v81) = (broadcastInDim S1x1x1024 ![2] bcast_S1024_S1x1x1024_2 : (⟨S1024, .f32⟩ : BufTy).Contents (Elt F) → (⟨S1x1x1024, .f32⟩ : BufTy).Contents (Elt F)) (pre V main_v79) :=
  at1 preL_writes (i := 94) rfl (by decide +kernel) (by decide +kernel) V
theorem pre_v82 : pre V (no_index main_v82) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (pre V main_v81) :=
  at1 preL_writes (i := 95) rfl (by decide +kernel) (by decide +kernel) V
theorem pre_v83 : pre V (no_index main_v83) = (mulf : (⟨S8x2048x1024, .f32⟩ : BufTy).Contents (Elt F) → (⟨S8x2048x1024, .f32⟩ : BufTy).Contents (Elt F) → (⟨S8x2048x1024, .f32⟩ : BufTy).Contents (Elt F)) (pre V main_v82) (pre V main_v80) :=
  at2 preL_writes (i := 96) rfl (by decide +kernel) (by decide +kernel) (by decide +kernel) V
theorem pre_v84 : pre V (no_index main_v84) = (addf : (⟨S8x2048x1024, .f32⟩ : BufTy).Contents (Elt F) → (⟨S8x2048x1024, .f32⟩ : BufTy).Contents (Elt F) → (⟨S8x2048x1024, .f32⟩ : BufTy).Contents (Elt F)) (pre V main_v77) (pre V main_v83) :=
  at2 preL_writes (i := 97) rfl (by decide +kernel) (by decide +kernel) (by decide +kernel) V
theorem pre_v85 : pre V (no_index main_v85) = ((extractStridedSlice S1x1024 ![3, 0] · slices_S4x1024_S1x1024_3_0) : (⟨S4x1024, .f32⟩ : BufTy).Contents (Elt F) → (⟨S1x1024, .f32⟩ : BufTy).Contents (Elt F)) (pre V main_arg2) :=
  at1 preL_writes (i := 98) rfl (by decide +kernel) (by decide +kernel) V
theorem pre_v86 : pre V (no_index main_v86) = shapeCast S1024 (pre V main_v85) shapeCasts_S1x1024_S1024 :=
  atR preL_writes (i := 99) rfl (by decide +kernel) (by decide +kernel) V
theorem pre_v87 : pre V (no_index main_v87) = ((extractStridedSlice S8x2048x1024 ![0, 3, 0] · slices_S8x2051x1024_S8x2048x1024_0_3_0) : (⟨S8x2051x1024, .f32⟩ : BufTy).Contents (Elt F) → (⟨S8x2048x1024, .f32⟩ : BufTy).Contents (Elt F)) (pre V main_v62) :=
  at1 preL_writes (i := 100) rfl (by decide +kernel) (by decide +kernel) V
theorem pre_v88 : pre V (no_index main_v88) = (broadcastInDim S1x1x1024 ![2] bcast_S1024_S1x1x1024_2 : (⟨S1024, .f32⟩ : BufTy).Contents (Elt F) → (⟨S1x1x1024, .f32⟩ : BufTy).Contents (Elt F)) (pre V main_v86) :=
  at1 preL_writes (i := 101) rfl (by decide +kernel) (by decide +kernel) V
theorem pre_v89 : pre V (no_index main_v89) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (pre V main_v88) :=
  at1 preL_writes (i := 102) rfl (by decide +kernel) (by decide +kernel) V
theorem pre_v90 : pre V (no_index main_v90) = (mulf : (⟨S8x2048x1024, .f32⟩ : BufTy).Contents (Elt F) → (⟨S8x2048x1024, .f32⟩ : BufTy).Contents (Elt F) → (⟨S8x2048x1024, .f32⟩ : BufTy).Contents (Elt F)) (pre V main_v89) (pre V main_v87) :=
  at2 preL_writes (i := 103) rfl (by decide +kernel) (by decide +kernel) (by decide +kernel) V
theorem pre_v91 : pre V (no_index main_v91) = (addf : (⟨S8x2048x1024, .f32⟩ : BufTy).Contents (Elt F) → (⟨S8x2048x1024, .f32⟩ : BufTy).Contents (Elt F) → (⟨S8x2048x1024, .f32⟩ : BufTy).Contents (Elt F)) (pre V main_v84) (pre V main_v90) :=
  at2 preL_writes (i := 104) rfl (by decide +kernel) (by decide +kernel) (by decide +kernel) V
theorem pre_v92 : pre V (no_index main_v92) = (broadcastInDim S1x1x1024 ![2] bcast_S1024_S1x1x1024_2 : (⟨S1024, .f32⟩ : BufTy).Contents (Elt F) → (⟨S1x1x1024, .f32⟩ : BufTy).Contents (Elt F)) (pre V main_v61) :=
  at1 preL_writes (i := 105) rfl (by decide +kernel) (by decide +kernel) V
theorem pre_v93 : pre V (no_index main_v93) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (pre V main_v92) :=
  at1 preL_writes (i := 106) rfl (by decide +kernel) (by decide +kernel) V
theorem pre_v94 : pre V (no_index main_v94) = (addf : (⟨S8x2048x1024, .f32⟩ : BufTy).Contents (Elt F) → (⟨S8x2048x1024, .f32⟩ : BufTy).Contents (Elt F) → (⟨S8x2048x1024, .f32⟩ : BufTy).Contents (Elt F)) (pre V main_v91) (pre V main_v93) :=
  at2 preL_writes (i := 107) rfl (by decide +kernel) (by decide +kernel) (by decide +kernel) V
theorem pre_call2_v0 : pre V (no_index main_call2_v0) = (Host.negf : (⟨S8x2048x1024, .f32⟩ : BufTy).Contents (Elt F) → (⟨S8x2048x1024, .f32⟩ : BufTy).Contents (Elt F)) (pre V main_v94) :=
  at1 preL_writes (i := 108) rfl (by decide +kernel) (by decide +kernel) V
theorem pre_call2_v1 : pre V (no_index main_call2_v1) = (Host.exp : (⟨S8x2048x1024, .f32⟩ : BufTy).Contents (Elt F) → (⟨S8x2048x1024, .f32⟩ : BufTy).Contents (Elt F)) (pre V main_call2_v0) :=
  at1 preL_writes (i := 109) rfl (by decide +kernel) (by decide +kernel) V
theorem pre_call2_cst : pre V (no_index main_call2_cst) = ((constant S_ .f32 0x3F800000#32) : (⟨S_, .f32⟩ : BufTy).Contents (Elt F)) :=
  at0 preL_writes (i := 110) rfl (by decide +kernel) V
theorem pre_call2_v2 : pre V (no_index main_call2_v2) = ((broadcastInDim S8x2048x1024 ![] bcast_S_S8x2048x1024) : (⟨S_, .f32⟩ : BufTy).Contents (Elt F) → (⟨S8x2048x1024, .f32⟩ : BufTy).Contents (Elt F)) (pre V main_call2_cst) :=
  at1 preL_writes (i := 111) rfl (by decide +kernel) (by decide +kernel) V
theorem pre_call2_v3 : pre V (no_index main_call2_v3) = (addf : (⟨S8x2048x1024, .f32⟩ : BufTy).Contents (Elt F) → (⟨S8x2048x1024, .f32⟩ : BufTy).Contents (Elt F) → (⟨S8x2048x1024, .f32⟩ : BufTy).Contents (Elt F)) (pre V main_call2_v2) (pre V main_call2_v1) :=
  at2 preL_writes (i := 112) rfl (by decide +kernel) (by decide +kernel) (by decide +kernel) V
theorem pre_call2_cst_0 : pre V (no_index main_call2_cst_0) = ((constant S_ .f32 0x3F800000#32) : (⟨S_, .f32⟩ : BufTy).Contents (Elt F)) :=
  at0 preL_writes (i := 113) rfl (by decide +kernel) V
theorem pre_call2_v4 : pre V (no_index main_call2_v4) = ((broadcastInDim S8x2048x1024 ![] bcast_S_S8x2048x1024) : (⟨S_, .f32⟩ : BufTy).Contents (Elt F) → (⟨S8x2048x1024, .f32⟩ : BufTy).Contents (Elt F)) (pre V main_call2_cst_0) :=
  at1 preL_writes (i := 114) rfl (by decide +kernel) (by decide +kernel) V
theorem pre_call2_v5 : pre V (no_index main_call2_v5) = (Host.divf : (⟨S8x2048x1024, .f32⟩ : BufTy).Contents (Elt F) → (⟨S8x2048x1024, .f32⟩ : BufTy).Contents (Elt F) → (⟨S8x2048x1024, .f32⟩ : BufTy).Contents (Elt F)) (pre V main_call2_v4) (pre V main_call2_v3) :=
  at2 preL_writes (i := 115) rfl (by decide +kernel) (by decide +kernel) (by decide +kernel) V
theorem pre_v95 : pre V (no_index main_v95) = (mulf : (⟨S8x2048x1024, .f32⟩ : BufTy).Contents (Elt F) → (⟨S8x2048x1024, .f32⟩ : BufTy).Contents (Elt F) → (⟨S8x2048x1024, .f32⟩ : BufTy).Contents (Elt F)) (pre V main_v94) (pre V main_call2_v5) :=
  at2 preL_writes (i := 116) rfl (by decide +kernel) (by decide +kernel) (by decide +kernel) V
theorem pre_v96 : pre V (no_index main_v96) = ((extractStridedSlice S8x2048x512 ![0, 0, 0] · slices_S8x2048x1024_S8x2048x512_0_0_0) : (⟨S8x2048x1024, .f32⟩ : BufTy).Contents (Elt F) → (⟨S8x2048x512, .f32⟩ : BufTy).Contents (Elt F)) (pre V main_v95) :=
  at1 preL_writes (i := 117) rfl (by decide +kernel) (by decide +kernel) V
theorem pre_v97 : pre V (no_index main_v97) = ((extractStridedSlice S8x2048x512 ![0, 0, 512] · slices_S8x2048x1024_S8x2048x512_0_0_512) : (⟨S8x2048x1024, .f32⟩ : BufTy).Contents (Elt F) → (⟨S8x2048x512, .f32⟩ : BufTy).Contents (Elt F)) (pre V main_v95) :=
  at1 preL_writes (i := 118) rfl (by decide +kernel) (by decide +kernel) V
theorem pre_v98 : pre V (no_index main_v98) = shapeCast S8x16x128x4x128 (pre V main_v96) shapeCasts_S8x2048x512_S8x16x128x4x128 :=
  atR preL_writes (i := 119) rfl (by decide +kernel) (by decide +kernel) V
theorem pre_v99 : pre V (no_index main_v99) = shapeCast S8x16x128x4x128 (pre V main_v97) shapeCasts_S8x2048x512_S8x16x128x4x128 :=
  atR preL_writes (i := 120) rfl (by decide +kernel) (by decide +kernel) V
theorem pre_cst_7 : pre V (no_index main_cst_7) = (constant S_ .f32 0x3DB504F3#32) :=
  at0 preL_writes (i := 121) rfl (by decide +kernel) V
theorem pre_v100 : pre V (no_index main_v100) = (broadcastInDim S8x16x128x4x128 ![] bcast_S_S8x16x128x4x128 : (⟨S_, .f32⟩ : BufTy).Contents (Elt F) → (⟨S8x16x128x4x128, .f32⟩ : BufTy).Contents (Elt F)) (pre V main_cst_7) :=
  at1 preL_writes (i := 122) rfl (by decide +kernel) (by decide +kernel) V
theorem pre_v101 : pre V (no_index main_v101) = (mulf : (⟨S8x16x128x4x128, .f32⟩ : BufTy).Contents (Elt F) → (⟨S8x16x128x4x128, .f32⟩ : BufTy).Contents (Elt F) → (⟨S8x16x128x4x128, .f32⟩ : BufTy).Contents (Elt F)) (pre V main_v99) (pre V main_v100) :=
  at2 preL_writes (i := 123) rfl (by decide +kernel) (by decide +kernel) (by decide +kernel) V
theorem pre_v102 : pre V (no_index main_v102) = shapeCast S8x16x128x4x256 (pre V main_v11) shapeCasts_S8x2048x1024_S8x16x128x4x256 :=
  atR preL_writes (i := 124) rfl (by decide +kernel) (by decide +kernel) V
theorem pre_v103 : pre V (no_index main_v103) = ((extractStridedSlice S8x2048x4 ![0, 0, 0] · slices_S8x2048x128_S8x2048x4_0_0_0) : (⟨S8x2048x128, .f32⟩ : BufTy).Contents (Elt F) → (⟨S8x2048x4, .f32⟩ : BufTy).Contents (Elt F)) (pre V main_v4) :=
  at1 preL_writes (i := 125) rfl (by decide +kernel) (by decide +kernel) V
theorem pre_v104 : pre V (no_index main_v104) = shapeCast S8x16x128x4 (pre V main_v103) shapeCasts_S8x2048x4_S8x16x128x4 :=
  atR preL_writes (i := 126) rfl (by decide +kernel) (by decide +kernel) V
theorem pre_v105 : pre V (no_index main_v105) = ((transpose S8x16x4x128 [0, 1, 3, 2] · transposes_S8x16x128x4_S8x16x4x128_0_1_3_2) : (⟨S8x16x128x4, .f32⟩ : BufTy).Contents (Elt F) → (⟨S8x16x4x128, .f32⟩ : BufTy).Contents (Elt F)) (pre V main_v104) :=
  at1 preL_writes (i := 127) rfl (by decide +kernel) (by decide +kernel) V
theorem pre_v106 : pre V (no_index main_v106) = ((extractStridedSlice S8x2048x4 ![0, 0, 4] · slices_S8x2048x128_S8x2048x4_0_0_4) : (⟨S8x2048x128, .f32⟩ : BufTy).Contents (Elt F) → (⟨S8x2048x4, .f32⟩ : BufTy).Contents (Elt F)) (pre V main_v4) :=
  at1 preL_writes (i := 128) rfl (by decide +kernel) (by decide +kernel) V
theorem pre_v107 : pre V (no_index main_v107) = shapeCast S8x16x128x4 (pre V main_v106) shapeCasts_S8x2048x4_S8x16x128x4 :=
  atR preL_writes (i := 129) rfl (by decide +kernel) (by decide +kernel) V
theorem pre_v108 : pre V (no_index main_v108) = ((transpose S8x16x4x128 [0, 1, 3, 2] · transposes_S8x16x128x4_S8x16x4x128_0_1_3_2) : (⟨S8x16x128x4, .f32⟩ : BufTy).Contents (Elt F) → (⟨S8x16x4x128, .f32⟩ : BufTy).Contents (Elt F)) (pre V main_v107) :=
  at1 preL_writes (i := 130) rfl (by decide +kernel) (by decide +kernel) V
theorem pre_call3_v0 : pre V (no_index main_call3_v0) = (Host.negf : (⟨S8x16x4x128, .f32⟩ : BufTy).Contents (Elt F) → (⟨S8x16x4x128, .f32⟩ : BufTy).Contents (Elt F)) (pre V main_v108) :=
  at1 preL_writes (i := 131) rfl (by decide +kernel) (by decide +kernel) V
theorem pre_call3_call0_cst : pre V (no_index main_call3_call0_cst) = ((constant S_ .f32 0x00000000#32) : (⟨S_, .f32⟩ : BufTy).Contents (Elt F)) :=
  at0 preL_writes (i := 132) rfl (by decide +kernel) V
theorem pre_call3_call0_v0 : pre V (no_index main_call3_call0_v0) = ((broadcastInDim S8x16x4x128 ![] bcast_S_S8x16x4x128) : (⟨S_, .f32⟩ : BufTy).Contents (Elt F) → (⟨S8x16x4x128, .f32⟩ : BufTy).Contents (Elt F)) (pre V main_call3_call0_cst) :=
  at1 preL_writes (i := 133) rfl (by decide +kernel) (by decide +kernel) V
theorem pre_call3_call0_v1 : pre V (no_index main_call3_call0_v1) = (maximumf : (⟨S8x16x4x128, .f32⟩ : BufTy).Contents (Elt F) → (⟨S8x16x4x128, .f32⟩ : BufTy).Contents (Elt F) → (⟨S8x16x4x128, .f32⟩ : BufTy).Contents (Elt F)) (pre V main_call3_v0) (pre V main_call3_call0_v0) :=
  at2 preL_writes (i := 134) rfl (by decide +kernel) (by decide +kernel) (by decide +kernel) V
theorem pre_call3_call0_v2 : pre V (no_index main_call3_call0_v2) = ((broadcastInDim S8x16x4x128 ![] bcast_S_S8x16x4x128) : (⟨S_, .f32⟩ : BufTy).Contents (Elt F) → (⟨S8x16x4x128, .f32⟩ : BufTy).Contents (Elt F)) (pre V main_call3_call0_cst) :=
  at1 preL_writes (i := 135) rfl (by decide +kernel) (by decide +kernel) V
theorem pre_call3_call0_v3 : pre V (no_index main_call3_call0_v3) = (subf : (⟨S8x16x4x128, .f32⟩ : BufTy).Contents (Elt F) → (⟨S8x16x4x128, .f32⟩ : BufTy).Contents (Elt F) → (⟨S8x16x4x128, .f32⟩ : BufTy).Contents (Elt F)) (pre V main_call3_v0) (pre V main_call3_call0_v2) :=
  at2 preL_writes (i := 136) rfl (by decide +kernel) (by decide +kernel) (by decide +kernel) V
theorem pre_call3_call0_v4 : pre V (no_index main_call3_call0_v4) = ((cmpf .une) : (⟨S8x16x4x128, .f32⟩ : BufTy).Contents (Elt F) → (⟨S8x16x4x128, .f32⟩ : BufTy).Contents (Elt F) → (⟨S8x16x4x128, .i1⟩ : BufTy).Contents (Elt F)) (pre V main_call3_call0_v3) (pre V main_call3_call0_v3) :=
  at2 preL_writes (i := 137) rfl (by decide +kernel) (by decide +kernel) (by decide +kernel) V
theorem pre_call3_call0_v5 : pre V (no_index main_call3_call0_v5) = ((broadcastInDim S8x16x4x128 ![] bcast_S_S8x16x4x128) : (⟨S_, .f32⟩ : BufTy).Contents (Elt F) → (⟨S8x16x4x128, .f32⟩ : BufTy).Contents (Elt F)) (pre V main_call3_call0_cst) :=
  at1 preL_writes (i := 138) rfl (by decide +kernel) (by decide +kernel) V
theorem pre_call3_call0_v6 : pre V (no_index main_call3_call0_v6) = (addf : (⟨S8x16x4x128, .f32⟩ : BufTy).Contents (Elt F) → (⟨S8x16x4x128, .f32⟩ : BufTy).Contents (Elt F) → (⟨S8x16x4x128, .f32⟩ : BufTy).Contents (Elt F)) (pre V main_call3_v0) (pre V main_call3_call0_v5) :=
  at2 preL_writes (i := 139) rfl (by decide +kernel) (by decide +kernel) (by decide +kernel) V
theorem pre_call3_call0_v7 : pre V (no_index main_call3_call0_v7) = (Host.absf : (⟨S8x16x4x128, .f32⟩ : BufTy).Contents (Elt F) → (⟨S8x16x4x128, .f32⟩ : BufTy).Contents (Elt F)) (pre V main_call3_call0_v3) :=
  at1 preL_writes (i := 140) rfl (by decide +kernel) (by decide +kernel) V
theorem pre_call3_call0_v8 : pre V (no_index main_call3_call0_v8) = (Host.negf : (⟨S8x16x4x128, .f32⟩ : BufTy).Contents (Elt F) → (⟨S8x16x4x128, .f32⟩ : BufTy).Contents (Elt F)) (pre V main_call3_call0_v7) :=
  at1 preL_writes (i := 141) rfl (by decide +kernel) (by decide +kernel) V
theorem pre_call3_call0_v9 : pre V (no_index main_call3_call0_v9) = (Host.exp : (⟨S8x16x4x128, .f32⟩ : BufTy).Contents (Elt F) → (⟨S8x16x4x128, .f32⟩ : BufTy).Contents (Elt F)) (pre V main_call3_call0_v8) :=
  at1 preL_writes (i := 142) rfl (by decide +kernel) (by decide +kernel) V
theorem pre_call3_call0_v10 : pre V (no_index main_call3_call0_v10) = (Host.log1p : (⟨S8x16x4x128, .f32⟩ : BufTy).Contents (Elt F) → (⟨S8x16x4x128, .f32⟩ : BufTy).Contents (Elt F)) (pre V main_call3_call0_v9) :=
  at1 preL_writes (i := 143) rfl (by decide +kernel) (by decide +kernel) V
theorem pre_call3_call0_v11 : pre V (no_index main_call3_call0_v11) = (addf : (⟨S8x16x4x128, .f32⟩ : BufTy).Contents (Elt F) → (⟨S8x16x4x128, .f32⟩ : BufTy).Contents (Elt F) → (⟨S8x16x4x128, .f32⟩ : BufTy).Contents (Elt F)) (pre V main_call3_call0_v1) (pre V main_call3_call0_v10) :=
  at2 preL_writes (i := 144) rfl (by decide +kernel) (by decide +kernel) (by decide +kernel) V
theorem pre_call3_v1 : pre V (no_index main_call3_v1) = (select : (⟨S8x16x4x128, .i1⟩ : BufTy).Contents (Elt F) → (⟨S8x16x4x128, .f32⟩ : BufTy).Contents (Elt F) → (⟨S8x16x4x128, .f32⟩ : BufTy).Contents (Elt F) → (⟨S8x16x4x128, .f32⟩ : BufTy).Contents (Elt F)) (pre V main_call3_call0_v4) (pre V main_call3_call0_v6) (pre V main_call3_call0_v11) :=
  at3 preL_writes (i := 145) rfl (by decide +kernel) (by decide +kernel) (by decide +kernel) (by decide +kernel) V
theorem pre_v109 : pre V (no_index main_v109) = (Host.negf : (⟨S8x16x4x128, .f32⟩ : BufTy).Contents (Elt F) → (⟨S8x16x4x128, .f32⟩ : BufTy).Contents (Elt F)) (pre V main_call3_v1) :=
  at1 preL_writes (i := 146) rfl (by decide +kernel) (by decide +kernel) V
theorem pre_call4_call0_cst : pre V (no_index main_call4_call0_cst) = ((constant S_ .f32 0x00000000#32) : (⟨S_, .f32⟩ : BufTy).Contents (Elt F)) :=
  at0 preL_writes (i := 147) rfl (by decide +kernel) V
theorem pre_call4_call0_v0 : pre V (no_index main_call4_call0_v0) = ((broadcastInDim S_ ![] bcast_S_S_) : (⟨S_, .f32⟩ : BufTy).Contents (Elt F) → (⟨S_, .f32⟩ : BufTy).Contents (Elt F)) (pre V main_call4_call0_cst) :=
  at1 preL_writes (i := 148) rfl (by decide +kernel) (by decide +kernel) V
theorem pre_v110 : pre V (no_index main_v110) = ((fun x v => Host.reduceWindowAdd ![1, 1, 1, 128] ![1, 1, 1, 1] ![0, 0, 0, 127] ![0, 0, 0, 0] x v reduceWindows_S8x16x4x128_S8x16x4x128_w1s1p0_0_w1s1p0_0_w1s1p0_0_w128s1p127_0 h_S_) : (⟨S8x16x4x128, .f32⟩ : BufTy).Contents (Elt F) → (⟨S_, .f32⟩ : BufTy).Contents (Elt F) → (⟨S8x16x4x128, .f32⟩ : BufTy).Contents (Elt F)) (pre V main_v109) (pre V main_call4_call0_v0) :=
  at2 preL_writes (i := 149) rfl (by decide +kernel) (by decide +kernel) (by decide +kernel) V
theorem pre_v111 : pre V (no_index main_v111) = ((extractStridedSlice S8x16x4x1 ![0, 0, 0, 127] · slices_S8x16x4x128_S8x16x4x1_0_0_0_127) : (⟨S8x16x4x128, .f32⟩ : BufTy).Contents (Elt F) → (⟨S8x16x4x1, .f32⟩ : BufTy).Contents (Elt F)) (pre V main_v110) :=
  at1 preL_writes (i := 150) rfl (by decide +kernel) (by decide +kernel) V
theorem pre_v112 : pre V (no_index main_v112) = shapeCast S8x16x4 (pre V main_v111) shapeCasts_S8x16x4x1_S8x16x4 :=
  atR preL_writes (i := 151) rfl (by decide +kernel) (by decide +kernel) V
theorem pre_v113 : pre V (no_index main_v113) = (broadcastInDim S8x16x4x1 ![0, 1, 2] bcast_S8x16x4_S8x16x4x1_0_1_2 : (⟨S8x16x4, .f32⟩ : BufTy).Contents (Elt F) → (⟨S8x16x4x1, .f32⟩ : BufTy).Contents (Elt F)) (pre V main_v112) :=
  at1 preL_writes (i := 152) rfl (by decide +kernel) (by decide +kernel) V
theorem pre_v114 : pre V (no_index main_v114) = (broadcastInDim S8x16x4x128 ![0, 1, 2, 3] bcast_S8x16x4x1_S8x16x4x128_0_1_2_3 : (⟨S8x16x4x1, .f32⟩ : BufTy).Contents (Elt F) → (⟨S8x16x4x128, .f32⟩ : BufTy).Contents (Elt F)) (pre V main_v113) :=
  at1 preL_writes (i := 153) rfl (by decide +kernel) (by decide +kernel) V
theorem pre_v115 : pre V (no_index main_v115) = (subf : (⟨S8x16x4x128, .f32⟩ : BufTy).Contents (Elt F) → (⟨S8x16x4x128, .f32⟩ : BufTy).Contents (Elt F) → (⟨S8x16x4x128, .f32⟩ : BufTy).Contents (Elt F)) (pre V main_v114) (pre V main_v110) :=
  at2 preL_writes (i := 154) rfl (by decide +kernel) (by decide +kernel) (by decide +kernel) V
theorem pre_v116 : pre V (no_index main_v116) = (addf : (⟨S8x16x4x128, .f32⟩ : BufTy).Contents (Elt F) → (⟨S8x16x4x128, .f32⟩ : BufTy).Contents (Elt F) → (⟨S8x16x4x128, .f32⟩ : BufTy).Contents (Elt F)) (pre V main_v115) (pre V main_v105) :=
  at2 preL_writes (i := 155) rfl (by decide +kernel) (by decide +kernel) (by decide +kernel) V
theorem pre_cst_8 : pre V (no_index main_cst_8) = (constant S_ .f32 0xFF800000#32) :=
  at0 preL_writes (i := 156) rfl (by decide +kernel) V
theorem pre_v117 : pre V (no_index main_v117) = ((fun x v => Host.reduce FloatOps.maximumf x v reducesTo_S8x16x4x128_S8x16x4_d3 h_S_) : (⟨S8x16x4x128, .f32⟩ : BufTy).Contents (Elt F) → (⟨S_, .f32⟩ : BufTy).Contents (Elt F) → (⟨S8x16x4, .f32⟩ : BufTy).Contents (Elt F)) (pre V main_v116) (pre V main_cst_8) :=
  at2 preL_writes (i := 157) rfl (by decide +kernel) (by decide +kernel) (by decide +kernel) V
theorem pre_v118 : pre V (no_index main_v118) = (broadcastInDim S8x16x4x1 ![0, 1, 2] bcast_S8x16x4_S8x16x4x1_0_1_2 : (⟨S8x16x4, .f32⟩ : BufTy).Contents (Elt F) → (⟨S8x16x4x1, .f32⟩ : BufTy).Contents (Elt F)) (pre V main_v117) :=
  at1 preL_writes (i := 158) rfl (by decide +kernel) (by decide +kernel) V
theorem pre_v119 : pre V (no_index main_v119) = (broadcastInDim S8x16x4x128 ![0, 1, 2, 3] bcast_S8x16x4x1_S8x16x4x128_0_1_2_3 : (⟨S8x16x4x1, .f32⟩ : BufTy).Contents (Elt F) → (⟨S8x16x4x128, .f32⟩ : BufTy).Contents (Elt F)) (pre V main_v118) :=
  at1 preL_writes (i := 159) rfl (by decide +kernel) (by decide +kernel) V
theorem pre_v120 : pre V (no_index main_v120) = (subf : (⟨S8x16x4x128, .f32⟩ : BufTy).Contents (Elt F) → (⟨S8x16x4x128, .f32⟩ : BufTy).Contents (Elt F) → (⟨S8x16x4x128, .f32⟩ : BufTy).Contents (Elt F)) (pre V main_v116) (pre V main_v119) :=
  at2 preL_writes (i := 160) rfl (by decide +kernel) (by decide +kernel) (by decide +kernel) V
theorem pre_v121 : pre V (no_index main_v121) = (Host.exp : (⟨S8x16x4x128, .f32⟩ : BufTy).Contents (Elt F) → (⟨S8x16x4x128, .f32⟩ : BufTy).Contents (Elt F)) (pre V main_v120) :=
  at1 preL_writes (i := 161) rfl (by decide +kernel) (by decide +kernel) V
theorem pre_v122 : pre V (no_index main_v122) = ((transpose S8x16x128x4 [0, 1, 3, 2] · transposes_S8x16x4x128_S8x16x128x4_0_1_3_2) : (⟨S8x16x4x128, .f32⟩ : BufTy).Contents (Elt F) → (⟨S8x16x128x4, .f32⟩ : BufTy).Contents (Elt F)) (pre V main_v121) :=
  at1 preL_writes (i := 162) rfl (by decide +kernel) (by decide +kernel) V
theorem pre_v123 : pre V (no_index main_v123) = (broadcastInDim S8x16x128x4x1 ![0, 1, 2, 3] bcast_S8x16x128x4_S8x16x128x4x1_0_1_2_3 : (⟨S8x16x128x4, .f32⟩ : BufTy).Contents (Elt F) → (⟨S8x16x128x4x1, .f32⟩ : BufTy).Contents (Elt F)) (pre V main_v122) :=
  at1 preL_writes (i := 163) rfl (by decide +kernel) (by decide +kernel) V
theorem pre_v124 : pre V (no_index main_v124) = (broadcastInDim S8x16x128x4x128 ![0, 1, 2, 3, 4] bcast_S8x16x128x4x1_S8x16x128x4x128_0_1_2_3_4 : (⟨S8x16x128x4x1, .f32⟩ : BufTy).Contents (Elt F) → (⟨S8x16x128x4x128, .f32⟩ : BufTy).Contents (Elt F)) (pre V main_v123) :=
  at1 preL_writes (i := 164) rfl (by decide +kernel) (by decide +kernel) V
theorem pre_v125 : pre V (no_index main_v125) = (mulf : (⟨S8x16x128x4x128, .f32⟩ : BufTy).Contents (Elt F) → (⟨S8x16x128x4x128, .f32⟩ : BufTy).Contents (Elt F) → (⟨S8x16x128x4x128, .f32⟩ : BufTy).Contents (Elt F)) (pre V main_v101) (pre V main_v124) :=
  at2 preL_writes (i := 165) rfl (by decide +kernel) (by decide +kernel) (by decide +kernel) V
theorem pre_v126 : pre V (no_index main_v126) = ((fun l r => Host.dotGeneral dot_S8x16x128x4x128_S8x16x128x4x256_S8x16x4x128x256_2_2_4_4_013_013 none l r) : (⟨S8x16x128x4x128, .f32⟩ : BufTy).Contents (Elt F) → (⟨S8x16x128x4x256, .f32⟩ : BufTy).Contents (Elt F) → (⟨S8x16x4x128x256, .f32⟩ : BufTy).Contents (Elt F)) (pre V main_v125) (pre V main_v102) :=
  at2 preL_writes (i := 166) rfl (by decide +kernel) (by decide +kernel) (by decide +kernel) V
theorem pre_cst_9 : pre V (no_index main_cst_9) = (constant S_ .f32 0x00000000#32) :=
  at0 preL_writes (i := 167) rfl (by decide +kernel) V
theorem pre_v127 : pre V (no_index main_v127) = ((fun x v => Host.reduceAdd x v reducesTo_S8x16x128x4x128_S8x16x4x128_d2 h_S_) : (⟨S8x16x128x4x128, .f32⟩ : BufTy).Contents (Elt F) → (⟨S_, .f32⟩ : BufTy).Contents (Elt F) → (⟨S8x16x4x128, .f32⟩ : BufTy).Contents (Elt F)) (pre V main_v125) (pre V main_cst_9) :=
  at2 preL_writes (i := 168) rfl (by decide +kernel) (by decide +kernel) (by decide +kernel) V
theorem pre_cst_10 : pre V (no_index main_cst_10) = (constant S_ .f32 0x00000000#32) :=
  at0 preL_writes (i := 169) rfl (by decide +kernel) V
theorem pre_v128 : pre V (no_index main_v128) = (broadcastInDim S8x4x128x256 ![] bcast_S_S8x4x128x256 : (⟨S_, .f32⟩ : BufTy).Contents (Elt F) → (⟨S8x4x128x256, .f32⟩ : BufTy).Contents (Elt F)) (pre V main_cst_10) :=
  at1 preL_writes (i := 170) rfl (by decide +kernel) (by decide +kernel) V
theorem pre_cst_11 : pre V (no_index main_cst_11) = (constant S_ .f32 0x00000000#32) :=
  at0 preL_writes (i := 171) rfl (by decide +kernel) V
theorem pre_v129 : pre V (no_index main_v129) = (broadcastInDim S8x4x128x256 ![] bcast_S_S8x4x128x256 : (⟨S_, .f32⟩ : BufTy).Contents (Elt F) → (⟨S8x4x128x256, .f32⟩ : BufTy).Contents (Elt F)) (pre V main_cst_11) :=
  at1 preL_writes (i := 172) rfl (by decide +kernel) (by decide +kernel) V
theorem pre_cst_12 : pre V (no_index main_cst_12) = (constant S_ .f32 0x00000000#32) :=
  at0 preL_writes (i := 173) rfl (by decide +kernel) V
theorem pre_v130 : pre V (no_index main_v130) = (broadcastInDim S8x4x128 ![] bcast_S_S8x4x128 : (⟨S_, .f32⟩ : BufTy).Contents (Elt F) → (⟨S8x4x128, .f32⟩ : BufTy).Contents (Elt F)) (pre V main_cst_12) :=
  at1 preL_writes (i := 174) rfl (by decide +kernel) (by decide +kernel) V
theorem pre_cst_13 : pre V (no_index main_cst_13) = (constant S_ .f32 0xFF800000#32) :=
  at0 preL_writes (i := 175) rfl (by decide +kernel) V
theorem pre_v131 : pre V (no_index main_v131) = (broadcastInDim S8x4 ![] bcast_S_S8x4 : (⟨S_, .f32⟩ : BufTy).Contents (Elt F) → (⟨S8x4, .f32⟩ : BufTy).Contents (Elt F)) (pre V main_cst_13) :=
  at1 preL_writes (i := 176) rfl (by decide +kernel) (by decide +kernel) V
theorem pre_v132 : pre V (no_index main_v132) = ((transpose S16x8x4x128x256 [1, 0, 2, 3, 4] · transposes_S8x16x4x128x256_S16x8x4x128x256_1_0_2_3_4) : (⟨S8x16x4x128x256, .f32⟩ : BufTy).Contents (Elt F) → (⟨S16x8x4x128x256, .f32⟩ : BufTy).Contents (Elt F)) (pre V main_v55) :=
  at1 preL_writes (i := 177) rfl (by decide +kernel) (by decide +kernel) V
theorem pre_v133 : pre V (no_index main_v133) = ((transpose S16x8x4x128x256 [1, 0, 2, 3, 4] · transposes_S8x16x4x128x256_S16x8x4x128x256_1_0_2_3_4) : (⟨S8x16x4x128x256, .f32⟩ : BufTy).Contents (Elt F) → (⟨S16x8x4x128x256, .f32⟩ : BufTy).Contents (Elt F)) (pre V main_v126) :=
  at1 preL_writes (i := 178) rfl (by decide +kernel) (by decide +kernel) V
theorem pre_v134 : pre V (no_index main_v134) = ((transpose S16x8x4x128 [1, 0, 2, 3] · transposes_S8x16x4x128_S16x8x4x128_1_0_2_3) : (⟨S8x16x4x128, .f32⟩ : BufTy).Contents (Elt F) → (⟨S16x8x4x128, .f32⟩ : BufTy).Contents (Elt F)) (pre V main_v127) :=
  at1 preL_writes (i := 179) rfl (by decide +kernel) (by decide +kernel) V
theorem pre_v135 : pre V (no_index main_v135) = ((transpose S16x8x4 [1, 0, 2] · transposes_S8x16x4_S16x8x4_1_0_2) : (⟨S8x16x4, .f32⟩ : BufTy).Contents (Elt F) → (⟨S16x8x4, .f32⟩ : BufTy).Contents (Elt F)) (pre V main_v117) :=
  at1 preL_writes (i := 180) rfl (by decide +kernel) (by decide +kernel) V
theorem pre_v136 : pre V (no_index main_v136) = ((transpose S16x8x4 [1, 0, 2] · transposes_S8x16x4_S16x8x4_1_0_2) : (⟨S8x16x4, .f32⟩ : BufTy).Contents (Elt F) → (⟨S16x8x4, .f32⟩ : BufTy).Contents (Elt F)) (pre V main_v112) :=
  at1 preL_writes (i := 181) rfl (by decide +kernel) (by decide +kernel) V
theorem pre_cst_14 : pre V (no_index main_cst_14) = (constant S_ .f32 0x00000000#32) :=
  at0 preL_writes (i := 182) rfl (by decide +kernel) V
theorem pre_v137 : pre V (no_index main_v137) = (broadcastInDim S16x8x4x128x256 ![] bcast_S_S16x8x4x128x256 : (⟨S_, .f32⟩ : BufTy).Contents (Elt F) → (⟨S16x8x4x128x256, .f32⟩ : BufTy).Contents (Elt F)) (pre V main_cst_14) :=
  at1 preL_writes (i := 183) rfl (by decide +kernel) (by decide +kernel) V
theorem pre_cst_15 : pre V (no_index main_cst_15) = (constant S_ .f32 0x00000000#32) :=
  at0 preL_writes (i := 184) rfl (by decide +kernel) V
theorem pre_v138 : pre V (no_index main_v138) = (broadcastInDim S16x8x4x128x256 ![] bcast_S_S16x8x4x128x256 : (⟨S_, .f32⟩ : BufTy).Contents (Elt F) → (⟨S16x8x4x128x256, .f32⟩ : BufTy).Contents (Elt F)) (pre V main_cst_15) :=
  at1 preL_writes (i := 185) rfl (by decide +kernel) (by decide +kernel) V
theorem pre_cst_16 : pre V (no_index main_cst_16) = (constant S_ .f32 0x00000000#32) :=
  at0 preL_writes (i := 186) rfl (by decide +kernel) V
theorem pre_v139 : pre V (no_index main_v139) = (broadcastInDim S16x8x4x128 ![] bcast_S_S16x8x4x128 : (⟨S_, .f32⟩ : BufTy).Contents (Elt F) → (⟨S16x8x4x128, .f32⟩ : BufTy).Contents (Elt F)) (pre V main_cst_16) :=
  at1 preL_writes (i := 187) rfl (by decide +kernel) (by decide +kernel) V
theorem pre_cst_17 : pre V (no_index main_cst_17) = (constant S_ .f32 0x00000000#32) :=
  at0 preL_writes (i := 188) rfl (by decide +kernel) V
theorem pre_v140 : pre V (no_index main_v140) = (broadcastInDim S16x8x4 ![] bcast_S_S16x8x4 : (⟨S_, .f32⟩ : BufTy).Contents (Elt F) → (⟨S16x8x4, .f32⟩ : BufTy).Contents (Elt F)) (pre V main_cst_17) :=
  at1 preL_writes (i := 189) rfl (by decide +kernel) (by decide +kernel) V
theorem pre_c_18 : pre V (no_index main_c_18) = (constantI S_ 32 0#32) :=
  at0 preL_writes (i := 190) rfl (by decide +kernel) V
theorem pre_v141_0 : pre V (no_index main_v141_0) = id (pre V main_v132) :=
  at1 preL_writes (i := 191) rfl (by decide +kernel) (by decide +kernel) V
theorem pre_v141_1 : pre V (no_index main_v141_1) = id (pre V main_v133) :=
  at1 preL_writes (i := 192) rfl (by decide +kernel) (by decide +kernel) V
theorem pre_v141_2 : pre V (no_index main_v141_2) = id (pre V main_v134) :=
  at1 preL_writes (i := 193) rfl (by decide +kernel) (by decide +kernel) V
theorem pre_v141_3 : pre V (no_index main_v141_3) = id (pre V main_v135) :=
  at1 preL_writes (i := 194) rfl (by decide +kernel) (by decide +kernel) V
theorem pre_v141_4 : pre V (no_index main_v141_4) = id (pre V main_v136) :=
  at1 preL_writes (i := 195) rfl (by decide +kernel) (by decide +kernel) V
theorem pre_v141_5 : pre V (no_index main_v141_5) = id (pre V main_v59) :=
  at1 preL_writes (i := 196) rfl (by decide +kernel) (by decide +kernel) V
theorem pre_v141_6 : pre V (no_index main_v141_6) = id (pre V main_c_18) :=
  at1 preL_writes (i := 197) rfl (by decide +kernel) (by decide +kernel) V
theorem pre_v141_7 : pre V (no_index main_v141_7) = id (pre V main_v128) :=
  at1 preL_writes (i := 198) rfl (by decide +kernel) (by decide +kernel) V
theorem pre_v141_8 : pre V (no_index main_v141_8) = id (pre V main_v129) :=
  at1 preL_writes (i := 199) rfl (by decide +kernel) (by decide +kernel) V
theorem pre_v141_9 : pre V (no_index main_v141_9) = id (pre V main_v130) :=
  at1 preL_writes (i := 200) rfl (by decide +kernel) (by decide +kernel) V
theorem pre_v141_10 : pre V (no_index main_v141_10) = id (pre V main_v131) :=
  at1 preL_writes (i := 201) rfl (by decide +kernel) (by decide +kernel) V
theorem pre_v141_11 : pre V (no_index main_v141_11) = id (pre V main_v137) :=
  at1 preL_writes (i := 202) rfl (by decide +kernel) (by decide +kernel) V
theorem pre_v141_12 : pre V (no_index main_v141_12) = id (pre V main_v138) :=
  at1 preL_writes (i := 203) rfl (by decide +kernel) (by decide +kernel) V
theorem pre_v141_13 : pre V (no_index main_v141_13) = id (pre V main_v139) :=
  at1 preL_writes (i := 204) rfl (by decide +kernel) (by decide +kernel) V
theorem pre_v141_14 : pre V (no_index main_v141_14) = id (pre V main_v140) :=
  at1 preL_writes (i := 205) rfl (by decide +kernel) (by decide +kernel) V

end Cert.AbMixerRefIdeal.Value

end
-- ==== Proof.MixRefPre.lean ====
/-
  What the reference computes before its loop, in terms of the mixer's mathematics.
-/
module

public import proofs.«01_k».proof.Proof.MixPre
public import proofs.«01_k».proof.Proof.MixNum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.AbMixerRefIdeal.Value

open Cert.AbMixerRefIdeal Cert.AbMixerRefIdeal.Gen Cert.Mix
variable (V : Valuation τ sig (Elt Ideal))

abbrev vP (r : Fin 16384) (n : Fin 7168) : EReal := pre V main_arg0 (ix2 r n)
abbrev vG (r : Fin 16384) (n : Fin 128) : EReal := pre V main_arg1 (ix2 r n)
abbrev vW (j : Fin 4) (n : Fin 1024) : EReal := pre V main_arg2 (ix2 j n)
abbrev vB (n : Fin 1024) : EReal := pre V main_arg3 (ix2 (0 : Fin 1) n)
abbrev vgb (n : Fin 128) : EReal := pre V main_arg4 (ix2 (0 : Fin 1) n)

theorem cumsum_sum (f : Fin 128 → EReal) (i : Fin 128) :
    (∑ w : Fin 128, if h : 127 ≤ i.val + w.val then f ⟨i.val + w.val - 127, by omega⟩ else 0) = cum f i := by
  unfold cum
  rw [← Equiv.sum_comp (Equiv.addLeft (i + 1)) fun j => if j ≤ i then f j else 0]
  congr 1
  funext w
  have hv : ((i + 1 + w : Fin 128)).val = (i.val + 1 + w.val) % 128 := by
    rw [Fin.val_add, Fin.val_add]; show ((i.val + 1) % 128 + w.val) % 128 = _; omega
  simp only [Equiv.coe_addLeft, Fin.le_def, hv]
  by_cases h : 127 ≤ i.val + w.val
  · rw [dif_pos h, if_pos (by omega)]
    exact congrArg f (Fin.ext (by rw [hv]; show i.val + w.val - 127 = _; omega))
  · rw [dif_neg h, if_neg (by omega)]

theorem foldl_add_sum {n : ℕ} (g : Fin n → EReal) : (List.finRange n).foldl (fun r k => r + g k) 0 = ∑ k, g k := by
  rw [Fin.sum_univ_def, List.sum_eq_foldl, List.foldl_map]

theorem last_bijective : Function.Bijective fun q : (⟨4, ![1, 1, 1, 128]⟩ : Shape).Idx => (q 3 : Fin 128) := by
  refine ⟨?_, fun j => ⟨ix4 0 0 0 j, rfl⟩⟩
  intro p q hpq
  rw [ValueIdx.eq_ix4 p, ValueIdx.eq_ix4 q]
  have h0 : ∀ a b : Fin 1, a = b := fun a b => Subsingleton.elim a b
  rw [show (p 0 : Fin 1) = q 0 from h0 _ _, show (p 1 : Fin 1) = q 1 from h0 _ _, show (p 2 : Fin 1) = q 2 from h0 _ _, show (p 3 : Fin 128) = q 3 from hpq]

theorem cumsum_last (x : S8x16x4x128.Idx → EReal) (init : S_.Idx → EReal) (h0 : init ix0 = 0) (h) (hu) (b : Fin 8) (c : Fin 16)
    (h' : Fin 4) (i : Fin 128) :
    Host.reduceWindowAdd (F := Ideal) (φ := .f32) ![1, 1, 1, 128] ![1, 1, 1, 1] ![0, 0, 0, 127] ![0, 0, 0, 0] x init h hu (ix4 b c h' i)
      = cum (fun j => x (ix4 b c h' j)) i := by
  rw [← cumsum_sum]
  have hv : init (Shape.Idx.first hu) = 0 := (congrArg init (ValueIdx.eq_ix0 _)).trans h0
  show Host.reduceWindow (· + ·) ![1, 1, 1, 128] ![1, 1, 1, 1] ![0, 0, 0, 127] ![0, 0, 0, 0] x
    (fun _ : (⟨0, ![]⟩ : Shape).Idx => init (Shape.Idx.first hu)) h (by decide) (ix4 b c h' i) = _
  rw [hv]
  unfold Host.reduceWindow
  dsimp only
  rw [foldl_add_sum]
  refine Fintype.sum_bijective (fun n => ((Shape.rowMajor (⟨4, ![1, 1, 1, 128]⟩ : Shape)).symm n 3 : Fin 128))
    (last_bijective.comp (Equiv.bijective _)) _ _ fun n => ?_
  let q : (⟨4, ![1, 1, 1, 128]⟩ : Shape).Idx := (Shape.rowMajor (⟨4, ![1, 1, 1, 128]⟩ : Shape)).symm n
  have q0 : (q 0).val = 0 := Nat.lt_one_iff.mp (q 0).isLt
  have q1 : (q 1).val = 0 := Nat.lt_one_iff.mp (q 1).isLt
  have q2 : (q 2).val = 0 := Nat.lt_one_iff.mp (q 2).isLt
  have q3 : (q 3).val < 128 := (q 3).isLt
  by_cases hc : 127 ≤ i.val + (q 3).val
  · have hin : ∀ a : Fin 4, (![0, 0, 0, 127] : Fin 4 → ℕ) a ≤ ((ix4 b c h' i : S8x16x4x128.Idx) a).val * (![1, 1, 1, 1] : Fin 4 → ℕ) a + (q a).val
        ∧ ((ix4 b c h' i : S8x16x4x128.Idx) a).val * (![1, 1, 1, 1] : Fin 4 → ℕ) a + (q a).val - (![0, 0, 0, 127] : Fin 4 → ℕ) a < S8x16x4x128.size a := by
      intro a
      match a with
      | ⟨0, _⟩ => exact ⟨Nat.zero_le _, by show b.val * 1 + (q 0).val - 0 < 8; omega⟩
      | ⟨1, _⟩ => exact ⟨Nat.zero_le _, by show c.val * 1 + (q 1).val - 0 < 16; omega⟩
      | ⟨2, _⟩ => exact ⟨Nat.zero_le _, by show h'.val * 1 + (q 2).val - 0 < 4; omega⟩
      | ⟨3, _⟩ => exact ⟨by show 127 ≤ i.val * 1 + (q 3).val; omega, by show i.val * 1 + (q 3).val - 127 < 128; omega⟩
    refine (dif_pos hin).trans (Eq.trans ?_ (dif_pos hc).symm)
    refine congrArg x (funext fun a => Fin.ext ?_)
    match a with
    | ⟨0, _⟩ => show b.val * 1 + (q 0).val - 0 = b.val; omega
    | ⟨1, _⟩ => show c.val * 1 + (q 1).val - 0 = c.val; omega
    | ⟨2, _⟩ => show h'.val * 1 + (q 2).val - 0 = h'.val; omega
    | ⟨3, _⟩ => show i.val * 1 + (q 3).val - 127 = i.val + (q 3).val - 127; omega
  · have hn : ¬ (∀ a : Fin 4, (![0, 0, 0, 127] : Fin 4 → ℕ) a ≤ ((ix4 b c h' i : S8x16x4x128.Idx) a).val * (![1, 1, 1, 1] : Fin 4 → ℕ) a + (q a).val
        ∧ ((ix4 b c h' i : S8x16x4x128.Idx) a).val * (![1, 1, 1, 1] : Fin 4 → ℕ) a + (q a).val - (![0, 0, 0, 127] : Fin 4 → ℕ) a < S8x16x4x128.size a) := by
      intro hin
      have := (hin 3).1
      change 127 ≤ i.val * 1 + (q 3).val at this
      omega
    refine (dif_neg hn).trans (Eq.symm ?_)
    exact dif_neg hc

theorem back_eq (P : Fin 16384 → Fin 7168 → EReal) (b : Fin 8) (c : Fin 16) (i : Fin 128) (j : Fin 4) (n : Fin 1024) :
    back P (b.val * 16 + c.val) i j.val n = if h : 3 ≤ j.val + (c.val * 128 + i.val) then
      P ⟨b.val * 2048 + (j.val + (c.val * 128 + i.val) - 3), by omega⟩ ⟨3072 + n.val, by omega⟩ else 0 := by
  unfold back
  by_cases h : 3 ≤ j.val + (c.val * 128 + i.val)
  · rw [dif_pos h, if_pos (by omega)]
    exact congrArg (fun r => P r _) (Fin.ext (by dsimp only; omega))
  · rw [dif_neg h, if_neg (by omega)]

theorem R14 (i : Fin 128) :
    pre V main_v14 (ix1 i) = pos i := by
  simp only [pre_v14]
  pointwise
  exact pos_word i

theorem R19 (i j : Fin 128) :
    pre V main_v19 (ix2 i j) = pos i - pos j := by
  simp only [pre_v19, pre_v17, pre_v15, pre_v18, pre_v16]
  pointwise
  simp only [R14]

theorem R20 (h : Fin 4) :
    pre V main_v20 (ix1 h) = lg h := by
  simp only [pre_v20, pre_cst]
  pointwise
  revert h
  exact Fin.cases lg_word0 (Fin.cases lg_word1 (Fin.cases lg_word2 (Fin.cases lg_word3 fun h => h.elim0)))

theorem R36 (h : Fin 4) (i j : Fin 128) :
    pre V main_v36 (ix3 h i j) = dec (lg h) i j := by
  simp only [pre_v36, pre_call0_v1, pre_v27, pre_v26, pre_cst_1, pre_v35, pre_v34, pre_v32, pre_v30, pre_v29, pre_v28, pre_cst_2, pre_v33, pre_v31, pre_call0_v2, pre_call0_v0, pre_cst_3]
  pointwise
  simp only [R19, R20, dec, pos_sub_nonneg]
  split
  · rfl
  · exact Ideal.ofBits_zero_f32

theorem R23 (b : Fin 8) (c : Fin 16) (i : Fin 128) (h : Fin 4) (d : Fin 128) :
    pre V main_v23 (ix5 b c i h d) = rq (vP V) (b.val * 16 + c.val) h i d * scl := by
  simp only [pre_v23, pre_v21, pre_v5, pre_v1, pre_v0, pre_v22, pre_cst_0]
  pointwise
  simp only [rq, row_eq, hcol_eq 0 _ _ (by omega), Nat.zero_add]
  rfl

theorem R24 (b : Fin 8) (c : Fin 16) (i : Fin 128) (h : Fin 4) (d : Fin 128) :
    pre V main_v24 (ix5 b c i h d) = rk (vP V) (b.val * 16 + c.val) h i d := by
  simp only [pre_v24, pre_v6, pre_v1, pre_v0]
  pointwise
  simp only [rk, row_eq, hcol_eq 512 _ _ (by omega)]

theorem R25 (b : Fin 8) (c : Fin 16) (i : Fin 128) (h : Fin 4) (d : Fin 256) :
    pre V main_v25 (ix5 b c i h d) = rv (vP V) (b.val * 16 + c.val) h i d := by
  simp only [pre_v25, pre_v7, pre_v1, pre_v0]
  pointwise
  simp only [rv, row_eq, wcol_eq 1024 _ _ (by omega)]

theorem R102 (b : Fin 8) (c : Fin 16) (i : Fin 128) (h : Fin 4) (d : Fin 256) :
    pre V main_v102 (ix5 b c i h d) = mv (vP V) (b.val * 16 + c.val) h i d := by
  simp only [pre_v102, pre_v11, pre_v1, pre_v0]
  pointwise
  simp only [mv, row_eq, wcol_eq 4096 _ _ (by omega)]

theorem R42 (b : Fin 8) (c : Fin 16) (i : Fin 128) (h : Fin 4) (e : Fin 256) :
    pre V main_v42 (ix5 b c i h e) = ∑ j, rv (vP V) (b.val * 16 + c.val) h j e * retScore (lg h) (rq (vP V) (b.val * 16 + c.val) h) (rk (vP V) (b.val * 16 + c.val) h) i j := by
  simp only [pre_v42, pre_v41, pre_v40, pre_v37, pre_v39, pre_v38]
  pointwise
  simp only [R23, R24, R25, R36]
  rfl

theorem R132 (b : Fin 8) (c : Fin 16) (h : Fin 4) (d : Fin 128) (e : Fin 256) :
    pre V main_v132 (ix5 c b h d e) = ∑ j, rk (vP V) (b.val * 16 + c.val) h j d * Ideal.exp ((c127 - pos j) * lg h) * rv (vP V) (b.val * 16 + c.val) h j e := by
  simp only [pre_v132, pre_v55, pre_v54, pre_v53, pre_v52, pre_v51, pre_v50, pre_v49, pre_v47, pre_v45, pre_v44, pre_v43, pre_cst_4, pre_v48, pre_v46]
  pointwise
  simp only [R24, R25, R14, R20]
  rfl

theorem R59 (h : Fin 4) :
    pre V main_v59 (ix3 h 0 0) = Ideal.exp (c128 * lg h) := by
  simp only [pre_v59, pre_v58, pre_v57, pre_v56, pre_cst_5]
  pointwise
  simp only [R20]
  rfl

theorem R62 (b : Fin 8) (i : Fin 2051) (n : Fin 1024) :
    pre V main_v62 (ix3 b i n) = if h : 3 ≤ i.val then vP V ⟨b.val * 2048 + (i.val - 3), by omega⟩ ⟨3072 + n.val, by omega⟩ else 0 := by
  simp only [pre_v62, pre_v60, pre_v9, pre_v1, pre_v0, pre_v10, pre_call1_v0, pre_c]
  pointwise
  simp only [zero_word]
  by_cases h : 3 ≤ i.val
  · rw [dif_pos ⟨h, by omega⟩, dif_pos h]
    by_cases h' : n.val < 512
    · rw [dif_pos h']
      simp only [pre_v9, pre_v1, pre_v0]
      pointwise
    · rw [dif_neg h']
      simp only [pre_v10, pre_v1, pre_v0]
      pointwise
      exact congrArg (fun k => vP V _ k) (Fin.ext (by dsimp only; omega))
  · rw [dif_neg (fun hh => h hh.1), dif_neg h]

theorem R94 (b : Fin 8) (c : Fin 16) (i : Fin 128) (n : Fin 1024) :
    pre V main_v94 (ix3 b ⟨c.val * 128 + i.val, by omega⟩ n) = conv (vP V) (vW V) (vB V) (b.val * 16 + c.val) i n := by
  simp only [pre_v94, pre_v91, pre_v84, pre_v77, pre_v70, pre_v69, pre_cst_6, pre_v68, pre_v67, pre_v66, pre_v64, pre_v63, pre_v65, pre_v76, pre_v75, pre_v74, pre_v72, pre_v71, pre_v73, pre_v83, pre_v82, pre_v81, pre_v79, pre_v78, pre_v80, pre_v90, pre_v89, pre_v88, pre_v86, pre_v85, pre_v87, pre_v93, pre_v92, pre_v61]
  pointwise
  simp only [R62]
  have e0 := back_eq (vP V) b c i 0 n
  have e1 := back_eq (vP V) b c i 1 n
  have e2 := back_eq (vP V) b c i 2 n
  have e3 := back_eq (vP V) b c i 3 n
  simp only [Fin.val_zero, Nat.zero_add] at e0
  simp only [Fin.val_one] at e1
  simp only [Fin.val_two] at e2
  simp only [show (3 : Fin 4).val = 3 from rfl] at e3
  rw [conv, zero_add, e0, e1, e2, e3]

theorem R95 (b : Fin 8) (c : Fin 16) (i : Fin 128) (n : Fin 1024) :
    pre V main_v95 (ix3 b ⟨c.val * 128 + i.val, by omega⟩ n) = silu (conv (vP V) (vW V) (vB V) (b.val * 16 + c.val) i n) := by
  simp only [pre_v95, pre_call2_v5, pre_call2_v4, pre_call2_cst_0, pre_call2_v3, pre_call2_v2, pre_call2_cst, pre_call2_v1, pre_call2_v0]
  pointwise
  simp only [R94, Ideal.ofBits_one_f32]
  rfl

theorem R98 (b : Fin 8) (c : Fin 16) (i : Fin 128) (h : Fin 4) (d : Fin 128) :
    pre V main_v98 (ix5 b c i h d) = mq (vP V) (vW V) (vB V) (b.val * 16 + c.val) h i d := by
  simp only [pre_v98, pre_v96]
  pointwise
  simp only [R95]
  rfl

theorem R101 (b : Fin 8) (c : Fin 16) (i : Fin 128) (h : Fin 4) (d : Fin 128) :
    pre V main_v101 (ix5 b c i h d) = mk (vP V) (vW V) (vB V) (b.val * 16 + c.val) h i d * scl := by
  simp only [pre_v101, pre_v99, pre_v97, pre_v100, pre_cst_7]
  pointwise
  simp only [R95]
  rfl

theorem R105 (b : Fin 8) (c : Fin 16) (h : Fin 4) (i : Fin 128) :
    pre V main_v105 (ix4 b c h i) = ig (vG V) (vgb V) (b.val * 16 + c.val) h i := by
  simp only [pre_v105, pre_v104, pre_v103, pre_v4, pre_v3, pre_v2]
  pointwise
  simp only [ig, row_eq]

theorem R108 (b : Fin 8) (c : Fin 16) (h : Fin 4) (i : Fin 128) :
    pre V main_v108 (ix4 b c h i) = vG V (row (b.val * 16 + c.val) i) ⟨4 + h.val, by omega⟩ + vgb V ⟨4 + h.val, by omega⟩ := by
  simp only [pre_v108, pre_v107, pre_v106, pre_v4, pre_v3, pre_v2]
  pointwise
  simp only [row_eq]

theorem R109 (b : Fin 8) (c : Fin 16) (h : Fin 4) (i : Fin 128) :
    pre V main_v109 (ix4 b c h i) = logSig (vG V (row (b.val * 16 + c.val) i) ⟨4 + h.val, by omega⟩ + vgb V ⟨4 + h.val, by omega⟩) := by
  simp only [pre_v109, pre_call3_v1, pre_call3_call0_v4, pre_call3_call0_v3, pre_call3_v0, pre_call3_call0_v2, pre_call3_call0_cst, pre_call3_call0_v6, pre_call3_call0_v5, pre_call3_call0_v11, pre_call3_call0_v1, pre_call3_call0_v0, pre_call3_call0_v10, pre_call3_call0_v9, pre_call3_call0_v8, pre_call3_call0_v7]
  pointwise
  simp only [R108]
  rw [if_neg (not_not.mpr rfl)]
  rfl

theorem R110 (b : Fin 8) (c : Fin 16) (h : Fin 4) (i : Fin 128) :
    pre V main_v110 (ix4 b c h i) = bc (vG V) (vgb V) (b.val * 16 + c.val) h i := by
  simp only [pre_v110]
  rw [cumsum_last]
  · simp only [R109]
    rfl
  · simp only [pre_call4_call0_v0, pre_call4_call0_cst]
    pointwise

theorem R112 (b : Fin 8) (c : Fin 16) (h : Fin 4) :
    pre V main_v112 (ix3 b c h) = bc (vG V) (vgb V) (b.val * 16 + c.val) h 127 := by
  simp only [pre_v112, pre_v111]
  pointwise
  simp only [R110]
  try rfl

theorem R136 (b : Fin 8) (c : Fin 16) (h : Fin 4) :
    pre V main_v136 (ix3 c b h) = bc (vG V) (vgb V) (b.val * 16 + c.val) h 127 := by
  simp only [pre_v136]
  pointwise
  simp only [R112]

theorem R116 (b : Fin 8) (c : Fin 16) (h : Fin 4) (i : Fin 128) :
    pre V main_v116 (ix4 b c h i) = lw (bc (vG V) (vgb V) (b.val * 16 + c.val) h) (ig (vG V) (vgb V) (b.val * 16 + c.val) h) i := by
  simp only [pre_v116, pre_v115, pre_v114, pre_v113]
  pointwise
  simp only [R110, R112, R105]
  rfl

theorem R117 (b : Fin 8) (c : Fin 16) (h : Fin 4) :
    pre V main_v117 (ix3 b c h) = top (lw (bc (vG V) (vgb V) (b.val * 16 + c.val) h) (ig (vG V) (vgb V) (b.val * 16 + c.val) h)) := by
  simp only [pre_v117, pre_cst_8]
  pointwise
  simp only [R116, bits_bot]
  rfl

theorem R135 (b : Fin 8) (c : Fin 16) (h : Fin 4) :
    pre V main_v135 (ix3 c b h) = top (lw (bc (vG V) (vgb V) (b.val * 16 + c.val) h) (ig (vG V) (vgb V) (b.val * 16 + c.val) h)) := by
  simp only [pre_v135]
  pointwise
  simp only [R117]

theorem R125 (b : Fin 8) (c : Fin 16) (i : Fin 128) (h : Fin 4) (d : Fin 128) :
    pre V main_v125 (ix5 b c i h d) = kw (mk (vP V) (vW V) (vB V) (b.val * 16 + c.val) h) (bc (vG V) (vgb V) (b.val * 16 + c.val) h) (ig (vG V) (vgb V) (b.val * 16 + c.val) h) i d := by
  simp only [pre_v125, pre_v124, pre_v123, pre_v122, pre_v121, pre_v120, pre_v119, pre_v118]
  pointwise
  simp only [R101, R116, R117]
  rfl

theorem R133 (b : Fin 8) (c : Fin 16) (h : Fin 4) (d : Fin 128) (e : Fin 256) :
    pre V main_v133 (ix5 c b h d e) = ∑ j, kw (mk (vP V) (vW V) (vB V) (b.val * 16 + c.val) h) (bc (vG V) (vgb V) (b.val * 16 + c.val) h) (ig (vG V) (vgb V) (b.val * 16 + c.val) h) j d * mv (vP V) (b.val * 16 + c.val) h j e := by
  simp only [pre_v133, pre_v126]
  pointwise
  simp only [R125, R102]

theorem R134 (b : Fin 8) (c : Fin 16) (h : Fin 4) (d : Fin 128) :
    pre V main_v134 (ix4 c b h d) = ∑ j, kw (mk (vP V) (vW V) (vB V) (b.val * 16 + c.val) h) (bc (vG V) (vgb V) (b.val * 16 + c.val) h) (ig (vG V) (vgb V) (b.val * 16 + c.val) h) j d := by
  simp only [pre_v134, pre_v127, pre_cst_9]
  pointwise
  simp only [R125, Ideal.ofBits_zero_f32, zero_add]

theorem R128 (b : Fin 8) (h : Fin 4) (d : Fin 128) (e : Fin 256) :
    pre V main_v128 (ix4 b h d e) = (0 : EReal) := by
  simp only [pre_v128, pre_cst_10]
  pointwise

theorem R129 (b : Fin 8) (h : Fin 4) (d : Fin 128) (e : Fin 256) :
    pre V main_v129 (ix4 b h d e) = (0 : EReal) := by
  simp only [pre_v129, pre_cst_11]
  pointwise

theorem R130 (b : Fin 8) (h : Fin 4) (d : Fin 128) :
    pre V main_v130 (ix3 b h d) = (0 : EReal) := by
  simp only [pre_v130, pre_cst_12]
  pointwise

theorem R131 (b : Fin 8) (h : Fin 4) :
    pre V main_v131 (ix2 b h) = (⊥ : EReal) := by
  simp only [pre_v131, pre_cst_13]
  pointwise
  exact bits_bot

end Cert.AbMixerRefIdeal.Value

end
-- ==== Proof.MixRefLoop.lean ====
/-
  The reference's loop over the sixteen chunks of a sequence: what one trip leaves, and by induction what sixteen leave.
-/
module

public import proofs.«01_k».proof.Proof.MixRefPre
public import Idealize.ShloMosaic.Lib.DynamicIndex

@[expose] public section

set_option maxRecDepth 16384

noncomputable section

open Idealize.ShloMosaic Idealize.ShloMosaic.StableHlo Idealize.ShloMosaic.TcCoe Idealize.SL.Sem
namespace Cert.AbMixerRefIdeal.Value

open Cert.AbMixerRefIdeal Cert.AbMixerRefIdeal.Gen Cert.Mix

theorem ofNat_toInt16 (k : Fin 16) : (BitVec.ofNat 32 k.val).toInt = (k.val : ℤ) := by
  have := k.isLt
  rw [BitVec.toInt_eq_toNat_of_lt] <;> simp only [BitVec.toNat_ofNat] <;> omega

theorem dsl5 (x : S16x8x4x128x256.Idx → EReal) (cnt : (⟨S_, .i32⟩ : BufTy).Contents (Elt Ideal)) (k : Fin 16)
    (hc : cnt = fun _ => BitVec.ofNat 32 k.val) (hf : S16x8x4x128x256.Slices (fun _ => 0) S1x8x4x128x256) (b : Fin 8) (h : Fin 4) (d : Fin 128) (e : Fin 256) :
    Host.dynamicSlice S1x8x4x128x256 x (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) hf (ix5 0 b h d e) = x (ix5 k b h d e) := by
  subst hc
  have ho : S16x8x4x128x256.Slices (![k.val, 0, 0, 0, 0] : Fin 5 → ℕ) S1x8x4x128x256 := by
    refine ⟨hf.1, fun a => ?_⟩
    have := k.isLt
    fin_cases a <;> first | (show k.val + 1 ≤ 16; omega) | exact le_of_eq (Nat.zero_add _)
  rw [Host.dynamicSlice_eq_extractStridedSlice S1x8x4x128x256 x _ (![k.val, 0, 0, 0, 0] : Fin 5 → ℕ) hf ho (fun a => by
    fin_cases a <;> first | exact ofNat_toInt16 k | rfl)]
  refine congrArg x (funext fun a => Fin.ext ?_)
  fin_cases a <;> first | exact Nat.zero_add _ | exact Nat.add_zero _

theorem dus5 (x : S16x8x4x128x256.Idx → EReal) (u : S1x8x4x128x256.Idx → EReal) (cnt : (⟨S_, .i32⟩ : BufTy).Contents (Elt Ideal)) (k : Fin 16)
    (hc : cnt = fun _ => BitVec.ofNat 32 k.val) (hf : S16x8x4x128x256.Slices (fun _ => 0) S1x8x4x128x256) (c : Fin 16) (b : Fin 8) (h : Fin 4) (d : Fin 128) (e : Fin 256) :
    Host.dynamicUpdateSlice x u (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) hf (ix5 c b h d e) = if c = k then u (ix5 0 b h d e) else x (ix5 c b h d e) := by
  subst hc
  have ho : S16x8x4x128x256.Slices (![k.val, 0, 0, 0, 0] : Fin 5 → ℕ) S1x8x4x128x256 := by
    refine ⟨hf.1, fun a => ?_⟩
    have := k.isLt
    fin_cases a <;> first | (show k.val + 1 ≤ 16; omega) | exact le_of_eq (Nat.zero_add _)
  rw [Host.dynamicUpdateSlice_eq_updateSlice x u _ hf (![k.val, 0, 0, 0, 0] : Fin 5 → ℕ) (fun a => by
    have := k.isLt
    match a with
    | ⟨0, _⟩ =>
      show (min (max (BitVec.ofNat 32 k.val).toInt 0) ((16 - 1 : ℕ) : ℤ)).toNat = k.val
      rw [ofNat_toInt16 k]; omega
    | ⟨1, _⟩ =>
      show (min (max (0#32 : BitVec 32).toInt 0) ((8 - 8 : ℕ) : ℤ)).toNat = 0
      simp
    | ⟨2, _⟩ =>
      show (min (max (0#32 : BitVec 32).toInt 0) ((4 - 4 : ℕ) : ℤ)).toNat = 0
      simp
    | ⟨3, _⟩ =>
      show (min (max (0#32 : BitVec 32).toInt 0) ((128 - 128 : ℕ) : ℤ)).toNat = 0
      simp
    | ⟨4, _⟩ =>
      show (min (max (0#32 : BitVec 32).toInt 0) ((256 - 256 : ℕ) : ℤ)).toNat = 0
      simp) ho]
  unfold updateSlice
  by_cases h0 : c = k
  · subst h0
    rw [if_pos rfl]
    refine (dif_pos (fun a => ?_)).trans (congrArg u (funext fun a => Fin.ext ?_))
    · match a with
      | ⟨0, _⟩ => exact ⟨le_refl c.val, Nat.lt_succ_self c.val⟩
      | ⟨1, _⟩ => exact ⟨Nat.zero_le _, by show b.val < 0 + 8; omega⟩
      | ⟨2, _⟩ => exact ⟨Nat.zero_le _, by show h.val < 0 + 4; omega⟩
      | ⟨3, _⟩ => exact ⟨Nat.zero_le _, by show d.val < 0 + 128; omega⟩
      | ⟨4, _⟩ => exact ⟨Nat.zero_le _, by show e.val < 0 + 256; omega⟩
    · match a with
      | ⟨0, _⟩ => exact Nat.sub_self c.val
      | ⟨1, _⟩ => exact Nat.sub_zero b.val
      | ⟨2, _⟩ => exact Nat.sub_zero h.val
      | ⟨3, _⟩ => exact Nat.sub_zero d.val
      | ⟨4, _⟩ => exact Nat.sub_zero e.val
  · rw [if_neg h0]
    refine dif_neg fun hin => h0 (Fin.ext ?_)
    have h1 := hin ⟨0, by decide⟩
    have h2 : k.val ≤ c.val ∧ c.val < k.val + 1 := h1
    omega

theorem dsl4 (x : S16x8x4x128.Idx → EReal) (cnt : (⟨S_, .i32⟩ : BufTy).Contents (Elt Ideal)) (k : Fin 16)
    (hc : cnt = fun _ => BitVec.ofNat 32 k.val) (hf : S16x8x4x128.Slices (fun _ => 0) S1x8x4x128) (b : Fin 8) (h : Fin 4) (d : Fin 128) :
    Host.dynamicSlice S1x8x4x128 x (fun a => (((![cnt, constantI S_ 32 0#32, constantI S_ 32 0#32, constantI S_ 32 0#32] : Fin 4 → (⟨S_, .i32⟩ : BufTy).Contents (Elt Ideal))) a (Shape.Idx.first h_S_)).toInt) hf (ix4 0 b h d) = x (ix4 k b h d) := by
  subst hc
  have ho : S16x8x4x128.Slices (![k.val, 0, 0, 0] : Fin 4 → ℕ) S1x8x4x128 := by
    refine ⟨hf.1, fun a => ?_⟩
    have := k.isLt
    fin_cases a <;> first | (show k.val + 1 ≤ 16; omega) | exact le_of_eq (Nat.zero_add _)
  rw [Host.dynamicSlice_eq_extractStridedSlice S1x8x4x128 x _ (![k.val, 0, 0, 0] : Fin 4 → ℕ) hf ho (fun a => by
    fin_cases a <;> first | exact ofNat_toInt16 k | rfl)]
  refine congrArg x (funext fun a => Fin.ext ?_)
  fin_cases a <;> first | exact Nat.zero_add _ | exact Nat.add_zero _

theorem dus4 (x : S16x8x4x128.Idx → EReal) (u : S1x8x4x128.Idx → EReal) (cnt : (⟨S_, .i32⟩ : BufTy).Contents (Elt Ideal)) (k : Fin 16)
    (hc : cnt = fun _ => BitVec.ofNat 32 k.val) (hf : S16x8x4x128.Slices (fun _ => 0) S1x8x4x128) (c : Fin 16) (b : Fin 8) (h : Fin 4) (d : Fin 128) :
    Host.dynamicUpdateSlice x u (fun a => (((![cnt, constantI S_ 32 0#32, constantI S_ 32 0#32, constantI S_ 32 0#32] : Fin 4 → (⟨S_, .i32⟩ : BufTy).Contents (Elt Ideal))) a (Shape.Idx.first h_S_)).toInt) hf (ix4 c b h d) = if c = k then u (ix4 0 b h d) else x (ix4 c b h d) := by
  subst hc
  have ho : S16x8x4x128.Slices (![k.val, 0, 0, 0] : Fin 4 → ℕ) S1x8x4x128 := by
    refine ⟨hf.1, fun a => ?_⟩
    have := k.isLt
    fin_cases a <;> first | (show k.val + 1 ≤ 16; omega) | exact le_of_eq (Nat.zero_add _)
  rw [Host.dynamicUpdateSlice_eq_updateSlice x u _ hf (![k.val, 0, 0, 0] : Fin 4 → ℕ) (fun a => by
    have := k.isLt
    match a with
    | ⟨0, _⟩ =>
      show (min (max (BitVec.ofNat 32 k.val).toInt 0) ((16 - 1 : ℕ) : ℤ)).toNat = k.val
      rw [ofNat_toInt16 k]; omega
    | ⟨1, _⟩ =>
      show (min (max (0#32 : BitVec 32).toInt 0) ((8 - 8 : ℕ) : ℤ)).toNat = 0
      simp
    | ⟨2, _⟩ =>
      show (min (max (0#32 : BitVec 32).toInt 0) ((4 - 4 : ℕ) : ℤ)).toNat = 0
      simp
    | ⟨3, _⟩ =>
      show (min (max (0#32 : BitVec 32).toInt 0) ((128 - 128 : ℕ) : ℤ)).toNat = 0
      simp) ho]
  unfold updateSlice
  by_cases h0 : c = k
  · subst h0
    rw [if_pos rfl]
    refine (dif_pos (fun a => ?_)).trans (congrArg u (funext fun a => Fin.ext ?_))
    · match a with
      | ⟨0, _⟩ => exact ⟨le_refl c.val, Nat.lt_succ_self c.val⟩
      | ⟨1, _⟩ => exact ⟨Nat.zero_le _, by show b.val < 0 + 8; omega⟩
      | ⟨2, _⟩ => exact ⟨Nat.zero_le _, by show h.val < 0 + 4; omega⟩
      | ⟨3, _⟩ => exact ⟨Nat.zero_le _, by show d.val < 0 + 128; omega⟩
    · match a with
      | ⟨0, _⟩ => exact Nat.sub_self c.val
      | ⟨1, _⟩ => exact Nat.sub_zero b.val
      | ⟨2, _⟩ => exact Nat.sub_zero h.val
      | ⟨3, _⟩ => exact Nat.sub_zero d.val
  · rw [if_neg h0]
    refine dif_neg fun hin => h0 (Fin.ext ?_)
    have h1 := hin ⟨0, by decide⟩
    have h2 : k.val ≤ c.val ∧ c.val < k.val + 1 := h1
    omega

theorem dsl3 (x : S16x8x4.Idx → EReal) (cnt : (⟨S_, .i32⟩ : BufTy).Contents (Elt Ideal)) (k : Fin 16)
    (hc : cnt = fun _ => BitVec.ofNat 32 k.val) (hf : S16x8x4.Slices (fun _ => 0) S1x8x4) (b : Fin 8) (h : Fin 4) :
    Host.dynamicSlice S1x8x4 x (fun a => (((![cnt, constantI S_ 32 0#32, constantI S_ 32 0#32] : Fin 3 → (⟨S_, .i32⟩ : BufTy).Contents (Elt Ideal))) a (Shape.Idx.first h_S_)).toInt) hf (ix3 0 b h) = x (ix3 k b h) := by
  subst hc
  have ho : S16x8x4.Slices (![k.val, 0, 0] : Fin 3 → ℕ) S1x8x4 := by
    refine ⟨hf.1, fun a => ?_⟩
    have := k.isLt
    fin_cases a <;> first | (show k.val + 1 ≤ 16; omega) | exact le_of_eq (Nat.zero_add _)
  rw [Host.dynamicSlice_eq_extractStridedSlice S1x8x4 x _ (![k.val, 0, 0] : Fin 3 → ℕ) hf ho (fun a => by
    fin_cases a <;> first | exact ofNat_toInt16 k | rfl)]
  refine congrArg x (funext fun a => Fin.ext ?_)
  fin_cases a <;> first | exact Nat.zero_add _ | exact Nat.add_zero _

theorem dus3 (x : S16x8x4.Idx → EReal) (u : S1x8x4.Idx → EReal) (cnt : (⟨S_, .i32⟩ : BufTy).Contents (Elt Ideal)) (k : Fin 16)
    (hc : cnt = fun _ => BitVec.ofNat 32 k.val) (hf : S16x8x4.Slices (fun _ => 0) S1x8x4) (c : Fin 16) (b : Fin 8) (h : Fin 4) :
    Host.dynamicUpdateSlice x u (fun a => (((![cnt, constantI S_ 32 0#32, constantI S_ 32 0#32] : Fin 3 → (⟨S_, .i32⟩ : BufTy).Contents (Elt Ideal))) a (Shape.Idx.first h_S_)).toInt) hf (ix3 c b h) = if c = k then u (ix3 0 b h) else x (ix3 c b h) := by
  subst hc
  have ho : S16x8x4.Slices (![k.val, 0, 0] : Fin 3 → ℕ) S1x8x4 := by
    refine ⟨hf.1, fun a => ?_⟩
    have := k.isLt
    fin_cases a <;> first | (show k.val + 1 ≤ 16; omega) | exact le_of_eq (Nat.zero_add _)
  rw [Host.dynamicUpdateSlice_eq_updateSlice x u _ hf (![k.val, 0, 0] : Fin 3 → ℕ) (fun a => by
    have := k.isLt
    match a with
    | ⟨0, _⟩ =>
      show (min (max (BitVec.ofNat 32 k.val).toInt 0) ((16 - 1 : ℕ) : ℤ)).toNat = k.val
      rw [ofNat_toInt16 k]; omega
    | ⟨1, _⟩ =>
      show (min (max (0#32 : BitVec 32).toInt 0) ((8 - 8 : ℕ) : ℤ)).toNat = 0
      simp
    | ⟨2, _⟩ =>
      show (min (max (0#32 : BitVec 32).toInt 0) ((4 - 4 : ℕ) : ℤ)).toNat = 0
      simp) ho]
  unfold updateSlice
  by_cases h0 : c = k
  · subst h0
    rw [if_pos rfl]
    refine (dif_pos (fun a => ?_)).trans (congrArg u (funext fun a => Fin.ext ?_))
    · match a with
      | ⟨0, _⟩ => exact ⟨le_refl c.val, Nat.lt_succ_self c.val⟩
      | ⟨1, _⟩ => exact ⟨Nat.zero_le _, by show b.val < 0 + 8; omega⟩
      | ⟨2, _⟩ => exact ⟨Nat.zero_le _, by show h.val < 0 + 4; omega⟩
    · match a with
      | ⟨0, _⟩ => exact Nat.sub_self c.val
      | ⟨1, _⟩ => exact Nat.sub_zero b.val
      | ⟨2, _⟩ => exact Nat.sub_zero h.val
  · rw [if_neg h0]
    refine dif_neg fun hin => h0 (Fin.ext ?_)
    have h1 := hin ⟨0, by decide⟩
    have h2 : k.val ≤ c.val ∧ c.val < k.val + 1 := h1
    omega

theorem dsf5 (x : S16x8x4x128x256.Idx → EReal) (cnt : (⟨S_, .i32⟩ : BufTy).Contents (Elt Ideal)) (k : Fin 16)
    (hc : cnt = fun _ => BitVec.ofNat 32 k.val) (hf : S16x8x4x128x256.Slices (fun _ => 0) S1x8x4x128x256) :
    Host.dynamicSlice S1x8x4x128x256 x (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) hf = fun j => x (ix5 k (j 1) (j 2) (j 3) (j 4)) := by
  funext j
  have hj : j = ix5 (0 : Fin 1) (j 1 : Fin 8) (j 2 : Fin 4) (j 3 : Fin 128) (j 4 : Fin 256) := (ValueIdx.eq_ix5 j).trans
    (congrArg (fun z : Fin 1 => ix5 z (j 1 : Fin 8) (j 2 : Fin 4) (j 3 : Fin 128) (j 4 : Fin 256)) (Subsingleton.elim (α := Fin 1) (j 0) 0))
  exact (congrArg (Host.dynamicSlice S1x8x4x128x256 x (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) hf) hj).trans (dsl5 x cnt k hc hf (j 1) (j 2) (j 3) (j 4))

theorem dsf4 (x : S16x8x4x128.Idx → EReal) (cnt : (⟨S_, .i32⟩ : BufTy).Contents (Elt Ideal)) (k : Fin 16)
    (hc : cnt = fun _ => BitVec.ofNat 32 k.val) (hf : S16x8x4x128.Slices (fun _ => 0) S1x8x4x128) :
    Host.dynamicSlice S1x8x4x128 x (fun a => (((![cnt, constantI S_ 32 0#32, constantI S_ 32 0#32, constantI S_ 32 0#32] : Fin 4 → (⟨S_, .i32⟩ : BufTy).Contents (Elt Ideal))) a (Shape.Idx.first h_S_)).toInt) hf = fun j => x (ix4 k (j 1) (j 2) (j 3)) := by
  funext j
  have hj : j = ix4 (0 : Fin 1) (j 1 : Fin 8) (j 2 : Fin 4) (j 3 : Fin 128) := (ValueIdx.eq_ix4 j).trans
    (congrArg (fun z : Fin 1 => ix4 z (j 1 : Fin 8) (j 2 : Fin 4) (j 3 : Fin 128)) (Subsingleton.elim (α := Fin 1) (j 0) 0))
  exact (congrArg (Host.dynamicSlice S1x8x4x128 x (fun a => (((![cnt, constantI S_ 32 0#32, constantI S_ 32 0#32, constantI S_ 32 0#32] : Fin 4 → (⟨S_, .i32⟩ : BufTy).Contents (Elt Ideal))) a (Shape.Idx.first h_S_)).toInt) hf) hj).trans (dsl4 x cnt k hc hf (j 1) (j 2) (j 3))

theorem dsf3 (x : S16x8x4.Idx → EReal) (cnt : (⟨S_, .i32⟩ : BufTy).Contents (Elt Ideal)) (k : Fin 16)
    (hc : cnt = fun _ => BitVec.ofNat 32 k.val) (hf : S16x8x4.Slices (fun _ => 0) S1x8x4) :
    Host.dynamicSlice S1x8x4 x (fun a => (((![cnt, constantI S_ 32 0#32, constantI S_ 32 0#32] : Fin 3 → (⟨S_, .i32⟩ : BufTy).Contents (Elt Ideal))) a (Shape.Idx.first h_S_)).toInt) hf = fun j => x (ix3 k (j 1) (j 2)) := by
  funext j
  have hj : j = ix3 (0 : Fin 1) (j 1 : Fin 8) (j 2 : Fin 4) := (ValueIdx.eq_ix3 j).trans
    (congrArg (fun z : Fin 1 => ix3 z (j 1 : Fin 8) (j 2 : Fin 4)) (Subsingleton.elim (α := Fin 1) (j 0) 0))
  exact (congrArg (Host.dynamicSlice S1x8x4 x (fun a => (((![cnt, constantI S_ 32 0#32, constantI S_ 32 0#32] : Fin 3 → (⟨S_, .i32⟩ : BufTy).Contents (Elt Ideal))) a (Shape.Idx.first h_S_)).toInt) hf) hj).trans (dsl3 x cnt k hc hf (j 1) (j 2))

theorem G3 (x : FVec Ideal S16x8x4 .f32) (cnt : (⟨S_, .i32⟩ : BufTy).Contents (Elt Ideal)) (k : Fin 16) (hc : cnt = fun _ => BitVec.ofNat 32 k.val) (b : Fin 8) (h : Fin 4) :
    (shapeCast S8x4 (Host.dynamicSlice S1x8x4 x (fun a => (((![cnt, constantI S_ 32 0#32, constantI S_ 32 0#32] : Fin 3 → (⟨S_, .i32⟩ : BufTy).Contents (Elt Ideal))) a (Shape.Idx.first h_S_)).toInt) sliceFits_S16x8x4_S1x8x4) shapeCasts_S1x8x4_S8x4 : FVec Ideal S8x4 .f32) (ix2 b h) = x (ix3 k b h) := by
  rw [dsf3 x cnt k hc]
  pointwise

theorem G7 (x7 : FVec Ideal S8x4x128x256 .f32) (x5 : FVec Ideal S4x1x1 .f32) (x0 : FVec Ideal S16x8x4x128x256 .f32) (cnt : (⟨S_, .i32⟩ : BufTy).Contents (Elt Ideal)) (k : Fin 16) (hc : cnt = fun _ => BitVec.ofNat 32 k.val)
    (b : Fin 8) (h : Fin 4) (d : Fin 128) (e : Fin 256) :
    (addf (mulf x7 (broadcastInDim S8x4x128x256 ![0, 1, 2, 3] bcast_S1x4x1x1_S8x4x128x256_0_1_2_3 (broadcastInDim S1x4x1x1 ![1, 2, 3] bcast_S4x1x1_S1x4x1x1_1_2_3 x5)))
      (shapeCast S8x4x128x256 (Host.dynamicSlice S1x8x4x128x256 x0 (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) sliceFits_S16x8x4x128x256_S1x8x4x128x256) shapeCasts_S1x8x4x128x256_S8x4x128x256) : FVec Ideal S8x4x128x256 .f32) (ix4 b h d e)
      = x7 (ix4 b h d e) * x5 (ix3 h 0 0) + x0 (ix5 k b h d e) := by
  rw [dsf5 x0 cnt k hc]
  pointwise

theorem G8 (p q : FVec Ideal S8x4 .f32) (x8 : FVec Ideal S8x4x128x256 .f32) (x0 : FVec Ideal S16x8x4x128x256 .f32) (cnt : (⟨S_, .i32⟩ : BufTy).Contents (Elt Ideal)) (k : Fin 16) (hc : cnt = fun _ => BitVec.ofNat 32 k.val)
    (b : Fin 8) (h : Fin 4) (d : Fin 128) (e : Fin 256) :
    (addf (mulf (broadcastInDim S8x4x128x256 ![0, 1, 2, 3] bcast_S8x4x1x1_S8x4x128x256_0_1_2_3 (broadcastInDim S8x4x1x1 ![0, 1] bcast_S8x4_S8x4x1x1_0_1 p)) x8)
      (mulf (broadcastInDim S8x4x128x256 ![0, 1, 2, 3] bcast_S8x4x1x1_S8x4x128x256_0_1_2_3 (broadcastInDim S8x4x1x1 ![0, 1] bcast_S8x4_S8x4x1x1_0_1 q))
      (shapeCast S8x4x128x256 (Host.dynamicSlice S1x8x4x128x256 x0 (fun a => (((![cnt, constantI S_ 32 0#32, constantI S_ 32 0#32, constantI S_ 32 0#32, constantI S_ 32 0#32] : Fin 5 → (⟨S_, .i32⟩ : BufTy).Contents (Elt Ideal))) a (Shape.Idx.first h_S_)).toInt) sliceFits_S16x8x4x128x256_S1x8x4x128x256) shapeCasts_S1x8x4x128x256_S8x4x128x256)) : FVec Ideal S8x4x128x256 .f32) (ix4 b h d e)
      = p (ix2 b h) * x8 (ix4 b h d e) + q (ix2 b h) * x0 (ix5 k b h d e) := by
  rw [dsf5 x0 cnt k hc]
  pointwise

theorem G9 (p q : FVec Ideal S8x4 .f32) (x9 : FVec Ideal S8x4x128 .f32) (x0 : FVec Ideal S16x8x4x128 .f32) (cnt : (⟨S_, .i32⟩ : BufTy).Contents (Elt Ideal)) (k : Fin 16) (hc : cnt = fun _ => BitVec.ofNat 32 k.val)
    (b : Fin 8) (h : Fin 4) (d : Fin 128) :
    (addf (mulf (broadcastInDim S8x4x128 ![0, 1, 2] bcast_S8x4x1_S8x4x128_0_1_2 (broadcastInDim S8x4x1 ![0, 1] bcast_S8x4_S8x4x1_0_1 p)) x9)
      (mulf (broadcastInDim S8x4x128 ![0, 1, 2] bcast_S8x4x1_S8x4x128_0_1_2 (broadcastInDim S8x4x1 ![0, 1] bcast_S8x4_S8x4x1_0_1 q))
      (shapeCast S8x4x128 (Host.dynamicSlice S1x8x4x128 x0 (fun a => (((![cnt, constantI S_ 32 0#32, constantI S_ 32 0#32, constantI S_ 32 0#32] : Fin 4 → (⟨S_, .i32⟩ : BufTy).Contents (Elt Ideal))) a (Shape.Idx.first h_S_)).toInt) sliceFits_S16x8x4x128_S1x8x4x128) shapeCasts_S1x8x4x128_S8x4x128)) : FVec Ideal S8x4x128 .f32) (ix3 b h d)
      = p (ix2 b h) * x9 (ix3 b h d) + q (ix2 b h) * x0 (ix4 k b h d) := by
  rw [dsf4 x0 cnt k hc]
  pointwise

variable (X : Valuation τ sig (Elt Ideal)) (k : Fin 16) (hc : X (Proc.devRef .tc main_v141_6) = fun _ => BitVec.ofNat 32 k.val)

/-! The buffers that a trip carries, read as arrays. -/
abbrev c0 : S16x8x4x128x256.Idx → EReal := X (Proc.devRef .tc main_v141_0)
abbrev c1 : S16x8x4x128x256.Idx → EReal := X (Proc.devRef .tc main_v141_1)
abbrev c2 : S16x8x4x128.Idx → EReal := X (Proc.devRef .tc main_v141_2)
abbrev c3 : S16x8x4.Idx → EReal := X (Proc.devRef .tc main_v141_3)
abbrev c4 : S16x8x4.Idx → EReal := X (Proc.devRef .tc main_v141_4)
abbrev c5 : S4x1x1.Idx → EReal := X (Proc.devRef .tc main_v141_5)
abbrev c7 : S8x4x128x256.Idx → EReal := X (Proc.devRef .tc main_v141_7)
abbrev c8 : S8x4x128x256.Idx → EReal := X (Proc.devRef .tc main_v141_8)
abbrev c9 : S8x4x128.Idx → EReal := X (Proc.devRef .tc main_v141_9)
abbrev c10 : S8x4.Idx → EReal := X (Proc.devRef .tc main_v141_10)
abbrev c11 : S16x8x4x128x256.Idx → EReal := X (Proc.devRef .tc main_v141_11)
abbrev c12 : S16x8x4x128x256.Idx → EReal := X (Proc.devRef .tc main_v141_12)
abbrev c13 : S16x8x4x128.Idx → EReal := X (Proc.devRef .tc main_v141_13)
abbrev c14 : S16x8x4.Idx → EReal := X (Proc.devRef .tc main_v141_14)
abbrev p270 : S8x4.Idx → EReal := res_main_while0b_v270 X
abbrev p271 : S8x4.Idx → EReal := res_main_while0b_v271 X
abbrev p273 : S8x4.Idx → EReal := res_main_while0b_v273 X
abbrev p276 : S8x4.Idx → EReal := res_main_while0b_v276 X
abbrev p278 : S8x4.Idx → EReal := res_main_while0b_v278 X

include hc in
theorem L6 : step_main_v141_6 X = fun _ => BitVec.ofNat 32 (k.val + 1) := by
  unfold step_main_v141_6
  rw [hc]
  funext i
  exact (BitVec.ofNat_add k.val 1).symm

include hc in
theorem L270 (b : Fin 8) (h : Fin 4) : p270 X (ix2 b h) = c3 X (ix3 k b h) := by
  unfold p270 res_main_while0b_v270
  exact G3 _ _ k hc b h

include hc in
theorem L271 (b : Fin 8) (h : Fin 4) : p271 X (ix2 b h) = c4 X (ix3 k b h) := by
  unfold p271 res_main_while0b_v271
  exact G3 _ _ k hc b h

include hc in
theorem L273 (b : Fin 8) (h : Fin 4) : p273 X (ix2 b h)
    = (max (c4 X (ix3 k b h) + c10 X (ix2 b h) : EReal) (c3 X (ix3 k b h)) : EReal) := by
  rw [← L271 X k hc, ← L270 X k hc]
  rfl

include hc in
theorem L276 (b : Fin 8) (h : Fin 4) : p276 X (ix2 b h)
    = (Ideal.exp ((c4 X (ix3 k b h) + c10 X (ix2 b h) : EReal)
      - (max (c4 X (ix3 k b h) + c10 X (ix2 b h) : EReal) (c3 X (ix3 k b h)) : EReal)) : EReal) := by
  rw [← L273 X k hc, ← L271 X k hc]
  rfl

include hc in
theorem L278 (b : Fin 8) (h : Fin 4) : p278 X (ix2 b h)
    = (Ideal.exp ((c3 X (ix3 k b h) : EReal)
      - (max (c4 X (ix3 k b h) + c10 X (ix2 b h) : EReal) (c3 X (ix3 k b h)) : EReal)) : EReal) := by
  rw [← L273 X k hc, ← L270 X k hc]
  rfl

include hc in
theorem L7 (b : Fin 8) (h : Fin 4) (d : Fin 128) (e : Fin 256) : (show S8x4x128x256.Idx → EReal from step_main_v141_7 X) (ix4 b h d e)
    = c7 X (ix4 b h d e) * c5 X (ix3 h 0 0) + c0 X (ix5 k b h d e) := by
  unfold step_main_v141_7
  exact G7 _ _ _ _ k hc b h d e

include hc in
theorem L8 (b : Fin 8) (h : Fin 4) (d : Fin 128) (e : Fin 256) : (show S8x4x128x256.Idx → EReal from step_main_v141_8 X) (ix4 b h d e)
    = p276 X (ix2 b h) * c8 X (ix4 b h d e) + p278 X (ix2 b h) * c1 X (ix5 k b h d e) := by
  unfold step_main_v141_8
  exact G8 _ _ _ _ _ k hc b h d e

include hc in
theorem L9 (b : Fin 8) (h : Fin 4) (d : Fin 128) : (show S8x4x128.Idx → EReal from step_main_v141_9 X) (ix3 b h d)
    = p276 X (ix2 b h) * c9 X (ix3 b h d) + p278 X (ix2 b h) * c2 X (ix4 k b h d) := by
  unfold step_main_v141_9
  exact G9 _ _ _ _ _ k hc b h d

include hc in
theorem L11 (c : Fin 16) (b : Fin 8) (h : Fin 4) (d : Fin 128) (e : Fin 256) : step_main_v141_11 X (ix5 c b h d e)
    = if c = k then c7 X (ix4 b h d e) else c11 X (ix5 c b h d e) := by
  unfold step_main_v141_11
  refine (dus5 (c11 X) (broadcastInDim S1x8x4x128x256 ![1, 2, 3, 4] bcast_S8x4x128x256_S1x8x4x128x256_1_2_3_4 (c7 X)) _ k hc _ c b h d e).trans ?_
  by_cases h0 : c = k
  · rw [if_pos h0, if_pos h0]; pointwise
  · rw [if_neg h0, if_neg h0]

include hc in
theorem L12 (c : Fin 16) (b : Fin 8) (h : Fin 4) (d : Fin 128) (e : Fin 256) : step_main_v141_12 X (ix5 c b h d e)
    = if c = k then c8 X (ix4 b h d e) else c12 X (ix5 c b h d e) := by
  unfold step_main_v141_12
  refine (dus5 (c12 X) (broadcastInDim S1x8x4x128x256 ![1, 2, 3, 4] bcast_S8x4x128x256_S1x8x4x128x256_1_2_3_4 (c8 X)) _ k hc _ c b h d e).trans ?_
  by_cases h0 : c = k
  · rw [if_pos h0, if_pos h0]; pointwise
  · rw [if_neg h0, if_neg h0]

include hc in
theorem L13 (c : Fin 16) (b : Fin 8) (h : Fin 4) (d : Fin 128) : step_main_v141_13 X (ix4 c b h d)
    = if c = k then c9 X (ix3 b h d) else c13 X (ix4 c b h d) := by
  unfold step_main_v141_13
  refine (dus4 (c13 X) (broadcastInDim S1x8x4x128 ![1, 2, 3] bcast_S8x4x128_S1x8x4x128_1_2_3 (c9 X)) _ k hc _ c b h d).trans ?_
  by_cases h0 : c = k
  · rw [if_pos h0, if_pos h0]; pointwise
  · rw [if_neg h0, if_neg h0]

include hc in
theorem L14 (c : Fin 16) (b : Fin 8) (h : Fin 4) : step_main_v141_14 X (ix3 c b h)
    = if c = k then c10 X (ix2 b h) else c14 X (ix3 c b h) := by
  unfold step_main_v141_14
  refine (dus3 (c14 X) (broadcastInDim S1x8x4 ![1, 2] bcast_S8x4_S1x8x4_1_2 (c10 X)) _ k hc _ c b h).trans ?_
  by_cases h0 : c = k
  · rw [if_pos h0, if_pos h0]; pointwise
  · rw [if_neg h0, if_neg h0]

variable (V : Valuation τ sig (Elt Ideal))

/-- What the carried buffers hold before trip `k`, from the contents `V` that the program starts from. -/
structure Inv (k : ℕ) (X : Valuation τ sig (Elt Ideal)) : Prop where
  i6 : X (Proc.devRef .tc main_v141_6) = fun _ => BitVec.ofNat 32 k
  i0 : ∀ (c : Fin 16) (b : Fin 8) (h : Fin 4) (d : Fin 128) (e : Fin 256), c0 X (ix5 c b h d e) = pre V main_v132 (ix5 c b h d e)
  i1 : ∀ (c : Fin 16) (b : Fin 8) (h : Fin 4) (d : Fin 128) (e : Fin 256), c1 X (ix5 c b h d e) = pre V main_v133 (ix5 c b h d e)
  i2 : ∀ (c : Fin 16) (b : Fin 8) (h : Fin 4) (d : Fin 128), c2 X (ix4 c b h d) = pre V main_v134 (ix4 c b h d)
  i3 : ∀ (c : Fin 16) (b : Fin 8) (h : Fin 4), c3 X (ix3 c b h) = pre V main_v135 (ix3 c b h)
  i4 : ∀ (c : Fin 16) (b : Fin 8) (h : Fin 4), c4 X (ix3 c b h) = pre V main_v136 (ix3 c b h)
  i5 : ∀ (h : Fin 4), c5 X (ix3 h 0 0) = pre V main_v59 (ix3 h 0 0)
  i7 : k < 16 → ∀ (b : Fin 8) (h : Fin 4) (d : Fin 128) (e : Fin 256), c7 X (ix4 b h d e) = stR (vP V) h (b.val * 16 + k) d e
  i8 : k < 16 → ∀ (b : Fin 8) (h : Fin 4) (d : Fin 128) (e : Fin 256), c8 X (ix4 b h d e) = sC (vP V) (vG V) (vW V) (vB V) (vgb V) h (b.val * 16 + k) d e
  i9 : k < 16 → ∀ (b : Fin 8) (h : Fin 4) (d : Fin 128), c9 X (ix3 b h d) = sN (vP V) (vG V) (vW V) (vB V) (vgb V) h (b.val * 16 + k) d
  i10 : k < 16 → ∀ (b : Fin 8) (h : Fin 4), c10 X (ix2 b h) = sM (vG V) (vgb V) h (b.val * 16 + k)
  i11 : ∀ (c : Fin 16), c.val < k → ∀ (b : Fin 8) (h : Fin 4) (d : Fin 128) (e : Fin 256), c11 X (ix5 c b h d e) = stR (vP V) h (b.val * 16 + c.val) d e
  i12 : ∀ (c : Fin 16), c.val < k → ∀ (b : Fin 8) (h : Fin 4) (d : Fin 128) (e : Fin 256), c12 X (ix5 c b h d e) = sC (vP V) (vG V) (vW V) (vB V) (vgb V) h (b.val * 16 + c.val) d e
  i13 : ∀ (c : Fin 16), c.val < k → ∀ (b : Fin 8) (h : Fin 4) (d : Fin 128), c13 X (ix4 c b h d) = sN (vP V) (vG V) (vW V) (vB V) (vgb V) h (b.val * 16 + c.val) d
  i14 : ∀ (c : Fin 16), c.val < k → ∀ (b : Fin 8) (h : Fin 4), c14 X (ix3 c b h) = sM (vG V) (vgb V) h (b.val * 16 + c.val)

theorem stR_succ (h : Fin 4) (t : ℕ) (ht : (t + 1) % 16 ≠ 0) : stR (vP V) h (t + 1) = retStep (lg h) (rk (vP V) t h) (rv (vP V) t h) (stR (vP V) h t) := by
  rw [stR, if_neg ht]

theorem sM_succ (h : Fin 4) (t : ℕ) (ht : (t + 1) % 16 ≠ 0) : sM (vG V) (vgb V) h (t + 1) = stM (bc (vG V) (vgb V) t h) (ig (vG V) (vgb V) t h) (sM (vG V) (vgb V) h t) := by
  rw [sM, if_neg ht]

theorem sC_succ (h : Fin 4) (t : ℕ) (ht : (t + 1) % 16 ≠ 0) : sC (vP V) (vG V) (vW V) (vB V) (vgb V) h (t + 1)
    = stC (mk (vP V) (vW V) (vB V) t h) (mv (vP V) t h) (bc (vG V) (vgb V) t h) (ig (vG V) (vgb V) t h) (sM (vG V) (vgb V) h t) (sC (vP V) (vG V) (vW V) (vB V) (vgb V) h t) := by
  rw [sC, if_neg ht]

theorem sN_succ (h : Fin 4) (t : ℕ) (ht : (t + 1) % 16 ≠ 0) : sN (vP V) (vG V) (vW V) (vB V) (vgb V) h (t + 1)
    = stN (mk (vP V) (vW V) (vB V) t h) (bc (vG V) (vgb V) t h) (ig (vG V) (vgb V) t h) (sM (vG V) (vgb V) h t) (sN (vP V) (vG V) (vW V) (vB V) (vgb V) h t) := by
  rw [sN, if_neg ht]

theorem st_start (t : ℕ) (ht : t % 16 = 0) (h : Fin 4) : stR (vP V) h t = (fun _ _ => 0) ∧ sM (vG V) (vgb V) h t = ⊥
    ∧ sC (vP V) (vG V) (vW V) (vB V) (vgb V) h t = (fun _ _ => 0) ∧ sN (vP V) (vG V) (vW V) (vB V) (vgb V) h t = (fun _ => 0) := by
  cases t with
  | zero => exact ⟨rfl, rfl, rfl, rfl⟩
  | succ t => exact ⟨by rw [stR, if_pos ht], by rw [sM, if_pos ht], by rw [sC, if_pos ht], by rw [sN, if_pos ht]⟩

/-- One trip. -/
theorem Inv.step {k : ℕ} (hk : k < 16) {X : Valuation τ sig (Elt Ideal)} (I : Inv V k X) : Inv V (k + 1) (STEP X) := by
  have hc : X (Proc.devRef .tc main_v141_6) = fun _ => BitVec.ofNat 32 (⟨k, hk⟩ : Fin 16).val := I.i6
  constructor
  · rw [STEP_main_v141_6]; exact L6 X ⟨k, hk⟩ hc
  · intro c b h d e; have E := STEP_main_v141_0 X; unfold c0; rw [E]; exact I.i0 c b h d e
  · intro c b h d e; have E := STEP_main_v141_1 X; unfold c1; rw [E]; exact I.i1 c b h d e
  · intro c b h d; have E := STEP_main_v141_2 X; unfold c2; rw [E]; exact I.i2 c b h d
  · intro c b h; have E := STEP_main_v141_3 X; unfold c3; rw [E]; exact I.i3 c b h
  · intro c b h; have E := STEP_main_v141_4 X; unfold c4; rw [E]; exact I.i4 c b h
  · intro h; have E := STEP_main_v141_5 X; unfold c5; rw [E]; exact I.i5 h
  · intro hk' b h d e
    unfold c7
    rw [STEP_main_v141_7 X]
    refine (L7 X ⟨k, hk⟩ hc b h d e).trans ?_
    rw [I.i7 hk, I.i5, I.i0, R59, R132, ← Nat.add_assoc, stR_succ V h _ (by omega)]
    rfl
  · intro hk' b h d e
    unfold c8
    rw [STEP_main_v141_8 X]
    refine (L8 X ⟨k, hk⟩ hc b h d e).trans ?_
    rw [L276 X ⟨k, hk⟩ hc, L278 X ⟨k, hk⟩ hc, I.i8 hk, I.i10 hk, I.i3, I.i4, I.i1, R135, R136, R133, ← Nat.add_assoc, sC_succ V h _ (by omega)]
    rfl
  · intro hk' b h d
    unfold c9
    rw [STEP_main_v141_9 X]
    refine (L9 X ⟨k, hk⟩ hc b h d).trans ?_
    rw [L276 X ⟨k, hk⟩ hc, L278 X ⟨k, hk⟩ hc, I.i9 hk, I.i10 hk, I.i3, I.i4, I.i2, R135, R136, R134, ← Nat.add_assoc, sN_succ V h _ (by omega)]
    rfl
  · intro hk' b h
    unfold c10
    rw [STEP_main_v141_10 X]
    refine (L273 X ⟨k, hk⟩ hc b h).trans ?_
    rw [I.i10 hk, I.i3, I.i4, R135, R136, ← Nat.add_assoc, sM_succ V h _ (by omega)]
    rfl
  · intro c hck b h d e
    unfold c11
    rw [STEP_main_v141_11 X]
    refine (L11 X ⟨k, hk⟩ hc c b h d e).trans ?_
    by_cases h0 : c = ⟨k, hk⟩
    · rw [if_pos h0, I.i7 hk, h0]
    · rw [if_neg h0]; exact I.i11 c (by have : c.val ≠ k := fun h => h0 (Fin.ext h); omega) b h d e
  · intro c hck b h d e
    unfold c12
    rw [STEP_main_v141_12 X]
    refine (L12 X ⟨k, hk⟩ hc c b h d e).trans ?_
    by_cases h0 : c = ⟨k, hk⟩
    · rw [if_pos h0, I.i8 hk, h0]
    · rw [if_neg h0]; exact I.i12 c (by have : c.val ≠ k := fun h => h0 (Fin.ext h); omega) b h d e
  · intro c hck b h d
    unfold c13
    rw [STEP_main_v141_13 X]
    refine (L13 X ⟨k, hk⟩ hc c b h d).trans ?_
    by_cases h0 : c = ⟨k, hk⟩
    · rw [if_pos h0, I.i9 hk, h0]
    · rw [if_neg h0]; exact I.i13 c (by have : c.val ≠ k := fun h => h0 (Fin.ext h); omega) b h d
  · intro c hck b h
    unfold c14
    rw [STEP_main_v141_14 X]
    refine (L14 X ⟨k, hk⟩ hc c b h).trans ?_
    by_cases h0 : c = ⟨k, hk⟩
    · rw [if_pos h0, I.i10 hk, h0]
    · rw [if_neg h0]; exact I.i14 c (by have : c.val ≠ k := fun h => h0 (Fin.ext h); omega) b h

/-! ### The whole loop -/

theorem entry_pre (m : (ℓ : Loc nD τ sig) → Buf (Elt Ideal) ℓ) (c : Dev nD) (r : Ref sig .tc) :
    entryContents preI m c (Proc.devRef .tc r) = pre (launchContents m c) r := by
  unfold pre entryContents
  rw [afterL_eq_after_flatten]

/-- What a trip writes. -/
def tripW : List (Ref sig .tc) := while0Ops0_W ++ (while0Ops0_1_W ++ (while0Ops0_2_W ++ (while0Ops0_3_W ++ (while0Ops0_4_W
  ++ (while0Ops0_5_W ++ (while0Ops0_6_W ++ (while0Ops0_7_W ++ (while0Ops0_8_W ++ (while0Ops0_9_W ++ while0Ops0_10_W)))))))))

theorem trip_writes : ((bodyI : List (List (HloOp τ sig (Elt Ideal)))).flatten).map HloOp.writes = tripW.map fun w => {Proc.devRef (τ := τ) .tc w} := rfl

theorem cond_writes : (condOps : List (HloOp τ sig (Elt Ideal))).map HloOp.writes = condOps_W.map fun w => {Proc.devRef (τ := τ) .tc w} := rfl

theorem loop_keep (m : (ℓ : Loc nD τ sig) → Buf (Elt Ideal) ℓ) (c : Dev nD) {r : Ref sig .tc} (h1 : r ∉ tripW) (h2 : r ∉ condOps_W) :
    ∀ k, atK m k c (Proc.devRef .tc r) = pre (launchContents m c) r
  | 0 => entry_pre m c r
  | k + 1 => by
    rw [show atK m (k + 1) c = afterL bodyI (after condOps (atK m k c)) from rfl, afterL_eq_after_flatten,
      StableHlo.after_unwritten tripW trip_writes h1, StableHlo.after_unwritten condOps_W cond_writes h2]
    exact loop_keep m c h1 h2 k

theorem Inv.zero (m : (ℓ : Loc nD τ sig) → Buf (Elt Ideal) ℓ) (c : Dev nD) : Inv (launchContents m c) 0 (entryContents preI m c) := by
  have hst := fun (b : Fin 8) h => st_start (launchContents m c) (b.val * 16 + 0) (by omega) h
  constructor
  · exact ctr_entry m c
  · intro c' b h d e; unfold c0; rw [entry_pre, pre_v141_0]; rfl
  · intro c' b h d e; unfold c1; rw [entry_pre, pre_v141_1]; rfl
  · intro c' b h d; unfold c2; rw [entry_pre, pre_v141_2]; rfl
  · intro c' b h; unfold c3; rw [entry_pre, pre_v141_3]; rfl
  · intro c' b h; unfold c4; rw [entry_pre, pre_v141_4]; rfl
  · intro h; unfold c5; rw [entry_pre, pre_v141_5]; rfl
  · intro _ b h d e; unfold c7; rw [entry_pre, pre_v141_7, (hst b h).1]; exact R128 _ b h d e
  · intro _ b h d e; unfold c8; rw [entry_pre, pre_v141_8, (hst b h).2.2.1]; exact R129 _ b h d e
  · intro _ b h d; unfold c9; rw [entry_pre, pre_v141_9, (hst b h).2.2.2]; exact R130 _ b h d
  · intro _ b h; unfold c10; rw [entry_pre, pre_v141_10, (hst b h).2.1]; exact R131 _ b h
  · intro c' hc'; exact absurd hc' (Nat.not_lt_zero _)
  · intro c' hc'; exact absurd hc' (Nat.not_lt_zero _)
  · intro c' hc'; exact absurd hc' (Nat.not_lt_zero _)
  · intro c' hc'; exact absurd hc' (Nat.not_lt_zero _)

theorem Inv.iter (m : (ℓ : Loc nD τ sig) → Buf (Elt Ideal) ℓ) (c : Dev nD) : ∀ k, k ≤ 16 → Inv (launchContents m c) k (STEP^[k] (entryContents preI m c))
  | 0, _ => Inv.zero m c
  | k + 1, hk => by
    rw [Function.iterate_succ_apply']
    exact Inv.step _ (by omega) (Inv.iter m c k (by omega))

/-- The buffers where the loop ends. -/
def atEnd (m : (ℓ : Loc nD τ sig) → Buf (Elt Ideal) ℓ) (c : Dev nD) : Valuation τ sig (Elt Ideal) := after condOps (atK m 16 c)

theorem end_keep (m : (ℓ : Loc nD τ sig) → Buf (Elt Ideal) ℓ) (c : Dev nD) {r : Ref sig .tc} (h1 : r ∉ tripW) (h2 : r ∉ condOps_W) :
    atEnd m c (Proc.devRef .tc r) = pre (launchContents m c) r := by
  unfold atEnd
  rw [StableHlo.after_unwritten condOps_W cond_writes h2]
  exact loop_keep m c h1 h2 16

theorem end_carried (m : (ℓ : Loc nD τ sig) → Buf (Elt Ideal) ℓ) (c : Dev nD) {r : Ref sig .tc} (h1 : r ∈ carriedRefs) (h2 : r ∉ condOps_W) :
    atEnd m c (Proc.devRef .tc r) = STEP^[16] (entryContents preI m c) (Proc.devRef .tc r) := by
  unfold atEnd
  rw [StableHlo.after_unwritten condOps_W cond_writes h2]
  exact atK_agree m c 16 r h1

/-- What the operations after the loop start from: the states before every chunk, and what was computed before the loop. -/
structure Aft (V U : Valuation τ sig (Elt Ideal)) : Prop where
  a11 : ∀ (c : Fin 16) (b : Fin 8) (h : Fin 4) (d : Fin 128) (e : Fin 256), c11 U (ix5 c b h d e) = stR (vP V) h (b.val * 16 + c.val) d e
  a12 : ∀ (c : Fin 16) (b : Fin 8) (h : Fin 4) (d : Fin 128) (e : Fin 256), c12 U (ix5 c b h d e) = sC (vP V) (vG V) (vW V) (vB V) (vgb V) h (b.val * 16 + c.val) d e
  a13 : ∀ (c : Fin 16) (b : Fin 8) (h : Fin 4) (d : Fin 128), c13 U (ix4 c b h d) = sN (vP V) (vG V) (vW V) (vB V) (vgb V) h (b.val * 16 + c.val) d
  a14 : ∀ (c : Fin 16) (b : Fin 8) (h : Fin 4), c14 U (ix3 c b h) = sM (vG V) (vgb V) h (b.val * 16 + c.val)
  keep : ∀ r, r ∉ tripW → r ∉ condOps_W → U (Proc.devRef .tc r) = pre V r

theorem aft (m : (ℓ : Loc nD τ sig) → Buf (Elt Ideal) ℓ) (c : Dev nD) : Aft (launchContents m c) (atEnd m c) := by
  have I := Inv.iter m c 16 (le_refl _)
  constructor
  · intro c' b h d e; unfold c11; rw [end_carried m c (by decide) (by decide)]; exact I.i11 c' c'.isLt b h d e
  · intro c' b h d e; unfold c12; rw [end_carried m c (by decide) (by decide)]; exact I.i12 c' c'.isLt b h d e
  · intro c' b h d; unfold c13; rw [end_carried m c (by decide) (by decide)]; exact I.i13 c' c'.isLt b h d
  · intro c' b h; unfold c14; rw [end_carried m c (by decide) (by decide)]; exact I.i14 c' c'.isLt b h
  · exact fun r h1 h2 => end_keep m c h1 h2

end Cert.AbMixerRefIdeal.Value
end
-- ==== Proof.MixPost.lean ====
/-
  What each host operation after the loop of the reference leaves, from what the operations before it leave.
-/
module

public import proofs.«01_k».proof.Proof.MixLine

@[expose] public section

set_option maxRecDepth 8192

noncomputable section

namespace Cert.AbMixerRefIdeal.Value

open Idealize.ShloMosaic Idealize.ShloMosaic.StableHlo Idealize.ShloMosaic.TcCoe
open Cert.AbMixerRefIdeal Cert.AbMixerRefIdeal.Gen

variable {F : FTy → Type} [FloatOps F]

/-- The operations of the stretch, one after another. -/
abbrev postL : List (HloOp τ sig (Elt F)) := (postI : List (List (HloOp τ sig (Elt F)))).flatten

/-- What each of them writes. -/
def postW : List (Ref sig .tc) := [main_v142, main_v143, main_v144, main_v145, main_cst_19, main_v146, main_v147, main_v148, main_v149, main_v150, main_v151, main_v152, main_v153, main_v154, main_v155, main_v156, main_v157, main_v158, main_v159, main_v160, main_v161, main_v162, main_cst_20, main_v163, main_v164, main_cst_21, main_v165, main_v166, main_v167, main_v168, main_v169, main_cst_22, main_v170, main_v171, main_cst_23, main_v172, main_v173, main_cst_24, main_v174, main_v175, main_v176, main_v177, main_v178, main_v179, main_v180, main_v181, main_v182, main_call14_v0, main_call14_v1, main_call14_cst, main_call14_v2, main_call14_v3, main_call14_cst_0, main_call14_v4, main_call14_v5, main_v183, main_v184, main_v185, main_v186, main_v187, main_v188, main_v189, main_v190, main_v191, main_v192, main_cst_25, main_v193, main_v194, main_cst_26, main_call15_v0, main_call15_v1, main_call15_v2, main_v195, main_v196, main_v197, main_v198, main_cst_27, main_v199, main_v200, main_v201, main_v202, main_v203, main_v204, main_v205, main_v206, main_v207, main_v208, main_v209, main_v210, main_v211, main_v212, main_v213, main_v214, main_v215, main_v216, main_v217, main_cst_28, main_v218, main_v219, main_v220, main_v221, main_v222, main_v223, main_v224, main_v225, main_v226, main_v227, main_v228, main_v229, main_v230, main_v231, main_v232, main_v233, main_v234, main_v235, main_cst_29, main_v236, main_v237, main_cst_30, main_v238, main_v239, main_v240, main_v241, main_cst_31, main_v242, main_v243, main_cst_32, main_v244, main_v245, main_v246, main_v247, main_v248, main_cst_33, main_v249, main_v250, main_cst_34, main_v251, main_v252, main_cst_35, main_v253, main_v254, main_v255, main_v256, main_v257, main_v258, main_v259, main_v260, main_v261, main_call16_v0, main_call16_v1, main_call16_cst, main_call16_v2, main_call16_v3, main_call16_cst_0, main_call16_v4, main_call16_v5, main_v262, main_v263, main_v264, main_v265, main_v266]

theorem postL_writes : (postL : List (HloOp τ sig (Elt F))).map HloOp.writes = postW.map fun w => {Proc.devRef (τ := τ) .tc w} := rfl

variable (V : Valuation τ sig (Elt F))

/-- What the stretch leaves at `r`. -/
def post (r : Ref sig .tc) : (Proc.devRef .tc r : DevRef τ sig).ty.Contents (Elt F) := after postL V (Proc.devRef .tc r)

theorem post_v142 : post V (no_index main_v142) = ((transpose S8x16x4x128x256 [1, 0, 2, 3, 4] · transposes_S16x8x4x128x256_S8x16x4x128x256_1_0_2_3_4) : (⟨S16x8x4x128x256, .f32⟩ : BufTy).Contents (Elt F) → (⟨S8x16x4x128x256, .f32⟩ : BufTy).Contents (Elt F)) (post V main_v141_11) :=
  at1 postL_writes (i := 0) rfl (by decide +kernel) (by decide +kernel) V
theorem post_v143 : post V (no_index main_v143) = ((transpose S8x16x4x128x256 [1, 0, 2, 3, 4] · transposes_S16x8x4x128x256_S8x16x4x128x256_1_0_2_3_4) : (⟨S16x8x4x128x256, .f32⟩ : BufTy).Contents (Elt F) → (⟨S8x16x4x128x256, .f32⟩ : BufTy).Contents (Elt F)) (post V main_v141_12) :=
  at1 postL_writes (i := 1) rfl (by decide +kernel) (by decide +kernel) V
theorem post_v144 : post V (no_index main_v144) = ((transpose S8x16x4x128 [1, 0, 2, 3] · transposes_S16x8x4x128_S8x16x4x128_1_0_2_3) : (⟨S16x8x4x128, .f32⟩ : BufTy).Contents (Elt F) → (⟨S8x16x4x128, .f32⟩ : BufTy).Contents (Elt F)) (post V main_v141_13) :=
  at1 postL_writes (i := 2) rfl (by decide +kernel) (by decide +kernel) V
theorem post_v145 : post V (no_index main_v145) = ((transpose S8x16x4 [1, 0, 2] · transposes_S16x8x4_S8x16x4_1_0_2) : (⟨S16x8x4, .f32⟩ : BufTy).Contents (Elt F) → (⟨S8x16x4, .f32⟩ : BufTy).Contents (Elt F)) (post V main_v141_14) :=
  at1 postL_writes (i := 3) rfl (by decide +kernel) (by decide +kernel) V
theorem post_cst_19 : post V (no_index main_cst_19) = (constant S_ .f32 0x3F800000#32) :=
  at0 postL_writes (i := 4) rfl (by decide +kernel) V
theorem post_v146 : post V (no_index main_v146) = (broadcastInDim S128 ![] bcast_S_S128 : (⟨S_, .f32⟩ : BufTy).Contents (Elt F) → (⟨S128, .f32⟩ : BufTy).Contents (Elt F)) (post V main_cst_19) :=
  at1 postL_writes (i := 5) rfl (by decide +kernel) (by decide +kernel) V
theorem post_v147 : post V (no_index main_v147) = (addf : (⟨S128, .f32⟩ : BufTy).Contents (Elt F) → (⟨S128, .f32⟩ : BufTy).Contents (Elt F) → (⟨S128, .f32⟩ : BufTy).Contents (Elt F)) (post V main_v14) (post V main_v146) :=
  at2 postL_writes (i := 6) rfl (by decide +kernel) (by decide +kernel) (by decide +kernel) V
theorem post_v148 : post V (no_index main_v148) = (broadcastInDim S128x1 ![0] bcast_S128_S128x1_0 : (⟨S128, .f32⟩ : BufTy).Contents (Elt F) → (⟨S128x1, .f32⟩ : BufTy).Contents (Elt F)) (post V main_v147) :=
  at1 postL_writes (i := 7) rfl (by decide +kernel) (by decide +kernel) V
theorem post_v149 : post V (no_index main_v149) = (broadcastInDim S1x4 ![1] bcast_S4_S1x4_1 : (⟨S4, .f32⟩ : BufTy).Contents (Elt F) → (⟨S1x4, .f32⟩ : BufTy).Contents (Elt F)) (post V main_v20) :=
  at1 postL_writes (i := 8) rfl (by decide +kernel) (by decide +kernel) V
theorem post_v150 : post V (no_index main_v150) = (broadcastInDim S128x4 ![0, 1] bcast_S128x1_S128x4_0_1 : (⟨S128x1, .f32⟩ : BufTy).Contents (Elt F) → (⟨S128x4, .f32⟩ : BufTy).Contents (Elt F)) (post V main_v148) :=
  at1 postL_writes (i := 9) rfl (by decide +kernel) (by decide +kernel) V
theorem post_v151 : post V (no_index main_v151) = (broadcastInDim S128x4 ![0, 1] bcast_S1x4_S128x4_0_1 : (⟨S1x4, .f32⟩ : BufTy).Contents (Elt F) → (⟨S128x4, .f32⟩ : BufTy).Contents (Elt F)) (post V main_v149) :=
  at1 postL_writes (i := 10) rfl (by decide +kernel) (by decide +kernel) V
theorem post_v152 : post V (no_index main_v152) = (mulf : (⟨S128x4, .f32⟩ : BufTy).Contents (Elt F) → (⟨S128x4, .f32⟩ : BufTy).Contents (Elt F) → (⟨S128x4, .f32⟩ : BufTy).Contents (Elt F)) (post V main_v150) (post V main_v151) :=
  at2 postL_writes (i := 11) rfl (by decide +kernel) (by decide +kernel) (by decide +kernel) V
theorem post_v153 : post V (no_index main_v153) = (Host.exp : (⟨S128x4, .f32⟩ : BufTy).Contents (Elt F) → (⟨S128x4, .f32⟩ : BufTy).Contents (Elt F)) (post V main_v152) :=
  at1 postL_writes (i := 12) rfl (by decide +kernel) (by decide +kernel) V
theorem post_v154 : post V (no_index main_v154) = (broadcastInDim S128x4x1 ![0, 1] bcast_S128x4_S128x4x1_0_1 : (⟨S128x4, .f32⟩ : BufTy).Contents (Elt F) → (⟨S128x4x1, .f32⟩ : BufTy).Contents (Elt F)) (post V main_v153) :=
  at1 postL_writes (i := 13) rfl (by decide +kernel) (by decide +kernel) V
theorem post_v155 : post V (no_index main_v155) = (broadcastInDim S1x1x128x4x1 ![2, 3, 4] bcast_S128x4x1_S1x1x128x4x1_2_3_4 : (⟨S128x4x1, .f32⟩ : BufTy).Contents (Elt F) → (⟨S1x1x128x4x1, .f32⟩ : BufTy).Contents (Elt F)) (post V main_v154) :=
  at1 postL_writes (i := 14) rfl (by decide +kernel) (by decide +kernel) V
theorem post_v156 : post V (no_index main_v156) = (broadcastInDim S8x16x128x4x128 ![0, 1, 2, 3, 4] bcast_S1x1x128x4x1_S8x16x128x4x128_0_1_2_3_4 : (⟨S1x1x128x4x1, .f32⟩ : BufTy).Contents (Elt F) → (⟨S8x16x128x4x128, .f32⟩ : BufTy).Contents (Elt F)) (post V main_v155) :=
  at1 postL_writes (i := 15) rfl (by decide +kernel) (by decide +kernel) V
theorem post_v157 : post V (no_index main_v157) = (mulf : (⟨S8x16x128x4x128, .f32⟩ : BufTy).Contents (Elt F) → (⟨S8x16x128x4x128, .f32⟩ : BufTy).Contents (Elt F) → (⟨S8x16x128x4x128, .f32⟩ : BufTy).Contents (Elt F)) (post V main_v23) (post V main_v156) :=
  at2 postL_writes (i := 16) rfl (by decide +kernel) (by decide +kernel) (by decide +kernel) V
theorem post_v158 : post V (no_index main_v158) = ((fun l r => Host.dotGeneral dot_S8x16x4x128x256_S8x16x128x4x128_S8x16x4x256x128_3_4_4_2_012_013 none l r) : (⟨S8x16x4x128x256, .f32⟩ : BufTy).Contents (Elt F) → (⟨S8x16x128x4x128, .f32⟩ : BufTy).Contents (Elt F) → (⟨S8x16x4x256x128, .f32⟩ : BufTy).Contents (Elt F)) (post V main_v142) (post V main_v157) :=
  at2 postL_writes (i := 17) rfl (by decide +kernel) (by decide +kernel) (by decide +kernel) V
theorem post_v159 : post V (no_index main_v159) = ((transpose S8x16x128x4x256 [0, 1, 4, 2, 3] · transposes_S8x16x4x256x128_S8x16x128x4x256_0_1_4_2_3) : (⟨S8x16x4x256x128, .f32⟩ : BufTy).Contents (Elt F) → (⟨S8x16x128x4x256, .f32⟩ : BufTy).Contents (Elt F)) (post V main_v158) :=
  at1 postL_writes (i := 18) rfl (by decide +kernel) (by decide +kernel) V
theorem post_v160 : post V (no_index main_v160) = (addf : (⟨S8x16x128x4x256, .f32⟩ : BufTy).Contents (Elt F) → (⟨S8x16x128x4x256, .f32⟩ : BufTy).Contents (Elt F) → (⟨S8x16x128x4x256, .f32⟩ : BufTy).Contents (Elt F)) (post V main_v42) (post V main_v159) :=
  at2 postL_writes (i := 19) rfl (by decide +kernel) (by decide +kernel) (by decide +kernel) V
theorem post_v161 : post V (no_index main_v161) = shapeCast S8x2048x4x256 (post V main_v160) shapeCasts_S8x16x128x4x256_S8x2048x4x256 :=
  atR postL_writes (i := 20) rfl (by decide +kernel) (by decide +kernel) V
theorem post_v162 : post V (no_index main_v162) = shapeCast S1024 (post V main_arg5) shapeCasts_S1x1024_S1024 :=
  atR postL_writes (i := 21) rfl (by decide +kernel) (by decide +kernel) V
theorem post_cst_20 : post V (no_index main_cst_20) = (constant S_ .f32 0x00000000#32) :=
  at0 postL_writes (i := 22) rfl (by decide +kernel) V
theorem post_v163 : post V (no_index main_v163) = ((fun x v => Host.reduceAdd x v reducesTo_S8x2048x4x256_S8x2048x4_d3 h_S_) : (⟨S8x2048x4x256, .f32⟩ : BufTy).Contents (Elt F) → (⟨S_, .f32⟩ : BufTy).Contents (Elt F) → (⟨S8x2048x4, .f32⟩ : BufTy).Contents (Elt F)) (post V main_v161) (post V main_cst_20) :=
  at2 postL_writes (i := 23) rfl (by decide +kernel) (by decide +kernel) (by decide +kernel) V
theorem post_v164 : post V (no_index main_v164) = (broadcastInDim S8x2048x4x1 ![0, 1, 2] bcast_S8x2048x4_S8x2048x4x1_0_1_2 : (⟨S8x2048x4, .f32⟩ : BufTy).Contents (Elt F) → (⟨S8x2048x4x1, .f32⟩ : BufTy).Contents (Elt F)) (post V main_v163) :=
  at1 postL_writes (i := 24) rfl (by decide +kernel) (by decide +kernel) V
theorem post_cst_21 : post V (no_index main_cst_21) = (constant S_ .f32 0x43800000#32) :=
  at0 postL_writes (i := 25) rfl (by decide +kernel) V
theorem post_v165 : post V (no_index main_v165) = (broadcastInDim S8x2048x4x1 ![] bcast_S_S8x2048x4x1 : (⟨S_, .f32⟩ : BufTy).Contents (Elt F) → (⟨S8x2048x4x1, .f32⟩ : BufTy).Contents (Elt F)) (post V main_cst_21) :=
  at1 postL_writes (i := 26) rfl (by decide +kernel) (by decide +kernel) V
theorem post_v166 : post V (no_index main_v166) = (Host.divf : (⟨S8x2048x4x1, .f32⟩ : BufTy).Contents (Elt F) → (⟨S8x2048x4x1, .f32⟩ : BufTy).Contents (Elt F) → (⟨S8x2048x4x1, .f32⟩ : BufTy).Contents (Elt F)) (post V main_v164) (post V main_v165) :=
  at2 postL_writes (i := 27) rfl (by decide +kernel) (by decide +kernel) (by decide +kernel) V
theorem post_v167 : post V (no_index main_v167) = (broadcastInDim S8x2048x4x256 ![0, 1, 2, 3] bcast_S8x2048x4x1_S8x2048x4x256_0_1_2_3 : (⟨S8x2048x4x1, .f32⟩ : BufTy).Contents (Elt F) → (⟨S8x2048x4x256, .f32⟩ : BufTy).Contents (Elt F)) (post V main_v166) :=
  at1 postL_writes (i := 28) rfl (by decide +kernel) (by decide +kernel) V
theorem post_v168 : post V (no_index main_v168) = (subf : (⟨S8x2048x4x256, .f32⟩ : BufTy).Contents (Elt F) → (⟨S8x2048x4x256, .f32⟩ : BufTy).Contents (Elt F) → (⟨S8x2048x4x256, .f32⟩ : BufTy).Contents (Elt F)) (post V main_v161) (post V main_v167) :=
  at2 postL_writes (i := 29) rfl (by decide +kernel) (by decide +kernel) (by decide +kernel) V
theorem post_v169 : post V (no_index main_v169) = (mulf : (⟨S8x2048x4x256, .f32⟩ : BufTy).Contents (Elt F) → (⟨S8x2048x4x256, .f32⟩ : BufTy).Contents (Elt F) → (⟨S8x2048x4x256, .f32⟩ : BufTy).Contents (Elt F)) (post V main_v168) (post V main_v168) :=
  at2 postL_writes (i := 30) rfl (by decide +kernel) (by decide +kernel) (by decide +kernel) V
theorem post_cst_22 : post V (no_index main_cst_22) = (constant S_ .f32 0x00000000#32) :=
  at0 postL_writes (i := 31) rfl (by decide +kernel) V
theorem post_v170 : post V (no_index main_v170) = ((fun x v => Host.reduceAdd x v reducesTo_S8x2048x4x256_S8x2048x4_d3 h_S_) : (⟨S8x2048x4x256, .f32⟩ : BufTy).Contents (Elt F) → (⟨S_, .f32⟩ : BufTy).Contents (Elt F) → (⟨S8x2048x4, .f32⟩ : BufTy).Contents (Elt F)) (post V main_v169) (post V main_cst_22) :=
  at2 postL_writes (i := 32) rfl (by decide +kernel) (by decide +kernel) (by decide +kernel) V
theorem post_v171 : post V (no_index main_v171) = (broadcastInDim S8x2048x4x1 ![0, 1, 2] bcast_S8x2048x4_S8x2048x4x1_0_1_2 : (⟨S8x2048x4, .f32⟩ : BufTy).Contents (Elt F) → (⟨S8x2048x4x1, .f32⟩ : BufTy).Contents (Elt F)) (post V main_v170) :=
  at1 postL_writes (i := 33) rfl (by decide +kernel) (by decide +kernel) V
theorem post_cst_23 : post V (no_index main_cst_23) = (constant S_ .f32 0x43800000#32) :=
  at0 postL_writes (i := 34) rfl (by decide +kernel) V
theorem post_v172 : post V (no_index main_v172) = (broadcastInDim S8x2048x4x1 ![] bcast_S_S8x2048x4x1 : (⟨S_, .f32⟩ : BufTy).Contents (Elt F) → (⟨S8x2048x4x1, .f32⟩ : BufTy).Contents (Elt F)) (post V main_cst_23) :=
  at1 postL_writes (i := 35) rfl (by decide +kernel) (by decide +kernel) V
theorem post_v173 : post V (no_index main_v173) = (Host.divf : (⟨S8x2048x4x1, .f32⟩ : BufTy).Contents (Elt F) → (⟨S8x2048x4x1, .f32⟩ : BufTy).Contents (Elt F) → (⟨S8x2048x4x1, .f32⟩ : BufTy).Contents (Elt F)) (post V main_v171) (post V main_v172) :=
  at2 postL_writes (i := 36) rfl (by decide +kernel) (by decide +kernel) (by decide +kernel) V
theorem post_cst_24 : post V (no_index main_cst_24) = (constant S_ .f32 0x358637BD#32) :=
  at0 postL_writes (i := 37) rfl (by decide +kernel) V
theorem post_v174 : post V (no_index main_v174) = (broadcastInDim S8x2048x4x1 ![] bcast_S_S8x2048x4x1 : (⟨S_, .f32⟩ : BufTy).Contents (Elt F) → (⟨S8x2048x4x1, .f32⟩ : BufTy).Contents (Elt F)) (post V main_cst_24) :=
  at1 postL_writes (i := 38) rfl (by decide +kernel) (by decide +kernel) V
theorem post_v175 : post V (no_index main_v175) = (addf : (⟨S8x2048x4x1, .f32⟩ : BufTy).Contents (Elt F) → (⟨S8x2048x4x1, .f32⟩ : BufTy).Contents (Elt F) → (⟨S8x2048x4x1, .f32⟩ : BufTy).Contents (Elt F)) (post V main_v173) (post V main_v174) :=
  at2 postL_writes (i := 39) rfl (by decide +kernel) (by decide +kernel) (by decide +kernel) V
theorem post_v176 : post V (no_index main_v176) = (Host.rsqrt : (⟨S8x2048x4x1, .f32⟩ : BufTy).Contents (Elt F) → (⟨S8x2048x4x1, .f32⟩ : BufTy).Contents (Elt F)) (post V main_v175) :=
  at1 postL_writes (i := 40) rfl (by decide +kernel) (by decide +kernel) V
theorem post_v177 : post V (no_index main_v177) = (broadcastInDim S8x2048x4x256 ![0, 1, 2, 3] bcast_S8x2048x4x1_S8x2048x4x256_0_1_2_3 : (⟨S8x2048x4x1, .f32⟩ : BufTy).Contents (Elt F) → (⟨S8x2048x4x256, .f32⟩ : BufTy).Contents (Elt F)) (post V main_v176) :=
  at1 postL_writes (i := 41) rfl (by decide +kernel) (by decide +kernel) V
theorem post_v178 : post V (no_index main_v178) = (mulf : (⟨S8x2048x4x256, .f32⟩ : BufTy).Contents (Elt F) → (⟨S8x2048x4x256, .f32⟩ : BufTy).Contents (Elt F) → (⟨S8x2048x4x256, .f32⟩ : BufTy).Contents (Elt F)) (post V main_v168) (post V main_v177) :=
  at2 postL_writes (i := 42) rfl (by decide +kernel) (by decide +kernel) (by decide +kernel) V
theorem post_v179 : post V (no_index main_v179) = shapeCast S8x2048x1024 (post V main_v178) shapeCasts_S8x2048x4x256_S8x2048x1024 :=
  atR postL_writes (i := 43) rfl (by decide +kernel) (by decide +kernel) V
theorem post_v180 : post V (no_index main_v180) = (broadcastInDim S1x1x1024 ![2] bcast_S1024_S1x1x1024_2 : (⟨S1024, .f32⟩ : BufTy).Contents (Elt F) → (⟨S1x1x1024, .f32⟩ : BufTy).Contents (Elt F)) (post V main_v162) :=
  at1 postL_writes (i := 44) rfl (by decide +kernel) (by decide +kernel) V
theorem post_v181 : post V (no_index main_v181) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (post V main_v180) :=
  at1 postL_writes (i := 45) rfl (by decide +kernel) (by decide +kernel) V
theorem post_v182 : post V (no_index main_v182) = (mulf : (⟨S8x2048x1024, .f32⟩ : BufTy).Contents (Elt F) → (⟨S8x2048x1024, .f32⟩ : BufTy).Contents (Elt F) → (⟨S8x2048x1024, .f32⟩ : BufTy).Contents (Elt F)) (post V main_v179) (post V main_v181) :=
  at2 postL_writes (i := 46) rfl (by decide +kernel) (by decide +kernel) (by decide +kernel) V
theorem post_call14_v0 : post V (no_index main_call14_v0) = (Host.negf : (⟨S8x2048x1024, .f32⟩ : BufTy).Contents (Elt F) → (⟨S8x2048x1024, .f32⟩ : BufTy).Contents (Elt F)) (post V main_v8) :=
  at1 postL_writes (i := 47) rfl (by decide +kernel) (by decide +kernel) V
theorem post_call14_v1 : post V (no_index main_call14_v1) = (Host.exp : (⟨S8x2048x1024, .f32⟩ : BufTy).Contents (Elt F) → (⟨S8x2048x1024, .f32⟩ : BufTy).Contents (Elt F)) (post V main_call14_v0) :=
  at1 postL_writes (i := 48) rfl (by decide +kernel) (by decide +kernel) V
theorem post_call14_cst : post V (no_index main_call14_cst) = ((constant S_ .f32 0x3F800000#32) : (⟨S_, .f32⟩ : BufTy).Contents (Elt F)) :=
  at0 postL_writes (i := 49) rfl (by decide +kernel) V
theorem post_call14_v2 : post V (no_index main_call14_v2) = ((broadcastInDim S8x2048x1024 ![] bcast_S_S8x2048x1024) : (⟨S_, .f32⟩ : BufTy).Contents (Elt F) → (⟨S8x2048x1024, .f32⟩ : BufTy).Contents (Elt F)) (post V main_call14_cst) :=
  at1 postL_writes (i := 50) rfl (by decide +kernel) (by decide +kernel) V
theorem post_call14_v3 : post V (no_index main_call14_v3) = (addf : (⟨S8x2048x1024, .f32⟩ : BufTy).Contents (Elt F) → (⟨S8x2048x1024, .f32⟩ : BufTy).Contents (Elt F) → (⟨S8x2048x1024, .f32⟩ : BufTy).Contents (Elt F)) (post V main_call14_v2) (post V main_call14_v1) :=
  at2 postL_writes (i := 51) rfl (by decide +kernel) (by decide +kernel) (by decide +kernel) V
theorem post_call14_cst_0 : post V (no_index main_call14_cst_0) = ((constant S_ .f32 0x3F800000#32) : (⟨S_, .f32⟩ : BufTy).Contents (Elt F)) :=
  at0 postL_writes (i := 52) rfl (by decide +kernel) V
theorem post_call14_v4 : post V (no_index main_call14_v4) = ((broadcastInDim S8x2048x1024 ![] bcast_S_S8x2048x1024) : (⟨S_, .f32⟩ : BufTy).Contents (Elt F) → (⟨S8x2048x1024, .f32⟩ : BufTy).Contents (Elt F)) (post V main_call14_cst_0) :=
  at1 postL_writes (i := 53) rfl (by decide +kernel) (by decide +kernel) V
theorem post_call14_v5 : post V (no_index main_call14_v5) = (Host.divf : (⟨S8x2048x1024, .f32⟩ : BufTy).Contents (Elt F) → (⟨S8x2048x1024, .f32⟩ : BufTy).Contents (Elt F) → (⟨S8x2048x1024, .f32⟩ : BufTy).Contents (Elt F)) (post V main_call14_v4) (post V main_call14_v3) :=
  at2 postL_writes (i := 54) rfl (by decide +kernel) (by decide +kernel) (by decide +kernel) V
theorem post_v183 : post V (no_index main_v183) = (mulf : (⟨S8x2048x1024, .f32⟩ : BufTy).Contents (Elt F) → (⟨S8x2048x1024, .f32⟩ : BufTy).Contents (Elt F) → (⟨S8x2048x1024, .f32⟩ : BufTy).Contents (Elt F)) (post V main_v8) (post V main_call14_v5) :=
  at2 postL_writes (i := 55) rfl (by decide +kernel) (by decide +kernel) (by decide +kernel) V
theorem post_v184 : post V (no_index main_v184) = (mulf : (⟨S8x2048x1024, .f32⟩ : BufTy).Contents (Elt F) → (⟨S8x2048x1024, .f32⟩ : BufTy).Contents (Elt F) → (⟨S8x2048x1024, .f32⟩ : BufTy).Contents (Elt F)) (post V main_v182) (post V main_v183) :=
  at2 postL_writes (i := 56) rfl (by decide +kernel) (by decide +kernel) (by decide +kernel) V
theorem post_v185 : post V (no_index main_v185) = (broadcastInDim S8x16x4x128x1 ![0, 1, 2, 3] bcast_S8x16x4x128_S8x16x4x128x1_0_1_2_3 : (⟨S8x16x4x128, .f32⟩ : BufTy).Contents (Elt F) → (⟨S8x16x4x128x1, .f32⟩ : BufTy).Contents (Elt F)) (post V main_v110) :=
  at1 postL_writes (i := 57) rfl (by decide +kernel) (by decide +kernel) V
theorem post_v186 : post V (no_index main_v186) = (broadcastInDim S8x16x4x1x128 ![0, 1, 2, 4] bcast_S8x16x4x128_S8x16x4x1x128_0_1_2_4 : (⟨S8x16x4x128, .f32⟩ : BufTy).Contents (Elt F) → (⟨S8x16x4x1x128, .f32⟩ : BufTy).Contents (Elt F)) (post V main_v110) :=
  at1 postL_writes (i := 58) rfl (by decide +kernel) (by decide +kernel) V
theorem post_v187 : post V (no_index main_v187) = (broadcastInDim S8x16x4x128x128 ![0, 1, 2, 3, 4] bcast_S8x16x4x128x1_S8x16x4x128x128_0_1_2_3_4 : (⟨S8x16x4x128x1, .f32⟩ : BufTy).Contents (Elt F) → (⟨S8x16x4x128x128, .f32⟩ : BufTy).Contents (Elt F)) (post V main_v185) :=
  at1 postL_writes (i := 59) rfl (by decide +kernel) (by decide +kernel) V
theorem post_v188 : post V (no_index main_v188) = (broadcastInDim S8x16x4x128x128 ![0, 1, 2, 3, 4] bcast_S8x16x4x1x128_S8x16x4x128x128_0_1_2_3_4 : (⟨S8x16x4x1x128, .f32⟩ : BufTy).Contents (Elt F) → (⟨S8x16x4x128x128, .f32⟩ : BufTy).Contents (Elt F)) (post V main_v186) :=
  at1 postL_writes (i := 60) rfl (by decide +kernel) (by decide +kernel) V
theorem post_v189 : post V (no_index main_v189) = (subf : (⟨S8x16x4x128x128, .f32⟩ : BufTy).Contents (Elt F) → (⟨S8x16x4x128x128, .f32⟩ : BufTy).Contents (Elt F) → (⟨S8x16x4x128x128, .f32⟩ : BufTy).Contents (Elt F)) (post V main_v187) (post V main_v188) :=
  at2 postL_writes (i := 61) rfl (by decide +kernel) (by decide +kernel) (by decide +kernel) V
theorem post_v190 : post V (no_index main_v190) = (broadcastInDim S8x16x4x1x128 ![0, 1, 2, 4] bcast_S8x16x4x128_S8x16x4x1x128_0_1_2_4 : (⟨S8x16x4x128, .f32⟩ : BufTy).Contents (Elt F) → (⟨S8x16x4x1x128, .f32⟩ : BufTy).Contents (Elt F)) (post V main_v105) :=
  at1 postL_writes (i := 62) rfl (by decide +kernel) (by decide +kernel) V
theorem post_v191 : post V (no_index main_v191) = (broadcastInDim S8x16x4x128x128 ![0, 1, 2, 3, 4] bcast_S8x16x4x1x128_S8x16x4x128x128_0_1_2_3_4 : (⟨S8x16x4x1x128, .f32⟩ : BufTy).Contents (Elt F) → (⟨S8x16x4x128x128, .f32⟩ : BufTy).Contents (Elt F)) (post V main_v190) :=
  at1 postL_writes (i := 63) rfl (by decide +kernel) (by decide +kernel) V
theorem post_v192 : post V (no_index main_v192) = (addf : (⟨S8x16x4x128x128, .f32⟩ : BufTy).Contents (Elt F) → (⟨S8x16x4x128x128, .f32⟩ : BufTy).Contents (Elt F) → (⟨S8x16x4x128x128, .f32⟩ : BufTy).Contents (Elt F)) (post V main_v189) (post V main_v191) :=
  at2 postL_writes (i := 64) rfl (by decide +kernel) (by decide +kernel) (by decide +kernel) V
theorem post_cst_25 : post V (no_index main_cst_25) = (constant S_ .f32 0x00000000#32) :=
  at0 postL_writes (i := 65) rfl (by decide +kernel) V
theorem post_v193 : post V (no_index main_v193) = (broadcastInDim S128x128 ![] bcast_S_S128x128 : (⟨S_, .f32⟩ : BufTy).Contents (Elt F) → (⟨S128x128, .f32⟩ : BufTy).Contents (Elt F)) (post V main_cst_25) :=
  at1 postL_writes (i := 66) rfl (by decide +kernel) (by decide +kernel) V
theorem post_v194 : post V (no_index main_v194) = (cmpf .oge : (⟨S128x128, .f32⟩ : BufTy).Contents (Elt F) → (⟨S128x128, .f32⟩ : BufTy).Contents (Elt F) → (⟨S128x128, .i1⟩ : BufTy).Contents (Elt F)) (post V main_v19) (post V main_v193) :=
  at2 postL_writes (i := 67) rfl (by decide +kernel) (by decide +kernel) (by decide +kernel) V
theorem post_cst_26 : post V (no_index main_cst_26) = (constant S_ .f32 0xFF800000#32) :=
  at0 postL_writes (i := 68) rfl (by decide +kernel) V
theorem post_call15_v0 : post V (no_index main_call15_v0) = (id : (⟨S_, .f32⟩ : BufTy).Contents (Elt F) → (⟨S_, .f32⟩ : BufTy).Contents (Elt F)) (post V main_cst_26) :=
  at1 postL_writes (i := 69) rfl (by decide +kernel) (by decide +kernel) V
theorem post_call15_v1 : post V (no_index main_call15_v1) = ((broadcastInDim S8x16x4x128x128 ![3, 4] bcast_S128x128_S8x16x4x128x128_3_4) : (⟨S128x128, .i1⟩ : BufTy).Contents (Elt F) → (⟨S8x16x4x128x128, .i1⟩ : BufTy).Contents (Elt F)) (post V main_v194) :=
  at1 postL_writes (i := 70) rfl (by decide +kernel) (by decide +kernel) V
theorem post_call15_v2 : post V (no_index main_call15_v2) = ((broadcastInDim S8x16x4x128x128 ![] bcast_S_S8x16x4x128x128) : (⟨S_, .f32⟩ : BufTy).Contents (Elt F) → (⟨S8x16x4x128x128, .f32⟩ : BufTy).Contents (Elt F)) (post V main_call15_v0) :=
  at1 postL_writes (i := 71) rfl (by decide +kernel) (by decide +kernel) V
theorem post_v195 : post V (no_index main_v195) = (select : (⟨S8x16x4x128x128, .i1⟩ : BufTy).Contents (Elt F) → (⟨S8x16x4x128x128, .f32⟩ : BufTy).Contents (Elt F) → (⟨S8x16x4x128x128, .f32⟩ : BufTy).Contents (Elt F) → (⟨S8x16x4x128x128, .f32⟩ : BufTy).Contents (Elt F)) (post V main_call15_v1) (post V main_v192) (post V main_call15_v2) :=
  at3 postL_writes (i := 72) rfl (by decide +kernel) (by decide +kernel) (by decide +kernel) (by decide +kernel) V
theorem post_v196 : post V (no_index main_v196) = (broadcastInDim S8x16x4x1 ![0, 1, 2] bcast_S8x16x4_S8x16x4x1_0_1_2 : (⟨S8x16x4, .f32⟩ : BufTy).Contents (Elt F) → (⟨S8x16x4x1, .f32⟩ : BufTy).Contents (Elt F)) (post V main_v145) :=
  at1 postL_writes (i := 73) rfl (by decide +kernel) (by decide +kernel) V
theorem post_v197 : post V (no_index main_v197) = (broadcastInDim S8x16x4x128 ![0, 1, 2, 3] bcast_S8x16x4x1_S8x16x4x128_0_1_2_3 : (⟨S8x16x4x1, .f32⟩ : BufTy).Contents (Elt F) → (⟨S8x16x4x128, .f32⟩ : BufTy).Contents (Elt F)) (post V main_v196) :=
  at1 postL_writes (i := 74) rfl (by decide +kernel) (by decide +kernel) V
theorem post_v198 : post V (no_index main_v198) = (addf : (⟨S8x16x4x128, .f32⟩ : BufTy).Contents (Elt F) → (⟨S8x16x4x128, .f32⟩ : BufTy).Contents (Elt F) → (⟨S8x16x4x128, .f32⟩ : BufTy).Contents (Elt F)) (post V main_v110) (post V main_v197) :=
  at2 postL_writes (i := 75) rfl (by decide +kernel) (by decide +kernel) (by decide +kernel) V
theorem post_cst_27 : post V (no_index main_cst_27) = (constant S_ .f32 0xFF800000#32) :=
  at0 postL_writes (i := 76) rfl (by decide +kernel) V
theorem post_v199 : post V (no_index main_v199) = ((fun x v => Host.reduce FloatOps.maximumf x v reducesTo_S8x16x4x128x128_S8x16x4x128_d4 h_S_) : (⟨S8x16x4x128x128, .f32⟩ : BufTy).Contents (Elt F) → (⟨S_, .f32⟩ : BufTy).Contents (Elt F) → (⟨S8x16x4x128, .f32⟩ : BufTy).Contents (Elt F)) (post V main_v195) (post V main_cst_27) :=
  at2 postL_writes (i := 77) rfl (by decide +kernel) (by decide +kernel) (by decide +kernel) V
theorem post_v200 : post V (no_index main_v200) = (maximumf : (⟨S8x16x4x128, .f32⟩ : BufTy).Contents (Elt F) → (⟨S8x16x4x128, .f32⟩ : BufTy).Contents (Elt F) → (⟨S8x16x4x128, .f32⟩ : BufTy).Contents (Elt F)) (post V main_v198) (post V main_v199) :=
  at2 postL_writes (i := 78) rfl (by decide +kernel) (by decide +kernel) (by decide +kernel) V
theorem post_v201 : post V (no_index main_v201) = (broadcastInDim S8x16x4x128x1 ![0, 1, 2, 3] bcast_S8x16x4x128_S8x16x4x128x1_0_1_2_3 : (⟨S8x16x4x128, .f32⟩ : BufTy).Contents (Elt F) → (⟨S8x16x4x128x1, .f32⟩ : BufTy).Contents (Elt F)) (post V main_v200) :=
  at1 postL_writes (i := 79) rfl (by decide +kernel) (by decide +kernel) V
theorem post_v202 : post V (no_index main_v202) = (broadcastInDim S8x16x4x128x128 ![0, 1, 2, 3, 4] bcast_S8x16x4x128x1_S8x16x4x128x128_0_1_2_3_4 : (⟨S8x16x4x128x1, .f32⟩ : BufTy).Contents (Elt F) → (⟨S8x16x4x128x128, .f32⟩ : BufTy).Contents (Elt F)) (post V main_v201) :=
  at1 postL_writes (i := 80) rfl (by decide +kernel) (by decide +kernel) V
theorem post_v203 : post V (no_index main_v203) = (subf : (⟨S8x16x4x128x128, .f32⟩ : BufTy).Contents (Elt F) → (⟨S8x16x4x128x128, .f32⟩ : BufTy).Contents (Elt F) → (⟨S8x16x4x128x128, .f32⟩ : BufTy).Contents (Elt F)) (post V main_v195) (post V main_v202) :=
  at2 postL_writes (i := 81) rfl (by decide +kernel) (by decide +kernel) (by decide +kernel) V
theorem post_v204 : post V (no_index main_v204) = (Host.exp : (⟨S8x16x4x128x128, .f32⟩ : BufTy).Contents (Elt F) → (⟨S8x16x4x128x128, .f32⟩ : BufTy).Contents (Elt F)) (post V main_v203) :=
  at1 postL_writes (i := 82) rfl (by decide +kernel) (by decide +kernel) V
theorem post_v205 : post V (no_index main_v205) = (subf : (⟨S8x16x4x128, .f32⟩ : BufTy).Contents (Elt F) → (⟨S8x16x4x128, .f32⟩ : BufTy).Contents (Elt F) → (⟨S8x16x4x128, .f32⟩ : BufTy).Contents (Elt F)) (post V main_v198) (post V main_v200) :=
  at2 postL_writes (i := 83) rfl (by decide +kernel) (by decide +kernel) (by decide +kernel) V
theorem post_v206 : post V (no_index main_v206) = (Host.exp : (⟨S8x16x4x128, .f32⟩ : BufTy).Contents (Elt F) → (⟨S8x16x4x128, .f32⟩ : BufTy).Contents (Elt F)) (post V main_v205) :=
  at1 postL_writes (i := 84) rfl (by decide +kernel) (by decide +kernel) V
theorem post_v207 : post V (no_index main_v207) = ((transpose S8x16x128x4 [0, 1, 3, 2] · transposes_S8x16x4x128_S8x16x128x4_0_1_3_2) : (⟨S8x16x4x128, .f32⟩ : BufTy).Contents (Elt F) → (⟨S8x16x128x4, .f32⟩ : BufTy).Contents (Elt F)) (post V main_v206) :=
  at1 postL_writes (i := 85) rfl (by decide +kernel) (by decide +kernel) V
theorem post_v208 : post V (no_index main_v208) = ((fun l r => Host.dotGeneral dot_S8x16x128x4x128_S8x16x128x4x128_S8x16x4x128x128_4_4_2_2_013_013 none l r) : (⟨S8x16x128x4x128, .f32⟩ : BufTy).Contents (Elt F) → (⟨S8x16x128x4x128, .f32⟩ : BufTy).Contents (Elt F) → (⟨S8x16x4x128x128, .f32⟩ : BufTy).Contents (Elt F)) (post V main_v98) (post V main_v101) :=
  at2 postL_writes (i := 86) rfl (by decide +kernel) (by decide +kernel) (by decide +kernel) V
theorem post_v209 : post V (no_index main_v209) = (mulf : (⟨S8x16x4x128x128, .f32⟩ : BufTy).Contents (Elt F) → (⟨S8x16x4x128x128, .f32⟩ : BufTy).Contents (Elt F) → (⟨S8x16x4x128x128, .f32⟩ : BufTy).Contents (Elt F)) (post V main_v208) (post V main_v204) :=
  at2 postL_writes (i := 87) rfl (by decide +kernel) (by decide +kernel) (by decide +kernel) V
theorem post_v210 : post V (no_index main_v210) = ((fun l r => Host.dotGeneral dot_S8x16x128x4x256_S8x16x4x128x128_S8x16x4x256x128_2_4_4_3_013_012 none l r) : (⟨S8x16x128x4x256, .f32⟩ : BufTy).Contents (Elt F) → (⟨S8x16x4x128x128, .f32⟩ : BufTy).Contents (Elt F) → (⟨S8x16x4x256x128, .f32⟩ : BufTy).Contents (Elt F)) (post V main_v102) (post V main_v209) :=
  at2 postL_writes (i := 88) rfl (by decide +kernel) (by decide +kernel) (by decide +kernel) V
theorem post_v211 : post V (no_index main_v211) = ((transpose S8x16x128x4x256 [0, 1, 4, 2, 3] · transposes_S8x16x4x256x128_S8x16x128x4x256_0_1_4_2_3) : (⟨S8x16x4x256x128, .f32⟩ : BufTy).Contents (Elt F) → (⟨S8x16x128x4x256, .f32⟩ : BufTy).Contents (Elt F)) (post V main_v210) :=
  at1 postL_writes (i := 89) rfl (by decide +kernel) (by decide +kernel) V
theorem post_v212 : post V (no_index main_v212) = (broadcastInDim S8x16x128x4x1 ![0, 1, 2, 3] bcast_S8x16x128x4_S8x16x128x4x1_0_1_2_3 : (⟨S8x16x128x4, .f32⟩ : BufTy).Contents (Elt F) → (⟨S8x16x128x4x1, .f32⟩ : BufTy).Contents (Elt F)) (post V main_v207) :=
  at1 postL_writes (i := 90) rfl (by decide +kernel) (by decide +kernel) V
theorem post_v213 : post V (no_index main_v213) = ((fun l r => Host.dotGeneral dot_S8x16x4x128x256_S8x16x128x4x128_S8x16x4x256x128_3_4_4_2_012_013 none l r) : (⟨S8x16x4x128x256, .f32⟩ : BufTy).Contents (Elt F) → (⟨S8x16x128x4x128, .f32⟩ : BufTy).Contents (Elt F) → (⟨S8x16x4x256x128, .f32⟩ : BufTy).Contents (Elt F)) (post V main_v143) (post V main_v98) :=
  at2 postL_writes (i := 91) rfl (by decide +kernel) (by decide +kernel) (by decide +kernel) V
theorem post_v214 : post V (no_index main_v214) = ((transpose S8x16x128x4x256 [0, 1, 4, 2, 3] · transposes_S8x16x4x256x128_S8x16x128x4x256_0_1_4_2_3) : (⟨S8x16x4x256x128, .f32⟩ : BufTy).Contents (Elt F) → (⟨S8x16x128x4x256, .f32⟩ : BufTy).Contents (Elt F)) (post V main_v213) :=
  at1 postL_writes (i := 92) rfl (by decide +kernel) (by decide +kernel) V
theorem post_v215 : post V (no_index main_v215) = (broadcastInDim S8x16x128x4x256 ![0, 1, 2, 3, 4] bcast_S8x16x128x4x1_S8x16x128x4x256_0_1_2_3_4 : (⟨S8x16x128x4x1, .f32⟩ : BufTy).Contents (Elt F) → (⟨S8x16x128x4x256, .f32⟩ : BufTy).Contents (Elt F)) (post V main_v212) :=
  at1 postL_writes (i := 93) rfl (by decide +kernel) (by decide +kernel) V
theorem post_v216 : post V (no_index main_v216) = (mulf : (⟨S8x16x128x4x256, .f32⟩ : BufTy).Contents (Elt F) → (⟨S8x16x128x4x256, .f32⟩ : BufTy).Contents (Elt F) → (⟨S8x16x128x4x256, .f32⟩ : BufTy).Contents (Elt F)) (post V main_v215) (post V main_v214) :=
  at2 postL_writes (i := 94) rfl (by decide +kernel) (by decide +kernel) (by decide +kernel) V
theorem post_v217 : post V (no_index main_v217) = (addf : (⟨S8x16x128x4x256, .f32⟩ : BufTy).Contents (Elt F) → (⟨S8x16x128x4x256, .f32⟩ : BufTy).Contents (Elt F) → (⟨S8x16x128x4x256, .f32⟩ : BufTy).Contents (Elt F)) (post V main_v211) (post V main_v216) :=
  at2 postL_writes (i := 95) rfl (by decide +kernel) (by decide +kernel) (by decide +kernel) V
theorem post_cst_28 : post V (no_index main_cst_28) = (constant S_ .f32 0x00000000#32) :=
  at0 postL_writes (i := 96) rfl (by decide +kernel) V
theorem post_v218 : post V (no_index main_v218) = ((fun x v => Host.reduceAdd x v reducesTo_S8x16x4x128x128_S8x16x4x128_d4 h_S_) : (⟨S8x16x4x128x128, .f32⟩ : BufTy).Contents (Elt F) → (⟨S_, .f32⟩ : BufTy).Contents (Elt F) → (⟨S8x16x4x128, .f32⟩ : BufTy).Contents (Elt F)) (post V main_v209) (post V main_cst_28) :=
  at2 postL_writes (i := 97) rfl (by decide +kernel) (by decide +kernel) (by decide +kernel) V
theorem post_v219 : post V (no_index main_v219) = ((transpose S8x16x128x4 [0, 1, 3, 2] · transposes_S8x16x4x128_S8x16x128x4_0_1_3_2) : (⟨S8x16x4x128, .f32⟩ : BufTy).Contents (Elt F) → (⟨S8x16x128x4, .f32⟩ : BufTy).Contents (Elt F)) (post V main_v218) :=
  at1 postL_writes (i := 98) rfl (by decide +kernel) (by decide +kernel) V
theorem post_v220 : post V (no_index main_v220) = ((fun l r => Host.dotGeneral dot_S8x16x4x128_S8x16x128x4x128_S8x16x4x128_3_4_n_2_012_013 none l r) : (⟨S8x16x4x128, .f32⟩ : BufTy).Contents (Elt F) → (⟨S8x16x128x4x128, .f32⟩ : BufTy).Contents (Elt F) → (⟨S8x16x4x128, .f32⟩ : BufTy).Contents (Elt F)) (post V main_v144) (post V main_v98) :=
  at2 postL_writes (i := 99) rfl (by decide +kernel) (by decide +kernel) (by decide +kernel) V
theorem post_v221 : post V (no_index main_v221) = ((transpose S8x16x128x4 [0, 1, 3, 2] · transposes_S8x16x4x128_S8x16x128x4_0_1_3_2) : (⟨S8x16x4x128, .f32⟩ : BufTy).Contents (Elt F) → (⟨S8x16x128x4, .f32⟩ : BufTy).Contents (Elt F)) (post V main_v220) :=
  at1 postL_writes (i := 100) rfl (by decide +kernel) (by decide +kernel) V
theorem post_v222 : post V (no_index main_v222) = (mulf : (⟨S8x16x128x4, .f32⟩ : BufTy).Contents (Elt F) → (⟨S8x16x128x4, .f32⟩ : BufTy).Contents (Elt F) → (⟨S8x16x128x4, .f32⟩ : BufTy).Contents (Elt F)) (post V main_v207) (post V main_v221) :=
  at2 postL_writes (i := 101) rfl (by decide +kernel) (by decide +kernel) (by decide +kernel) V
theorem post_v223 : post V (no_index main_v223) = (addf : (⟨S8x16x128x4, .f32⟩ : BufTy).Contents (Elt F) → (⟨S8x16x128x4, .f32⟩ : BufTy).Contents (Elt F) → (⟨S8x16x128x4, .f32⟩ : BufTy).Contents (Elt F)) (post V main_v219) (post V main_v222) :=
  at2 postL_writes (i := 102) rfl (by decide +kernel) (by decide +kernel) (by decide +kernel) V
theorem post_v224 : post V (no_index main_v224) = (Host.absf : (⟨S8x16x128x4, .f32⟩ : BufTy).Contents (Elt F) → (⟨S8x16x128x4, .f32⟩ : BufTy).Contents (Elt F)) (post V main_v223) :=
  at1 postL_writes (i := 103) rfl (by decide +kernel) (by decide +kernel) V
theorem post_v225 : post V (no_index main_v225) = ((transpose S8x16x128x4 [0, 1, 3, 2] · transposes_S8x16x4x128_S8x16x128x4_0_1_3_2) : (⟨S8x16x4x128, .f32⟩ : BufTy).Contents (Elt F) → (⟨S8x16x128x4, .f32⟩ : BufTy).Contents (Elt F)) (post V main_v200) :=
  at1 postL_writes (i := 104) rfl (by decide +kernel) (by decide +kernel) V
theorem post_v226 : post V (no_index main_v226) = (Host.negf : (⟨S8x16x128x4, .f32⟩ : BufTy).Contents (Elt F) → (⟨S8x16x128x4, .f32⟩ : BufTy).Contents (Elt F)) (post V main_v225) :=
  at1 postL_writes (i := 105) rfl (by decide +kernel) (by decide +kernel) V
theorem post_v227 : post V (no_index main_v227) = (Host.exp : (⟨S8x16x128x4, .f32⟩ : BufTy).Contents (Elt F) → (⟨S8x16x128x4, .f32⟩ : BufTy).Contents (Elt F)) (post V main_v226) :=
  at1 postL_writes (i := 106) rfl (by decide +kernel) (by decide +kernel) V
theorem post_v228 : post V (no_index main_v228) = (maximumf : (⟨S8x16x128x4, .f32⟩ : BufTy).Contents (Elt F) → (⟨S8x16x128x4, .f32⟩ : BufTy).Contents (Elt F) → (⟨S8x16x128x4, .f32⟩ : BufTy).Contents (Elt F)) (post V main_v224) (post V main_v227) :=
  at2 postL_writes (i := 107) rfl (by decide +kernel) (by decide +kernel) (by decide +kernel) V
theorem post_v229 : post V (no_index main_v229) = (broadcastInDim S8x16x128x4x1 ![0, 1, 2, 3] bcast_S8x16x128x4_S8x16x128x4x1_0_1_2_3 : (⟨S8x16x128x4, .f32⟩ : BufTy).Contents (Elt F) → (⟨S8x16x128x4x1, .f32⟩ : BufTy).Contents (Elt F)) (post V main_v228) :=
  at1 postL_writes (i := 108) rfl (by decide +kernel) (by decide +kernel) V
theorem post_v230 : post V (no_index main_v230) = (broadcastInDim S8x16x128x4x256 ![0, 1, 2, 3, 4] bcast_S8x16x128x4x1_S8x16x128x4x256_0_1_2_3_4 : (⟨S8x16x128x4x1, .f32⟩ : BufTy).Contents (Elt F) → (⟨S8x16x128x4x256, .f32⟩ : BufTy).Contents (Elt F)) (post V main_v229) :=
  at1 postL_writes (i := 109) rfl (by decide +kernel) (by decide +kernel) V
theorem post_v231 : post V (no_index main_v231) = (Host.divf : (⟨S8x16x128x4x256, .f32⟩ : BufTy).Contents (Elt F) → (⟨S8x16x128x4x256, .f32⟩ : BufTy).Contents (Elt F) → (⟨S8x16x128x4x256, .f32⟩ : BufTy).Contents (Elt F)) (post V main_v217) (post V main_v230) :=
  at2 postL_writes (i := 110) rfl (by decide +kernel) (by decide +kernel) (by decide +kernel) V
theorem post_v232 : post V (no_index main_v232) = shapeCast S8x2048x4x256 (post V main_v231) shapeCasts_S8x16x128x4x256_S8x2048x4x256 :=
  atR postL_writes (i := 111) rfl (by decide +kernel) (by decide +kernel) V
theorem post_v233 : post V (no_index main_v233) = shapeCast S8x2048x4x256 (post V main_v12) shapeCasts_S8x2048x1024_S8x2048x4x256 :=
  atR postL_writes (i := 112) rfl (by decide +kernel) (by decide +kernel) V
theorem post_v234 : post V (no_index main_v234) = (Host.negf : (⟨S8x2048x4x256, .f32⟩ : BufTy).Contents (Elt F) → (⟨S8x2048x4x256, .f32⟩ : BufTy).Contents (Elt F)) (post V main_v233) :=
  at1 postL_writes (i := 113) rfl (by decide +kernel) (by decide +kernel) V
theorem post_v235 : post V (no_index main_v235) = (Host.exp : (⟨S8x2048x4x256, .f32⟩ : BufTy).Contents (Elt F) → (⟨S8x2048x4x256, .f32⟩ : BufTy).Contents (Elt F)) (post V main_v234) :=
  at1 postL_writes (i := 114) rfl (by decide +kernel) (by decide +kernel) V
theorem post_cst_29 : post V (no_index main_cst_29) = (constant S_ .f32 0x3F800000#32) :=
  at0 postL_writes (i := 115) rfl (by decide +kernel) V
theorem post_v236 : post V (no_index main_v236) = (broadcastInDim S8x2048x4x256 ![] bcast_S_S8x2048x4x256 : (⟨S_, .f32⟩ : BufTy).Contents (Elt F) → (⟨S8x2048x4x256, .f32⟩ : BufTy).Contents (Elt F)) (post V main_cst_29) :=
  at1 postL_writes (i := 116) rfl (by decide +kernel) (by decide +kernel) V
theorem post_v237 : post V (no_index main_v237) = (addf : (⟨S8x2048x4x256, .f32⟩ : BufTy).Contents (Elt F) → (⟨S8x2048x4x256, .f32⟩ : BufTy).Contents (Elt F) → (⟨S8x2048x4x256, .f32⟩ : BufTy).Contents (Elt F)) (post V main_v236) (post V main_v235) :=
  at2 postL_writes (i := 117) rfl (by decide +kernel) (by decide +kernel) (by decide +kernel) V
theorem post_cst_30 : post V (no_index main_cst_30) = (constant S_ .f32 0x3F800000#32) :=
  at0 postL_writes (i := 118) rfl (by decide +kernel) V
theorem post_v238 : post V (no_index main_v238) = (broadcastInDim S8x2048x4x256 ![] bcast_S_S8x2048x4x256 : (⟨S_, .f32⟩ : BufTy).Contents (Elt F) → (⟨S8x2048x4x256, .f32⟩ : BufTy).Contents (Elt F)) (post V main_cst_30) :=
  at1 postL_writes (i := 119) rfl (by decide +kernel) (by decide +kernel) V
theorem post_v239 : post V (no_index main_v239) = (Host.divf : (⟨S8x2048x4x256, .f32⟩ : BufTy).Contents (Elt F) → (⟨S8x2048x4x256, .f32⟩ : BufTy).Contents (Elt F) → (⟨S8x2048x4x256, .f32⟩ : BufTy).Contents (Elt F)) (post V main_v238) (post V main_v237) :=
  at2 postL_writes (i := 120) rfl (by decide +kernel) (by decide +kernel) (by decide +kernel) V
theorem post_v240 : post V (no_index main_v240) = (mulf : (⟨S8x2048x4x256, .f32⟩ : BufTy).Contents (Elt F) → (⟨S8x2048x4x256, .f32⟩ : BufTy).Contents (Elt F) → (⟨S8x2048x4x256, .f32⟩ : BufTy).Contents (Elt F)) (post V main_v239) (post V main_v232) :=
  at2 postL_writes (i := 121) rfl (by decide +kernel) (by decide +kernel) (by decide +kernel) V
theorem post_v241 : post V (no_index main_v241) = shapeCast S1024 (post V main_arg6) shapeCasts_S1x1024_S1024 :=
  atR postL_writes (i := 122) rfl (by decide +kernel) (by decide +kernel) V
theorem post_cst_31 : post V (no_index main_cst_31) = (constant S_ .f32 0x00000000#32) :=
  at0 postL_writes (i := 123) rfl (by decide +kernel) V
theorem post_v242 : post V (no_index main_v242) = ((fun x v => Host.reduceAdd x v reducesTo_S8x2048x4x256_S8x2048x4_d3 h_S_) : (⟨S8x2048x4x256, .f32⟩ : BufTy).Contents (Elt F) → (⟨S_, .f32⟩ : BufTy).Contents (Elt F) → (⟨S8x2048x4, .f32⟩ : BufTy).Contents (Elt F)) (post V main_v240) (post V main_cst_31) :=
  at2 postL_writes (i := 124) rfl (by decide +kernel) (by decide +kernel) (by decide +kernel) V
theorem post_v243 : post V (no_index main_v243) = (broadcastInDim S8x2048x4x1 ![0, 1, 2] bcast_S8x2048x4_S8x2048x4x1_0_1_2 : (⟨S8x2048x4, .f32⟩ : BufTy).Contents (Elt F) → (⟨S8x2048x4x1, .f32⟩ : BufTy).Contents (Elt F)) (post V main_v242) :=
  at1 postL_writes (i := 125) rfl (by decide +kernel) (by decide +kernel) V
theorem post_cst_32 : post V (no_index main_cst_32) = (constant S_ .f32 0x43800000#32) :=
  at0 postL_writes (i := 126) rfl (by decide +kernel) V
theorem post_v244 : post V (no_index main_v244) = (broadcastInDim S8x2048x4x1 ![] bcast_S_S8x2048x4x1 : (⟨S_, .f32⟩ : BufTy).Contents (Elt F) → (⟨S8x2048x4x1, .f32⟩ : BufTy).Contents (Elt F)) (post V main_cst_32) :=
  at1 postL_writes (i := 127) rfl (by decide +kernel) (by decide +kernel) V
theorem post_v245 : post V (no_index main_v245) = (Host.divf : (⟨S8x2048x4x1, .f32⟩ : BufTy).Contents (Elt F) → (⟨S8x2048x4x1, .f32⟩ : BufTy).Contents (Elt F) → (⟨S8x2048x4x1, .f32⟩ : BufTy).Contents (Elt F)) (post V main_v243) (post V main_v244) :=
  at2 postL_writes (i := 128) rfl (by decide +kernel) (by decide +kernel) (by decide +kernel) V
theorem post_v246 : post V (no_index main_v246) = (broadcastInDim S8x2048x4x256 ![0, 1, 2, 3] bcast_S8x2048x4x1_S8x2048x4x256_0_1_2_3 : (⟨S8x2048x4x1, .f32⟩ : BufTy).Contents (Elt F) → (⟨S8x2048x4x256, .f32⟩ : BufTy).Contents (Elt F)) (post V main_v245) :=
  at1 postL_writes (i := 129) rfl (by decide +kernel) (by decide +kernel) V
theorem post_v247 : post V (no_index main_v247) = (subf : (⟨S8x2048x4x256, .f32⟩ : BufTy).Contents (Elt F) → (⟨S8x2048x4x256, .f32⟩ : BufTy).Contents (Elt F) → (⟨S8x2048x4x256, .f32⟩ : BufTy).Contents (Elt F)) (post V main_v240) (post V main_v246) :=
  at2 postL_writes (i := 130) rfl (by decide +kernel) (by decide +kernel) (by decide +kernel) V
theorem post_v248 : post V (no_index main_v248) = (mulf : (⟨S8x2048x4x256, .f32⟩ : BufTy).Contents (Elt F) → (⟨S8x2048x4x256, .f32⟩ : BufTy).Contents (Elt F) → (⟨S8x2048x4x256, .f32⟩ : BufTy).Contents (Elt F)) (post V main_v247) (post V main_v247) :=
  at2 postL_writes (i := 131) rfl (by decide +kernel) (by decide +kernel) (by decide +kernel) V
theorem post_cst_33 : post V (no_index main_cst_33) = (constant S_ .f32 0x00000000#32) :=
  at0 postL_writes (i := 132) rfl (by decide +kernel) V
theorem post_v249 : post V (no_index main_v249) = ((fun x v => Host.reduceAdd x v reducesTo_S8x2048x4x256_S8x2048x4_d3 h_S_) : (⟨S8x2048x4x256, .f32⟩ : BufTy).Contents (Elt F) → (⟨S_, .f32⟩ : BufTy).Contents (Elt F) → (⟨S8x2048x4, .f32⟩ : BufTy).Contents (Elt F)) (post V main_v248) (post V main_cst_33) :=
  at2 postL_writes (i := 133) rfl (by decide +kernel) (by decide +kernel) (by decide +kernel) V
theorem post_v250 : post V (no_index main_v250) = (broadcastInDim S8x2048x4x1 ![0, 1, 2] bcast_S8x2048x4_S8x2048x4x1_0_1_2 : (⟨S8x2048x4, .f32⟩ : BufTy).Contents (Elt F) → (⟨S8x2048x4x1, .f32⟩ : BufTy).Contents (Elt F)) (post V main_v249) :=
  at1 postL_writes (i := 134) rfl (by decide +kernel) (by decide +kernel) V
theorem post_cst_34 : post V (no_index main_cst_34) = (constant S_ .f32 0x43800000#32) :=
  at0 postL_writes (i := 135) rfl (by decide +kernel) V
theorem post_v251 : post V (no_index main_v251) = (broadcastInDim S8x2048x4x1 ![] bcast_S_S8x2048x4x1 : (⟨S_, .f32⟩ : BufTy).Contents (Elt F) → (⟨S8x2048x4x1, .f32⟩ : BufTy).Contents (Elt F)) (post V main_cst_34) :=
  at1 postL_writes (i := 136) rfl (by decide +kernel) (by decide +kernel) V
theorem post_v252 : post V (no_index main_v252) = (Host.divf : (⟨S8x2048x4x1, .f32⟩ : BufTy).Contents (Elt F) → (⟨S8x2048x4x1, .f32⟩ : BufTy).Contents (Elt F) → (⟨S8x2048x4x1, .f32⟩ : BufTy).Contents (Elt F)) (post V main_v250) (post V main_v251) :=
  at2 postL_writes (i := 137) rfl (by decide +kernel) (by decide +kernel) (by decide +kernel) V
theorem post_cst_35 : post V (no_index main_cst_35) = (constant S_ .f32 0x358637BD#32) :=
  at0 postL_writes (i := 138) rfl (by decide +kernel) V
theorem post_v253 : post V (no_index main_v253) = (broadcastInDim S8x2048x4x1 ![] bcast_S_S8x2048x4x1 : (⟨S_, .f32⟩ : BufTy).Contents (Elt F) → (⟨S8x2048x4x1, .f32⟩ : BufTy).Contents (Elt F)) (post V main_cst_35) :=
  at1 postL_writes (i := 139) rfl (by decide +kernel) (by decide +kernel) V
theorem post_v254 : post V (no_index main_v254) = (addf : (⟨S8x2048x4x1, .f32⟩ : BufTy).Contents (Elt F) → (⟨S8x2048x4x1, .f32⟩ : BufTy).Contents (Elt F) → (⟨S8x2048x4x1, .f32⟩ : BufTy).Contents (Elt F)) (post V main_v252) (post V main_v253) :=
  at2 postL_writes (i := 140) rfl (by decide +kernel) (by decide +kernel) (by decide +kernel) V
theorem post_v255 : post V (no_index main_v255) = (Host.rsqrt : (⟨S8x2048x4x1, .f32⟩ : BufTy).Contents (Elt F) → (⟨S8x2048x4x1, .f32⟩ : BufTy).Contents (Elt F)) (post V main_v254) :=
  at1 postL_writes (i := 141) rfl (by decide +kernel) (by decide +kernel) V
theorem post_v256 : post V (no_index main_v256) = (broadcastInDim S8x2048x4x256 ![0, 1, 2, 3] bcast_S8x2048x4x1_S8x2048x4x256_0_1_2_3 : (⟨S8x2048x4x1, .f32⟩ : BufTy).Contents (Elt F) → (⟨S8x2048x4x256, .f32⟩ : BufTy).Contents (Elt F)) (post V main_v255) :=
  at1 postL_writes (i := 142) rfl (by decide +kernel) (by decide +kernel) V
theorem post_v257 : post V (no_index main_v257) = (mulf : (⟨S8x2048x4x256, .f32⟩ : BufTy).Contents (Elt F) → (⟨S8x2048x4x256, .f32⟩ : BufTy).Contents (Elt F) → (⟨S8x2048x4x256, .f32⟩ : BufTy).Contents (Elt F)) (post V main_v247) (post V main_v256) :=
  at2 postL_writes (i := 143) rfl (by decide +kernel) (by decide +kernel) (by decide +kernel) V
theorem post_v258 : post V (no_index main_v258) = shapeCast S8x2048x1024 (post V main_v257) shapeCasts_S8x2048x4x256_S8x2048x1024 :=
  atR postL_writes (i := 144) rfl (by decide +kernel) (by decide +kernel) V
theorem post_v259 : post V (no_index main_v259) = (broadcastInDim S1x1x1024 ![2] bcast_S1024_S1x1x1024_2 : (⟨S1024, .f32⟩ : BufTy).Contents (Elt F) → (⟨S1x1x1024, .f32⟩ : BufTy).Contents (Elt F)) (post V main_v241) :=
  at1 postL_writes (i := 145) rfl (by decide +kernel) (by decide +kernel) V
theorem post_v260 : post V (no_index main_v260) = (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)) (post V main_v259) :=
  at1 postL_writes (i := 146) rfl (by decide +kernel) (by decide +kernel) V
theorem post_v261 : post V (no_index main_v261) = (mulf : (⟨S8x2048x1024, .f32⟩ : BufTy).Contents (Elt F) → (⟨S8x2048x1024, .f32⟩ : BufTy).Contents (Elt F) → (⟨S8x2048x1024, .f32⟩ : BufTy).Contents (Elt F)) (post V main_v258) (post V main_v260) :=
  at2 postL_writes (i := 147) rfl (by decide +kernel) (by decide +kernel) (by decide +kernel) V
theorem post_call16_v0 : post V (no_index main_call16_v0) = (Host.negf : (⟨S8x2048x1024, .f32⟩ : BufTy).Contents (Elt F) → (⟨S8x2048x1024, .f32⟩ : BufTy).Contents (Elt F)) (post V main_v13) :=
  at1 postL_writes (i := 148) rfl (by decide +kernel) (by decide +kernel) V
theorem post_call16_v1 : post V (no_index main_call16_v1) = (Host.exp : (⟨S8x2048x1024, .f32⟩ : BufTy).Contents (Elt F) → (⟨S8x2048x1024, .f32⟩ : BufTy).Contents (Elt F)) (post V main_call16_v0) :=
  at1 postL_writes (i := 149) rfl (by decide +kernel) (by decide +kernel) V
theorem post_call16_cst : post V (no_index main_call16_cst) = ((constant S_ .f32 0x3F800000#32) : (⟨S_, .f32⟩ : BufTy).Contents (Elt F)) :=
  at0 postL_writes (i := 150) rfl (by decide +kernel) V
theorem post_call16_v2 : post V (no_index main_call16_v2) = ((broadcastInDim S8x2048x1024 ![] bcast_S_S8x2048x1024) : (⟨S_, .f32⟩ : BufTy).Contents (Elt F) → (⟨S8x2048x1024, .f32⟩ : BufTy).Contents (Elt F)) (post V main_call16_cst) :=
  at1 postL_writes (i := 151) rfl (by decide +kernel) (by decide +kernel) V
theorem post_call16_v3 : post V (no_index main_call16_v3) = (addf : (⟨S8x2048x1024, .f32⟩ : BufTy).Contents (Elt F) → (⟨S8x2048x1024, .f32⟩ : BufTy).Contents (Elt F) → (⟨S8x2048x1024, .f32⟩ : BufTy).Contents (Elt F)) (post V main_call16_v2) (post V main_call16_v1) :=
  at2 postL_writes (i := 152) rfl (by decide +kernel) (by decide +kernel) (by decide +kernel) V
theorem post_call16_cst_0 : post V (no_index main_call16_cst_0) = ((constant S_ .f32 0x3F800000#32) : (⟨S_, .f32⟩ : BufTy).Contents (Elt F)) :=
  at0 postL_writes (i := 153) rfl (by decide +kernel) V
theorem post_call16_v4 : post V (no_index main_call16_v4) = ((broadcastInDim S8x2048x1024 ![] bcast_S_S8x2048x1024) : (⟨S_, .f32⟩ : BufTy).Contents (Elt F) → (⟨S8x2048x1024, .f32⟩ : BufTy).Contents (Elt F)) (post V main_call16_cst_0) :=
  at1 postL_writes (i := 154) rfl (by decide +kernel) (by decide +kernel) V
theorem post_call16_v5 : post V (no_index main_call16_v5) = (Host.divf : (⟨S8x2048x1024, .f32⟩ : BufTy).Contents (Elt F) → (⟨S8x2048x1024, .f32⟩ : BufTy).Contents (Elt F) → (⟨S8x2048x1024, .f32⟩ : BufTy).Contents (Elt F)) (post V main_call16_v4) (post V main_call16_v3) :=
  at2 postL_writes (i := 155) rfl (by decide +kernel) (by decide +kernel) (by decide +kernel) V
theorem post_v262 : post V (no_index main_v262) = (mulf : (⟨S8x2048x1024, .f32⟩ : BufTy).Contents (Elt F) → (⟨S8x2048x1024, .f32⟩ : BufTy).Contents (Elt F) → (⟨S8x2048x1024, .f32⟩ : BufTy).Contents (Elt F)) (post V main_v13) (post V main_call16_v5) :=
  at2 postL_writes (i := 156) rfl (by decide +kernel) (by decide +kernel) (by decide +kernel) V
theorem post_v263 : post V (no_index main_v263) = (mulf : (⟨S8x2048x1024, .f32⟩ : BufTy).Contents (Elt F) → (⟨S8x2048x1024, .f32⟩ : BufTy).Contents (Elt F) → (⟨S8x2048x1024, .f32⟩ : BufTy).Contents (Elt F)) (post V main_v261) (post V main_v262) :=
  at2 postL_writes (i := 157) rfl (by decide +kernel) (by decide +kernel) (by decide +kernel) V
theorem post_v264 : post V (no_index main_v264) = ((fun a b => concatenate S8x2048x2048 2 [⟨S8x2048x1024, a⟩, ⟨S8x2048x1024, b⟩] concatenates_S8x2048x1024_S8x2048x1024_S8x2048x2048_d2) : (⟨S8x2048x1024, .f32⟩ : BufTy).Contents (Elt F) → (⟨S8x2048x1024, .f32⟩ : BufTy).Contents (Elt F) → (⟨S8x2048x2048, .f32⟩ : BufTy).Contents (Elt F)) (post V main_v184) (post V main_v263) :=
  at2 postL_writes (i := 158) rfl (by decide +kernel) (by decide +kernel) (by decide +kernel) V
theorem post_v265 : post V (no_index main_v265) = ((truncf .bf16 · bitsLt_bf16_f32) : (⟨S8x2048x2048, .f32⟩ : BufTy).Contents (Elt F) → (⟨S8x2048x2048, .bf16⟩ : BufTy).Contents (Elt F)) (post V main_v264) :=
  at1 postL_writes (i := 159) rfl (by decide +kernel) (by decide +kernel) V
theorem post_v266 : post V (no_index main_v266) = shapeCast S16384x2048 (post V main_v265) shapeCasts_S8x2048x2048_S16384x2048 :=
  atR postL_writes (i := 160) rfl (by decide +kernel) (by decide +kernel) V

end Cert.AbMixerRefIdeal.Value

end
-- ==== Proof.MixDen.lean ====
/-
  Where no input gate is infinite, the stabiliser of an mLSTM head is not, and then no denominator is zero.
-/
module

public import proofs.«01_k».proof.Proof.MixNum

@[expose] public section

noncomputable section

namespace Cert.Mix

open Idealize.ShloMosaic

theorem exp_nonneg (x : EReal) : 0 ≤ Ideal.exp x := by
  induction x with
  | bot => exact le_refl _
  | coe r => exact EReal.coe_nonneg.mpr (Real.exp_pos r).le
  | top => exact le_top

theorem exp_pos_of {x : EReal} (h : x ≠ ⊥) : 0 < Ideal.exp x := by
  induction x with
  | bot => exact absurd rfl h
  | coe r => exact EReal.coe_pos.mpr (Real.exp_pos r)
  | top => exact EReal.zero_lt_top

theorem log1p_nonneg {y : EReal} (h : 0 ≤ y) : 0 ≤ Ideal.log1p y := by
  induction y with
  | bot => exact absurd h (by simp)
  | coe r =>
    have hr : 0 ≤ r := EReal.coe_nonneg.mp h
    rw [log1p_coe r (by linarith)]
    exact EReal.coe_nonneg.mpr (Real.log_nonneg (by linarith))
  | top =>
    have e : Ideal.log1p ⊤ = ⊤ := rfl
    rw [e]; exact le_top

theorem logSig_nonpos (x : EReal) : logSig x ≤ 0 := by
  rw [logSig, EReal.neg_le, neg_zero]
  exact add_nonneg (le_max_right _ _) (log1p_nonneg (exp_nonneg _))

theorem cum_nonpos {f : Fin 128 → EReal} (hf : ∀ j, f j ≤ 0) (i : Fin 128) : cum f i ≤ 0 :=
  Finset.sum_nonpos fun j _ => by split <;> [exact hf j; exact le_refl _]

theorem cum_anti {f : Fin 128 → EReal} (hf : ∀ j, f j ≤ 0) {i j : Fin 128} (h : j ≤ i) : cum f i ≤ cum f j :=
  Finset.sum_le_sum fun k _ => by
    by_cases h1 : k ≤ j
    · rw [if_pos h1, if_pos (h1.trans h)]
    · rw [if_neg h1]; split <;> [exact hf k; exact le_refl _]

/-- A difference of two running sums of numbers that are not positive, the later minus the earlier, is not positive. -/
theorem cum_sub {f : Fin 128 → EReal} (hf : ∀ j, f j ≤ 0) {i j : Fin 128} (h : j ≤ i) : cum f i - cum f j ≤ 0 :=
  (EReal.sub_le_sub (cum_anti hf h) (le_refl _)).trans EReal.sub_self_le_zero

theorem top_ne {f : Fin 128 → EReal} (hf : ∀ j, f j ≠ ⊤) : top f ≠ ⊤ := by
  refine ne_of_lt ?_
  rw [top, Finset.fold_max_lt]
  exact ⟨bot_lt_top, fun j _ => lt_top_iff_ne_top.mpr (hf j)⟩

theorem ne_top_of_nonpos {x : EReal} (h : x ≤ 0) : x ≠ ⊤ := ne_of_lt (h.trans_lt EReal.zero_lt_top)

section
variable {f g : Fin 128 → EReal} (hf : ∀ j, f j ≤ 0) (hg : ∀ j, g j ≠ ⊤) {m : EReal} (hm : m ≠ ⊤)
include hf hg hm

theorem stM_ne : stM (cum f) g m ≠ ⊤ := by
  rw [stM]
  refine ne_of_lt (max_lt ?_ ?_)
  · exact lt_top_iff_ne_top.mpr (EReal.add_ne_top (ne_top_of_nonpos (cum_nonpos hf _)) hm)
  · exact lt_top_iff_ne_top.mpr (top_ne fun j => EReal.add_ne_top
      (ne_top_of_nonpos (cum_sub hf (Fin.le_def.mpr (Nat.le_of_lt_succ j.isLt)))) (hg j))

theorem mT_ne (i : Fin 128) : mT (cum f) g m i ≠ ⊤ := by
  rw [mT]
  refine ne_of_lt (max_lt ?_ ?_)
  · exact lt_top_iff_ne_top.mpr (EReal.add_ne_top (ne_top_of_nonpos (cum_nonpos hf _)) hm)
  · refine lt_top_iff_ne_top.mpr (top_ne fun j => ?_)
    rw [logD]
    split
    · next h => exact EReal.add_ne_top (ne_top_of_nonpos (cum_sub hf h)) (hg j)
    · exact bot_ne_top

theorem mlDen_ne (q k : M128) (n : Fin 128 → EReal) (i : Fin 128) : mlDen q k (cum f) g m n i ≠ 0 := by
  refine ne_of_gt (lt_of_lt_of_le (exp_pos_of ?_) (le_max_right _ _))
  intro h
  exact mT_ne hf hg hm i (EReal.neg_eq_bot_iff.mp h)

end

variable (P : Fin 16384 → Fin 7168 → EReal) (G : Fin 16384 → Fin 128 → EReal) (W : Fin 4 → Fin 1024 → EReal)
  (B : Fin 1024 → EReal) (gb : Fin 128 → EReal)

/-- No input gate is infinite. -/
def GatesBelow : Prop := ∀ (r : Fin 16384) (h : Fin 4), G r ⟨h.val, by omega⟩ + gb ⟨h.val, by omega⟩ ≠ ⊤

variable {G gb} (hG : GatesBelow G gb)
include hG

theorem sM_ne (h : Fin 4) (t : ℕ) : sM G gb h t ≠ ⊤ := by
  induction t with
  | zero => exact bot_ne_top
  | succ t ih =>
    rw [sM]
    split
    · exact bot_ne_top
    · exact stM_ne (fun j => logSig_nonpos _) (fun j => hG _ h) ih

theorem den_ne (t : ℕ) (h : Fin 4) (i : Fin 128) :
    mlDen (mq P W B t h) (mk P W B t h) (bc G gb t h) (ig G gb t h) (sM G gb h t) (sN P G W B gb h t) i ≠ 0 :=
  mlDen_ne (fun j => logSig_nonpos _) (fun j => hG _ h) (sM_ne hG h t) _ _ _ i

end Cert.Mix

end
-- ==== Proof.MixRefPost.lean ====
/-
  What the reference computes after its loop, in terms of the mixer's mathematics.
-/
module

public import proofs.«01_k».proof.Proof.MixRefLoop
public import proofs.«01_k».proof.Proof.MixPost
public import proofs.«01_k».proof.Proof.MixDen

@[expose] public section

set_option maxRecDepth 16384

noncomputable section

open Idealize.ShloMosaic Idealize.ShloMosaic.StableHlo Idealize.ShloMosaic.TcCoe Idealize.SL.Sem
namespace Cert.AbMixerRefIdeal.Value

open Cert.AbMixerRefIdeal Cert.AbMixerRefIdeal.Gen Cert.Mix

variable (V U : Valuation τ sig (Elt Ideal)) (A : Aft V U)

theorem post_keep {r : Ref sig .tc} (h : r ∉ postW) : post U r = U (Proc.devRef .tc r) := by
  unfold post
  exact StableHlo.after_unwritten postW postL_writes h U

theorem pre_keep {r : Ref sig .tc} (h : r ∉ preW) : pre V r = V (Proc.devRef .tc r) := by
  unfold pre
  exact StableHlo.after_unwritten preW preL_writes h V

include A in
theorem pk {r : Ref sig .tc} (h : r ∉ postW) (h1 : r ∉ tripW) (h2 : r ∉ condOps_W) : post U r = pre V r :=
  (post_keep U h).trans (A.keep r h1 h2)

include A in
theorem K101 : post U (no_index main_v101) = pre V main_v101 := pk V U A (by decide +kernel) (by decide +kernel) (by decide +kernel)
include A in
theorem K102 : post U (no_index main_v102) = pre V main_v102 := pk V U A (by decide +kernel) (by decide +kernel) (by decide +kernel)
include A in
theorem K105 : post U (no_index main_v105) = pre V main_v105 := pk V U A (by decide +kernel) (by decide +kernel) (by decide +kernel)
include A in
theorem K110 : post U (no_index main_v110) = pre V main_v110 := pk V U A (by decide +kernel) (by decide +kernel) (by decide +kernel)
include A in
theorem K12 : post U (no_index main_v12) = pre V main_v12 := pk V U A (by decide +kernel) (by decide +kernel) (by decide +kernel)
include A in
theorem K13 : post U (no_index main_v13) = pre V main_v13 := pk V U A (by decide +kernel) (by decide +kernel) (by decide +kernel)
include A in
theorem K14 : post U (no_index main_v14) = pre V main_v14 := pk V U A (by decide +kernel) (by decide +kernel) (by decide +kernel)
include A in
theorem K19 : post U (no_index main_v19) = pre V main_v19 := pk V U A (by decide +kernel) (by decide +kernel) (by decide +kernel)
include A in
theorem K20 : post U (no_index main_v20) = pre V main_v20 := pk V U A (by decide +kernel) (by decide +kernel) (by decide +kernel)
include A in
theorem K23 : post U (no_index main_v23) = pre V main_v23 := pk V U A (by decide +kernel) (by decide +kernel) (by decide +kernel)
include A in
theorem K42 : post U (no_index main_v42) = pre V main_v42 := pk V U A (by decide +kernel) (by decide +kernel) (by decide +kernel)
include A in
theorem K8 : post U (no_index main_v8) = pre V main_v8 := pk V U A (by decide +kernel) (by decide +kernel) (by decide +kernel)
include A in
theorem K98 : post U (no_index main_v98) = pre V main_v98 := pk V U A (by decide +kernel) (by decide +kernel) (by decide +kernel)
include A in
theorem Karg5 : post U (no_index main_arg5) = pre V main_arg5 := pk V U A (by decide +kernel) (by decide +kernel) (by decide +kernel)
include A in
theorem Karg6 : post U (no_index main_arg6) = pre V main_arg6 := pk V U A (by decide +kernel) (by decide +kernel) (by decide +kernel)

include A in
theorem P142 (b : Fin 8) (c : Fin 16) (h : Fin 4) (d : Fin 128) (e : Fin 256) : post U main_v142 (ix5 b c h d e) = stR (vP V) h (b.val * 16 + c.val) d e := by
  simp only [post_v142, post_keep U (r := main_v141_11) (by decide +kernel)]
  pointwise
  exact A.a11 _ _ _ _ _

include A in
theorem P143 (b : Fin 8) (c : Fin 16) (h : Fin 4) (d : Fin 128) (e : Fin 256) : post U main_v143 (ix5 b c h d e) = (sC (vP V) (vG V) (vW V) (vB V) (vgb V) h (b.val * 16 + c.val)) d e := by
  simp only [post_v143, post_keep U (r := main_v141_12) (by decide +kernel)]
  pointwise
  exact A.a12 _ _ _ _ _

include A in
theorem P144 (b : Fin 8) (c : Fin 16) (h : Fin 4) (d : Fin 128) : post U main_v144 (ix4 b c h d) = (sN (vP V) (vG V) (vW V) (vB V) (vgb V) h (b.val * 16 + c.val)) d := by
  simp only [post_v144, post_keep U (r := main_v141_13) (by decide +kernel)]
  pointwise
  exact A.a13 _ _ _ _

include A in
theorem P145 (b : Fin 8) (c : Fin 16) (h : Fin 4)  : post U main_v145 (ix3 b c h) = (sM (vG V) (vgb V) h (b.val * 16 + c.val)) := by
  simp only [post_v145, post_keep U (r := main_v141_14) (by decide +kernel)]
  pointwise
  exact A.a14 _ _ _

include A in
theorem P160 (b : Fin 8) (c : Fin 16) (i : Fin 128) (h : Fin 4) (e : Fin 256) :
    post U main_v160 (ix5 b c i h e) = retY (lg h) (rq (vP V) (b.val * 16 + c.val) h) (rk (vP V) (b.val * 16 + c.val) h) (rv (vP V) (b.val * 16 + c.val) h) (stR (vP V) h (b.val * 16 + c.val)) i e := by
  simp only [post_v160, post_v159, post_v158, post_v157, post_v156, post_v155, post_v154, post_v153, post_v152, post_v150, post_v148, post_v147, post_v146, post_cst_19, post_v151, post_v149, K23 V U A, K42 V U A, K14 V U A, K20 V U A]
  pointwise
  simp only [P142 V U A, R42, R23, R14, R20, Ideal.ofBits_one_f32]
  rfl

theorem R8 (b : Fin 8) (c : Fin 16) (i : Fin 128) (h : Fin 4) (e : Fin 256) : pre V main_v8 (ix3 b ⟨c.val * 128 + i.val, by omega⟩ ⟨h.val * 256 + e.val, by omega⟩) = rg (vP V) (b.val * 16 + c.val) h i e := by
  simp only [pre_v8, pre_v1, pre_v0]
  pointwise
  simp only [rg, row_eq, wcol_eq 2048 _ _ (by omega)]

theorem R12 (b : Fin 8) (c : Fin 16) (i : Fin 128) (h : Fin 4) (e : Fin 256) : pre V main_v12 (ix3 b ⟨c.val * 128 + i.val, by omega⟩ ⟨h.val * 256 + e.val, by omega⟩) = mo (vP V) (b.val * 16 + c.val) h i e := by
  simp only [pre_v12, pre_v1, pre_v0]
  pointwise
  simp only [mo, row_eq, wcol_eq 5120 _ _ (by omega)]

theorem R13 (b : Fin 8) (c : Fin 16) (i : Fin 128) (h : Fin 4) (e : Fin 256) : pre V main_v13 (ix3 b ⟨c.val * 128 + i.val, by omega⟩ ⟨h.val * 256 + e.val, by omega⟩) = mz (vP V) (b.val * 16 + c.val) h i e := by
  simp only [pre_v13, pre_v1, pre_v0]
  pointwise
  simp only [mz, row_eq, wcol_eq 6144 _ _ (by omega)]

include A in
theorem P161 (b : Fin 8) (c : Fin 16) (i : Fin 128) (h : Fin 4) (e : Fin 256) :
    post U main_v161 (ix4 b ⟨c.val * 128 + i.val, by omega⟩ h e) = retY (lg h) (rq (vP V) (b.val * 16 + c.val) h) (rk (vP V) (b.val * 16 + c.val) h) (rv (vP V) (b.val * 16 + c.val) h) (stR (vP V) h (b.val * 16 + c.val)) i e := by
  simp only [post_v161]
  pointwise
  exact P160 V U A b c i h e

include A in
theorem P178 (b : Fin 8) (c : Fin 16) (i : Fin 128) (h : Fin 4) (e : Fin 256) :
    post U main_v178 (ix4 b ⟨c.val * 128 + i.val, by omega⟩ h e) = (retY (lg h) (rq (vP V) (b.val * 16 + c.val) h) (rk (vP V) (b.val * 16 + c.val) h) (rv (vP V) (b.val * 16 + c.val) h) (stR (vP V) h (b.val * 16 + c.val)) i e - mean (retY (lg h) (rq (vP V) (b.val * 16 + c.val) h) (rk (vP V) (b.val * 16 + c.val) h) (rv (vP V) (b.val * 16 + c.val) h) (stR (vP V) h (b.val * 16 + c.val)) i)) * Ideal.rsqrt (mean (fun f => (retY (lg h) (rq (vP V) (b.val * 16 + c.val) h) (rk (vP V) (b.val * 16 + c.val) h) (rv (vP V) (b.val * 16 + c.val) h) (stR (vP V) h (b.val * 16 + c.val)) i f - mean (retY (lg h) (rq (vP V) (b.val * 16 + c.val) h) (rk (vP V) (b.val * 16 + c.val) h) (rv (vP V) (b.val * 16 + c.val) h) (stR (vP V) h (b.val * 16 + c.val)) i)) * (retY (lg h) (rq (vP V) (b.val * 16 + c.val) h) (rk (vP V) (b.val * 16 + c.val) h) (rv (vP V) (b.val * 16 + c.val) h) (stR (vP V) h (b.val * 16 + c.val)) i f - mean (retY (lg h) (rq (vP V) (b.val * 16 + c.val) h) (rk (vP V) (b.val * 16 + c.val) h) (rv (vP V) (b.val * 16 + c.val) h) (stR (vP V) h (b.val * 16 + c.val)) i))) + eps) := by
  simp only [post_v178, post_v168, post_v167, post_v166, post_v164, post_v163, post_cst_20, post_v165, post_cst_21, post_v177, post_v176, post_v175, post_v173, post_v171, post_v170, post_v169, post_cst_22, post_v172, post_cst_23, post_v174, post_cst_24]
  pointwise
  simp only [P161 V U A]
  rfl

abbrev vrn (n : Fin 1024) : EReal := V (Proc.devRef .tc main_arg5) (ix2 0 n)
abbrev vmn (n : Fin 1024) : EReal := V (Proc.devRef .tc main_arg6) (ix2 0 n)

include A in
theorem P184 (b : Fin 8) (c : Fin 16) (i : Fin 128) (h : Fin 4) (e : Fin 256) :
    post U main_v184 (ix3 b ⟨c.val * 128 + i.val, by omega⟩ ⟨h.val * 256 + e.val, by omega⟩) = outRet (vP V) (vrn V) (b.val * 16 + c.val) h i e := by
  simp only [post_v184, post_v182, post_v179, post_v181, post_v180, post_v162, post_v183, post_call14_v5, post_call14_v4, post_call14_cst_0, post_call14_v3, post_call14_v2, post_call14_cst, post_call14_v1, post_call14_v0, Karg5 V U A, K8 V U A]
  pointwise
  simp only [P178 V U A, R8, pre_keep V (r := main_arg5) (by decide +kernel)]
  rfl

include A in
theorem P195 (b : Fin 8) (c : Fin 16) (h : Fin 4) (i : Fin 128) (j : Fin 128) :
    post U main_v195 (ix5 b c h i j) = logD (bc (vG V) (vgb V) (b.val * 16 + c.val) h) (ig (vG V) (vgb V) (b.val * 16 + c.val) h) i j := by
  simp only [post_v195, post_call15_v1, post_v194, post_v193, post_cst_25, post_v192, post_v189, post_v187, post_v185, post_v188, post_v186, post_v191, post_v190, post_call15_v2, post_call15_v0, post_cst_26, K110 V U A, K105 V U A, K19 V U A]
  pointwise
  simp only [R110, R105, R19, pos_sub_nonneg, logD]
  rw [show (id (constant (F := Ideal) S_ FTy.f32 4286578688#32) ix0 : EReal) = ⊥ from bits_bot]

include A in
theorem P198 (b : Fin 8) (c : Fin 16) (h : Fin 4) (i : Fin 128) :
    post U main_v198 (ix4 b c h i) = (bc (vG V) (vgb V) (b.val * 16 + c.val) h) i + (sM (vG V) (vgb V) h (b.val * 16 + c.val)) := by
  simp only [post_v198, post_v197, post_v196, K110 V U A]
  pointwise
  simp only [R110, P145 V U A]

include A in
theorem P199 (b : Fin 8) (c : Fin 16) (h : Fin 4) (i : Fin 128) :
    post U main_v199 (ix4 b c h i) = top (logD (bc (vG V) (vgb V) (b.val * 16 + c.val) h) (ig (vG V) (vgb V) (b.val * 16 + c.val) h) i) := by
  simp only [post_v199, post_cst_27]
  pointwise
  simp only [P195 V U A, bits_bot]
  rfl

include A in
theorem P200 (b : Fin 8) (c : Fin 16) (h : Fin 4) (i : Fin 128) :
    post U main_v200 (ix4 b c h i) = mT (bc (vG V) (vgb V) (b.val * 16 + c.val) h) (ig (vG V) (vgb V) (b.val * 16 + c.val) h) (sM (vG V) (vgb V) h (b.val * 16 + c.val)) i := by
  simp only [post_v200]
  pointwise
  simp only [P199 V U A, P198 V U A]
  rfl

include A in
theorem P209 (b : Fin 8) (c : Fin 16) (h : Fin 4) (i : Fin 128) (j : Fin 128) :
    post U main_v209 (ix5 b c h i j) = mlS (mq (vP V) (vW V) (vB V) (b.val * 16 + c.val) h) (mk (vP V) (vW V) (vB V) (b.val * 16 + c.val) h) (bc (vG V) (vgb V) (b.val * 16 + c.val) h) (ig (vG V) (vgb V) (b.val * 16 + c.val) h) (sM (vG V) (vgb V) h (b.val * 16 + c.val)) i j := by
  simp only [post_v209, post_v208, post_v204, post_v203, post_v202, post_v201, K98 V U A, K101 V U A]
  pointwise
  simp only [P195 V U A, P200 V U A, R98, R101]
  rfl

include A in
theorem P206 (b : Fin 8) (c : Fin 16) (h : Fin 4) (i : Fin 128) :
    post U main_v206 (ix4 b c h i) = Ideal.exp ((bc (vG V) (vgb V) (b.val * 16 + c.val) h) i + (sM (vG V) (vgb V) h (b.val * 16 + c.val)) - mT (bc (vG V) (vgb V) (b.val * 16 + c.val) h) (ig (vG V) (vgb V) (b.val * 16 + c.val) h) (sM (vG V) (vgb V) h (b.val * 16 + c.val)) i) := by
  simp only [post_v206, post_v205]
  pointwise
  simp only [P198 V U A, P200 V U A]

include A in
theorem P217 (b : Fin 8) (c : Fin 16) (i : Fin 128) (h : Fin 4) (e : Fin 256) :
    post U main_v217 (ix5 b c i h e) = mlNum (mq (vP V) (vW V) (vB V) (b.val * 16 + c.val) h) (mk (vP V) (vW V) (vB V) (b.val * 16 + c.val) h) (mv (vP V) (b.val * 16 + c.val) h) (bc (vG V) (vgb V) (b.val * 16 + c.val) h) (ig (vG V) (vgb V) (b.val * 16 + c.val) h) (sM (vG V) (vgb V) h (b.val * 16 + c.val)) (sC (vP V) (vG V) (vW V) (vB V) (vgb V) h (b.val * 16 + c.val)) i e := by
  simp only [post_v217, post_v211, post_v210, post_v216, post_v215, post_v212, post_v207, post_v214, post_v213, K98 V U A, K102 V U A]
  pointwise
  simp only [P209 V U A, P206 V U A, P143 V U A, R98, R102]
  rfl

include A in
theorem P228 (b : Fin 8) (c : Fin 16) (i : Fin 128) (h : Fin 4) :
    post U main_v228 (ix4 b c i h) = mlDen (mq (vP V) (vW V) (vB V) (b.val * 16 + c.val) h) (mk (vP V) (vW V) (vB V) (b.val * 16 + c.val) h) (bc (vG V) (vgb V) (b.val * 16 + c.val) h) (ig (vG V) (vgb V) (b.val * 16 + c.val) h) (sM (vG V) (vgb V) h (b.val * 16 + c.val)) (sN (vP V) (vG V) (vW V) (vB V) (vgb V) h (b.val * 16 + c.val)) i := by
  simp only [post_v228, post_v224, post_v223, post_v219, post_v218, post_cst_28, post_v222, post_v207, post_v221, post_v220, post_v227, post_v226, post_v225, K98 V U A]
  pointwise
  simp only [P209 V U A, P206 V U A, P144 V U A, P200 V U A, R98]
  rfl

include A in
theorem P231 (b : Fin 8) (c : Fin 16) (i : Fin 128) (h : Fin 4) (e : Fin 256) :
    post U main_v231 (ix5 b c i h e) = Ideal.div (mlNum (mq (vP V) (vW V) (vB V) (b.val * 16 + c.val) h) (mk (vP V) (vW V) (vB V) (b.val * 16 + c.val) h) (mv (vP V) (b.val * 16 + c.val) h) (bc (vG V) (vgb V) (b.val * 16 + c.val) h) (ig (vG V) (vgb V) (b.val * 16 + c.val) h) (sM (vG V) (vgb V) h (b.val * 16 + c.val)) (sC (vP V) (vG V) (vW V) (vB V) (vgb V) h (b.val * 16 + c.val)) i e) (mlDen (mq (vP V) (vW V) (vB V) (b.val * 16 + c.val) h) (mk (vP V) (vW V) (vB V) (b.val * 16 + c.val) h) (bc (vG V) (vgb V) (b.val * 16 + c.val) h) (ig (vG V) (vgb V) (b.val * 16 + c.val) h) (sM (vG V) (vgb V) h (b.val * 16 + c.val)) (sN (vP V) (vG V) (vW V) (vB V) (vgb V) h (b.val * 16 + c.val)) i) := by
  simp only [post_v231, post_v230, post_v229]
  pointwise
  simp only [P217 V U A, P228 V U A]

include A in
theorem P240 (hG : GatesBelow (vG V) (vgb V)) (b : Fin 8) (c : Fin 16) (i : Fin 128) (h : Fin 4) (e : Fin 256) :
    post U main_v240 (ix4 b ⟨c.val * 128 + i.val, by omega⟩ h e) = mlY (vP V) (vG V) (vW V) (vB V) (vgb V) (b.val * 16 + c.val) h i e := by
  simp only [post_v240, post_v239, post_v238, post_cst_30, post_v237, post_v236, post_cst_29, post_v235, post_v234, post_v233, post_v232, K12 V U A]
  pointwise
  simp only [P231 V U A, R12]
  rw [← Ideal.mul_one_div (den_ne (vP V) (vW V) (vB V) hG _ h i)]
  rfl

include A in
theorem P257 (hG : GatesBelow (vG V) (vgb V)) (b : Fin 8) (c : Fin 16) (i : Fin 128) (h : Fin 4) (e : Fin 256) :
    post U main_v257 (ix4 b ⟨c.val * 128 + i.val, by omega⟩ h e) = (mlY (vP V) (vG V) (vW V) (vB V) (vgb V) (b.val * 16 + c.val) h i e - mean (mlY (vP V) (vG V) (vW V) (vB V) (vgb V) (b.val * 16 + c.val) h i)) * Ideal.rsqrt (mean (fun f => (mlY (vP V) (vG V) (vW V) (vB V) (vgb V) (b.val * 16 + c.val) h i f - mean (mlY (vP V) (vG V) (vW V) (vB V) (vgb V) (b.val * 16 + c.val) h i)) * (mlY (vP V) (vG V) (vW V) (vB V) (vgb V) (b.val * 16 + c.val) h i f - mean (mlY (vP V) (vG V) (vW V) (vB V) (vgb V) (b.val * 16 + c.val) h i))) + eps) := by
  simp only [post_v257, post_v247, post_v246, post_v245, post_v243, post_v242, post_cst_31, post_v244, post_cst_32, post_v256, post_v255, post_v254, post_v252, post_v250, post_v249, post_v248, post_cst_33, post_v251, post_cst_34, post_v253, post_cst_35]
  pointwise
  simp only [P240 V U A hG]
  rfl

include A in
theorem P263 (hG : GatesBelow (vG V) (vgb V)) (b : Fin 8) (c : Fin 16) (i : Fin 128) (h : Fin 4) (e : Fin 256) :
    post U main_v263 (ix3 b ⟨c.val * 128 + i.val, by omega⟩ ⟨h.val * 256 + e.val, by omega⟩) = outMl (vP V) (vG V) (vW V) (vB V) (vgb V) (vmn V) (b.val * 16 + c.val) h i e := by
  simp only [post_v263, post_v261, post_v258, post_v260, post_v259, post_v241, post_v262, post_call16_v5, post_call16_v4, post_call16_cst_0, post_call16_v3, post_call16_v2, post_call16_cst, post_call16_v1, post_call16_v0, Karg6 V U A, K13 V U A]
  pointwise
  simp only [P257 V U A hG, R13, pre_keep V (r := main_arg6) (by decide +kernel)]
  rfl

include A in
theorem P266a (b : Fin 8) (c : Fin 16) (i : Fin 128) (h : Fin 4) (e : Fin 256) :
    post U main_v266 (ix2 ⟨b.val * 2048 + (c.val * 128 + i.val), by omega⟩ ⟨h.val * 256 + e.val, by omega⟩) = outRet (vP V) (vrn V) (b.val * 16 + c.val) h i e := by
  simp only [post_v266, post_v265, post_v264]
  pointwise
  have e1 : (b.val * 2048 + (c.val * 128 + i.val)) % 2048 = c.val * 128 + i.val := by omega
  rw [dif_pos (by omega)]
  simp only [e1]
  exact P184 V U A b c i h e

include A in
theorem P266b (hG : GatesBelow (vG V) (vgb V)) (b : Fin 8) (c : Fin 16) (i : Fin 128) (h : Fin 4) (e : Fin 256) :
    post U main_v266 (ix2 ⟨b.val * 2048 + (c.val * 128 + i.val), by omega⟩ ⟨1024 + (h.val * 256 + e.val), by omega⟩) = outMl (vP V) (vG V) (vW V) (vB V) (vgb V) (vmn V) (b.val * 16 + c.val) h i e := by
  simp only [post_v266, post_v265, post_v264]
  pointwise
  have e1 : (b.val * 2048 + (c.val * 128 + i.val)) % 2048 = c.val * 128 + i.val := by omega
  simp only [e1]
  exact P263 V U A hG b c i h e

end Cert.AbMixerRefIdeal.Value
end
-- ==== Proof.MixAll.lean ====
/-
  The recurrent mixer: the kernel's result array and the reference's are the same mathematics of the same arguments, so they are
  equal entry by entry.
-/
module

public import proofs.«01_k».proof.Proof.MixKerInv
public import proofs.«01_k».proof.Proof.MixRefPost
public import proofs.«01_k».proof.Defs
public import proofs.«01_k».proof.Proof.Gen.Pre_input_gates_below_inf
public import Idealize.ShloMosaic.Lib.Claim

@[expose] public section

set_option maxRecDepth 16384

noncomputable section

open Idealize.ShloMosaic Idealize.ShloMosaic.StableHlo Idealize.ShloMosaic.TcCoe Idealize.SL.Sem

namespace Cert.AbMixerRefIdeal.Value

open Cert.AbMixerRefIdeal Cert.AbMixerRefIdeal.Gen Cert.Mix

variable (m : (ℓ : Loc nD τ sig) → Buf (Elt Ideal) ℓ) (c : Dev nD)

/-- What a buffer ends with is what the last stretch leaves in it. -/
theorem final_post (r : Ref sig .tc) : finalContents condOps preI bodyI postI 16 m c (Proc.devRef .tc r) = post (atEnd m c) r :=
  congrFun (afterL_eq_after_flatten postI (atEnd m c)) (Proc.devRef .tc r)

theorem final_keep {r : Ref sig .tc} (h1 : r ∉ postW) (h2 : r ∉ tripW) (h3 : r ∉ condOps_W) (h4 : r ∉ preW) :
    finalContents condOps preI bodyI postI 16 m c (Proc.devRef .tc r) = m ((c.tc : Thread nD τ).loc r) :=
  (final_post m c r).trans ((post_keep _ h1).trans ((end_keep m c h2 h3).trans (pre_keep _ h4)))

/-- The run: the result is the last stretch's, and the arguments are kept. -/
theorem run_all (g : Dev nD → PrngReg) : θ_run (defs (F := Ideal)) (onTc (τ := τ) (main (F := Ideal))) ⟨m, fun _ => 0, g⟩
    (fun r => ∀ c : Dev nD, r.2.mem ((c.tc : Thread nD τ).loc main_v266) = post (atEnd m c) main_v266
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h c main_v266 rfl).trans (final_post m c main_v266),
      (h c main_arg0 rfl).trans (final_keep m c (by decide +kernel) (by decide +kernel) (by decide +kernel) (by decide +kernel)),
      (h c main_arg1 rfl).trans (final_keep m c (by decide +kernel) (by decide +kernel) (by decide +kernel) (by decide +kernel)),
      (h c main_arg2 rfl).trans (final_keep m c (by decide +kernel) (by decide +kernel) (by decide +kernel) (by decide +kernel)),
      (h c main_arg3 rfl).trans (final_keep m c (by decide +kernel) (by decide +kernel) (by decide +kernel) (by decide +kernel)),
      (h c main_arg4 rfl).trans (final_keep m c (by decide +kernel) (by decide +kernel) (by decide +kernel) (by decide +kernel)),
      (h c main_arg5 rfl).trans (final_keep m c (by decide +kernel) (by decide +kernel) (by decide +kernel) (by decide +kernel)),
      (h c main_arg6 rfl).trans (final_keep m c (by decide +kernel) (by decide +kernel) (by decide +kernel) (by decide +kernel))⟩)
    (run_fold m g)

end Cert.AbMixerRefIdeal.Value

namespace Cert.Mix

section
variable (P : Fin 16384 → Fin 7168 → EReal) (G : Fin 16384 → Fin 128 → EReal) (W : Fin 4 → Fin 1024 → EReal)
  (B : Fin 1024 → EReal) (gb : Fin 128 → EReal) (rn mn : Fin 1024 → EReal)

theorem mixOut_ret (t : ℕ) (h : Fin 4) (i : Fin 128) (e : Fin 256) (n : Fin 2048) (hn : n.val = h.val * 256 + e.val) :
    mixOut P G W B gb rn mn t (ix2 i n) = outRet P rn t h i e :=
  cOut_ret _ _ _ _ _ _ _ _ _ _ h i e n hn

theorem mixOut_ml (t : ℕ) (h : Fin 4) (i : Fin 128) (e : Fin 256) (n : Fin 2048) (hn : n.val = 1024 + (h.val * 256 + e.val)) :
    mixOut P G W B gb rn mn t (ix2 i n) = outMl P G W B gb mn t h i e :=
  cOut_ml _ _ _ _ _ _ _ _ _ _ h i e n hn

end

section
open Cert.AbMixerRefIdeal Cert.AbMixerRefIdeal.Gen Cert.AbMixerRefIdeal.Value
variable (m : (ℓ : Loc nD τ sig) → Buf (Elt Ideal) ℓ) (c : Dev nD)

/-- The reference's result, entry by entry. -/
theorem ref_out (hG : GatesBelow (vG (launchContents m c)) (vgb (launchContents m c))) (y0 : Fin 16384) (y1 : Fin 2048) : post (atEnd m c) main_v266 (ix2 y0 y1)
    = mixOut (vP (launchContents m c)) (vG (launchContents m c)) (vW (launchContents m c)) (vB (launchContents m c))
      (vgb (launchContents m c)) (vrn (launchContents m c)) (vmn (launchContents m c)) (y0.val / 128)
      (ix2 ⟨y0.val % 128, Nat.mod_lt _ (by decide)⟩ y1) := by
  have hy0 := y0.isLt
  have hy1 := y1.isLt
  obtain ⟨b, cc, i, e0⟩ : ∃ (b : Fin 8) (cc : Fin 16) (i : Fin 128), y0.val = b.val * 2048 + (cc.val * 128 + i.val) :=
    ⟨⟨y0.val / 2048, by omega⟩, ⟨y0.val % 2048 / 128, by omega⟩, ⟨y0.val % 128, by omega⟩, by dsimp only; omega⟩
  have hi := i.isLt
  have ed : y0.val / 128 = b.val * 16 + cc.val := by omega
  have em : (⟨y0.val % 128, Nat.mod_lt _ (by decide)⟩ : Fin 128) = i := Fin.ext (by dsimp only; omega)
  have ey0 : y0 = ⟨b.val * 2048 + (cc.val * 128 + i.val), by omega⟩ := Fin.ext e0
  rw [em, ed, ey0]
  by_cases hl : y1.val < 1024
  · obtain ⟨h, e, e1⟩ : ∃ (h : Fin 4) (e : Fin 256), y1.val = h.val * 256 + e.val :=
      ⟨⟨y1.val / 256, by omega⟩, ⟨y1.val % 256, by omega⟩, by dsimp only; omega⟩
    rw [mixOut_ret _ _ _ _ _ _ _ _ h i e y1 e1, ← P266a _ _ (aft m c) b cc i h e]
    exact congrArg (fun n => post (atEnd m c) main_v266 (ix2 _ n)) (Fin.ext e1)
  · obtain ⟨h, e, e1⟩ : ∃ (h : Fin 4) (e : Fin 256), y1.val = 1024 + (h.val * 256 + e.val) :=
      ⟨⟨(y1.val - 1024) / 256, by omega⟩, ⟨(y1.val - 1024) % 256, by omega⟩, by dsimp only; omega⟩
    rw [mixOut_ml _ _ _ _ _ _ _ _ h i e y1 e1, ← P266b _ _ (aft m c) hG b cc i h e]
    exact congrArg (fun n => post (atEnd m c) main_v266 (ix2 _ n)) (Fin.ext e1)

end

end Cert.Mix

namespace Cert.Proof

open Cert.Mix

/-- The reference's run keeps the arguments, and it declares no semaphore. -/
theorem frameAbMixerRefIdeal : Cert.quiescent_AbMixerRefIdeal (hAbMixerRefIdeal := Cert.AbMixerRefIdeal.Gen.facts) := fun m ρ _ =>
  (θ_run Cert.AbMixerRefIdeal.defs _ _).mono (fun r h => ⟨fun c => (h c).2,
      Idealize.ShloMosaic.sem_eq_zero_of_no_sems (by decide) r.2⟩)
    (Cert.AbMixerRefIdeal.Value.run_all m ρ)

/-- The named constants are what their names say. -/
theorem abMixerNames : Cert.preserves_AbMixer_AbMixerIdeal :=
  ⟨IdealRules.named_const.statement Cert.AbMixerIdeal.κ "mask" .f32 _ _ rfl,
   IdealRules.named_const.statement Cert.AbMixerIdeal.κ "log_decay_0" .f32 _ _ rfl,
   IdealRules.named_const.statement Cert.AbMixerIdeal.κ "chunk_decay_0" .f32 _ _ rfl,
   IdealRules.named_const.statement Cert.AbMixerIdeal.κ "log_decay_1" .f32 _ _ rfl,
   IdealRules.named_const.statement Cert.AbMixerIdeal.κ "chunk_decay_1" .f32 _ _ rfl,
   IdealRules.named_const.statement Cert.AbMixerIdeal.κ "log_decay_2" .f32 _ _ rfl,
   IdealRules.named_const.statement Cert.AbMixerIdeal.κ "chunk_decay_2" .f32 _ _ rfl,
   IdealRules.named_const.statement Cert.AbMixerIdeal.κ "log_decay_3" .f32 _ _ rfl,
   IdealRules.named_const.statement Cert.AbMixerIdeal.κ "chunk_decay_3" .f32 _ _ rfl⟩

/-- The same under the precondition. -/
theorem frameAbMixerIdealPre : Cert.quiescent_AbMixerIdeal_pre_input_gates_below_inf
    (hAbMixerIdeal := Cert.AbMixerIdeal.Gen.facts) := fun m ρ _ => Cert.AbMixerIdeal.Gen.frame m ρ

theorem frameAbMixerRefIdealPre : Cert.quiescent_AbMixerRefIdeal_pre_input_gates_below_inf
    (hAbMixerRefIdeal := Cert.AbMixerRefIdeal.Gen.facts) := fun m ρ _ => frameAbMixerRefIdeal m ρ trivial

/-- The precondition, read: no input gate is infinite. -/
theorem gates_of_pre (m : (ℓ : Loc Cert.AbMixerIdeal.nD Cert.AbMixerIdeal.τ Cert.AbMixerIdeal.sig) → Buf (Elt Ideal) ℓ)
    (h : Cert.Pre_AbMixerIdeal_input_gates_below_inf m) (c : Dev Cert.AbMixerIdeal.nD) : GatesBelow (aG m c) (agb m c) := by
  intro r n
  have e := congrFun (h c) (ix2 r n)
  simp only [Cert.Pre_input_gates_below_inf.fn] at e
  have e' : Ideal.cmp .olt (aG m c r ⟨n.val, by omega⟩ + agb m c ⟨n.val, by omega⟩) (Ideal.ofBits FTy.f32 0x7F800000#32) = 1#1 := by
    refine Eq.trans ?_ e
    pointwise
    rfl
  rw [Ideal.cmp] at e'
  intro ht
  rw [ht] at e'
  simp at e'

/-- The kernel's result is the reference's. -/
theorem abMixer : Cert.algebraic_AbMixerIdeal_AbMixerRefIdeal_pre_input_gates_below_inf
    (hAbMixerIdeal := Cert.AbMixerIdeal.Gen.facts) (hAbMixerRefIdeal := Cert.AbMixerRefIdeal.Gen.facts) := by
  pair_intro
  · run_from Cert.AbMixerIdeal.Value.run_blocks m g
  · run_from Cert.AbMixerRefIdeal.Value.run_all m' g'
    rw [final7 m c]
    obtain ⟨e0, e1, e2, e3, e4, e5, e6⟩ := hagree c
    funext i
    idx_vars i
    have hP : Cert.AbMixerRefIdeal.Value.vP (launchContents m' c) = aP m c := by
      funext r n
      show Cert.AbMixerRefIdeal.Value.pre (launchContents m' c) Cert.AbMixerRefIdeal.main_arg0 (ix2 r n) = _
      rw [Cert.AbMixerRefIdeal.Value.pre_keep _ (by decide +kernel)]
      exact congrFun e0 _
    have hG : Cert.AbMixerRefIdeal.Value.vG (launchContents m' c) = aG m c := by
      funext r n
      show Cert.AbMixerRefIdeal.Value.pre (launchContents m' c) Cert.AbMixerRefIdeal.main_arg1 (ix2 r n) = _
      rw [Cert.AbMixerRefIdeal.Value.pre_keep _ (by decide +kernel)]
      exact congrFun e1 _
    have hW : Cert.AbMixerRefIdeal.Value.vW (launchContents m' c) = aW m c := by
      funext r n
      show Cert.AbMixerRefIdeal.Value.pre (launchContents m' c) Cert.AbMixerRefIdeal.main_arg2 (ix2 r n) = _
      rw [Cert.AbMixerRefIdeal.Value.pre_keep _ (by decide +kernel)]
      exact congrFun e2 _
    have hB : Cert.AbMixerRefIdeal.Value.vB (launchContents m' c) = aB m c := by
      funext n
      show Cert.AbMixerRefIdeal.Value.pre (launchContents m' c) Cert.AbMixerRefIdeal.main_arg3 (ix2 0 n) = _
      rw [Cert.AbMixerRefIdeal.Value.pre_keep _ (by decide +kernel)]
      exact congrFun e3 _
    have hgb : Cert.AbMixerRefIdeal.Value.vgb (launchContents m' c) = agb m c := by
      funext n
      show Cert.AbMixerRefIdeal.Value.pre (launchContents m' c) Cert.AbMixerRefIdeal.main_arg4 (ix2 0 n) = _
      rw [Cert.AbMixerRefIdeal.Value.pre_keep _ (by decide +kernel)]
      exact congrFun e4 _
    have hrn : Cert.AbMixerRefIdeal.Value.vrn (launchContents m' c) = arn m c := by
      funext n
      exact congrFun e5 _
    have hmn : Cert.AbMixerRefIdeal.Value.vmn (launchContents m' c) = amn m c := by
      funext n
      exact congrFun e6 _
    refine (ref_out m' c (by rw [hG, hgb]; exact gates_of_pre m hpre c) i0 i1).trans ?_
    rw [hP, hG, hW, hB, hgb, hrn, hmn]
    rfl

end Cert.Proof

end
-- ==== Proof.CmpSpec.lean ====
/-
  The compression of keys and values into overlapping blocks, over extended reals: block `j` reads the 32 rows from row `16 j`
  on (the last block wraps round), adds a position row to each, and passes through two dense maps with a smooth step between.
-/
module

public import Idealize.ShloMosaic.Lib.Pipeline.ValueKit
public import Idealize.ShloMosaic.Lib.Pointwise

@[expose] public section

noncomputable section

namespace Cert.Cmp

open Idealize.ShloMosaic

/-- The smooth step `x (1 + tanh (c (x + d x³))) / 2`. -/
def gelu (x : EReal) : EReal :=
  Ideal.ofBits FTy.f32 0x3F000000#32 * x * (Ideal.ofBits FTy.f32 0x3F800000#32
    + Ideal.tanh (Ideal.ofBits FTy.f32 0x3F4C422A#32 * (x + Ideal.ofBits FTy.f32 0x3D372713#32 * (x * x * x))))

/-- The row that position `q` of block `j` reads. -/
def rowOf (j : Fin 128) (q : Fin 32) : Fin 2048 := ⟨(16 * j.val + q.val) % 2048, Nat.mod_lt _ (by decide)⟩

/-- The first dense map of block `j`, at hidden unit `h`. -/
def hid (X : Fin 2048 → Fin 64 → EReal) (P : Fin 32 → Fin 64 → EReal) (W : Fin 32 → Fin 64 → Fin 128 → EReal)
    (j h : Fin 128) : EReal :=
  ∑ q, ∑ l, (X (rowOf j q) l + P q l) * W q l h

/-- The compressed block `j` at lane `n`. -/
def cmp (X : Fin 2048 → Fin 64 → EReal) (P : Fin 32 → Fin 64 → EReal) (W : Fin 32 → Fin 64 → Fin 128 → EReal)
    (U : Fin 128 → Fin 64 → EReal) (j : Fin 128) (n : Fin 64) : EReal :=
  ∑ h, gelu (hid X P W j h) * U h n

/-- A sum over 2048 as a sum over 32 groups of 64. -/
theorem sum_flat (F : Fin 2048 → EReal) :
    ∑ f, F f = ∑ q : Fin 32, ∑ l : Fin 64, F ⟨q.val * 64 + l.val, by omega⟩ := by
  rw [← Fintype.sum_prod_type']
  refine (Fintype.sum_equiv (finProdFinEquiv (m := 32) (n := 64)) _ _ fun x => ?_).symm
  exact congrArg F (Fin.ext (by simp [finProdFinEquiv]; omega))

/-- A sum over 128 lanes whose terms vanish from lane 64 on. -/
theorem sum_low (F : Fin 128 → EReal) (h : ∀ l : Fin 128, 64 ≤ l.val → F l = 0) :
    ∑ l, F l = ∑ l : Fin 64, F ⟨l.val, by omega⟩ := by
  have e := Fin.sum_univ_add (a := 64) (b := 64) (fun i => F i)
  refine e.trans ?_
  rw [Finset.sum_eq_zero (s := Finset.univ) (f := fun i : Fin 64 => F (Fin.natAdd 64 i)) (fun i _ => h _ (by simp)), add_zero]
  rfl

/-- A sum over 128 lanes whose terms vanish before lane 64. -/
theorem sum_high (F : Fin 128 → EReal) (h : ∀ l : Fin 128, l.val < 64 → F l = 0) :
    ∑ l, F l = ∑ l : Fin 64, F ⟨64 + l.val, by omega⟩ := by
  have e := Fin.sum_univ_add (a := 64) (b := 64) (fun i => F i)
  refine e.trans ?_
  rw [Finset.sum_eq_zero (s := Finset.univ) (f := fun i : Fin 64 => F (Fin.castAdd 64 i)) (fun i _ => h _ (by simp)), zero_add]
  rfl

end Cert.Cmp

end
-- ==== Proof.CmpKer.lean ====
/-
  The chains of the compression kernel: every accumulator the body carries is the sum, one position of the block after
  the other, of the block's rows with their position row through that position's weight.
-/
module

public import proofs.«01_k».proof.Proof.Gen.CompressIdeal.Value
public import proofs.«01_k».proof.Proof.CmpSpec

@[expose] public section

set_option maxRecDepth 16384

noncomputable section

open Idealize.ShloMosaic Idealize.ShloMosaic.TcCoe Idealize.SL.Sem
open Idealize.ShloMosaic.Pipeline (Dat)

namespace Cert.Cmp.Ker

open Cert.CompressIdeal Cert.CompressIdeal.Gen

/-- The rows at place `r` of all blocks, for the lanes of group `g`. -/
def xr (x0 : Vec Ideal S1x2048x512 .bf16) (g r : ℕ) : FVec Ideal S128x128 .f32 := fun y =>
  x0 (ix3 0 ⟨(16 * (y 0).val + r) % 2048, Nat.mod_lt _ (by decide)⟩ ⟨(128 * g + (y 1).val) % 512, Nat.mod_lt _ (by decide)⟩)

/-- The position row `q`. -/
def pr (P : Vec Ideal S32x128 .f32) (q : ℕ) : FVec Ideal S1x128 .f32 := fun y =>
  P (ix2 ⟨q % 32, Nat.mod_lt _ (by decide)⟩ (y 1))

/-- The weight of position `q`. -/
def wr (W : Vec Ideal S32x128x128 .bf16) (q : ℕ) : FVec Ideal S1x128x128 .bf16 := fun y =>
  W (ix3 ⟨q % 32, Nat.mod_lt _ (by decide)⟩ (y 1) (y 2))

/-- One position's part added. -/
def dstep (a x : FVec Ideal S128x128 .f32) (p : FVec Ideal S1x128 .f32) (w : FVec Ideal S1x128x128 .bf16) : FVec Ideal S128x128 .f32 :=
  addf a (matmul dot_S128x128_S128x128_S128x128_1_0_0_1_n_n none
    (truncf .bf16 (addf x (broadcastTo S128x128 (shapeCast S1x128 p shapeCasts_S1x128_S1x128) broadcasts_S1x128_S128x128)) bitsLt_bf16_f32)
    (shapeCast S128x128 w shapeCasts_S1x128x128_S128x128) (constant S128x128 .f32 0x00000000#32))

/-- The sum over the first positions from `o` on. -/
def accF (x0 : Vec Ideal S1x2048x512 .bf16) (P : Vec Ideal S32x128 .f32) (W : Vec Ideal S32x128x128 .bf16) (g o : ℕ) :
    ℕ → FVec Ideal S128x128 .f32
  | 0 => broadcast S128x128 (Scalar.ofBits .f32 0x00000000#32)
  | n + 1 => dstep (accF x0 P W g o n) (xr x0 g n) (pr P (o + n)) (wr W (o + n))

theorem stepE {x0 : Vec Ideal S1x2048x512 .bf16} {P : Vec Ideal S32x128 .f32} {W : Vec Ideal S32x128x128 .bf16} {g o n : ℕ}
    {a x : FVec Ideal S128x128 .f32} {p : FVec Ideal S1x128 .f32} {w : FVec Ideal S1x128x128 .bf16}
    (ha : a = accF x0 P W g o n) (hx : x = xr x0 g n) (hp : p = pr P (o + n)) (hw : w = wr W (o + n)) :
    dstep a x p w = accF x0 P W g o (n + 1) := by
  rw [ha, hx, hp, hw, accF]

theorem stepX {x0 : Vec Ideal S1x2048x512 .bf16} {P : Vec Ideal S32x128 .f32} {W : Vec Ideal S32x128x128 .bf16} {g o n : ℕ}
    {a x : FVec Ideal S128x128 .f32} {p : FVec Ideal S1x128 .f32} {w : FVec Ideal S128x128 .bf16}
    (ha : a = accF x0 P W g o n) (hx : x = xr x0 g n) (hp : p = pr P (o + n))
    (hw : w = shapeCast S128x128 (wr W (o + n)) shapeCasts_S1x128x128_S128x128) :
    addf a (matmul dot_S128x128_S128x128_S128x128_1_0_0_1_n_n none
      (truncf .bf16 (addf x (broadcastTo S128x128 (shapeCast S1x128 p shapeCasts_S1x128_S1x128) broadcasts_S1x128_S128x128)) bitsLt_bf16_f32)
      w (constant S128x128 .f32 0x00000000#32)) = accF x0 P W g o (n + 1) := by
  rw [ha, hx, hp, hw, accF]
  rfl

theorem read_unread {sig : RefSig} {κ : Kind} {sp : Space} {s : Shape} {e : EltTy} (arg : Memref sig κ sp s e) (h : arg.IsWhole)
    (x : s.Idx → Elt Ideal e) : View.read (Elt Ideal) arg.view (h.unread x) = x := by
  frame_out

theorem raP (arg : Memref sig .tc .vmem S32x128 .f32) (h : arg.IsWhole) (P : Vec Ideal S32x128 .f32) (q : ℕ) (inb) :
    View.readAt (Elt Ideal) arg.view (Rect.unit (s := S32x128) ![q, 0] S1x128.size inb).toLoadRect (h.unread P) = pr P q := by
  funext y
  have hq : q + 1 ≤ 32 := inb 0
  refine (View.ld_unit_apply_of (Val := Elt Ideal) (S := S32x128) (e := .f32) _ _ _ inb y (ix2 ⟨q % 32, Nat.mod_lt _ (by decide)⟩ (y 1)) fun a => ?_).trans (congrFun (read_unread arg h P) _)
  match a with
  | ⟨0, _⟩ => show q % 32 = q + (y 0).val; have : (y 0).val < 1 := (y 0).isLt; omega
  | ⟨1, _⟩ => exact (Nat.zero_add _).symm

theorem raW (arg : Memref sig .tc .vmem S32x128x128 .bf16) (h : arg.IsWhole) (W : Vec Ideal S32x128x128 .bf16) (q : ℕ) (inb) :
    View.readAt (Elt Ideal) arg.view (Rect.unit (s := S32x128x128) ![q, 0, 0] S1x128x128.size inb).toLoadRect (h.unread W) = wr W q := by
  funext y
  have hq : q + 1 ≤ 32 := inb 0
  refine (View.ld_unit_apply_of (Val := Elt Ideal) (S := S32x128x128) (e := .bf16) _ _ _ inb y (ix3 ⟨q % 32, Nat.mod_lt _ (by decide)⟩ (y 1) (y 2)) fun a => ?_).trans (congrFun (read_unread arg h W) _)
  match a with
  | ⟨0, _⟩ => show q % 32 = q + (y 0).val; have : (y 0).val < 1 := (y 0).isLt; omega
  | ⟨1, _⟩ => exact (Nat.zero_add _).symm
  | ⟨2, _⟩ => exact (Nat.zero_add _).symm

/-- The rows stored for a group, read at every sixteenth row from `r` on. -/
theorem rc (g : ℕ) (arg1 : Memref sig .tc .vmem S1x2048x512 .bf16) (harg1 : arg1.IsWhole) (arg11 : Memref sig .tc .vmem S2048x128 .f32)
    (x0 : Vec Ideal S1x2048x512 .bf16) (L : List (View.Piece (Elt Ideal) S2048x128 .f32)) (r : ℕ) (inb) (inb1) (o : ℕ) (ho : o = 128 * g) (inb2) :
    arg11.view.readCov (Val := Elt Ideal) (s := S2048x128) (e := .f32) (⟨Rect.unit (s := S2048x128) ![0, 0] S2048x128.size inb1, k0_pay3 (F := Ideal) (View.readAt (Elt Ideal) arg1.view (Rect.unit (s := S1x2048x512) ![0, 0, o] S1x2048x128.size inb2).toLoadRect (harg1.unread x0))⟩ :: L)
      { off := ![r, 0], size := S128x128.size, stride := ![16, 1], inb := inb } = xr x0 g r := by
  rw [View.readCov_eq_canon', View.canon_cons_unit_zero (Val := Elt Ideal) (S := S2048x128) (e := .f32) (funext fun a => by fin_cases a <;> rfl) inb1]
  funext y
  have h0 : (y 0).val < 128 := (y 0).isLt
  have h1 : (y 1).val < 128 := (y 1).isLt
  have hr : r + 16 * (128 - 1) < 2048 := (inb 0).resolve_left (by decide)
  have hg : o + 128 ≤ 512 := inb2 2
  have h3 : ∀ (z : Vec Ideal S1x2048x128 .bf16) (a : Fin 2048) (b : Fin 128), k0_pay3 (F := Ideal) z (ix2 a b) = z (ix3 0 a b) := by
    intro z a b
    pointwise [k0_pay3]
  refine (congrArg (k0_pay3 (F := Ideal) _) (show _ = (ix2 ⟨r + 16 * (y 0).val, by omega⟩ ⟨(y 1).val, h1⟩ : S2048x128.Idx) from funext fun a => ?_)).trans ?_
  · match a with
    | ⟨0, _⟩ => rfl
    | ⟨1, _⟩ => exact Fin.ext (show 0 + 1 * (y 1).val = (y 1).val by omega)
  rw [h3]
  refine (View.ld_unit_apply_of (Val := Elt Ideal) (S := S1x2048x512) (e := .bf16) _ _ _ inb2 _ (ix3 0 ⟨(16 * (y 0).val + r) % 2048, Nat.mod_lt _ (by decide)⟩ ⟨(128 * g + (y 1).val) % 512, Nat.mod_lt _ (by decide)⟩) fun a => ?_).trans (congrFun (read_unread arg1 harg1 x0) _)
  match a with
  | ⟨0, _⟩ => rfl
  | ⟨1, _⟩ => show (16 * (y 0).val + r) % 2048 = 0 + (r + 16 * (y 0).val); omega
  | ⟨2, _⟩ => show (128 * g + (y 1).val) % 512 = o + (y 1).val; omega

variable {c : Dev nD} {i : grid0.Coords} {arg1 : Memref sig .tc .vmem S1x2048x512 .bf16} {harg1 : arg1.IsWhole} {arg2 : Memref sig .tc .vmem S32x128 .f32} {harg2 : arg2.IsWhole} {arg3 : Memref sig .tc .vmem S32x128 .f32} {harg3 : arg3.IsWhole} {arg4 : Memref sig .tc .vmem S32x128x128 .bf16} {harg4 : arg4.IsWhole} {arg5 : Memref sig .tc .vmem S32x128x128 .bf16} {harg5 : arg5.IsWhole} {arg6 : Memref sig .tc .vmem S128x128 .bf16} {harg6 : arg6.IsWhole} {arg7 : Memref sig .tc .vmem S128x128 .bf16} {harg7 : arg7.IsWhole} {arg8 : Memref sig .tc .vmem S128x128 .f32} {harg8 : arg8.IsWhole} {arg9 : Memref sig .tc .vmem S1x4x128x128 .bf16} {harg9 : arg9.IsWhole} {arg10 : Memref sig .tc .vmem S1x4x128x128 .bf16} {harg10 : arg10.IsWhole} {arg11 : Memref sig .tc .vmem S2048x128 .f32} {harg11 : arg11.IsWhole}
  {x0 : Vec Ideal S1x2048x512 .bf16} {x1 : Vec Ideal S32x128 .f32} {x2 : Vec Ideal S32x128 .f32} {x3 : Vec Ideal S32x128x128 .bf16} {x4 : Vec Ideal S32x128x128 .bf16} {x5 : Vec Ideal S128x128 .bf16} {x6 : Vec Ideal S128x128 .bf16} {x7 : Vec Ideal S128x128 .f32}

theorem rc0 (r : ℕ) (inb) : arg11.view.readCov (kernelRun0_A.sl.HS0_1 (F := Ideal) c arg1 harg1 x0) { off := ![r, 0], size := S128x128.size, stride := ![16, 1], inb := inb } = xr x0 0 r :=
  rc 0 arg1 harg1 arg11 x0 _ r inb _ 0 rfl _

theorem rc1 (r : ℕ) (inb) : arg11.view.readCov (kernelRun0_A.sl.HS0_2 (F := Ideal) c arg1 harg1 x0) { off := ![r, 0], size := S128x128.size, stride := ![16, 1], inb := inb } = xr x0 1 r :=
  rc 1 arg1 harg1 arg11 x0 _ r inb _ 128 rfl _

theorem rc2 (r : ℕ) (inb) : arg11.view.readCov (kernelRun0_A.sl.HS0_3 (F := Ideal) c arg1 harg1 x0) { off := ![r, 0], size := S128x128.size, stride := ![16, 1], inb := inb } = xr x0 2 r :=
  rc 2 arg1 harg1 arg11 x0 _ r inb _ 256 rfl _

theorem rc3 (r : ℕ) (inb) : arg11.view.readCov (kernelRun0_A.sl.HS0_4 (F := Ideal) c arg1 harg1 x0) { off := ![r, 0], size := S128x128.size, stride := ![16, 1], inb := inb } = xr x0 3 r :=
  rc 3 arg1 harg1 arg11 x0 _ r inb _ 384 rfl _

theorem L_r : kernelRun0_A.sl.r (F := Ideal) c arg1 harg1 arg2 harg2 arg4 harg4 arg11 x0 x1 x3 = accF x0 x1 x3 0 0 1 :=
  stepE rfl (rc0 0 _) (raP _ _ _ 0 _) (raW _ _ _ 0 _)

theorem L_r_1 : kernelRun0_A.sl.r_1 (F := Ideal) c arg1 harg1 arg2 harg2 arg4 harg4 arg11 x0 x1 x3 = accF x0 x1 x3 0 16 1 :=
  stepE rfl (rc0 0 _) (raP _ _ _ 16 _) (raW _ _ _ 16 _)

theorem L_r_3 : kernelRun0_A.sl.r_3 (F := Ideal) c arg1 harg1 arg3 harg3 arg5 harg5 arg11 x0 x2 x4 = accF x0 x2 x4 0 0 1 :=
  stepE rfl (rc0 0 _) (raP _ _ _ 0 _) (raW _ _ _ 0 _)

theorem L_r_4 : kernelRun0_A.sl.r_4 (F := Ideal) c arg1 harg1 arg3 harg3 arg5 harg5 arg11 x0 x2 x4 = accF x0 x2 x4 0 16 1 :=
  stepE rfl (rc0 0 _) (raP _ _ _ 16 _) (raW _ _ _ 16 _)

theorem L_r_5 : kernelRun0_A.sl.r_5 (F := Ideal) c arg1 harg1 arg2 harg2 arg4 harg4 arg11 x0 x1 x3 = accF x0 x1 x3 0 0 2 :=
  stepE L_r (rc0 1 _) (raP _ _ _ 1 _) (raW _ _ _ 1 _)

theorem L_r_6 : kernelRun0_A.sl.r_6 (F := Ideal) c arg1 harg1 arg2 harg2 arg4 harg4 arg11 x0 x1 x3 = accF x0 x1 x3 0 16 2 :=
  stepE L_r_1 (rc0 1 _) (raP _ _ _ 17 _) (raW _ _ _ 17 _)

theorem L_r_8 : kernelRun0_A.sl.r_8 (F := Ideal) c arg1 harg1 arg3 harg3 arg5 harg5 arg11 x0 x2 x4 = accF x0 x2 x4 0 0 2 :=
  stepE L_r_3 (rc0 1 _) (raP _ _ _ 1 _) (raW _ _ _ 1 _)

theorem L_r_9 : kernelRun0_A.sl.r_9 (F := Ideal) c arg1 harg1 arg3 harg3 arg5 harg5 arg11 x0 x2 x4 = accF x0 x2 x4 0 16 2 :=
  stepE L_r_4 (rc0 1 _) (raP _ _ _ 17 _) (raW _ _ _ 17 _)

theorem L_r_10 : kernelRun0_A.sl.r_10 (F := Ideal) c arg1 harg1 arg2 harg2 arg4 harg4 arg11 x0 x1 x3 = accF x0 x1 x3 0 0 3 :=
  stepE L_r_5 (rc0 2 _) (raP _ _ _ 2 _) (raW _ _ _ 2 _)

theorem L_r_11 : kernelRun0_A.sl.r_11 (F := Ideal) c arg1 harg1 arg2 harg2 arg4 harg4 arg11 x0 x1 x3 = accF x0 x1 x3 0 16 3 :=
  stepE L_r_6 (rc0 2 _) (raP _ _ _ 18 _) (raW _ _ _ 18 _)

theorem L_r_12 : kernelRun0_A.sl.r_12 (F := Ideal) c arg1 harg1 arg3 harg3 arg5 harg5 arg11 x0 x2 x4 = accF x0 x2 x4 0 0 3 :=
  stepE L_r_8 (rc0 2 _) (raP _ _ _ 2 _) (raW _ _ _ 2 _)

theorem L_r_13 : kernelRun0_A.sl.r_13 (F := Ideal) c arg1 harg1 arg3 harg3 arg5 harg5 arg11 x0 x2 x4 = accF x0 x2 x4 0 16 3 :=
  stepE L_r_9 (rc0 2 _) (raP _ _ _ 18 _) (raW _ _ _ 18 _)

theorem L_r_14 : kernelRun0_A.sl.r_14 (F := Ideal) c arg1 harg1 arg2 harg2 arg4 harg4 arg11 x0 x1 x3 = accF x0 x1 x3 0 0 4 :=
  stepE L_r_10 (rc0 3 _) (raP _ _ _ 3 _) (raW _ _ _ 3 _)

theorem W_r_16 : kernelRun0_A.sl.r_16 (F := Ideal) c arg4 harg4 x3 = shapeCast S128x128 (wr x3 19) shapeCasts_S1x128x128_S128x128 := by
  unfold kernelRun0_A.sl.r_16 k0_pay21
  rw [raW]

theorem L_r_17 : kernelRun0_A.sl.r_17 (F := Ideal) c arg1 harg1 arg2 harg2 arg4 harg4 arg11 x0 x1 x3 = accF x0 x1 x3 0 16 4 :=
  stepX L_r_11 (rc0 3 _) (raP _ _ _ 19 _) W_r_16

theorem L_r_18 : kernelRun0_A.sl.r_18 (F := Ideal) c arg1 harg1 arg3 harg3 arg5 harg5 arg11 x0 x2 x4 = accF x0 x2 x4 0 0 4 :=
  stepE L_r_12 (rc0 3 _) (raP _ _ _ 3 _) (raW _ _ _ 3 _)

theorem L_r_19 : kernelRun0_A.sl.r_19 (F := Ideal) c arg1 harg1 arg3 harg3 arg5 harg5 arg11 x0 x2 x4 = accF x0 x2 x4 0 16 4 :=
  stepE L_r_13 (rc0 3 _) (raP _ _ _ 19 _) (raW _ _ _ 19 _)

theorem L_r_20 : kernelRun0_A.sl.r_20 (F := Ideal) c arg1 harg1 arg2 harg2 arg4 harg4 arg11 x0 x1 x3 = accF x0 x1 x3 0 0 5 :=
  stepE L_r_14 (rc0 4 _) (raP _ _ _ 4 _) (raW _ _ _ 4 _)

theorem L_r_22 : kernelRun0_A.sl.r_22 (F := Ideal) c arg1 harg1 arg2 harg2 arg4 harg4 arg11 x0 x1 x3 = accF x0 x1 x3 0 16 5 :=
  stepE L_r_17 (rc0 4 _) (raP _ _ _ 20 _) (raW _ _ _ 20 _)

theorem L_r_23 : kernelRun0_A.sl.r_23 (F := Ideal) c arg1 harg1 arg3 harg3 arg5 harg5 arg11 x0 x2 x4 = accF x0 x2 x4 0 0 5 :=
  stepE L_r_18 (rc0 4 _) (raP _ _ _ 4 _) (raW _ _ _ 4 _)

theorem L_r_24 : kernelRun0_A.sl.r_24 (F := Ideal) c arg1 harg1 arg3 harg3 arg5 harg5 arg11 x0 x2 x4 = accF x0 x2 x4 0 16 5 :=
  stepE L_r_19 (rc0 4 _) (raP _ _ _ 20 _) (raW _ _ _ 20 _)

theorem L_r_25 : kernelRun0_A.sl.r_25 (F := Ideal) c arg1 harg1 arg2 harg2 arg4 harg4 arg11 x0 x1 x3 = accF x0 x1 x3 0 0 6 :=
  stepE L_r_20 (rc0 5 _) (raP _ _ _ 5 _) (raW _ _ _ 5 _)

theorem L_r_27 : kernelRun0_A.sl.r_27 (F := Ideal) c arg1 harg1 arg2 harg2 arg4 harg4 arg11 x0 x1 x3 = accF x0 x1 x3 0 16 6 :=
  stepE L_r_22 (rc0 5 _) (raP _ _ _ 21 _) (raW _ _ _ 21 _)

theorem L_r_28 : kernelRun0_A.sl.r_28 (F := Ideal) c arg1 harg1 arg3 harg3 arg5 harg5 arg11 x0 x2 x4 = accF x0 x2 x4 0 0 6 :=
  stepE L_r_23 (rc0 5 _) (raP _ _ _ 5 _) (raW _ _ _ 5 _)

theorem L_r_29 : kernelRun0_A.sl.r_29 (F := Ideal) c arg1 harg1 arg3 harg3 arg5 harg5 arg11 x0 x2 x4 = accF x0 x2 x4 0 16 6 :=
  stepE L_r_24 (rc0 5 _) (raP _ _ _ 21 _) (raW _ _ _ 21 _)

theorem L_r_30 : kernelRun0_A.sl.r_30 (F := Ideal) c arg1 harg1 arg2 harg2 arg4 harg4 arg11 x0 x1 x3 = accF x0 x1 x3 0 0 7 :=
  stepE L_r_25 (rc0 6 _) (raP _ _ _ 6 _) (raW _ _ _ 6 _)

theorem L_r_32 : kernelRun0_A.sl.r_32 (F := Ideal) c arg1 harg1 arg2 harg2 arg4 harg4 arg11 x0 x1 x3 = accF x0 x1 x3 0 16 7 :=
  stepE L_r_27 (rc0 6 _) (raP _ _ _ 22 _) (raW _ _ _ 22 _)

theorem L_r_33 : kernelRun0_A.sl.r_33 (F := Ideal) c arg1 harg1 arg3 harg3 arg5 harg5 arg11 x0 x2 x4 = accF x0 x2 x4 0 0 7 :=
  stepE L_r_28 (rc0 6 _) (raP _ _ _ 6 _) (raW _ _ _ 6 _)

theorem L_r_34 : kernelRun0_A.sl.r_34 (F := Ideal) c arg1 harg1 arg3 harg3 arg5 harg5 arg11 x0 x2 x4 = accF x0 x2 x4 0 16 7 :=
  stepE L_r_29 (rc0 6 _) (raP _ _ _ 22 _) (raW _ _ _ 22 _)

theorem L_r_35 : kernelRun0_A.sl.r_35 (F := Ideal) c arg1 harg1 arg2 harg2 arg4 harg4 arg11 x0 x1 x3 = accF x0 x1 x3 0 0 8 :=
  stepE L_r_30 (rc0 7 _) (raP _ _ _ 7 _) (raW _ _ _ 7 _)

theorem L_r_36 : kernelRun0_A.sl.r_36 (F := Ideal) c arg1 harg1 arg2 harg2 arg4 harg4 arg11 x0 x1 x3 = accF x0 x1 x3 0 16 8 :=
  stepE L_r_32 (rc0 7 _) (raP _ _ _ 23 _) (raW _ _ _ 23 _)

theorem L_r_37 : kernelRun0_A.sl.r_37 (F := Ideal) c arg1 harg1 arg3 harg3 arg5 harg5 arg11 x0 x2 x4 = accF x0 x2 x4 0 0 8 :=
  stepE L_r_33 (rc0 7 _) (raP _ _ _ 7 _) (raW _ _ _ 7 _)

theorem L_r_38 : kernelRun0_A.sl.r_38 (F := Ideal) c arg1 harg1 arg3 harg3 arg5 harg5 arg11 x0 x2 x4 = accF x0 x2 x4 0 16 8 :=
  stepE L_r_34 (rc0 7 _) (raP _ _ _ 23 _) (raW _ _ _ 23 _)

theorem W_r_40 : kernelRun0_A.sl.r_40 (F := Ideal) c arg4 harg4 x3 = shapeCast S128x128 (wr x3 8) shapeCasts_S1x128x128_S128x128 := by
  unfold kernelRun0_A.sl.r_40 k0_pay44
  rw [raW]

theorem L_r_41 : kernelRun0_A.sl.r_41 (F := Ideal) c arg1 harg1 arg2 harg2 arg4 harg4 arg11 x0 x1 x3 = accF x0 x1 x3 0 0 9 :=
  stepX L_r_35 (rc0 8 _) (raP _ _ _ 8 _) W_r_40

theorem L_r_42 : kernelRun0_A.sl.r_42 (F := Ideal) c arg1 harg1 arg2 harg2 arg4 harg4 arg11 x0 x1 x3 = accF x0 x1 x3 0 16 9 :=
  stepE L_r_36 (rc0 8 _) (raP _ _ _ 24 _) (raW _ _ _ 24 _)

theorem L_r_43 : kernelRun0_A.sl.r_43 (F := Ideal) c arg1 harg1 arg3 harg3 arg5 harg5 arg11 x0 x2 x4 = accF x0 x2 x4 0 0 9 :=
  stepE L_r_37 (rc0 8 _) (raP _ _ _ 8 _) (raW _ _ _ 8 _)

theorem L_r_44 : kernelRun0_A.sl.r_44 (F := Ideal) c arg1 harg1 arg3 harg3 arg5 harg5 arg11 x0 x2 x4 = accF x0 x2 x4 0 16 9 :=
  stepE L_r_38 (rc0 8 _) (raP _ _ _ 24 _) (raW _ _ _ 24 _)

theorem L_r_46 : kernelRun0_A.sl.r_46 (F := Ideal) c arg1 harg1 arg2 harg2 arg4 harg4 arg11 x0 x1 x3 = accF x0 x1 x3 0 0 10 :=
  stepE L_r_41 (rc0 9 _) (raP _ _ _ 9 _) (raW _ _ _ 9 _)

theorem L_r_47 : kernelRun0_A.sl.r_47 (F := Ideal) c arg1 harg1 arg2 harg2 arg4 harg4 arg11 x0 x1 x3 = accF x0 x1 x3 0 16 10 :=
  stepE L_r_42 (rc0 9 _) (raP _ _ _ 25 _) (raW _ _ _ 25 _)

theorem L_r_48 : kernelRun0_A.sl.r_48 (F := Ideal) c arg1 harg1 arg3 harg3 arg5 harg5 arg11 x0 x2 x4 = accF x0 x2 x4 0 0 10 :=
  stepE L_r_43 (rc0 9 _) (raP _ _ _ 9 _) (raW _ _ _ 9 _)

theorem L_r_49 : kernelRun0_A.sl.r_49 (F := Ideal) c arg1 harg1 arg3 harg3 arg5 harg5 arg11 x0 x2 x4 = accF x0 x2 x4 0 16 10 :=
  stepE L_r_44 (rc0 9 _) (raP _ _ _ 25 _) (raW _ _ _ 25 _)

theorem L_r_51 : kernelRun0_A.sl.r_51 (F := Ideal) c arg1 harg1 arg2 harg2 arg4 harg4 arg11 x0 x1 x3 = accF x0 x1 x3 0 0 11 :=
  stepE L_r_46 (rc0 10 _) (raP _ _ _ 10 _) (raW _ _ _ 10 _)

theorem L_r_52 : kernelRun0_A.sl.r_52 (F := Ideal) c arg1 harg1 arg2 harg2 arg4 harg4 arg11 x0 x1 x3 = accF x0 x1 x3 0 16 11 :=
  stepE L_r_47 (rc0 10 _) (raP _ _ _ 26 _) (raW _ _ _ 26 _)

theorem L_r_53 : kernelRun0_A.sl.r_53 (F := Ideal) c arg1 harg1 arg3 harg3 arg5 harg5 arg11 x0 x2 x4 = accF x0 x2 x4 0 0 11 :=
  stepE L_r_48 (rc0 10 _) (raP _ _ _ 10 _) (raW _ _ _ 10 _)

theorem L_r_54 : kernelRun0_A.sl.r_54 (F := Ideal) c arg1 harg1 arg3 harg3 arg5 harg5 arg11 x0 x2 x4 = accF x0 x2 x4 0 16 11 :=
  stepE L_r_49 (rc0 10 _) (raP _ _ _ 26 _) (raW _ _ _ 26 _)

theorem L_r_56 : kernelRun0_A.sl.r_56 (F := Ideal) c arg1 harg1 arg2 harg2 arg4 harg4 arg11 x0 x1 x3 = accF x0 x1 x3 0 0 12 :=
  stepE L_r_51 (rc0 11 _) (raP _ _ _ 11 _) (raW _ _ _ 11 _)

theorem L_r_57 : kernelRun0_A.sl.r_57 (F := Ideal) c arg1 harg1 arg2 harg2 arg4 harg4 arg11 x0 x1 x3 = accF x0 x1 x3 0 16 12 :=
  stepE L_r_52 (rc0 11 _) (raP _ _ _ 27 _) (raW _ _ _ 27 _)

theorem L_r_58 : kernelRun0_A.sl.r_58 (F := Ideal) c arg1 harg1 arg3 harg3 arg5 harg5 arg11 x0 x2 x4 = accF x0 x2 x4 0 0 12 :=
  stepE L_r_53 (rc0 11 _) (raP _ _ _ 11 _) (raW _ _ _ 11 _)

theorem L_r_59 : kernelRun0_A.sl.r_59 (F := Ideal) c arg1 harg1 arg3 harg3 arg5 harg5 arg11 x0 x2 x4 = accF x0 x2 x4 0 16 12 :=
  stepE L_r_54 (rc0 11 _) (raP _ _ _ 27 _) (raW _ _ _ 27 _)

theorem L_r_60 : kernelRun0_A.sl.r_60 (F := Ideal) c arg1 harg1 arg2 harg2 arg4 harg4 arg11 x0 x1 x3 = accF x0 x1 x3 0 0 13 :=
  stepE L_r_56 (rc0 12 _) (raP _ _ _ 12 _) (raW _ _ _ 12 _)

theorem L_r_61 : kernelRun0_A.sl.r_61 (F := Ideal) c arg1 harg1 arg2 harg2 arg4 harg4 arg11 x0 x1 x3 = accF x0 x1 x3 0 16 13 :=
  stepE L_r_57 (rc0 12 _) (raP _ _ _ 28 _) (raW _ _ _ 28 _)

theorem L_r_62 : kernelRun0_A.sl.r_62 (F := Ideal) c arg1 harg1 arg3 harg3 arg5 harg5 arg11 x0 x2 x4 = accF x0 x2 x4 0 0 13 :=
  stepE L_r_58 (rc0 12 _) (raP _ _ _ 12 _) (raW _ _ _ 12 _)

theorem L_r_63 : kernelRun0_A.sl.r_63 (F := Ideal) c arg1 harg1 arg3 harg3 arg5 harg5 arg11 x0 x2 x4 = accF x0 x2 x4 0 16 13 :=
  stepE L_r_59 (rc0 12 _) (raP _ _ _ 28 _) (raW _ _ _ 28 _)

theorem L_r_64 : kernelRun0_A.sl.r_64 (F := Ideal) c arg1 harg1 arg2 harg2 arg4 harg4 arg11 x0 x1 x3 = accF x0 x1 x3 0 0 14 :=
  stepE L_r_60 (rc0 13 _) (raP _ _ _ 13 _) (raW _ _ _ 13 _)

theorem L_r_65 : kernelRun0_A.sl.r_65 (F := Ideal) c arg1 harg1 arg2 harg2 arg4 harg4 arg11 x0 x1 x3 = accF x0 x1 x3 0 16 14 :=
  stepE L_r_61 (rc0 13 _) (raP _ _ _ 29 _) (raW _ _ _ 29 _)

theorem L_r_66 : kernelRun0_A.sl.r_66 (F := Ideal) c arg1 harg1 arg3 harg3 arg5 harg5 arg11 x0 x2 x4 = accF x0 x2 x4 0 0 14 :=
  stepE L_r_62 (rc0 13 _) (raP _ _ _ 13 _) (raW _ _ _ 13 _)

theorem W_r_68 : kernelRun0_A.sl.r_68 (F := Ideal) c arg5 harg5 x4 = shapeCast S128x128 (wr x4 29) shapeCasts_S1x128x128_S128x128 := by
  unfold kernelRun0_A.sl.r_68 k0_pay71
  rw [raW]

theorem L_r_69 : kernelRun0_A.sl.r_69 (F := Ideal) c arg1 harg1 arg3 harg3 arg5 harg5 arg11 x0 x2 x4 = accF x0 x2 x4 0 16 14 :=
  stepX L_r_63 (rc0 13 _) (raP _ _ _ 29 _) W_r_68

theorem L_r_70 : kernelRun0_A.sl.r_70 (F := Ideal) c arg1 harg1 arg2 harg2 arg4 harg4 arg11 x0 x1 x3 = accF x0 x1 x3 0 0 15 :=
  stepE L_r_64 (rc0 14 _) (raP _ _ _ 14 _) (raW _ _ _ 14 _)

theorem L_r_71 : kernelRun0_A.sl.r_71 (F := Ideal) c arg1 harg1 arg2 harg2 arg4 harg4 arg11 x0 x1 x3 = accF x0 x1 x3 0 16 15 :=
  stepE L_r_65 (rc0 14 _) (raP _ _ _ 30 _) (raW _ _ _ 30 _)

theorem L_r_72 : kernelRun0_A.sl.r_72 (F := Ideal) c arg1 harg1 arg3 harg3 arg5 harg5 arg11 x0 x2 x4 = accF x0 x2 x4 0 0 15 :=
  stepE L_r_66 (rc0 14 _) (raP _ _ _ 14 _) (raW _ _ _ 14 _)

theorem L_r_74 : kernelRun0_A.sl.r_74 (F := Ideal) c arg1 harg1 arg3 harg3 arg5 harg5 arg11 x0 x2 x4 = accF x0 x2 x4 0 16 15 :=
  stepE L_r_69 (rc0 14 _) (raP _ _ _ 30 _) (raW _ _ _ 30 _)

theorem L_r_75 : kernelRun0_A.sl.r_75 (F := Ideal) c arg1 harg1 arg2 harg2 arg4 harg4 arg11 x0 x1 x3 = accF x0 x1 x3 0 0 16 :=
  stepE L_r_70 (rc0 15 _) (raP _ _ _ 15 _) (raW _ _ _ 15 _)

theorem L_r_76 : kernelRun0_A.sl.r_76 (F := Ideal) c arg1 harg1 arg2 harg2 arg4 harg4 arg11 x0 x1 x3 = accF x0 x1 x3 0 16 16 :=
  stepE L_r_71 (rc0 15 _) (raP _ _ _ 31 _) (raW _ _ _ 31 _)

theorem L_r_77 : kernelRun0_A.sl.r_77 (F := Ideal) c arg1 harg1 arg3 harg3 arg5 harg5 arg11 x0 x2 x4 = accF x0 x2 x4 0 0 16 :=
  stepE L_r_72 (rc0 15 _) (raP _ _ _ 15 _) (raW _ _ _ 15 _)

theorem W_r_83 : kernelRun0_A.sl.r_83 (F := Ideal) c arg4 harg4 x3 = shapeCast S128x128 (wr x3 0) shapeCasts_S1x128x128_S128x128 := by
  unfold kernelRun0_A.sl.r_83 k0_pay92
  rw [raW]

theorem L_r_84 : kernelRun0_A.sl.r_84 (F := Ideal) c arg1 harg1 arg2 harg2 arg4 harg4 arg11 x0 x1 x3 = accF x0 x1 x3 1 0 1 :=
  stepX rfl (rc1 0 _) (raP _ _ _ 0 _) W_r_83

theorem L_r_85 : kernelRun0_A.sl.r_85 (F := Ideal) c arg1 harg1 arg2 harg2 arg4 harg4 arg11 x0 x1 x3 = accF x0 x1 x3 1 16 1 :=
  stepE rfl (rc1 0 _) (raP _ _ _ 16 _) (raW _ _ _ 16 _)

theorem L_r_86 : kernelRun0_A.sl.r_86 (F := Ideal) c arg1 harg1 arg3 harg3 arg5 harg5 arg11 x0 x2 x4 = accF x0 x2 x4 1 0 1 :=
  stepE rfl (rc1 0 _) (raP _ _ _ 0 _) (raW _ _ _ 0 _)

theorem L_r_87 : kernelRun0_A.sl.r_87 (F := Ideal) c arg1 harg1 arg3 harg3 arg5 harg5 arg11 x0 x2 x4 = accF x0 x2 x4 1 16 1 :=
  stepE rfl (rc1 0 _) (raP _ _ _ 16 _) (raW _ _ _ 16 _)

theorem L_r_89 : kernelRun0_A.sl.r_89 (F := Ideal) c arg1 harg1 arg2 harg2 arg4 harg4 arg11 x0 x1 x3 = accF x0 x1 x3 1 0 2 :=
  stepE L_r_84 (rc1 1 _) (raP _ _ _ 1 _) (raW _ _ _ 1 _)

theorem L_r_90 : kernelRun0_A.sl.r_90 (F := Ideal) c arg1 harg1 arg2 harg2 arg4 harg4 arg11 x0 x1 x3 = accF x0 x1 x3 1 16 2 :=
  stepE L_r_85 (rc1 1 _) (raP _ _ _ 17 _) (raW _ _ _ 17 _)

theorem L_r_91 : kernelRun0_A.sl.r_91 (F := Ideal) c arg1 harg1 arg3 harg3 arg5 harg5 arg11 x0 x2 x4 = accF x0 x2 x4 1 0 2 :=
  stepE L_r_86 (rc1 1 _) (raP _ _ _ 1 _) (raW _ _ _ 1 _)

theorem L_r_92 : kernelRun0_A.sl.r_92 (F := Ideal) c arg1 harg1 arg3 harg3 arg5 harg5 arg11 x0 x2 x4 = accF x0 x2 x4 1 16 2 :=
  stepE L_r_87 (rc1 1 _) (raP _ _ _ 17 _) (raW _ _ _ 17 _)

theorem L_r_94 : kernelRun0_A.sl.r_94 (F := Ideal) c arg1 harg1 arg2 harg2 arg4 harg4 arg11 x0 x1 x3 = accF x0 x1 x3 1 0 3 :=
  stepE L_r_89 (rc1 2 _) (raP _ _ _ 2 _) (raW _ _ _ 2 _)

theorem L_r_95 : kernelRun0_A.sl.r_95 (F := Ideal) c arg1 harg1 arg2 harg2 arg4 harg4 arg11 x0 x1 x3 = accF x0 x1 x3 1 16 3 :=
  stepE L_r_90 (rc1 2 _) (raP _ _ _ 18 _) (raW _ _ _ 18 _)

theorem L_r_96 : kernelRun0_A.sl.r_96 (F := Ideal) c arg1 harg1 arg3 harg3 arg5 harg5 arg11 x0 x2 x4 = accF x0 x2 x4 1 0 3 :=
  stepE L_r_91 (rc1 2 _) (raP _ _ _ 2 _) (raW _ _ _ 2 _)

theorem L_r_97 : kernelRun0_A.sl.r_97 (F := Ideal) c arg1 harg1 arg3 harg3 arg5 harg5 arg11 x0 x2 x4 = accF x0 x2 x4 1 16 3 :=
  stepE L_r_92 (rc1 2 _) (raP _ _ _ 18 _) (raW _ _ _ 18 _)

theorem L_r_99 : kernelRun0_A.sl.r_99 (F := Ideal) c arg1 harg1 arg2 harg2 arg4 harg4 arg11 x0 x1 x3 = accF x0 x1 x3 1 0 4 :=
  stepE L_r_94 (rc1 3 _) (raP _ _ _ 3 _) (raW _ _ _ 3 _)

theorem L_r_100 : kernelRun0_A.sl.r_100 (F := Ideal) c arg1 harg1 arg2 harg2 arg4 harg4 arg11 x0 x1 x3 = accF x0 x1 x3 1 16 4 :=
  stepE L_r_95 (rc1 3 _) (raP _ _ _ 19 _) (raW _ _ _ 19 _)

theorem L_r_101 : kernelRun0_A.sl.r_101 (F := Ideal) c arg1 harg1 arg3 harg3 arg5 harg5 arg11 x0 x2 x4 = accF x0 x2 x4 1 0 4 :=
  stepE L_r_96 (rc1 3 _) (raP _ _ _ 3 _) (raW _ _ _ 3 _)

theorem L_r_102 : kernelRun0_A.sl.r_102 (F := Ideal) c arg1 harg1 arg3 harg3 arg5 harg5 arg11 x0 x2 x4 = accF x0 x2 x4 1 16 4 :=
  stepE L_r_97 (rc1 3 _) (raP _ _ _ 19 _) (raW _ _ _ 19 _)

theorem L_r_103 : kernelRun0_A.sl.r_103 (F := Ideal) c arg1 harg1 arg2 harg2 arg4 harg4 arg11 x0 x1 x3 = accF x0 x1 x3 1 0 5 :=
  stepE L_r_99 (rc1 4 _) (raP _ _ _ 4 _) (raW _ _ _ 4 _)

theorem L_r_104 : kernelRun0_A.sl.r_104 (F := Ideal) c arg1 harg1 arg2 harg2 arg4 harg4 arg11 x0 x1 x3 = accF x0 x1 x3 1 16 5 :=
  stepE L_r_100 (rc1 4 _) (raP _ _ _ 20 _) (raW _ _ _ 20 _)

theorem L_r_105 : kernelRun0_A.sl.r_105 (F := Ideal) c arg1 harg1 arg3 harg3 arg5 harg5 arg11 x0 x2 x4 = accF x0 x2 x4 1 0 5 :=
  stepE L_r_101 (rc1 4 _) (raP _ _ _ 4 _) (raW _ _ _ 4 _)

theorem L_r_106 : kernelRun0_A.sl.r_106 (F := Ideal) c arg1 harg1 arg3 harg3 arg5 harg5 arg11 x0 x2 x4 = accF x0 x2 x4 1 16 5 :=
  stepE L_r_102 (rc1 4 _) (raP _ _ _ 20 _) (raW _ _ _ 20 _)

theorem L_r_107 : kernelRun0_A.sl.r_107 (F := Ideal) c arg1 harg1 arg2 harg2 arg4 harg4 arg11 x0 x1 x3 = accF x0 x1 x3 1 0 6 :=
  stepE L_r_103 (rc1 5 _) (raP _ _ _ 5 _) (raW _ _ _ 5 _)

theorem L_r_108 : kernelRun0_A.sl.r_108 (F := Ideal) c arg1 harg1 arg2 harg2 arg4 harg4 arg11 x0 x1 x3 = accF x0 x1 x3 1 16 6 :=
  stepE L_r_104 (rc1 5 _) (raP _ _ _ 21 _) (raW _ _ _ 21 _)

theorem L_r_109 : kernelRun0_A.sl.r_109 (F := Ideal) c arg1 harg1 arg3 harg3 arg5 harg5 arg11 x0 x2 x4 = accF x0 x2 x4 1 0 6 :=
  stepE L_r_105 (rc1 5 _) (raP _ _ _ 5 _) (raW _ _ _ 5 _)

theorem W_r_111 : kernelRun0_A.sl.r_111 (F := Ideal) c arg5 harg5 x4 = shapeCast S128x128 (wr x4 21) shapeCasts_S1x128x128_S128x128 := by
  unfold kernelRun0_A.sl.r_111 k0_pay119
  rw [raW]

theorem L_r_112 : kernelRun0_A.sl.r_112 (F := Ideal) c arg1 harg1 arg3 harg3 arg5 harg5 arg11 x0 x2 x4 = accF x0 x2 x4 1 16 6 :=
  stepX L_r_106 (rc1 5 _) (raP _ _ _ 21 _) W_r_111

theorem L_r_113 : kernelRun0_A.sl.r_113 (F := Ideal) c arg1 harg1 arg2 harg2 arg4 harg4 arg11 x0 x1 x3 = accF x0 x1 x3 1 0 7 :=
  stepE L_r_107 (rc1 6 _) (raP _ _ _ 6 _) (raW _ _ _ 6 _)

theorem L_r_114 : kernelRun0_A.sl.r_114 (F := Ideal) c arg1 harg1 arg2 harg2 arg4 harg4 arg11 x0 x1 x3 = accF x0 x1 x3 1 16 7 :=
  stepE L_r_108 (rc1 6 _) (raP _ _ _ 22 _) (raW _ _ _ 22 _)

theorem L_r_115 : kernelRun0_A.sl.r_115 (F := Ideal) c arg1 harg1 arg3 harg3 arg5 harg5 arg11 x0 x2 x4 = accF x0 x2 x4 1 0 7 :=
  stepE L_r_109 (rc1 6 _) (raP _ _ _ 6 _) (raW _ _ _ 6 _)

theorem L_r_117 : kernelRun0_A.sl.r_117 (F := Ideal) c arg1 harg1 arg3 harg3 arg5 harg5 arg11 x0 x2 x4 = accF x0 x2 x4 1 16 7 :=
  stepE L_r_112 (rc1 6 _) (raP _ _ _ 22 _) (raW _ _ _ 22 _)

theorem L_r_118 : kernelRun0_A.sl.r_118 (F := Ideal) c arg1 harg1 arg2 harg2 arg4 harg4 arg11 x0 x1 x3 = accF x0 x1 x3 1 0 8 :=
  stepE L_r_113 (rc1 7 _) (raP _ _ _ 7 _) (raW _ _ _ 7 _)

theorem L_r_119 : kernelRun0_A.sl.r_119 (F := Ideal) c arg1 harg1 arg2 harg2 arg4 harg4 arg11 x0 x1 x3 = accF x0 x1 x3 1 16 8 :=
  stepE L_r_114 (rc1 7 _) (raP _ _ _ 23 _) (raW _ _ _ 23 _)

theorem L_r_120 : kernelRun0_A.sl.r_120 (F := Ideal) c arg1 harg1 arg3 harg3 arg5 harg5 arg11 x0 x2 x4 = accF x0 x2 x4 1 0 8 :=
  stepE L_r_115 (rc1 7 _) (raP _ _ _ 7 _) (raW _ _ _ 7 _)

theorem L_r_122 : kernelRun0_A.sl.r_122 (F := Ideal) c arg1 harg1 arg3 harg3 arg5 harg5 arg11 x0 x2 x4 = accF x0 x2 x4 1 16 8 :=
  stepE L_r_117 (rc1 7 _) (raP _ _ _ 23 _) (raW _ _ _ 23 _)

theorem L_r_123 : kernelRun0_A.sl.r_123 (F := Ideal) c arg1 harg1 arg2 harg2 arg4 harg4 arg11 x0 x1 x3 = accF x0 x1 x3 1 0 9 :=
  stepE L_r_118 (rc1 8 _) (raP _ _ _ 8 _) (raW _ _ _ 8 _)

theorem L_r_124 : kernelRun0_A.sl.r_124 (F := Ideal) c arg1 harg1 arg2 harg2 arg4 harg4 arg11 x0 x1 x3 = accF x0 x1 x3 1 16 9 :=
  stepE L_r_119 (rc1 8 _) (raP _ _ _ 24 _) (raW _ _ _ 24 _)

theorem L_r_125 : kernelRun0_A.sl.r_125 (F := Ideal) c arg1 harg1 arg3 harg3 arg5 harg5 arg11 x0 x2 x4 = accF x0 x2 x4 1 0 9 :=
  stepE L_r_120 (rc1 8 _) (raP _ _ _ 8 _) (raW _ _ _ 8 _)

theorem L_r_127 : kernelRun0_A.sl.r_127 (F := Ideal) c arg1 harg1 arg3 harg3 arg5 harg5 arg11 x0 x2 x4 = accF x0 x2 x4 1 16 9 :=
  stepE L_r_122 (rc1 8 _) (raP _ _ _ 24 _) (raW _ _ _ 24 _)

theorem L_r_128 : kernelRun0_A.sl.r_128 (F := Ideal) c arg1 harg1 arg2 harg2 arg4 harg4 arg11 x0 x1 x3 = accF x0 x1 x3 1 0 10 :=
  stepE L_r_123 (rc1 9 _) (raP _ _ _ 9 _) (raW _ _ _ 9 _)

theorem L_r_129 : kernelRun0_A.sl.r_129 (F := Ideal) c arg1 harg1 arg2 harg2 arg4 harg4 arg11 x0 x1 x3 = accF x0 x1 x3 1 16 10 :=
  stepE L_r_124 (rc1 9 _) (raP _ _ _ 25 _) (raW _ _ _ 25 _)

theorem L_r_130 : kernelRun0_A.sl.r_130 (F := Ideal) c arg1 harg1 arg3 harg3 arg5 harg5 arg11 x0 x2 x4 = accF x0 x2 x4 1 0 10 :=
  stepE L_r_125 (rc1 9 _) (raP _ _ _ 9 _) (raW _ _ _ 9 _)

theorem L_r_131 : kernelRun0_A.sl.r_131 (F := Ideal) c arg1 harg1 arg3 harg3 arg5 harg5 arg11 x0 x2 x4 = accF x0 x2 x4 1 16 10 :=
  stepE L_r_127 (rc1 9 _) (raP _ _ _ 25 _) (raW _ _ _ 25 _)

theorem L_r_132 : kernelRun0_A.sl.r_132 (F := Ideal) c arg1 harg1 arg2 harg2 arg4 harg4 arg11 x0 x1 x3 = accF x0 x1 x3 1 0 11 :=
  stepE L_r_128 (rc1 10 _) (raP _ _ _ 10 _) (raW _ _ _ 10 _)

theorem L_r_133 : kernelRun0_A.sl.r_133 (F := Ideal) c arg1 harg1 arg2 harg2 arg4 harg4 arg11 x0 x1 x3 = accF x0 x1 x3 1 16 11 :=
  stepE L_r_129 (rc1 10 _) (raP _ _ _ 26 _) (raW _ _ _ 26 _)

theorem W_r_135 : kernelRun0_A.sl.r_135 (F := Ideal) c arg5 harg5 x4 = shapeCast S128x128 (wr x4 10) shapeCasts_S1x128x128_S128x128 := by
  unfold kernelRun0_A.sl.r_135 k0_pay142
  rw [raW]

theorem L_r_136 : kernelRun0_A.sl.r_136 (F := Ideal) c arg1 harg1 arg3 harg3 arg5 harg5 arg11 x0 x2 x4 = accF x0 x2 x4 1 0 11 :=
  stepX L_r_130 (rc1 10 _) (raP _ _ _ 10 _) W_r_135

theorem L_r_137 : kernelRun0_A.sl.r_137 (F := Ideal) c arg1 harg1 arg3 harg3 arg5 harg5 arg11 x0 x2 x4 = accF x0 x2 x4 1 16 11 :=
  stepE L_r_131 (rc1 10 _) (raP _ _ _ 26 _) (raW _ _ _ 26 _)

theorem L_r_138 : kernelRun0_A.sl.r_138 (F := Ideal) c arg1 harg1 arg2 harg2 arg4 harg4 arg11 x0 x1 x3 = accF x0 x1 x3 1 0 12 :=
  stepE L_r_132 (rc1 11 _) (raP _ _ _ 11 _) (raW _ _ _ 11 _)

theorem L_r_139 : kernelRun0_A.sl.r_139 (F := Ideal) c arg1 harg1 arg2 harg2 arg4 harg4 arg11 x0 x1 x3 = accF x0 x1 x3 1 16 12 :=
  stepE L_r_133 (rc1 11 _) (raP _ _ _ 27 _) (raW _ _ _ 27 _)

theorem L_r_141 : kernelRun0_A.sl.r_141 (F := Ideal) c arg1 harg1 arg3 harg3 arg5 harg5 arg11 x0 x2 x4 = accF x0 x2 x4 1 0 12 :=
  stepE L_r_136 (rc1 11 _) (raP _ _ _ 11 _) (raW _ _ _ 11 _)

theorem L_r_142 : kernelRun0_A.sl.r_142 (F := Ideal) c arg1 harg1 arg3 harg3 arg5 harg5 arg11 x0 x2 x4 = accF x0 x2 x4 1 16 12 :=
  stepE L_r_137 (rc1 11 _) (raP _ _ _ 27 _) (raW _ _ _ 27 _)

theorem L_r_143 : kernelRun0_A.sl.r_143 (F := Ideal) c arg1 harg1 arg2 harg2 arg4 harg4 arg11 x0 x1 x3 = accF x0 x1 x3 1 0 13 :=
  stepE L_r_138 (rc1 12 _) (raP _ _ _ 12 _) (raW _ _ _ 12 _)

theorem L_r_144 : kernelRun0_A.sl.r_144 (F := Ideal) c arg1 harg1 arg2 harg2 arg4 harg4 arg11 x0 x1 x3 = accF x0 x1 x3 1 16 13 :=
  stepE L_r_139 (rc1 12 _) (raP _ _ _ 28 _) (raW _ _ _ 28 _)

theorem L_r_146 : kernelRun0_A.sl.r_146 (F := Ideal) c arg1 harg1 arg3 harg3 arg5 harg5 arg11 x0 x2 x4 = accF x0 x2 x4 1 0 13 :=
  stepE L_r_141 (rc1 12 _) (raP _ _ _ 12 _) (raW _ _ _ 12 _)

theorem L_r_147 : kernelRun0_A.sl.r_147 (F := Ideal) c arg1 harg1 arg3 harg3 arg5 harg5 arg11 x0 x2 x4 = accF x0 x2 x4 1 16 13 :=
  stepE L_r_142 (rc1 12 _) (raP _ _ _ 28 _) (raW _ _ _ 28 _)

theorem L_r_148 : kernelRun0_A.sl.r_148 (F := Ideal) c arg1 harg1 arg2 harg2 arg4 harg4 arg11 x0 x1 x3 = accF x0 x1 x3 1 0 14 :=
  stepE L_r_143 (rc1 13 _) (raP _ _ _ 13 _) (raW _ _ _ 13 _)

theorem L_r_149 : kernelRun0_A.sl.r_149 (F := Ideal) c arg1 harg1 arg2 harg2 arg4 harg4 arg11 x0 x1 x3 = accF x0 x1 x3 1 16 14 :=
  stepE L_r_144 (rc1 13 _) (raP _ _ _ 29 _) (raW _ _ _ 29 _)

theorem L_r_151 : kernelRun0_A.sl.r_151 (F := Ideal) c arg1 harg1 arg3 harg3 arg5 harg5 arg11 x0 x2 x4 = accF x0 x2 x4 1 0 14 :=
  stepE L_r_146 (rc1 13 _) (raP _ _ _ 13 _) (raW _ _ _ 13 _)

theorem L_r_152 : kernelRun0_A.sl.r_152 (F := Ideal) c arg1 harg1 arg3 harg3 arg5 harg5 arg11 x0 x2 x4 = accF x0 x2 x4 1 16 14 :=
  stepE L_r_147 (rc1 13 _) (raP _ _ _ 29 _) (raW _ _ _ 29 _)

theorem L_r_153 : kernelRun0_A.sl.r_153 (F := Ideal) c arg1 harg1 arg2 harg2 arg4 harg4 arg11 x0 x1 x3 = accF x0 x1 x3 1 0 15 :=
  stepE L_r_148 (rc1 14 _) (raP _ _ _ 14 _) (raW _ _ _ 14 _)

theorem L_r_154 : kernelRun0_A.sl.r_154 (F := Ideal) c arg1 harg1 arg2 harg2 arg4 harg4 arg11 x0 x1 x3 = accF x0 x1 x3 1 16 15 :=
  stepE L_r_149 (rc1 14 _) (raP _ _ _ 30 _) (raW _ _ _ 30 _)

theorem L_r_155 : kernelRun0_A.sl.r_155 (F := Ideal) c arg1 harg1 arg3 harg3 arg5 harg5 arg11 x0 x2 x4 = accF x0 x2 x4 1 0 15 :=
  stepE L_r_151 (rc1 14 _) (raP _ _ _ 14 _) (raW _ _ _ 14 _)

theorem L_r_156 : kernelRun0_A.sl.r_156 (F := Ideal) c arg1 harg1 arg3 harg3 arg5 harg5 arg11 x0 x2 x4 = accF x0 x2 x4 1 16 15 :=
  stepE L_r_152 (rc1 14 _) (raP _ _ _ 30 _) (raW _ _ _ 30 _)

theorem L_r_157 : kernelRun0_A.sl.r_157 (F := Ideal) c arg1 harg1 arg2 harg2 arg4 harg4 arg11 x0 x1 x3 = accF x0 x1 x3 1 0 16 :=
  stepE L_r_153 (rc1 15 _) (raP _ _ _ 15 _) (raW _ _ _ 15 _)

theorem L_r_164 : kernelRun0_A.sl.r_164 (F := Ideal) c arg1 harg1 arg2 harg2 arg4 harg4 arg11 x0 x1 x3 = accF x0 x1 x3 2 0 1 :=
  stepE rfl (rc2 0 _) (raP _ _ _ 0 _) (raW _ _ _ 0 _)

theorem L_r_165 : kernelRun0_A.sl.r_165 (F := Ideal) c arg1 harg1 arg2 harg2 arg4 harg4 arg11 x0 x1 x3 = accF x0 x1 x3 2 16 1 :=
  stepE rfl (rc2 0 _) (raP _ _ _ 16 _) (raW _ _ _ 16 _)

theorem L_r_166 : kernelRun0_A.sl.r_166 (F := Ideal) c arg1 harg1 arg3 harg3 arg5 harg5 arg11 x0 x2 x4 = accF x0 x2 x4 2 0 1 :=
  stepE rfl (rc2 0 _) (raP _ _ _ 0 _) (raW _ _ _ 0 _)

theorem L_r_168 : kernelRun0_A.sl.r_168 (F := Ideal) c arg1 harg1 arg3 harg3 arg5 harg5 arg11 x0 x2 x4 = accF x0 x2 x4 2 16 1 :=
  stepE rfl (rc2 0 _) (raP _ _ _ 16 _) (raW _ _ _ 16 _)

theorem L_r_169 : kernelRun0_A.sl.r_169 (F := Ideal) c arg1 harg1 arg2 harg2 arg4 harg4 arg11 x0 x1 x3 = accF x0 x1 x3 2 0 2 :=
  stepE L_r_164 (rc2 1 _) (raP _ _ _ 1 _) (raW _ _ _ 1 _)

theorem L_r_170 : kernelRun0_A.sl.r_170 (F := Ideal) c arg1 harg1 arg2 harg2 arg4 harg4 arg11 x0 x1 x3 = accF x0 x1 x3 2 16 2 :=
  stepE L_r_165 (rc2 1 _) (raP _ _ _ 17 _) (raW _ _ _ 17 _)

theorem L_r_171 : kernelRun0_A.sl.r_171 (F := Ideal) c arg1 harg1 arg3 harg3 arg5 harg5 arg11 x0 x2 x4 = accF x0 x2 x4 2 0 2 :=
  stepE L_r_166 (rc2 1 _) (raP _ _ _ 1 _) (raW _ _ _ 1 _)

theorem L_r_172 : kernelRun0_A.sl.r_172 (F := Ideal) c arg1 harg1 arg3 harg3 arg5 harg5 arg11 x0 x2 x4 = accF x0 x2 x4 2 16 2 :=
  stepE L_r_168 (rc2 1 _) (raP _ _ _ 17 _) (raW _ _ _ 17 _)

theorem L_r_173 : kernelRun0_A.sl.r_173 (F := Ideal) c arg1 harg1 arg2 harg2 arg4 harg4 arg11 x0 x1 x3 = accF x0 x1 x3 2 0 3 :=
  stepE L_r_169 (rc2 2 _) (raP _ _ _ 2 _) (raW _ _ _ 2 _)

theorem L_r_174 : kernelRun0_A.sl.r_174 (F := Ideal) c arg1 harg1 arg2 harg2 arg4 harg4 arg11 x0 x1 x3 = accF x0 x1 x3 2 16 3 :=
  stepE L_r_170 (rc2 2 _) (raP _ _ _ 18 _) (raW _ _ _ 18 _)

theorem W_r_176 : kernelRun0_A.sl.r_176 (F := Ideal) c arg5 harg5 x4 = shapeCast S128x128 (wr x4 2) shapeCasts_S1x128x128_S128x128 := by
  unfold kernelRun0_A.sl.r_176 k0_pay184
  rw [raW]

theorem L_r_177 : kernelRun0_A.sl.r_177 (F := Ideal) c arg1 harg1 arg3 harg3 arg5 harg5 arg11 x0 x2 x4 = accF x0 x2 x4 2 0 3 :=
  stepX L_r_171 (rc2 2 _) (raP _ _ _ 2 _) W_r_176

theorem L_r_178 : kernelRun0_A.sl.r_178 (F := Ideal) c arg1 harg1 arg3 harg3 arg5 harg5 arg11 x0 x2 x4 = accF x0 x2 x4 2 16 3 :=
  stepE L_r_172 (rc2 2 _) (raP _ _ _ 18 _) (raW _ _ _ 18 _)

theorem L_r_179 : kernelRun0_A.sl.r_179 (F := Ideal) c arg1 harg1 arg2 harg2 arg4 harg4 arg11 x0 x1 x3 = accF x0 x1 x3 2 0 4 :=
  stepE L_r_173 (rc2 3 _) (raP _ _ _ 3 _) (raW _ _ _ 3 _)

theorem L_r_180 : kernelRun0_A.sl.r_180 (F := Ideal) c arg1 harg1 arg2 harg2 arg4 harg4 arg11 x0 x1 x3 = accF x0 x1 x3 2 16 4 :=
  stepE L_r_174 (rc2 3 _) (raP _ _ _ 19 _) (raW _ _ _ 19 _)

theorem L_r_182 : kernelRun0_A.sl.r_182 (F := Ideal) c arg1 harg1 arg3 harg3 arg5 harg5 arg11 x0 x2 x4 = accF x0 x2 x4 2 0 4 :=
  stepE L_r_177 (rc2 3 _) (raP _ _ _ 3 _) (raW _ _ _ 3 _)

theorem L_r_183 : kernelRun0_A.sl.r_183 (F := Ideal) c arg1 harg1 arg3 harg3 arg5 harg5 arg11 x0 x2 x4 = accF x0 x2 x4 2 16 4 :=
  stepE L_r_178 (rc2 3 _) (raP _ _ _ 19 _) (raW _ _ _ 19 _)

theorem L_r_184 : kernelRun0_A.sl.r_184 (F := Ideal) c arg1 harg1 arg2 harg2 arg4 harg4 arg11 x0 x1 x3 = accF x0 x1 x3 2 0 5 :=
  stepE L_r_179 (rc2 4 _) (raP _ _ _ 4 _) (raW _ _ _ 4 _)

theorem L_r_185 : kernelRun0_A.sl.r_185 (F := Ideal) c arg1 harg1 arg2 harg2 arg4 harg4 arg11 x0 x1 x3 = accF x0 x1 x3 2 16 5 :=
  stepE L_r_180 (rc2 4 _) (raP _ _ _ 20 _) (raW _ _ _ 20 _)

theorem L_r_187 : kernelRun0_A.sl.r_187 (F := Ideal) c arg1 harg1 arg3 harg3 arg5 harg5 arg11 x0 x2 x4 = accF x0 x2 x4 2 0 5 :=
  stepE L_r_182 (rc2 4 _) (raP _ _ _ 4 _) (raW _ _ _ 4 _)

theorem L_r_188 : kernelRun0_A.sl.r_188 (F := Ideal) c arg1 harg1 arg3 harg3 arg5 harg5 arg11 x0 x2 x4 = accF x0 x2 x4 2 16 5 :=
  stepE L_r_183 (rc2 4 _) (raP _ _ _ 20 _) (raW _ _ _ 20 _)

theorem L_r_189 : kernelRun0_A.sl.r_189 (F := Ideal) c arg1 harg1 arg2 harg2 arg4 harg4 arg11 x0 x1 x3 = accF x0 x1 x3 2 0 6 :=
  stepE L_r_184 (rc2 5 _) (raP _ _ _ 5 _) (raW _ _ _ 5 _)

theorem L_r_190 : kernelRun0_A.sl.r_190 (F := Ideal) c arg1 harg1 arg2 harg2 arg4 harg4 arg11 x0 x1 x3 = accF x0 x1 x3 2 16 6 :=
  stepE L_r_185 (rc2 5 _) (raP _ _ _ 21 _) (raW _ _ _ 21 _)

theorem L_r_192 : kernelRun0_A.sl.r_192 (F := Ideal) c arg1 harg1 arg3 harg3 arg5 harg5 arg11 x0 x2 x4 = accF x0 x2 x4 2 0 6 :=
  stepE L_r_187 (rc2 5 _) (raP _ _ _ 5 _) (raW _ _ _ 5 _)

theorem L_r_193 : kernelRun0_A.sl.r_193 (F := Ideal) c arg1 harg1 arg3 harg3 arg5 harg5 arg11 x0 x2 x4 = accF x0 x2 x4 2 16 6 :=
  stepE L_r_188 (rc2 5 _) (raP _ _ _ 21 _) (raW _ _ _ 21 _)

theorem L_r_194 : kernelRun0_A.sl.r_194 (F := Ideal) c arg1 harg1 arg2 harg2 arg4 harg4 arg11 x0 x1 x3 = accF x0 x1 x3 2 0 7 :=
  stepE L_r_189 (rc2 6 _) (raP _ _ _ 6 _) (raW _ _ _ 6 _)

theorem L_r_195 : kernelRun0_A.sl.r_195 (F := Ideal) c arg1 harg1 arg2 harg2 arg4 harg4 arg11 x0 x1 x3 = accF x0 x1 x3 2 16 7 :=
  stepE L_r_190 (rc2 6 _) (raP _ _ _ 22 _) (raW _ _ _ 22 _)

theorem L_r_196 : kernelRun0_A.sl.r_196 (F := Ideal) c arg1 harg1 arg3 harg3 arg5 harg5 arg11 x0 x2 x4 = accF x0 x2 x4 2 0 7 :=
  stepE L_r_192 (rc2 6 _) (raP _ _ _ 6 _) (raW _ _ _ 6 _)

theorem L_r_197 : kernelRun0_A.sl.r_197 (F := Ideal) c arg1 harg1 arg3 harg3 arg5 harg5 arg11 x0 x2 x4 = accF x0 x2 x4 2 16 7 :=
  stepE L_r_193 (rc2 6 _) (raP _ _ _ 22 _) (raW _ _ _ 22 _)

theorem L_r_198 : kernelRun0_A.sl.r_198 (F := Ideal) c arg1 harg1 arg2 harg2 arg4 harg4 arg11 x0 x1 x3 = accF x0 x1 x3 2 0 8 :=
  stepE L_r_194 (rc2 7 _) (raP _ _ _ 7 _) (raW _ _ _ 7 _)

theorem W_r_200 : kernelRun0_A.sl.r_200 (F := Ideal) c arg4 harg4 x3 = shapeCast S128x128 (wr x3 23) shapeCasts_S1x128x128_S128x128 := by
  unfold kernelRun0_A.sl.r_200 k0_pay207
  rw [raW]

theorem L_r_201 : kernelRun0_A.sl.r_201 (F := Ideal) c arg1 harg1 arg2 harg2 arg4 harg4 arg11 x0 x1 x3 = accF x0 x1 x3 2 16 8 :=
  stepX L_r_195 (rc2 7 _) (raP _ _ _ 23 _) W_r_200

theorem L_r_202 : kernelRun0_A.sl.r_202 (F := Ideal) c arg1 harg1 arg3 harg3 arg5 harg5 arg11 x0 x2 x4 = accF x0 x2 x4 2 0 8 :=
  stepE L_r_196 (rc2 7 _) (raP _ _ _ 7 _) (raW _ _ _ 7 _)

theorem L_r_203 : kernelRun0_A.sl.r_203 (F := Ideal) c arg1 harg1 arg3 harg3 arg5 harg5 arg11 x0 x2 x4 = accF x0 x2 x4 2 16 8 :=
  stepE L_r_197 (rc2 7 _) (raP _ _ _ 23 _) (raW _ _ _ 23 _)

theorem L_r_204 : kernelRun0_A.sl.r_204 (F := Ideal) c arg1 harg1 arg2 harg2 arg4 harg4 arg11 x0 x1 x3 = accF x0 x1 x3 2 0 9 :=
  stepE L_r_198 (rc2 8 _) (raP _ _ _ 8 _) (raW _ _ _ 8 _)

theorem L_r_206 : kernelRun0_A.sl.r_206 (F := Ideal) c arg1 harg1 arg2 harg2 arg4 harg4 arg11 x0 x1 x3 = accF x0 x1 x3 2 16 9 :=
  stepE L_r_201 (rc2 8 _) (raP _ _ _ 24 _) (raW _ _ _ 24 _)

theorem L_r_207 : kernelRun0_A.sl.r_207 (F := Ideal) c arg1 harg1 arg3 harg3 arg5 harg5 arg11 x0 x2 x4 = accF x0 x2 x4 2 0 9 :=
  stepE L_r_202 (rc2 8 _) (raP _ _ _ 8 _) (raW _ _ _ 8 _)

theorem L_r_208 : kernelRun0_A.sl.r_208 (F := Ideal) c arg1 harg1 arg3 harg3 arg5 harg5 arg11 x0 x2 x4 = accF x0 x2 x4 2 16 9 :=
  stepE L_r_203 (rc2 8 _) (raP _ _ _ 24 _) (raW _ _ _ 24 _)

theorem L_r_209 : kernelRun0_A.sl.r_209 (F := Ideal) c arg1 harg1 arg2 harg2 arg4 harg4 arg11 x0 x1 x3 = accF x0 x1 x3 2 0 10 :=
  stepE L_r_204 (rc2 9 _) (raP _ _ _ 9 _) (raW _ _ _ 9 _)

theorem L_r_211 : kernelRun0_A.sl.r_211 (F := Ideal) c arg1 harg1 arg2 harg2 arg4 harg4 arg11 x0 x1 x3 = accF x0 x1 x3 2 16 10 :=
  stepE L_r_206 (rc2 9 _) (raP _ _ _ 25 _) (raW _ _ _ 25 _)

theorem L_r_212 : kernelRun0_A.sl.r_212 (F := Ideal) c arg1 harg1 arg3 harg3 arg5 harg5 arg11 x0 x2 x4 = accF x0 x2 x4 2 0 10 :=
  stepE L_r_207 (rc2 9 _) (raP _ _ _ 9 _) (raW _ _ _ 9 _)

theorem L_r_213 : kernelRun0_A.sl.r_213 (F := Ideal) c arg1 harg1 arg3 harg3 arg5 harg5 arg11 x0 x2 x4 = accF x0 x2 x4 2 16 10 :=
  stepE L_r_208 (rc2 9 _) (raP _ _ _ 25 _) (raW _ _ _ 25 _)

theorem L_r_214 : kernelRun0_A.sl.r_214 (F := Ideal) c arg1 harg1 arg2 harg2 arg4 harg4 arg11 x0 x1 x3 = accF x0 x1 x3 2 0 11 :=
  stepE L_r_209 (rc2 10 _) (raP _ _ _ 10 _) (raW _ _ _ 10 _)

theorem L_r_216 : kernelRun0_A.sl.r_216 (F := Ideal) c arg1 harg1 arg2 harg2 arg4 harg4 arg11 x0 x1 x3 = accF x0 x1 x3 2 16 11 :=
  stepE L_r_211 (rc2 10 _) (raP _ _ _ 26 _) (raW _ _ _ 26 _)

theorem L_r_217 : kernelRun0_A.sl.r_217 (F := Ideal) c arg1 harg1 arg3 harg3 arg5 harg5 arg11 x0 x2 x4 = accF x0 x2 x4 2 0 11 :=
  stepE L_r_212 (rc2 10 _) (raP _ _ _ 10 _) (raW _ _ _ 10 _)

theorem L_r_218 : kernelRun0_A.sl.r_218 (F := Ideal) c arg1 harg1 arg3 harg3 arg5 harg5 arg11 x0 x2 x4 = accF x0 x2 x4 2 16 11 :=
  stepE L_r_213 (rc2 10 _) (raP _ _ _ 26 _) (raW _ _ _ 26 _)

theorem L_r_219 : kernelRun0_A.sl.r_219 (F := Ideal) c arg1 harg1 arg2 harg2 arg4 harg4 arg11 x0 x1 x3 = accF x0 x1 x3 2 0 12 :=
  stepE L_r_214 (rc2 11 _) (raP _ _ _ 11 _) (raW _ _ _ 11 _)

theorem L_r_220 : kernelRun0_A.sl.r_220 (F := Ideal) c arg1 harg1 arg2 harg2 arg4 harg4 arg11 x0 x1 x3 = accF x0 x1 x3 2 16 12 :=
  stepE L_r_216 (rc2 11 _) (raP _ _ _ 27 _) (raW _ _ _ 27 _)

theorem L_r_221 : kernelRun0_A.sl.r_221 (F := Ideal) c arg1 harg1 arg3 harg3 arg5 harg5 arg11 x0 x2 x4 = accF x0 x2 x4 2 0 12 :=
  stepE L_r_217 (rc2 11 _) (raP _ _ _ 11 _) (raW _ _ _ 11 _)

theorem L_r_222 : kernelRun0_A.sl.r_222 (F := Ideal) c arg1 harg1 arg3 harg3 arg5 harg5 arg11 x0 x2 x4 = accF x0 x2 x4 2 16 12 :=
  stepE L_r_218 (rc2 11 _) (raP _ _ _ 27 _) (raW _ _ _ 27 _)

theorem W_r_224 : kernelRun0_A.sl.r_224 (F := Ideal) c arg4 harg4 x3 = shapeCast S128x128 (wr x3 12) shapeCasts_S1x128x128_S128x128 := by
  unfold kernelRun0_A.sl.r_224 k0_pay230
  rw [raW]

theorem L_r_225 : kernelRun0_A.sl.r_225 (F := Ideal) c arg1 harg1 arg2 harg2 arg4 harg4 arg11 x0 x1 x3 = accF x0 x1 x3 2 0 13 :=
  stepX L_r_219 (rc2 12 _) (raP _ _ _ 12 _) W_r_224

theorem L_r_226 : kernelRun0_A.sl.r_226 (F := Ideal) c arg1 harg1 arg2 harg2 arg4 harg4 arg11 x0 x1 x3 = accF x0 x1 x3 2 16 13 :=
  stepE L_r_220 (rc2 12 _) (raP _ _ _ 28 _) (raW _ _ _ 28 _)

theorem L_r_227 : kernelRun0_A.sl.r_227 (F := Ideal) c arg1 harg1 arg3 harg3 arg5 harg5 arg11 x0 x2 x4 = accF x0 x2 x4 2 0 13 :=
  stepE L_r_221 (rc2 12 _) (raP _ _ _ 12 _) (raW _ _ _ 12 _)

theorem L_r_228 : kernelRun0_A.sl.r_228 (F := Ideal) c arg1 harg1 arg3 harg3 arg5 harg5 arg11 x0 x2 x4 = accF x0 x2 x4 2 16 13 :=
  stepE L_r_222 (rc2 12 _) (raP _ _ _ 28 _) (raW _ _ _ 28 _)

theorem L_r_230 : kernelRun0_A.sl.r_230 (F := Ideal) c arg1 harg1 arg2 harg2 arg4 harg4 arg11 x0 x1 x3 = accF x0 x1 x3 2 0 14 :=
  stepE L_r_225 (rc2 13 _) (raP _ _ _ 13 _) (raW _ _ _ 13 _)

theorem L_r_231 : kernelRun0_A.sl.r_231 (F := Ideal) c arg1 harg1 arg2 harg2 arg4 harg4 arg11 x0 x1 x3 = accF x0 x1 x3 2 16 14 :=
  stepE L_r_226 (rc2 13 _) (raP _ _ _ 29 _) (raW _ _ _ 29 _)

theorem L_r_232 : kernelRun0_A.sl.r_232 (F := Ideal) c arg1 harg1 arg3 harg3 arg5 harg5 arg11 x0 x2 x4 = accF x0 x2 x4 2 0 14 :=
  stepE L_r_227 (rc2 13 _) (raP _ _ _ 13 _) (raW _ _ _ 13 _)

theorem L_r_233 : kernelRun0_A.sl.r_233 (F := Ideal) c arg1 harg1 arg3 harg3 arg5 harg5 arg11 x0 x2 x4 = accF x0 x2 x4 2 16 14 :=
  stepE L_r_228 (rc2 13 _) (raP _ _ _ 29 _) (raW _ _ _ 29 _)

theorem L_r_235 : kernelRun0_A.sl.r_235 (F := Ideal) c arg1 harg1 arg2 harg2 arg4 harg4 arg11 x0 x1 x3 = accF x0 x1 x3 2 0 15 :=
  stepE L_r_230 (rc2 14 _) (raP _ _ _ 14 _) (raW _ _ _ 14 _)

theorem L_r_236 : kernelRun0_A.sl.r_236 (F := Ideal) c arg1 harg1 arg2 harg2 arg4 harg4 arg11 x0 x1 x3 = accF x0 x1 x3 2 16 15 :=
  stepE L_r_231 (rc2 14 _) (raP _ _ _ 30 _) (raW _ _ _ 30 _)

theorem L_r_237 : kernelRun0_A.sl.r_237 (F := Ideal) c arg1 harg1 arg3 harg3 arg5 harg5 arg11 x0 x2 x4 = accF x0 x2 x4 2 0 15 :=
  stepE L_r_232 (rc2 14 _) (raP _ _ _ 14 _) (raW _ _ _ 14 _)

theorem L_r_238 : kernelRun0_A.sl.r_238 (F := Ideal) c arg1 harg1 arg3 harg3 arg5 harg5 arg11 x0 x2 x4 = accF x0 x2 x4 2 16 15 :=
  stepE L_r_233 (rc2 14 _) (raP _ _ _ 30 _) (raW _ _ _ 30 _)

theorem L_r_240 : kernelRun0_A.sl.r_240 (F := Ideal) c arg1 harg1 arg3 harg3 arg5 harg5 arg11 x0 x2 x4 = accF x0 x2 x4 2 0 16 :=
  stepE L_r_237 (rc2 15 _) (raP _ _ _ 15 _) (raW _ _ _ 15 _)

theorem L_r_241 : kernelRun0_A.sl.r_241 (F := Ideal) c arg1 harg1 arg3 harg3 arg5 harg5 arg11 x0 x2 x4 = accF x0 x2 x4 2 16 16 :=
  stepE L_r_238 (rc2 15 _) (raP _ _ _ 31 _) (raW _ _ _ 31 _)

theorem L_r_244 : kernelRun0_A.sl.r_244 (F := Ideal) c arg1 harg1 arg2 harg2 arg4 harg4 arg11 x0 x1 x3 = accF x0 x1 x3 3 0 1 :=
  stepE rfl (rc3 0 _) (raP _ _ _ 0 _) (raW _ _ _ 0 _)

theorem L_r_246 : kernelRun0_A.sl.r_246 (F := Ideal) c arg1 harg1 arg2 harg2 arg4 harg4 arg11 x0 x1 x3 = accF x0 x1 x3 3 16 1 :=
  stepE rfl (rc3 0 _) (raP _ _ _ 16 _) (raW _ _ _ 16 _)

theorem L_r_247 : kernelRun0_A.sl.r_247 (F := Ideal) c arg1 harg1 arg3 harg3 arg5 harg5 arg11 x0 x2 x4 = accF x0 x2 x4 3 0 1 :=
  stepE rfl (rc3 0 _) (raP _ _ _ 0 _) (raW _ _ _ 0 _)

theorem L_r_248 : kernelRun0_A.sl.r_248 (F := Ideal) c arg1 harg1 arg3 harg3 arg5 harg5 arg11 x0 x2 x4 = accF x0 x2 x4 3 16 1 :=
  stepE rfl (rc3 0 _) (raP _ _ _ 16 _) (raW _ _ _ 16 _)

theorem L_r_249 : kernelRun0_A.sl.r_249 (F := Ideal) c arg1 harg1 arg2 harg2 arg4 harg4 arg11 x0 x1 x3 = accF x0 x1 x3 3 0 2 :=
  stepE L_r_244 (rc3 1 _) (raP _ _ _ 1 _) (raW _ _ _ 1 _)

theorem L_r_251 : kernelRun0_A.sl.r_251 (F := Ideal) c arg1 harg1 arg2 harg2 arg4 harg4 arg11 x0 x1 x3 = accF x0 x1 x3 3 16 2 :=
  stepE L_r_246 (rc3 1 _) (raP _ _ _ 17 _) (raW _ _ _ 17 _)

theorem L_r_252 : kernelRun0_A.sl.r_252 (F := Ideal) c arg1 harg1 arg3 harg3 arg5 harg5 arg11 x0 x2 x4 = accF x0 x2 x4 3 0 2 :=
  stepE L_r_247 (rc3 1 _) (raP _ _ _ 1 _) (raW _ _ _ 1 _)

theorem L_r_253 : kernelRun0_A.sl.r_253 (F := Ideal) c arg1 harg1 arg3 harg3 arg5 harg5 arg11 x0 x2 x4 = accF x0 x2 x4 3 16 2 :=
  stepE L_r_248 (rc3 1 _) (raP _ _ _ 17 _) (raW _ _ _ 17 _)

theorem L_r_254 : kernelRun0_A.sl.r_254 (F := Ideal) c arg1 harg1 arg2 harg2 arg4 harg4 arg11 x0 x1 x3 = accF x0 x1 x3 3 0 3 :=
  stepE L_r_249 (rc3 2 _) (raP _ _ _ 2 _) (raW _ _ _ 2 _)

theorem L_r_256 : kernelRun0_A.sl.r_256 (F := Ideal) c arg1 harg1 arg2 harg2 arg4 harg4 arg11 x0 x1 x3 = accF x0 x1 x3 3 16 3 :=
  stepE L_r_251 (rc3 2 _) (raP _ _ _ 18 _) (raW _ _ _ 18 _)

theorem L_r_257 : kernelRun0_A.sl.r_257 (F := Ideal) c arg1 harg1 arg3 harg3 arg5 harg5 arg11 x0 x2 x4 = accF x0 x2 x4 3 0 3 :=
  stepE L_r_252 (rc3 2 _) (raP _ _ _ 2 _) (raW _ _ _ 2 _)

theorem L_r_258 : kernelRun0_A.sl.r_258 (F := Ideal) c arg1 harg1 arg3 harg3 arg5 harg5 arg11 x0 x2 x4 = accF x0 x2 x4 3 16 3 :=
  stepE L_r_253 (rc3 2 _) (raP _ _ _ 18 _) (raW _ _ _ 18 _)

theorem L_r_259 : kernelRun0_A.sl.r_259 (F := Ideal) c arg1 harg1 arg2 harg2 arg4 harg4 arg11 x0 x1 x3 = accF x0 x1 x3 3 0 4 :=
  stepE L_r_254 (rc3 3 _) (raP _ _ _ 3 _) (raW _ _ _ 3 _)

theorem L_r_260 : kernelRun0_A.sl.r_260 (F := Ideal) c arg1 harg1 arg2 harg2 arg4 harg4 arg11 x0 x1 x3 = accF x0 x1 x3 3 16 4 :=
  stepE L_r_256 (rc3 3 _) (raP _ _ _ 19 _) (raW _ _ _ 19 _)

theorem L_r_261 : kernelRun0_A.sl.r_261 (F := Ideal) c arg1 harg1 arg3 harg3 arg5 harg5 arg11 x0 x2 x4 = accF x0 x2 x4 3 0 4 :=
  stepE L_r_257 (rc3 3 _) (raP _ _ _ 3 _) (raW _ _ _ 3 _)

theorem L_r_262 : kernelRun0_A.sl.r_262 (F := Ideal) c arg1 harg1 arg3 harg3 arg5 harg5 arg11 x0 x2 x4 = accF x0 x2 x4 3 16 4 :=
  stepE L_r_258 (rc3 3 _) (raP _ _ _ 19 _) (raW _ _ _ 19 _)

theorem W_r_264 : kernelRun0_A.sl.r_264 (F := Ideal) c arg4 harg4 x3 = shapeCast S128x128 (wr x3 4) shapeCasts_S1x128x128_S128x128 := by
  unfold kernelRun0_A.sl.r_264 k0_pay274
  rw [raW]

theorem L_r_265 : kernelRun0_A.sl.r_265 (F := Ideal) c arg1 harg1 arg2 harg2 arg4 harg4 arg11 x0 x1 x3 = accF x0 x1 x3 3 0 5 :=
  stepX L_r_259 (rc3 4 _) (raP _ _ _ 4 _) W_r_264

theorem L_r_266 : kernelRun0_A.sl.r_266 (F := Ideal) c arg1 harg1 arg2 harg2 arg4 harg4 arg11 x0 x1 x3 = accF x0 x1 x3 3 16 5 :=
  stepE L_r_260 (rc3 4 _) (raP _ _ _ 20 _) (raW _ _ _ 20 _)

theorem L_r_267 : kernelRun0_A.sl.r_267 (F := Ideal) c arg1 harg1 arg3 harg3 arg5 harg5 arg11 x0 x2 x4 = accF x0 x2 x4 3 0 5 :=
  stepE L_r_261 (rc3 4 _) (raP _ _ _ 4 _) (raW _ _ _ 4 _)

theorem L_r_268 : kernelRun0_A.sl.r_268 (F := Ideal) c arg1 harg1 arg3 harg3 arg5 harg5 arg11 x0 x2 x4 = accF x0 x2 x4 3 16 5 :=
  stepE L_r_262 (rc3 4 _) (raP _ _ _ 20 _) (raW _ _ _ 20 _)

theorem L_r_270 : kernelRun0_A.sl.r_270 (F := Ideal) c arg1 harg1 arg2 harg2 arg4 harg4 arg11 x0 x1 x3 = accF x0 x1 x3 3 0 6 :=
  stepE L_r_265 (rc3 5 _) (raP _ _ _ 5 _) (raW _ _ _ 5 _)

theorem L_r_271 : kernelRun0_A.sl.r_271 (F := Ideal) c arg1 harg1 arg2 harg2 arg4 harg4 arg11 x0 x1 x3 = accF x0 x1 x3 3 16 6 :=
  stepE L_r_266 (rc3 5 _) (raP _ _ _ 21 _) (raW _ _ _ 21 _)

theorem L_r_272 : kernelRun0_A.sl.r_272 (F := Ideal) c arg1 harg1 arg3 harg3 arg5 harg5 arg11 x0 x2 x4 = accF x0 x2 x4 3 0 6 :=
  stepE L_r_267 (rc3 5 _) (raP _ _ _ 5 _) (raW _ _ _ 5 _)

theorem L_r_273 : kernelRun0_A.sl.r_273 (F := Ideal) c arg1 harg1 arg3 harg3 arg5 harg5 arg11 x0 x2 x4 = accF x0 x2 x4 3 16 6 :=
  stepE L_r_268 (rc3 5 _) (raP _ _ _ 21 _) (raW _ _ _ 21 _)

theorem L_r_275 : kernelRun0_A.sl.r_275 (F := Ideal) c arg1 harg1 arg2 harg2 arg4 harg4 arg11 x0 x1 x3 = accF x0 x1 x3 3 0 7 :=
  stepE L_r_270 (rc3 6 _) (raP _ _ _ 6 _) (raW _ _ _ 6 _)

theorem L_r_276 : kernelRun0_A.sl.r_276 (F := Ideal) c arg1 harg1 arg2 harg2 arg4 harg4 arg11 x0 x1 x3 = accF x0 x1 x3 3 16 7 :=
  stepE L_r_271 (rc3 6 _) (raP _ _ _ 22 _) (raW _ _ _ 22 _)

theorem L_r_277 : kernelRun0_A.sl.r_277 (F := Ideal) c arg1 harg1 arg3 harg3 arg5 harg5 arg11 x0 x2 x4 = accF x0 x2 x4 3 0 7 :=
  stepE L_r_272 (rc3 6 _) (raP _ _ _ 6 _) (raW _ _ _ 6 _)

theorem L_r_278 : kernelRun0_A.sl.r_278 (F := Ideal) c arg1 harg1 arg3 harg3 arg5 harg5 arg11 x0 x2 x4 = accF x0 x2 x4 3 16 7 :=
  stepE L_r_273 (rc3 6 _) (raP _ _ _ 22 _) (raW _ _ _ 22 _)

theorem L_r_280 : kernelRun0_A.sl.r_280 (F := Ideal) c arg1 harg1 arg2 harg2 arg4 harg4 arg11 x0 x1 x3 = accF x0 x1 x3 3 0 8 :=
  stepE L_r_275 (rc3 7 _) (raP _ _ _ 7 _) (raW _ _ _ 7 _)

theorem L_r_281 : kernelRun0_A.sl.r_281 (F := Ideal) c arg1 harg1 arg2 harg2 arg4 harg4 arg11 x0 x1 x3 = accF x0 x1 x3 3 16 8 :=
  stepE L_r_276 (rc3 7 _) (raP _ _ _ 23 _) (raW _ _ _ 23 _)

theorem L_r_282 : kernelRun0_A.sl.r_282 (F := Ideal) c arg1 harg1 arg3 harg3 arg5 harg5 arg11 x0 x2 x4 = accF x0 x2 x4 3 0 8 :=
  stepE L_r_277 (rc3 7 _) (raP _ _ _ 7 _) (raW _ _ _ 7 _)

theorem L_r_283 : kernelRun0_A.sl.r_283 (F := Ideal) c arg1 harg1 arg3 harg3 arg5 harg5 arg11 x0 x2 x4 = accF x0 x2 x4 3 16 8 :=
  stepE L_r_278 (rc3 7 _) (raP _ _ _ 23 _) (raW _ _ _ 23 _)

theorem L_r_284 : kernelRun0_A.sl.r_284 (F := Ideal) c arg1 harg1 arg2 harg2 arg4 harg4 arg11 x0 x1 x3 = accF x0 x1 x3 3 0 9 :=
  stepE L_r_280 (rc3 8 _) (raP _ _ _ 8 _) (raW _ _ _ 8 _)

theorem L_r_285 : kernelRun0_A.sl.r_285 (F := Ideal) c arg1 harg1 arg2 harg2 arg4 harg4 arg11 x0 x1 x3 = accF x0 x1 x3 3 16 9 :=
  stepE L_r_281 (rc3 8 _) (raP _ _ _ 24 _) (raW _ _ _ 24 _)

theorem L_r_286 : kernelRun0_A.sl.r_286 (F := Ideal) c arg1 harg1 arg3 harg3 arg5 harg5 arg11 x0 x2 x4 = accF x0 x2 x4 3 0 9 :=
  stepE L_r_282 (rc3 8 _) (raP _ _ _ 8 _) (raW _ _ _ 8 _)

theorem L_r_287 : kernelRun0_A.sl.r_287 (F := Ideal) c arg1 harg1 arg3 harg3 arg5 harg5 arg11 x0 x2 x4 = accF x0 x2 x4 3 16 9 :=
  stepE L_r_283 (rc3 8 _) (raP _ _ _ 24 _) (raW _ _ _ 24 _)

theorem L_r_288 : kernelRun0_A.sl.r_288 (F := Ideal) c arg1 harg1 arg2 harg2 arg4 harg4 arg11 x0 x1 x3 = accF x0 x1 x3 3 0 10 :=
  stepE L_r_284 (rc3 9 _) (raP _ _ _ 9 _) (raW _ _ _ 9 _)

theorem L_r_289 : kernelRun0_A.sl.r_289 (F := Ideal) c arg1 harg1 arg2 harg2 arg4 harg4 arg11 x0 x1 x3 = accF x0 x1 x3 3 16 10 :=
  stepE L_r_285 (rc3 9 _) (raP _ _ _ 25 _) (raW _ _ _ 25 _)

theorem L_r_290 : kernelRun0_A.sl.r_290 (F := Ideal) c arg1 harg1 arg3 harg3 arg5 harg5 arg11 x0 x2 x4 = accF x0 x2 x4 3 0 10 :=
  stepE L_r_286 (rc3 9 _) (raP _ _ _ 9 _) (raW _ _ _ 9 _)

theorem W_r_292 : kernelRun0_A.sl.r_292 (F := Ideal) c arg5 harg5 x4 = shapeCast S128x128 (wr x4 25) shapeCasts_S1x128x128_S128x128 := by
  unfold kernelRun0_A.sl.r_292 k0_pay301
  rw [raW]

theorem L_r_293 : kernelRun0_A.sl.r_293 (F := Ideal) c arg1 harg1 arg3 harg3 arg5 harg5 arg11 x0 x2 x4 = accF x0 x2 x4 3 16 10 :=
  stepX L_r_287 (rc3 9 _) (raP _ _ _ 25 _) W_r_292

theorem L_r_294 : kernelRun0_A.sl.r_294 (F := Ideal) c arg1 harg1 arg2 harg2 arg4 harg4 arg11 x0 x1 x3 = accF x0 x1 x3 3 0 11 :=
  stepE L_r_288 (rc3 10 _) (raP _ _ _ 10 _) (raW _ _ _ 10 _)

theorem L_r_295 : kernelRun0_A.sl.r_295 (F := Ideal) c arg1 harg1 arg2 harg2 arg4 harg4 arg11 x0 x1 x3 = accF x0 x1 x3 3 16 11 :=
  stepE L_r_289 (rc3 10 _) (raP _ _ _ 26 _) (raW _ _ _ 26 _)

theorem L_r_296 : kernelRun0_A.sl.r_296 (F := Ideal) c arg1 harg1 arg3 harg3 arg5 harg5 arg11 x0 x2 x4 = accF x0 x2 x4 3 0 11 :=
  stepE L_r_290 (rc3 10 _) (raP _ _ _ 10 _) (raW _ _ _ 10 _)

theorem L_r_298 : kernelRun0_A.sl.r_298 (F := Ideal) c arg1 harg1 arg3 harg3 arg5 harg5 arg11 x0 x2 x4 = accF x0 x2 x4 3 16 11 :=
  stepE L_r_293 (rc3 10 _) (raP _ _ _ 26 _) (raW _ _ _ 26 _)

theorem L_r_299 : kernelRun0_A.sl.r_299 (F := Ideal) c arg1 harg1 arg2 harg2 arg4 harg4 arg11 x0 x1 x3 = accF x0 x1 x3 3 0 12 :=
  stepE L_r_294 (rc3 11 _) (raP _ _ _ 11 _) (raW _ _ _ 11 _)

theorem L_r_300 : kernelRun0_A.sl.r_300 (F := Ideal) c arg1 harg1 arg2 harg2 arg4 harg4 arg11 x0 x1 x3 = accF x0 x1 x3 3 16 12 :=
  stepE L_r_295 (rc3 11 _) (raP _ _ _ 27 _) (raW _ _ _ 27 _)

theorem L_r_301 : kernelRun0_A.sl.r_301 (F := Ideal) c arg1 harg1 arg3 harg3 arg5 harg5 arg11 x0 x2 x4 = accF x0 x2 x4 3 0 12 :=
  stepE L_r_296 (rc3 11 _) (raP _ _ _ 11 _) (raW _ _ _ 11 _)

theorem L_r_303 : kernelRun0_A.sl.r_303 (F := Ideal) c arg1 harg1 arg3 harg3 arg5 harg5 arg11 x0 x2 x4 = accF x0 x2 x4 3 16 12 :=
  stepE L_r_298 (rc3 11 _) (raP _ _ _ 27 _) (raW _ _ _ 27 _)

theorem L_r_304 : kernelRun0_A.sl.r_304 (F := Ideal) c arg1 harg1 arg2 harg2 arg4 harg4 arg11 x0 x1 x3 = accF x0 x1 x3 3 0 13 :=
  stepE L_r_299 (rc3 12 _) (raP _ _ _ 12 _) (raW _ _ _ 12 _)

theorem L_r_305 : kernelRun0_A.sl.r_305 (F := Ideal) c arg1 harg1 arg2 harg2 arg4 harg4 arg11 x0 x1 x3 = accF x0 x1 x3 3 16 13 :=
  stepE L_r_300 (rc3 12 _) (raP _ _ _ 28 _) (raW _ _ _ 28 _)

theorem L_r_306 : kernelRun0_A.sl.r_306 (F := Ideal) c arg1 harg1 arg3 harg3 arg5 harg5 arg11 x0 x2 x4 = accF x0 x2 x4 3 0 13 :=
  stepE L_r_301 (rc3 12 _) (raP _ _ _ 12 _) (raW _ _ _ 12 _)

theorem L_r_308 : kernelRun0_A.sl.r_308 (F := Ideal) c arg1 harg1 arg3 harg3 arg5 harg5 arg11 x0 x2 x4 = accF x0 x2 x4 3 16 13 :=
  stepE L_r_303 (rc3 12 _) (raP _ _ _ 28 _) (raW _ _ _ 28 _)

theorem L_r_309 : kernelRun0_A.sl.r_309 (F := Ideal) c arg1 harg1 arg2 harg2 arg4 harg4 arg11 x0 x1 x3 = accF x0 x1 x3 3 0 14 :=
  stepE L_r_304 (rc3 13 _) (raP _ _ _ 13 _) (raW _ _ _ 13 _)

theorem L_r_310 : kernelRun0_A.sl.r_310 (F := Ideal) c arg1 harg1 arg2 harg2 arg4 harg4 arg11 x0 x1 x3 = accF x0 x1 x3 3 16 14 :=
  stepE L_r_305 (rc3 13 _) (raP _ _ _ 29 _) (raW _ _ _ 29 _)

theorem L_r_311 : kernelRun0_A.sl.r_311 (F := Ideal) c arg1 harg1 arg3 harg3 arg5 harg5 arg11 x0 x2 x4 = accF x0 x2 x4 3 0 14 :=
  stepE L_r_306 (rc3 13 _) (raP _ _ _ 13 _) (raW _ _ _ 13 _)

theorem L_r_312 : kernelRun0_A.sl.r_312 (F := Ideal) c arg1 harg1 arg3 harg3 arg5 harg5 arg11 x0 x2 x4 = accF x0 x2 x4 3 16 14 :=
  stepE L_r_308 (rc3 13 _) (raP _ _ _ 29 _) (raW _ _ _ 29 _)

theorem L_r_313 : kernelRun0_A.sl.r_313 (F := Ideal) c arg1 harg1 arg2 harg2 arg4 harg4 arg11 x0 x1 x3 = accF x0 x1 x3 3 0 15 :=
  stepE L_r_309 (rc3 14 _) (raP _ _ _ 14 _) (raW _ _ _ 14 _)

theorem L_r_314 : kernelRun0_A.sl.r_314 (F := Ideal) c arg1 harg1 arg2 harg2 arg4 harg4 arg11 x0 x1 x3 = accF x0 x1 x3 3 16 15 :=
  stepE L_r_310 (rc3 14 _) (raP _ _ _ 30 _) (raW _ _ _ 30 _)

theorem W_r_316 : kernelRun0_A.sl.r_316 (F := Ideal) c arg5 harg5 x4 = shapeCast S128x128 (wr x4 14) shapeCasts_S1x128x128_S128x128 := by
  unfold kernelRun0_A.sl.r_316 k0_pay324
  rw [raW]

theorem L_r_317 : kernelRun0_A.sl.r_317 (F := Ideal) c arg1 harg1 arg3 harg3 arg5 harg5 arg11 x0 x2 x4 = accF x0 x2 x4 3 0 15 :=
  stepX L_r_311 (rc3 14 _) (raP _ _ _ 14 _) W_r_316

theorem L_r_318 : kernelRun0_A.sl.r_318 (F := Ideal) c arg1 harg1 arg3 harg3 arg5 harg5 arg11 x0 x2 x4 = accF x0 x2 x4 3 16 15 :=
  stepE L_r_312 (rc3 14 _) (raP _ _ _ 30 _) (raW _ _ _ 30 _)

theorem L_r_319 : kernelRun0_A.sl.r_319 (F := Ideal) c arg1 harg1 arg2 harg2 arg4 harg4 arg11 x0 x1 x3 = accF x0 x1 x3 3 0 16 :=
  stepE L_r_313 (rc3 15 _) (raP _ _ _ 15 _) (raW _ _ _ 15 _)

theorem L_r_320 : kernelRun0_A.sl.r_320 (F := Ideal) c arg1 harg1 arg2 harg2 arg4 harg4 arg11 x0 x1 x3 = accF x0 x1 x3 3 16 16 :=
  stepE L_r_314 (rc3 15 _) (raP _ _ _ 31 _) (raW _ _ _ 31 _)

end Cert.Cmp.Ker

end
-- ==== Proof.CmpOut.lean ====
/-
  What the compression kernel stores for each group of heads: the smooth step of the sum of its two chains, the second one
  a block further, through the second weight.
-/
module

public import proofs.«01_k».proof.Proof.CmpKer

@[expose] public section

set_option maxRecDepth 16384

noncomputable section

open Idealize.ShloMosaic Idealize.ShloMosaic.TcCoe Idealize.SL.Sem
open Idealize.ShloMosaic.Pipeline (Dat)

namespace Cert.Cmp.Ker

open Cert.CompressIdeal Cert.CompressIdeal.Gen

/-- The first dense map of a group. -/
def hidF (x0 : Vec Ideal S1x2048x512 .bf16) (P : Vec Ideal S32x128 .f32) (W : Vec Ideal S32x128x128 .bf16) (g : ℕ) : FVec Ideal S128x128 .f32 :=
  addf (accF x0 P W g 0 16) (dynamicRotate 0 127#32 none (accF x0 P W g 16 16) rotates_S128x128_d0)

/-- Its smooth step. -/
def geluF (x : FVec Ideal S128x128 .f32) : FVec Ideal S128x128 .bf16 :=
  truncf .bf16 (mulf (mulf (broadcast S128x128 (Scalar.ofBits .f32 0x3F000000#32)) x)
    (addf (broadcast S128x128 (Scalar.ofBits .f32 0x3F800000#32))
      (tanh (mulf (broadcast S128x128 (Scalar.ofBits .f32 0x3F4C422A#32))
        (addf x (mulf (broadcast S128x128 (Scalar.ofBits .f32 0x3D372713#32)) (mulf (mulf x x) x))))))) bitsLt_bf16_f32

/-- A block of keys. -/
def keyF (x0 : Vec Ideal S1x2048x512 .bf16) (P : Vec Ideal S32x128 .f32) (W : Vec Ideal S32x128x128 .bf16) (U : Vec Ideal S128x128 .bf16)
    (e : Vec Ideal S128x128 .f32) (g : ℕ) : FVec Ideal S1x1x128x128 .bf16 :=
  shapeCast S1x1x128x128 (truncf .bf16 (addf (matmul (φ₁ := .bf16) (φ₂ := .bf16) dot_S128x128_S128x128_S128x128_1_0_0_1_n_n none (geluF (hidF x0 P W g))
    (shapeCast S128x128 U shapeCasts_S128x128_S128x128) (constant S128x128 .f32 0x00000000#32)) e) bitsLt_bf16_f32) shapeCasts_S128x128_S1x1x128x128

/-- A block of values, lanes by blocks. -/
def valF (x0 : Vec Ideal S1x2048x512 .bf16) (P : Vec Ideal S32x128 .f32) (W : Vec Ideal S32x128x128 .bf16) (U : Vec Ideal S128x128 .bf16)
    (g : ℕ) : FVec Ideal S1x1x128x128 .bf16 :=
  shapeCast S1x1x128x128 (truncf .bf16 (matmul (φ₁ := .bf16) (φ₂ := .bf16) dot_S128x128_S128x128_S128x128_1_1_0_0_n_n none
    (shapeCast S128x128 U shapeCasts_S128x128_S128x128) (geluF (hidF x0 P W g)) (constant S128x128 .f32 0x00000000#32)) bitsLt_bf16_f32) shapeCasts_S128x128_S1x1x128x128

theorem raU {e : EltTy} (arg : Memref sig .tc .vmem S128x128 e) (h : arg.IsWhole) (U : Vec Ideal S128x128 e) (inb) :
    View.readAt (Elt Ideal) arg.view (Rect.unit (s := S128x128) ![0, 0] ![128, 128] inb).toLoadRect (h.unread U) = U := by
  funext y
  refine (View.ld_unit_apply_of (Val := Elt Ideal) (S := S128x128) (e := e) _ _ _ inb y y fun a => ?_).trans (congrFun (read_unread arg h U) _)
  match a with
  | ⟨0, _⟩ => exact (Nat.zero_add _).symm
  | ⟨1, _⟩ => exact (Nat.zero_add _).symm

theorem raU' {e : EltTy} (arg : Memref sig .tc .vmem S128x128 e) (h : arg.IsWhole) (U : Vec Ideal S128x128 e) (inb) :
    View.readAt (Elt Ideal) arg.view (Rect.unit (s := S128x128) ![0, 0] S128x128.size inb).toLoadRect (h.unread U) = U := raU arg h U inb

variable {c : Dev nD} {i : grid0.Coords} {arg1 : Memref sig .tc .vmem S1x2048x512 .bf16} {harg1 : arg1.IsWhole} {arg2 : Memref sig .tc .vmem S32x128 .f32} {harg2 : arg2.IsWhole} {arg3 : Memref sig .tc .vmem S32x128 .f32} {harg3 : arg3.IsWhole} {arg4 : Memref sig .tc .vmem S32x128x128 .bf16} {harg4 : arg4.IsWhole} {arg5 : Memref sig .tc .vmem S32x128x128 .bf16} {harg5 : arg5.IsWhole} {arg6 : Memref sig .tc .vmem S128x128 .bf16} {harg6 : arg6.IsWhole} {arg7 : Memref sig .tc .vmem S128x128 .bf16} {harg7 : arg7.IsWhole} {arg8 : Memref sig .tc .vmem S128x128 .f32} {harg8 : arg8.IsWhole} {arg9 : Memref sig .tc .vmem S1x4x128x128 .bf16} {harg9 : arg9.IsWhole} {arg10 : Memref sig .tc .vmem S1x4x128x128 .bf16} {harg10 : arg10.IsWhole} {arg11 : Memref sig .tc .vmem S2048x128 .f32} {harg11 : arg11.IsWhole}
  {x0 : Vec Ideal S1x2048x512 .bf16} {x1 : Vec Ideal S32x128 .f32} {x2 : Vec Ideal S32x128 .f32} {x3 : Vec Ideal S32x128x128 .bf16} {x4 : Vec Ideal S32x128x128 .bf16} {x5 : Vec Ideal S128x128 .bf16} {x6 : Vec Ideal S128x128 .bf16} {x7 : Vec Ideal S128x128 .f32}

theorem pieceK0 : k0_pay84 (F := Ideal) (kernelRun0_A.sl.r_80 (F := Ideal) c arg1 harg1 arg2 harg2 arg4 harg4 arg6 harg6 arg11 x0 x1 x3 x5) (kernelRun0_A.sl.r_81 (F := Ideal) c arg8 harg8 x7) = keyF x0 x1 x3 x5 x7 0 := by
  unfold kernelRun0_A.sl.r_81 kernelRun0_A.sl.r_80
  rw [L_r_75, L_r_76, raU' arg6 harg6, raU' arg8 harg8]
  rfl

theorem pieceK1 : k0_pay169 (F := Ideal) (kernelRun0_A.sl.r_160 (F := Ideal) c arg1 harg1 arg2 harg2 arg4 harg4 arg11 x0 x1 x3) (View.readAt (Elt Ideal) arg6.view (Rect.unit (s := S128x128) ![0, 0] ![128, 128] inb_S128x128_S128x128_0_0).toLoadRect (harg6.unread x5)) (View.readAt (Elt Ideal) arg8.view (Rect.unit (s := S128x128) ![0, 0] ![128, 128] inb_S128x128_S128x128_0_0).toLoadRect (harg8.unread x7)) = keyF x0 x1 x3 x5 x7 1 := by
  unfold kernelRun0_A.sl.r_160 kernelRun0_A.sl.r_159 kernelRun0_A.sl.r_158 kernelRun0_A.sl.v1215
  rw [L_r_154, L_r_157, rc1 15, raP _ harg2 _ 31, raW _ harg4 _ 31, raU arg6 harg6, raU arg8 harg8]
  rfl

theorem pieceK2 : k0_pay249 (F := Ideal) (kernelRun0_A.sl.r_242 (F := Ideal) c arg1 harg1 arg2 harg2 arg4 harg4 arg11 x0 x1 x3) (View.readAt (Elt Ideal) arg6.view (Rect.unit (s := S128x128) ![0, 0] ![128, 128] inb_S128x128_S128x128_0_0).toLoadRect (harg6.unread x5)) (View.readAt (Elt Ideal) arg8.view (Rect.unit (s := S128x128) ![0, 0] ![128, 128] inb_S128x128_S128x128_0_0).toLoadRect (harg8.unread x7)) = keyF x0 x1 x3 x5 x7 2 := by
  unfold kernelRun0_A.sl.r_242 kernelRun0_A.sl.r_239 kernelRun0_A.sl.v1865
  rw [L_r_235, L_r_236, rc2 15, raP _ harg2 _ 15, raP _ harg2 _ 31, raW _ harg4 _ 15, raW _ harg4 _ 31, raU arg6 harg6, raU arg8 harg8]
  rfl

theorem pieceK3 : k0_pay1 (F := Ideal) (kernelRun0_A.sl.r_322 (F := Ideal) c arg1 harg1 arg2 harg2 arg4 harg4 arg11 x0 x1 x3) (View.readAt (Elt Ideal) arg6.view (Rect.unit (s := S128x128) ![0, 0] ![128, 128] inb_S128x128_S128x128_0_0).toLoadRect (harg6.unread x5)) (View.readAt (Elt Ideal) arg8.view (Rect.unit (s := S128x128) ![0, 0] ![128, 128] inb_S128x128_S128x128_0_0).toLoadRect (harg8.unread x7)) = keyF x0 x1 x3 x5 x7 3 := by
  unfold kernelRun0_A.sl.r_322
  rw [L_r_319, L_r_320, raU arg6 harg6, raU arg8 harg8]
  rfl

theorem pieceV0 : k0_pay85 (F := Ideal) (kernelRun0_A.sl.r_79 (F := Ideal) c arg1 harg1 arg3 harg3 arg5 harg5 arg11 x0 x2 x4) (View.readAt (Elt Ideal) arg7.view (Rect.unit (s := S128x128) ![0, 0] ![128, 128] inb_S128x128_S128x128_0_0).toLoadRect (harg7.unread x6)) = valF x0 x2 x4 x6 0 := by
  unfold kernelRun0_A.sl.r_79 kernelRun0_A.sl.r_78 kernelRun0_A.sl.v565
  rw [L_r_74, L_r_77, rc0 15, raP _ harg3 _ 31, raW _ harg5 _ 31, raU arg7 harg7]
  rfl

theorem pieceV1 : k0_pay170 (F := Ideal) (kernelRun0_A.sl.r_161 (F := Ideal) c arg1 harg1 arg3 harg3 arg5 harg5 arg11 x0 x2 x4) (kernelRun0_A.sl.r_162 (F := Ideal) c arg1 harg1 arg3 harg3 arg5 harg5 arg11 x0 x2 x4) (View.readAt (Elt Ideal) arg7.view (Rect.unit (s := S128x128) ![0, 0] ![128, 128] inb_S128x128_S128x128_0_0).toLoadRect (harg7.unread x6)) = valF x0 x2 x4 x6 1 := by
  unfold kernelRun0_A.sl.r_162 kernelRun0_A.sl.r_161 kernelRun0_A.sl.v1215
  rw [L_r_155, L_r_156, rc1 15, raP _ harg3 _ 15, raP _ harg3 _ 31, raW _ harg5 _ 15, raW _ harg5 _ 31, raU arg7 harg7]
  rfl

theorem pieceV2 : k0_pay250 (F := Ideal) (kernelRun0_A.sl.r_243 (F := Ideal) c arg1 harg1 arg3 harg3 arg5 harg5 arg11 x0 x2 x4) (View.readAt (Elt Ideal) arg7.view (Rect.unit (s := S128x128) ![0, 0] ![128, 128] inb_S128x128_S128x128_0_0).toLoadRect (harg7.unread x6)) = valF x0 x2 x4 x6 2 := by
  unfold kernelRun0_A.sl.r_243
  rw [L_r_240, L_r_241, raU arg7 harg7]
  rfl

theorem pieceV3 : k0_pay2 (F := Ideal) (kernelRun0_A.sl.r_323 (F := Ideal) c arg1 harg1 arg3 harg3 arg5 harg5 arg11 x0 x2 x4) (kernelRun0_A.sl.r_324 (F := Ideal) c arg1 harg1 arg3 harg3 arg5 harg5 arg11 x0 x2 x4) k0_pay334 (View.readAt (Elt Ideal) arg7.view (Rect.unit (s := S128x128) ![0, 0] ![128, 128] inb_S128x128_S128x128_0_0).toLoadRect (harg7.unread x6)) = valF x0 x2 x4 x6 3 := by
  unfold kernelRun0_A.sl.r_324 kernelRun0_A.sl.r_323 kernelRun0_A.sl.r_321 kernelRun0_A.sl.v2515
  rw [L_r_317, L_r_318, rc3 15, raP _ harg3 _ 15, raP _ harg3 _ 31, raW _ harg5 _ 15, raW _ harg5 _ 31, raU arg7 harg7]
  rfl

end Cert.Cmp.Ker

end
-- ==== Proof.CmpFin.lean ====
/-
  The compression kernel's two result arrays, entry by entry, and the reference's beside them: the sums over the lanes that
  the host's zero padding fills drop out, the chain of the second half is read one block further.
-/
module

public import proofs.«01_k».proof.Proof.CmpOut
public import proofs.«01_k».proof.Proof.CmpSpec
public import proofs.«01_k».proof.Proof.MixKerPt
public import proofs.«01_k».proof.Proof.Gen.CompressIdeal.Value

@[expose] public section

set_option maxRecDepth 16384

noncomputable section

open Idealize.ShloMosaic Idealize.ShloMosaic.TcCoe Idealize.SL.Sem
open Idealize.ShloMosaic.Pipeline (Dat)

namespace Cert.Cmp.Ker

open Cert.CompressIdeal Cert.CompressIdeal.Gen
open Cert.Mix (canon_mem canon_not_mem)

section
variable (x0 : Vec Ideal S1x2048x512 .bf16) (P : Vec Ideal S32x128 .f32) (W : Vec Ideal S32x128x128 .bf16) (U : Vec Ideal S128x128 .bf16)
  (e : Vec Ideal S128x128 .f32) (g : ℕ)

theorem dstep_at (a x : FVec Ideal S128x128 .f32) (p : Vec Ideal S1x128 .f32) (w : Vec Ideal S1x128x128 .bf16) (j h : Fin 128) :
    dstep a x p w (ix2 j h) = a (ix2 j h) + ∑ l : Fin 128, (x (ix2 j l) + p (ix2 0 l)) * w (ix3 0 l h) := by
  pointwise [dstep]

/-- What position `q` adds to row `j`. -/
def term (o q : ℕ) (j h : Fin 128) : EReal :=
  ∑ l : Fin 128, (x0 (ix3 0 ⟨(16 * j.val + q) % 2048, Nat.mod_lt _ (by decide)⟩ ⟨(128 * g + l.val) % 512, Nat.mod_lt _ (by decide)⟩)
    + P (ix2 ⟨(o + q) % 32, Nat.mod_lt _ (by decide)⟩ l)) * W (ix3 ⟨(o + q) % 32, Nat.mod_lt _ (by decide)⟩ l h)

theorem accF_at (o n : ℕ) (j h : Fin 128) : accF x0 P W g o n (ix2 j h) = ∑ q ∈ Finset.range n, term x0 P W g o q j h := by
  induction n with
  | zero =>
    rw [Finset.sum_range_zero]
    show Ideal.ofBits FTy.f32 0x00000000#32 = 0
    pointwise
  | succ n ih =>
    rw [Finset.sum_range_succ, ← ih]
    exact dstep_at _ _ _ _ j h

/-- The first dense map, entry by entry. -/
def hidK (j h : Fin 128) : EReal :=
  ∑ q : Fin 32, ∑ l : Fin 128, (x0 (ix3 0 (rowOf j q) ⟨(128 * g + l.val) % 512, Nat.mod_lt _ (by decide)⟩) + P (ix2 q l)) * W (ix3 q l h)

theorem hidF_at (j h : Fin 128) : hidF x0 P W g (ix2 j h) = hidK x0 P W g j h := by
  have e1 : hidF x0 P W g (ix2 j h) = accF x0 P W g 0 16 (ix2 j h) + accF x0 P W g 16 16 (ix2 ⟨(j.val + 1) % 128, by omega⟩ h) := by
    unfold hidF
    generalize accF x0 P W g 0 16 = a
    generalize accF x0 P W g 16 16 = b
    refine congrArg (fun v => a (ix2 j h) + v) (congrArg b (funext fun ax => ?_))
    fin_cases ax
    · apply Fin.ext
      show (j.val + 128 - 127) % 128 = (j.val + 1) % 128
      omega
    · rfl
  rw [e1, accF_at, accF_at]
  have e2 : ∀ q, term x0 P W g 16 q ⟨(j.val + 1) % 128, by omega⟩ h = term x0 P W g 0 (16 + q) j h := by
    intro q
    unfold term
    have r1 : (⟨(16 * ((j.val + 1) % 128) + q) % 2048, Nat.mod_lt _ (by decide)⟩ : Fin 2048)
        = ⟨(16 * j.val + (16 + q)) % 2048, Nat.mod_lt _ (by decide)⟩ := Fin.ext (by dsimp only; omega)
    have r2 : (⟨(16 + q) % 32, Nat.mod_lt _ (by decide)⟩ : Fin 32) = ⟨(0 + (16 + q)) % 32, Nat.mod_lt _ (by decide)⟩ := Fin.ext (by dsimp only; omega)
    dsimp only
    rw [r1, r2]
  rw [Finset.sum_congr rfl fun q _ => e2 q, ← Finset.sum_range_add (fun q => term x0 P W g 0 q j h) 16 16]
  unfold hidK
  refine ((Fin.sum_univ_eq_sum_range (fun q => term x0 P W g 0 q j h) 32).symm).trans (Finset.sum_congr rfl fun q _ => ?_)
  unfold term
  have r2 : (⟨(0 + q.val) % 32, Nat.mod_lt _ (by decide)⟩ : Fin 32) = q := Fin.ext (by dsimp only; omega)
  rw [r2]
  rfl

theorem geluF_at (x : FVec Ideal S128x128 .f32) (i : S128x128.Idx) : geluF x i = gelu (x i) := rfl

theorem keyF_at (j n : Fin 128) : keyF x0 P W U e g (ix4 0 0 j n) = ∑ k : Fin 128, gelu (hidK x0 P W g j k) * U (ix2 k n) + e (ix2 j n) := by
  have e1 : keyF x0 P W U e g (ix4 0 0 j n) = ∑ k : Fin 128, geluF (hidF x0 P W g) (ix2 j k) * U (ix2 k n) + e (ix2 j n) := by
    unfold keyF
    generalize geluF (hidF x0 P W g) = x
    pointwise
  rw [e1]
  exact congrArg (· + _) (Finset.sum_congr rfl fun k _ => by rw [geluF_at, hidF_at])

theorem valF_at (n j : Fin 128) : valF x0 P W U g (ix4 0 0 n j) = ∑ k : Fin 128, gelu (hidK x0 P W g j k) * U (ix2 n k) := by
  have e1 : valF x0 P W U g (ix4 0 0 n j) = ∑ k : Fin 128, U (ix2 n k) * geluF (hidF x0 P W g) (ix2 j k) := by
    unfold valF
    generalize geluF (hidF x0 P W g) = x
    pointwise
  rw [e1]
  exact Finset.sum_congr rfl fun k _ => by rw [geluF_at, hidF_at, mul_comm]

end

variable (m : (ℓ : Loc nD τ sig) → Buf (Elt Ideal) ℓ) (c : Dev nD)

abbrev K0 : FVec Ideal S8x2048x4608 .bf16 := m ((c : Thread nD τ).loc main_arg0)
abbrev K1 : FVec Ideal S32x64 .f32 := m ((c : Thread nD τ).loc main_arg1)
abbrev K2 : FVec Ideal S32x64 .f32 := m ((c : Thread nD τ).loc main_arg2)
abbrev K3 : FVec Ideal S2048x128 .f32 := m ((c : Thread nD τ).loc main_arg3)
abbrev K4 : FVec Ideal S2048x128 .f32 := m ((c : Thread nD τ).loc main_arg4)
abbrev K5 : FVec Ideal S128x64 .f32 := m ((c : Thread nD τ).loc main_arg5)
abbrev K6 : FVec Ideal S128x64 .f32 := m ((c : Thread nD τ).loc main_arg6)
abbrev K7 : FVec Ideal S128x128 .f32 := m ((c : Thread nD τ).loc main_arg7)

theorem V1 : V m c main_v0 = pad S32x128 ![0, 0] ![0, 64] ![0, 0] (K1 m c) (sitofp (F := Ideal) .f32 (constantI S_ 32 0#32)) pads_S32x64_S32x128_000_0640 h_S_ := rfl
theorem V2 : V m c main_v1 = pad S32x128 ![0, 64] ![0, 0] ![0, 0] (K2 m c) (sitofp (F := Ideal) .f32 (constantI S_ 32 0#32)) pads_S32x64_S32x128_000_6400 h_S_ := rfl
theorem V3 : V m c main_v4 = truncf .bf16 (pad S32x128x128 ![0, 0, 0] ![0, 64, 0] ![0, 0, 0] (shapeCast S32x64x128 (K3 m c) shapeCasts_S2048x128_S32x64x128) (sitofp (F := Ideal) .f32 (constantI S_ 32 0#32)) pads_S32x64x128_S32x128x128_000_0640_000 h_S_) bitsLt_bf16_f32 := rfl
theorem V4 : V m c main_v7 = truncf .bf16 (pad S32x128x128 ![0, 64, 0] ![0, 0, 0] ![0, 0, 0] (shapeCast S32x64x128 (K4 m c) shapeCasts_S2048x128_S32x64x128) (sitofp (F := Ideal) .f32 (constantI S_ 32 0#32)) pads_S32x64x128_S32x128x128_000_6400_000 h_S_) bitsLt_bf16_f32 := rfl
theorem V5 : V m c main_v9 = truncf .bf16 (pad S128x128 ![0, 0] ![0, 64] ![0, 0] (K5 m c) (sitofp (F := Ideal) .f32 (constantI S_ 32 0#32)) pads_S128x64_S128x128_000_0640 h_S_) bitsLt_bf16_f32 := rfl
theorem V6 : V m c main_v12 = truncf .bf16 (transpose S128x128 [1, 0] (pad S128x128 ![0, 0] ![0, 64] ![0, 0] (K6 m c) (sitofp (F := Ideal) .f32 (constantI S_ 32 0#32)) pads_S128x64_S128x128_000_0640 h_S_) transposes_S128x128_S128x128_1_0) bitsLt_bf16_f32 := rfl

/-- The windows' block indices at every point. -/
theorem idx : ∀ t : Fin cfg0.N, win0_0.index t = ![t.val, 0, 4] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0] ∧ win0_8.index t = ![t.val, 0, 0, 0] ∧ win0_9.index t = ![t.val, 0, 0, 0] :=
  (by decide +kernel : ∀ t : Fin grid0.N, _)

theorem blk0 (t : Fin cfg0.N) (r : Fin 2048) (l : Fin 512) :
    iblk m c 0 t (ix3 0 r l) = V m c main_arg0 (ix3 ⟨t.val, t.isLt⟩ r ⟨2048 + l.val, by omega⟩) := by
  blk_ext [iblk, idx t]
theorem blk1 (t : Fin cfg0.N) : iblk m c 1 t = V m c main_v0 := by
  funext y
  idx_vars y
  blk_ext [iblk, idx t]
theorem blk2 (t : Fin cfg0.N) : iblk m c 2 t = V m c main_v1 := by
  funext y
  idx_vars y
  blk_ext [iblk, idx t]
theorem blk3 (t : Fin cfg0.N) : iblk m c 3 t = V m c main_v4 := by
  funext y
  idx_vars y
  blk_ext [iblk, idx t]
theorem blk4 (t : Fin cfg0.N) : iblk m c 4 t = V m c main_v7 := by
  funext y
  idx_vars y
  blk_ext [iblk, idx t]
theorem blk5 (t : Fin cfg0.N) : iblk m c 5 t = V m c main_v9 := by
  funext y
  idx_vars y
  blk_ext [iblk, idx t]
theorem blk6 (t : Fin cfg0.N) : iblk m c 6 t = V m c main_v12 := by
  funext y
  idx_vars y
  blk_ext [iblk, idx t]
theorem blk7 (t : Fin cfg0.N) : iblk m c 7 t = V m c main_arg7 := by
  funext y
  idx_vars y
  blk_ext [iblk, idx t]

theorem zeroI : (FloatOps.sitofp (F := Ideal) FTy.f32 (0#32) : EReal) = 0 := by
  show (((0#32 : BitVec 32).toInt : ℝ) : EReal) = 0
  simp

theorem V1_at (q : Fin 32) (l : Fin 64) : (V m c main_v0 : FVec Ideal S32x128 .f32) (ix2 q ⟨l.val, by omega⟩) = K1 m c (ix2 q l) := by
  rw [V1]
  generalize K1 m c = x
  pointwise
theorem V2_at (q : Fin 32) (l : Fin 64) : (V m c main_v1 : FVec Ideal S32x128 .f32) (ix2 q ⟨64 + l.val, by omega⟩) = K2 m c (ix2 q l) := by
  rw [V2]
  generalize K2 m c = x
  pointwise
theorem V3_at (q : Fin 32) (l : Fin 64) (h : Fin 128) : (V m c main_v4 : FVec Ideal S32x128x128 .bf16) (ix3 q ⟨l.val, by omega⟩ h) = K3 m c (ix2 ⟨q.val * 64 + l.val, by omega⟩ h) := by
  rw [V3]
  generalize K3 m c = x
  pointwise
theorem V3_z (q : Fin 32) (l h : Fin 128) (hl : 64 ≤ l.val) : (V m c main_v4 : FVec Ideal S32x128x128 .bf16) (ix3 q l h) = (0 : EReal) := by
  rw [V3]
  generalize K3 m c = x
  pointwise
  rw [dif_neg (by omega)]
  exact zeroI
theorem V4_at (q : Fin 32) (l : Fin 64) (h : Fin 128) : (V m c main_v7 : FVec Ideal S32x128x128 .bf16) (ix3 q ⟨64 + l.val, by omega⟩ h) = K4 m c (ix2 ⟨q.val * 64 + l.val, by omega⟩ h) := by
  rw [V4]
  generalize K4 m c = x
  pointwise
theorem V4_z (q : Fin 32) (l h : Fin 128) (hl : l.val < 64) : (V m c main_v7 : FVec Ideal S32x128x128 .bf16) (ix3 q l h) = (0 : EReal) := by
  rw [V4]
  generalize K4 m c = x
  pointwise
  rw [dif_neg (by omega)]
  exact zeroI
theorem V5_at (k n : Fin 128) : (V m c main_v9 : FVec Ideal S128x128 .bf16) (ix2 k n) = if h : n.val < 64 then K5 m c (ix2 k ⟨n.val, h⟩) else 0 := by
  rw [V5]
  generalize K5 m c = x
  pointwise
  split
  · rfl
  · exact zeroI
theorem V6_at (n k : Fin 128) : (V m c main_v12 : FVec Ideal S128x128 .bf16) (ix2 n k) = if h : n.val < 64 then K6 m c (ix2 k ⟨n.val, h⟩) else 0 := by
  rw [V6]
  generalize K6 m c = x
  pointwise
  split
  · rfl
  · exact zeroI

/-- The first dense map of block `j` of group `g`, keys and values. -/
def hK (b : Fin 8) (g : Fin 4) (j h : Fin 128) : EReal :=
  hid (fun r l => K0 m c (ix3 b r ⟨2048 + g.val * 128 + 0 + l.val, by omega⟩)) (fun q l => K1 m c (ix2 q l))
    (fun q l h => K3 m c (ix2 ⟨q.val * 64 + l.val, by omega⟩ h)) j h
def hV (b : Fin 8) (g : Fin 4) (j h : Fin 128) : EReal :=
  hid (fun r l => K0 m c (ix3 b r ⟨2048 + g.val * 128 + 64 + l.val, by omega⟩)) (fun q l => K2 m c (ix2 q l))
    (fun q l h => K4 m c (ix2 ⟨q.val * 64 + l.val, by omega⟩ h)) j h

theorem hK_eq (t : Fin cfg0.N) (g : Fin 4) (j h : Fin 128) :
    hidK (iblk m c 0 t) (V m c main_v0) (V m c main_v4) g.val j h = hK m c ⟨t.val, t.isLt⟩ g j h := by
  unfold hidK hK hid
  refine Finset.sum_congr rfl fun q _ => ?_
  refine (sum_low _ fun l hl => ?_).trans (Finset.sum_congr rfl fun l _ => ?_)
  · exact (congrArg (_ * ·) (V3_z m c q l h hl)).trans (mul_zero _)
  · refine congrArg₂ (· * ·) (congrArg₂ (· + ·) ?_ (V1_at m c q l)) (V3_at m c q l h)
    refine (blk0 m c t _ _).trans ((congrFun (V_main_arg0 m c) _).trans (congrArg (fun n => K0 m c (ix3 _ _ n)) (Fin.ext ?_)))
    dsimp only
    omega

theorem hV_eq (t : Fin cfg0.N) (g : Fin 4) (j h : Fin 128) :
    hidK (iblk m c 0 t) (V m c main_v1) (V m c main_v7) g.val j h = hV m c ⟨t.val, t.isLt⟩ g j h := by
  unfold hidK hV hid
  refine Finset.sum_congr rfl fun q _ => ?_
  refine (sum_high _ fun l hl => ?_).trans (Finset.sum_congr rfl fun l _ => ?_)
  · exact (congrArg (_ * ·) (V4_z m c q l h hl)).trans (mul_zero _)
  · refine congrArg₂ (· * ·) (congrArg₂ (· + ·) ?_ (V2_at m c q l)) (V4_at m c q l h)
    refine (blk0 m c t _ _).trans ((congrFun (V_main_arg0 m c) _).trans (congrArg (fun n => K0 m c (ix3 _ _ n)) (Fin.ext ?_)))
    dsimp only
    omega

/-- The compressed keys with the added rows, and the compressed values. -/
def keyE (b : Fin 8) (g : Fin 4) (j n : Fin 128) : EReal :=
  (if h : n.val < 64 then ∑ k : Fin 128, gelu (hK m c b g j k) * K5 m c (ix2 k ⟨n.val, h⟩) else 0) + K7 m c (ix2 j n)
def valE (b : Fin 8) (g : Fin 4) (n j : Fin 128) : EReal :=
  if h : n.val < 64 then ∑ k : Fin 128, gelu (hV m c b g j k) * K6 m c (ix2 k ⟨n.val, h⟩) else 0

theorem keyE_eq (t : Fin cfg0.N) (g : Fin 4) (j n : Fin 128) :
    keyF (iblk m c 0 t) (V m c main_v0) (V m c main_v4) (V m c main_v9) (V m c main_arg7) g.val (ix4 0 0 j n) = keyE m c ⟨t.val, t.isLt⟩ g j n := by
  rw [keyF_at]
  unfold keyE
  refine congrArg₂ (· + ·) ?_ (congrFun (V_main_arg7 m c) _)
  by_cases h : n.val < 64
  · rw [dif_pos h]
    refine Finset.sum_congr rfl fun k _ => ?_
    rw [hK_eq]
    exact congrArg (_ * ·) ((V5_at m c k n).trans (dif_pos h))
  · rw [dif_neg h]
    exact Finset.sum_eq_zero fun k _ => (congrArg (_ * ·) ((V5_at m c k n).trans (dif_neg h))).trans (mul_zero _)

theorem valE_eq (t : Fin cfg0.N) (g : Fin 4) (n j : Fin 128) :
    valF (iblk m c 0 t) (V m c main_v1) (V m c main_v7) (V m c main_v12) g.val (ix4 0 0 n j) = valE m c ⟨t.val, t.isLt⟩ g n j := by
  rw [valF_at]
  unfold valE
  by_cases h : n.val < 64
  · rw [dif_pos h]
    refine Finset.sum_congr rfl fun k _ => ?_
    rw [hV_eq]
    exact congrArg (_ * ·) ((V6_at m c n k).trans (dif_pos h))
  · rw [dif_neg h]
    exact Finset.sum_eq_zero fun k _ => (congrArg (_ * ·) ((V6_at m c n k).trans (dif_neg h))).trans (mul_zero _)

section
variable {c : Dev nD} {i : grid0.Coords} {arg1 : Memref sig .tc .vmem S1x2048x512 .bf16} {harg1 : arg1.IsWhole} {arg2 : Memref sig .tc .vmem S32x128 .f32} {harg2 : arg2.IsWhole} {arg3 : Memref sig .tc .vmem S32x128 .f32} {harg3 : arg3.IsWhole} {arg4 : Memref sig .tc .vmem S32x128x128 .bf16} {harg4 : arg4.IsWhole} {arg5 : Memref sig .tc .vmem S32x128x128 .bf16} {harg5 : arg5.IsWhole} {arg6 : Memref sig .tc .vmem S128x128 .bf16} {harg6 : arg6.IsWhole} {arg7 : Memref sig .tc .vmem S128x128 .bf16} {harg7 : arg7.IsWhole} {arg8 : Memref sig .tc .vmem S128x128 .f32} {harg8 : arg8.IsWhole} {arg9 : Memref sig .tc .vmem S1x4x128x128 .bf16} {harg9 : arg9.IsWhole} {arg10 : Memref sig .tc .vmem S1x4x128x128 .bf16} {harg10 : arg10.IsWhole} {arg11 : Memref sig .tc .vmem S2048x128 .f32} {harg11 : arg11.IsWhole}
  {x0 : Vec Ideal S1x2048x512 .bf16} {x1 : Vec Ideal S32x128 .f32} {x2 : Vec Ideal S32x128 .f32} {x3 : Vec Ideal S32x128x128 .bf16} {x4 : Vec Ideal S32x128x128 .bf16} {x5 : Vec Ideal S128x128 .bf16} {x6 : Vec Ideal S128x128 .bf16} {x7 : Vec Ideal S128x128 .f32}

theorem out8_at0 (y2 y3 : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 0 y2 y3) = keyF x0 x1 x3 x5 x7 0 (ix4 0 0 y2 y3) := by
  unfold out0_A_8
  refine (View.read_writes_junk_apply_eq_canon _ _ _).trans ?_
  unfold kernelRun0_A
  dsimp only
  refine (canon_not_mem _ _ _ _ 1 (Or.inl (by show 0 < 3; decide))).trans ?_
  refine (canon_not_mem _ _ _ _ 1 (Or.inl (by show 0 < 2; decide))).trans ?_
  refine (canon_not_mem _ _ _ _ 1 (Or.inl (by show 0 < 1; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceK0]

theorem out8_at1 (y2 y3 : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 1 y2 y3) = keyF x0 x1 x3 x5 x7 1 (ix4 0 0 y2 y3) := by
  unfold out0_A_8
  refine (View.read_writes_junk_apply_eq_canon _ _ _).trans ?_
  unfold kernelRun0_A
  dsimp only
  refine (canon_not_mem _ _ _ _ 1 (Or.inl (by show 1 < 3; decide))).trans ?_
  refine (canon_not_mem _ _ _ _ 1 (Or.inl (by show 1 < 2; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceK1]

theorem out8_at2 (y2 y3 : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 2 y2 y3) = keyF x0 x1 x3 x5 x7 2 (ix4 0 0 y2 y3) := by
  unfold out0_A_8
  refine (View.read_writes_junk_apply_eq_canon _ _ _).trans ?_
  unfold kernelRun0_A
  dsimp only
  refine (canon_not_mem _ _ _ _ 1 (Or.inl (by show 2 < 3; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceK2]

theorem out8_at3 (y2 y3 : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 3 y2 y3) = keyF x0 x1 x3 x5 x7 3 (ix4 0 0 y2 y3) := by
  unfold out0_A_8
  refine (View.read_writes_junk_apply_eq_canon _ _ _).trans ?_
  unfold kernelRun0_A
  dsimp only
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceK3]

theorem out8_at (g : Fin 4) (y2 y3 : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 g y2 y3) = keyF x0 x1 x3 x5 x7 g.val (ix4 0 0 y2 y3) := by
  match g with
  | ⟨0, _⟩ => exact out8_at0 y2 y3
  | ⟨1, _⟩ => exact out8_at1 y2 y3
  | ⟨2, _⟩ => exact out8_at2 y2 y3
  | ⟨3, _⟩ => exact out8_at3 y2 y3

theorem out9_at0 (y2 y3 : Fin 128) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 0 y2 y3) = valF x0 x2 x4 x6 0 (ix4 0 0 y2 y3) := by
  unfold out0_A_9
  refine (View.read_writes_junk_apply_eq_canon _ _ _).trans ?_
  unfold kernelRun0_A
  dsimp only
  refine (canon_not_mem _ _ _ _ 1 (Or.inl (by show 0 < 3; decide))).trans ?_
  refine (canon_not_mem _ _ _ _ 1 (Or.inl (by show 0 < 2; decide))).trans ?_
  refine (canon_not_mem _ _ _ _ 1 (Or.inl (by show 0 < 1; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceV0]

theorem out9_at1 (y2 y3 : Fin 128) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 1 y2 y3) = valF x0 x2 x4 x6 1 (ix4 0 0 y2 y3) := by
  unfold out0_A_9
  refine (View.read_writes_junk_apply_eq_canon _ _ _).trans ?_
  unfold kernelRun0_A
  dsimp only
  refine (canon_not_mem _ _ _ _ 1 (Or.inl (by show 1 < 3; decide))).trans ?_
  refine (canon_not_mem _ _ _ _ 1 (Or.inl (by show 1 < 2; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceV1]

theorem out9_at2 (y2 y3 : Fin 128) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 2 y2 y3) = valF x0 x2 x4 x6 2 (ix4 0 0 y2 y3) := by
  unfold out0_A_9
  refine (View.read_writes_junk_apply_eq_canon _ _ _).trans ?_
  unfold kernelRun0_A
  dsimp only
  refine (canon_not_mem _ _ _ _ 1 (Or.inl (by show 2 < 3; decide))).trans ?_
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceV2]

theorem out9_at3 (y2 y3 : Fin 128) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 3 y2 y3) = valF x0 x2 x4 x6 3 (ix4 0 0 y2 y3) := by
  unfold out0_A_9
  refine (View.read_writes_junk_apply_eq_canon _ _ _).trans ?_
  unfold kernelRun0_A
  dsimp only
  refine (canon_mem _ _ _ _ (ix4 0 0 y2 y3) (fun a => by match a with | ⟨0, _⟩ => rfl | ⟨1, _⟩ => rfl | ⟨2, _⟩ => exact (Nat.zero_add _).symm | ⟨3, _⟩ => exact (Nat.zero_add _).symm)).trans ?_
  rw [pieceV3]

theorem out9_at (g : Fin 4) (y2 y3 : Fin 128) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix4 0 g y2 y3) = valF x0 x2 x4 x6 g.val (ix4 0 0 y2 y3) := by
  match g with
  | ⟨0, _⟩ => exact out9_at0 y2 y3
  | ⟨1, _⟩ => exact out9_at1 y2 y3
  | ⟨2, _⟩ => exact out9_at2 y2 y3
  | ⟨3, _⟩ => exact out9_at3 y2 y3

end

theorem final8 : (dats m 0 c).arrAt 8 cfg0.N = fun i : S8x4x128x128.Idx => keyE m c (i 0) (i 1) (i 2) (i 3) := by
  refine (dats m 0 c).arrAt_eq_of_covers 8 _ (by decide +kernel) fun t _ y => ?_
  blk_simp
  rw [after0_8]
  idx_vars y
  obtain rfl : y0 = 0 := Subsingleton.elim _ _
  have ht : t.val < 8 := t.isLt
  have e : (win0_8.blk t).view.emb (ix4 0 y1 y2 y3) = ix4 ⟨t.val, t.isLt⟩ y1 y2 y3 := by blk_ext [idx t]
  rw [e]
  unfold outsAt0
  dsimp only
  refine (out8_at y1 y2 y3).trans ?_
  rw [blk1, blk3, blk5, blk7]
  exact keyE_eq m c t y1 y2 y3

theorem final9 : (dats m 0 c).arrAt 9 cfg0.N = fun i : S8x4x128x128.Idx => valE m c (i 0) (i 1) (i 2) (i 3) := by
  refine (dats m 0 c).arrAt_eq_of_covers 9 _ (by decide +kernel) fun t _ y => ?_
  blk_simp
  rw [after0_9]
  idx_vars y
  obtain rfl : y0 = 0 := Subsingleton.elim _ _
  have ht : t.val < 8 := t.isLt
  have e : (win0_9.blk t).view.emb (ix4 0 y1 y2 y3) = ix4 ⟨t.val, t.isLt⟩ y1 y2 y3 := by blk_ext [idx t]
  rw [e]
  unfold outsAt0
  dsimp only
  refine (out9_at y1 y2 y3).trans ?_
  rw [blk2, blk4, blk6]
  exact valE_eq m c t y1 y2 y3

end Cert.Cmp.Ker

end
-- ==== Proof.CmpRef.lean ====
/-
  What the reference of the compression computes: both results, entry by entry, as the compression's mathematics.
-/
module

public import proofs.«01_k».proof.Proof.Gen.CompressRefIdeal.Run
public import proofs.«01_k».proof.Proof.CmpSpec

@[expose] public section

set_option maxRecDepth 16384

noncomputable section

open Idealize.ShloMosaic Idealize.ShloMosaic.TcCoe Idealize.SL.Sem

namespace Cert.Cmp

open Cert.CompressRefIdeal Cert.CompressRefIdeal.Gen Cert.CompressRefIdeal.Value

theorem slice_eq {α : Type} {s t : Shape} (off : Fin s.rank → Nat) (x : s.Idx → α) (h : s.Slices off t) (j : t.Idx) (i : s.Idx)
    (hi : ∀ a : Fin s.rank, off a + (j (a.cast h.1.symm)).val = (i a).val) : extractStridedSlice t off x h j = x i :=
  congrArg x (funext fun a => Fin.ext (hi a))

variable (m : (ℓ : Loc nD τ sig) → Buf (Elt Ideal) ℓ) (c : Dev nD)

abbrev A0 : FVec Ideal S8x2048x4608 .bf16 := m ((c : Thread nD τ).loc main_arg0)
abbrev A1 : FVec Ideal S32x64 .f32 := m ((c : Thread nD τ).loc main_arg1)
abbrev A2 : FVec Ideal S32x64 .f32 := m ((c : Thread nD τ).loc main_arg2)
abbrev A3 : FVec Ideal S2048x128 .f32 := m ((c : Thread nD τ).loc main_arg3)
abbrev A4 : FVec Ideal S2048x128 .f32 := m ((c : Thread nD τ).loc main_arg4)
abbrev A5 : FVec Ideal S128x64 .f32 := m ((c : Thread nD τ).loc main_arg5)
abbrev A6 : FVec Ideal S128x64 .f32 := m ((c : Thread nD τ).loc main_arg6)
abbrev A7 : FVec Ideal S128x128 .f32 := m ((c : Thread nD τ).loc main_arg7)

/-- The rows, sixteen to a block. -/
def rowsK : FVec Ideal S8x128x16x4x64 .f32 :=
  (shapeCast _ (shapeCast _ (extractStridedSlice S8x2048x4x1x64 ![0, 0, 0, 0, 0] (shapeCast _ (extractStridedSlice S8x2048x512 ![0, 0, 2048] (extf .f32 (A0 m c) bitsLt_bf16_f32) slices_S8x2048x4608_S8x2048x512_0_0_2048) shapeCasts_S8x2048x512_S8x2048x4x2x64) slices_S8x2048x4x2x64_S8x2048x4x1x64_0_0_0_0_0) shapeCasts_S8x2048x4x1x64_S8x2048x4x64) shapeCasts_S8x2048x4x64_S8x128x16x4x64)

theorem rowsK_at (b : Fin 8) (j : Fin 128) (r : Fin 16) (g : Fin 4) (l : Fin 64) :
    rowsK m c (ix5 b j r g l) = A0 m c (ix3 b ⟨j.val * 16 + r.val, by omega⟩ ⟨2048 + g.val * 128 + 0 + l.val, by omega⟩) := by
  pointwise [rowsK]
  exact congrArg (fun n => A0 m c (ix3 b _ n)) (Fin.ext (by dsimp only; omega))

/-- The rows of the block after, the first one's after the last. -/
def nextK : FVec Ideal S8x128x16x4x64 .f32 :=
  (concatenate S8x128x16x4x64 1 [⟨S8x127x16x4x64, (extractStridedSlice S8x127x16x4x64 ![0, 1, 0, 0, 0] (rowsK m c) slices_S8x128x16x4x64_S8x127x16x4x64_0_1_0_0_0)⟩, ⟨S8x1x16x4x64, (extractStridedSlice S8x1x16x4x64 ![0, 0, 0, 0, 0] (rowsK m c) slices_S8x128x16x4x64_S8x1x16x4x64_0_0_0_0_0)⟩] concatenates_S8x127x16x4x64_S8x1x16x4x64_S8x128x16x4x64_d1)

theorem nextK_at (b : Fin 8) (j : Fin 128) (r : Fin 16) (g : Fin 4) (l : Fin 64) :
    nextK m c (ix5 b j r g l) = rowsK m c (ix5 b ⟨(1 + j.val) % 128, by omega⟩ r g l) := by
  unfold nextK
  generalize rowsK m c = x
  by_cases h : j.val < 127
  · have e : (⟨(1 + j.val) % 128, by omega⟩ : Fin 128) = ⟨1 + j.val, by omega⟩ := Fin.ext (by dsimp only; omega)
    rw [e]
    refine (concatenate_pair_apply_left (t := S8x128x16x4x64) (s₁ := S8x127x16x4x64) (s₂ := S8x1x16x4x64) 1 _ _ _ _ rfl (ix5 b ⟨j.val, h⟩ r g l : S8x127x16x4x64.Idx) ?_).trans ?_
    · intro a
      fin_cases a <;> rfl
    · refine slice_eq _ _ _ _ _ (fun a => ?_)
      fin_cases a
      · exact Nat.zero_add _
      · rfl
      · exact Nat.zero_add _
      · exact Nat.zero_add _
      · exact Nat.zero_add _
  · have e : (⟨(1 + j.val) % 128, by omega⟩ : Fin 128) = 0 := Fin.ext (by show (1 + j.val) % 128 = 0; omega)
    rw [e]
    refine (concatenate_pair_apply_right (t := S8x128x16x4x64) (s₁ := S8x127x16x4x64) (s₂ := S8x1x16x4x64) 1 _ _ _ _ rfl rfl (ix5 b 0 r g l : S8x1x16x4x64.Idx) ?_ ?_).trans ?_
    · intro a
      fin_cases a <;> first | (intro _; rfl) | (intro h; exact absurd rfl h)
    · show 0 + 127 = j.val
      omega
    · refine slice_eq _ _ _ _ _ (fun a => ?_)
      fin_cases a
      · exact Nat.zero_add _
      · rfl
      · exact Nat.zero_add _
      · exact Nat.zero_add _
      · exact Nat.zero_add _

/-- The blocks with their position rows. -/
def blocksK : FVec Ideal S8x128x32x4x64 .f32 :=
  (addf (concatenate S8x128x32x4x64 2 [⟨S8x128x16x4x64, (rowsK m c)⟩, ⟨S8x128x16x4x64, (nextK m c)⟩] concatenates_S8x128x16x4x64_S8x128x16x4x64_S8x128x32x4x64_d2) (broadcastInDim S8x128x32x4x64 ![0, 1, 2, 3, 4] bcast_S1x1x32x1x64_S8x128x32x4x64_0_1_2_3_4 (broadcastInDim S1x1x32x1x64 ![2, 4] bcast_S32x64_S1x1x32x1x64_2_4 (A1 m c))))

theorem blocksK_at (b : Fin 8) (j : Fin 128) (q : Fin 32) (g : Fin 4) (l : Fin 64) :
    blocksK m c (ix5 b j q g l) = A0 m c (ix3 b (rowOf j q) ⟨2048 + g.val * 128 + 0 + l.val, by omega⟩) + A1 m c (ix2 q l) := by
  pointwise [blocksK]
  have e : ∀ r r' : Fin 2048, r.val = r'.val → A0 m c (ix3 b r ⟨2048 + g.val * 128 + 0 + l.val, by omega⟩)
      = A0 m c (ix3 b r' ⟨2048 + g.val * 128 + 0 + l.val, by omega⟩) := fun r r' h => congrArg (fun r => A0 m c (ix3 b r _)) (Fin.ext h)
  unfold rowOf
  congr 1
  by_cases h : q.val < 16
  · rw [dif_pos h, rowsK_at]
    exact e _ _ (by dsimp only; omega)
  · rw [dif_neg h, nextK_at, rowsK_at]
    exact e _ _ (by dsimp only; omega)

/-- The blocks, each in one row. -/
def flatK : FVec Ideal S8x128x4x2048 .f32 :=
  (shapeCast _ (transpose S8x128x4x32x64 [0, 1, 3, 2, 4] (blocksK m c) transposes_S8x128x32x4x64_S8x128x4x32x64_0_1_3_2_4) shapeCasts_S8x128x4x32x64_S8x128x4x2048)

theorem flatK_at (b : Fin 8) (j : Fin 128) (g : Fin 4) (q : Fin 32) (l : Fin 64) :
    flatK m c (ix4 b j g ⟨q.val * 64 + l.val, by omega⟩) = A0 m c (ix3 b (rowOf j q) ⟨2048 + g.val * 128 + 0 + l.val, by omega⟩) + A1 m c (ix2 q l) := by
  have e : flatK m c (ix4 b j g ⟨q.val * 64 + l.val, by omega⟩) = blocksK m c (ix5 b j q g l) := by
    pointwise [flatK]
  rw [e, blocksK_at]

/-- The first dense map. -/
def hidK : FVec Ideal S8x128x4x128 .f32 :=
  (Host.dotGeneral dot_S8x128x4x2048_S2048x128_S8x128x4x128_3_0_012_1_n_n none (flatK m c) (A3 m c))

theorem hidK_at (b : Fin 8) (j : Fin 128) (g : Fin 4) (h : Fin 128) :
    hidK m c (ix4 b j g h) = hid (fun r l => A0 m c (ix3 b r ⟨2048 + g.val * 128 + 0 + l.val, by omega⟩))
      (fun q l => A1 m c (ix2 q l))
      (fun q l h => A3 m c (ix2 ⟨q.val * 64 + l.val, by omega⟩ h)) j h := by
  have e : hidK m c (ix4 b j g h) = ∑ f : Fin 2048, flatK m c (ix4 b j g f) * A3 m c (ix2 f h) := by
    pointwise [hidK]
  rw [e, sum_flat]
  unfold hid
  refine Finset.sum_congr rfl fun q _ => Finset.sum_congr rfl fun l _ => ?_
  rw [flatK_at]

theorem resK_eq : res_main_v63 (F := Ideal) m c = truncf .bf16 (addf (transpose S8x4x128x128 [0, 2, 1, 3] (pad S8x128x4x128 ![0, 0, 0, 0] ![0, 0, 0, 64] ![0, 0, 0, 0] (Host.dotGeneral dot_S8x128x4x128_S128x64_S8x128x4x64_3_0_012_1_n_n none (mulf (hidK m c) (mulf (broadcastInDim S8x128x4x128 ![] bcast_S_S8x128x4x128 (constant S_ .f32 0x3F000000#32)) (addf (broadcastInDim S8x128x4x128 ![] bcast_S_S8x128x4x128 (constant S_ .f32 0x3F800000#32)) (Host.tanh (mulf (broadcastInDim S8x128x4x128 ![] bcast_S_S8x128x4x128 (constant S_ .f32 0x3F4C422A#32)) (addf (hidK m c) (mulf (broadcastInDim S8x128x4x128 ![] bcast_S_S8x128x4x128 (constant S_ .f32 0x3D372713#32)) (mulf (mulf (hidK m c) (hidK m c)) (hidK m c))))))))) (A5 m c)) (sitofp .f32 (constantI S_ 32 0#32)) pads_S8x128x4x64_S8x128x4x128_000_000_000_0640 h_S_) transposes_S8x128x4x128_S8x4x128x128_0_2_1_3) (broadcastInDim S8x4x128x128 ![0, 1, 2, 3] bcast_S1x1x128x128_S8x4x128x128_0_1_2_3 (broadcastInDim S1x1x128x128 ![2, 3] bcast_S128x128_S1x1x128x128_2_3 (A7 m c)))) bitsLt_bf16_f32 := rfl

/-- The rows, sixteen to a block. -/
def rowsV : FVec Ideal S8x128x16x4x64 .f32 :=
  (shapeCast _ (shapeCast _ (extractStridedSlice S8x2048x4x1x64 ![0, 0, 0, 1, 0] (shapeCast _ (extractStridedSlice S8x2048x512 ![0, 0, 2048] (extf .f32 (A0 m c) bitsLt_bf16_f32) slices_S8x2048x4608_S8x2048x512_0_0_2048) shapeCasts_S8x2048x512_S8x2048x4x2x64) slices_S8x2048x4x2x64_S8x2048x4x1x64_0_0_0_1_0) shapeCasts_S8x2048x4x1x64_S8x2048x4x64) shapeCasts_S8x2048x4x64_S8x128x16x4x64)

theorem rowsV_at (b : Fin 8) (j : Fin 128) (r : Fin 16) (g : Fin 4) (l : Fin 64) :
    rowsV m c (ix5 b j r g l) = A0 m c (ix3 b ⟨j.val * 16 + r.val, by omega⟩ ⟨2048 + g.val * 128 + 64 + l.val, by omega⟩) := by
  pointwise [rowsV]
  exact congrArg (fun n => A0 m c (ix3 b _ n)) (Fin.ext (by dsimp only; omega))

/-- The rows of the block after, the first one's after the last. -/
def nextV : FVec Ideal S8x128x16x4x64 .f32 :=
  (concatenate S8x128x16x4x64 1 [⟨S8x127x16x4x64, (extractStridedSlice S8x127x16x4x64 ![0, 1, 0, 0, 0] (rowsV m c) slices_S8x128x16x4x64_S8x127x16x4x64_0_1_0_0_0)⟩, ⟨S8x1x16x4x64, (extractStridedSlice S8x1x16x4x64 ![0, 0, 0, 0, 0] (rowsV m c) slices_S8x128x16x4x64_S8x1x16x4x64_0_0_0_0_0)⟩] concatenates_S8x127x16x4x64_S8x1x16x4x64_S8x128x16x4x64_d1)

theorem nextV_at (b : Fin 8) (j : Fin 128) (r : Fin 16) (g : Fin 4) (l : Fin 64) :
    nextV m c (ix5 b j r g l) = rowsV m c (ix5 b ⟨(1 + j.val) % 128, by omega⟩ r g l) := by
  unfold nextV
  generalize rowsV m c = x
  by_cases h : j.val < 127
  · have e : (⟨(1 + j.val) % 128, by omega⟩ : Fin 128) = ⟨1 + j.val, by omega⟩ := Fin.ext (by dsimp only; omega)
    rw [e]
    refine (concatenate_pair_apply_left (t := S8x128x16x4x64) (s₁ := S8x127x16x4x64) (s₂ := S8x1x16x4x64) 1 _ _ _ _ rfl (ix5 b ⟨j.val, h⟩ r g l : S8x127x16x4x64.Idx) ?_).trans ?_
    · intro a
      fin_cases a <;> rfl
    · refine slice_eq _ _ _ _ _ (fun a => ?_)
      fin_cases a
      · exact Nat.zero_add _
      · rfl
      · exact Nat.zero_add _
      · exact Nat.zero_add _
      · exact Nat.zero_add _
  · have e : (⟨(1 + j.val) % 128, by omega⟩ : Fin 128) = 0 := Fin.ext (by show (1 + j.val) % 128 = 0; omega)
    rw [e]
    refine (concatenate_pair_apply_right (t := S8x128x16x4x64) (s₁ := S8x127x16x4x64) (s₂ := S8x1x16x4x64) 1 _ _ _ _ rfl rfl (ix5 b 0 r g l : S8x1x16x4x64.Idx) ?_ ?_).trans ?_
    · intro a
      fin_cases a <;> first | (intro _; rfl) | (intro h; exact absurd rfl h)
    · show 0 + 127 = j.val
      omega
    · refine slice_eq _ _ _ _ _ (fun a => ?_)
      fin_cases a
      · exact Nat.zero_add _
      · rfl
      · exact Nat.zero_add _
      · exact Nat.zero_add _
      · exact Nat.zero_add _

/-- The blocks with their position rows. -/
def blocksV : FVec Ideal S8x128x32x4x64 .f32 :=
  (addf (concatenate S8x128x32x4x64 2 [⟨S8x128x16x4x64, (rowsV m c)⟩, ⟨S8x128x16x4x64, (nextV m c)⟩] concatenates_S8x128x16x4x64_S8x128x16x4x64_S8x128x32x4x64_d2) (broadcastInDim S8x128x32x4x64 ![0, 1, 2, 3, 4] bcast_S1x1x32x1x64_S8x128x32x4x64_0_1_2_3_4 (broadcastInDim S1x1x32x1x64 ![2, 4] bcast_S32x64_S1x1x32x1x64_2_4 (A2 m c))))

theorem blocksV_at (b : Fin 8) (j : Fin 128) (q : Fin 32) (g : Fin 4) (l : Fin 64) :
    blocksV m c (ix5 b j q g l) = A0 m c (ix3 b (rowOf j q) ⟨2048 + g.val * 128 + 64 + l.val, by omega⟩) + A2 m c (ix2 q l) := by
  pointwise [blocksV]
  have e : ∀ r r' : Fin 2048, r.val = r'.val → A0 m c (ix3 b r ⟨2048 + g.val * 128 + 64 + l.val, by omega⟩)
      = A0 m c (ix3 b r' ⟨2048 + g.val * 128 + 64 + l.val, by omega⟩) := fun r r' h => congrArg (fun r => A0 m c (ix3 b r _)) (Fin.ext h)
  unfold rowOf
  congr 1
  by_cases h : q.val < 16
  · rw [dif_pos h, rowsV_at]
    exact e _ _ (by dsimp only; omega)
  · rw [dif_neg h, nextV_at, rowsV_at]
    exact e _ _ (by dsimp only; omega)

/-- The blocks, each in one row. -/
def flatV : FVec Ideal S8x128x4x2048 .f32 :=
  (shapeCast _ (transpose S8x128x4x32x64 [0, 1, 3, 2, 4] (blocksV m c) transposes_S8x128x32x4x64_S8x128x4x32x64_0_1_3_2_4) shapeCasts_S8x128x4x32x64_S8x128x4x2048)

theorem flatV_at (b : Fin 8) (j : Fin 128) (g : Fin 4) (q : Fin 32) (l : Fin 64) :
    flatV m c (ix4 b j g ⟨q.val * 64 + l.val, by omega⟩) = A0 m c (ix3 b (rowOf j q) ⟨2048 + g.val * 128 + 64 + l.val, by omega⟩) + A2 m c (ix2 q l) := by
  have e : flatV m c (ix4 b j g ⟨q.val * 64 + l.val, by omega⟩) = blocksV m c (ix5 b j q g l) := by
    pointwise [flatV]
  rw [e, blocksV_at]

/-- The first dense map. -/
def hidV : FVec Ideal S8x128x4x128 .f32 :=
  (Host.dotGeneral dot_S8x128x4x2048_S2048x128_S8x128x4x128_3_0_012_1_n_n none (flatV m c) (A4 m c))

theorem hidV_at (b : Fin 8) (j : Fin 128) (g : Fin 4) (h : Fin 128) :
    hidV m c (ix4 b j g h) = hid (fun r l => A0 m c (ix3 b r ⟨2048 + g.val * 128 + 64 + l.val, by omega⟩))
      (fun q l => A2 m c (ix2 q l))
      (fun q l h => A4 m c (ix2 ⟨q.val * 64 + l.val, by omega⟩ h)) j h := by
  have e : hidV m c (ix4 b j g h) = ∑ f : Fin 2048, flatV m c (ix4 b j g f) * A4 m c (ix2 f h) := by
    pointwise [hidV]
  rw [e, sum_flat]
  unfold hid
  refine Finset.sum_congr rfl fun q _ => Finset.sum_congr rfl fun l _ => ?_
  rw [flatV_at]

theorem resV_eq : res_main_v65 (F := Ideal) m c = truncf .bf16 (transpose S8x4x128x128 [0, 2, 3, 1] (pad S8x128x4x128 ![0, 0, 0, 0] ![0, 0, 0, 64] ![0, 0, 0, 0] (Host.dotGeneral dot_S8x128x4x128_S128x64_S8x128x4x64_3_0_012_1_n_n none (mulf (hidV m c) (mulf (broadcastInDim S8x128x4x128 ![] bcast_S_S8x128x4x128 (constant S_ .f32 0x3F000000#32)) (addf (broadcastInDim S8x128x4x128 ![] bcast_S_S8x128x4x128 (constant S_ .f32 0x3F800000#32)) (Host.tanh (mulf (broadcastInDim S8x128x4x128 ![] bcast_S_S8x128x4x128 (constant S_ .f32 0x3F4C422A#32)) (addf (hidV m c) (mulf (broadcastInDim S8x128x4x128 ![] bcast_S_S8x128x4x128 (constant S_ .f32 0x3D372713#32)) (mulf (mulf (hidV m c) (hidV m c)) (hidV m c))))))))) (A6 m c)) (sitofp .f32 (constantI S_ 32 0#32)) pads_S8x128x4x64_S8x128x4x128_000_000_000_0640 h_S_) transposes_S8x128x4x128_S8x4x128x128_0_2_3_1) bitsLt_bf16_f32 := rfl

end Cert.Cmp

end
-- ==== Proof.CmpAll.lean ====
/-
  The compression: the kernel's two result arrays are the reference's, entry by entry.
-/
module

public import proofs.«01_k».proof.Proof.CmpFin
public import proofs.«01_k».proof.Proof.CmpRef
public import proofs.«01_k».proof.Defs
public import Idealize.ShloMosaic.Lib.Claim

@[expose] public section

set_option maxRecDepth 16384

noncomputable section

open Idealize.ShloMosaic Idealize.ShloMosaic.StableHlo Idealize.ShloMosaic.TcCoe Idealize.SL.Sem

namespace Cert.Cmp

section

open Cert.CompressRefIdeal Cert.CompressRefIdeal.Gen Cert.CompressRefIdeal.Value

variable (m : (ℓ : Loc nD τ sig) → Buf (Elt Ideal) ℓ) (c : Dev nD)

/-- The smooth step of a whole array. -/
def geluH (x : FVec Ideal S8x128x4x128 .f32) : FVec Ideal S8x128x4x128 .f32 :=
  mulf x (mulf (broadcastInDim S8x128x4x128 ![] bcast_S_S8x128x4x128 (constant S_ .f32 0x3F000000#32)) (addf (broadcastInDim S8x128x4x128 ![] bcast_S_S8x128x4x128 (constant S_ .f32 0x3F800000#32)) (Host.tanh (mulf (broadcastInDim S8x128x4x128 ![] bcast_S_S8x128x4x128 (constant S_ .f32 0x3F4C422A#32)) (addf x (mulf (broadcastInDim S8x128x4x128 ![] bcast_S_S8x128x4x128 (constant S_ .f32 0x3D372713#32)) (mulf (mulf x x) x)))))))

theorem geluH_at (x : FVec Ideal S8x128x4x128 .f32) (i : S8x128x4x128.Idx) : geluH x i = gelu (x i) := by
  show x i * (Ideal.ofBits FTy.f32 0x3F000000#32 * (Ideal.ofBits FTy.f32 0x3F800000#32
    + Ideal.tanh (Ideal.ofBits FTy.f32 0x3F4C422A#32 * (x i + Ideal.ofBits FTy.f32 0x3D372713#32 * (x i * x i * x i))))) = _
  unfold gelu
  rw [← mul_assoc, mul_comm (x i) (Ideal.ofBits FTy.f32 0x3F000000#32)]

/-- The second dense map. -/
def out2 (x : FVec Ideal S8x128x4x128 .f32) (u : FVec Ideal S128x64 .f32) : FVec Ideal S8x128x4x64 .f32 :=
  Host.dotGeneral dot_S8x128x4x128_S128x64_S8x128x4x64_3_0_012_1_n_n none x u

theorem out2_at (x : FVec Ideal S8x128x4x128 .f32) (u : FVec Ideal S128x64 .f32) (b : Fin 8) (g : Fin 4) (j : Fin 128) (n : Fin 64) :
    out2 x u (ix4 b j g n) = ∑ k : Fin 128, x (ix4 b j g k) * u (ix2 k n) := by
  pointwise [out2]

/-- The lanes from 64 on filled with zeros. -/
def pad2 (x : FVec Ideal S8x128x4x64 .f32) : FVec Ideal S8x128x4x128 .f32 :=
  pad S8x128x4x128 ![0, 0, 0, 0] ![0, 0, 0, 64] ![0, 0, 0, 0] x (sitofp .f32 (constantI S_ 32 0#32)) pads_S8x128x4x64_S8x128x4x128_000_000_000_0640 h_S_

theorem pad2_at (x : FVec Ideal S8x128x4x64 .f32) (b : Fin 8) (g : Fin 4) (j n : Fin 128) :
    pad2 x (ix4 b j g n) = if h : n.val < 64 then x (ix4 b j g ⟨n.val, h⟩) else 0 := by
  pointwise [pad2]
  have e : (FloatOps.sitofp (F := Ideal) FTy.f32 (0#32) : EReal) = 0 := by
    show (((0#32 : BitVec 32).toInt : ℝ) : EReal) = 0
    simp
  split
  · rfl
  · exact e

theorem resK_at (b : Fin 8) (g : Fin 4) (j n : Fin 128) : res_main_v63 (F := Ideal) m c (ix4 b g j n)
    = (if h : n.val < 64 then ∑ k : Fin 128, gelu (hidK m c (ix4 b j g k)) * A5 m c (ix2 k ⟨n.val, h⟩) else 0) + A7 m c (ix2 j n) := by
  have e : res_main_v63 (F := Ideal) m c = truncf .bf16 (addf (transpose S8x4x128x128 [0, 2, 1, 3] (pad2 (out2 (geluH (hidK m c)) (A5 m c))) transposes_S8x128x4x128_S8x4x128x128_0_2_1_3) (broadcastInDim S8x4x128x128 ![0, 1, 2, 3] bcast_S1x1x128x128_S8x4x128x128_0_1_2_3 (broadcastInDim S1x1x128x128 ![2, 3] bcast_S128x128_S1x1x128x128_2_3 (A7 m c)))) bitsLt_bf16_f32 := resK_eq m c
  have e2 : (res_main_v63 (F := Ideal) m c) (ix4 b g j n) = pad2 (out2 (geluH (hidK m c)) (A5 m c)) (ix4 b j g n) + A7 m c (ix2 j n) := by
    rw [e]
    generalize pad2 (out2 (geluH (hidK m c)) (A5 m c)) = x
    pointwise
  rw [e2, pad2_at]
  congr 1
  split
  · rw [out2_at]
    exact Finset.sum_congr rfl fun k _ => by rw [geluH_at]
  · rfl

theorem resV_at (b : Fin 8) (g : Fin 4) (n j : Fin 128) : @Eq EReal (res_main_v65 (F := Ideal) m c (ix4 b g n j))
    (if h : n.val < 64 then ∑ k : Fin 128, gelu (hidV m c (ix4 b j g k)) * A6 m c (ix2 k ⟨n.val, h⟩) else 0 : EReal) := by
  have e : res_main_v65 (F := Ideal) m c = truncf .bf16 (transpose S8x4x128x128 [0, 2, 3, 1] (pad2 (out2 (geluH (hidV m c)) (A6 m c))) transposes_S8x128x4x128_S8x4x128x128_0_2_3_1) bitsLt_bf16_f32 := resV_eq m c
  have e2 : (res_main_v65 (F := Ideal) m c) (ix4 b g n j) = pad2 (out2 (geluH (hidV m c)) (A6 m c)) (ix4 b j g n) := by
    rw [e]
    generalize pad2 (out2 (geluH (hidV m c)) (A6 m c)) = x
    pointwise
  refine e2.trans ((pad2_at _ b g j n).trans ?_)
  split
  · rw [out2_at]
    exact Finset.sum_congr rfl fun k _ => by rw [geluH_at]
  · rfl

end

section

variable (m : (ℓ : Loc Cert.CompressIdeal.nD Cert.CompressIdeal.τ Cert.CompressIdeal.sig) → Buf (Elt Ideal) ℓ)
  (m' : (ℓ : Loc Cert.CompressRefIdeal.nD Cert.CompressRefIdeal.τ Cert.CompressRefIdeal.sig) → Buf (Elt Ideal) ℓ)
  (c : Dev Cert.CompressIdeal.nD)
  (e0 : A0 m' c = Ker.K0 m c) (e1 : A1 m' c = Ker.K1 m c) (e2 : A2 m' c = Ker.K2 m c) (e3 : A3 m' c = Ker.K3 m c)
  (e4 : A4 m' c = Ker.K4 m c) (e5 : A5 m' c = Ker.K5 m c) (e6 : A6 m' c = Ker.K6 m c) (e7 : A7 m' c = Ker.K7 m c)

include e0 e1 e3 e5 e7 in
theorem keys_eq : Cert.CompressRefIdeal.Value.res_main_v63 (F := Ideal) m' c
    = fun i : Cert.CompressIdeal.S8x4x128x128.Idx => Ker.keyE m c (i 0) (i 1) (i 2) (i 3) := by
  funext i
  idx_vars i
  rw [resK_at]
  simp only [hidK_at, e0, e1, e3, e5, e7]
  rfl

include e0 e2 e4 e6 in
theorem vals_eq : Cert.CompressRefIdeal.Value.res_main_v65 (F := Ideal) m' c
    = fun i : Cert.CompressIdeal.S8x4x128x128.Idx => Ker.valE m c (i 0) (i 1) (i 2) (i 3) := by
  funext i
  idx_vars i
  rw [resV_at]
  simp only [hidV_at, e0, e2, e4, e6]
  rfl

end

end Cert.Cmp

namespace Cert.Proof

open Cert.Cmp

/-- The kernel's compressed keys and values are the reference's. -/
theorem compress : Cert.algebraic_CompressIdeal_CompressRefIdeal
    (hCompressIdeal := Cert.CompressIdeal.Gen.facts) (hCompressRefIdeal := Cert.CompressRefIdeal.Gen.facts) := by
  pair_intro
  · run_from Cert.CompressIdeal.Value.run_blocks m g
  · run_from Cert.CompressRefIdeal.Value.run m' g'
    · rw [Ker.final8 m c]
      obtain ⟨e0, e1, e2, e3, e4, e5, e6, e7⟩ := hagree c
      exact keys_eq m m' c e0 e1 e3 e5 e7
    · rw [Ker.final9 m c]
      obtain ⟨e0, e1, e2, e3, e4, e5, e6, e7⟩ := hagree c
      exact vals_eq m m' c e0 e2 e4 e6

end Cert.Proof

end
-- ==== Proof.lean ====
/- The proof of the claim stated in `Defs.lean`: every program leaves its arguments and its semaphores as it found them, and the
   idealized kernels compute the idealized references. The value claims are proved one per module under `Proof/`. -/
module

public import proofs.«01_k».proof.Defs
public import proofs.«01_k».proof.Proof.Gen.NormProj
public import proofs.«01_k».proof.Proof.Gen.NormProj.Skeleton
public import proofs.«01_k».proof.Proof.Gen.NormProj.Launch
public import proofs.«01_k».proof.Proof.Gen.NormProj.Points
public import proofs.«01_k».proof.Proof.Gen.NormProj.Frame
public import proofs.«01_k».proof.Proof.Gen.NormProjIdeal
public import proofs.«01_k».proof.Proof.Gen.NormProjIdeal.Skeleton
public import proofs.«01_k».proof.Proof.Gen.NormProjIdeal.Launch
public import proofs.«01_k».proof.Proof.Gen.NormProjIdeal.Points
public import proofs.«01_k».proof.Proof.Gen.NormProjIdeal.Frame
public import proofs.«01_k».proof.Proof.Gen.NormProjRefIdeal
public import proofs.«01_k».proof.Proof.Gen.OutPe
public import proofs.«01_k».proof.Proof.Gen.OutPe.Skeleton
public import proofs.«01_k».proof.Proof.Gen.OutPe.Launch
public import proofs.«01_k».proof.Proof.Gen.OutPe.Points
public import proofs.«01_k».proof.Proof.Gen.OutPe.Frame
public import proofs.«01_k».proof.Proof.Gen.OutPeIdeal
public import proofs.«01_k».proof.Proof.Gen.OutPeIdeal.Skeleton
public import proofs.«01_k».proof.Proof.Gen.OutPeIdeal.Launch
public import proofs.«01_k».proof.Proof.Gen.OutPeIdeal.Points
public import proofs.«01_k».proof.Proof.Gen.OutPeIdeal.Frame
public import proofs.«01_k».proof.Proof.Gen.OutPeRefIdeal
public import proofs.«01_k».proof.Proof.Gen.NormProjB
public import proofs.«01_k».proof.Proof.Gen.NormProjB.Skeleton
public import proofs.«01_k».proof.Proof.Gen.NormProjB.Launch
public import proofs.«01_k».proof.Proof.Gen.NormProjB.Points
public import proofs.«01_k».proof.Proof.Gen.NormProjB.Frame
public import proofs.«01_k».proof.Proof.Gen.NormProjBIdeal
public import proofs.«01_k».proof.Proof.Gen.NormProjBIdeal.Skeleton
public import proofs.«01_k».proof.Proof.Gen.NormProjBIdeal.Launch
public import proofs.«01_k».proof.Proof.Gen.NormProjBIdeal.Points
public import proofs.«01_k».proof.Proof.Gen.NormProjBIdeal.Frame
public import proofs.«01_k».proof.Proof.Gen.NormProjBRefIdeal
public import proofs.«01_k».proof.Proof.Gen.OutPeB
public import proofs.«01_k».proof.Proof.Gen.OutPeB.Skeleton
public import proofs.«01_k».proof.Proof.Gen.OutPeB.Launch
public import proofs.«01_k».proof.Proof.Gen.OutPeB.Points
public import proofs.«01_k».proof.Proof.Gen.OutPeB.Frame
public import proofs.«01_k».proof.Proof.Gen.OutPeBIdeal
public import proofs.«01_k».proof.Proof.Gen.OutPeBIdeal.Skeleton
public import proofs.«01_k».proof.Proof.Gen.OutPeBIdeal.Launch
public import proofs.«01_k».proof.Proof.Gen.OutPeBIdeal.Points
public import proofs.«01_k».proof.Proof.Gen.OutPeBIdeal.Frame
public import proofs.«01_k».proof.Proof.Gen.OutPeBRefIdeal
public import proofs.«01_k».proof.Proof.Gen.NormProjIdeal.Value
public import proofs.«01_k».proof.Proof.Gen.OutPeIdeal.Value
public import proofs.«01_k».proof.Proof.Gen.NormProjBIdeal.Value
public import proofs.«01_k».proof.Proof.Gen.OutPeBIdeal.Value
public import proofs.«01_k».proof.Proof.Gen.NormProjRefIdeal.Run
public import proofs.«01_k».proof.Proof.Gen.OutPeRefIdeal.Run
public import proofs.«01_k».proof.Proof.Gen.NormProjBRefIdeal.Run
public import proofs.«01_k».proof.Proof.Gen.OutPeBRefIdeal.Run
public import Idealize.ShloMosaic.Adequacy
public import Idealize.ShloMosaic.Init

public import proofs.«01_k».proof.Proof.Gen.AbMixer
public import proofs.«01_k».proof.Proof.Gen.AbMixer.Skeleton
public import proofs.«01_k».proof.Proof.Gen.AbMixer.Launch
public import proofs.«01_k».proof.Proof.Gen.AbMixer.Points
public import proofs.«01_k».proof.Proof.Gen.AbMixer.Frame
public import proofs.«01_k».proof.Proof.Gen.AbMixerIdeal
public import proofs.«01_k».proof.Proof.Gen.AbMixerIdeal.Skeleton
public import proofs.«01_k».proof.Proof.Gen.AbMixerIdeal.Launch
public import proofs.«01_k».proof.Proof.Gen.AbMixerIdeal.Points
public import proofs.«01_k».proof.Proof.Gen.AbMixerIdeal.Frame
public import proofs.«01_k».proof.Proof.Gen.AbMixerIdeal.Value
public import proofs.«01_k».proof.Proof.Gen.AbMixerRefIdeal
public import proofs.«01_k».proof.Proof.Gen.AbMixerRefIdeal.Run
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressRefIdeal
public import proofs.«01_k».proof.Proof.Gen.CompressRefIdeal.Run
public import proofs.«01_k».proof.Proof.Gen.Pre_input_gates_below_inf
public import proofs.«01_k».proof.Proof.NormProj
public import proofs.«01_k».proof.Proof.OutPe
public import proofs.«01_k».proof.Proof.NormProjB
public import proofs.«01_k».proof.Proof.OutPeB
public import proofs.«01_k».proof.Proof.MixAll
public import proofs.«01_k».proof.Proof.CmpAll

@[expose] public section

noncomputable section

namespace Cert.Proof

open Idealize.ShloMosaic Idealize.SL.Sem

/-- The reference's run keeps the arguments, and it declares no semaphore. -/
theorem frameNormProjRefIdeal : Cert.quiescent_NormProjRefIdeal := fun m ρ _ =>
  (θ_run Cert.NormProjRefIdeal.defs _ _).mono (fun r h => ⟨fun c => (h c).2.2,
      Idealize.ShloMosaic.sem_eq_zero_of_no_sems (by decide) r.2⟩)
    (Cert.NormProjRefIdeal.Value.run (F := Ideal) m ρ)

/-- The reference's run keeps the arguments, and it declares no semaphore. -/
theorem frameOutPeRefIdeal : Cert.quiescent_OutPeRefIdeal := fun m ρ _ =>
  (θ_run Cert.OutPeRefIdeal.defs _ _).mono (fun r h => ⟨fun c => (h c).2,
      Idealize.ShloMosaic.sem_eq_zero_of_no_sems (by decide) r.2⟩)
    (Cert.OutPeRefIdeal.Value.run (F := Ideal) m ρ)

/-- The reference's run keeps the arguments, and it declares no semaphore. -/
theorem frameNormProjBRefIdeal : Cert.quiescent_NormProjBRefIdeal := fun m ρ _ =>
  (θ_run Cert.NormProjBRefIdeal.defs _ _).mono (fun r h => ⟨fun c => (h c).2.2,
      Idealize.ShloMosaic.sem_eq_zero_of_no_sems (by decide) r.2⟩)
    (Cert.NormProjBRefIdeal.Value.run (F := Ideal) m ρ)

/-- The reference's run keeps the arguments, and it declares no semaphore. -/
theorem frameOutPeBRefIdeal : Cert.quiescent_OutPeBRefIdeal := fun m ρ _ =>
  (θ_run Cert.OutPeBRefIdeal.defs _ _).mono (fun r h => ⟨fun c => (h c).2,
      Idealize.ShloMosaic.sem_eq_zero_of_no_sems (by decide) r.2⟩)
    (Cert.OutPeBRefIdeal.Value.run (F := Ideal) m ρ)

/-- The reference's run keeps the arguments, and it declares no semaphore. -/
theorem frameCompressRefIdeal : Cert.quiescent_CompressRefIdeal := fun m ρ _ =>
  (θ_run Cert.CompressRefIdeal.defs _ _).mono (fun r h => ⟨fun c => (h c).2.2,
      Idealize.ShloMosaic.sem_eq_zero_of_no_sems (by decide) r.2⟩)
    (Cert.CompressRefIdeal.Value.run (F := Ideal) m ρ)

theorem claim : Cert.Claim := ⟨Cert.NormProj.Gen.facts, Cert.NormProjIdeal.Gen.facts, Cert.NormProjRefIdeal.Gen.facts, Cert.OutPe.Gen.facts, Cert.OutPeIdeal.Gen.facts, Cert.OutPeRefIdeal.Gen.facts, Cert.NormProjB.Gen.facts, Cert.NormProjBIdeal.Gen.facts, Cert.NormProjBRefIdeal.Gen.facts, Cert.OutPeB.Gen.facts, Cert.OutPeBIdeal.Gen.facts, Cert.OutPeBRefIdeal.Gen.facts,
  Cert.Compress.Gen.facts, Cert.CompressIdeal.Gen.facts, Cert.CompressRefIdeal.Gen.facts,
  Cert.AbMixer.Gen.facts, Cert.AbMixerIdeal.Gen.facts, Cert.AbMixerRefIdeal.Gen.facts,
  Cert.Pre_input_gates_below_inf.Gen.facts,
  fun m ρ _ => Cert.NormProj.Gen.frame m ρ, fun m ρ _ => Cert.NormProjIdeal.Gen.frame m ρ, frameNormProjRefIdeal,
  fun m ρ _ => Cert.OutPe.Gen.frame m ρ, fun m ρ _ => Cert.OutPeIdeal.Gen.frame m ρ, frameOutPeRefIdeal,
  fun m ρ _ => Cert.NormProjB.Gen.frame m ρ, fun m ρ _ => Cert.NormProjBIdeal.Gen.frame m ρ, frameNormProjBRefIdeal,
  fun m ρ _ => Cert.OutPeB.Gen.frame m ρ, fun m ρ _ => Cert.OutPeBIdeal.Gen.frame m ρ, frameOutPeBRefIdeal,
  fun m ρ _ => Cert.Compress.Gen.frame m ρ, fun m ρ _ => Cert.CompressIdeal.Gen.frame m ρ, frameCompressRefIdeal,
  fun m ρ _ => Cert.AbMixer.Gen.frame m ρ, fun m ρ _ => Cert.AbMixerIdeal.Gen.frame m ρ, frameAbMixerIdealPre,
  frameAbMixerRefIdeal, frameAbMixerRefIdealPre,
  trivial, normProj, trivial, outPe, trivial, normProjB, trivial, outPeB, trivial, compress, abMixerNames, abMixer⟩

end Cert.Proof

end
